-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_prefix_fits [hPre_prefix_fits : Cert.Pre_prefix_fits.Facts] (m : (ℓ : Loc Cert.KernelIdeal.nD Cert.KernelIdeal.τ Cert.KernelIdeal.sig) → Buf (Elt Ideal) ℓ) : Prop :=
  ∀ c : Dev Cert.KernelIdeal.nD,
    (Cert.Pre_prefix_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_prefix_fits [hPre_prefix_fits : Cert.Pre_prefix_fits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_prefix_fits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))
      ∧ r.2.sem = fun _ => 0)

def quiescent_KernelIdeal_pre_prefix_fits [hKernelIdeal : Cert.KernelIdeal.Facts] [hPre_prefix_fits : Cert.Pre_prefix_fits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_prefix_fits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33))
      ∧ r.2.sem = fun _ => 0)

def quiescent_ReferenceIdeal_pre_prefix_fits [hReferenceIdeal : Cert.ReferenceIdeal.Facts] [hPre_prefix_fits : Cert.Pre_prefix_fits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_prefix_fits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33))
      ∧ r.2.sem = fun _ => 0)

def preserves_Kernel_KernelIdeal : Prop :=
  True

def algebraic_KernelIdeal_ReferenceIdeal_pre_prefix_fits [hKernelIdeal : Cert.KernelIdeal.Facts] [hReferenceIdeal : Cert.ReferenceIdeal.Facts] [hPre_prefix_fits : Cert.Pre_prefix_fits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_prefix_fits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)) (v2 : (c : Dev Cert.KernelIdeal.nD) → Buf (Elt Ideal) ((c.tc : Thread Cert.KernelIdeal.nD Cert.KernelIdeal.τ).loc Cert.KernelIdeal.main_v26_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_v26_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13_0) = v0 c
          ∧ r.2.mem ((c.tc : Thread Cert.ReferenceIdeal.nD Cert.ReferenceIdeal.τ).loc Cert.ReferenceIdeal.main_v13_1) = v1 c
          ∧ r.2.mem ((c.tc : Thread Cert.ReferenceIdeal.nD Cert.ReferenceIdeal.τ).loc Cert.ReferenceIdeal.main_v13_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33))

def Claim : Prop :=
  ∃ (hKernel : Cert.Kernel.Facts) (hKernelIdeal : Cert.KernelIdeal.Facts) (hReferenceIdeal : Cert.ReferenceIdeal.Facts) (hPre_prefix_fits : Cert.Pre_prefix_fits.Facts),
    quiescent_Kernel (hKernel := hKernel)
    ∧ quiescent_KernelIdeal (hKernelIdeal := hKernelIdeal)
    ∧ quiescent_KernelIdeal_pre_prefix_fits (hKernelIdeal := hKernelIdeal) (hPre_prefix_fits := hPre_prefix_fits)
    ∧ quiescent_ReferenceIdeal (hReferenceIdeal := hReferenceIdeal)
    ∧ quiescent_ReferenceIdeal_pre_prefix_fits (hReferenceIdeal := hReferenceIdeal) (hPre_prefix_fits := hPre_prefix_fits)
    ∧ preserves_Kernel_KernelIdeal
    ∧ algebraic_KernelIdeal_ReferenceIdeal_pre_prefix_fits (hKernelIdeal := hKernelIdeal) (hReferenceIdeal := hReferenceIdeal) (hPre_prefix_fits := hPre_prefix_fits)
-- ==== Pre_prefix_fits.lean ====
abbrev S2x50x32 : Shape := ⟨3, ![2, 50, 32]⟩
abbrev S2x32 : Shape := ⟨2, ![2, 32]⟩
abbrev S2 : Shape := ⟨1, ![2]⟩
abbrev S512 : Shape := ⟨1, ![512]⟩
abbrev S32x1024 : Shape := ⟨2, ![32, 1024]⟩
abbrev S1024 : Shape := ⟨1, ![1024]⟩
abbrev S1024x1024 : Shape := ⟨2, ![1024, 1024]⟩
abbrev S1x1024 : Shape := ⟨2, ![1, 1024]⟩
abbrev S1x1024x2560 : Shape := ⟨3, ![1, 1024, 2560]⟩
abbrev S1x2560 : Shape := ⟨2, ![1, 2560]⟩
abbrev S1x2048x1024 : Shape := ⟨3, ![1, 2048, 1024]⟩
abbrev S1x2x1024x4096 : Shape := ⟨4, ![1, 2, 1024, 4096]⟩
abbrev S1x2x4096 : Shape := ⟨3, ![1, 2, 4096]⟩
abbrev S1x4096x1024 : Shape := ⟨3, ![1, 4096, 1024]⟩
abbrev S1024x32 : Shape := ⟨2, ![1024, 32]⟩
abbrev S32 : Shape := ⟨1, ![32]⟩
abbrev S1x2x896x256 : Shape := ⟨4, ![1, 2, 896, 256]⟩
abbrev S1x2x896 : Shape := ⟨3, ![1, 2, 896]⟩
abbrev S2x51x128 : Shape := ⟨3, ![2, 51, 128]⟩
abbrev S_ : Shape := ⟨0, ![]⟩

class Facts : Prop where
  bcast_S_S2 : S_.BroadcastsInDim S2 (![] : Fin 0 → Fin S2.rank)

variable [Facts]

def fn {F : FTy → Type} [FloatOps F] (main_arg0 : FVec F S2x50x32 .f32) (main_arg1 : FVec F S2x32 .f32) (main_arg2 : FVec F S2 .f32) (main_arg3 : FVec F S2 .f32) (main_arg4 : FVec F S512 .f32) (main_arg5 : FVec F S32x1024 .f32) (main_arg6 : FVec F S1024 .f32) (main_arg7 : FVec F S32x1024 .f32) (main_arg8 : FVec F S1024 .f32) (main_arg9 : FVec F S1024x1024 .bf16) (main_arg10 : FVec F S1024x1024 .bf16) (main_arg11 : FVec F S1024 .f32) (main_arg12 : FVec F S1024x1024 .bf16) (main_arg13 : FVec F S1024 .f32) (main_arg14 : FVec F S1x1024 .f32) (main_arg15 : FVec F S1x1024 .f32) (main_arg16 : FVec F S1x1024x2560 .fp8e4m3) (main_arg17 : FVec F S1x2560 .f32) (main_arg18 : FVec F S1x2048x1024 .fp8e4m3) (main_arg19 : FVec F S1x1024 .f32) (main_arg20 : FVec F S1x2x1024x4096 .fp8e4m3) (main_arg21 : FVec F S1x2x4096 .f32) (main_arg22 : FVec F S1x4096x1024 .fp8e4m3) (main_arg23 : FVec F S1x1024 .f32) (main_arg24 : FVec F S1024 .f32) (main_arg25 : FVec F S1024x32 .f32) (main_arg26 : FVec F S32 .f32) (main_arg27 : IVec S1x2x896x256 8) (main_arg28 : IVec S1x2x896x256 8) (main_arg29 : FVec F S1x2x896 .f32) (main_arg30 : FVec F S1x2x896 .f32) (main_arg31 : IVec S2 32) (main_arg32 : FVec F S2x51x128 .f32) (main_arg33 : FVec F S2x51x128 .f32) : IVec S2 1 :=
  let main_c : IVec S_ 32 := constantI S_ 32 896#32
  let main_v0 : IVec S2 32 := broadcastInDim S2 ![] bcast_S_S2 main_c
  let main_v1 : IVec S2 1 := cmpi .sle main_arg31 main_v0
  main_v1
-- ==== Kernel.lean ====
abbrev S2x50x32 : Shape := ⟨3, ![2, 50, 32]⟩
abbrev S2x32 : Shape := ⟨2, ![2, 32]⟩
abbrev S2 : Shape := ⟨1, ![2]⟩
abbrev S512 : Shape := ⟨1, ![512]⟩
abbrev S32x1024 : Shape := ⟨2, ![32, 1024]⟩
abbrev S1024 : Shape := ⟨1, ![1024]⟩
abbrev S1024x1024 : Shape := ⟨2, ![1024, 1024]⟩
abbrev S1x1024 : Shape := ⟨2, ![1, 1024]⟩
abbrev S1x1024x2560 : Shape := ⟨3, ![1, 1024, 2560]⟩
abbrev S1x2560 : Shape := ⟨2, ![1, 2560]⟩
abbrev S1x2048x1024 : Shape := ⟨3, ![1, 2048, 1024]⟩
abbrev S1x2x1024x4096 : Shape := ⟨4, ![1, 2, 1024, 4096]⟩
abbrev S1x2x4096 : Shape := ⟨3, ![1, 2, 4096]⟩
abbrev S1x4096x1024 : Shape := ⟨3, ![1, 4096, 1024]⟩
abbrev S1024x32 : Shape := ⟨2, ![1024, 32]⟩
abbrev S32 : Shape := ⟨1, ![32]⟩
abbrev S1x2x896x256 : Shape := ⟨4, ![1, 2, 896, 256]⟩
abbrev S1x2x896 : Shape := ⟨3, ![1, 2, 896]⟩
abbrev S2x51x128 : Shape := ⟨3, ![2, 51, 128]⟩
abbrev S10 : Shape := ⟨1, ![10]⟩
abbrev S10x1 : Shape := ⟨2, ![10, 1]⟩
abbrev S1x2 : Shape := ⟨2, ![1, 2]⟩
abbrev S10x2 : Shape := ⟨2, ![10, 2]⟩
abbrev S20x1 : Shape := ⟨2, ![20, 1]⟩
abbrev S1x512 : Shape := ⟨2, ![1, 512]⟩
abbrev S1024x2560 : Shape := ⟨2, ![1024, 2560]⟩
abbrev S2048x1024 : Shape := ⟨2, ![2048, 1024]⟩
abbrev S2x1024x4096 : Shape := ⟨3, ![2, 1024, 4096]⟩
abbrev S2x4096 : Shape := ⟨2, ![2, 4096]⟩
abbrev S4096x1024 : Shape := ⟨2, ![4096, 1024]⟩
abbrev S1x32 : Shape := ⟨2, ![1, 32]⟩
abbrev S2x896x256 : Shape := ⟨3, ![2, 896, 256]⟩
abbrev S2x896 : Shape := ⟨2, ![2, 896]⟩
abbrev S10x2x50x32 : Shape := ⟨4, ![10, 2, 50, 32]⟩
abbrev S2x51x1024 : Shape := ⟨3, ![2, 51, 1024]⟩
abbrev S2x51x256 : Shape := ⟨3, ![2, 51, 256]⟩
abbrev S2x2048 : Shape := ⟨2, ![2, 2048]⟩
abbrev S2x50x2048 : Shape := ⟨3, ![2, 50, 2048]⟩
abbrev S2x51x1 : Shape := ⟨3, ![2, 51, 1]⟩
abbrev S2x51x2048 : Shape := ⟨3, ![2, 51, 2048]⟩
abbrev S2x51x4096 : Shape := ⟨3, ![2, 51, 4096]⟩
abbrev S9x2x51x2048 : Shape := ⟨4, ![9, 2, 51, 2048]⟩
abbrev S1x2x50x32 : Shape := ⟨4, ![1, 2, 50, 32]⟩
abbrev S1x2x51x2048 : Shape := ⟨4, ![1, 2, 51, 2048]⟩
abbrev S112x32 : Shape := ⟨2, ![112, 32]⟩
abbrev S2x1024 : Shape := ⟨2, ![2, 1024]⟩
abbrev S20x1024 : Shape := ⟨2, ![20, 1024]⟩
abbrev S112x128 : Shape := ⟨2, ![112, 128]⟩
abbrev S2x1024x256 : Shape := ⟨3, ![2, 1024, 256]⟩
abbrev S112x2048 : Shape := ⟨2, ![112, 2048]⟩
abbrev S1x50x32 : Shape := ⟨3, ![1, 50, 32]⟩
abbrev S50x32 : Shape := ⟨2, ![50, 32]⟩
abbrev S1x51x128 : Shape := ⟨3, ![1, 51, 128]⟩
abbrev S51x128 : Shape := ⟨2, ![51, 128]⟩
abbrev S1x896x256 : Shape := ⟨3, ![1, 896, 256]⟩
abbrev S896x256 : Shape := ⟨2, ![896, 256]⟩
abbrev S1x896 : Shape := ⟨2, ![1, 896]⟩
abbrev S20x512 : Shape := ⟨2, ![20, 512]⟩
abbrev S56x1 : Shape := ⟨2, ![56, 1]⟩
abbrev S112x1024 : Shape := ⟨2, ![112, 1024]⟩
abbrev S56x1024 : Shape := ⟨2, ![56, 1024]⟩
abbrev S112 : Shape := ⟨1, ![112]⟩
abbrev S112x1 : Shape := ⟨2, ![112, 1]⟩
abbrev S16x1024 : Shape := ⟨2, ![16, 1024]⟩
abbrev S128x1024 : Shape := ⟨2, ![128, 1024]⟩
abbrev S128x2560 : Shape := ⟨2, ![128, 2560]⟩
abbrev S112x2560 : Shape := ⟨2, ![112, 2560]⟩
abbrev S112x256 : Shape := ⟨2, ![112, 256]⟩
abbrev S224x1 : Shape := ⟨2, ![224, 1]⟩
abbrev S56x256 : Shape := ⟨2, ![56, 256]⟩
abbrev S1x56x256 : Shape := ⟨3, ![1, 56, 256]⟩
abbrev S1 : Shape := ⟨1, ![1]⟩
abbrev S224x1024 : Shape := ⟨2, ![224, 1024]⟩
abbrev S224x256 : Shape := ⟨2, ![224, 256]⟩
abbrev S1x1024x256 : Shape := ⟨3, ![1, 1024, 256]⟩
abbrev S1024x256 : Shape := ⟨2, ![1024, 256]⟩
abbrev S224 : Shape := ⟨1, ![224]⟩
abbrev S16x2048 : Shape := ⟨2, ![16, 2048]⟩
abbrev S128x2048 : Shape := ⟨2, ![128, 2048]⟩
abbrev S1x1024x4096 : Shape := ⟨3, ![1, 1024, 4096]⟩
abbrev S1024x4096 : Shape := ⟨2, ![1024, 4096]⟩
abbrev S128x4096 : Shape := ⟨2, ![128, 4096]⟩
abbrev S112x4096 : Shape := ⟨2, ![112, 4096]⟩
abbrev S1x4096 : Shape := ⟨2, ![1, 4096]⟩
abbrev S16x4096 : Shape := ⟨2, ![16, 4096]⟩
abbrev S56x32 : Shape := ⟨2, ![56, 32]⟩
abbrev S1x1x50x32 : Shape := ⟨4, ![1, 1, 50, 32]⟩
abbrev S51x2048 : Shape := ⟨2, ![51, 2048]⟩
abbrev S1x1x51x2048 : Shape := ⟨4, ![1, 1, 51, 2048]⟩
abbrev S51x256 : Shape := ⟨2, ![51, 256]⟩
abbrev S1x51x256 : Shape := ⟨3, ![1, 51, 256]⟩
abbrev S1x2048 : Shape := ⟨2, ![1, 2048]⟩
abbrev S50x2048 : Shape := ⟨2, ![50, 2048]⟩
abbrev S1x50x2048 : Shape := ⟨3, ![1, 50, 2048]⟩
abbrev S51x1024 : Shape := ⟨2, ![51, 1024]⟩
abbrev S1x51x1024 : Shape := ⟨3, ![1, 51, 1024]⟩
abbrev S51x1 : Shape := ⟨2, ![51, 1]⟩
abbrev S1x51x1 : Shape := ⟨3, ![1, 51, 1]⟩
abbrev S1x51x2048 : Shape := ⟨3, ![1, 51, 2048]⟩
abbrev S51x4096 : Shape := ⟨2, ![51, 4096]⟩
abbrev S1x51x4096 : Shape := ⟨3, ![1, 51, 4096]⟩

abbrev nBuf : Space → Nat
  | .hbm => 76
  | .vmem => 60
  | .smem => 2
  | _ => 0

abbrev bufTy : (tb : Table) → Fin (tcTables nBuf tb) → BufTy
  | .hbm, ⟨0, _⟩ => ⟨S2x50x32, .f32⟩
  | .hbm, ⟨1, _⟩ => ⟨S2x32, .f32⟩
  | .hbm, ⟨2, _⟩ => ⟨S2, .f32⟩
  | .hbm, ⟨3, _⟩ => ⟨S2, .f32⟩
  | .hbm, ⟨4, _⟩ => ⟨S512, .f32⟩
  | .hbm, ⟨5, _⟩ => ⟨S32x1024, .f32⟩
  | .hbm, ⟨6, _⟩ => ⟨S1024, .f32⟩
  | .hbm, ⟨7, _⟩ => ⟨S32x1024, .f32⟩
  | .hbm, ⟨8, _⟩ => ⟨S1024, .f32⟩
  | .hbm, ⟨9, _⟩ => ⟨S1024x1024, .bf16⟩
  | .hbm, ⟨10, _⟩ => ⟨S1024x1024, .bf16⟩
  | .hbm, ⟨11, _⟩ => ⟨S1024, .f32⟩
  | .hbm, ⟨12, _⟩ => ⟨S1024x1024, .bf16⟩
  | .hbm, ⟨13, _⟩ => ⟨S1024, .f32⟩
  | .hbm, ⟨14, _⟩ => ⟨S1x1024, .f32⟩
  | .hbm, ⟨15, _⟩ => ⟨S1x1024, .f32⟩
  | .hbm, ⟨16, _⟩ => ⟨S1x1024x2560, .fp8e4m3⟩
  | .hbm, ⟨17, _⟩ => ⟨S1x2560, .f32⟩
  | .hbm, ⟨18, _⟩ => ⟨S1x2048x1024, .fp8e4m3⟩
  | .hbm, ⟨19, _⟩ => ⟨S1x1024, .f32⟩
  | .hbm, ⟨20, _⟩ => ⟨S1x2x1024x4096, .fp8e4m3⟩
  | .hbm, ⟨21, _⟩ => ⟨S1x2x4096, .f32⟩
  | .hbm, ⟨22, _⟩ => ⟨S1x4096x1024, .fp8e4m3⟩
  | .hbm, ⟨23, _⟩ => ⟨S1x1024, .f32⟩
  | .hbm, ⟨24, _⟩ => ⟨S1024, .f32⟩
  | .hbm, ⟨25, _⟩ => ⟨S1024x32, .f32⟩
  | .hbm, ⟨26, _⟩ => ⟨S32, .f32⟩
  | .hbm, ⟨27, _⟩ => ⟨S1x2x896x256, .i8⟩
  | .hbm, ⟨28, _⟩ => ⟨S1x2x896x256, .i8⟩
  | .hbm, ⟨29, _⟩ => ⟨S1x2x896, .f32⟩
  | .hbm, ⟨30, _⟩ => ⟨S1x2x896, .f32⟩
  | .hbm, ⟨31, _⟩ => ⟨S2, .i32⟩
  | .hbm, ⟨32, _⟩ => ⟨S2x51x128, .f32⟩
  | .hbm, ⟨33, _⟩ => ⟨S2x51x128, .f32⟩
  | .hbm, ⟨34, _⟩ => ⟨S10, .f32⟩
  | .hbm, ⟨35, _⟩ => ⟨S10x1, .f32⟩
  | .hbm, ⟨36, _⟩ => ⟨S1x2, .f32⟩
  | .hbm, ⟨37, _⟩ => ⟨S10x2, .f32⟩
  | .hbm, ⟨38, _⟩ => ⟨S10x2, .f32⟩
  | .hbm, ⟨39, _⟩ => ⟨S10x2, .f32⟩
  | .hbm, ⟨40, _⟩ => ⟨S1x2, .f32⟩
  | .hbm, ⟨41, _⟩ => ⟨S10x2, .f32⟩
  | .hbm, ⟨42, _⟩ => ⟨S10x2, .f32⟩
  | .hbm, ⟨43, _⟩ => ⟨S20x1, .f32⟩
  | .hbm, ⟨44, _⟩ => ⟨S1x512, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S1024x2560, .fp8e4m3⟩
  | .hbm, ⟨50, _⟩ => ⟨S2048x1024, .fp8e4m3⟩
  | .hbm, ⟨51, _⟩ => ⟨S2x1024x4096, .fp8e4m3⟩
  | .hbm, ⟨52, _⟩ => ⟨S2x4096, .f32⟩
  | .hbm, ⟨53, _⟩ => ⟨S4096x1024, .fp8e4m3⟩
  | .hbm, ⟨54, _⟩ => ⟨S1x1024, .f32⟩
  | .hbm, ⟨55, _⟩ => ⟨S1x32, .f32⟩
  | .hbm, ⟨56, _⟩ => ⟨S2x896x256, .i8⟩
  | .hbm, ⟨57, _⟩ => ⟨S2x896x256, .i8⟩
  | .hbm, ⟨58, _⟩ => ⟨S2x896, .f32⟩
  | .hbm, ⟨59, _⟩ => ⟨S2x896, .f32⟩
  | .hbm, ⟨60, _⟩ => ⟨S10x2x50x32, .f32⟩
  | .hbm, ⟨61, _⟩ => ⟨S2x50x32, .f32⟩
  | .hbm, ⟨62, _⟩ => ⟨S2x51x1024, .f32⟩
  | .hbm, ⟨63, _⟩ => ⟨S2x51x256, .bf16⟩
  | .hbm, ⟨64, _⟩ => ⟨S2x51x256, .bf16⟩
  | .hbm, ⟨65, _⟩ => ⟨S2x2048, .f32⟩
  | .hbm, ⟨66, _⟩ => ⟨S2x50x2048, .bf16⟩
  | .hbm, ⟨67, _⟩ => ⟨S2x51x1024, .fp8e4m3⟩
  | .hbm, ⟨68, _⟩ => ⟨S2x51x1, .f32⟩
  | .hbm, ⟨69, _⟩ => ⟨S2x51x2048, .fp8e4m3⟩
  | .hbm, ⟨70, _⟩ => ⟨S2x51x1, .f32⟩
  | .hbm, ⟨71, _⟩ => ⟨S2x51x1024, .fp8e4m3⟩
  | .hbm, ⟨72, _⟩ => ⟨S2x51x1, .f32⟩
  | .hbm, ⟨73, _⟩ => ⟨S2x51x4096, .fp8e4m3⟩
  | .hbm, ⟨74, _⟩ => ⟨S2x51x1, .f32⟩
  | .hbm, ⟨75, _⟩ => ⟨S9x2x51x2048, .bf16⟩
  | .local _ .vmem, ⟨0, _⟩ => ⟨S2x50x32, .f32⟩
  | .local _ .vmem, ⟨1, _⟩ => ⟨S2x32, .f32⟩
  | .local _ .vmem, ⟨2, _⟩ => ⟨S20x1, .f32⟩
  | .local _ .vmem, ⟨3, _⟩ => ⟨S1x512, .f32⟩
  | .local _ .vmem, ⟨4, _⟩ => ⟨S32x1024, .f32⟩
  | .local _ .vmem, ⟨5, _⟩ => ⟨S1x1024, .f32⟩
  | .local _ .vmem, ⟨6, _⟩ => ⟨S32x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1024x2560, .fp8e4m3⟩
  | .local _ .vmem, ⟨16, _⟩ => ⟨S1x2560, .f32⟩
  | .local _ .vmem, ⟨17, _⟩ => ⟨S2048x1024, .fp8e4m3⟩
  | .local _ .vmem, ⟨18, _⟩ => ⟨S1x1024, .f32⟩
  | .local _ .vmem, ⟨19, _⟩ => ⟨S2x1024x4096, .fp8e4m3⟩
  | .local _ .vmem, ⟨20, _⟩ => ⟨S2x4096, .f32⟩
  | .local _ .vmem, ⟨21, _⟩ => ⟨S4096x1024, .fp8e4m3⟩
  | .local _ .vmem, ⟨22, _⟩ => ⟨S1x1024, .f32⟩
  | .local _ .vmem, ⟨23, _⟩ => ⟨S1x1024, .f32⟩
  | .local _ .vmem, ⟨24, _⟩ => ⟨S1024x32, .f32⟩
  | .local _ .vmem, ⟨25, _⟩ => ⟨S1x32, .f32⟩
  | .local _ .vmem, ⟨26, _⟩ => ⟨S2x896x256, .i8⟩
  | .local _ .vmem, ⟨27, _⟩ => ⟨S2x896x256, .i8⟩
  | .local _ .vmem, ⟨28, _⟩ => ⟨S2x896, .f32⟩
  | .local _ .vmem, ⟨29, _⟩ => ⟨S2x896, .f32⟩
  | .local _ .vmem, ⟨30, _⟩ => ⟨S2x51x128, .f32⟩
  | .local _ .vmem, ⟨31, _⟩ => ⟨S2x51x128, .f32⟩
  | .local _ .vmem, ⟨32, _⟩ => ⟨S1x2x50x32, .f32⟩
  | .local _ .vmem, ⟨33, _⟩ => ⟨S1x2x50x32, .f32⟩
  | .local _ .vmem, ⟨34, _⟩ => ⟨S2x50x32, .f32⟩
  | .local _ .vmem, ⟨35, _⟩ => ⟨S2x51x1024, .f32⟩
  | .local _ .vmem, ⟨36, _⟩ => ⟨S2x51x256, .bf16⟩
  | .local _ .vmem, ⟨37, _⟩ => ⟨S2x51x256, .bf16⟩
  | .local _ .vmem, ⟨38, _⟩ => ⟨S2x2048, .f32⟩
  | .local _ .vmem, ⟨39, _⟩ => ⟨S2x50x2048, .bf16⟩
  | .local _ .vmem, ⟨40, _⟩ => ⟨S2x51x1024, .fp8e4m3⟩
  | .local _ .vmem, ⟨41, _⟩ => ⟨S2x51x1, .f32⟩
  | .local _ .vmem, ⟨42, _⟩ => ⟨S2x51x2048, .fp8e4m3⟩
  | .local _ .vmem, ⟨43, _⟩ => ⟨S2x51x1, .f32⟩
  | .local _ .vmem, ⟨44, _⟩ => ⟨S2x51x1024, .fp8e4m3⟩
  | .local _ .vmem, ⟨45, _⟩ => ⟨S2x51x1, .f32⟩
  | .local _ .vmem, ⟨46, _⟩ => ⟨S2x51x4096, .fp8e4m3⟩
  | .local _ .vmem, ⟨47, _⟩ => ⟨S2x51x1, .f32⟩
  | .local _ .vmem, ⟨48, _⟩ => ⟨S1x2x51x2048, .bf16⟩
  | .local _ .vmem, ⟨49, _⟩ => ⟨S1x2x51x2048, .bf16⟩
  | .local _ .vmem, ⟨50, _⟩ => ⟨S112x32, .f32⟩
  | .local _ .vmem, ⟨51, _⟩ => ⟨S2x1024, .f32⟩
  | .local _ .vmem, ⟨52, _⟩ => ⟨S20x1024, .f32⟩
  | .local _ .vmem, ⟨53, _⟩ => ⟨S112x128, .f32⟩
  | .local _ .vmem, ⟨54, _⟩ => ⟨S112x128, .f32⟩
  | .local _ .vmem, ⟨55, _⟩ => ⟨S2x1024x256, .bf16⟩
  | .local _ .vmem, ⟨56, _⟩ => ⟨S2x1024x256, .bf16⟩
  | .local _ .vmem, ⟨57, _⟩ => ⟨S2x1024, .f32⟩
  | .local _ .vmem, ⟨58, _⟩ => ⟨S2x1024, .f32⟩
  | .local _ .vmem, ⟨59, _⟩ => ⟨S112x2048, .f32⟩
  | .local _ .smem, ⟨0, _⟩ => ⟨S2, .i32⟩
  | .local _ .smem, ⟨1, _⟩ => ⟨S2, .f32⟩
  | _, _ => ⟨S2x50x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26_0 : Ref sig .tc := ⟨.hbm, 60, rfl⟩
abbrev main_v26_1 : Ref sig .tc := ⟨.hbm, 61, rfl⟩
abbrev main_v26_2 : Ref sig .tc := ⟨.hbm, 62, rfl⟩
abbrev main_v26_3 : Ref sig .tc := ⟨.hbm, 63, rfl⟩
abbrev main_v26_4 : Ref sig .tc := ⟨.hbm, 64, rfl⟩
abbrev main_v26_5 : Ref sig .tc := ⟨.hbm, 65, rfl⟩
abbrev main_v26_6 : Ref sig .tc := ⟨.hbm, 66, rfl⟩
abbrev main_v26_7 : Ref sig .tc := ⟨.hbm, 67, rfl⟩
abbrev main_v26_8 : Ref sig .tc := ⟨.hbm, 68, rfl⟩
abbrev main_v26_9 : Ref sig .tc := ⟨.hbm, 69, rfl⟩
abbrev main_v26_10 : Ref sig .tc := ⟨.hbm, 70, rfl⟩
abbrev main_v26_11 : Ref sig .tc := ⟨.hbm, 71, rfl⟩
abbrev main_v26_12 : Ref sig .tc := ⟨.hbm, 72, rfl⟩
abbrev main_v26_13 : Ref sig .tc := ⟨.hbm, 73, rfl⟩
abbrev main_v26_14 : Ref sig .tc := ⟨.hbm, 74, rfl⟩
abbrev main_v26_15 : Ref sig .tc := ⟨.hbm, 75, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_stg14_0 : Ref sig .tc := ⟨.vmem, 13, rfl⟩
abbrev cc0_stg15_0 : Ref sig .tc := ⟨.vmem, 14, rfl⟩
abbrev cc0_stg16_0 : Ref sig .tc := ⟨.vmem, 15, rfl⟩
abbrev cc0_stg17_0 : Ref sig .tc := ⟨.vmem, 16, rfl⟩
abbrev cc0_stg18_0 : Ref sig .tc := ⟨.vmem, 17, rfl⟩
abbrev cc0_stg19_0 : Ref sig .tc := ⟨.vmem, 18, rfl⟩
abbrev cc0_stg20_0 : Ref sig .tc := ⟨.vmem, 19, rfl⟩
abbrev cc0_stg21_0 : Ref sig .tc := ⟨.vmem, 20, rfl⟩
abbrev cc0_stg22_0 : Ref sig .tc := ⟨.vmem, 21, rfl⟩
abbrev cc0_stg23_0 : Ref sig .tc := ⟨.vmem, 22, rfl⟩
abbrev cc0_stg24_0 : Ref sig .tc := ⟨.vmem, 23, rfl⟩
abbrev cc0_stg25_0 : Ref sig .tc := ⟨.vmem, 24, rfl⟩
abbrev cc0_stg26_0 : Ref sig .tc := ⟨.vmem, 25, rfl⟩
abbrev cc0_stg27_0 : Ref sig .tc := ⟨.vmem, 26, rfl⟩
abbrev cc0_stg28_0 : Ref sig .tc := ⟨.vmem, 27, rfl⟩
abbrev cc0_stg29_0 : Ref sig .tc := ⟨.vmem, 28, rfl⟩
abbrev cc0_stg30_0 : Ref sig .tc := ⟨.vmem, 29, rfl⟩
abbrev cc0_stg31_0 : Ref sig .tc := ⟨.vmem, 30, rfl⟩
abbrev cc0_stg32_0 : Ref sig .tc := ⟨.vmem, 31, rfl⟩
abbrev cc0_stg34_0 : Ref sig .tc := ⟨.vmem, 32, rfl⟩
abbrev cc0_stg34_1 : Ref sig .tc := ⟨.vmem, 33, rfl⟩
abbrev cc0_stg35_0 : Ref sig .tc := ⟨.vmem, 34, rfl⟩
abbrev cc0_stg36_0 : Ref sig .tc := ⟨.vmem, 35, rfl⟩
abbrev cc0_stg37_0 : Ref sig .tc := ⟨.vmem, 36, rfl⟩
abbrev cc0_stg38_0 : Ref sig .tc := ⟨.vmem, 37, rfl⟩
abbrev cc0_stg39_0 : Ref sig .tc := ⟨.vmem, 38, rfl⟩
abbrev cc0_stg40_0 : Ref sig .tc := ⟨.vmem, 39, rfl⟩
abbrev cc0_stg41_0 : Ref sig .tc := ⟨.vmem, 40, rfl⟩
abbrev cc0_stg42_0 : Ref sig .tc := ⟨.vmem, 41, rfl⟩
abbrev cc0_stg43_0 : Ref sig .tc := ⟨.vmem, 42, rfl⟩
abbrev cc0_stg44_0 : Ref sig .tc := ⟨.vmem, 43, rfl⟩
abbrev cc0_stg45_0 : Ref sig .tc := ⟨.vmem, 44, rfl⟩
abbrev cc0_stg46_0 : Ref sig .tc := ⟨.vmem, 45, rfl⟩
abbrev cc0_stg47_0 : Ref sig .tc := ⟨.vmem, 46, rfl⟩
abbrev cc0_stg48_0 : Ref sig .tc := ⟨.vmem, 47, rfl⟩
abbrev cc0_stg49_0 : Ref sig .tc := ⟨.vmem, 48, rfl⟩
abbrev cc0_stg49_1 : Ref sig .tc := ⟨.vmem, 49, rfl⟩
abbrev cc0_scratch0 : Ref sig .tc := ⟨.vmem, 50, rfl⟩
abbrev cc0_scratch1 : Ref sig .tc := ⟨.vmem, 51, rfl⟩
abbrev cc0_scratch2 : Ref sig .tc := ⟨.vmem, 52, rfl⟩
abbrev cc0_scratch3 : Ref sig .tc := ⟨.vmem, 53, rfl⟩
abbrev cc0_scratch4 : Ref sig .tc := ⟨.vmem, 54, rfl⟩
abbrev cc0_scratch5 : Ref sig .tc := ⟨.vmem, 55, rfl⟩
abbrev cc0_scratch6 : Ref sig .tc := ⟨.vmem, 56, rfl⟩
abbrev cc0_scratch7 : Ref sig .tc := ⟨.vmem, 57, rfl⟩
abbrev cc0_scratch8 : Ref sig .tc := ⟨.vmem, 58, rfl⟩
abbrev cc0_scratch9 : Ref sig .tc := ⟨.vmem, 59, rfl⟩
abbrev cc0_stg0_0 : Ref sig .tc := ⟨.smem, 0, rfl⟩
abbrev cc0_stg33_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem34_1 : DmaSem sig := 35
abbrev cc0_sem35_0 : DmaSem sig := 36
abbrev cc0_sem36_0 : DmaSem sig := 37
abbrev cc0_sem37_0 : DmaSem sig := 38
abbrev cc0_sem38_0 : DmaSem sig := 39
abbrev cc0_sem39_0 : DmaSem sig := 40
abbrev cc0_sem40_0 : DmaSem sig := 41
abbrev cc0_sem41_0 : DmaSem sig := 42
abbrev cc0_sem42_0 : DmaSem sig := 43
abbrev cc0_sem43_0 : DmaSem sig := 44
abbrev cc0_sem44_0 : DmaSem sig := 45
abbrev cc0_sem45_0 : DmaSem sig := 46
abbrev cc0_sem46_0 : DmaSem sig := 47
abbrev cc0_sem47_0 : DmaSem sig := 48
abbrev cc0_sem48_0 : DmaSem sig := 49
abbrev cc0_sem49_0 : DmaSem sig := 50
abbrev cc0_sem49_1 : DmaSem sig := 51

abbrev nD : Nat := 1
abbrev τ : Topo := Topo.v7x

variable {F : FTy → Type} [FloatOps F]

abbrev grid0 : Pipeline.Grid := ⟨1, ![10], ![false]⟩

def k0_off1 (i : grid0.Coords) (c0_i32_9 : BitVec 32) : Fin 2 → Nat :=
  let arg0 : BitVec 32 := BitVec.ofNat 32 (i 0).val
  let c2_i32 : BitVec 32 := 2#32
  let v15 : BitVec 32 := Scalar.muli arg0 c2_i32
  let v16 : BitVec 32 := Scalar.addi v15 c0_i32_9
  let v17 : Index := Scalar.indexCast v16
  let c0_10 : Index := 0#32
  ![v17.toNat, 0]
def k0_cond3 (i : grid0.Coords) : BitVec 1 :=
  let arg0 : BitVec 32 := BitVec.ofNat 32 (i 0).val
  let c9_i32 : BitVec 32 := 9#32
  let v651 : BitVec 1 := Scalar.cmpi .eq arg0 c9_i32
  let v652 : BitVec 32 := Scalar.extui v651
  let c0_i32_246 : BitVec 32 := 0#32
  let v653 : BitVec 1 := Scalar.cmpi .ne v652 c0_i32_246
  v653

def k0_cond2 (i : grid0.Coords) : BitVec 1 :=
  let arg0 : BitVec 32 := BitVec.ofNat 32 (i 0).val
  let c0_i32_244 : BitVec 32 := 0#32
  let v648 : BitVec 1 := Scalar.cmpi .eq arg0 c0_i32_244
  let v649 : BitVec 32 := Scalar.extui v648
  let c0_i32_245 : BitVec 32 := 0#32
  let v650 : BitVec 1 := Scalar.cmpi .ne v649 c0_i32_245
  v650

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_28 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_32 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_33 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_34 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_35 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_36 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_37 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_38 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_39 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_40 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_41 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_42 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_43 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_44 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_45 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_46 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_47 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_48 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_49 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x50x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S20x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x2560 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x2560 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2048x1024 .fp8e4m3 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S2x1024x4096 .fp8e4m3 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S2x4096 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S4096x1024 .fp8e4m3 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1024x32 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x32 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S2x896x256 .i8 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S2x896x256 .i8 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S2x896 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S2x896 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S2x51x128 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S2x51x128 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .smem S2 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 2 → Memref sig .tc .vmem S1x2x50x32 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 1 → Memref sig .tc .vmem S2x50x32 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![false]

abbrev stage0_36 : Fin 1 → Memref sig .tc .vmem S2x51x1024 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))
abbrev reads0_36 : Fin grid0.rank → Bool := ![false]

abbrev stage0_37 : Fin 1 → Memref sig .tc .vmem S2x51x256 .bf16 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))
abbrev reads0_37 : Fin grid0.rank → Bool := ![false]

abbrev stage0_38 : Fin 1 → Memref sig .tc .vmem S2x51x256 .bf16 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))
abbrev reads0_38 : Fin grid0.rank → Bool := ![false]

abbrev stage0_39 : Fin 1 → Memref sig .tc .vmem S2x2048 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))
abbrev reads0_39 : Fin grid0.rank → Bool := ![false]

abbrev stage0_40 : Fin 1 → Memref sig .tc .vmem S2x50x2048 .bf16 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))
abbrev reads0_40 : Fin grid0.rank → Bool := ![false]

abbrev stage0_41 : Fin 1 → Memref sig .tc .vmem S2x51x1024 .fp8e4m3 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))
abbrev reads0_41 : Fin grid0.rank → Bool := ![false]

abbrev stage0_42 : Fin 1 → Memref sig .tc .vmem S2x51x1 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))
abbrev reads0_42 : Fin grid0.rank → Bool := ![false]

abbrev stage0_43 : Fin 1 → Memref sig .tc .vmem S2x51x2048 .fp8e4m3 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))
abbrev reads0_43 : Fin grid0.rank → Bool := ![false]

abbrev stage0_44 : Fin 1 → Memref sig .tc .vmem S2x51x1 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))
abbrev reads0_44 : Fin grid0.rank → Bool := ![false]

abbrev stage0_45 : Fin 1 → Memref sig .tc .vmem S2x51x1024 .fp8e4m3 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))
abbrev reads0_45 : Fin grid0.rank → Bool := ![false]

abbrev stage0_46 : Fin 1 → Memref sig .tc .vmem S2x51x1 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))
abbrev reads0_46 : Fin grid0.rank → Bool := ![false]

abbrev stage0_47 : Fin 1 → Memref sig .tc .vmem S2x51x4096 .fp8e4m3 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))
abbrev reads0_47 : Fin grid0.rank → Bool := ![false]

abbrev stage0_48 : Fin 1 → Memref sig .tc .vmem S2x51x1 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))
abbrev reads0_48 : Fin grid0.rank → Bool := ![false]

abbrev stage0_49 : Fin 2 → Memref sig .tc .vmem S1x2x51x2048 .bf16 := fun | 0 => Memref.whole cc0_stg49_0 | 1 => Memref.whole cc0_stg49_1 | ⟨_ + 2, h⟩ => absurd h (Nat.not_lt.2 (Nat.le_add_left _ _))
abbrev sem0_49 : Fin 2 → DmaSem sig := fun | 0 => cc0_sem49_0 | 1 => cc0_sem49_1 | ⟨_ + 2, h⟩ => absurd h (Nat.not_lt.2 (Nat.le_add_left _ _))
abbrev reads0_49 : Fin grid0.rank → Bool := ![true]
-- ==== ReferenceIdeal.lean ====
abbrev S2x50x32 : Shape := ⟨3, ![2, 50, 32]⟩
abbrev S2x32 : Shape := ⟨2, ![2, 32]⟩
abbrev S2 : Shape := ⟨1, ![2]⟩
abbrev S512 : Shape := ⟨1, ![512]⟩
abbrev S32x1024 : Shape := ⟨2, ![32, 1024]⟩
abbrev S1024 : Shape := ⟨1, ![1024]⟩
abbrev S1024x1024 : Shape := ⟨2, ![1024, 1024]⟩
abbrev S1x1024 : Shape := ⟨2, ![1, 1024]⟩
abbrev S1x1024x2560 : Shape := ⟨3, ![1, 1024, 2560]⟩
abbrev S1x2560 : Shape := ⟨2, ![1, 2560]⟩
abbrev S1x2048x1024 : Shape := ⟨3, ![1, 2048, 1024]⟩
abbrev S1x2x1024x4096 : Shape := ⟨4, ![1, 2, 1024, 4096]⟩
abbrev S1x2x4096 : Shape := ⟨3, ![1, 2, 4096]⟩
abbrev S1x4096x1024 : Shape := ⟨3, ![1, 4096, 1024]⟩
abbrev S1024x32 : Shape := ⟨2, ![1024, 32]⟩
abbrev S32 : Shape := ⟨1, ![32]⟩
abbrev S1x2x896x256 : Shape := ⟨4, ![1, 2, 896, 256]⟩
abbrev S1x2x896 : Shape := ⟨3, ![1, 2, 896]⟩
abbrev S2x51x128 : Shape := ⟨3, ![2, 51, 128]⟩
abbrev S2x1x32 : Shape := ⟨3, ![2, 1, 32]⟩
abbrev S2x1x1 : Shape := ⟨3, ![2, 1, 1]⟩
abbrev S1x512 : Shape := ⟨2, ![1, 512]⟩
abbrev S1x32 : Shape := ⟨2, ![1, 32]⟩
abbrev S2x1x896 : Shape := ⟨3, ![2, 1, 896]⟩
abbrev S10x2x50x32 : Shape := ⟨4, ![10, 2, 50, 32]⟩
abbrev S2x51x1024 : Shape := ⟨3, ![2, 51, 1024]⟩
abbrev S2x1024 : Shape := ⟨2, ![2, 1024]⟩
abbrev S2x1x1024 : Shape := ⟨3, ![2, 1, 1024]⟩
abbrev S1x1x1024 : Shape := ⟨3, ![1, 1, 1024]⟩
abbrev S1x1x512 : Shape := ⟨3, ![1, 1, 512]⟩
abbrev S2x1x512 : Shape := ⟨3, ![2, 1, 512]⟩
abbrev S100x32 : Shape := ⟨2, ![100, 32]⟩
abbrev S100x1024 : Shape := ⟨2, ![100, 1024]⟩
abbrev S2x50x1024 : Shape := ⟨3, ![2, 50, 1024]⟩
abbrev S2x51 : Shape := ⟨2, ![2, 51]⟩
abbrev S2x51x1 : Shape := ⟨3, ![2, 51, 1]⟩
abbrev S1024x2560 : Shape := ⟨2, ![1024, 2560]⟩
abbrev S102x1024 : Shape := ⟨2, ![102, 1024]⟩
abbrev S102x2560 : Shape := ⟨2, ![102, 2560]⟩
abbrev S2x51x2560 : Shape := ⟨3, ![2, 51, 2560]⟩
abbrev S1x1x2560 : Shape := ⟨3, ![1, 1, 2560]⟩
abbrev S2x51x2048 : Shape := ⟨3, ![2, 51, 2048]⟩
abbrev S2x51x8x256 : Shape := ⟨4, ![2, 51, 8, 256]⟩
abbrev S2x51x1x128 : Shape := ⟨4, ![2, 51, 1, 128]⟩
abbrev S2x51x8x128 : Shape := ⟨4, ![2, 51, 8, 128]⟩
abbrev S2x408x256 : Shape := ⟨3, ![2, 408, 256]⟩
abbrev S2x51x256 : Shape := ⟨3, ![2, 51, 256]⟩
abbrev S2x896x256 : Shape := ⟨3, ![2, 896, 256]⟩
abbrev S1x1x896 : Shape := ⟨3, ![1, 1, 896]⟩
abbrev S1x408x1 : Shape := ⟨3, ![1, 408, 1]⟩
abbrev S1x1x51 : Shape := ⟨3, ![1, 1, 51]⟩
abbrev S1x408x51 : Shape := ⟨3, ![1, 408, 51]⟩
abbrev S2x408x896 : Shape := ⟨3, ![2, 408, 896]⟩
abbrev S2x408x51 : Shape := ⟨3, ![2, 408, 51]⟩
abbrev S2x408 : Shape := ⟨2, ![2, 408]⟩
abbrev S2x408x1 : Shape := ⟨3, ![2, 408, 1]⟩
abbrev S2048x1024 : Shape := ⟨2, ![2048, 1024]⟩
abbrev S102x2048 : Shape := ⟨2, ![102, 2048]⟩
abbrev S1x1x1024x4096 : Shape := ⟨4, ![1, 1, 1024, 4096]⟩
abbrev S1024x4096 : Shape := ⟨2, ![1024, 4096]⟩
abbrev S1x1x4096 : Shape := ⟨3, ![1, 1, 4096]⟩
abbrev S1x4096 : Shape := ⟨2, ![1, 4096]⟩
abbrev S102x4096 : Shape := ⟨2, ![102, 4096]⟩
abbrev S2x51x4096 : Shape := ⟨3, ![2, 51, 4096]⟩
abbrev S4096x1024 : Shape := ⟨2, ![4096, 1024]⟩
abbrev S2x50 : Shape := ⟨2, ![2, 50]⟩
abbrev S2x50x1 : Shape := ⟨3, ![2, 50, 1]⟩
abbrev S1x1x32 : Shape := ⟨3, ![1, 1, 32]⟩
abbrev S1x2x50x32 : Shape := ⟨4, ![1, 2, 50, 32]⟩

abbrev nBuf : Space → Nat
  | .hbm => 50
  | .vmem => 37
  | .smem => 0
  | _ => 0

abbrev bufTy : (tb : Table) → Fin (tcTables nBuf tb) → BufTy
  | .hbm, ⟨0, _⟩ => ⟨S2x50x32, .f32⟩
  | .hbm, ⟨1, _⟩ => ⟨S2x32, .f32⟩
  | .hbm, ⟨2, _⟩ => ⟨S2, .f32⟩
  | .hbm, ⟨3, _⟩ => ⟨S2, .f32⟩
  | .hbm, ⟨4, _⟩ => ⟨S512, .f32⟩
  | .hbm, ⟨5, _⟩ => ⟨S32x1024, .f32⟩
  | .hbm, ⟨6, _⟩ => ⟨S1024, .f32⟩
  | .hbm, ⟨7, _⟩ => ⟨S32x1024, .f32⟩
  | .hbm, ⟨8, _⟩ => ⟨S1024, .f32⟩
  | .hbm, ⟨9, _⟩ => ⟨S1024x1024, .bf16⟩
  | .hbm, ⟨10, _⟩ => ⟨S1024x1024, .bf16⟩
  | .hbm, ⟨11, _⟩ => ⟨S1024, .f32⟩
  | .hbm, ⟨12, _⟩ => ⟨S1024x1024, .bf16⟩
  | .hbm, ⟨13, _⟩ => ⟨S1024, .f32⟩
  | .hbm, ⟨14, _⟩ => ⟨S1x1024, .f32⟩
  | .hbm, ⟨15, _⟩ => ⟨S1x1024, .f32⟩
  | .hbm, ⟨16, _⟩ => ⟨S1x1024x2560, .fp8e4m3⟩
  | .hbm, ⟨17, _⟩ => ⟨S1x2560, .f32⟩
  | .hbm, ⟨18, _⟩ => ⟨S1x2048x1024, .fp8e4m3⟩
  | .hbm, ⟨19, _⟩ => ⟨S1x1024, .f32⟩
  | .hbm, ⟨20, _⟩ => ⟨S1x2x1024x4096, .fp8e4m3⟩
  | .hbm, ⟨21, _⟩ => ⟨S1x2x4096, .f32⟩
  | .hbm, ⟨22, _⟩ => ⟨S1x4096x1024, .fp8e4m3⟩
  | .hbm, ⟨23, _⟩ => ⟨S1x1024, .f32⟩
  | .hbm, ⟨24, _⟩ => ⟨S1024, .f32⟩
  | .hbm, ⟨25, _⟩ => ⟨S1024x32, .f32⟩
  | .hbm, ⟨26, _⟩ => ⟨S32, .f32⟩
  | .hbm, ⟨27, _⟩ => ⟨S1x2x896x256, .i8⟩
  | .hbm, ⟨28, _⟩ => ⟨S1x2x896x256, .i8⟩
  | .hbm, ⟨29, _⟩ => ⟨S1x2x896, .f32⟩
  | .hbm, ⟨30, _⟩ => ⟨S1x2x896, .f32⟩
  | .hbm, ⟨31, _⟩ => ⟨S2, .i32⟩
  | .hbm, ⟨32, _⟩ => ⟨S2x51x128, .f32⟩
  | .hbm, ⟨33, _⟩ => ⟨S2x51x128, .f32⟩
  | .hbm, ⟨34, _⟩ => ⟨S2x1x32, .f32⟩
  | .hbm, ⟨35, _⟩ => ⟨S2x1x1, .f32⟩
  | .hbm, ⟨36, _⟩ => ⟨S2x1x1, .f32⟩
  | .hbm, ⟨37, _⟩ => ⟨S1x512, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S1x32, .f32⟩
  | .hbm, ⟨44, _⟩ => ⟨S2x1x896, .f32⟩
  | .hbm, ⟨45, _⟩ => ⟨S2x1x896, .f32⟩
  | .hbm, ⟨46, _⟩ => ⟨S2x1x1, .i32⟩
  | .hbm, ⟨47, _⟩ => ⟨S10x2x50x32, .f32⟩
  | .hbm, ⟨48, _⟩ => ⟨S2x50x32, .f32⟩
  | .hbm, ⟨49, _⟩ => ⟨S2x51x1024, .f32⟩
  | .local _ .vmem, ⟨0, _⟩ => ⟨S2x50x32, .f32⟩
  | .local _ .vmem, ⟨1, _⟩ => ⟨S2x1x32, .f32⟩
  | .local _ .vmem, ⟨2, _⟩ => ⟨S2x1x1, .f32⟩
  | .local _ .vmem, ⟨3, _⟩ => ⟨S2x1x1, .f32⟩
  | .local _ .vmem, ⟨4, _⟩ => ⟨S1x512, .f32⟩
  | .local _ .vmem, ⟨5, _⟩ => ⟨S32x1024, .f32⟩
  | .local _ .vmem, ⟨6, _⟩ => ⟨S1x1024, .f32⟩
  | .local _ .vmem, ⟨7, _⟩ => ⟨S32x1024, .f32⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024x2560, .fp8e4m3⟩
  | .local _ .vmem, ⟨17, _⟩ => ⟨S1x2560, .f32⟩
  | .local _ .vmem, ⟨18, _⟩ => ⟨S1x2048x1024, .fp8e4m3⟩
  | .local _ .vmem, ⟨19, _⟩ => ⟨S1x1024, .f32⟩
  | .local _ .vmem, ⟨20, _⟩ => ⟨S1x2x1024x4096, .fp8e4m3⟩
  | .local _ .vmem, ⟨21, _⟩ => ⟨S1x2x4096, .f32⟩
  | .local _ .vmem, ⟨22, _⟩ => ⟨S1x4096x1024, .fp8e4m3⟩
  | .local _ .vmem, ⟨23, _⟩ => ⟨S1x1024, .f32⟩
  | .local _ .vmem, ⟨24, _⟩ => ⟨S1x1024, .f32⟩
  | .local _ .vmem, ⟨25, _⟩ => ⟨S1024x32, .f32⟩
  | .local _ .vmem, ⟨26, _⟩ => ⟨S1x32, .f32⟩
  | .local _ .vmem, ⟨27, _⟩ => ⟨S1x2x896x256, .i8⟩
  | .local _ .vmem, ⟨28, _⟩ => ⟨S1x2x896x256, .i8⟩
  | .local _ .vmem, ⟨29, _⟩ => ⟨S2x1x896, .f32⟩
  | .local _ .vmem, ⟨30, _⟩ => ⟨S2x1x896, .f32⟩
  | .local _ .vmem, ⟨31, _⟩ => ⟨S2x1x1, .i32⟩
  | .local _ .vmem, ⟨32, _⟩ => ⟨S2x51x128, .f32⟩
  | .local _ .vmem, ⟨33, _⟩ => ⟨S2x51x128, .f32⟩
  | .local _ .vmem, ⟨34, _⟩ => ⟨S10x2x50x32, .f32⟩
  | .local _ .vmem, ⟨35, _⟩ => ⟨S2x50x32, .f32⟩
  | .local _ .vmem, ⟨36, _⟩ => ⟨S2x51x1024, .f32⟩
  | _, _ => ⟨S2x50x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13_0 : Ref sig .tc := ⟨.hbm, 47, rfl⟩
abbrev main_v13_1 : Ref sig .tc := ⟨.hbm, 48, rfl⟩
abbrev main_v13_2 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c10_i32 : BitVec 32 := 10#32
  let v2 : BitVec 32 := Scalar.addi c0_i32 c10_i32
  let c1_i32 : BitVec 32 := 1#32
  ⟨c0_i32, v2, c1_i32⟩
def k0_off1 (k0_t1 : Fin k0_t1_loop.trips) : Fin 4 → Nat :=
  let c0_i32 : BitVec 32 := 0#32
  let c1_i32 : BitVec 32 := 1#32
  let arg37 : BitVec 32 := Scf.iv c0_i32 c1_i32 k0_t1
  let v381 : Index := Scalar.indexCast arg37
  let c0_172 : Index := 0#32
  let c0_173 : Index := 0#32
  let c0_174 : Index := 0#32
  ![v381.toNat, 0, 0, 0]
abbrev stage0_0 : Fin 1 → Memref sig .tc .vmem S2x50x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024x2560 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x2560 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x2048x1024 .fp8e4m3 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x2x1024x4096 .fp8e4m3 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x2x4096 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x4096x1024 .fp8e4m3 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1024x32 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x32 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x2x896x256 .i8 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x2x896x256 .i8 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S2x1x896 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S2x1x896 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S2x1x1 .i32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S2x51x128 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S2x51x128 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S10x2x50x32 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S2x50x32 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S2x51x1024 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))
-- ==== Proof.Bufs.lean ====
/- The operands of the kernel body as three records: the buffers it is called on (`Bufs`), the contents of its inputs (`Ins`), and what it
   carries from one grid point to the next in its scratch (`Carry`); the three conditions of the body; and the body over named payloads. -/
module

public import proofs.«01_k».proof.Proof.Gen.KernelIdeal.Frame
public import proofs.«01_k».proof.Proof.Gen.KernelIdeal.Skeleton

@[expose] public section

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The buffers the body is called on: 34 inputs, 16 outputs, 10 scratch, each a whole buffer. -/
structure Bufs where
  m1 : Memref sig .tc .smem S2 .i32
  w1 : m1.IsWhole
  m2 : Memref sig .tc .vmem S2x50x32 .f32
  w2 : m2.IsWhole
  m3 : Memref sig .tc .vmem S2x32 .f32
  w3 : m3.IsWhole
  m4 : Memref sig .tc .vmem S20x1 .f32
  w4 : m4.IsWhole
  m5 : Memref sig .tc .vmem S1x512 .f32
  w5 : m5.IsWhole
  m6 : Memref sig .tc .vmem S32x1024 .f32
  w6 : m6.IsWhole
  m7 : Memref sig .tc .vmem S1x1024 .f32
  w7 : m7.IsWhole
  m8 : Memref sig .tc .vmem S32x1024 .f32
  w8 : m8.IsWhole
  m9 : Memref sig .tc .vmem S1x1024 .f32
  w9 : m9.IsWhole
  m10 : Memref sig .tc .vmem S1024x1024 .bf16
  w10 : m10.IsWhole
  m11 : Memref sig .tc .vmem S1024x1024 .bf16
  w11 : m11.IsWhole
  m12 : Memref sig .tc .vmem S1x1024 .f32
  w12 : m12.IsWhole
  m13 : Memref sig .tc .vmem S1024x1024 .bf16
  w13 : m13.IsWhole
  m14 : Memref sig .tc .vmem S1x1024 .f32
  w14 : m14.IsWhole
  m15 : Memref sig .tc .vmem S1x1024 .f32
  w15 : m15.IsWhole
  m16 : Memref sig .tc .vmem S1x1024 .f32
  w16 : m16.IsWhole
  m17 : Memref sig .tc .vmem S1024x2560 .fp8e4m3
  w17 : m17.IsWhole
  m18 : Memref sig .tc .vmem S1x2560 .f32
  w18 : m18.IsWhole
  m19 : Memref sig .tc .vmem S2048x1024 .fp8e4m3
  w19 : m19.IsWhole
  m20 : Memref sig .tc .vmem S1x1024 .f32
  w20 : m20.IsWhole
  m21 : Memref sig .tc .vmem S2x1024x4096 .fp8e4m3
  w21 : m21.IsWhole
  m22 : Memref sig .tc .vmem S2x4096 .f32
  w22 : m22.IsWhole
  m23 : Memref sig .tc .vmem S4096x1024 .fp8e4m3
  w23 : m23.IsWhole
  m24 : Memref sig .tc .vmem S1x1024 .f32
  w24 : m24.IsWhole
  m25 : Memref sig .tc .vmem S1x1024 .f32
  w25 : m25.IsWhole
  m26 : Memref sig .tc .vmem S1024x32 .f32
  w26 : m26.IsWhole
  m27 : Memref sig .tc .vmem S1x32 .f32
  w27 : m27.IsWhole
  m28 : Memref sig .tc .vmem S2x896x256 .i8
  w28 : m28.IsWhole
  m29 : Memref sig .tc .vmem S2x896x256 .i8
  w29 : m29.IsWhole
  m30 : Memref sig .tc .vmem S2x896 .f32
  w30 : m30.IsWhole
  m31 : Memref sig .tc .vmem S2x896 .f32
  w31 : m31.IsWhole
  m32 : Memref sig .tc .vmem S2x51x128 .f32
  w32 : m32.IsWhole
  m33 : Memref sig .tc .vmem S2x51x128 .f32
  w33 : m33.IsWhole
  m34 : Memref sig .tc .smem S2 .f32
  w34 : m34.IsWhole
  m35 : Memref sig .tc .vmem S1x2x50x32 .f32
  w35 : m35.IsWhole
  m36 : Memref sig .tc .vmem S2x50x32 .f32
  w36 : m36.IsWhole
  m37 : Memref sig .tc .vmem S2x51x1024 .f32
  w37 : m37.IsWhole
  m38 : Memref sig .tc .vmem S2x51x256 .bf16
  w38 : m38.IsWhole
  m39 : Memref sig .tc .vmem S2x51x256 .bf16
  w39 : m39.IsWhole
  m40 : Memref sig .tc .vmem S2x2048 .f32
  w40 : m40.IsWhole
  m41 : Memref sig .tc .vmem S2x50x2048 .bf16
  w41 : m41.IsWhole
  m42 : Memref sig .tc .vmem S2x51x1024 .fp8e4m3
  w42 : m42.IsWhole
  m43 : Memref sig .tc .vmem S2x51x1 .f32
  w43 : m43.IsWhole
  m44 : Memref sig .tc .vmem S2x51x2048 .fp8e4m3
  w44 : m44.IsWhole
  m45 : Memref sig .tc .vmem S2x51x1 .f32
  w45 : m45.IsWhole
  m46 : Memref sig .tc .vmem S2x51x1024 .fp8e4m3
  w46 : m46.IsWhole
  m47 : Memref sig .tc .vmem S2x51x1 .f32
  w47 : m47.IsWhole
  m48 : Memref sig .tc .vmem S2x51x4096 .fp8e4m3
  w48 : m48.IsWhole
  m49 : Memref sig .tc .vmem S2x51x1 .f32
  w49 : m49.IsWhole
  m50 : Memref sig .tc .vmem S1x2x51x2048 .bf16
  w50 : m50.IsWhole
  m51 : Memref sig .tc .vmem S112x32 .f32
  w51 : m51.IsWhole
  m52 : Memref sig .tc .vmem S2x1024 .f32
  w52 : m52.IsWhole
  m53 : Memref sig .tc .vmem S20x1024 .f32
  w53 : m53.IsWhole
  m54 : Memref sig .tc .vmem S112x128 .f32
  w54 : m54.IsWhole
  m55 : Memref sig .tc .vmem S112x128 .f32
  w55 : m55.IsWhole
  m56 : Memref sig .tc .vmem S2x1024x256 .bf16
  w56 : m56.IsWhole
  m57 : Memref sig .tc .vmem S2x1024x256 .bf16
  w57 : m57.IsWhole
  m58 : Memref sig .tc .vmem S2x1024 .f32
  w58 : m58.IsWhole
  m59 : Memref sig .tc .vmem S2x1024 .f32
  w59 : m59.IsWhole
  m60 : Memref sig .tc .vmem S112x2048 .f32
  w60 : m60.IsWhole

/-- The contents of the 34 inputs. -/
structure Ins (F : FTy → Type) where
  x0 : Vec F S2 .i32
  x1 : Vec F S2x50x32 .f32
  x2 : Vec F S2x32 .f32
  x3 : Vec F S20x1 .f32
  x4 : Vec F S1x512 .f32
  x5 : Vec F S32x1024 .f32
  x6 : Vec F S1x1024 .f32
  x7 : Vec F S32x1024 .f32
  x8 : Vec F S1x1024 .f32
  x9 : Vec F S1024x1024 .bf16
  x10 : Vec F S1024x1024 .bf16
  x11 : Vec F S1x1024 .f32
  x12 : Vec F S1024x1024 .bf16
  x13 : Vec F S1x1024 .f32
  x14 : Vec F S1x1024 .f32
  x15 : Vec F S1x1024 .f32
  x16 : Vec F S1024x2560 .fp8e4m3
  x17 : Vec F S1x2560 .f32
  x18 : Vec F S2048x1024 .fp8e4m3
  x19 : Vec F S1x1024 .f32
  x20 : Vec F S2x1024x4096 .fp8e4m3
  x21 : Vec F S2x4096 .f32
  x22 : Vec F S4096x1024 .fp8e4m3
  x23 : Vec F S1x1024 .f32
  x24 : Vec F S1x1024 .f32
  x25 : Vec F S1024x32 .f32
  x26 : Vec F S1x32 .f32
  x27 : Vec F S2x896x256 .i8
  x28 : Vec F S2x896x256 .i8
  x29 : Vec F S2x896 .f32
  x30 : Vec F S2x896 .f32
  x31 : Vec F S2x51x128 .f32
  x32 : Vec F S2x51x128 .f32
  x33 : Vec F S2 .f32

/-- What the scratch holds between two grid points: the padded state, the state embedding, the time table, cosine and sine, the keys, the
    values, and the scales of both. (The tenth scratch buffer is not carried.) -/
structure Carry (F : FTy → Type) where
  s0 : Vec F S112x32 .f32
  s1 : Vec F S2x1024 .f32
  s2 : Vec F S20x1024 .f32
  s3 : Vec F S112x128 .f32
  s4 : Vec F S112x128 .f32
  s5 : Vec F S2x1024x256 .bf16
  s6 : Vec F S2x1024x256 .bf16
  s7 : Vec F S2x1024 .f32
  s8 : Vec F S2x1024 .f32

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [cond0_0, e0]
    word_cmp
   : ∀ t : Fin grid0.N, cond0_0 (grid0.coords t) ↔ t.val % 10 = 0)

/-- The condition of the body's `scf.if` 1 (`k0_h2`), from the grid coordinates (the skeleton's scalar
    chain substituted). -/
abbrev cond0_1 (i : grid0.Coords) : Prop := k0_cond2 i = 1#1
/-- It holds at the first point only — by arithmetic of the point. -/
theorem hcond0_1 : ∀ t : Fin cfg0.N, cond0_1 (grid0.coords t) ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [cond0_1, k0_cond2, e0]
    word_cmp
   : ∀ t : Fin grid0.N, cond0_1 (grid0.coords t) ↔ t.val % 10 = 0)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 10 = 9 :=
  (fun t => by
    have ht : t.val < 10 := Nat.lt_of_lt_of_eq t.isLt N_0
    have e0 : (grid0.coords t 0).val = t.val / 1 % 10 := Pipeline.Grid.coords_val t 0 (by decide) rfl
    simp only [cond0_2, k0_cond3, e0]
    word_cmp
   : ∀ t : Fin grid0.N, cond0_2 (grid0.coords t) ↔ t.val % 10 = 9)

/-- The body on a record of buffers. -/
def body (i : grid0.Coords) (a : Bufs) :=
  cc0_euler10 (F := F) i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60

/-- The body is one over its named payloads: this settles, once, the rewriting of every part by its skeleton. -/
theorem body_skeleton (i : grid0.Coords) (a : Bufs) : ∃ p, body (F := F) i a = p := by
  unfold body
  simp only [cc0_euler10_eq_skeleton]; unfold cc0_euler10_skel
  simp only [k0_part23_eq_skeleton, k0_part8_eq_skeleton, k0_part1_eq_skeleton, k0_part2_eq_skeleton, k0_part3_eq_skeleton, k0_part4_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part5_eq_skeleton, k0_part6_eq_skeleton, k0_part7_eq_skeleton]
  exact ⟨_, rfl⟩

end Cert.KernelIdeal.Named

end
-- ==== Proof.Tables.lean ====
/- The staging buffers and scratch the body is called on at a grid point, and where the outputs are idle. -/
module

public import proofs.«01_k».proof.Proof.Bufs

@[expose] public section

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## Where the windows are idle (the printed configuration's table `Cfg.idle`) -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
theorem liveAt0_14 : ∀ t : Fin cfg0.N, cfg0.idle 14 (grid0.coords t) = false := fun _ => rfl
theorem liveAt0_15 : ∀ t : Fin cfg0.N, cfg0.idle 15 (grid0.coords t) = false := fun _ => rfl
theorem liveAt0_16 : ∀ t : Fin cfg0.N, cfg0.idle 16 (grid0.coords t) = false := fun _ => rfl
theorem liveAt0_17 : ∀ t : Fin cfg0.N, cfg0.idle 17 (grid0.coords t) = false := fun _ => rfl
theorem liveAt0_18 : ∀ t : Fin cfg0.N, cfg0.idle 18 (grid0.coords t) = false := fun _ => rfl
theorem liveAt0_19 : ∀ t : Fin cfg0.N, cfg0.idle 19 (grid0.coords t) = false := fun _ => rfl
theorem liveAt0_20 : ∀ t : Fin cfg0.N, cfg0.idle 20 (grid0.coords t) = false := fun _ => rfl
theorem liveAt0_21 : ∀ t : Fin cfg0.N, cfg0.idle 21 (grid0.coords t) = false := fun _ => rfl
theorem liveAt0_22 : ∀ t : Fin cfg0.N, cfg0.idle 22 (grid0.coords t) = false := fun _ => rfl
theorem liveAt0_23 : ∀ t : Fin cfg0.N, cfg0.idle 23 (grid0.coords t) = false := fun _ => rfl
theorem liveAt0_24 : ∀ t : Fin cfg0.N, cfg0.idle 24 (grid0.coords t) = false := fun _ => rfl
theorem liveAt0_25 : ∀ t : Fin cfg0.N, cfg0.idle 25 (grid0.coords t) = false := fun _ => rfl
theorem liveAt0_26 : ∀ t : Fin cfg0.N, cfg0.idle 26 (grid0.coords t) = false := fun _ => rfl
theorem liveAt0_27 : ∀ t : Fin cfg0.N, cfg0.idle 27 (grid0.coords t) = false := fun _ => rfl
theorem liveAt0_28 : ∀ t : Fin cfg0.N, cfg0.idle 28 (grid0.coords t) = false := fun _ => rfl
theorem liveAt0_29 : ∀ t : Fin cfg0.N, cfg0.idle 29 (grid0.coords t) = false := fun _ => rfl
theorem liveAt0_30 : ∀ t : Fin cfg0.N, cfg0.idle 30 (grid0.coords t) = false := fun _ => rfl
theorem liveAt0_31 : ∀ t : Fin cfg0.N, cfg0.idle 31 (grid0.coords t) = false := fun _ => rfl
theorem liveAt0_32 : ∀ t : Fin cfg0.N, cfg0.idle 32 (grid0.coords t) = false := fun _ => rfl
theorem liveAt0_33 : ∀ t : Fin cfg0.N, cfg0.idle 33 (grid0.coords t) = false := fun _ => rfl
/-- Window 34 is never idle (an output stored at every point, under no condition). -/
theorem liveAt0_34 : ∀ t : Fin cfg0.N, cfg0.idle 34 (grid0.coords t) = false := fun _ => rfl
theorem idleAt0_35_A : ∀ t : Fin cfg0.N, cond0_0 (grid0.coords t) → cond0_1 (grid0.coords t) → ¬cond0_2 (grid0.coords t) → cfg0.idle 35 (grid0.coords t) = true := by decide +kernel
theorem noFlush0_35_A : ∀ t : Fin cfg0.N, cond0_0 (grid0.coords t) → cond0_1 (grid0.coords t) → ¬cond0_2 (grid0.coords t) → (cfg0.win 35).flush t = false := by decide +kernel
theorem idleAt0_35_B : ∀ t : Fin cfg0.N, ¬cond0_0 (grid0.coords t) → ¬cond0_1 (grid0.coords t) → ¬cond0_2 (grid0.coords t) → cfg0.idle 35 (grid0.coords t) = true := by decide +kernel
theorem noFlush0_35_B : ∀ t : Fin cfg0.N, ¬cond0_0 (grid0.coords t) → ¬cond0_1 (grid0.coords t) → ¬cond0_2 (grid0.coords t) → (cfg0.win 35).flush t = false := by decide +kernel
theorem liveAt0_35_C : ∀ t : Fin cfg0.N, ¬cond0_0 (grid0.coords t) → ¬cond0_1 (grid0.coords t) → cond0_2 (grid0.coords t) → cfg0.idle 35 (grid0.coords t) = false := by decide +kernel
theorem idleAt0_36_A : ∀ t : Fin cfg0.N, cond0_0 (grid0.coords t) → cond0_1 (grid0.coords t) → ¬cond0_2 (grid0.coords t) → cfg0.idle 36 (grid0.coords t) = true := by decide +kernel
theorem noFlush0_36_A : ∀ t : Fin cfg0.N, cond0_0 (grid0.coords t) → cond0_1 (grid0.coords t) → ¬cond0_2 (grid0.coords t) → (cfg0.win 36).flush t = false := by decide +kernel
theorem idleAt0_36_B : ∀ t : Fin cfg0.N, ¬cond0_0 (grid0.coords t) → ¬cond0_1 (grid0.coords t) → ¬cond0_2 (grid0.coords t) → cfg0.idle 36 (grid0.coords t) = true := by decide +kernel
theorem noFlush0_36_B : ∀ t : Fin cfg0.N, ¬cond0_0 (grid0.coords t) → ¬cond0_1 (grid0.coords t) → ¬cond0_2 (grid0.coords t) → (cfg0.win 36).flush t = false := by decide +kernel
theorem liveAt0_36_C : ∀ t : Fin cfg0.N, ¬cond0_0 (grid0.coords t) → ¬cond0_1 (grid0.coords t) → cond0_2 (grid0.coords t) → cfg0.idle 36 (grid0.coords t) = false := by decide +kernel

/-! ## The kernel body on any staging memrefs: a subtype the run finds -/

abbrev VO0_34 : View sig .tc .vmem S1x2x50x32 .f32 := (Memref.whole cc0_stg34_0 : Memref sig .tc .vmem S1x2x50x32 .f32).view
abbrev VO0_35 : View sig .tc .vmem S2x50x32 .f32 := (Memref.whole cc0_stg35_0 : Memref sig .tc .vmem S2x50x32 .f32).view
abbrev VO0_36 : View sig .tc .vmem S2x51x1024 .f32 := (Memref.whole cc0_stg36_0 : Memref sig .tc .vmem S2x51x1024 .f32).view
/-- Each window's current staging memref at point `t`, spelled as the pipeline passes it (`bodyAt0`), and its wholeness. -/
abbrev ms0_0 (t : Fin cfg0.N) : Memref sig .tc .smem S2 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x50x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S20x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S32x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1024x1024 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1024 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x1024 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1024x2560 .fp8e4m3 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x2560 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S2048x1024 .fp8e4m3 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x1024 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S2x1024x4096 .fp8e4m3 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S2x4096 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S4096x1024 .fp8e4m3 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S1x1024 .f32 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S1x1024 .f32 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .vmem S1024x32 .f32 := win0_25.stage (cfg0.slots t 25)
abbrev hs0_25 (t : Fin cfg0.N) : (ms0_25 t).IsWhole := hstage0_25 ((cfg0.slots t 25).cast nbuf0_25)
abbrev ms0_26 (t : Fin cfg0.N) : Memref sig .tc .vmem S1x32 .f32 := win0_26.stage (cfg0.slots t 26)
abbrev hs0_26 (t : Fin cfg0.N) : (ms0_26 t).IsWhole := hstage0_26 ((cfg0.slots t 26).cast nbuf0_26)
abbrev ms0_27 (t : Fin cfg0.N) : Memref sig .tc .vmem S2x896x256 .i8 := win0_27.stage (cfg0.slots t 27)
abbrev hs0_27 (t : Fin cfg0.N) : (ms0_27 t).IsWhole := hstage0_27 ((cfg0.slots t 27).cast nbuf0_27)
abbrev ms0_28 (t : Fin cfg0.N) : Memref sig .tc .vmem S2x896x256 .i8 := win0_28.stage (cfg0.slots t 28)
abbrev hs0_28 (t : Fin cfg0.N) : (ms0_28 t).IsWhole := hstage0_28 ((cfg0.slots t 28).cast nbuf0_28)
abbrev ms0_29 (t : Fin cfg0.N) : Memref sig .tc .vmem S2x896 .f32 := win0_29.stage (cfg0.slots t 29)
abbrev hs0_29 (t : Fin cfg0.N) : (ms0_29 t).IsWhole := hstage0_29 ((cfg0.slots t 29).cast nbuf0_29)
abbrev ms0_30 (t : Fin cfg0.N) : Memref sig .tc .vmem S2x896 .f32 := win0_30.stage (cfg0.slots t 30)
abbrev hs0_30 (t : Fin cfg0.N) : (ms0_30 t).IsWhole := hstage0_30 ((cfg0.slots t 30).cast nbuf0_30)
abbrev ms0_31 (t : Fin cfg0.N) : Memref sig .tc .vmem S2x51x128 .f32 := win0_31.stage (cfg0.slots t 31)
abbrev hs0_31 (t : Fin cfg0.N) : (ms0_31 t).IsWhole := hstage0_31 ((cfg0.slots t 31).cast nbuf0_31)
abbrev ms0_32 (t : Fin cfg0.N) : Memref sig .tc .vmem S2x51x128 .f32 := win0_32.stage (cfg0.slots t 32)
abbrev hs0_32 (t : Fin cfg0.N) : (ms0_32 t).IsWhole := hstage0_32 ((cfg0.slots t 32).cast nbuf0_32)
abbrev ms0_33 (t : Fin cfg0.N) : Memref sig .tc .smem S2 .f32 := win0_33.stage (cfg0.slots t 33)
abbrev hs0_33 (t : Fin cfg0.N) : (ms0_33 t).IsWhole := hstage0_33 ((cfg0.slots t 33).cast nbuf0_33)
abbrev ms0_34 (t : Fin cfg0.N) : Memref sig .tc .vmem S1x2x50x32 .f32 := win0_34.stage (cfg0.slots t 34)
abbrev hs0_34 (t : Fin cfg0.N) : (ms0_34 t).IsWhole := hstage0_34 ((cfg0.slots t 34).cast nbuf0_34)
abbrev ms0_35 (t : Fin cfg0.N) : Memref sig .tc .vmem S2x50x32 .f32 := win0_35.stage (cfg0.slots t 35)
abbrev hs0_35 (t : Fin cfg0.N) : (ms0_35 t).IsWhole := hstage0_35 ((cfg0.slots t 35).cast nbuf0_35)
abbrev ms0_36 (t : Fin cfg0.N) : Memref sig .tc .vmem S2x51x1024 .f32 := win0_36.stage (cfg0.slots t 36)
abbrev hs0_36 (t : Fin cfg0.N) : (ms0_36 t).IsWhole := hstage0_36 ((cfg0.slots t 36).cast nbuf0_36)
abbrev ms0_37 (t : Fin cfg0.N) : Memref sig .tc .vmem S2x51x256 .bf16 := win0_37.stage (cfg0.slots t 37)
abbrev hs0_37 (t : Fin cfg0.N) : (ms0_37 t).IsWhole := hstage0_37 ((cfg0.slots t 37).cast nbuf0_37)
abbrev ms0_38 (t : Fin cfg0.N) : Memref sig .tc .vmem S2x51x256 .bf16 := win0_38.stage (cfg0.slots t 38)
abbrev hs0_38 (t : Fin cfg0.N) : (ms0_38 t).IsWhole := hstage0_38 ((cfg0.slots t 38).cast nbuf0_38)
abbrev ms0_39 (t : Fin cfg0.N) : Memref sig .tc .vmem S2x2048 .f32 := win0_39.stage (cfg0.slots t 39)
abbrev hs0_39 (t : Fin cfg0.N) : (ms0_39 t).IsWhole := hstage0_39 ((cfg0.slots t 39).cast nbuf0_39)
abbrev ms0_40 (t : Fin cfg0.N) : Memref sig .tc .vmem S2x50x2048 .bf16 := win0_40.stage (cfg0.slots t 40)
abbrev hs0_40 (t : Fin cfg0.N) : (ms0_40 t).IsWhole := hstage0_40 ((cfg0.slots t 40).cast nbuf0_40)
abbrev ms0_41 (t : Fin cfg0.N) : Memref sig .tc .vmem S2x51x1024 .fp8e4m3 := win0_41.stage (cfg0.slots t 41)
abbrev hs0_41 (t : Fin cfg0.N) : (ms0_41 t).IsWhole := hstage0_41 ((cfg0.slots t 41).cast nbuf0_41)
abbrev ms0_42 (t : Fin cfg0.N) : Memref sig .tc .vmem S2x51x1 .f32 := win0_42.stage (cfg0.slots t 42)
abbrev hs0_42 (t : Fin cfg0.N) : (ms0_42 t).IsWhole := hstage0_42 ((cfg0.slots t 42).cast nbuf0_42)
abbrev ms0_43 (t : Fin cfg0.N) : Memref sig .tc .vmem S2x51x2048 .fp8e4m3 := win0_43.stage (cfg0.slots t 43)
abbrev hs0_43 (t : Fin cfg0.N) : (ms0_43 t).IsWhole := hstage0_43 ((cfg0.slots t 43).cast nbuf0_43)
abbrev ms0_44 (t : Fin cfg0.N) : Memref sig .tc .vmem S2x51x1 .f32 := win0_44.stage (cfg0.slots t 44)
abbrev hs0_44 (t : Fin cfg0.N) : (ms0_44 t).IsWhole := hstage0_44 ((cfg0.slots t 44).cast nbuf0_44)
abbrev ms0_45 (t : Fin cfg0.N) : Memref sig .tc .vmem S2x51x1024 .fp8e4m3 := win0_45.stage (cfg0.slots t 45)
abbrev hs0_45 (t : Fin cfg0.N) : (ms0_45 t).IsWhole := hstage0_45 ((cfg0.slots t 45).cast nbuf0_45)
abbrev ms0_46 (t : Fin cfg0.N) : Memref sig .tc .vmem S2x51x1 .f32 := win0_46.stage (cfg0.slots t 46)
abbrev hs0_46 (t : Fin cfg0.N) : (ms0_46 t).IsWhole := hstage0_46 ((cfg0.slots t 46).cast nbuf0_46)
abbrev ms0_47 (t : Fin cfg0.N) : Memref sig .tc .vmem S2x51x4096 .fp8e4m3 := win0_47.stage (cfg0.slots t 47)
abbrev hs0_47 (t : Fin cfg0.N) : (ms0_47 t).IsWhole := hstage0_47 ((cfg0.slots t 47).cast nbuf0_47)
abbrev ms0_48 (t : Fin cfg0.N) : Memref sig .tc .vmem S2x51x1 .f32 := win0_48.stage (cfg0.slots t 48)
abbrev hs0_48 (t : Fin cfg0.N) : (ms0_48 t).IsWhole := hstage0_48 ((cfg0.slots t 48).cast nbuf0_48)
abbrev ms0_49 (t : Fin cfg0.N) : Memref sig .tc .vmem S1x2x51x2048 .bf16 := win0_49.stage (cfg0.slots t 49)
abbrev hs0_49 (t : Fin cfg0.N) : (ms0_49 t).IsWhole := hstage0_49 ((cfg0.slots t 49).cast nbuf0_49)
/-- The scratch operands: whole scoped buffers of the kernel's own, passed beside the windows. -/
abbrev scM0_0 : Memref sig .tc .vmem S112x32 .f32 := Memref.whole cc0_scratch0
abbrev scM0_1 : Memref sig .tc .vmem S2x1024 .f32 := Memref.whole cc0_scratch1
abbrev scM0_2 : Memref sig .tc .vmem S20x1024 .f32 := Memref.whole cc0_scratch2
abbrev scM0_3 : Memref sig .tc .vmem S112x128 .f32 := Memref.whole cc0_scratch3
abbrev scM0_4 : Memref sig .tc .vmem S112x128 .f32 := Memref.whole cc0_scratch4
abbrev scM0_5 : Memref sig .tc .vmem S2x1024x256 .bf16 := Memref.whole cc0_scratch5
abbrev scM0_6 : Memref sig .tc .vmem S2x1024x256 .bf16 := Memref.whole cc0_scratch6
abbrev scM0_7 : Memref sig .tc .vmem S2x1024 .f32 := Memref.whole cc0_scratch7
abbrev scM0_8 : Memref sig .tc .vmem S2x1024 .f32 := Memref.whole cc0_scratch8
abbrev scM0_9 : Memref sig .tc .vmem S112x2048 .f32 := Memref.whole cc0_scratch9
abbrev VS0_0 : View sig .tc .vmem S112x32 .f32 := scM0_0.view
abbrev VS0_1 : View sig .tc .vmem S2x1024 .f32 := scM0_1.view
abbrev VS0_2 : View sig .tc .vmem S20x1024 .f32 := scM0_2.view
abbrev VS0_3 : View sig .tc .vmem S112x128 .f32 := scM0_3.view
abbrev VS0_4 : View sig .tc .vmem S112x128 .f32 := scM0_4.view
abbrev VS0_5 : View sig .tc .vmem S2x1024x256 .bf16 := scM0_5.view
abbrev VS0_6 : View sig .tc .vmem S2x1024x256 .bf16 := scM0_6.view
abbrev VS0_7 : View sig .tc .vmem S2x1024 .f32 := scM0_7.view
abbrev VS0_8 : View sig .tc .vmem S2x1024 .f32 := scM0_8.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := by
  unfold Pipeline.ΦA; rw [scopedRest0_eq]; simp only [scM0_0, scM0_1, scM0_2, scM0_3, scM0_4, scM0_5, scM0_6, scM0_7, scM0_8, scM0_9, owns_whole]; try rfl

/-- The buffers at point `t`. -/
abbrev bufsAt (t : Fin cfg0.N) : Bufs where
  m1 := ms0_0 t
  w1 := hs0_0 t
  m2 := ms0_1 t
  w2 := hs0_1 t
  m3 := ms0_2 t
  w3 := hs0_2 t
  m4 := ms0_3 t
  w4 := hs0_3 t
  m5 := ms0_4 t
  w5 := hs0_4 t
  m6 := ms0_5 t
  w6 := hs0_5 t
  m7 := ms0_6 t
  w7 := hs0_6 t
  m8 := ms0_7 t
  w8 := hs0_7 t
  m9 := ms0_8 t
  w9 := hs0_8 t
  m10 := ms0_9 t
  w10 := hs0_9 t
  m11 := ms0_10 t
  w11 := hs0_10 t
  m12 := ms0_11 t
  w12 := hs0_11 t
  m13 := ms0_12 t
  w13 := hs0_12 t
  m14 := ms0_13 t
  w14 := hs0_13 t
  m15 := ms0_14 t
  w15 := hs0_14 t
  m16 := ms0_15 t
  w16 := hs0_15 t
  m17 := ms0_16 t
  w17 := hs0_16 t
  m18 := ms0_17 t
  w18 := hs0_17 t
  m19 := ms0_18 t
  w19 := hs0_18 t
  m20 := ms0_19 t
  w20 := hs0_19 t
  m21 := ms0_20 t
  w21 := hs0_20 t
  m22 := ms0_21 t
  w22 := hs0_21 t
  m23 := ms0_22 t
  w23 := hs0_22 t
  m24 := ms0_23 t
  w24 := hs0_23 t
  m25 := ms0_24 t
  w25 := hs0_24 t
  m26 := ms0_25 t
  w26 := hs0_25 t
  m27 := ms0_26 t
  w27 := hs0_26 t
  m28 := ms0_27 t
  w28 := hs0_27 t
  m29 := ms0_28 t
  w29 := hs0_28 t
  m30 := ms0_29 t
  w30 := hs0_29 t
  m31 := ms0_30 t
  w31 := hs0_30 t
  m32 := ms0_31 t
  w32 := hs0_31 t
  m33 := ms0_32 t
  w33 := hs0_32 t
  m34 := ms0_33 t
  w34 := hs0_33 t
  m35 := ms0_34 t
  w35 := hs0_34 t
  m36 := ms0_35 t
  w36 := hs0_35 t
  m37 := ms0_36 t
  w37 := hs0_36 t
  m38 := ms0_37 t
  w38 := hs0_37 t
  m39 := ms0_38 t
  w39 := hs0_38 t
  m40 := ms0_39 t
  w40 := hs0_39 t
  m41 := ms0_40 t
  w41 := hs0_40 t
  m42 := ms0_41 t
  w42 := hs0_41 t
  m43 := ms0_42 t
  w43 := hs0_42 t
  m44 := ms0_43 t
  w44 := hs0_43 t
  m45 := ms0_44 t
  w45 := hs0_44 t
  m46 := ms0_45 t
  w46 := hs0_45 t
  m47 := ms0_46 t
  w47 := hs0_46 t
  m48 := ms0_47 t
  w48 := hs0_47 t
  m49 := ms0_48 t
  w49 := hs0_48 t
  m50 := ms0_49 t
  w50 := hs0_49 t
  m51 := scM0_0
  w51 := Memref.isWhole_whole _
  m52 := scM0_1
  w52 := Memref.isWhole_whole _
  m53 := scM0_2
  w53 := Memref.isWhole_whole _
  m54 := scM0_3
  w54 := Memref.isWhole_whole _
  m55 := scM0_4
  w55 := Memref.isWhole_whole _
  m56 := scM0_5
  w56 := Memref.isWhole_whole _
  m57 := scM0_6
  w57 := Memref.isWhole_whole _
  m58 := scM0_7
  w58 := Memref.isWhole_whole _
  m59 := scM0_8
  w59 := Memref.isWhole_whole _
  m60 := scM0_9
  w60 := Memref.isWhole_whole _

variable (m : (ℓ : Loc nD τ sig) → Buf (Elt F) ℓ)

/-- The inputs' contents at point `t`. -/
abbrev insAt (c : Dev nD) (t : Fin cfg0.N) : Ins F where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t
  x14 := iblk m c 14 t
  x15 := iblk m c 15 t
  x16 := iblk m c 16 t
  x17 := iblk m c 17 t
  x18 := iblk m c 18 t
  x19 := iblk m c 19 t
  x20 := iblk m c 20 t
  x21 := iblk m c 21 t
  x22 := iblk m c 22 t
  x23 := iblk m c 23 t
  x24 := iblk m c 24 t
  x25 := iblk m c 25 t
  x26 := iblk m c 26 t
  x27 := iblk m c 27 t
  x28 := iblk m c 28 t
  x29 := iblk m c 29 t
  x30 := iblk m c 30 t
  x31 := iblk m c 31 t
  x32 := iblk m c 32 t
  x33 := iblk m c 33 t

end Cert.KernelIdeal.Named

end
-- ==== Proof.PartsInit.lean ====
/- The parts of the body that run at the first grid point only and fill the scratch. -/
module

public import proofs.«01_k».proof.Proof.Bufs
public import Idealize.ShloMosaic.Lib.VecWindow

@[expose] public section

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- Part 1 of the body: what it returns and what it leaves in the buffers it stores to. -/
theorem wp_part1 (c : Dev nD) (i : grid0.Coords) (a : Bufs)  (X51 : Vec F S112x32 .f32) (X54 : Vec F S112x128 .f32) (X55 : Vec F S112x128 .f32) (X56 : Vec F S2x1024x256 .bf16) (X57 : Vec F S2x1024x256 .bf16) (X58 : Vec F S2x1024 .f32) (X59 : Vec F S2x1024 .f32)
    (E : Set ℕ) (K : (PUnit) → sProp 𝕄) :
    iprop(owns (c : Thread nD τ) a.m51 fullShare X51 ∗ owns (c : Thread nD τ) a.m54 fullShare X54 ∗ owns (c : Thread nD τ) a.m55 fullShare X55 ∗ owns (c : Thread nD τ) a.m56 fullShare X56 ∗ owns (c : Thread nD τ) a.m57 fullShare X57 ∗ owns (c : Thread nD τ) a.m58 fullShare X58 ∗ owns (c : Thread nD τ) a.m59 fullShare X59 ∗
      (∀ (r : (PUnit)) (Y51 : Vec F S112x32 .f32) (Y54 : Vec F S112x128 .f32) (Y55 : Vec F S112x128 .f32) (Y56 : Vec F S2x1024x256 .bf16) (Y57 : Vec F S2x1024x256 .bf16) (Y58 : Vec F S2x1024 .f32) (Y59 : Vec F S2x1024 .f32), iprop(⌜r = PUnit.unit ∧ Y51 = (k0_pay5 (F := F)) ∧ Y54 = (k0_pay6 (F := F)) ∧ Y55 = (k0_pay7 (F := F)) ∧ Y56 = (k0_pay8 (F := F)) ∧ Y57 = (k0_pay9 (F := F)) ∧ Y58 = (k0_pay10 (F := F)) ∧ Y59 = (k0_pay11 (F := F))⌝ ∗ owns (c : Thread nD τ) a.m51 fullShare Y51 ∗ owns (c : Thread nD τ) a.m54 fullShare Y54 ∗ owns (c : Thread nD τ) a.m55 fullShare Y55 ∗ owns (c : Thread nD τ) a.m56 fullShare Y56 ∗ owns (c : Thread nD τ) a.m57 fullShare Y57 ∗ owns (c : Thread nD τ) a.m58 fullShare Y58 ∗ owns (c : Thread nD τ) a.m59 fullShare Y59) -∗ K r))
    ⊢ wp frame (wpE (defs₀ (F := F)) Variants.none c none) E (k0_part1 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 ) K := by
  rw [k0_part1_eq_skeleton]
  unfold k0_part1_skel owns
  iintro ⟨⟨%f51, %h51, H51⟩, ⟨%f54, %h54, H54⟩, ⟨%f55, %h55, H55⟩, ⟨%f56, %h56, H56⟩, ⟨%f57, %h57, H57⟩, ⟨%f58, %h58, H58⟩, ⟨%f59, %h59, H59⟩, Hk⟩
  subst h51 h54 h55 h56 h57 h58 h59
  sl_exec
  sl_step
  iapply Hk
  isplitr
  · ipureintro
    exact ⟨rfl, rfl, rfl, rfl, rfl, rfl, rfl, rfl⟩
  isplitl [H51]
  · iexists _; isplitr; swap; · iexact H51
    ipureintro; exact View.read_writes_full _ _ _ _ _
  isplitl [H54]
  · iexists _; isplitr; swap; · iexact H54
    ipureintro; exact View.read_writes_full _ _ _ _ _
  isplitl [H55]
  · iexists _; isplitr; swap; · iexact H55
    ipureintro; exact View.read_writes_full _ _ _ _ _
  isplitl [H56]
  · iexists _; isplitr; swap; · iexact H56
    ipureintro; exact View.read_writes_full _ _ _ _ _
  isplitl [H57]
  · iexists _; isplitr; swap; · iexact H57
    ipureintro; exact View.read_writes_full _ _ _ _ _
  isplitl [H58]
  · iexists _; isplitr; swap; · iexact H58
    ipureintro; exact View.read_writes_full _ _ _ _ _
  iexists _; isplitr; swap; · iexact H59
  ipureintro; exact View.read_writes_full _ _ _ _ _

/-- Part 2 of the body: what it returns and what it leaves in the buffers it stores to. -/
theorem wp_part2 (c : Dev nD) (i : grid0.Coords) (a : Bufs)  (X2 : Vec F S2x50x32 .f32) (X28 : Vec F S2x896x256 .i8) (X29 : Vec F S2x896x256 .i8) (X32 : Vec F S2x51x128 .f32) (X33 : Vec F S2x51x128 .f32) (X51 : Vec F S112x32 .f32) (X54 : Vec F S112x128 .f32) (X55 : Vec F S112x128 .f32) (X56 : Vec F S2x1024x256 .bf16) (X57 : Vec F S2x1024x256 .bf16)
    (E : Set ℕ) (K : (PUnit) → sProp 𝕄) :
    iprop(owns (c : Thread nD τ) a.m2 fullShare X2 ∗ owns (c : Thread nD τ) a.m28 fullShare X28 ∗ owns (c : Thread nD τ) a.m29 fullShare X29 ∗ owns (c : Thread nD τ) a.m32 fullShare X32 ∗ owns (c : Thread nD τ) a.m33 fullShare X33 ∗ owns (c : Thread nD τ) a.m51 fullShare X51 ∗ owns (c : Thread nD τ) a.m54 fullShare X54 ∗ owns (c : Thread nD τ) a.m55 fullShare X55 ∗ owns (c : Thread nD τ) a.m56 fullShare X56 ∗ owns (c : Thread nD τ) a.m57 fullShare X57 ∗
      (∀ (r : (PUnit)) (Y51 : Vec F S112x32 .f32) (Y54 : Vec F S112x128 .f32) (Y55 : Vec F S112x128 .f32) (Y56 : Vec F S2x1024x256 .bf16) (Y57 : Vec F S2x1024x256 .bf16), iprop(⌜r = PUnit.unit ∧ Y51 = (VecWindow.put X51 ![1, 0] S50x32.size (k0_pay12 (View.ld X2 (Rect.unit (s := S2x50x32) ![0, 0, 0] S1x50x32.size inb_S2x50x32_S1x50x32_0_0_0)))) ∧ Y54 = (VecWindow.put X54 ![0, 0] S51x128.size (k0_pay13 (View.ld X32 (Rect.unit (s := S2x51x128) ![0, 0, 0] S1x51x128.size inb_S2x51x128_S1x51x128_0_0_0)))) ∧ Y55 = (VecWindow.put X55 ![0, 0] S51x128.size (k0_pay14 (View.ld X33 (Rect.unit (s := S2x51x128) ![0, 0, 0] S1x51x128.size inb_S2x51x128_S1x51x128_0_0_0)))) ∧ Y56 = (VecWindow.put X56 ![0, 0, 0] S1x896x256.size (k0_pay15 (View.ld X28 (Rect.unit (s := S2x896x256) ![0, 0, 0] S1x896x256.size inb_S2x896x256_S1x896x256_0_0_0)))) ∧ Y57 = (VecWindow.put X57 ![0, 0, 0] S1x896x256.size (k0_pay16 (View.ld X29 (Rect.unit (s := S2x896x256) ![0, 0, 0] S1x896x256.size inb_S2x896x256_S1x896x256_0_0_0))))⌝ ∗ owns (c : Thread nD τ) a.m2 fullShare X2 ∗ owns (c : Thread nD τ) a.m28 fullShare X28 ∗ owns (c : Thread nD τ) a.m29 fullShare X29 ∗ owns (c : Thread nD τ) a.m32 fullShare X32 ∗ owns (c : Thread nD τ) a.m33 fullShare X33 ∗ owns (c : Thread nD τ) a.m51 fullShare Y51 ∗ owns (c : Thread nD τ) a.m54 fullShare Y54 ∗ owns (c : Thread nD τ) a.m55 fullShare Y55 ∗ owns (c : Thread nD τ) a.m56 fullShare Y56 ∗ owns (c : Thread nD τ) a.m57 fullShare Y57) -∗ K r))
    ⊢ wp frame (wpE (defs₀ (F := F)) Variants.none c none) E (k0_part2 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 ) K := by
  rw [k0_part2_eq_skeleton]
  unfold k0_part2_skel owns
  iintro ⟨⟨%f2, %h2, H2⟩, ⟨%f28, %h28, H28⟩, ⟨%f29, %h29, H29⟩, ⟨%f32, %h32, H32⟩, ⟨%f33, %h33, H33⟩, ⟨%f51, %h51, H51⟩, ⟨%f54, %h54, H54⟩, ⟨%f55, %h55, H55⟩, ⟨%f56, %h56, H56⟩, ⟨%f57, %h57, H57⟩, Hk⟩
  subst h2 h28 h29 h32 h33 h51 h54 h55 h56 h57
  sl_exec
  sl_step
  iapply Hk
  isplitr
  · ipureintro
    exact ⟨rfl, rfl, rfl, rfl, rfl, rfl⟩
  isplitl [H2]
  · iexists _; isplitr; swap; · iexact H2
    ipureintro; rfl
  isplitl [H28]
  · iexists _; isplitr; swap; · iexact H28
    ipureintro; rfl
  isplitl [H29]
  · iexists _; isplitr; swap; · iexact H29
    ipureintro; rfl
  isplitl [H32]
  · iexists _; isplitr; swap; · iexact H32
    ipureintro; rfl
  isplitl [H33]
  · iexists _; isplitr; swap; · iexact H33
    ipureintro; rfl
  isplitl [H51]
  · iexists _; isplitr; swap; · iexact H51
    ipureintro; exact View.read_writes_cons_put _ _ _ _ [] rfl
  isplitl [H54]
  · iexists _; isplitr; swap; · iexact H54
    ipureintro; exact View.read_writes_cons_put _ _ _ _ [] rfl
  isplitl [H55]
  · iexists _; isplitr; swap; · iexact H55
    ipureintro; exact View.read_writes_cons_put _ _ _ _ [] rfl
  isplitl [H56]
  · iexists _; isplitr; swap; · iexact H56
    ipureintro; exact View.read_writes_cons_put _ _ _ _ [] rfl
  iexists _; isplitr; swap; · iexact H57
  ipureintro; exact View.read_writes_cons_put _ _ _ _ [] rfl

/-- Part 3 of the body: what it returns and what it leaves in the buffers it stores to. -/
theorem wp_part3 (c : Dev nD) (i : grid0.Coords) (a : Bufs)  (X2 : Vec F S2x50x32 .f32) (X28 : Vec F S2x896x256 .i8) (X30 : Vec F S2x896 .f32) (X31 : Vec F S2x896 .f32) (X32 : Vec F S2x51x128 .f32) (X33 : Vec F S2x51x128 .f32) (X51 : Vec F S112x32 .f32) (X54 : Vec F S112x128 .f32) (X55 : Vec F S112x128 .f32) (X58 : Vec F S2x1024 .f32) (X59 : Vec F S2x1024 .f32)
    (E : Set ℕ) (K : (IVec S896x256 8) → sProp 𝕄) :
    iprop(owns (c : Thread nD τ) a.m2 fullShare X2 ∗ owns (c : Thread nD τ) a.m28 fullShare X28 ∗ owns (c : Thread nD τ) a.m30 fullShare X30 ∗ owns (c : Thread nD τ) a.m31 fullShare X31 ∗ owns (c : Thread nD τ) a.m32 fullShare X32 ∗ owns (c : Thread nD τ) a.m33 fullShare X33 ∗ owns (c : Thread nD τ) a.m51 fullShare X51 ∗ owns (c : Thread nD τ) a.m54 fullShare X54 ∗ owns (c : Thread nD τ) a.m55 fullShare X55 ∗ owns (c : Thread nD τ) a.m58 fullShare X58 ∗ owns (c : Thread nD τ) a.m59 fullShare X59 ∗
      (∀ (r : (IVec S896x256 8)) (Y51 : Vec F S112x32 .f32) (Y54 : Vec F S112x128 .f32) (Y55 : Vec F S112x128 .f32) (Y58 : Vec F S2x1024 .f32) (Y59 : Vec F S2x1024 .f32), iprop(⌜r = (k0_pay22 (View.ld X28 (Rect.unit (s := S2x896x256) ![1, 0, 0] S1x896x256.size inb_S2x896x256_S1x896x256_1_0_0))) ∧ Y51 = (VecWindow.put X51 ![57, 0] S50x32.size (k0_pay19 (View.ld X2 (Rect.unit (s := S2x50x32) ![1, 0, 0] S1x50x32.size inb_S2x50x32_S1x50x32_1_0_0)))) ∧ Y54 = (VecWindow.put X54 ![56, 0] S51x128.size (k0_pay20 (View.ld X32 (Rect.unit (s := S2x51x128) ![1, 0, 0] S1x51x128.size inb_S2x51x128_S1x51x128_1_0_0)))) ∧ Y55 = (VecWindow.put X55 ![56, 0] S51x128.size (k0_pay21 (View.ld X33 (Rect.unit (s := S2x51x128) ![1, 0, 0] S1x51x128.size inb_S2x51x128_S1x51x128_1_0_0)))) ∧ Y58 = (VecWindow.put X58 ![0, 0] S1x896.size (k0_pay17 (View.ld X30 (Rect.unit (s := S2x896) ![0, 0] S1x896.size inb_S2x896_S1x896_0_0)))) ∧ Y59 = (VecWindow.put X59 ![0, 0] S1x896.size (k0_pay18 (View.ld X31 (Rect.unit (s := S2x896) ![0, 0] S1x896.size inb_S2x896_S1x896_0_0))))⌝ ∗ owns (c : Thread nD τ) a.m2 fullShare X2 ∗ owns (c : Thread nD τ) a.m28 fullShare X28 ∗ owns (c : Thread nD τ) a.m30 fullShare X30 ∗ owns (c : Thread nD τ) a.m31 fullShare X31 ∗ owns (c : Thread nD τ) a.m32 fullShare X32 ∗ owns (c : Thread nD τ) a.m33 fullShare X33 ∗ owns (c : Thread nD τ) a.m51 fullShare Y51 ∗ owns (c : Thread nD τ) a.m54 fullShare Y54 ∗ owns (c : Thread nD τ) a.m55 fullShare Y55 ∗ owns (c : Thread nD τ) a.m58 fullShare Y58 ∗ owns (c : Thread nD τ) a.m59 fullShare Y59) -∗ K r))
    ⊢ wp frame (wpE (defs₀ (F := F)) Variants.none c none) E (k0_part3 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 ) K := by
  rw [k0_part3_eq_skeleton]
  unfold k0_part3_skel owns
  iintro ⟨⟨%f2, %h2, H2⟩, ⟨%f28, %h28, H28⟩, ⟨%f30, %h30, H30⟩, ⟨%f31, %h31, H31⟩, ⟨%f32, %h32, H32⟩, ⟨%f33, %h33, H33⟩, ⟨%f51, %h51, H51⟩, ⟨%f54, %h54, H54⟩, ⟨%f55, %h55, H55⟩, ⟨%f58, %h58, H58⟩, ⟨%f59, %h59, H59⟩, Hk⟩
  subst h2 h28 h30 h31 h32 h33 h51 h54 h55 h58 h59
  sl_exec
  sl_step
  iapply Hk
  isplitr
  · ipureintro
    exact ⟨rfl, rfl, rfl, rfl, rfl, rfl⟩
  isplitl [H2]
  · iexists _; isplitr; swap; · iexact H2
    ipureintro; rfl
  isplitl [H28]
  · iexists _; isplitr; swap; · iexact H28
    ipureintro; rfl
  isplitl [H30]
  · iexists _; isplitr; swap; · iexact H30
    ipureintro; rfl
  isplitl [H31]
  · iexists _; isplitr; swap; · iexact H31
    ipureintro; rfl
  isplitl [H32]
  · iexists _; isplitr; swap; · iexact H32
    ipureintro; rfl
  isplitl [H33]
  · iexists _; isplitr; swap; · iexact H33
    ipureintro; rfl
  isplitl [H51]
  · iexists _; isplitr; swap; · iexact H51
    ipureintro; exact View.read_writes_cons_put _ _ _ _ [] rfl
  isplitl [H54]
  · iexists _; isplitr; swap; · iexact H54
    ipureintro; exact View.read_writes_cons_put _ _ _ _ [] rfl
  isplitl [H55]
  · iexists _; isplitr; swap; · iexact H55
    ipureintro; exact View.read_writes_cons_put _ _ _ _ [] rfl
  isplitl [H58]
  · iexists _; isplitr; swap; · iexact H58
    ipureintro; exact View.read_writes_cons_put _ _ _ _ [] rfl
  iexists _; isplitr; swap; · iexact H59
  ipureintro; exact View.read_writes_cons_put _ _ _ _ [] rfl

/-- Part 4 of the body: what it returns and what it leaves in the buffers it stores to. -/
theorem wp_part4 (c : Dev nD) (i : grid0.Coords) (a : Bufs) (v739 : IVec S896x256 8) (X3 : Vec F S2x32 .f32) (X6 : Vec F S32x1024 .f32) (X7 : Vec F S1x1024 .f32) (X29 : Vec F S2x896x256 .i8) (X30 : Vec F S2x896 .f32) (X31 : Vec F S2x896 .f32) (X56 : Vec F S2x1024x256 .bf16) (X57 : Vec F S2x1024x256 .bf16) (X58 : Vec F S2x1024 .f32) (X59 : Vec F S2x1024 .f32)
    (E : Set ℕ) (K : (FVec F S2x1024 .f32) → sProp 𝕄) :
    iprop(owns (c : Thread nD τ) a.m3 fullShare X3 ∗ owns (c : Thread nD τ) a.m6 fullShare X6 ∗ owns (c : Thread nD τ) a.m7 fullShare X7 ∗ owns (c : Thread nD τ) a.m29 fullShare X29 ∗ owns (c : Thread nD τ) a.m30 fullShare X30 ∗ owns (c : Thread nD τ) a.m31 fullShare X31 ∗ owns (c : Thread nD τ) a.m56 fullShare X56 ∗ owns (c : Thread nD τ) a.m57 fullShare X57 ∗ owns (c : Thread nD τ) a.m58 fullShare X58 ∗ owns (c : Thread nD τ) a.m59 fullShare X59 ∗
      (∀ (r : (FVec F S2x1024 .f32)) (Y56 : Vec F S2x1024x256 .bf16) (Y57 : Vec F S2x1024x256 .bf16) (Y58 : Vec F S2x1024 .f32) (Y59 : Vec F S2x1024 .f32), iprop(⌜r = (k0_pay27 (View.ld X3 (Rect.unit (s := S2x32) ![0, 0] S2x32.size inb_S2x32_S2x32_0_0)) (View.ld X6 (Rect.unit (s := S32x1024) ![0, 0] S32x1024.size inb_S32x1024_S32x1024_0_0)) (View.ld X7 (Rect.unit (s := S1x1024) ![0, 0] S1x1024.size inb_S1x1024_S1x1024_0_0))) ∧ Y56 = (VecWindow.put X56 ![1, 0, 0] S1x896x256.size (k0_pay23 (F := F) v739)) ∧ Y57 = (VecWindow.put X57 ![1, 0, 0] S1x896x256.size (k0_pay24 (View.ld X29 (Rect.unit (s := S2x896x256) ![1, 0, 0] S1x896x256.size inb_S2x896x256_S1x896x256_1_0_0)))) ∧ Y58 = (VecWindow.put X58 ![1, 0] S1x896.size (k0_pay25 (View.ld X30 (Rect.unit (s := S2x896) ![1, 0] S1x896.size inb_S2x896_S1x896_1_0)))) ∧ Y59 = (VecWindow.put X59 ![1, 0] S1x896.size (k0_pay26 (View.ld X31 (Rect.unit (s := S2x896) ![1, 0] S1x896.size inb_S2x896_S1x896_1_0))))⌝ ∗ owns (c : Thread nD τ) a.m3 fullShare X3 ∗ owns (c : Thread nD τ) a.m6 fullShare X6 ∗ owns (c : Thread nD τ) a.m7 fullShare X7 ∗ owns (c : Thread nD τ) a.m29 fullShare X29 ∗ owns (c : Thread nD τ) a.m30 fullShare X30 ∗ owns (c : Thread nD τ) a.m31 fullShare X31 ∗ owns (c : Thread nD τ) a.m56 fullShare Y56 ∗ owns (c : Thread nD τ) a.m57 fullShare Y57 ∗ owns (c : Thread nD τ) a.m58 fullShare Y58 ∗ owns (c : Thread nD τ) a.m59 fullShare Y59) -∗ K r))
    ⊢ wp frame (wpE (defs₀ (F := F)) Variants.none c none) E (k0_part4 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 v739) K := by
  rw [k0_part4_eq_skeleton]
  unfold k0_part4_skel owns
  iintro ⟨⟨%f3, %h3, H3⟩, ⟨%f6, %h6, H6⟩, ⟨%f7, %h7, H7⟩, ⟨%f29, %h29, H29⟩, ⟨%f30, %h30, H30⟩, ⟨%f31, %h31, H31⟩, ⟨%f56, %h56, H56⟩, ⟨%f57, %h57, H57⟩, ⟨%f58, %h58, H58⟩, ⟨%f59, %h59, H59⟩, Hk⟩
  subst h3 h6 h7 h29 h30 h31 h56 h57 h58 h59
  sl_exec
  sl_step
  iapply Hk
  isplitr
  · ipureintro
    exact ⟨rfl, rfl, rfl, rfl, rfl⟩
  isplitl [H3]
  · iexists _; isplitr; swap; · iexact H3
    ipureintro; rfl
  isplitl [H6]
  · iexists _; isplitr; swap; · iexact H6
    ipureintro; rfl
  isplitl [H7]
  · iexists _; isplitr; swap; · iexact H7
    ipureintro; rfl
  isplitl [H29]
  · iexists _; isplitr; swap; · iexact H29
    ipureintro; rfl
  isplitl [H30]
  · iexists _; isplitr; swap; · iexact H30
    ipureintro; rfl
  isplitl [H31]
  · iexists _; isplitr; swap; · iexact H31
    ipureintro; rfl
  isplitl [H56]
  · iexists _; isplitr; swap; · iexact H56
    ipureintro; exact View.read_writes_cons_put _ _ _ _ [] rfl
  isplitl [H57]
  · iexists _; isplitr; swap; · iexact H57
    ipureintro; exact View.read_writes_cons_put _ _ _ _ [] rfl
  isplitl [H58]
  · iexists _; isplitr; swap; · iexact H58
    ipureintro; exact View.read_writes_cons_put _ _ _ _ [] rfl
  iexists _; isplitr; swap; · iexact H59
  ipureintro; exact View.read_writes_cons_put _ _ _ _ [] rfl

end Cert.KernelIdeal.Named

end
-- ==== Proof.PartsA.lean ====
/- The parts of the body up to the attention of the first sequence. -/
module

public import proofs.«01_k».proof.Proof.Bufs
public import Idealize.ShloMosaic.Lib.VecWindow

@[expose] public section

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- Part 9 of the body: what it returns and what it leaves in the buffers it stores to. -/
theorem wp_part9 (c : Dev nD) (i : grid0.Coords) (a : Bufs) (v3 : IVec S56x1 32) (v33 : FVec F S112x1024 .f32) (v34 : Vec F S1x1024 .f32) (X15 : Vec F S1x1024 .f32) (X52 : Vec F S2x1024 .f32)
    (E : Set ℕ) (K : (Σ' (v56 : FVec F S112x1024 .f32) (v71 : FVec F S112x1024 .f32) (v76 : IVec S112x1 1) (v78 : FVec F S112x1 .f32), F .f32) → sProp 𝕄) :
    iprop(owns (c : Thread nD τ) a.m15 fullShare X15 ∗ owns (c : Thread nD τ) a.m52 fullShare X52 ∗
      (∀ (r : (Σ' (v56 : FVec F S112x1024 .f32) (v71 : FVec F S112x1024 .f32) (v76 : IVec S112x1 1) (v78 : FVec F S112x1 .f32), F .f32)), iprop(⌜r = ⟨k0_pay53 v3 v33 v34 (View.ld X52 (Rect.unit (s := S2x1024) ![0, 0] S1x1024.size inb_S2x1024_S1x1024_0_0)) (View.ld X52 (Rect.unit (s := S2x1024) ![1, 0] S1x1024.size inb_S2x1024_S1x1024_1_0)), k0_pay54 v3 v33 v34 (View.ld X52 (Rect.unit (s := S2x1024) ![0, 0] S1x1024.size inb_S2x1024_S1x1024_0_0)) (View.ld X52 (Rect.unit (s := S2x1024) ![1, 0] S1x1024.size inb_S2x1024_S1x1024_1_0)) (View.ld X15 (Rect.unit (s := S1x1024) ![0, 0] S1x1024.size inb_S1x1024_S1x1024_0_0)), k0_pay56 v3 v33 v34 (View.ld X52 (Rect.unit (s := S2x1024) ![0, 0] S1x1024.size inb_S2x1024_S1x1024_0_0)) (View.ld X52 (Rect.unit (s := S2x1024) ![1, 0] S1x1024.size inb_S2x1024_S1x1024_1_0)) (View.ld X15 (Rect.unit (s := S1x1024) ![0, 0] S1x1024.size inb_S1x1024_S1x1024_0_0)), k0_pay57 v3 v33 v34 (View.ld X52 (Rect.unit (s := S2x1024) ![0, 0] S1x1024.size inb_S2x1024_S1x1024_0_0)) (View.ld X52 (Rect.unit (s := S2x1024) ![1, 0] S1x1024.size inb_S2x1024_S1x1024_1_0)) (View.ld X15 (Rect.unit (s := S1x1024) ![0, 0] S1x1024.size inb_S1x1024_S1x1024_0_0)), (Scalar.ofBits .f32 0x3F800000#32)⟩⌝ ∗ owns (c : Thread nD τ) a.m15 fullShare X15 ∗ owns (c : Thread nD τ) a.m52 fullShare X52) -∗ K r))
    ⊢ wp frame (wpE (defs₀ (F := F)) Variants.none c none) E (k0_part9 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 v3 v33 v34) K := by
  rw [k0_part9_eq_skeleton]
  unfold k0_part9_skel owns
  iintro ⟨⟨%f15, %h15, H15⟩, ⟨%f52, %h52, H52⟩, Hk⟩
  subst h15 h52
  sl_exec
  sl_step
  iapply Hk
  isplitr
  · ipureintro
    rfl
  isplitl [H15]
  · iexists _; isplitr; swap; · iexact H15
    ipureintro; rfl
  iexists _; isplitr; swap; · iexact H52
  ipureintro; rfl

/-- Part 10 of the body: what it returns and what it leaves in the buffers it stores to. -/
theorem wp_part10 (c : Dev nD) (i : grid0.Coords) (a : Bufs) (v71 : FVec F S112x1024 .f32) (v76 : IVec S112x1 1) (v78 : FVec F S112x1 .f32) (cst_32 : F .f32) (X17 : Vec F S1024x2560 .fp8e4m3) (X18 : Vec F S1x2560 .f32) (X54 : Vec F S112x128 .f32) (X55 : Vec F S112x128 .f32)
    (E : Set ℕ) (K : (Σ' (v80 : FVec F S112x1 .f32) (v89 : FVec F S128x1024 .fp8e4m3) (v98 : FVec F S112x2560 .f32) (v99 : Vec F S112x128 .f32) (v100 : Vec F S112x128 .f32) (v110 : FVec F S112x256 .f32) (v111 : FVec F S112x256 .f32) (v121 : FVec F S112x256 .f32) (v123 : FVec F S112x128 .f32) (v124 : FVec F S112x128 .f32) (v125 : FVec F S112x128 .f32), FVec F S112x128 .f32) → sProp 𝕄) :
    iprop(owns (c : Thread nD τ) a.m17 fullShare X17 ∗ owns (c : Thread nD τ) a.m18 fullShare X18 ∗ owns (c : Thread nD τ) a.m54 fullShare X54 ∗ owns (c : Thread nD τ) a.m55 fullShare X55 ∗
      (∀ (r : (Σ' (v80 : FVec F S112x1 .f32) (v89 : FVec F S128x1024 .fp8e4m3) (v98 : FVec F S112x2560 .f32) (v99 : Vec F S112x128 .f32) (v100 : Vec F S112x128 .f32) (v110 : FVec F S112x256 .f32) (v111 : FVec F S112x256 .f32) (v121 : FVec F S112x256 .f32) (v123 : FVec F S112x128 .f32) (v124 : FVec F S112x128 .f32) (v125 : FVec F S112x128 .f32), FVec F S112x128 .f32)), iprop(⌜r = ⟨k0_pay58 v76 v78 cst_32, k0_pay59 v71 v76 v78 cst_32, k0_pay60 v71 v76 v78 cst_32 (View.ld X17 (Rect.unit (s := S1024x2560) ![0, 0] S1024x2560.size inb_S1024x2560_S1024x2560_0_0)) (View.ld X18 (Rect.unit (s := S1x2560) ![0, 0] S1x2560.size inb_S1x2560_S1x2560_0_0)), (View.ld X54 (Rect.unit (s := S112x128) ![0, 0] S112x128.size inb_S112x128_S112x128_0_0)), (View.ld X55 (Rect.unit (s := S112x128) ![0, 0] S112x128.size inb_S112x128_S112x128_0_0)), k0_pay61 v71 v76 v78 cst_32 (View.ld X17 (Rect.unit (s := S1024x2560) ![0, 0] S1024x2560.size inb_S1024x2560_S1024x2560_0_0)) (View.ld X18 (Rect.unit (s := S1x2560) ![0, 0] S1x2560.size inb_S1x2560_S1x2560_0_0)) (View.ld X54 (Rect.unit (s := S112x128) ![0, 0] S112x128.size inb_S112x128_S112x128_0_0)) (View.ld X55 (Rect.unit (s := S112x128) ![0, 0] S112x128.size inb_S112x128_S112x128_0_0)), k0_pay62 v71 v76 v78 cst_32 (View.ld X17 (Rect.unit (s := S1024x2560) ![0, 0] S1024x2560.size inb_S1024x2560_S1024x2560_0_0)) (View.ld X18 (Rect.unit (s := S1x2560) ![0, 0] S1x2560.size inb_S1x2560_S1x2560_0_0)), k0_pay63 v71 v76 v78 cst_32 (View.ld X17 (Rect.unit (s := S1024x2560) ![0, 0] S1024x2560.size inb_S1024x2560_S1024x2560_0_0)) (View.ld X18 (Rect.unit (s := S1x2560) ![0, 0] S1x2560.size inb_S1x2560_S1x2560_0_0)) (View.ld X54 (Rect.unit (s := S112x128) ![0, 0] S112x128.size inb_S112x128_S112x128_0_0)) (View.ld X55 (Rect.unit (s := S112x128) ![0, 0] S112x128.size inb_S112x128_S112x128_0_0)), k0_pay65 v71 v76 v78 cst_32 (View.ld X17 (Rect.unit (s := S1024x2560) ![0, 0] S1024x2560.size inb_S1024x2560_S1024x2560_0_0)) (View.ld X18 (Rect.unit (s := S1x2560) ![0, 0] S1x2560.size inb_S1x2560_S1x2560_0_0)), k0_pay66 v71 v76 v78 cst_32 (View.ld X17 (Rect.unit (s := S1024x2560) ![0, 0] S1024x2560.size inb_S1024x2560_S1024x2560_0_0)) (View.ld X18 (Rect.unit (s := S1x2560) ![0, 0] S1x2560.size inb_S1x2560_S1x2560_0_0)), k0_pay67 v71 v76 v78 cst_32 (View.ld X17 (Rect.unit (s := S1024x2560) ![0, 0] S1024x2560.size inb_S1024x2560_S1024x2560_0_0)) (View.ld X18 (Rect.unit (s := S1x2560) ![0, 0] S1x2560.size inb_S1x2560_S1x2560_0_0)) (View.ld X54 (Rect.unit (s := S112x128) ![0, 0] S112x128.size inb_S112x128_S112x128_0_0)), k0_pay68 v71 v76 v78 cst_32 (View.ld X17 (Rect.unit (s := S1024x2560) ![0, 0] S1024x2560.size inb_S1024x2560_S1024x2560_0_0)) (View.ld X18 (Rect.unit (s := S1x2560) ![0, 0] S1x2560.size inb_S1x2560_S1x2560_0_0)) (View.ld X55 (Rect.unit (s := S112x128) ![0, 0] S112x128.size inb_S112x128_S112x128_0_0))⟩⌝ ∗ owns (c : Thread nD τ) a.m17 fullShare X17 ∗ owns (c : Thread nD τ) a.m18 fullShare X18 ∗ owns (c : Thread nD τ) a.m54 fullShare X54 ∗ owns (c : Thread nD τ) a.m55 fullShare X55) -∗ K r))
    ⊢ wp frame (wpE (defs₀ (F := F)) Variants.none c none) E (k0_part10 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 v71 v76 v78 cst_32) K := by
  rw [k0_part10_eq_skeleton]
  unfold k0_part10_skel owns
  iintro ⟨⟨%f17, %h17, H17⟩, ⟨%f18, %h18, H18⟩, ⟨%f54, %h54, H54⟩, ⟨%f55, %h55, H55⟩, Hk⟩
  subst h17 h18 h54 h55
  sl_exec
  sl_step
  iapply Hk
  isplitr
  · ipureintro
    rfl
  isplitl [H17]
  · iexists _; isplitr; swap; · iexact H17
    ipureintro; rfl
  isplitl [H18]
  · iexists _; isplitr; swap; · iexact H18
    ipureintro; rfl
  isplitl [H54]
  · iexists _; isplitr; swap; · iexact H54
    ipureintro; rfl
  iexists _; isplitr; swap; · iexact H55
  ipureintro; rfl

/-- Part 11 of the body: what it returns and what it leaves in the buffers it stores to. -/
theorem wp_part11 (c : Dev nD) (i : grid0.Coords) (a : Bufs) (v98 : FVec F S112x2560 .f32) (v99 : Vec F S112x128 .f32) (v100 : Vec F S112x128 .f32) (v123 : FVec F S112x128 .f32) (v124 : FVec F S112x128 .f32) (v125 : FVec F S112x128 .f32) (v126 : FVec F S112x128 .f32)
    (E : Set ℕ) (K : (Σ' (v131 : FVec F S112x256 .f32) (v141 : FVec F S112x256 .f32) (v151 : FVec F S112x256 .f32) (v161 : FVec F S112x256 .f32) (v171 : FVec F S112x256 .f32) (v181 : FVec F S112x256 .f32) (v183 : FVec F S112x128 .f32) (v184 : FVec F S112x128 .f32) (v185 : FVec F S112x128 .f32), FVec F S112x128 .f32) → sProp 𝕄) :
    iprop(
      (∀ (r : (Σ' (v131 : FVec F S112x256 .f32) (v141 : FVec F S112x256 .f32) (v151 : FVec F S112x256 .f32) (v161 : FVec F S112x256 .f32) (v171 : FVec F S112x256 .f32) (v181 : FVec F S112x256 .f32) (v183 : FVec F S112x128 .f32) (v184 : FVec F S112x128 .f32) (v185 : FVec F S112x128 .f32), FVec F S112x128 .f32)), iprop(⌜r = ⟨k0_pay69 v99 v100 v123 v124 v125 v126, k0_pay70 v98 v99 v100, k0_pay71 v98 v99 v100, k0_pay72 v98 v99 v100, k0_pay73 v98 v99 v100, k0_pay74 v98 v99 v100, k0_pay76 v98, k0_pay77 v98, k0_pay78 v98 v99, k0_pay79 v98 v100⟩⌝) -∗ K r))
    ⊢ wp frame (wpE (defs₀ (F := F)) Variants.none c none) E (k0_part11 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 v98 v99 v100 v123 v124 v125 v126) K := by
  rw [k0_part11_eq_skeleton]
  unfold k0_part11_skel
  iintro Hk
  sl_exec
  sl_step
  iapply Hk
  ipureintro
  rfl

/-- Part 12 of the body: what it returns and what it leaves in the buffers it stores to. -/
theorem wp_part12 (c : Dev nD) (i : grid0.Coords) (a : Bufs) (v99 : Vec F S112x128 .f32) (v100 : Vec F S112x128 .f32) (v110 : FVec F S112x256 .f32) (v111 : FVec F S112x256 .f32) (v183 : FVec F S112x128 .f32) (v184 : FVec F S112x128 .f32) (v185 : FVec F S112x128 .f32) (v186 : FVec F S112x128 .f32) (X1 : Vec F S2 .i32) (X56 : Vec F S2x1024x256 .bf16) (X57 : Vec F S2x1024x256 .bf16)
    (E : Set ℕ) (K : (Σ' (v191 : FVec F S112x256 .f32) (v192 : IVec S1x1024 32) (v211 : IVec S224x1 1) (v224 : IVec S1x1024 1) (v226 : IVec S1x1024 1), IVec S1x1024 1) → sProp 𝕄) :
    iprop(owns (c : Thread nD τ) a.m1 fullShare X1 ∗ owns (c : Thread nD τ) a.m56 fullShare X56 ∗ owns (c : Thread nD τ) a.m57 fullShare X57 ∗
      (∀ (r : (Σ' (v191 : FVec F S112x256 .f32) (v192 : IVec S1x1024 32) (v211 : IVec S224x1 1) (v224 : IVec S1x1024 1) (v226 : IVec S1x1024 1), IVec S1x1024 1)) (Y56 : Vec F S2x1024x256 .bf16) (Y57 : Vec F S2x1024x256 .bf16), iprop(⌜r = ⟨k0_pay80 v99 v100 v183 v184 v185 v186, (iota .tc S1x1024 32 [1] iota_S1x1024_d1_w32), k0_pay81, k0_pay84 (View.ld X1 (Rect.unit (s := S2) ![0] S1.size inb_S2_S1_0) (Shape.Idx.first (numel1_S1.symm ▸ Nat.one_pos))), k0_pay85, k0_pay86⟩ ∧ Y56 = (VecWindow.put X56 ![0, 896, 0] S1x56x256.size (k0_pay82 v110)) ∧ Y57 = (VecWindow.put X57 ![0, 896, 0] S1x56x256.size (k0_pay83 v111))⌝ ∗ owns (c : Thread nD τ) a.m1 fullShare X1 ∗ owns (c : Thread nD τ) a.m56 fullShare Y56 ∗ owns (c : Thread nD τ) a.m57 fullShare Y57) -∗ K r))
    ⊢ wp frame (wpE (defs₀ (F := F)) Variants.none c none) E (k0_part12 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 v99 v100 v110 v111 v183 v184 v185 v186) K := by
  rw [k0_part12_eq_skeleton]
  unfold k0_part12_skel owns
  iintro ⟨⟨%f1, %h1, H1⟩, ⟨%f56, %h56, H56⟩, ⟨%f57, %h57, H57⟩, Hk⟩
  subst h1 h56 h57
  sl_exec
  sl_step
  iapply Hk
  isplitr
  · ipureintro
    exact ⟨rfl, rfl, rfl⟩
  isplitl [H1]
  · iexists _; isplitr; swap; · iexact H1
    ipureintro; rfl
  isplitl [H56]
  · iexists _; isplitr; swap; · iexact H56
    ipureintro; exact View.read_writes_cons_put _ _ _ _ [] rfl
  iexists _; isplitr; swap; · iexact H57
  ipureintro; exact View.read_writes_cons_put _ _ _ _ [] rfl

/-- Part 13 of the body: what it returns and what it leaves in the buffers it stores to. -/
theorem wp_part13 (c : Dev nD) (i : grid0.Coords) (a : Bufs) (v121 : FVec F S112x256 .f32) (v131 : FVec F S112x256 .f32) (v141 : FVec F S112x256 .f32) (v151 : FVec F S112x256 .f32) (v192 : IVec S1x1024 32) (v211 : IVec S224x1 1) (v224 : IVec S1x1024 1) (v226 : IVec S1x1024 1) (v228 : IVec S1x1024 1) (X1 : Vec F S2 .i32) (X56 : Vec F S2x1024x256 .bf16) (X57 : Vec F S2x1024x256 .bf16) (X58 : Vec F S2x1024 .f32) (X59 : Vec F S2x1024 .f32)
    (E : Set ℕ) (K : (Σ' (v244 : IVec S224x1024 1) (v266 : FVec F S224x1 .f32) (v270 : FVec F S224x1024 .bf16), Vec F S1x1024x256 .bf16) → sProp 𝕄) :
    iprop(owns (c : Thread nD τ) a.m1 fullShare X1 ∗ owns (c : Thread nD τ) a.m56 fullShare X56 ∗ owns (c : Thread nD τ) a.m57 fullShare X57 ∗ owns (c : Thread nD τ) a.m58 fullShare X58 ∗ owns (c : Thread nD τ) a.m59 fullShare X59 ∗
      (∀ (r : (Σ' (v244 : IVec S224x1024 1) (v266 : FVec F S224x1 .f32) (v270 : FVec F S224x1024 .bf16), Vec F S1x1024x256 .bf16)), iprop(⌜r = ⟨k0_pay87 v192 v211 v224 v226 v228 (View.ld X1 (Rect.unit (s := S2) ![0] S1.size inb_S2_S1_0) (Shape.Idx.first (numel1_S1.symm ▸ Nat.one_pos))), k0_pay89 v121 v131 v141 v151 v192 v211 v224 v226 v228 (View.ld X1 (Rect.unit (s := S2) ![0] S1.size inb_S2_S1_0) (Shape.Idx.first (numel1_S1.symm ▸ Nat.one_pos))) (View.ld X56 (Rect.unit (s := S2x1024x256) ![0, 0, 0] S1x1024x256.size inb_S2x1024x256_S1x1024x256_0_0_0)) (View.ld X58 (Rect.unit (s := S2x1024) ![0, 0] S1x1024.size inb_S2x1024_S1x1024_0_0)), k0_pay90 v121 v131 v141 v151 v192 v211 v224 v226 v228 (View.ld X1 (Rect.unit (s := S2) ![0] S1.size inb_S2_S1_0) (Shape.Idx.first (numel1_S1.symm ▸ Nat.one_pos))) (View.ld X56 (Rect.unit (s := S2x1024x256) ![0, 0, 0] S1x1024x256.size inb_S2x1024x256_S1x1024x256_0_0_0)) (View.ld X58 (Rect.unit (s := S2x1024) ![0, 0] S1x1024.size inb_S2x1024_S1x1024_0_0)) (View.ld X59 (Rect.unit (s := S2x1024) ![0, 0] S1x1024.size inb_S2x1024_S1x1024_0_0)), (View.ld X57 (Rect.unit (s := S2x1024x256) ![0, 0, 0] S1x1024x256.size inb_S2x1024x256_S1x1024x256_0_0_0))⟩⌝ ∗ owns (c : Thread nD τ) a.m1 fullShare X1 ∗ owns (c : Thread nD τ) a.m56 fullShare X56 ∗ owns (c : Thread nD τ) a.m57 fullShare X57 ∗ owns (c : Thread nD τ) a.m58 fullShare X58 ∗ owns (c : Thread nD τ) a.m59 fullShare X59) -∗ K r))
    ⊢ wp frame (wpE (defs₀ (F := F)) Variants.none c none) E (k0_part13 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 v121 v131 v141 v151 v192 v211 v224 v226 v228) K := by
  rw [k0_part13_eq_skeleton]
  unfold k0_part13_skel owns
  iintro ⟨⟨%f1, %h1, H1⟩, ⟨%f56, %h56, H56⟩, ⟨%f57, %h57, H57⟩, ⟨%f58, %h58, H58⟩, ⟨%f59, %h59, H59⟩, Hk⟩
  subst h1 h56 h57 h58 h59
  sl_exec
  sl_step
  iapply Hk
  isplitr
  · ipureintro
    rfl
  isplitl [H1]
  · iexists _; isplitr; swap; · iexact H1
    ipureintro; rfl
  isplitl [H56]
  · iexists _; isplitr; swap; · iexact H56
    ipureintro; rfl
  isplitl [H57]
  · iexists _; isplitr; swap; · iexact H57
    ipureintro; rfl
  isplitl [H58]
  · iexists _; isplitr; swap; · iexact H58
    ipureintro; rfl
  iexists _; isplitr; swap; · iexact H59
  ipureintro; rfl

/-- Part 14 of the body: what it returns and what it leaves in the buffers it stores to. -/
theorem wp_part14 (c : Dev nD) (i : grid0.Coords) (a : Bufs) (v161 : FVec F S112x256 .f32) (v171 : FVec F S112x256 .f32) (v181 : FVec F S112x256 .f32) (v191 : FVec F S112x256 .f32) (v244 : IVec S224x1024 1) (v266 : FVec F S224x1 .f32) (v270 : FVec F S224x1024 .bf16) (v271 : Vec F S1x1024x256 .bf16) (X56 : Vec F S2x1024x256 .bf16) (X58 : Vec F S2x1024 .f32) (X60 : Vec F S112x2048 .f32)
    (E : Set ℕ) (K : (FVec F S224x1024 .f32) → sProp 𝕄) :
    iprop(owns (c : Thread nD τ) a.m56 fullShare X56 ∗ owns (c : Thread nD τ) a.m58 fullShare X58 ∗ owns (c : Thread nD τ) a.m60 fullShare X60 ∗
      (∀ (r : (FVec F S224x1024 .f32)) (Y60 : Vec F S112x2048 .f32), iprop(⌜r = (k0_pay96 v161 v171 v181 v191 v244 (View.ld X56 (Rect.unit (s := S2x1024x256) ![0, 0, 0] S1x1024x256.size inb_S2x1024x256_S1x1024x256_0_0_0)) (View.ld X58 (Rect.unit (s := S2x1024) ![0, 0] S1x1024.size inb_S2x1024_S1x1024_0_0))) ∧ Y60 = (VecWindow.put (VecWindow.put (VecWindow.put (VecWindow.put X60 ![0, 0] S56x256.size (k0_pay92 v266 v270 v271)) ![0, 256] S56x256.size (k0_pay93 v266 v270 v271)) ![0, 512] S56x256.size (k0_pay94 v266 v270 v271)) ![0, 768] S56x256.size (k0_pay95 v266 v270 v271))⌝ ∗ owns (c : Thread nD τ) a.m56 fullShare X56 ∗ owns (c : Thread nD τ) a.m58 fullShare X58 ∗ owns (c : Thread nD τ) a.m60 fullShare Y60) -∗ K r))
    ⊢ wp frame (wpE (defs₀ (F := F)) Variants.none c none) E (k0_part14 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 v161 v171 v181 v191 v244 v266 v270 v271) K := by
  rw [k0_part14_eq_skeleton]
  unfold k0_part14_skel owns
  iintro ⟨⟨%f56, %h56, H56⟩, ⟨%f58, %h58, H58⟩, ⟨%f60, %h60, H60⟩, Hk⟩
  subst h56 h58 h60
  sl_exec
  sl_step
  iapply Hk
  isplitr
  · ipureintro
    exact ⟨rfl, rfl⟩
  isplitl [H56]
  · iexists _; isplitr; swap; · iexact H56
    ipureintro; rfl
  isplitl [H58]
  · iexists _; isplitr; swap; · iexact H58
    ipureintro; rfl
  iexists _; isplitr; swap; · iexact H60
  ipureintro; (iterate 4 rw [View.read_writes_cons_put (h := rfl)]); rfl

end Cert.KernelIdeal.Named

end
-- ==== Proof.PartsB.lean ====
/- The parts of the body with the attention of both sequences and the output projection. -/
module

public import proofs.«01_k».proof.Proof.Bufs
public import Idealize.ShloMosaic.Lib.VecWindow

@[expose] public section

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- Part 15 of the body: what it returns and what it leaves in the buffers it stores to. -/
theorem wp_part15 (c : Dev nD) (i : grid0.Coords) (a : Bufs) (v110 : FVec F S112x256 .f32) (v111 : FVec F S112x256 .f32) (v310 : FVec F S224x1024 .f32) (X56 : Vec F S2x1024x256 .bf16) (X57 : Vec F S2x1024x256 .bf16) (X59 : Vec F S2x1024 .f32) (X60 : Vec F S112x2048 .f32)
    (E : Set ℕ) (K : (FVec F S56x256 .bf16) → sProp 𝕄) :
    iprop(owns (c : Thread nD τ) a.m56 fullShare X56 ∗ owns (c : Thread nD τ) a.m57 fullShare X57 ∗ owns (c : Thread nD τ) a.m59 fullShare X59 ∗ owns (c : Thread nD τ) a.m60 fullShare X60 ∗
      (∀ (r : (FVec F S56x256 .bf16)) (Y56 : Vec F S2x1024x256 .bf16) (Y60 : Vec F S112x2048 .f32), iprop(⌜r = (k0_pay103 v111) ∧ Y56 = (VecWindow.put X56 ![1, 896, 0] S1x56x256.size (k0_pay102 v110)) ∧ Y60 = (VecWindow.put (VecWindow.put (VecWindow.put (VecWindow.put X60 ![0, 1024] S56x256.size (k0_pay98 v310 (View.ld X59 (Rect.unit (s := S2x1024) ![0, 0] S1x1024.size inb_S2x1024_S1x1024_0_0)) (View.ld X57 (Rect.unit (s := S2x1024x256) ![0, 0, 0] S1x1024x256.size inb_S2x1024x256_S1x1024x256_0_0_0)))) ![0, 1280] S56x256.size (k0_pay99 v310 (View.ld X59 (Rect.unit (s := S2x1024) ![0, 0] S1x1024.size inb_S2x1024_S1x1024_0_0)) (View.ld X57 (Rect.unit (s := S2x1024x256) ![0, 0, 0] S1x1024x256.size inb_S2x1024x256_S1x1024x256_0_0_0)))) ![0, 1536] S56x256.size (k0_pay100 v310 (View.ld X59 (Rect.unit (s := S2x1024) ![0, 0] S1x1024.size inb_S2x1024_S1x1024_0_0)) (View.ld X57 (Rect.unit (s := S2x1024x256) ![0, 0, 0] S1x1024x256.size inb_S2x1024x256_S1x1024x256_0_0_0)))) ![0, 1792] S56x256.size (k0_pay101 v310 (View.ld X59 (Rect.unit (s := S2x1024) ![0, 0] S1x1024.size inb_S2x1024_S1x1024_0_0)) (View.ld X57 (Rect.unit (s := S2x1024x256) ![0, 0, 0] S1x1024x256.size inb_S2x1024x256_S1x1024x256_0_0_0))))⌝ ∗ owns (c : Thread nD τ) a.m56 fullShare Y56 ∗ owns (c : Thread nD τ) a.m57 fullShare X57 ∗ owns (c : Thread nD τ) a.m59 fullShare X59 ∗ owns (c : Thread nD τ) a.m60 fullShare Y60) -∗ K r))
    ⊢ wp frame (wpE (defs₀ (F := F)) Variants.none c none) E (k0_part15 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 v110 v111 v310) K := by
  rw [k0_part15_eq_skeleton]
  unfold k0_part15_skel owns
  iintro ⟨⟨%f56, %h56, H56⟩, ⟨%f57, %h57, H57⟩, ⟨%f59, %h59, H59⟩, ⟨%f60, %h60, H60⟩, Hk⟩
  subst h56 h57 h59 h60
  sl_exec
  sl_step
  iapply Hk
  isplitr
  · ipureintro
    exact ⟨rfl, rfl, rfl⟩
  isplitl [H56]
  · iexists _; isplitr; swap; · iexact H56
    ipureintro; exact View.read_writes_cons_put _ _ _ _ [] rfl
  isplitl [H57]
  · iexists _; isplitr; swap; · iexact H57
    ipureintro; rfl
  isplitl [H59]
  · iexists _; isplitr; swap; · iexact H59
    ipureintro; rfl
  iexists _; isplitr; swap; · iexact H60
  ipureintro; (iterate 4 rw [View.read_writes_cons_put (h := rfl)]); rfl

/-- Part 16 of the body: what it returns and what it leaves in the buffers it stores to. -/
theorem wp_part16 (c : Dev nD) (i : grid0.Coords) (a : Bufs) (v121 : FVec F S112x256 .f32) (v131 : FVec F S112x256 .f32) (v141 : FVec F S112x256 .f32) (v151 : FVec F S112x256 .f32) (v192 : IVec S1x1024 32) (v211 : IVec S224x1 1) (v345 : FVec F S56x256 .bf16) (X1 : Vec F S2 .i32) (X56 : Vec F S2x1024x256 .bf16) (X57 : Vec F S2x1024x256 .bf16) (X58 : Vec F S2x1024 .f32)
    (E : Set ℕ) (K : (Σ' (v371 : IVec S224x1024 1) (v385 : FVec F S224x1024 .f32), FVec F S224x1024 .f32) → sProp 𝕄) :
    iprop(owns (c : Thread nD τ) a.m1 fullShare X1 ∗ owns (c : Thread nD τ) a.m56 fullShare X56 ∗ owns (c : Thread nD τ) a.m57 fullShare X57 ∗ owns (c : Thread nD τ) a.m58 fullShare X58 ∗
      (∀ (r : (Σ' (v371 : IVec S224x1024 1) (v385 : FVec F S224x1024 .f32), FVec F S224x1024 .f32)) (Y57 : Vec F S2x1024x256 .bf16), iprop(⌜r = ⟨k0_pay105 v192 v211 (View.ld X1 (Rect.unit (s := S2) ![1] S1.size inb_S2_S1_1) (Shape.Idx.first (numel1_S1.symm ▸ Nat.one_pos))) (View.ld X1 (Rect.unit (s := S2) ![1] S1.size inb_S2_S1_1) (Shape.Idx.first (numel1_S1.symm ▸ Nat.one_pos))), k0_pay106 v121 v131 v141 v151 v192 v211 (View.ld X1 (Rect.unit (s := S2) ![1] S1.size inb_S2_S1_1) (Shape.Idx.first (numel1_S1.symm ▸ Nat.one_pos))) (View.ld X1 (Rect.unit (s := S2) ![1] S1.size inb_S2_S1_1) (Shape.Idx.first (numel1_S1.symm ▸ Nat.one_pos))) (View.ld X56 (Rect.unit (s := S2x1024x256) ![1, 0, 0] S1x1024x256.size inb_S2x1024x256_S1x1024x256_1_0_0)) (View.ld X58 (Rect.unit (s := S2x1024) ![1, 0] S1x1024.size inb_S2x1024_S1x1024_1_0)), k0_pay107 v121 v131 v141 v151 v192 v211 (View.ld X1 (Rect.unit (s := S2) ![1] S1.size inb_S2_S1_1) (Shape.Idx.first (numel1_S1.symm ▸ Nat.one_pos))) (View.ld X1 (Rect.unit (s := S2) ![1] S1.size inb_S2_S1_1) (Shape.Idx.first (numel1_S1.symm ▸ Nat.one_pos))) (View.ld X56 (Rect.unit (s := S2x1024x256) ![1, 0, 0] S1x1024x256.size inb_S2x1024x256_S1x1024x256_1_0_0)) (View.ld X58 (Rect.unit (s := S2x1024) ![1, 0] S1x1024.size inb_S2x1024_S1x1024_1_0))⟩ ∧ Y57 = (VecWindow.put X57 ![1, 896, 0] S1x56x256.size (k0_pay104 v345))⌝ ∗ owns (c : Thread nD τ) a.m1 fullShare X1 ∗ owns (c : Thread nD τ) a.m56 fullShare X56 ∗ owns (c : Thread nD τ) a.m57 fullShare Y57 ∗ owns (c : Thread nD τ) a.m58 fullShare X58) -∗ K r))
    ⊢ wp frame (wpE (defs₀ (F := F)) Variants.none c none) E (k0_part16 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 v121 v131 v141 v151 v192 v211 v345) K := by
  rw [k0_part16_eq_skeleton]
  unfold k0_part16_skel owns
  iintro ⟨⟨%f1, %h1, H1⟩, ⟨%f56, %h56, H56⟩, ⟨%f57, %h57, H57⟩, ⟨%f58, %h58, H58⟩, Hk⟩
  subst h1 h56 h57 h58
  sl_exec
  sl_step
  iapply Hk
  isplitr
  · ipureintro
    exact ⟨rfl, rfl⟩
  isplitl [H1]
  · iexists _; isplitr; swap; · iexact H1
    ipureintro; rfl
  isplitl [H56]
  · iexists _; isplitr; swap; · iexact H56
    ipureintro; rfl
  isplitl [H57]
  · iexists _; isplitr; swap; · iexact H57
    ipureintro; exact View.read_writes_cons_put _ _ _ _ [] rfl
  iexists _; isplitr; swap; · iexact H58
  ipureintro; rfl

/-- Part 17 of the body: what it returns and what it leaves in the buffers it stores to. -/
theorem wp_part17 (c : Dev nD) (i : grid0.Coords) (a : Bufs) (v161 : FVec F S112x256 .f32) (v171 : FVec F S112x256 .f32) (v181 : FVec F S112x256 .f32) (v191 : FVec F S112x256 .f32) (v385 : FVec F S224x1024 .f32) (v389 : FVec F S224x1024 .f32) (X56 : Vec F S2x1024x256 .bf16) (X57 : Vec F S2x1024x256 .bf16) (X59 : Vec F S2x1024 .f32) (X60 : Vec F S112x2048 .f32)
    (E : Set ℕ) (K : (Σ' (v424 : FVec F S224x256 .bf16) (v426 : FVec F S1024x256 .bf16), FVec F S224x1024 .f32) → sProp 𝕄) :
    iprop(owns (c : Thread nD τ) a.m56 fullShare X56 ∗ owns (c : Thread nD τ) a.m57 fullShare X57 ∗ owns (c : Thread nD τ) a.m59 fullShare X59 ∗ owns (c : Thread nD τ) a.m60 fullShare X60 ∗
      (∀ (r : (Σ' (v424 : FVec F S224x256 .bf16) (v426 : FVec F S1024x256 .bf16), FVec F S224x1024 .f32)) (Y60 : Vec F S112x2048 .f32), iprop(⌜r = ⟨k0_pay113 v161 v171 v181 v191, k0_pay114 (View.ld X56 (Rect.unit (s := S2x1024x256) ![1, 0, 0] S1x1024x256.size inb_S2x1024x256_S1x1024x256_1_0_0)), (constant S224x1024 .f32 0x00000000#32)⟩ ∧ Y60 = (VecWindow.put (VecWindow.put (VecWindow.put (VecWindow.put X60 ![56, 0] S56x256.size (k0_pay109 v385 v389 (View.ld X59 (Rect.unit (s := S2x1024) ![1, 0] S1x1024.size inb_S2x1024_S1x1024_1_0)) (View.ld X57 (Rect.unit (s := S2x1024x256) ![1, 0, 0] S1x1024x256.size inb_S2x1024x256_S1x1024x256_1_0_0)))) ![56, 256] S56x256.size (k0_pay110 v385 v389 (View.ld X59 (Rect.unit (s := S2x1024) ![1, 0] S1x1024.size inb_S2x1024_S1x1024_1_0)) (View.ld X57 (Rect.unit (s := S2x1024x256) ![1, 0, 0] S1x1024x256.size inb_S2x1024x256_S1x1024x256_1_0_0)))) ![56, 512] S56x256.size (k0_pay111 v385 v389 (View.ld X59 (Rect.unit (s := S2x1024) ![1, 0] S1x1024.size inb_S2x1024_S1x1024_1_0)) (View.ld X57 (Rect.unit (s := S2x1024x256) ![1, 0, 0] S1x1024x256.size inb_S2x1024x256_S1x1024x256_1_0_0)))) ![56, 768] S56x256.size (k0_pay112 v385 v389 (View.ld X59 (Rect.unit (s := S2x1024) ![1, 0] S1x1024.size inb_S2x1024_S1x1024_1_0)) (View.ld X57 (Rect.unit (s := S2x1024x256) ![1, 0, 0] S1x1024x256.size inb_S2x1024x256_S1x1024x256_1_0_0))))⌝ ∗ owns (c : Thread nD τ) a.m56 fullShare X56 ∗ owns (c : Thread nD τ) a.m57 fullShare X57 ∗ owns (c : Thread nD τ) a.m59 fullShare X59 ∗ owns (c : Thread nD τ) a.m60 fullShare Y60) -∗ K r))
    ⊢ wp frame (wpE (defs₀ (F := F)) Variants.none c none) E (k0_part17 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 v161 v171 v181 v191 v385 v389) K := by
  rw [k0_part17_eq_skeleton]
  unfold k0_part17_skel owns
  iintro ⟨⟨%f56, %h56, H56⟩, ⟨%f57, %h57, H57⟩, ⟨%f59, %h59, H59⟩, ⟨%f60, %h60, H60⟩, Hk⟩
  subst h56 h57 h59 h60
  sl_exec
  sl_step
  iapply Hk
  isplitr
  · ipureintro
    exact ⟨rfl, rfl⟩
  isplitl [H56]
  · iexists _; isplitr; swap; · iexact H56
    ipureintro; rfl
  isplitl [H57]
  · iexists _; isplitr; swap; · iexact H57
    ipureintro; rfl
  isplitl [H59]
  · iexists _; isplitr; swap; · iexact H59
    ipureintro; rfl
  iexists _; isplitr; swap; · iexact H60
  ipureintro; (iterate 4 rw [View.read_writes_cons_put (h := rfl)]); rfl

/-- Part 18 of the body: what it returns and what it leaves in the buffers it stores to. -/
theorem wp_part18 (c : Dev nD) (i : grid0.Coords) (a : Bufs) (v371 : IVec S224x1024 1) (v424 : FVec F S224x256 .bf16) (v426 : FVec F S1024x256 .bf16) (cst_136 : FVec F S224x1024 .f32) (X57 : Vec F S2x1024x256 .bf16) (X58 : Vec F S2x1024 .f32) (X59 : Vec F S2x1024 .f32) (X60 : Vec F S112x2048 .f32)
    (E : Set ℕ) (K : (FVec F S56x256 .f32) → sProp 𝕄) :
    iprop(owns (c : Thread nD τ) a.m57 fullShare X57 ∗ owns (c : Thread nD τ) a.m58 fullShare X58 ∗ owns (c : Thread nD τ) a.m59 fullShare X59 ∗ owns (c : Thread nD τ) a.m60 fullShare X60 ∗
      (∀ (r : (FVec F S56x256 .f32)) (Y60 : Vec F S112x2048 .f32), iprop(⌜r = (k0_pay119 v371 v424 v426 cst_136 (View.ld X58 (Rect.unit (s := S2x1024) ![1, 0] S1x1024.size inb_S2x1024_S1x1024_1_0)) (View.ld X59 (Rect.unit (s := S2x1024) ![1, 0] S1x1024.size inb_S2x1024_S1x1024_1_0)) (View.ld X57 (Rect.unit (s := S2x1024x256) ![1, 0, 0] S1x1024x256.size inb_S2x1024x256_S1x1024x256_1_0_0))) ∧ Y60 = (VecWindow.put (VecWindow.put (VecWindow.put X60 ![56, 1024] S56x256.size (k0_pay116 v371 v424 v426 cst_136 (View.ld X58 (Rect.unit (s := S2x1024) ![1, 0] S1x1024.size inb_S2x1024_S1x1024_1_0)) (View.ld X59 (Rect.unit (s := S2x1024) ![1, 0] S1x1024.size inb_S2x1024_S1x1024_1_0)) (View.ld X57 (Rect.unit (s := S2x1024x256) ![1, 0, 0] S1x1024x256.size inb_S2x1024x256_S1x1024x256_1_0_0)))) ![56, 1280] S56x256.size (k0_pay117 v371 v424 v426 cst_136 (View.ld X58 (Rect.unit (s := S2x1024) ![1, 0] S1x1024.size inb_S2x1024_S1x1024_1_0)) (View.ld X59 (Rect.unit (s := S2x1024) ![1, 0] S1x1024.size inb_S2x1024_S1x1024_1_0)) (View.ld X57 (Rect.unit (s := S2x1024x256) ![1, 0, 0] S1x1024x256.size inb_S2x1024x256_S1x1024x256_1_0_0)))) ![56, 1536] S56x256.size (k0_pay118 v371 v424 v426 cst_136 (View.ld X58 (Rect.unit (s := S2x1024) ![1, 0] S1x1024.size inb_S2x1024_S1x1024_1_0)) (View.ld X59 (Rect.unit (s := S2x1024) ![1, 0] S1x1024.size inb_S2x1024_S1x1024_1_0)) (View.ld X57 (Rect.unit (s := S2x1024x256) ![1, 0, 0] S1x1024x256.size inb_S2x1024x256_S1x1024x256_1_0_0))))⌝ ∗ owns (c : Thread nD τ) a.m57 fullShare X57 ∗ owns (c : Thread nD τ) a.m58 fullShare X58 ∗ owns (c : Thread nD τ) a.m59 fullShare X59 ∗ owns (c : Thread nD τ) a.m60 fullShare Y60) -∗ K r))
    ⊢ wp frame (wpE (defs₀ (F := F)) Variants.none c none) E (k0_part18 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 v371 v424 v426 cst_136) K := by
  rw [k0_part18_eq_skeleton]
  unfold k0_part18_skel owns
  iintro ⟨⟨%f57, %h57, H57⟩, ⟨%f58, %h58, H58⟩, ⟨%f59, %h59, H59⟩, ⟨%f60, %h60, H60⟩, Hk⟩
  subst h57 h58 h59 h60
  sl_exec
  sl_step
  iapply Hk
  isplitr
  · ipureintro
    exact ⟨rfl, rfl⟩
  isplitl [H57]
  · iexists _; isplitr; swap; · iexact H57
    ipureintro; rfl
  isplitl [H58]
  · iexists _; isplitr; swap; · iexact H58
    ipureintro; rfl
  isplitl [H59]
  · iexists _; isplitr; swap; · iexact H59
    ipureintro; rfl
  iexists _; isplitr; swap; · iexact H60
  ipureintro; (iterate 3 rw [View.read_writes_cons_put (h := rfl)]); rfl

/-- Part 19 of the body: what it returns and what it leaves in the buffers it stores to. -/
theorem wp_part19 (c : Dev nD) (i : grid0.Coords) (a : Bufs) (v56 : FVec F S112x1024 .f32) (v462 : FVec F S56x256 .f32) (X16 : Vec F S1x1024 .f32) (X19 : Vec F S2048x1024 .fp8e4m3) (X20 : Vec F S1x1024 .f32) (X60 : Vec F S112x2048 .f32)
    (E : Set ℕ) (K : (Σ' (v466 : Vec F S112x2048 .f32) (v475 : FVec F S112x1 .f32) (v484 : FVec F S128x2048 .fp8e4m3) (v494 : FVec F S112x1024 .f32) (v495 : Vec F S1x1024 .f32), FVec F S112x1024 .f32) → sProp 𝕄) :
    iprop(owns (c : Thread nD τ) a.m16 fullShare X16 ∗ owns (c : Thread nD τ) a.m19 fullShare X19 ∗ owns (c : Thread nD τ) a.m20 fullShare X20 ∗ owns (c : Thread nD τ) a.m60 fullShare X60 ∗
      (∀ (r : (Σ' (v466 : Vec F S112x2048 .f32) (v475 : FVec F S112x1 .f32) (v484 : FVec F S128x2048 .fp8e4m3) (v494 : FVec F S112x1024 .f32) (v495 : Vec F S1x1024 .f32), FVec F S112x1024 .f32)) (Y60 : Vec F S112x2048 .f32), iprop(⌜r = ⟨(View.ld (VecWindow.put X60 ![56, 1792] S56x256.size (k0_pay120 v462)) (Rect.unit (s := S112x2048) ![0, 0] S112x2048.size inb_S112x2048_S112x2048_0_0)), k0_pay121 (View.ld (VecWindow.put X60 ![56, 1792] S56x256.size (k0_pay120 v462)) (Rect.unit (s := S112x2048) ![0, 0] S112x2048.size inb_S112x2048_S112x2048_0_0)), k0_pay122 (View.ld (VecWindow.put X60 ![56, 1792] S56x256.size (k0_pay120 v462)) (Rect.unit (s := S112x2048) ![0, 0] S112x2048.size inb_S112x2048_S112x2048_0_0)), k0_pay123 v56 (View.ld (VecWindow.put X60 ![56, 1792] S56x256.size (k0_pay120 v462)) (Rect.unit (s := S112x2048) ![0, 0] S112x2048.size inb_S112x2048_S112x2048_0_0)) (View.ld X19 (Rect.unit (s := S2048x1024) ![0, 0] S2048x1024.size inb_S2048x1024_S2048x1024_0_0)) (View.ld X20 (Rect.unit (s := S1x1024) ![0, 0] S1x1024.size inb_S1x1024_S1x1024_0_0)), (View.ld X16 (Rect.unit (s := S1x1024) ![0, 0] S1x1024.size inb_S1x1024_S1x1024_0_0)), k0_pay124 v56 (View.ld (VecWindow.put X60 ![56, 1792] S56x256.size (k0_pay120 v462)) (Rect.unit (s := S112x2048) ![0, 0] S112x2048.size inb_S112x2048_S112x2048_0_0)) (View.ld X19 (Rect.unit (s := S2048x1024) ![0, 0] S2048x1024.size inb_S2048x1024_S2048x1024_0_0)) (View.ld X20 (Rect.unit (s := S1x1024) ![0, 0] S1x1024.size inb_S1x1024_S1x1024_0_0))⟩ ∧ Y60 = (VecWindow.put X60 ![56, 1792] S56x256.size (k0_pay120 v462))⌝ ∗ owns (c : Thread nD τ) a.m16 fullShare X16 ∗ owns (c : Thread nD τ) a.m19 fullShare X19 ∗ owns (c : Thread nD τ) a.m20 fullShare X20 ∗ owns (c : Thread nD τ) a.m60 fullShare Y60) -∗ K r))
    ⊢ wp frame (wpE (defs₀ (F := F)) Variants.none c none) E (k0_part19 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 v56 v462) K := by
  rw [k0_part19_eq_skeleton]
  unfold k0_part19_skel owns
  iintro ⟨⟨%f16, %h16, H16⟩, ⟨%f19, %h19, H19⟩, ⟨%f20, %h20, H20⟩, ⟨%f60, %h60, H60⟩, Hk⟩
  subst h16 h19 h20 h60
  sl_exec
  sl_step
  iapply Hk
  isplitr
  · ipureintro
    have e : a.m60.view.read (Elt F) (a.m60.view.writes (Elt F) f60 [⟨Rect.unit (s := S112x2048) ![56, 1792] S56x256.size inb_S112x2048_S56x256_56_1792, k0_pay120 v462⟩]) =
        VecWindow.put (a.m60.view.read (Elt F) f60) ![56, 1792] S56x256.size (k0_pay120 v462) := View.read_writes_cons_put _ _ _ _ [] rfl
    exact ⟨by rw [← e]; rfl, rfl⟩
  isplitl [H16]
  · iexists _; isplitr; swap; · iexact H16
    ipureintro; rfl
  isplitl [H19]
  · iexists _; isplitr; swap; · iexact H19
    ipureintro; rfl
  isplitl [H20]
  · iexists _; isplitr; swap; · iexact H20
    ipureintro; rfl
  iexists _; isplitr; swap; · iexact H60
  ipureintro; exact View.read_writes_cons_put _ _ _ _ [] rfl

end Cert.KernelIdeal.Named

end
-- ==== Proof.PartsC.lean ====
/- The parts of the body with the gated feed-forward layer and the velocities. -/
module

public import proofs.«01_k».proof.Proof.Bufs
public import Idealize.ShloMosaic.Lib.VecWindow

@[expose] public section

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- Part 20 of the body: what it returns and what it leaves in the buffers it stores to. -/
theorem wp_part20 (c : Dev nD) (i : grid0.Coords) (a : Bufs) (v494 : FVec F S112x1024 .f32) (v495 : Vec F S1x1024 .f32) (v504 : FVec F S112x1024 .f32) (X21 : Vec F S2x1024x4096 .fp8e4m3) (X22 : Vec F S2x4096 .f32)
    (E : Set ℕ) (K : (Σ' (v518 : FVec F S112x1 .f32) (v527 : FVec F S128x1024 .fp8e4m3) (v537 : FVec F S112x4096 .f32) (v543 : FVec F S112x4096 .f32), Vec F S1x4096 .f32) → sProp 𝕄) :
    iprop(owns (c : Thread nD τ) a.m21 fullShare X21 ∗ owns (c : Thread nD τ) a.m22 fullShare X22 ∗
      (∀ (r : (Σ' (v518 : FVec F S112x1 .f32) (v527 : FVec F S128x1024 .fp8e4m3) (v537 : FVec F S112x4096 .f32) (v543 : FVec F S112x4096 .f32), Vec F S1x4096 .f32)), iprop(⌜r = ⟨k0_pay126 v494 v495 v504, k0_pay127 v494 v495 v504, k0_pay128 v494 v495 v504 (View.ld X21 (Rect.unit (s := S2x1024x4096) ![0, 0, 0] S1x1024x4096.size inb_S2x1024x4096_S1x1024x4096_0_0_0)) (View.ld X22 (Rect.unit (s := S2x4096) ![0, 0] S1x4096.size inb_S2x4096_S1x4096_0_0)), k0_pay129 v494 v495 v504 (View.ld X21 (Rect.unit (s := S2x1024x4096) ![1, 0, 0] S1x1024x4096.size inb_S2x1024x4096_S1x1024x4096_1_0_0)), (View.ld X22 (Rect.unit (s := S2x4096) ![1, 0] S1x4096.size inb_S2x4096_S1x4096_1_0))⟩⌝ ∗ owns (c : Thread nD τ) a.m21 fullShare X21 ∗ owns (c : Thread nD τ) a.m22 fullShare X22) -∗ K r))
    ⊢ wp frame (wpE (defs₀ (F := F)) Variants.none c none) E (k0_part20 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 v494 v495 v504) K := by
  rw [k0_part20_eq_skeleton]
  unfold k0_part20_skel owns
  iintro ⟨⟨%f21, %h21, H21⟩, ⟨%f22, %h22, H22⟩, Hk⟩
  subst h21 h22
  sl_exec
  sl_step
  iapply Hk
  isplitr
  · ipureintro
    rfl
  isplitl [H21]
  · iexists _; isplitr; swap; · iexact H21
    ipureintro; rfl
  iexists _; isplitr; swap; · iexact H22
  ipureintro; rfl

/-- Part 21 of the body: what it returns and what it leaves in the buffers it stores to. -/
theorem wp_part21 (c : Dev nD) (i : grid0.Coords) (a : Bufs) (v537 : FVec F S112x4096 .f32) (v543 : FVec F S112x4096 .f32) (v544 : Vec F S1x4096 .f32) (X23 : Vec F S4096x1024 .fp8e4m3) (X24 : Vec F S1x1024 .f32)
    (E : Set ℕ) (K : (Σ' (v570 : FVec F S112x1 .f32) (v579 : FVec F S128x4096 .fp8e4m3), FVec F S112x1024 .f32) → sProp 𝕄) :
    iprop(owns (c : Thread nD τ) a.m23 fullShare X23 ∗ owns (c : Thread nD τ) a.m24 fullShare X24 ∗
      (∀ (r : (Σ' (v570 : FVec F S112x1 .f32) (v579 : FVec F S128x4096 .fp8e4m3), FVec F S112x1024 .f32)), iprop(⌜r = ⟨k0_pay131 v537 v543 v544, k0_pay132 v537 v543 v544, k0_pay133 v537 v543 v544 (View.ld X23 (Rect.unit (s := S4096x1024) ![0, 0] S4096x1024.size inb_S4096x1024_S4096x1024_0_0)) (View.ld X24 (Rect.unit (s := S1x1024) ![0, 0] S1x1024.size inb_S1x1024_S1x1024_0_0))⟩⌝ ∗ owns (c : Thread nD τ) a.m23 fullShare X23 ∗ owns (c : Thread nD τ) a.m24 fullShare X24) -∗ K r))
    ⊢ wp frame (wpE (defs₀ (F := F)) Variants.none c none) E (k0_part21 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 v537 v543 v544) K := by
  rw [k0_part21_eq_skeleton]
  unfold k0_part21_skel owns
  iintro ⟨⟨%f23, %h23, H23⟩, ⟨%f24, %h24, H24⟩, Hk⟩
  subst h23 h24
  sl_exec
  sl_step
  iapply Hk
  isplitr
  · ipureintro
    rfl
  isplitl [H23]
  · iexists _; isplitr; swap; · iexact H23
    ipureintro; rfl
  iexists _; isplitr; swap; · iexact H24
  ipureintro; rfl

/-- Part 22 of the body: what it returns and what it leaves in the buffers it stores to. -/
theorem wp_part22 (c : Dev nD) (i : grid0.Coords) (a : Bufs) (v4 : Vec F S112x32 .f32) (v494 : FVec F S112x1024 .f32) (v588 : FVec F S112x1024 .f32) (X25 : Vec F S1x1024 .f32) (X26 : Vec F S1024x32 .f32) (X27 : Vec F S1x32 .f32) (X34 : Vec F S2 .f32) (X35 : Vec F S1x2x50x32 .f32) (X51 : Vec F S112x32 .f32)
    (E : Set ℕ) (K : (Σ' (v589 : FVec F S112x1024 .f32) (v625 : FVec F S56x32 .f32), FVec F S50x32 .f32) → sProp 𝕄) :
    iprop(owns (c : Thread nD τ) a.m25 fullShare X25 ∗ owns (c : Thread nD τ) a.m26 fullShare X26 ∗ owns (c : Thread nD τ) a.m27 fullShare X27 ∗ owns (c : Thread nD τ) a.m34 fullShare X34 ∗ owns (c : Thread nD τ) a.m35 fullShare X35 ∗ owns (c : Thread nD τ) a.m51 fullShare X51 ∗
      (∀ (r : (Σ' (v589 : FVec F S112x1024 .f32) (v625 : FVec F S56x32 .f32), FVec F S50x32 .f32)) (Y35 : Vec F S1x2x50x32 .f32) (Y51 : Vec F S112x32 .f32), iprop(⌜r = ⟨k0_pay134 v494 v588, k0_pay139 v494 v588 (View.ld X25 (Rect.unit (s := S1x1024) ![0, 0] S1x1024.size inb_S1x1024_S1x1024_0_0)) (View.ld X26 (Rect.unit (s := S1024x32) ![0, 0] S1024x32.size inb_S1024x32_S1024x32_0_0)) (View.ld X27 (Rect.unit (s := S1x32) ![0, 0] S1x32.size inb_S1x32_S1x32_0_0)), k0_pay140 v494 v588 (View.ld X25 (Rect.unit (s := S1x1024) ![0, 0] S1x1024.size inb_S1x1024_S1x1024_0_0)) (View.ld X26 (Rect.unit (s := S1024x32) ![0, 0] S1024x32.size inb_S1024x32_S1024x32_0_0)) (View.ld X27 (Rect.unit (s := S1x32) ![0, 0] S1x32.size inb_S1x32_S1x32_0_0))⟩ ∧ Y35 = (VecWindow.put X35 ![0, 0, 0, 0] S1x1x50x32.size (k0_pay137 v494 v588 (View.ld X25 (Rect.unit (s := S1x1024) ![0, 0] S1x1024.size inb_S1x1024_S1x1024_0_0)) (View.ld X26 (Rect.unit (s := S1024x32) ![0, 0] S1024x32.size inb_S1024x32_S1024x32_0_0)) (View.ld X27 (Rect.unit (s := S1x32) ![0, 0] S1x32.size inb_S1x32_S1x32_0_0)))) ∧ Y51 = (VecWindow.put X51 ![0, 0] S56x32.size (k0_pay138 v4 v494 v588 (View.ld X25 (Rect.unit (s := S1x1024) ![0, 0] S1x1024.size inb_S1x1024_S1x1024_0_0)) (View.ld X26 (Rect.unit (s := S1024x32) ![0, 0] S1024x32.size inb_S1024x32_S1024x32_0_0)) (View.ld X27 (Rect.unit (s := S1x32) ![0, 0] S1x32.size inb_S1x32_S1x32_0_0)) (View.ld X34 (Rect.unit (s := S2) ![0] S1.size inb_S2_S1_0) (Shape.Idx.first (numel1_S1.symm ▸ Nat.one_pos)))))⌝ ∗ owns (c : Thread nD τ) a.m25 fullShare X25 ∗ owns (c : Thread nD τ) a.m26 fullShare X26 ∗ owns (c : Thread nD τ) a.m27 fullShare X27 ∗ owns (c : Thread nD τ) a.m34 fullShare X34 ∗ owns (c : Thread nD τ) a.m35 fullShare Y35 ∗ owns (c : Thread nD τ) a.m51 fullShare Y51) -∗ K r))
    ⊢ wp frame (wpE (defs₀ (F := F)) Variants.none c none) E (k0_part22 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 v4 v494 v588) K := by
  rw [k0_part22_eq_skeleton]
  unfold k0_part22_skel owns
  iintro ⟨⟨%f25, %h25, H25⟩, ⟨%f26, %h26, H26⟩, ⟨%f27, %h27, H27⟩, ⟨%f34, %h34, H34⟩, ⟨%f35, %h35, H35⟩, ⟨%f51, %h51, H51⟩, Hk⟩
  subst h25 h26 h27 h34 h35 h51
  sl_exec
  sl_step
  iapply Hk
  isplitr
  · ipureintro
    exact ⟨rfl, rfl, rfl⟩
  isplitl [H25]
  · iexists _; isplitr; swap; · iexact H25
    ipureintro; rfl
  isplitl [H26]
  · iexists _; isplitr; swap; · iexact H26
    ipureintro; rfl
  isplitl [H27]
  · iexists _; isplitr; swap; · iexact H27
    ipureintro; rfl
  isplitl [H34]
  · iexists _; isplitr; swap; · iexact H34
    ipureintro; rfl
  isplitl [H35]
  · iexists _; isplitr; swap; · iexact H35
    ipureintro; exact View.read_writes_cons_put _ _ _ _ [] rfl
  iexists _; isplitr; swap; · iexact H51
  ipureintro; exact View.read_writes_cons_put _ _ _ _ [] rfl

end Cert.KernelIdeal.Named

end
-- ==== Proof.PartsOut.lean ====
/- The parts of the body that store the intermediate arrays of the first step. -/
module

public import proofs.«01_k».proof.Proof.Bufs
public import Idealize.ShloMosaic.Lib.VecWindow

@[expose] public section

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- Part 5 of the body: what it returns and what it leaves in the buffers it stores to. -/
theorem wp_part5 (c : Dev nD) (i : grid0.Coords) (a : Bufs) (v80 : FVec F S112x1 .f32) (v89 : FVec F S128x1024 .fp8e4m3) (v110 : FVec F S112x256 .f32) (v111 : FVec F S112x256 .f32) (v466 : Vec F S112x2048 .f32) (v484 : FVec F S128x2048 .fp8e4m3) (X38 : Vec F S2x51x256 .bf16) (X39 : Vec F S2x51x256 .bf16) (X40 : Vec F S2x2048 .f32) (X41 : Vec F S2x50x2048 .bf16) (X42 : Vec F S2x51x1024 .fp8e4m3) (X43 : Vec F S2x51x1 .f32) (X44 : Vec F S2x51x2048 .fp8e4m3)
    (E : Set ℕ) (K : (PUnit) → sProp 𝕄) :
    iprop(owns (c : Thread nD τ) a.m38 fullShare X38 ∗ owns (c : Thread nD τ) a.m39 fullShare X39 ∗ owns (c : Thread nD τ) a.m40 fullShare X40 ∗ owns (c : Thread nD τ) a.m41 fullShare X41 ∗ owns (c : Thread nD τ) a.m42 fullShare X42 ∗ owns (c : Thread nD τ) a.m43 fullShare X43 ∗ owns (c : Thread nD τ) a.m44 fullShare X44 ∗
      (∀ (r : (PUnit)) (Y38 : Vec F S2x51x256 .bf16) (Y39 : Vec F S2x51x256 .bf16) (Y40 : Vec F S2x2048 .f32) (Y41 : Vec F S2x50x2048 .bf16) (Y42 : Vec F S2x51x1024 .fp8e4m3) (Y43 : Vec F S2x51x1 .f32) (Y44 : Vec F S2x51x2048 .fp8e4m3), iprop(⌜r = PUnit.unit ∧ Y38 = (VecWindow.put X38 ![0, 0, 0] S1x51x256.size (k0_pay28 v110)) ∧ Y39 = (VecWindow.put X39 ![0, 0, 0] S1x51x256.size (k0_pay29 v111)) ∧ Y40 = (VecWindow.put X40 ![0, 0] S1x2048.size (k0_pay30 v466)) ∧ Y41 = (VecWindow.put X41 ![0, 0, 0] S1x50x2048.size (k0_pay31 v466)) ∧ Y42 = (VecWindow.put X42 ![0, 0, 0] S1x51x1024.size (k0_pay32 v89)) ∧ Y43 = (VecWindow.put X43 ![0, 0, 0] S1x51x1.size (k0_pay33 v80)) ∧ Y44 = (VecWindow.put X44 ![0, 0, 0] S1x51x2048.size (k0_pay34 v484))⌝ ∗ owns (c : Thread nD τ) a.m38 fullShare Y38 ∗ owns (c : Thread nD τ) a.m39 fullShare Y39 ∗ owns (c : Thread nD τ) a.m40 fullShare Y40 ∗ owns (c : Thread nD τ) a.m41 fullShare Y41 ∗ owns (c : Thread nD τ) a.m42 fullShare Y42 ∗ owns (c : Thread nD τ) a.m43 fullShare Y43 ∗ owns (c : Thread nD τ) a.m44 fullShare Y44) -∗ K r))
    ⊢ wp frame (wpE (defs₀ (F := F)) Variants.none c none) E (k0_part5 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 v80 v89 v110 v111 v466 v484) K := by
  rw [k0_part5_eq_skeleton]
  unfold k0_part5_skel owns
  iintro ⟨⟨%f38, %h38, H38⟩, ⟨%f39, %h39, H39⟩, ⟨%f40, %h40, H40⟩, ⟨%f41, %h41, H41⟩, ⟨%f42, %h42, H42⟩, ⟨%f43, %h43, H43⟩, ⟨%f44, %h44, H44⟩, Hk⟩
  subst h38 h39 h40 h41 h42 h43 h44
  sl_exec
  sl_step
  iapply Hk
  isplitr
  · ipureintro
    exact ⟨rfl, rfl, rfl, rfl, rfl, rfl, rfl, rfl⟩
  isplitl [H38]
  · iexists _; isplitr; swap; · iexact H38
    ipureintro; exact View.read_writes_cons_put _ _ _ _ [] rfl
  isplitl [H39]
  · iexists _; isplitr; swap; · iexact H39
    ipureintro; exact View.read_writes_cons_put _ _ _ _ [] rfl
  isplitl [H40]
  · iexists _; isplitr; swap; · iexact H40
    ipureintro; exact View.read_writes_cons_put _ _ _ _ [] rfl
  isplitl [H41]
  · iexists _; isplitr; swap; · iexact H41
    ipureintro; exact View.read_writes_cons_put _ _ _ _ [] rfl
  isplitl [H42]
  · iexists _; isplitr; swap; · iexact H42
    ipureintro; exact View.read_writes_cons_put _ _ _ _ [] rfl
  isplitl [H43]
  · iexists _; isplitr; swap; · iexact H43
    ipureintro; exact View.read_writes_cons_put _ _ _ _ [] rfl
  iexists _; isplitr; swap; · iexact H44
  ipureintro; exact View.read_writes_cons_put _ _ _ _ [] rfl

/-- Part 6 of the body: what it returns and what it leaves in the buffers it stores to. -/
theorem wp_part6 (c : Dev nD) (i : grid0.Coords) (a : Bufs) (v110 : FVec F S112x256 .f32) (v111 : FVec F S112x256 .f32) (v475 : FVec F S112x1 .f32) (v518 : FVec F S112x1 .f32) (v527 : FVec F S128x1024 .fp8e4m3) (v570 : FVec F S112x1 .f32) (v579 : FVec F S128x4096 .fp8e4m3) (X38 : Vec F S2x51x256 .bf16) (X39 : Vec F S2x51x256 .bf16) (X45 : Vec F S2x51x1 .f32) (X46 : Vec F S2x51x1024 .fp8e4m3) (X47 : Vec F S2x51x1 .f32) (X48 : Vec F S2x51x4096 .fp8e4m3) (X49 : Vec F S2x51x1 .f32)
    (E : Set ℕ) (K : (FVec F S51x256 .bf16) → sProp 𝕄) :
    iprop(owns (c : Thread nD τ) a.m38 fullShare X38 ∗ owns (c : Thread nD τ) a.m39 fullShare X39 ∗ owns (c : Thread nD τ) a.m45 fullShare X45 ∗ owns (c : Thread nD τ) a.m46 fullShare X46 ∗ owns (c : Thread nD τ) a.m47 fullShare X47 ∗ owns (c : Thread nD τ) a.m48 fullShare X48 ∗ owns (c : Thread nD τ) a.m49 fullShare X49 ∗
      (∀ (r : (FVec F S51x256 .bf16)) (Y38 : Vec F S2x51x256 .bf16) (Y45 : Vec F S2x51x1 .f32) (Y46 : Vec F S2x51x1024 .fp8e4m3) (Y47 : Vec F S2x51x1 .f32) (Y48 : Vec F S2x51x4096 .fp8e4m3) (Y49 : Vec F S2x51x1 .f32), iprop(⌜r = (k0_pay41 v111) ∧ Y38 = (VecWindow.put X38 ![1, 0, 0] S1x51x256.size (k0_pay40 v110)) ∧ Y45 = (VecWindow.put X45 ![0, 0, 0] S1x51x1.size (k0_pay35 v475)) ∧ Y46 = (VecWindow.put X46 ![0, 0, 0] S1x51x1024.size (k0_pay36 v527)) ∧ Y47 = (VecWindow.put X47 ![0, 0, 0] S1x51x1.size (k0_pay37 v518)) ∧ Y48 = (VecWindow.put X48 ![0, 0, 0] S1x51x4096.size (k0_pay38 v579)) ∧ Y49 = (VecWindow.put X49 ![0, 0, 0] S1x51x1.size (k0_pay39 v570))⌝ ∗ owns (c : Thread nD τ) a.m38 fullShare Y38 ∗ owns (c : Thread nD τ) a.m39 fullShare X39 ∗ owns (c : Thread nD τ) a.m45 fullShare Y45 ∗ owns (c : Thread nD τ) a.m46 fullShare Y46 ∗ owns (c : Thread nD τ) a.m47 fullShare Y47 ∗ owns (c : Thread nD τ) a.m48 fullShare Y48 ∗ owns (c : Thread nD τ) a.m49 fullShare Y49) -∗ K r))
    ⊢ wp frame (wpE (defs₀ (F := F)) Variants.none c none) E (k0_part6 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 v110 v111 v475 v518 v527 v570 v579) K := by
  rw [k0_part6_eq_skeleton]
  unfold k0_part6_skel owns
  iintro ⟨⟨%f38, %h38, H38⟩, ⟨%f39, %h39, H39⟩, ⟨%f45, %h45, H45⟩, ⟨%f46, %h46, H46⟩, ⟨%f47, %h47, H47⟩, ⟨%f48, %h48, H48⟩, ⟨%f49, %h49, H49⟩, Hk⟩
  subst h38 h39 h45 h46 h47 h48 h49
  sl_exec
  sl_step
  iapply Hk
  isplitr
  · ipureintro
    exact ⟨rfl, rfl, rfl, rfl, rfl, rfl, rfl⟩
  isplitl [H38]
  · iexists _; isplitr; swap; · iexact H38
    ipureintro; exact View.read_writes_cons_put _ _ _ _ [] rfl
  isplitl [H39]
  · iexists _; isplitr; swap; · iexact H39
    ipureintro; rfl
  isplitl [H45]
  · iexists _; isplitr; swap; · iexact H45
    ipureintro; exact View.read_writes_cons_put _ _ _ _ [] rfl
  isplitl [H46]
  · iexists _; isplitr; swap; · iexact H46
    ipureintro; exact View.read_writes_cons_put _ _ _ _ [] rfl
  isplitl [H47]
  · iexists _; isplitr; swap; · iexact H47
    ipureintro; exact View.read_writes_cons_put _ _ _ _ [] rfl
  isplitl [H48]
  · iexists _; isplitr; swap; · iexact H48
    ipureintro; exact View.read_writes_cons_put _ _ _ _ [] rfl
  iexists _; isplitr; swap; · iexact H49
  ipureintro; exact View.read_writes_cons_put _ _ _ _ [] rfl

/-- Part 7 of the body: what it returns and what it leaves in the buffers it stores to. -/
theorem wp_part7 (c : Dev nD) (i : grid0.Coords) (a : Bufs) (v80 : FVec F S112x1 .f32) (v89 : FVec F S128x1024 .fp8e4m3) (v466 : Vec F S112x2048 .f32) (v475 : FVec F S112x1 .f32) (v484 : FVec F S128x2048 .fp8e4m3) (v527 : FVec F S128x1024 .fp8e4m3) (v717 : FVec F S51x256 .bf16) (X39 : Vec F S2x51x256 .bf16) (X40 : Vec F S2x2048 .f32) (X41 : Vec F S2x50x2048 .bf16) (X42 : Vec F S2x51x1024 .fp8e4m3) (X43 : Vec F S2x51x1 .f32) (X44 : Vec F S2x51x2048 .fp8e4m3) (X45 : Vec F S2x51x1 .f32) (X46 : Vec F S2x51x1024 .fp8e4m3)
    (E : Set ℕ) (K : (FVec F S51x1024 .fp8e4m3) → sProp 𝕄) :
    iprop(owns (c : Thread nD τ) a.m39 fullShare X39 ∗ owns (c : Thread nD τ) a.m40 fullShare X40 ∗ owns (c : Thread nD τ) a.m41 fullShare X41 ∗ owns (c : Thread nD τ) a.m42 fullShare X42 ∗ owns (c : Thread nD τ) a.m43 fullShare X43 ∗ owns (c : Thread nD τ) a.m44 fullShare X44 ∗ owns (c : Thread nD τ) a.m45 fullShare X45 ∗ owns (c : Thread nD τ) a.m46 fullShare X46 ∗
      (∀ (r : (FVec F S51x1024 .fp8e4m3)) (Y39 : Vec F S2x51x256 .bf16) (Y40 : Vec F S2x2048 .f32) (Y41 : Vec F S2x50x2048 .bf16) (Y42 : Vec F S2x51x1024 .fp8e4m3) (Y43 : Vec F S2x51x1 .f32) (Y44 : Vec F S2x51x2048 .fp8e4m3) (Y45 : Vec F S2x51x1 .f32), iprop(⌜r = (k0_pay49 v527) ∧ Y39 = (VecWindow.put X39 ![1, 0, 0] S1x51x256.size (k0_pay42 v717)) ∧ Y40 = (VecWindow.put X40 ![1, 0] S1x2048.size (k0_pay43 v466)) ∧ Y41 = (VecWindow.put X41 ![1, 0, 0] S1x50x2048.size (k0_pay44 v466)) ∧ Y42 = (VecWindow.put X42 ![1, 0, 0] S1x51x1024.size (k0_pay45 v89)) ∧ Y43 = (VecWindow.put X43 ![1, 0, 0] S1x51x1.size (k0_pay46 v80)) ∧ Y44 = (VecWindow.put X44 ![1, 0, 0] S1x51x2048.size (k0_pay47 v484)) ∧ Y45 = (VecWindow.put X45 ![1, 0, 0] S1x51x1.size (k0_pay48 v475))⌝ ∗ owns (c : Thread nD τ) a.m39 fullShare Y39 ∗ owns (c : Thread nD τ) a.m40 fullShare Y40 ∗ owns (c : Thread nD τ) a.m41 fullShare Y41 ∗ owns (c : Thread nD τ) a.m42 fullShare Y42 ∗ owns (c : Thread nD τ) a.m43 fullShare Y43 ∗ owns (c : Thread nD τ) a.m44 fullShare Y44 ∗ owns (c : Thread nD τ) a.m45 fullShare Y45 ∗ owns (c : Thread nD τ) a.m46 fullShare X46) -∗ K r))
    ⊢ wp frame (wpE (defs₀ (F := F)) Variants.none c none) E (k0_part7 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 v80 v89 v466 v475 v484 v527 v717) K := by
  rw [k0_part7_eq_skeleton]
  unfold k0_part7_skel owns
  iintro ⟨⟨%f39, %h39, H39⟩, ⟨%f40, %h40, H40⟩, ⟨%f41, %h41, H41⟩, ⟨%f42, %h42, H42⟩, ⟨%f43, %h43, H43⟩, ⟨%f44, %h44, H44⟩, ⟨%f45, %h45, H45⟩, ⟨%f46, %h46, H46⟩, Hk⟩
  subst h39 h40 h41 h42 h43 h44 h45 h46
  sl_exec
  sl_step
  iapply Hk
  isplitr
  · ipureintro
    exact ⟨rfl, rfl, rfl, rfl, rfl, rfl, rfl, rfl⟩
  isplitl [H39]
  · iexists _; isplitr; swap; · iexact H39
    ipureintro; exact View.read_writes_cons_put _ _ _ _ [] rfl
  isplitl [H40]
  · iexists _; isplitr; swap; · iexact H40
    ipureintro; exact View.read_writes_cons_put _ _ _ _ [] rfl
  isplitl [H41]
  · iexists _; isplitr; swap; · iexact H41
    ipureintro; exact View.read_writes_cons_put _ _ _ _ [] rfl
  isplitl [H42]
  · iexists _; isplitr; swap; · iexact H42
    ipureintro; exact View.read_writes_cons_put _ _ _ _ [] rfl
  isplitl [H43]
  · iexists _; isplitr; swap; · iexact H43
    ipureintro; exact View.read_writes_cons_put _ _ _ _ [] rfl
  isplitl [H44]
  · iexists _; isplitr; swap; · iexact H44
    ipureintro; exact View.read_writes_cons_put _ _ _ _ [] rfl
  isplitl [H45]
  · iexists _; isplitr; swap; · iexact H45
    ipureintro; exact View.read_writes_cons_put _ _ _ _ [] rfl
  iexists _; isplitr; swap; · iexact H46
  ipureintro; rfl

end Cert.KernelIdeal.Named

end
-- ==== Proof.Vals.lean ====
/- The values the kernel body computes at one grid point, each named: from the inputs `x` and the carried scratch `p`. -/
module

public import proofs.«01_k».proof.Proof.Bufs
public import Idealize.ShloMosaic.Lib.VecWindow

@[expose] public section

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- Two contents with the same window written over them agree at an element if they agree there whenever it lies outside the window. -/
theorem put_congr {S : Shape} {α : Type} (X X' : S.Idx → α) (off size : Fin S.rank → ℕ) (w : ((a : Fin S.rank) → Fin (size a)) → α) (y : S.Idx)
    (h : (¬ ∀ a, off a ≤ (y a).val ∧ (y a).val < off a + size a) → X y = X' y) :
    VecWindow.put X off size w y = VecWindow.put X' off size w y := by
  unfold VecWindow.put
  split_ifs with hy
  · rfl
  · exact h hy

/-- An element in a window's rows but outside the window, and not left of it, lies right of it. -/
theorem miss {y : S112x2048.Idx} {r c : ℕ} (n : ¬ ∀ a, ((![r, c] : Fin 2 → ℕ) a) ≤ (y a).val ∧ (y a).val < (![r, c] : Fin 2 → ℕ) a + S56x256.size a)
    (hr : r ≤ (y 0).val ∧ (y 0).val < r + 56) (hc : c ≤ (y 1).val) : c + 256 ≤ (y 1).val := by
  by_contra hk
  refine n fun a => ?_
  fin_cases a
  · exact hr
  · exact ⟨hc, Nat.lt_of_not_le hk⟩

def B51_1 (x : Ins F) : Vec F S112x32 .f32 := (k0_pay5 (F := F))
def B54_1 (x : Ins F) : Vec F S112x128 .f32 := (k0_pay6 (F := F))
def B55_1 (x : Ins F) : Vec F S112x128 .f32 := (k0_pay7 (F := F))
def B56_1 (x : Ins F) : Vec F S2x1024x256 .bf16 := (k0_pay8 (F := F))
def B57_1 (x : Ins F) : Vec F S2x1024x256 .bf16 := (k0_pay9 (F := F))
def B58_1 (x : Ins F) : Vec F S2x1024 .f32 := (k0_pay10 (F := F))
def B59_1 (x : Ins F) : Vec F S2x1024 .f32 := (k0_pay11 (F := F))
def B51_2 (x : Ins F) : Vec F S112x32 .f32 := (VecWindow.put (B51_1 x) ![1, 0] S50x32.size (k0_pay12 (View.ld x.x1 (Rect.unit (s := S2x50x32) ![0, 0, 0] S1x50x32.size inb_S2x50x32_S1x50x32_0_0_0))))
def B54_2 (x : Ins F) : Vec F S112x128 .f32 := (VecWindow.put (B54_1 x) ![0, 0] S51x128.size (k0_pay13 (View.ld x.x31 (Rect.unit (s := S2x51x128) ![0, 0, 0] S1x51x128.size inb_S2x51x128_S1x51x128_0_0_0))))
def B55_2 (x : Ins F) : Vec F S112x128 .f32 := (VecWindow.put (B55_1 x) ![0, 0] S51x128.size (k0_pay14 (View.ld x.x32 (Rect.unit (s := S2x51x128) ![0, 0, 0] S1x51x128.size inb_S2x51x128_S1x51x128_0_0_0))))
def B56_2 (x : Ins F) : Vec F S2x1024x256 .bf16 := (VecWindow.put (B56_1 x) ![0, 0, 0] S1x896x256.size (k0_pay15 (View.ld x.x27 (Rect.unit (s := S2x896x256) ![0, 0, 0] S1x896x256.size inb_S2x896x256_S1x896x256_0_0_0))))
def B57_2 (x : Ins F) : Vec F S2x1024x256 .bf16 := (VecWindow.put (B57_1 x) ![0, 0, 0] S1x896x256.size (k0_pay16 (View.ld x.x28 (Rect.unit (s := S2x896x256) ![0, 0, 0] S1x896x256.size inb_S2x896x256_S1x896x256_0_0_0))))
def B51_3 (x : Ins F) : Vec F S112x32 .f32 := (VecWindow.put (B51_2 x) ![57, 0] S50x32.size (k0_pay19 (View.ld x.x1 (Rect.unit (s := S2x50x32) ![1, 0, 0] S1x50x32.size inb_S2x50x32_S1x50x32_1_0_0))))
def B54_3 (x : Ins F) : Vec F S112x128 .f32 := (VecWindow.put (B54_2 x) ![56, 0] S51x128.size (k0_pay20 (View.ld x.x31 (Rect.unit (s := S2x51x128) ![1, 0, 0] S1x51x128.size inb_S2x51x128_S1x51x128_1_0_0))))
def B55_3 (x : Ins F) : Vec F S112x128 .f32 := (VecWindow.put (B55_2 x) ![56, 0] S51x128.size (k0_pay21 (View.ld x.x32 (Rect.unit (s := S2x51x128) ![1, 0, 0] S1x51x128.size inb_S2x51x128_S1x51x128_1_0_0))))
def B58_3 (x : Ins F) : Vec F S2x1024 .f32 := (VecWindow.put (B58_1 x) ![0, 0] S1x896.size (k0_pay17 (View.ld x.x29 (Rect.unit (s := S2x896) ![0, 0] S1x896.size inb_S2x896_S1x896_0_0))))
def B59_3 (x : Ins F) : Vec F S2x1024 .f32 := (VecWindow.put (B59_1 x) ![0, 0] S1x896.size (k0_pay18 (View.ld x.x30 (Rect.unit (s := S2x896) ![0, 0] S1x896.size inb_S2x896_S1x896_0_0))))
def W739 (x : Ins F) : IVec S896x256 8 := (k0_pay22 (View.ld x.x27 (Rect.unit (s := S2x896x256) ![1, 0, 0] S1x896x256.size inb_S2x896x256_S1x896x256_1_0_0)))
def B56_4 (x : Ins F) : Vec F S2x1024x256 .bf16 := (VecWindow.put (B56_2 x) ![1, 0, 0] S1x896x256.size (k0_pay23 (F := F) (W739 x)))
def B57_4 (x : Ins F) : Vec F S2x1024x256 .bf16 := (VecWindow.put (B57_2 x) ![1, 0, 0] S1x896x256.size (k0_pay24 (View.ld x.x28 (Rect.unit (s := S2x896x256) ![1, 0, 0] S1x896x256.size inb_S2x896x256_S1x896x256_1_0_0))))
def B58_4 (x : Ins F) : Vec F S2x1024 .f32 := (VecWindow.put (B58_3 x) ![1, 0] S1x896.size (k0_pay25 (View.ld x.x29 (Rect.unit (s := S2x896) ![1, 0] S1x896.size inb_S2x896_S1x896_1_0))))
def B59_4 (x : Ins F) : Vec F S2x1024 .f32 := (VecWindow.put (B59_3 x) ![1, 0] S1x896.size (k0_pay26 (View.ld x.x30 (Rect.unit (s := S2x896) ![1, 0] S1x896.size inb_S2x896_S1x896_1_0))))
def W770 (x : Ins F) : FVec F S2x1024 .f32 := (k0_pay27 (View.ld x.x2 (Rect.unit (s := S2x32) ![0, 0] S2x32.size inb_S2x32_S2x32_0_0)) (View.ld x.x5 (Rect.unit (s := S32x1024) ![0, 0] S32x1024.size inb_S32x1024_S32x1024_0_0)) (View.ld x.x6 (Rect.unit (s := S1x1024) ![0, 0] S1x1024.size inb_S1x1024_S1x1024_0_0)))
def B52_8 (x : Ins F) : Vec F S2x1024 .f32 := (k0_pay50 (W770 x))
def B53_8 (x : Ins F) : Vec F S20x1024 .f32 := (k0_pay51 (View.ld x.x3 (Rect.unit (s := S20x1) ![0, 0] S20x1.size inb_S20x1_S20x1_0_0)) (View.ld x.x4 (Rect.unit (s := S1x512) ![0, 0] S1x512.size inb_S1x512_S1x512_0_0)) (View.ld x.x10 (Rect.unit (s := S1024x1024) ![0, 0] S1024x1024.size inb_S1024x1024_S1024x1024_0_0)) (View.ld x.x11 (Rect.unit (s := S1x1024) ![0, 0] S1x1024.size inb_S1x1024_S1x1024_0_0)))

/-- The scratch as the first grid point fills it. -/
def init (x : Ins F) : Carry F where
  s0 := B51_3 x
  s1 := B52_8 x
  s2 := B53_8 x
  s3 := B54_3 x
  s4 := B55_3 x
  s5 := B56_4 x
  s6 := B57_4 x
  s7 := B58_4 x
  s8 := B59_4 x

/-- The scratch the body works on: at the first grid point the filled one, later what the point before left. -/
def start (i : grid0.Coords) (x : Ins F) (p : Carry F) : Carry F := if cond0_0 i then init x else p

def V3 (i : grid0.Coords) (x : Ins F) (p : Carry F) : IVec S56x1 32 := (iota .tc S56x1 32 [0] iota_S56x1_d0_w32)
def V4 (i : grid0.Coords) (x : Ins F) (p : Carry F) : Vec F S112x32 .f32 := (View.ld p.s0 (Rect.unit (s := S112x32) ![0, 0] S112x32.size inb_S112x32_S112x32_0_0))
def V33 (i : grid0.Coords) (x : Ins F) (p : Carry F) : FVec F S112x1024 .f32 := k0_pay52 (View.ld p.s0 (Rect.unit (s := S112x32) ![0, 0] S112x32.size inb_S112x32_S112x32_0_0)) (View.ld x.x7 (Rect.unit (s := S32x1024) ![0, 0] S32x1024.size inb_S32x1024_S32x1024_0_0)) (View.ld x.x8 (Rect.unit (s := S1x1024) ![0, 0] S1x1024.size inb_S1x1024_S1x1024_0_0)) (View.ld x.x9 (Rect.unit (s := S1024x1024) ![0, 0] S1024x1024.size inb_S1024x1024_S1024x1024_0_0)) (View.ld p.s2 (Rect.unit (s := S20x1024) (k0_off1 i 0#32) S1x1024.size (k0_off1_inb i 0))) (View.ld p.s2 (Rect.unit (s := S20x1024) (k0_off1 i 1#32) S1x1024.size (k0_off1_inb i 1))) (View.ld x.x12 (Rect.unit (s := S1024x1024) ![0, 0] S1024x1024.size inb_S1024x1024_S1024x1024_0_0))
def V34 (i : grid0.Coords) (x : Ins F) (p : Carry F) : Vec F S1x1024 .f32 := (View.ld x.x13 (Rect.unit (s := S1x1024) ![0, 0] S1x1024.size inb_S1x1024_S1x1024_0_0))
def V56 (i : grid0.Coords) (x : Ins F) (p : Carry F) : FVec F S112x1024 .f32 := k0_pay53 (V3 i x p) (V33 i x p) (V34 i x p) (View.ld p.s1 (Rect.unit (s := S2x1024) ![0, 0] S1x1024.size inb_S2x1024_S1x1024_0_0)) (View.ld p.s1 (Rect.unit (s := S2x1024) ![1, 0] S1x1024.size inb_S2x1024_S1x1024_1_0))
def V71 (i : grid0.Coords) (x : Ins F) (p : Carry F) : FVec F S112x1024 .f32 := k0_pay54 (V3 i x p) (V33 i x p) (V34 i x p) (View.ld p.s1 (Rect.unit (s := S2x1024) ![0, 0] S1x1024.size inb_S2x1024_S1x1024_0_0)) (View.ld p.s1 (Rect.unit (s := S2x1024) ![1, 0] S1x1024.size inb_S2x1024_S1x1024_1_0)) (View.ld x.x14 (Rect.unit (s := S1x1024) ![0, 0] S1x1024.size inb_S1x1024_S1x1024_0_0))
def V76 (i : grid0.Coords) (x : Ins F) (p : Carry F) : IVec S112x1 1 := k0_pay56 (V3 i x p) (V33 i x p) (V34 i x p) (View.ld p.s1 (Rect.unit (s := S2x1024) ![0, 0] S1x1024.size inb_S2x1024_S1x1024_0_0)) (View.ld p.s1 (Rect.unit (s := S2x1024) ![1, 0] S1x1024.size inb_S2x1024_S1x1024_1_0)) (View.ld x.x14 (Rect.unit (s := S1x1024) ![0, 0] S1x1024.size inb_S1x1024_S1x1024_0_0))
def V78 (i : grid0.Coords) (x : Ins F) (p : Carry F) : FVec F S112x1 .f32 := k0_pay57 (V3 i x p) (V33 i x p) (V34 i x p) (View.ld p.s1 (Rect.unit (s := S2x1024) ![0, 0] S1x1024.size inb_S2x1024_S1x1024_0_0)) (View.ld p.s1 (Rect.unit (s := S2x1024) ![1, 0] S1x1024.size inb_S2x1024_S1x1024_1_0)) (View.ld x.x14 (Rect.unit (s := S1x1024) ![0, 0] S1x1024.size inb_S1x1024_S1x1024_0_0))
def Vcst32 (i : grid0.Coords) (x : Ins F) (p : Carry F) : F .f32 := (Scalar.ofBits .f32 0x3F800000#32)
def V80 (i : grid0.Coords) (x : Ins F) (p : Carry F) : FVec F S112x1 .f32 := k0_pay58 (V76 i x p) (V78 i x p) (Vcst32 i x p)
def V89 (i : grid0.Coords) (x : Ins F) (p : Carry F) : FVec F S128x1024 .fp8e4m3 := k0_pay59 (V71 i x p) (V76 i x p) (V78 i x p) (Vcst32 i x p)
def V98 (i : grid0.Coords) (x : Ins F) (p : Carry F) : FVec F S112x2560 .f32 := k0_pay60 (V71 i x p) (V76 i x p) (V78 i x p) (Vcst32 i x p) (View.ld x.x16 (Rect.unit (s := S1024x2560) ![0, 0] S1024x2560.size inb_S1024x2560_S1024x2560_0_0)) (View.ld x.x17 (Rect.unit (s := S1x2560) ![0, 0] S1x2560.size inb_S1x2560_S1x2560_0_0))
def V99 (i : grid0.Coords) (x : Ins F) (p : Carry F) : Vec F S112x128 .f32 := (View.ld p.s3 (Rect.unit (s := S112x128) ![0, 0] S112x128.size inb_S112x128_S112x128_0_0))
def V100 (i : grid0.Coords) (x : Ins F) (p : Carry F) : Vec F S112x128 .f32 := (View.ld p.s4 (Rect.unit (s := S112x128) ![0, 0] S112x128.size inb_S112x128_S112x128_0_0))
def V110 (i : grid0.Coords) (x : Ins F) (p : Carry F) : FVec F S112x256 .f32 := k0_pay61 (V71 i x p) (V76 i x p) (V78 i x p) (Vcst32 i x p) (View.ld x.x16 (Rect.unit (s := S1024x2560) ![0, 0] S1024x2560.size inb_S1024x2560_S1024x2560_0_0)) (View.ld x.x17 (Rect.unit (s := S1x2560) ![0, 0] S1x2560.size inb_S1x2560_S1x2560_0_0)) (View.ld p.s3 (Rect.unit (s := S112x128) ![0, 0] S112x128.size inb_S112x128_S112x128_0_0)) (View.ld p.s4 (Rect.unit (s := S112x128) ![0, 0] S112x128.size inb_S112x128_S112x128_0_0))
def V111 (i : grid0.Coords) (x : Ins F) (p : Carry F) : FVec F S112x256 .f32 := k0_pay62 (V71 i x p) (V76 i x p) (V78 i x p) (Vcst32 i x p) (View.ld x.x16 (Rect.unit (s := S1024x2560) ![0, 0] S1024x2560.size inb_S1024x2560_S1024x2560_0_0)) (View.ld x.x17 (Rect.unit (s := S1x2560) ![0, 0] S1x2560.size inb_S1x2560_S1x2560_0_0))
def V121 (i : grid0.Coords) (x : Ins F) (p : Carry F) : FVec F S112x256 .f32 := k0_pay63 (V71 i x p) (V76 i x p) (V78 i x p) (Vcst32 i x p) (View.ld x.x16 (Rect.unit (s := S1024x2560) ![0, 0] S1024x2560.size inb_S1024x2560_S1024x2560_0_0)) (View.ld x.x17 (Rect.unit (s := S1x2560) ![0, 0] S1x2560.size inb_S1x2560_S1x2560_0_0)) (View.ld p.s3 (Rect.unit (s := S112x128) ![0, 0] S112x128.size inb_S112x128_S112x128_0_0)) (View.ld p.s4 (Rect.unit (s := S112x128) ![0, 0] S112x128.size inb_S112x128_S112x128_0_0))
def V123 (i : grid0.Coords) (x : Ins F) (p : Carry F) : FVec F S112x128 .f32 := k0_pay65 (V71 i x p) (V76 i x p) (V78 i x p) (Vcst32 i x p) (View.ld x.x16 (Rect.unit (s := S1024x2560) ![0, 0] S1024x2560.size inb_S1024x2560_S1024x2560_0_0)) (View.ld x.x17 (Rect.unit (s := S1x2560) ![0, 0] S1x2560.size inb_S1x2560_S1x2560_0_0))
def V124 (i : grid0.Coords) (x : Ins F) (p : Carry F) : FVec F S112x128 .f32 := k0_pay66 (V71 i x p) (V76 i x p) (V78 i x p) (Vcst32 i x p) (View.ld x.x16 (Rect.unit (s := S1024x2560) ![0, 0] S1024x2560.size inb_S1024x2560_S1024x2560_0_0)) (View.ld x.x17 (Rect.unit (s := S1x2560) ![0, 0] S1x2560.size inb_S1x2560_S1x2560_0_0))
def V125 (i : grid0.Coords) (x : Ins F) (p : Carry F) : FVec F S112x128 .f32 := k0_pay67 (V71 i x p) (V76 i x p) (V78 i x p) (Vcst32 i x p) (View.ld x.x16 (Rect.unit (s := S1024x2560) ![0, 0] S1024x2560.size inb_S1024x2560_S1024x2560_0_0)) (View.ld x.x17 (Rect.unit (s := S1x2560) ![0, 0] S1x2560.size inb_S1x2560_S1x2560_0_0)) (View.ld p.s3 (Rect.unit (s := S112x128) ![0, 0] S112x128.size inb_S112x128_S112x128_0_0))
def V126 (i : grid0.Coords) (x : Ins F) (p : Carry F) : FVec F S112x128 .f32 := k0_pay68 (V71 i x p) (V76 i x p) (V78 i x p) (Vcst32 i x p) (View.ld x.x16 (Rect.unit (s := S1024x2560) ![0, 0] S1024x2560.size inb_S1024x2560_S1024x2560_0_0)) (View.ld x.x17 (Rect.unit (s := S1x2560) ![0, 0] S1x2560.size inb_S1x2560_S1x2560_0_0)) (View.ld p.s4 (Rect.unit (s := S112x128) ![0, 0] S112x128.size inb_S112x128_S112x128_0_0))
def V131 (i : grid0.Coords) (x : Ins F) (p : Carry F) : FVec F S112x256 .f32 := k0_pay69 (V99 i x p) (V100 i x p) (V123 i x p) (V124 i x p) (V125 i x p) (V126 i x p)
def V141 (i : grid0.Coords) (x : Ins F) (p : Carry F) : FVec F S112x256 .f32 := k0_pay70 (V98 i x p) (V99 i x p) (V100 i x p)
def V151 (i : grid0.Coords) (x : Ins F) (p : Carry F) : FVec F S112x256 .f32 := k0_pay71 (V98 i x p) (V99 i x p) (V100 i x p)
def V161 (i : grid0.Coords) (x : Ins F) (p : Carry F) : FVec F S112x256 .f32 := k0_pay72 (V98 i x p) (V99 i x p) (V100 i x p)
def V171 (i : grid0.Coords) (x : Ins F) (p : Carry F) : FVec F S112x256 .f32 := k0_pay73 (V98 i x p) (V99 i x p) (V100 i x p)
def V181 (i : grid0.Coords) (x : Ins F) (p : Carry F) : FVec F S112x256 .f32 := k0_pay74 (V98 i x p) (V99 i x p) (V100 i x p)
def V183 (i : grid0.Coords) (x : Ins F) (p : Carry F) : FVec F S112x128 .f32 := k0_pay76 (V98 i x p)
def V184 (i : grid0.Coords) (x : Ins F) (p : Carry F) : FVec F S112x128 .f32 := k0_pay77 (V98 i x p)
def V185 (i : grid0.Coords) (x : Ins F) (p : Carry F) : FVec F S112x128 .f32 := k0_pay78 (V98 i x p) (V99 i x p)
def V186 (i : grid0.Coords) (x : Ins F) (p : Carry F) : FVec F S112x128 .f32 := k0_pay79 (V98 i x p) (V100 i x p)
def S5_12 (i : grid0.Coords) (x : Ins F) (p : Carry F) : Vec F S2x1024x256 .bf16 := (VecWindow.put p.s5 ![0, 896, 0] S1x56x256.size (k0_pay82 (V110 i x p)))
def S6_12 (i : grid0.Coords) (x : Ins F) (p : Carry F) : Vec F S2x1024x256 .bf16 := (VecWindow.put p.s6 ![0, 896, 0] S1x56x256.size (k0_pay83 (V111 i x p)))
def V191 (i : grid0.Coords) (x : Ins F) (p : Carry F) : FVec F S112x256 .f32 := k0_pay80 (V99 i x p) (V100 i x p) (V183 i x p) (V184 i x p) (V185 i x p) (V186 i x p)
def V192 (i : grid0.Coords) (x : Ins F) (p : Carry F) : IVec S1x1024 32 := (iota .tc S1x1024 32 [1] iota_S1x1024_d1_w32)
def V211 (i : grid0.Coords) (x : Ins F) (p : Carry F) : IVec S224x1 1 := k0_pay81
def V224 (i : grid0.Coords) (x : Ins F) (p : Carry F) : IVec S1x1024 1 := k0_pay84 (View.ld x.x0 (Rect.unit (s := S2) ![0] S1.size inb_S2_S1_0) (Shape.Idx.first (numel1_S1.symm ▸ Nat.one_pos)))
def V226 (i : grid0.Coords) (x : Ins F) (p : Carry F) : IVec S1x1024 1 := k0_pay85
def V228 (i : grid0.Coords) (x : Ins F) (p : Carry F) : IVec S1x1024 1 := k0_pay86
def V244 (i : grid0.Coords) (x : Ins F) (p : Carry F) : IVec S224x1024 1 := k0_pay87 (V192 i x p) (V211 i x p) (V224 i x p) (V226 i x p) (V228 i x p) (View.ld x.x0 (Rect.unit (s := S2) ![0] S1.size inb_S2_S1_0) (Shape.Idx.first (numel1_S1.symm ▸ Nat.one_pos)))
def V266 (i : grid0.Coords) (x : Ins F) (p : Carry F) : FVec F S224x1 .f32 := k0_pay89 (V121 i x p) (V131 i x p) (V141 i x p) (V151 i x p) (V192 i x p) (V211 i x p) (V224 i x p) (V226 i x p) (V228 i x p) (View.ld x.x0 (Rect.unit (s := S2) ![0] S1.size inb_S2_S1_0) (Shape.Idx.first (numel1_S1.symm ▸ Nat.one_pos))) (View.ld (S5_12 i x p) (Rect.unit (s := S2x1024x256) ![0, 0, 0] S1x1024x256.size inb_S2x1024x256_S1x1024x256_0_0_0)) (View.ld p.s7 (Rect.unit (s := S2x1024) ![0, 0] S1x1024.size inb_S2x1024_S1x1024_0_0))
def V270 (i : grid0.Coords) (x : Ins F) (p : Carry F) : FVec F S224x1024 .bf16 := k0_pay90 (V121 i x p) (V131 i x p) (V141 i x p) (V151 i x p) (V192 i x p) (V211 i x p) (V224 i x p) (V226 i x p) (V228 i x p) (View.ld x.x0 (Rect.unit (s := S2) ![0] S1.size inb_S2_S1_0) (Shape.Idx.first (numel1_S1.symm ▸ Nat.one_pos))) (View.ld (S5_12 i x p) (Rect.unit (s := S2x1024x256) ![0, 0, 0] S1x1024x256.size inb_S2x1024x256_S1x1024x256_0_0_0)) (View.ld p.s7 (Rect.unit (s := S2x1024) ![0, 0] S1x1024.size inb_S2x1024_S1x1024_0_0)) (View.ld p.s8 (Rect.unit (s := S2x1024) ![0, 0] S1x1024.size inb_S2x1024_S1x1024_0_0))
def V271 (i : grid0.Coords) (x : Ins F) (p : Carry F) : Vec F S1x1024x256 .bf16 := (View.ld (S6_12 i x p) (Rect.unit (s := S2x1024x256) ![0, 0, 0] S1x1024x256.size inb_S2x1024x256_S1x1024x256_0_0_0))
def T_14 (i : grid0.Coords) (x : Ins F) (p : Carry F) (d : Vec F S112x2048 .f32) : Vec F S112x2048 .f32 := (VecWindow.put (VecWindow.put (VecWindow.put (VecWindow.put d ![0, 0] S56x256.size (k0_pay92 (V266 i x p) (V270 i x p) (V271 i x p))) ![0, 256] S56x256.size (k0_pay93 (V266 i x p) (V270 i x p) (V271 i x p))) ![0, 512] S56x256.size (k0_pay94 (V266 i x p) (V270 i x p) (V271 i x p))) ![0, 768] S56x256.size (k0_pay95 (V266 i x p) (V270 i x p) (V271 i x p)))
def V310 (i : grid0.Coords) (x : Ins F) (p : Carry F) : FVec F S224x1024 .f32 := (k0_pay96 (V161 i x p) (V171 i x p) (V181 i x p) (V191 i x p) (V244 i x p) (View.ld (S5_12 i x p) (Rect.unit (s := S2x1024x256) ![0, 0, 0] S1x1024x256.size inb_S2x1024x256_S1x1024x256_0_0_0)) (View.ld p.s7 (Rect.unit (s := S2x1024) ![0, 0] S1x1024.size inb_S2x1024_S1x1024_0_0)))
def S5_15 (i : grid0.Coords) (x : Ins F) (p : Carry F) : Vec F S2x1024x256 .bf16 := (VecWindow.put (S5_12 i x p) ![1, 896, 0] S1x56x256.size (k0_pay102 (V110 i x p)))
def T_15 (i : grid0.Coords) (x : Ins F) (p : Carry F) (d : Vec F S112x2048 .f32) : Vec F S112x2048 .f32 := (VecWindow.put (VecWindow.put (VecWindow.put (VecWindow.put (T_14 i x p d) ![0, 1024] S56x256.size (k0_pay98 (V310 i x p) (View.ld p.s8 (Rect.unit (s := S2x1024) ![0, 0] S1x1024.size inb_S2x1024_S1x1024_0_0)) (View.ld (S6_12 i x p) (Rect.unit (s := S2x1024x256) ![0, 0, 0] S1x1024x256.size inb_S2x1024x256_S1x1024x256_0_0_0)))) ![0, 1280] S56x256.size (k0_pay99 (V310 i x p) (View.ld p.s8 (Rect.unit (s := S2x1024) ![0, 0] S1x1024.size inb_S2x1024_S1x1024_0_0)) (View.ld (S6_12 i x p) (Rect.unit (s := S2x1024x256) ![0, 0, 0] S1x1024x256.size inb_S2x1024x256_S1x1024x256_0_0_0)))) ![0, 1536] S56x256.size (k0_pay100 (V310 i x p) (View.ld p.s8 (Rect.unit (s := S2x1024) ![0, 0] S1x1024.size inb_S2x1024_S1x1024_0_0)) (View.ld (S6_12 i x p) (Rect.unit (s := S2x1024x256) ![0, 0, 0] S1x1024x256.size inb_S2x1024x256_S1x1024x256_0_0_0)))) ![0, 1792] S56x256.size (k0_pay101 (V310 i x p) (View.ld p.s8 (Rect.unit (s := S2x1024) ![0, 0] S1x1024.size inb_S2x1024_S1x1024_0_0)) (View.ld (S6_12 i x p) (Rect.unit (s := S2x1024x256) ![0, 0, 0] S1x1024x256.size inb_S2x1024x256_S1x1024x256_0_0_0))))
def V345 (i : grid0.Coords) (x : Ins F) (p : Carry F) : FVec F S56x256 .bf16 := (k0_pay103 (V111 i x p))
def S6_16 (i : grid0.Coords) (x : Ins F) (p : Carry F) : Vec F S2x1024x256 .bf16 := (VecWindow.put (S6_12 i x p) ![1, 896, 0] S1x56x256.size (k0_pay104 (V345 i x p)))
def V371 (i : grid0.Coords) (x : Ins F) (p : Carry F) : IVec S224x1024 1 := k0_pay105 (V192 i x p) (V211 i x p) (View.ld x.x0 (Rect.unit (s := S2) ![1] S1.size inb_S2_S1_1) (Shape.Idx.first (numel1_S1.symm ▸ Nat.one_pos))) (View.ld x.x0 (Rect.unit (s := S2) ![1] S1.size inb_S2_S1_1) (Shape.Idx.first (numel1_S1.symm ▸ Nat.one_pos)))
def V385 (i : grid0.Coords) (x : Ins F) (p : Carry F) : FVec F S224x1024 .f32 := k0_pay106 (V121 i x p) (V131 i x p) (V141 i x p) (V151 i x p) (V192 i x p) (V211 i x p) (View.ld x.x0 (Rect.unit (s := S2) ![1] S1.size inb_S2_S1_1) (Shape.Idx.first (numel1_S1.symm ▸ Nat.one_pos))) (View.ld x.x0 (Rect.unit (s := S2) ![1] S1.size inb_S2_S1_1) (Shape.Idx.first (numel1_S1.symm ▸ Nat.one_pos))) (View.ld (S5_15 i x p) (Rect.unit (s := S2x1024x256) ![1, 0, 0] S1x1024x256.size inb_S2x1024x256_S1x1024x256_1_0_0)) (View.ld p.s7 (Rect.unit (s := S2x1024) ![1, 0] S1x1024.size inb_S2x1024_S1x1024_1_0))
def V389 (i : grid0.Coords) (x : Ins F) (p : Carry F) : FVec F S224x1024 .f32 := k0_pay107 (V121 i x p) (V131 i x p) (V141 i x p) (V151 i x p) (V192 i x p) (V211 i x p) (View.ld x.x0 (Rect.unit (s := S2) ![1] S1.size inb_S2_S1_1) (Shape.Idx.first (numel1_S1.symm ▸ Nat.one_pos))) (View.ld x.x0 (Rect.unit (s := S2) ![1] S1.size inb_S2_S1_1) (Shape.Idx.first (numel1_S1.symm ▸ Nat.one_pos))) (View.ld (S5_15 i x p) (Rect.unit (s := S2x1024x256) ![1, 0, 0] S1x1024x256.size inb_S2x1024x256_S1x1024x256_1_0_0)) (View.ld p.s7 (Rect.unit (s := S2x1024) ![1, 0] S1x1024.size inb_S2x1024_S1x1024_1_0))
def T_17 (i : grid0.Coords) (x : Ins F) (p : Carry F) (d : Vec F S112x2048 .f32) : Vec F S112x2048 .f32 := (VecWindow.put (VecWindow.put (VecWindow.put (VecWindow.put (T_15 i x p d) ![56, 0] S56x256.size (k0_pay109 (V385 i x p) (V389 i x p) (View.ld p.s8 (Rect.unit (s := S2x1024) ![1, 0] S1x1024.size inb_S2x1024_S1x1024_1_0)) (View.ld (S6_16 i x p) (Rect.unit (s := S2x1024x256) ![1, 0, 0] S1x1024x256.size inb_S2x1024x256_S1x1024x256_1_0_0)))) ![56, 256] S56x256.size (k0_pay110 (V385 i x p) (V389 i x p) (View.ld p.s8 (Rect.unit (s := S2x1024) ![1, 0] S1x1024.size inb_S2x1024_S1x1024_1_0)) (View.ld (S6_16 i x p) (Rect.unit (s := S2x1024x256) ![1, 0, 0] S1x1024x256.size inb_S2x1024x256_S1x1024x256_1_0_0)))) ![56, 512] S56x256.size (k0_pay111 (V385 i x p) (V389 i x p) (View.ld p.s8 (Rect.unit (s := S2x1024) ![1, 0] S1x1024.size inb_S2x1024_S1x1024_1_0)) (View.ld (S6_16 i x p) (Rect.unit (s := S2x1024x256) ![1, 0, 0] S1x1024x256.size inb_S2x1024x256_S1x1024x256_1_0_0)))) ![56, 768] S56x256.size (k0_pay112 (V385 i x p) (V389 i x p) (View.ld p.s8 (Rect.unit (s := S2x1024) ![1, 0] S1x1024.size inb_S2x1024_S1x1024_1_0)) (View.ld (S6_16 i x p) (Rect.unit (s := S2x1024x256) ![1, 0, 0] S1x1024x256.size inb_S2x1024x256_S1x1024x256_1_0_0))))
def V424 (i : grid0.Coords) (x : Ins F) (p : Carry F) : FVec F S224x256 .bf16 := k0_pay113 (V161 i x p) (V171 i x p) (V181 i x p) (V191 i x p)
def V426 (i : grid0.Coords) (x : Ins F) (p : Carry F) : FVec F S1024x256 .bf16 := k0_pay114 (View.ld (S5_15 i x p) (Rect.unit (s := S2x1024x256) ![1, 0, 0] S1x1024x256.size inb_S2x1024x256_S1x1024x256_1_0_0))
def Vcst136 (i : grid0.Coords) (x : Ins F) (p : Carry F) : FVec F S224x1024 .f32 := (constant S224x1024 .f32 0x00000000#32)
def T_18 (i : grid0.Coords) (x : Ins F) (p : Carry F) (d : Vec F S112x2048 .f32) : Vec F S112x2048 .f32 := (VecWindow.put (VecWindow.put (VecWindow.put (T_17 i x p d) ![56, 1024] S56x256.size (k0_pay116 (V371 i x p) (V424 i x p) (V426 i x p) (Vcst136 i x p) (View.ld p.s7 (Rect.unit (s := S2x1024) ![1, 0] S1x1024.size inb_S2x1024_S1x1024_1_0)) (View.ld p.s8 (Rect.unit (s := S2x1024) ![1, 0] S1x1024.size inb_S2x1024_S1x1024_1_0)) (View.ld (S6_16 i x p) (Rect.unit (s := S2x1024x256) ![1, 0, 0] S1x1024x256.size inb_S2x1024x256_S1x1024x256_1_0_0)))) ![56, 1280] S56x256.size (k0_pay117 (V371 i x p) (V424 i x p) (V426 i x p) (Vcst136 i x p) (View.ld p.s7 (Rect.unit (s := S2x1024) ![1, 0] S1x1024.size inb_S2x1024_S1x1024_1_0)) (View.ld p.s8 (Rect.unit (s := S2x1024) ![1, 0] S1x1024.size inb_S2x1024_S1x1024_1_0)) (View.ld (S6_16 i x p) (Rect.unit (s := S2x1024x256) ![1, 0, 0] S1x1024x256.size inb_S2x1024x256_S1x1024x256_1_0_0)))) ![56, 1536] S56x256.size (k0_pay118 (V371 i x p) (V424 i x p) (V426 i x p) (Vcst136 i x p) (View.ld p.s7 (Rect.unit (s := S2x1024) ![1, 0] S1x1024.size inb_S2x1024_S1x1024_1_0)) (View.ld p.s8 (Rect.unit (s := S2x1024) ![1, 0] S1x1024.size inb_S2x1024_S1x1024_1_0)) (View.ld (S6_16 i x p) (Rect.unit (s := S2x1024x256) ![1, 0, 0] S1x1024x256.size inb_S2x1024x256_S1x1024x256_1_0_0))))
def V462 (i : grid0.Coords) (x : Ins F) (p : Carry F) : FVec F S56x256 .f32 := (k0_pay119 (V371 i x p) (V424 i x p) (V426 i x p) (Vcst136 i x p) (View.ld p.s7 (Rect.unit (s := S2x1024) ![1, 0] S1x1024.size inb_S2x1024_S1x1024_1_0)) (View.ld p.s8 (Rect.unit (s := S2x1024) ![1, 0] S1x1024.size inb_S2x1024_S1x1024_1_0)) (View.ld (S6_16 i x p) (Rect.unit (s := S2x1024x256) ![1, 0, 0] S1x1024x256.size inb_S2x1024x256_S1x1024x256_1_0_0)))
def T_19 (i : grid0.Coords) (x : Ins F) (p : Carry F) (d : Vec F S112x2048 .f32) : Vec F S112x2048 .f32 := (VecWindow.put (T_18 i x p d) ![56, 1792] S56x256.size (k0_pay120 (V462 i x p)))
/-- The attention rows do not depend on what the buffer held: every element is stored. -/
theorem T_19_indep (i : grid0.Coords) (x : Ins F) (p : Carry F) (d d' : Vec F S112x2048 .f32) : T_19 i x p d = T_19 i x p d' := by
  funext y
  have h0 : (y 0).val < 112 := (y 0).isLt
  have h1 : (y 1).val < 2048 := (y 1).isLt
  unfold T_19 T_18 T_17 T_15 T_14
  refine put_congr _ _ _ _ _ _ fun n56_1792 => ?_
  refine put_congr _ _ _ _ _ _ fun n56_1536 => ?_
  refine put_congr _ _ _ _ _ _ fun n56_1280 => ?_
  refine put_congr _ _ _ _ _ _ fun n56_1024 => ?_
  refine put_congr _ _ _ _ _ _ fun n56_768 => ?_
  refine put_congr _ _ _ _ _ _ fun n56_512 => ?_
  refine put_congr _ _ _ _ _ _ fun n56_256 => ?_
  refine put_congr _ _ _ _ _ _ fun n56_0 => ?_
  refine put_congr _ _ _ _ _ _ fun n0_1792 => ?_
  refine put_congr _ _ _ _ _ _ fun n0_1536 => ?_
  refine put_congr _ _ _ _ _ _ fun n0_1280 => ?_
  refine put_congr _ _ _ _ _ _ fun n0_1024 => ?_
  refine put_congr _ _ _ _ _ _ fun n0_768 => ?_
  refine put_congr _ _ _ _ _ _ fun n0_512 => ?_
  refine put_congr _ _ _ _ _ _ fun n0_256 => ?_
  refine put_congr _ _ _ _ _ _ fun n0_0 => ?_
  exfalso
  by_cases hr : (y 0).val < 56
  · have k0 := miss n0_0 ⟨Nat.zero_le _, hr⟩ (Nat.zero_le _)
    have k1 := miss n0_256 ⟨Nat.zero_le _, hr⟩ k0
    have k2 := miss n0_512 ⟨Nat.zero_le _, hr⟩ k1
    have k3 := miss n0_768 ⟨Nat.zero_le _, hr⟩ k2
    have k4 := miss n0_1024 ⟨Nat.zero_le _, hr⟩ k3
    have k5 := miss n0_1280 ⟨Nat.zero_le _, hr⟩ k4
    have k6 := miss n0_1536 ⟨Nat.zero_le _, hr⟩ k5
    have k7 := miss n0_1792 ⟨Nat.zero_le _, hr⟩ k6
    omega
  · have k0 := miss n56_0 ⟨by omega, by omega⟩ (Nat.zero_le _)
    have k1 := miss n56_256 ⟨by omega, by omega⟩ k0
    have k2 := miss n56_512 ⟨by omega, by omega⟩ k1
    have k3 := miss n56_768 ⟨by omega, by omega⟩ k2
    have k4 := miss n56_1024 ⟨by omega, by omega⟩ k3
    have k5 := miss n56_1280 ⟨by omega, by omega⟩ k4
    have k6 := miss n56_1536 ⟨by omega, by omega⟩ k5
    have k7 := miss n56_1792 ⟨by omega, by omega⟩ k6
    omega

def V466 (i : grid0.Coords) (x : Ins F) (p : Carry F) : Vec F S112x2048 .f32 := View.ld (T_19 i x p fun _ => Scalar.ofBits .f32 0x00000000#32) (Rect.unit (s := S112x2048) ![0, 0] S112x2048.size inb_S112x2048_S112x2048_0_0)
theorem V466_raw (i : grid0.Coords) (x : Ins F) (p : Carry F) (d : Vec F S112x2048 .f32) : (View.ld (VecWindow.put (T_18 i x p d) ![56, 1792] S56x256.size (k0_pay120 (V462 i x p))) (Rect.unit (s := S112x2048) ![0, 0] S112x2048.size inb_S112x2048_S112x2048_0_0)) = V466 i x p :=
  congrArg (fun t => View.ld t (Rect.unit (s := S112x2048) ![0, 0] S112x2048.size inb_S112x2048_S112x2048_0_0)) (T_19_indep i x p d _)

def V475 (i : grid0.Coords) (x : Ins F) (p : Carry F) : FVec F S112x1 .f32 := k0_pay121 (V466 i x p)
def V484 (i : grid0.Coords) (x : Ins F) (p : Carry F) : FVec F S128x2048 .fp8e4m3 := k0_pay122 (V466 i x p)
def V494 (i : grid0.Coords) (x : Ins F) (p : Carry F) : FVec F S112x1024 .f32 := k0_pay123 (V56 i x p) (V466 i x p) (View.ld x.x18 (Rect.unit (s := S2048x1024) ![0, 0] S2048x1024.size inb_S2048x1024_S2048x1024_0_0)) (View.ld x.x19 (Rect.unit (s := S1x1024) ![0, 0] S1x1024.size inb_S1x1024_S1x1024_0_0))
def V495 (i : grid0.Coords) (x : Ins F) (p : Carry F) : Vec F S1x1024 .f32 := (View.ld x.x15 (Rect.unit (s := S1x1024) ![0, 0] S1x1024.size inb_S1x1024_S1x1024_0_0))
def V504 (i : grid0.Coords) (x : Ins F) (p : Carry F) : FVec F S112x1024 .f32 := k0_pay124 (V56 i x p) (V466 i x p) (View.ld x.x18 (Rect.unit (s := S2048x1024) ![0, 0] S2048x1024.size inb_S2048x1024_S2048x1024_0_0)) (View.ld x.x19 (Rect.unit (s := S1x1024) ![0, 0] S1x1024.size inb_S1x1024_S1x1024_0_0))
def V518 (i : grid0.Coords) (x : Ins F) (p : Carry F) : FVec F S112x1 .f32 := k0_pay126 (V494 i x p) (V495 i x p) (V504 i x p)
def V527 (i : grid0.Coords) (x : Ins F) (p : Carry F) : FVec F S128x1024 .fp8e4m3 := k0_pay127 (V494 i x p) (V495 i x p) (V504 i x p)
def V537 (i : grid0.Coords) (x : Ins F) (p : Carry F) : FVec F S112x4096 .f32 := k0_pay128 (V494 i x p) (V495 i x p) (V504 i x p) (View.ld x.x20 (Rect.unit (s := S2x1024x4096) ![0, 0, 0] S1x1024x4096.size inb_S2x1024x4096_S1x1024x4096_0_0_0)) (View.ld x.x21 (Rect.unit (s := S2x4096) ![0, 0] S1x4096.size inb_S2x4096_S1x4096_0_0))
def V543 (i : grid0.Coords) (x : Ins F) (p : Carry F) : FVec F S112x4096 .f32 := k0_pay129 (V494 i x p) (V495 i x p) (V504 i x p) (View.ld x.x20 (Rect.unit (s := S2x1024x4096) ![1, 0, 0] S1x1024x4096.size inb_S2x1024x4096_S1x1024x4096_1_0_0))
def V544 (i : grid0.Coords) (x : Ins F) (p : Carry F) : Vec F S1x4096 .f32 := (View.ld x.x21 (Rect.unit (s := S2x4096) ![1, 0] S1x4096.size inb_S2x4096_S1x4096_1_0))
def V570 (i : grid0.Coords) (x : Ins F) (p : Carry F) : FVec F S112x1 .f32 := k0_pay131 (V537 i x p) (V543 i x p) (V544 i x p)
def V579 (i : grid0.Coords) (x : Ins F) (p : Carry F) : FVec F S128x4096 .fp8e4m3 := k0_pay132 (V537 i x p) (V543 i x p) (V544 i x p)
def V588 (i : grid0.Coords) (x : Ins F) (p : Carry F) : FVec F S112x1024 .f32 := k0_pay133 (V537 i x p) (V543 i x p) (V544 i x p) (View.ld x.x22 (Rect.unit (s := S4096x1024) ![0, 0] S4096x1024.size inb_S4096x1024_S4096x1024_0_0)) (View.ld x.x23 (Rect.unit (s := S1x1024) ![0, 0] S1x1024.size inb_S1x1024_S1x1024_0_0))
def O34_22 (i : grid0.Coords) (x : Ins F) (p : Carry F) (y34 : Vec F S1x2x50x32 .f32) : Vec F S1x2x50x32 .f32 := (VecWindow.put y34 ![0, 0, 0, 0] S1x1x50x32.size (k0_pay137 (V494 i x p) (V588 i x p) (View.ld x.x24 (Rect.unit (s := S1x1024) ![0, 0] S1x1024.size inb_S1x1024_S1x1024_0_0)) (View.ld x.x25 (Rect.unit (s := S1024x32) ![0, 0] S1024x32.size inb_S1024x32_S1024x32_0_0)) (View.ld x.x26 (Rect.unit (s := S1x32) ![0, 0] S1x32.size inb_S1x32_S1x32_0_0))))
def S0_22 (i : grid0.Coords) (x : Ins F) (p : Carry F) : Vec F S112x32 .f32 := (VecWindow.put p.s0 ![0, 0] S56x32.size (k0_pay138 (V4 i x p) (V494 i x p) (V588 i x p) (View.ld x.x24 (Rect.unit (s := S1x1024) ![0, 0] S1x1024.size inb_S1x1024_S1x1024_0_0)) (View.ld x.x25 (Rect.unit (s := S1024x32) ![0, 0] S1024x32.size inb_S1024x32_S1024x32_0_0)) (View.ld x.x26 (Rect.unit (s := S1x32) ![0, 0] S1x32.size inb_S1x32_S1x32_0_0)) (View.ld x.x33 (Rect.unit (s := S2) ![0] S1.size inb_S2_S1_0) (Shape.Idx.first (numel1_S1.symm ▸ Nat.one_pos)))))
def V589 (i : grid0.Coords) (x : Ins F) (p : Carry F) : FVec F S112x1024 .f32 := k0_pay134 (V494 i x p) (V588 i x p)
def V625 (i : grid0.Coords) (x : Ins F) (p : Carry F) : FVec F S56x32 .f32 := k0_pay139 (V494 i x p) (V588 i x p) (View.ld x.x24 (Rect.unit (s := S1x1024) ![0, 0] S1x1024.size inb_S1x1024_S1x1024_0_0)) (View.ld x.x25 (Rect.unit (s := S1024x32) ![0, 0] S1024x32.size inb_S1024x32_S1024x32_0_0)) (View.ld x.x26 (Rect.unit (s := S1x32) ![0, 0] S1x32.size inb_S1x32_S1x32_0_0))
def V626 (i : grid0.Coords) (x : Ins F) (p : Carry F) : FVec F S50x32 .f32 := k0_pay140 (V494 i x p) (V588 i x p) (View.ld x.x24 (Rect.unit (s := S1x1024) ![0, 0] S1x1024.size inb_S1x1024_S1x1024_0_0)) (View.ld x.x25 (Rect.unit (s := S1024x32) ![0, 0] S1024x32.size inb_S1024x32_S1024x32_0_0)) (View.ld x.x26 (Rect.unit (s := S1x32) ![0, 0] S1x32.size inb_S1x32_S1x32_0_0))
def O34 (i : grid0.Coords) (x : Ins F) (p : Carry F) (y34 : Vec F S1x2x50x32 .f32) : Vec F S1x2x50x32 .f32 := (VecWindow.put (O34_22 i x p y34) ![0, 1, 0, 0] S1x1x50x32.size (k0_pay141 (V626 i x p)))
def S0 (i : grid0.Coords) (x : Ins F) (p : Carry F) : Vec F S112x32 .f32 := (VecWindow.put (S0_22 i x p) ![56, 0] S56x32.size (k0_pay142 (V4 i x p) (V625 i x p) (View.ld x.x33 (Rect.unit (s := S2) ![1] S1.size inb_S2_S1_1) (Shape.Idx.first (numel1_S1.symm ▸ Nat.one_pos)))))
def F35 (i : grid0.Coords) (x : Ins F) (p : Carry F) (y35 : Vec F S2x50x32 .f32) : Vec F S2x50x32 .f32 := (VecWindow.put (VecWindow.put y35 ![0, 0, 0] S1x50x32.size (k0_pay2 (View.ld (S0 i x p) (Rect.unit (s := S112x32) ![1, 0] S50x32.size inb_S112x32_S50x32_1_0)))) ![1, 0, 0] S1x50x32.size (k0_pay4 (View.ld (S0 i x p) (Rect.unit (s := S112x32) ![57, 0] S50x32.size inb_S112x32_S50x32_57_0))))
def F36 (i : grid0.Coords) (x : Ins F) (p : Carry F) (y36 : Vec F S2x51x1024 .f32) : Vec F S2x51x1024 .f32 := (VecWindow.put (VecWindow.put y36 ![0, 0, 0] S1x51x1024.size (k0_pay1 (V589 i x p))) ![1, 0, 0] S1x51x1024.size (k0_pay3 (V589 i x p)))

/-- What the second and third output hold after the point: they are stored at the last point only. -/
def O35 (i : grid0.Coords) (x : Ins F) (p : Carry F) (y35 : Vec F S2x50x32 .f32) : Vec F S2x50x32 .f32 := if cond0_2 i then F35 i x p y35 else y35
def O36 (i : grid0.Coords) (x : Ins F) (p : Carry F) (y36 : Vec F S2x51x1024 .f32) : Vec F S2x51x1024 .f32 := if cond0_2 i then F36 i x p y36 else y36

/-- It does not depend on what the buffer held: every element is stored. -/
theorem O34_indep (i : grid0.Coords) (x : Ins F) (p : Carry F) (d d' : Vec F S1x2x50x32 .f32) : O34 i x p d = O34 i x p d' := by
  funext y
  have h0 : (y 0).val < 1 := (y 0).isLt
  have h1 : (y 1).val < 2 := (y 1).isLt
  have h2 : (y 2).val < 50 := (y 2).isLt
  have h3 : (y 3).val < 32 := (y 3).isLt
  unfold O34 O34_22
  refine put_congr _ _ _ _ _ _ fun n1 => put_congr _ _ _ _ _ _ fun n0 => ?_
  exfalso
  by_cases hy : (y 1).val < 1
  · refine n0 fun a => ?_
    fin_cases a
    · exact ⟨Nat.zero_le _, h0.trans_le (Nat.le_add_left _ _)⟩
    · exact ⟨Nat.zero_le _, hy⟩
    · exact ⟨Nat.zero_le _, h2.trans_le (Nat.le_add_left _ _)⟩
    · exact ⟨Nat.zero_le _, h3.trans_le (Nat.le_add_left _ _)⟩
  · refine n1 fun a => ?_
    fin_cases a
    · exact ⟨Nat.zero_le _, h0.trans_le (Nat.le_add_left _ _)⟩
    · exact ⟨Nat.le_of_not_lt hy, h1⟩
    · exact ⟨Nat.zero_le _, h2.trans_le (Nat.le_add_left _ _)⟩
    · exact ⟨Nat.zero_le _, h3.trans_le (Nat.le_add_left _ _)⟩

/-- It does not depend on what the buffer held: every element is stored. -/
theorem F35_indep (i : grid0.Coords) (x : Ins F) (p : Carry F) (d d' : Vec F S2x50x32 .f32) : F35 i x p d = F35 i x p d' := by
  funext y
  have h0 : (y 0).val < 2 := (y 0).isLt
  have h1 : (y 1).val < 50 := (y 1).isLt
  have h2 : (y 2).val < 32 := (y 2).isLt
  unfold F35
  refine put_congr _ _ _ _ _ _ fun n1 => put_congr _ _ _ _ _ _ fun n0 => ?_
  exfalso
  by_cases hy : (y 0).val < 1
  · refine n0 fun a => ?_
    fin_cases a
    · exact ⟨Nat.zero_le _, hy⟩
    · exact ⟨Nat.zero_le _, h1.trans_le (Nat.le_add_left _ _)⟩
    · exact ⟨Nat.zero_le _, h2.trans_le (Nat.le_add_left _ _)⟩
  · refine n1 fun a => ?_
    fin_cases a
    · exact ⟨Nat.le_of_not_lt hy, h0⟩
    · exact ⟨Nat.zero_le _, h1.trans_le (Nat.le_add_left _ _)⟩
    · exact ⟨Nat.zero_le _, h2.trans_le (Nat.le_add_left _ _)⟩

/-- It does not depend on what the buffer held: every element is stored. -/
theorem F36_indep (i : grid0.Coords) (x : Ins F) (p : Carry F) (d d' : Vec F S2x51x1024 .f32) : F36 i x p d = F36 i x p d' := by
  funext y
  have h0 : (y 0).val < 2 := (y 0).isLt
  have h1 : (y 1).val < 51 := (y 1).isLt
  have h2 : (y 2).val < 1024 := (y 2).isLt
  unfold F36
  refine put_congr _ _ _ _ _ _ fun n1 => put_congr _ _ _ _ _ _ fun n0 => ?_
  exfalso
  by_cases hy : (y 0).val < 1
  · refine n0 fun a => ?_
    fin_cases a
    · exact ⟨Nat.zero_le _, hy⟩
    · exact ⟨Nat.zero_le _, h1.trans_le (Nat.le_add_left _ _)⟩
    · exact ⟨Nat.zero_le _, h2.trans_le (Nat.le_add_left _ _)⟩
  · refine n1 fun a => ?_
    fin_cases a
    · exact ⟨Nat.le_of_not_lt hy, h0⟩
    · exact ⟨Nat.zero_le _, h1.trans_le (Nat.le_add_left _ _)⟩
    · exact ⟨Nat.zero_le _, h2.trans_le (Nat.le_add_left _ _)⟩

/-- What the point leaves in the scratch. -/
def next (i : grid0.Coords) (x : Ins F) (p : Carry F) : Carry F where
  s0 := S0 i x p
  s1 := p.s1
  s2 := p.s2
  s3 := p.s3
  s4 := p.s4
  s5 := S5_15 i x p
  s6 := S6_16 i x p
  s7 := p.s7
  s8 := p.s8

end Cert.KernelIdeal.Named

end
-- ==== Proof.Ops.lean ====
/- One load and one store of the body, over contents. -/
module

public import proofs.«01_k».proof.Proof.Bufs
public import Idealize.ShloMosaic.Lib.VecWindow

@[expose] public section

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- A load of a window returns the contents there and leaves the buffer. -/
theorem wp_load (c : Dev nD) {s : Shape} {e : EltTy} (m : Memref sig .tc .vmem s e) (r : Rect s) (h) (X : Vec F s e) (E : Set ℕ) (K : _ → sProp 𝕄) :
    iprop(owns (c : Thread nD τ) m fullShare X ∗ (∀ v, iprop(⌜v = View.ld X r⌝ ∗ owns (c : Thread nD τ) m fullShare X) -∗ K v))
    ⊢ wp frame (wpE (defs₀ (F := F)) Variants.none c none) E (Prog.lift (.load m r.toLoadRect h)) K := by
  unfold owns
  iintro ⟨⟨%f, %h, H⟩, Hk⟩
  subst h
  sl_exec
  sl_step
  iapply Hk
  isplitr
  · ipureintro; rfl
  iexists _; isplitr; swap; · iexact H
  ipureintro; rfl

/-- A load of one word of scalar memory. -/
theorem wp_smem (c : Dev nD) {s : Shape} {e : EltTy} (m : Memref sig .tc .smem s e) (r : Rect s) (h : r.shape.numel = 1) (h') (X : Vec F s e) (E : Set ℕ) (K : _ → sProp 𝕄) :
    iprop(owns (c : Thread nD τ) m fullShare X ∗ (∀ v, iprop(⌜v = View.ld X r (Shape.Idx.first (h.symm ▸ Nat.one_pos))⌝ ∗ owns (c : Thread nD τ) m fullShare X) -∗ K v))
    ⊢ wp frame (wpE (defs₀ (F := F)) Variants.none c none) E (smemLoad m r h h') K := by
  unfold owns
  iintro ⟨⟨%f, %h, H⟩, Hk⟩
  subst h
  sl_exec
  sl_step
  iapply Hk
  isplitr
  · ipureintro; rfl
  iexists _; isplitr; swap; · iexact H
  ipureintro; rfl

/-- A store writes its payload over the window. -/
theorem wp_store (c : Dev nD) {s : Shape} {e : EltTy} (m : Memref sig .tc .vmem s e) (off size : Fin s.rank → ℕ) (inb : ∀ a, off a + size a ≤ s.size a)
    (w : (Rect.unit off size inb).shape.Idx → Elt F e) (h1 h2) (X : Vec F s e) (E : Set ℕ) (K : PUnit → sProp 𝕄) :
    iprop(owns (c : Thread nD τ) m fullShare X ∗ (∀ Y, iprop(⌜Y = VecWindow.put X off size w⌝ ∗ owns (c : Thread nD τ) m fullShare Y) -∗ K ⟨⟩))
    ⊢ wp frame (wpE (defs₀ (F := F)) Variants.none c none) E (Prog.lift (.store m (Rect.unit off size inb) w Finset.univ h1 h2)) K := by
  unfold owns
  iintro ⟨⟨%f, %h, H⟩, Hk⟩
  subst h
  sl_exec
  sl_step
  iapply Hk
  isplitr
  · ipureintro; rfl
  iexists _; isplitr; swap; · iexact H
  ipureintro; exact View.read_writes_cons_put _ _ _ _ [] rfl

/-- A store of the whole buffer leaves its payload. -/
theorem wp_store_full (c : Dev nD) {s : Shape} {e : EltTy} (m : Memref sig .tc .vmem s e) (off : Fin s.rank → ℕ) (inb : ∀ a, off a + s.size a ≤ s.size a)
    (w : (Rect.unit off s.size inb).shape.Idx → Elt F e) (h1 h2) (X : Vec F s e) (E : Set ℕ) (K : PUnit → sProp 𝕄) :
    iprop(owns (c : Thread nD τ) m fullShare X ∗ (owns (c : Thread nD τ) m fullShare (w : Vec F s e) -∗ K ⟨⟩))
    ⊢ wp frame (wpE (defs₀ (F := F)) Variants.none c none) E (Prog.lift (.store m (Rect.unit off s.size inb) w Finset.univ h1 h2)) K := by
  unfold owns
  iintro ⟨⟨%f, %h, H⟩, Hk⟩
  subst h
  sl_exec
  sl_step
  iapply Hk
  iexists _; isplitr; swap; · iexact H
  ipureintro; exact View.read_writes_full _ _ _ _ _

end Cert.KernelIdeal.Named

end
-- ==== Proof.RunInit.lean ====
/- The start of the kernel body: the filling of the scratch at the first grid point, and the first loads. -/
module

public import proofs.«01_k».proof.Proof.PartsInit
public import proofs.«01_k».proof.Proof.PartsA
public import proofs.«01_k».proof.Proof.PartsB
public import proofs.«01_k».proof.Proof.PartsC
public import proofs.«01_k».proof.Proof.PartsOut
public import proofs.«01_k».proof.Proof.Vals
public import proofs.«01_k».proof.Proof.Ops
public import Idealize.ShloMosaic.Lib.VecWindow

@[expose] public section

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The filling of the scratch at the first grid point, before the rest `k` of the body. -/
def initProg (i : grid0.Coords) (a : Bufs) (k : PUnit.{1} → Prog (TpuEff nD τ sig (Elt F) Λ₀ .tc) (Σ' (arg0 : BitVec 32) (v3 : IVec S56x1 32) (v4 : Vec F S112x32 .f32) (v33 : FVec F S112x1024 .f32), Vec F S1x1024 .f32)) : Prog (TpuEff nD τ sig (Elt F) Λ₀ .tc) (Σ' (arg0 : BitVec 32) (v3 : IVec S56x1 32) (v4 : Vec F S112x32 .f32) (v33 : FVec F S112x1024 .f32), Vec F S1x1024 .f32) :=
  if k0_h1 : Scalar.cmpi .ne (Scalar.extui (Scalar.cmpi .eq (BitVec.ofNat 32 (i 0).val) 0#32)) 0#32 = 1#1 then do
    k0_part1 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60
    k0_part2 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60
    let v739 : IVec S896x256 8 ← k0_part3 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60
    let v770 : FVec F S2x1024 .f32 ← k0_part4 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 v739
    let v771 : Vec F S2x1024 .f32 ← Prog.lift (.load a.m52 (Rect.unit (s := S2x1024) ![0, 0] S2x1024.size inb_S2x1024_S2x1024_0_0).toLoadRect (View.loadsAt_vmem h_S2x1024))
    Prog.lift (.store a.m52 (Rect.unit (s := S2x1024) ![0, 0] S2x1024.size inb_S2x1024_S2x1024_0_0) (k0_pay50 v770) Finset.univ (View.stores_vmem_bits_univ h_S2x1024 rfl) (.inl rfl))
    let v774 : Vec F S20x1 .f32 ← Prog.lift (.load a.m4 (Rect.unit (s := S20x1) ![0, 0] S20x1.size inb_S20x1_S20x1_0_0).toLoadRect (View.loadsAt_vmem h_S20x1))
    let v776 : Vec F S1x512 .f32 ← Prog.lift (.load a.m5 (Rect.unit (s := S1x512) ![0, 0] S1x512.size inb_S1x512_S1x512_0_0).toLoadRect (View.loadsAt_vmem h_S1x512))
    let v785 : Vec F S1024x1024 .bf16 ← Prog.lift (.load a.m11 (Rect.unit (s := S1024x1024) ![0, 0] S1024x1024.size inb_S1024x1024_S1024x1024_0_0).toLoadRect (View.loadsAt_vmem h_S1024x1024))
    let v787 : Vec F S1x1024 .f32 ← Prog.lift (.load a.m12 (Rect.unit (s := S1x1024) ![0, 0] S1x1024.size inb_S1x1024_S1x1024_0_0).toLoadRect (View.loadsAt_vmem h_S1x1024))
    let v791 : Vec F S20x1024 .f32 ← Prog.lift (.load a.m53 (Rect.unit (s := S20x1024) ![0, 0] S20x1024.size inb_S20x1024_S20x1024_0_0).toLoadRect (View.loadsAt_vmem h_S20x1024))
    Prog.lift (.store a.m53 (Rect.unit (s := S20x1024) ![0, 0] S20x1024.size inb_S20x1024_S20x1024_0_0) (k0_pay51 v774 v776 v785 v787) Finset.univ (View.stores_vmem_bits_univ h_S20x1024 rfl) (.inl rfl))
    k ⟨⟩
  else k ⟨⟩

/-- The loads after it. -/
def loadProg (i : grid0.Coords) (a : Bufs) : Prog (TpuEff nD τ sig (Elt F) Λ₀ .tc) (Σ' (arg0 : BitVec 32) (v3 : IVec S56x1 32) (v4 : Vec F S112x32 .f32) (v33 : FVec F S112x1024 .f32), Vec F S1x1024 .f32) := do
  have v3 : IVec S56x1 32 := iota .tc S56x1 32 [0] iota_S56x1_d0_w32
  let v4 : Vec F S112x32 .f32 ← Prog.lift (.load a.m51 (Rect.unit (s := S112x32) ![0, 0] S112x32.size inb_S112x32_S112x32_0_0).toLoadRect (View.loadsAt_vmem h_S112x32))
  let v5 : Vec F S32x1024 .f32 ← Prog.lift (.load a.m8 (Rect.unit (s := S32x1024) ![0, 0] S32x1024.size inb_S32x1024_S32x1024_0_0).toLoadRect (View.loadsAt_vmem h_S32x1024))
  let v7 : Vec F S1x1024 .f32 ← Prog.lift (.load a.m9 (Rect.unit (s := S1x1024) ![0, 0] S1x1024.size inb_S1x1024_S1x1024_0_0).toLoadRect (View.loadsAt_vmem h_S1x1024))
  let v12 : Vec F S1024x1024 .bf16 ← Prog.lift (.load a.m10 (Rect.unit (s := S1024x1024) ![0, 0] S1024x1024.size inb_S1024x1024_S1024x1024_0_0).toLoadRect (View.loadsAt_vmem h_S1024x1024))
  let v18 : Vec F S1x1024 .f32 ← Prog.lift (.load a.m53 (Rect.unit (s := S20x1024) (k0_off1 i 0#32) S1x1024.size (k0_off1_inb i 0)).toLoadRect (View.loadsAt_vmem h_S1x1024))
  let v25 : Vec F S1x1024 .f32 ← Prog.lift (.load a.m53 (Rect.unit (s := S20x1024) (k0_off1 i 1#32) S1x1024.size (k0_off1_inb i 1)).toLoadRect (View.loadsAt_vmem h_S1x1024))
  let v32 : Vec F S1024x1024 .bf16 ← Prog.lift (.load a.m13 (Rect.unit (s := S1024x1024) ![0, 0] S1024x1024.size inb_S1024x1024_S1024x1024_0_0).toLoadRect (View.loadsAt_vmem h_S1024x1024))
  let v34 : Vec F S1x1024 .f32 ← Prog.lift (.load a.m14 (Rect.unit (s := S1x1024) ![0, 0] S1x1024.size inb_S1x1024_S1x1024_0_0).toLoadRect (View.loadsAt_vmem h_S1x1024))
  pure ⟨BitVec.ofNat 32 (i 0).val, v3, v4, k0_pay52 v4 v5 v7 v12 v18 v25 v32, v34⟩

theorem part8_eq (i : grid0.Coords) (a : Bufs) : k0_part8 (F := F) i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 = initProg i a fun _ => loadProg i a := by
  rw [k0_part8_eq_skeleton]; rfl

set_option maxHeartbeats 1000000 in
/-- After it the scratch is `start`. -/
theorem wp_init (c : Dev nD) (i : grid0.Coords) (a : Bufs) (x : Ins F) (p : Carry F) (k : PUnit.{1} → Prog (TpuEff nD τ sig (Elt F) Λ₀ .tc) (Σ' (arg0 : BitVec 32) (v3 : IVec S56x1 32) (v4 : Vec F S112x32 .f32) (v33 : FVec F S112x1024 .f32), Vec F S1x1024 .f32)) (E : Set ℕ) (K : (Σ' (arg0 : BitVec 32) (v3 : IVec S56x1 32) (v4 : Vec F S112x32 .f32) (v33 : FVec F S112x1024 .f32), Vec F S1x1024 .f32) → sProp 𝕄) :
    iprop(owns (c : Thread nD τ) a.m2 fullShare x.x1 ∗ owns (c : Thread nD τ) a.m3 fullShare x.x2 ∗ owns (c : Thread nD τ) a.m4 fullShare x.x3 ∗ owns (c : Thread nD τ) a.m5 fullShare x.x4 ∗ owns (c : Thread nD τ) a.m6 fullShare x.x5 ∗ owns (c : Thread nD τ) a.m7 fullShare x.x6 ∗ owns (c : Thread nD τ) a.m11 fullShare x.x10 ∗ owns (c : Thread nD τ) a.m12 fullShare x.x11 ∗ owns (c : Thread nD τ) a.m28 fullShare x.x27 ∗ owns (c : Thread nD τ) a.m29 fullShare x.x28 ∗ owns (c : Thread nD τ) a.m30 fullShare x.x29 ∗ owns (c : Thread nD τ) a.m31 fullShare x.x30 ∗ owns (c : Thread nD τ) a.m32 fullShare x.x31 ∗ owns (c : Thread nD τ) a.m33 fullShare x.x32 ∗ owns (c : Thread nD τ) a.m51 fullShare p.s0 ∗ owns (c : Thread nD τ) a.m52 fullShare p.s1 ∗ owns (c : Thread nD τ) a.m53 fullShare p.s2 ∗ owns (c : Thread nD τ) a.m54 fullShare p.s3 ∗ owns (c : Thread nD τ) a.m55 fullShare p.s4 ∗ owns (c : Thread nD τ) a.m56 fullShare p.s5 ∗ owns (c : Thread nD τ) a.m57 fullShare p.s6 ∗ owns (c : Thread nD τ) a.m58 fullShare p.s7 ∗ owns (c : Thread nD τ) a.m59 fullShare p.s8 ∗
      (iprop(owns (c : Thread nD τ) a.m2 fullShare x.x1 ∗ owns (c : Thread nD τ) a.m3 fullShare x.x2 ∗ owns (c : Thread nD τ) a.m4 fullShare x.x3 ∗ owns (c : Thread nD τ) a.m5 fullShare x.x4 ∗ owns (c : Thread nD τ) a.m6 fullShare x.x5 ∗ owns (c : Thread nD τ) a.m7 fullShare x.x6 ∗ owns (c : Thread nD τ) a.m11 fullShare x.x10 ∗ owns (c : Thread nD τ) a.m12 fullShare x.x11 ∗ owns (c : Thread nD τ) a.m28 fullShare x.x27 ∗ owns (c : Thread nD τ) a.m29 fullShare x.x28 ∗ owns (c : Thread nD τ) a.m30 fullShare x.x29 ∗ owns (c : Thread nD τ) a.m31 fullShare x.x30 ∗ owns (c : Thread nD τ) a.m32 fullShare x.x31 ∗ owns (c : Thread nD τ) a.m33 fullShare x.x32 ∗ owns (c : Thread nD τ) a.m51 fullShare (start i x p).s0 ∗ owns (c : Thread nD τ) a.m52 fullShare (start i x p).s1 ∗ owns (c : Thread nD τ) a.m53 fullShare (start i x p).s2 ∗ owns (c : Thread nD τ) a.m54 fullShare (start i x p).s3 ∗ owns (c : Thread nD τ) a.m55 fullShare (start i x p).s4 ∗ owns (c : Thread nD τ) a.m56 fullShare (start i x p).s5 ∗ owns (c : Thread nD τ) a.m57 fullShare (start i x p).s6 ∗ owns (c : Thread nD τ) a.m58 fullShare (start i x p).s7 ∗ owns (c : Thread nD τ) a.m59 fullShare (start i x p).s8) -∗ wp frame (wpE (defs₀ (F := F)) Variants.none c none) E (k ⟨⟩) K))
    ⊢ wp frame (wpE (defs₀ (F := F)) Variants.none c none) E (initProg i a k) K := by
  unfold initProg
  by_cases hc : cond0_0 i
  · rw [dif_pos hc, show start i x p = init x from if_pos hc]
    iintro ⟨H2, H3, H4, H5, H6, H7, H11, H12, H28, H29, H30, H31, H32, H33, H51, H52, H53, H54, H55, H56, H57, H58, H59, Hk⟩
    rw [wp_bind]
    iapply (wp_part1 c i a p.s0 p.s3 p.s4 p.s5 p.s6 p.s7 p.s8)
    isplitl [H51]; · iexact H51
    isplitl [H54]; · iexact H54
    isplitl [H55]; · iexact H55
    isplitl [H56]; · iexact H56
    isplitl [H57]; · iexact H57
    isplitl [H58]; · iexact H58
    isplitl [H59]; · iexact H59
    iintro %r %Y51 %Y54 %Y55 %Y56 %Y57 %Y58 %Y59 ⟨%hr, H51, H54, H55, H56, H57, H58, H59⟩
    obtain ⟨hr, h51, h54, h55, h56, h57, h58, h59⟩ := hr
    obtain rfl : Y51 = (B51_1 x) := h51
    obtain rfl : Y54 = (B54_1 x) := h54
    obtain rfl : Y55 = (B55_1 x) := h55
    obtain rfl : Y56 = (B56_1 x) := h56
    obtain rfl : Y57 = (B57_1 x) := h57
    obtain rfl : Y58 = (B58_1 x) := h58
    obtain rfl : Y59 = (B59_1 x) := h59
    cases r
    beta_reduce
    rw [wp_bind]
    iapply (wp_part2 c i a x.x1 x.x27 x.x28 x.x31 x.x32 (B51_1 x) (B54_1 x) (B55_1 x) (B56_1 x) (B57_1 x))
    isplitl [H2]; · iexact H2
    isplitl [H28]; · iexact H28
    isplitl [H29]; · iexact H29
    isplitl [H32]; · iexact H32
    isplitl [H33]; · iexact H33
    isplitl [H51]; · iexact H51
    isplitl [H54]; · iexact H54
    isplitl [H55]; · iexact H55
    isplitl [H56]; · iexact H56
    isplitl [H57]; · iexact H57
    iintro %r %Y51 %Y54 %Y55 %Y56 %Y57 ⟨%hr, H2, H28, H29, H32, H33, H51, H54, H55, H56, H57⟩
    obtain ⟨hr, h51, h54, h55, h56, h57⟩ := hr
    obtain rfl : Y51 = (B51_2 x) := h51
    obtain rfl : Y54 = (B54_2 x) := h54
    obtain rfl : Y55 = (B55_2 x) := h55
    obtain rfl : Y56 = (B56_2 x) := h56
    obtain rfl : Y57 = (B57_2 x) := h57
    cases r
    beta_reduce
    rw [wp_bind]
    iapply (wp_part3 c i a x.x1 x.x27 x.x29 x.x30 x.x31 x.x32 (B51_2 x) (B54_2 x) (B55_2 x) (B58_1 x) (B59_1 x))
    isplitl [H2]; · iexact H2
    isplitl [H28]; · iexact H28
    isplitl [H30]; · iexact H30
    isplitl [H31]; · iexact H31
    isplitl [H32]; · iexact H32
    isplitl [H33]; · iexact H33
    isplitl [H51]; · iexact H51
    isplitl [H54]; · iexact H54
    isplitl [H55]; · iexact H55
    isplitl [H58]; · iexact H58
    isplitl [H59]; · iexact H59
    iintro %r %Y51 %Y54 %Y55 %Y58 %Y59 ⟨%hr, H2, H28, H30, H31, H32, H33, H51, H54, H55, H58, H59⟩
    obtain ⟨hr, h51, h54, h55, h58, h59⟩ := hr
    obtain rfl : Y51 = (B51_3 x) := h51
    obtain rfl : Y54 = (B54_3 x) := h54
    obtain rfl : Y55 = (B55_3 x) := h55
    obtain rfl : Y58 = (B58_3 x) := h58
    obtain rfl : Y59 = (B59_3 x) := h59
    obtain rfl : r = (W739 x) := hr
    beta_reduce
    rw [wp_bind]
    iapply (wp_part4 c i a (W739 x) x.x2 x.x5 x.x6 x.x28 x.x29 x.x30 (B56_2 x) (B57_2 x) (B58_3 x) (B59_3 x))
    isplitl [H3]; · iexact H3
    isplitl [H6]; · iexact H6
    isplitl [H7]; · iexact H7
    isplitl [H29]; · iexact H29
    isplitl [H30]; · iexact H30
    isplitl [H31]; · iexact H31
    isplitl [H56]; · iexact H56
    isplitl [H57]; · iexact H57
    isplitl [H58]; · iexact H58
    isplitl [H59]; · iexact H59
    iintro %r %Y56 %Y57 %Y58 %Y59 ⟨%hr, H3, H6, H7, H29, H30, H31, H56, H57, H58, H59⟩
    obtain ⟨hr, h56, h57, h58, h59⟩ := hr
    obtain rfl : Y56 = (B56_4 x) := h56
    obtain rfl : Y57 = (B57_4 x) := h57
    obtain rfl : Y58 = (B58_4 x) := h58
    obtain rfl : Y59 = (B59_4 x) := h59
    obtain rfl : r = (W770 x) := hr
    beta_reduce
    rw [wp_bind]
    iapply (wp_load c a.m52 _ _ p.s1)
    isplitl [H52]; · iexact H52
    iintro %v ⟨%hv, H52⟩
    subst hv
    beta_reduce
    rw [wp_bind]
    iapply (wp_store_full c a.m52 _ _ _ _ _ p.s1)
    isplitl [H52]; · iexact H52
    iintro H52
    beta_reduce
    rw [wp_bind]
    iapply (wp_load c a.m4 _ _ x.x3)
    isplitl [H4]; · iexact H4
    iintro %v ⟨%hv, H4⟩
    subst hv
    beta_reduce
    rw [wp_bind]
    iapply (wp_load c a.m5 _ _ x.x4)
    isplitl [H5]; · iexact H5
    iintro %v ⟨%hv, H5⟩
    subst hv
    beta_reduce
    rw [wp_bind]
    iapply (wp_load c a.m11 _ _ x.x10)
    isplitl [H11]; · iexact H11
    iintro %v ⟨%hv, H11⟩
    subst hv
    beta_reduce
    rw [wp_bind]
    iapply (wp_load c a.m12 _ _ x.x11)
    isplitl [H12]; · iexact H12
    iintro %v ⟨%hv, H12⟩
    subst hv
    beta_reduce
    rw [wp_bind]
    iapply (wp_load c a.m53 _ _ p.s2)
    isplitl [H53]; · iexact H53
    iintro %v ⟨%hv, H53⟩
    subst hv
    beta_reduce
    rw [wp_bind]
    iapply (wp_store_full c a.m53 _ _ _ _ _ p.s2)
    isplitl [H53]; · iexact H53
    iintro H53
    beta_reduce
    iapply Hk
    dsimp only [init]
    isplitl [H2]; · iexact H2
    isplitl [H3]; · iexact H3
    isplitl [H4]; · iexact H4
    isplitl [H5]; · iexact H5
    isplitl [H6]; · iexact H6
    isplitl [H7]; · iexact H7
    isplitl [H11]; · iexact H11
    isplitl [H12]; · iexact H12
    isplitl [H28]; · iexact H28
    isplitl [H29]; · iexact H29
    isplitl [H30]; · iexact H30
    isplitl [H31]; · iexact H31
    isplitl [H32]; · iexact H32
    isplitl [H33]; · iexact H33
    isplitl [H51]; · iexact H51
    isplitl [H52]; · iexact H52
    isplitl [H53]; · iexact H53
    isplitl [H54]; · iexact H54
    isplitl [H55]; · iexact H55
    isplitl [H56]; · iexact H56
    isplitl [H57]; · iexact H57
    isplitl [H58]; · iexact H58
    iexact H59
  · rw [dif_neg hc, show start i x p = p from if_neg hc]
    iintro ⟨H2, H3, H4, H5, H6, H7, H11, H12, H28, H29, H30, H31, H32, H33, H51, H52, H53, H54, H55, H56, H57, H58, H59, Hk⟩
    iapply Hk
    isplitl [H2]; · iexact H2
    isplitl [H3]; · iexact H3
    isplitl [H4]; · iexact H4
    isplitl [H5]; · iexact H5
    isplitl [H6]; · iexact H6
    isplitl [H7]; · iexact H7
    isplitl [H11]; · iexact H11
    isplitl [H12]; · iexact H12
    isplitl [H28]; · iexact H28
    isplitl [H29]; · iexact H29
    isplitl [H30]; · iexact H30
    isplitl [H31]; · iexact H31
    isplitl [H32]; · iexact H32
    isplitl [H33]; · iexact H33
    isplitl [H51]; · iexact H51
    isplitl [H52]; · iexact H52
    isplitl [H53]; · iexact H53
    isplitl [H54]; · iexact H54
    isplitl [H55]; · iexact H55
    isplitl [H56]; · iexact H56
    isplitl [H57]; · iexact H57
    isplitl [H58]; · iexact H58
    iexact H59

/-- The loads after the filling. -/
theorem wp_loads (c : Dev nD) (i : grid0.Coords) (a : Bufs) (x : Ins F) (p : Carry F) (E : Set ℕ) (K : (Σ' (arg0 : BitVec 32) (v3 : IVec S56x1 32) (v4 : Vec F S112x32 .f32) (v33 : FVec F S112x1024 .f32), Vec F S1x1024 .f32) → sProp 𝕄) :
    iprop(owns (c : Thread nD τ) a.m8 fullShare x.x7 ∗ owns (c : Thread nD τ) a.m9 fullShare x.x8 ∗ owns (c : Thread nD τ) a.m10 fullShare x.x9 ∗ owns (c : Thread nD τ) a.m13 fullShare x.x12 ∗ owns (c : Thread nD τ) a.m14 fullShare x.x13 ∗ owns (c : Thread nD τ) a.m51 fullShare p.s0 ∗ owns (c : Thread nD τ) a.m53 fullShare p.s2 ∗
      (∀ r : (Σ' (arg0 : BitVec 32) (v3 : IVec S56x1 32) (v4 : Vec F S112x32 .f32) (v33 : FVec F S112x1024 .f32), Vec F S1x1024 .f32), iprop(⌜r = ⟨BitVec.ofNat 32 (i 0).val, V3 i x p, V4 i x p, V33 i x p, V34 i x p⟩⌝ ∗ owns (c : Thread nD τ) a.m8 fullShare x.x7 ∗ owns (c : Thread nD τ) a.m9 fullShare x.x8 ∗ owns (c : Thread nD τ) a.m10 fullShare x.x9 ∗ owns (c : Thread nD τ) a.m13 fullShare x.x12 ∗ owns (c : Thread nD τ) a.m14 fullShare x.x13 ∗ owns (c : Thread nD τ) a.m51 fullShare p.s0 ∗ owns (c : Thread nD τ) a.m53 fullShare p.s2) -∗ K r))
    ⊢ wp frame (wpE (defs₀ (F := F)) Variants.none c none) E (loadProg i a) K := by
  unfold loadProg owns
  iintro ⟨⟨%f8, %h8, H8⟩, ⟨%f9, %h9, H9⟩, ⟨%f10, %h10, H10⟩, ⟨%f13, %h13, H13⟩, ⟨%f14, %h14, H14⟩, ⟨%f51, %h51, H51⟩, ⟨%f53, %h53, H53⟩, Hk⟩
  sl_exec
  sl_step
  iapply Hk
  isplitr
  · ipureintro
    unfold V3 V4 V33 V34
    rw [← h8, ← h9, ← h10, ← h13, ← h14, ← h51, ← h53]; rfl
  isplitl [H8]
  · iexists _; isplitr; swap; · iexact H8
    ipureintro; exact h8
  isplitl [H9]
  · iexists _; isplitr; swap; · iexact H9
    ipureintro; exact h9
  isplitl [H10]
  · iexists _; isplitr; swap; · iexact H10
    ipureintro; exact h10
  isplitl [H13]
  · iexists _; isplitr; swap; · iexact H13
    ipureintro; exact h13
  isplitl [H14]
  · iexists _; isplitr; swap; · iexact H14
    ipureintro; exact h14
  isplitl [H51]
  · iexists _; isplitr; swap; · iexact H51
    ipureintro; exact h51
  iexists _; isplitr; swap; · iexact H53
  ipureintro; exact h53

end Cert.KernelIdeal.Named

end
-- ==== Proof.RunMain.lean ====
/- The run of the kernel body at any grid point: from whole buffers it terminates, leaves the inputs, and leaves in the first three outputs
   and in the scratch the values named in `Vals`. -/
module

public import proofs.«01_k».proof.Proof.RunInit
public import Idealize.ShloMosaic.Lib.VecWindow

@[expose] public section

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2000000 in
/-- The body without its last conditional. -/
theorem wp_part23 (c : Dev nD) (i : grid0.Coords) (a : Bufs) (x : Ins F) (p q : Carry F) (hq : start i x p = q) (y34 : Vec F S1x2x50x32 .f32) (y37 : Vec F S2x51x256 .bf16) (y38 : Vec F S2x51x256 .bf16) (y39 : Vec F S2x2048 .f32) (y40 : Vec F S2x50x2048 .bf16) (y41 : Vec F S2x51x1024 .fp8e4m3) (y42 : Vec F S2x51x1 .f32) (y43 : Vec F S2x51x2048 .fp8e4m3) (y44 : Vec F S2x51x1 .f32) (y45 : Vec F S2x51x1024 .fp8e4m3) (y46 : Vec F S2x51x1 .f32) (y47 : Vec F S2x51x4096 .fp8e4m3) (y48 : Vec F S2x51x1 .f32) (y49 : Vec F S1x2x51x2048 .bf16) (d : Vec F S112x2048 .f32)
    (E : Set ℕ) (K : (Σ' (arg0 : BitVec 32) (v589 : FVec F S112x1024 .f32), BitVec 32) → sProp 𝕄) :
    iprop(owns (c : Thread nD τ) a.m1 fullShare x.x0 ∗ owns (c : Thread nD τ) a.m2 fullShare x.x1 ∗ owns (c : Thread nD τ) a.m3 fullShare x.x2 ∗ owns (c : Thread nD τ) a.m4 fullShare x.x3 ∗ owns (c : Thread nD τ) a.m5 fullShare x.x4 ∗ owns (c : Thread nD τ) a.m6 fullShare x.x5 ∗ owns (c : Thread nD τ) a.m7 fullShare x.x6 ∗ owns (c : Thread nD τ) a.m8 fullShare x.x7 ∗ owns (c : Thread nD τ) a.m9 fullShare x.x8 ∗ owns (c : Thread nD τ) a.m10 fullShare x.x9 ∗ owns (c : Thread nD τ) a.m11 fullShare x.x10 ∗ owns (c : Thread nD τ) a.m12 fullShare x.x11 ∗ owns (c : Thread nD τ) a.m13 fullShare x.x12 ∗ owns (c : Thread nD τ) a.m14 fullShare x.x13 ∗ owns (c : Thread nD τ) a.m15 fullShare x.x14 ∗ owns (c : Thread nD τ) a.m16 fullShare x.x15 ∗ owns (c : Thread nD τ) a.m17 fullShare x.x16 ∗ owns (c : Thread nD τ) a.m18 fullShare x.x17 ∗ owns (c : Thread nD τ) a.m19 fullShare x.x18 ∗ owns (c : Thread nD τ) a.m20 fullShare x.x19 ∗ owns (c : Thread nD τ) a.m21 fullShare x.x20 ∗ owns (c : Thread nD τ) a.m22 fullShare x.x21 ∗ owns (c : Thread nD τ) a.m23 fullShare x.x22 ∗ owns (c : Thread nD τ) a.m24 fullShare x.x23 ∗ owns (c : Thread nD τ) a.m25 fullShare x.x24 ∗ owns (c : Thread nD τ) a.m26 fullShare x.x25 ∗ owns (c : Thread nD τ) a.m27 fullShare x.x26 ∗ owns (c : Thread nD τ) a.m28 fullShare x.x27 ∗ owns (c : Thread nD τ) a.m29 fullShare x.x28 ∗ owns (c : Thread nD τ) a.m30 fullShare x.x29 ∗ owns (c : Thread nD τ) a.m31 fullShare x.x30 ∗ owns (c : Thread nD τ) a.m32 fullShare x.x31 ∗ owns (c : Thread nD τ) a.m33 fullShare x.x32 ∗ owns (c : Thread nD τ) a.m34 fullShare x.x33 ∗ owns (c : Thread nD τ) a.m35 fullShare y34 ∗ owns (c : Thread nD τ) a.m38 fullShare y37 ∗ owns (c : Thread nD τ) a.m39 fullShare y38 ∗ owns (c : Thread nD τ) a.m40 fullShare y39 ∗ owns (c : Thread nD τ) a.m41 fullShare y40 ∗ owns (c : Thread nD τ) a.m42 fullShare y41 ∗ owns (c : Thread nD τ) a.m43 fullShare y42 ∗ owns (c : Thread nD τ) a.m44 fullShare y43 ∗ owns (c : Thread nD τ) a.m45 fullShare y44 ∗ owns (c : Thread nD τ) a.m46 fullShare y45 ∗ owns (c : Thread nD τ) a.m47 fullShare y46 ∗ owns (c : Thread nD τ) a.m48 fullShare y47 ∗ owns (c : Thread nD τ) a.m49 fullShare y48 ∗ owns (c : Thread nD τ) a.m50 fullShare y49 ∗ owns (c : Thread nD τ) a.m51 fullShare p.s0 ∗ owns (c : Thread nD τ) a.m52 fullShare p.s1 ∗ owns (c : Thread nD τ) a.m53 fullShare p.s2 ∗ owns (c : Thread nD τ) a.m54 fullShare p.s3 ∗ owns (c : Thread nD τ) a.m55 fullShare p.s4 ∗ owns (c : Thread nD τ) a.m56 fullShare p.s5 ∗ owns (c : Thread nD τ) a.m57 fullShare p.s6 ∗ owns (c : Thread nD τ) a.m58 fullShare p.s7 ∗ owns (c : Thread nD τ) a.m59 fullShare p.s8 ∗ owns (c : Thread nD τ) a.m60 fullShare d ∗
      (∀ r : (Σ' (arg0 : BitVec 32) (v589 : FVec F S112x1024 .f32), BitVec 32), iprop(⌜r = ⟨BitVec.ofNat 32 (i 0).val, V589 i x q, 9#32⟩⌝ ∗ owns (c : Thread nD τ) a.m1 fullShare x.x0 ∗ owns (c : Thread nD τ) a.m2 fullShare x.x1 ∗ owns (c : Thread nD τ) a.m3 fullShare x.x2 ∗ owns (c : Thread nD τ) a.m4 fullShare x.x3 ∗ owns (c : Thread nD τ) a.m5 fullShare x.x4 ∗ owns (c : Thread nD τ) a.m6 fullShare x.x5 ∗ owns (c : Thread nD τ) a.m7 fullShare x.x6 ∗ owns (c : Thread nD τ) a.m8 fullShare x.x7 ∗ owns (c : Thread nD τ) a.m9 fullShare x.x8 ∗ owns (c : Thread nD τ) a.m10 fullShare x.x9 ∗ owns (c : Thread nD τ) a.m11 fullShare x.x10 ∗ owns (c : Thread nD τ) a.m12 fullShare x.x11 ∗ owns (c : Thread nD τ) a.m13 fullShare x.x12 ∗ owns (c : Thread nD τ) a.m14 fullShare x.x13 ∗ owns (c : Thread nD τ) a.m15 fullShare x.x14 ∗ owns (c : Thread nD τ) a.m16 fullShare x.x15 ∗ owns (c : Thread nD τ) a.m17 fullShare x.x16 ∗ owns (c : Thread nD τ) a.m18 fullShare x.x17 ∗ owns (c : Thread nD τ) a.m19 fullShare x.x18 ∗ owns (c : Thread nD τ) a.m20 fullShare x.x19 ∗ owns (c : Thread nD τ) a.m21 fullShare x.x20 ∗ owns (c : Thread nD τ) a.m22 fullShare x.x21 ∗ owns (c : Thread nD τ) a.m23 fullShare x.x22 ∗ owns (c : Thread nD τ) a.m24 fullShare x.x23 ∗ owns (c : Thread nD τ) a.m25 fullShare x.x24 ∗ owns (c : Thread nD τ) a.m26 fullShare x.x25 ∗ owns (c : Thread nD τ) a.m27 fullShare x.x26 ∗ owns (c : Thread nD τ) a.m28 fullShare x.x27 ∗ owns (c : Thread nD τ) a.m29 fullShare x.x28 ∗ owns (c : Thread nD τ) a.m30 fullShare x.x29 ∗ owns (c : Thread nD τ) a.m31 fullShare x.x30 ∗ owns (c : Thread nD τ) a.m32 fullShare x.x31 ∗ owns (c : Thread nD τ) a.m33 fullShare x.x32 ∗ owns (c : Thread nD τ) a.m34 fullShare x.x33 ∗ owns (c : Thread nD τ) a.m35 fullShare (O34 i x q y34) ∗ (∃ d, owns (c : Thread nD τ) a.m38 fullShare d) ∗ (∃ d, owns (c : Thread nD τ) a.m39 fullShare d) ∗ (∃ d, owns (c : Thread nD τ) a.m40 fullShare d) ∗ (∃ d, owns (c : Thread nD τ) a.m41 fullShare d) ∗ (∃ d, owns (c : Thread nD τ) a.m42 fullShare d) ∗ (∃ d, owns (c : Thread nD τ) a.m43 fullShare d) ∗ (∃ d, owns (c : Thread nD τ) a.m44 fullShare d) ∗ (∃ d, owns (c : Thread nD τ) a.m45 fullShare d) ∗ (∃ d, owns (c : Thread nD τ) a.m46 fullShare d) ∗ (∃ d, owns (c : Thread nD τ) a.m47 fullShare d) ∗ (∃ d, owns (c : Thread nD τ) a.m48 fullShare d) ∗ (∃ d, owns (c : Thread nD τ) a.m49 fullShare d) ∗ (∃ d, owns (c : Thread nD τ) a.m50 fullShare d) ∗ owns (c : Thread nD τ) a.m51 fullShare (next i x q).s0 ∗ owns (c : Thread nD τ) a.m52 fullShare (next i x q).s1 ∗ owns (c : Thread nD τ) a.m53 fullShare (next i x q).s2 ∗ owns (c : Thread nD τ) a.m54 fullShare (next i x q).s3 ∗ owns (c : Thread nD τ) a.m55 fullShare (next i x q).s4 ∗ owns (c : Thread nD τ) a.m56 fullShare (next i x q).s5 ∗ owns (c : Thread nD τ) a.m57 fullShare (next i x q).s6 ∗ owns (c : Thread nD τ) a.m58 fullShare (next i x q).s7 ∗ owns (c : Thread nD τ) a.m59 fullShare (next i x q).s8 ∗ (∃ d, owns (c : Thread nD τ) a.m60 fullShare d)) -∗ K r))
    ⊢ wp frame (wpE (defs₀ (F := F)) Variants.none c none) E (k0_part23 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60) K := by
  rw [k0_part23_eq_skeleton]
  unfold k0_part23_skel
  have W := fun k K => wp_init c i a x p k E K
  rw [hq] at W
  iintro ⟨H1, H2, H3, H4, H5, H6, H7, H8, H9, H10, H11, H12, H13, H14, H15, H16, H17, H18, H19, H20, H21, H22, H23, H24, H25, H26, H27, H28, H29, H30, H31, H32, H33, H34, H35, H38, H39, H40, H41, H42, H43, H44, H45, H46, H47, H48, H49, H50, H51, H52, H53, H54, H55, H56, H57, H58, H59, H60, Hk⟩
  rw [wp_bind, part8_eq]
  iapply W
  isplitl [H2]; · iexact H2
  isplitl [H3]; · iexact H3
  isplitl [H4]; · iexact H4
  isplitl [H5]; · iexact H5
  isplitl [H6]; · iexact H6
  isplitl [H7]; · iexact H7
  isplitl [H11]; · iexact H11
  isplitl [H12]; · iexact H12
  isplitl [H28]; · iexact H28
  isplitl [H29]; · iexact H29
  isplitl [H30]; · iexact H30
  isplitl [H31]; · iexact H31
  isplitl [H32]; · iexact H32
  isplitl [H33]; · iexact H33
  isplitl [H51]; · iexact H51
  isplitl [H52]; · iexact H52
  isplitl [H53]; · iexact H53
  isplitl [H54]; · iexact H54
  isplitl [H55]; · iexact H55
  isplitl [H56]; · iexact H56
  isplitl [H57]; · iexact H57
  isplitl [H58]; · iexact H58
  isplitl [H59]; · iexact H59
  iintro ⟨H2, H3, H4, H5, H6, H7, H11, H12, H28, H29, H30, H31, H32, H33, H51, H52, H53, H54, H55, H56, H57, H58, H59⟩
  beta_reduce
  iapply (wp_loads c i a x q)
  isplitl [H8]; · iexact H8
  isplitl [H9]; · iexact H9
  isplitl [H10]; · iexact H10
  isplitl [H13]; · iexact H13
  isplitl [H14]; · iexact H14
  isplitl [H51]; · iexact H51
  isplitl [H53]; · iexact H53
  iintro %r ⟨%hr, H8, H9, H10, H13, H14, H51, H53⟩
  subst hr
  dsimp only
  rw [wp_bind]
  iapply (wp_part9 c i a (V3 i x q) (V33 i x q) (V34 i x q) x.x14 q.s1)
  isplitl [H15]; · iexact H15
  isplitl [H52]; · iexact H52
  iintro %r ⟨%hr, H15, H52⟩
  obtain rfl : r = ⟨(V56 i x q), (V71 i x q), (V76 i x q), (V78 i x q), (Vcst32 i x q)⟩ := hr
  dsimp only
  rw [wp_bind]
  iapply (wp_part10 c i a (V71 i x q) (V76 i x q) (V78 i x q) (Vcst32 i x q) x.x16 x.x17 q.s3 q.s4)
  isplitl [H17]; · iexact H17
  isplitl [H18]; · iexact H18
  isplitl [H54]; · iexact H54
  isplitl [H55]; · iexact H55
  iintro %r ⟨%hr, H17, H18, H54, H55⟩
  obtain rfl : r = ⟨(V80 i x q), (V89 i x q), (V98 i x q), (V99 i x q), (V100 i x q), (V110 i x q), (V111 i x q), (V121 i x q), (V123 i x q), (V124 i x q), (V125 i x q), (V126 i x q)⟩ := hr
  dsimp only
  rw [wp_bind]
  iapply (wp_part11 c i a (V98 i x q) (V99 i x q) (V100 i x q) (V123 i x q) (V124 i x q) (V125 i x q) (V126 i x q))
  iintro %r %hr
  obtain rfl : r = ⟨(V131 i x q), (V141 i x q), (V151 i x q), (V161 i x q), (V171 i x q), (V181 i x q), (V183 i x q), (V184 i x q), (V185 i x q), (V186 i x q)⟩ := hr
  dsimp only
  rw [wp_bind]
  iapply (wp_part12 c i a (V99 i x q) (V100 i x q) (V110 i x q) (V111 i x q) (V183 i x q) (V184 i x q) (V185 i x q) (V186 i x q) x.x0 q.s5 q.s6)
  isplitl [H1]; · iexact H1
  isplitl [H56]; · iexact H56
  isplitl [H57]; · iexact H57
  iintro %r %Y56 %Y57 ⟨%hr, H1, H56, H57⟩
  obtain ⟨hr, h56, h57⟩ := hr
  obtain rfl : Y56 = (S5_12 i x q) := h56
  obtain rfl : Y57 = (S6_12 i x q) := h57
  obtain rfl : r = ⟨(V191 i x q), (V192 i x q), (V211 i x q), (V224 i x q), (V226 i x q), (V228 i x q)⟩ := hr
  dsimp only
  rw [wp_bind]
  iapply (wp_part13 c i a (V121 i x q) (V131 i x q) (V141 i x q) (V151 i x q) (V192 i x q) (V211 i x q) (V224 i x q) (V226 i x q) (V228 i x q) x.x0 (S5_12 i x q) (S6_12 i x q) q.s7 q.s8)
  isplitl [H1]; · iexact H1
  isplitl [H56]; · iexact H56
  isplitl [H57]; · iexact H57
  isplitl [H58]; · iexact H58
  isplitl [H59]; · iexact H59
  iintro %r ⟨%hr, H1, H56, H57, H58, H59⟩
  obtain rfl : r = ⟨(V244 i x q), (V266 i x q), (V270 i x q), (V271 i x q)⟩ := hr
  dsimp only
  rw [wp_bind]
  iapply (wp_part14 c i a (V161 i x q) (V171 i x q) (V181 i x q) (V191 i x q) (V244 i x q) (V266 i x q) (V270 i x q) (V271 i x q) (S5_12 i x q) q.s7 d)
  isplitl [H56]; · iexact H56
  isplitl [H58]; · iexact H58
  isplitl [H60]; · iexact H60
  iintro %r %Y60 ⟨%hr, H56, H58, H60⟩
  obtain ⟨hr, h60⟩ := hr
  obtain rfl : Y60 = (T_14 i x q d) := h60
  obtain rfl : r = (V310 i x q) := hr
  beta_reduce
  rw [wp_bind]
  iapply (wp_part15 c i a (V110 i x q) (V111 i x q) (V310 i x q) (S5_12 i x q) (S6_12 i x q) q.s8 (T_14 i x q d))
  isplitl [H56]; · iexact H56
  isplitl [H57]; · iexact H57
  isplitl [H59]; · iexact H59
  isplitl [H60]; · iexact H60
  iintro %r %Y56 %Y60 ⟨%hr, H56, H57, H59, H60⟩
  obtain ⟨hr, h56, h60⟩ := hr
  obtain rfl : Y56 = (S5_15 i x q) := h56
  obtain rfl : Y60 = (T_15 i x q d) := h60
  obtain rfl : r = (V345 i x q) := hr
  beta_reduce
  rw [wp_bind]
  iapply (wp_part16 c i a (V121 i x q) (V131 i x q) (V141 i x q) (V151 i x q) (V192 i x q) (V211 i x q) (V345 i x q) x.x0 (S5_15 i x q) (S6_12 i x q) q.s7)
  isplitl [H1]; · iexact H1
  isplitl [H56]; · iexact H56
  isplitl [H57]; · iexact H57
  isplitl [H58]; · iexact H58
  iintro %r %Y57 ⟨%hr, H1, H56, H57, H58⟩
  obtain ⟨hr, h57⟩ := hr
  obtain rfl : Y57 = (S6_16 i x q) := h57
  obtain rfl : r = ⟨(V371 i x q), (V385 i x q), (V389 i x q)⟩ := hr
  dsimp only
  rw [wp_bind]
  iapply (wp_part17 c i a (V161 i x q) (V171 i x q) (V181 i x q) (V191 i x q) (V385 i x q) (V389 i x q) (S5_15 i x q) (S6_16 i x q) q.s8 (T_15 i x q d))
  isplitl [H56]; · iexact H56
  isplitl [H57]; · iexact H57
  isplitl [H59]; · iexact H59
  isplitl [H60]; · iexact H60
  iintro %r %Y60 ⟨%hr, H56, H57, H59, H60⟩
  obtain ⟨hr, h60⟩ := hr
  obtain rfl : Y60 = (T_17 i x q d) := h60
  obtain rfl : r = ⟨(V424 i x q), (V426 i x q), (Vcst136 i x q)⟩ := hr
  dsimp only
  rw [wp_bind]
  iapply (wp_part18 c i a (V371 i x q) (V424 i x q) (V426 i x q) (Vcst136 i x q) (S6_16 i x q) q.s7 q.s8 (T_17 i x q d))
  isplitl [H57]; · iexact H57
  isplitl [H58]; · iexact H58
  isplitl [H59]; · iexact H59
  isplitl [H60]; · iexact H60
  iintro %r %Y60 ⟨%hr, H57, H58, H59, H60⟩
  obtain ⟨hr, h60⟩ := hr
  obtain rfl : Y60 = (T_18 i x q d) := h60
  obtain rfl : r = (V462 i x q) := hr
  beta_reduce
  rw [wp_bind]
  iapply (wp_part19 c i a (V56 i x q) (V462 i x q) x.x15 x.x18 x.x19 (T_18 i x q d))
  isplitl [H16]; · iexact H16
  isplitl [H19]; · iexact H19
  isplitl [H20]; · iexact H20
  isplitl [H60]; · iexact H60
  iintro %r %Y60 ⟨%hr, H16, H19, H20, H60⟩
  obtain ⟨hr, h60⟩ := hr
  obtain rfl : Y60 = (T_19 i x q d) := h60
  rw [V466_raw i x q d] at hr
  obtain rfl : r = ⟨(V466 i x q), (V475 i x q), (V484 i x q), (V494 i x q), (V495 i x q), (V504 i x q)⟩ := hr
  dsimp only
  rw [wp_bind]
  iapply (wp_part20 c i a (V494 i x q) (V495 i x q) (V504 i x q) x.x20 x.x21)
  isplitl [H21]; · iexact H21
  isplitl [H22]; · iexact H22
  iintro %r ⟨%hr, H21, H22⟩
  obtain rfl : r = ⟨(V518 i x q), (V527 i x q), (V537 i x q), (V543 i x q), (V544 i x q)⟩ := hr
  dsimp only
  rw [wp_bind]
  iapply (wp_part21 c i a (V537 i x q) (V543 i x q) (V544 i x q) x.x22 x.x23)
  isplitl [H23]; · iexact H23
  isplitl [H24]; · iexact H24
  iintro %r ⟨%hr, H23, H24⟩
  obtain rfl : r = ⟨(V570 i x q), (V579 i x q), (V588 i x q)⟩ := hr
  dsimp only
  rw [wp_bind]
  iapply (wp_part22 c i a (V4 i x q) (V494 i x q) (V588 i x q) x.x24 x.x25 x.x26 x.x33 y34 q.s0)
  isplitl [H25]; · iexact H25
  isplitl [H26]; · iexact H26
  isplitl [H27]; · iexact H27
  isplitl [H34]; · iexact H34
  isplitl [H35]; · iexact H35
  isplitl [H51]; · iexact H51
  iintro %r %Y35 %Y51 ⟨%hr, H25, H26, H27, H34, H35, H51⟩
  obtain ⟨hr, h35, h51⟩ := hr
  obtain rfl : Y35 = (O34_22 i x q y34) := h35
  obtain rfl : Y51 = (S0_22 i x q) := h51
  obtain rfl : r = ⟨(V589 i x q), (V625 i x q), (V626 i x q)⟩ := hr
  dsimp only
  rw [wp_bind]
  iapply (wp_load c a.m35 _ _ (O34_22 i x q y34))
  isplitl [H35]; · iexact H35
  iintro %v ⟨%hv, H35⟩
  subst hv
  beta_reduce
  rw [wp_bind]
  iapply (wp_store c a.m35 _ _ _ _ _ _ (O34_22 i x q y34))
  isplitl [H35]; · iexact H35
  iintro %Y35 ⟨%h35, H35⟩
  obtain rfl : Y35 = (O34 i x q y34) := h35
  beta_reduce
  rw [wp_bind]
  iapply (wp_smem c a.m34 _ _ _ x.x33)
  isplitl [H34]; · iexact H34
  iintro %v ⟨%hv, H34⟩
  subst hv
  beta_reduce
  rw [wp_bind]
  iapply (wp_load c a.m51 _ _ (S0_22 i x q))
  isplitl [H51]; · iexact H51
  iintro %v ⟨%hv, H51⟩
  subst hv
  beta_reduce
  rw [wp_bind]
  iapply (wp_store c a.m51 _ _ _ _ _ _ (S0_22 i x q))
  isplitl [H51]; · iexact H51
  iintro %Y51 ⟨%h51, H51⟩
  obtain rfl : Y51 = (S0 i x q) := h51
  beta_reduce
  rw [wp_bind]
  iapply (wp_load c a.m50 _ _ y49)
  isplitl [H50]; · iexact H50
  iintro %v ⟨%hv, H50⟩
  subst hv
  beta_reduce
  rw [wp_bind]
  iapply (wp_store c a.m50 _ _ _ _ _ _ y49)
  isplitl [H50]; · iexact H50
  iintro %Y50 ⟨%h50, H50⟩
  clear h50
  beta_reduce
  rw [wp_bind]
  iapply (wp_load c a.m50 _ _ Y50)
  isplitl [H50]; · iexact H50
  iintro %v ⟨%hv, H50⟩
  subst hv
  beta_reduce
  rw [wp_bind]
  iapply (wp_store c a.m50 _ _ _ _ _ _ Y50)
  isplitl [H50]; · iexact H50
  iintro %Y50 ⟨%h50, H50⟩
  clear h50
  beta_reduce
  by_cases hc2 : k0_cond2 i = 1#1
  · rw [dif_pos hc2]
    rw [wp_bind]
    iapply (wp_part5 c i a (V80 i x q) (V89 i x q) (V110 i x q) (V111 i x q) (V466 i x q) (V484 i x q) y37 y38 y39 y40 y41 y42 y43)
    isplitl [H38]; · iexact H38
    isplitl [H39]; · iexact H39
    isplitl [H40]; · iexact H40
    isplitl [H41]; · iexact H41
    isplitl [H42]; · iexact H42
    isplitl [H43]; · iexact H43
    isplitl [H44]; · iexact H44
    iintro %r %Y38 %Y39 %Y40 %Y41 %Y42 %Y43 %Y44 ⟨%hr, H38, H39, H40, H41, H42, H43, H44⟩
    obtain ⟨hr, h38, h39, h40, h41, h42, h43, h44⟩ := hr
    clear h38
    clear h39
    clear h40
    clear h41
    clear h42
    clear h43
    clear h44
    cases r
    beta_reduce
    rw [wp_bind]
    iapply (wp_part6 c i a (V110 i x q) (V111 i x q) (V475 i x q) (V518 i x q) (V527 i x q) (V570 i x q) (V579 i x q) Y38 Y39 y44 y45 y46 y47 y48)
    isplitl [H38]; · iexact H38
    isplitl [H39]; · iexact H39
    isplitl [H45]; · iexact H45
    isplitl [H46]; · iexact H46
    isplitl [H47]; · iexact H47
    isplitl [H48]; · iexact H48
    isplitl [H49]; · iexact H49
    iintro %r %Y38 %Y45 %Y46 %Y47 %Y48 %Y49 ⟨%hr, H38, H39, H45, H46, H47, H48, H49⟩
    obtain ⟨hr, h38, h45, h46, h47, h48, h49⟩ := hr
    clear h38
    clear h45
    clear h46
    clear h47
    clear h48
    clear h49
    clear hr
    beta_reduce
    rw [wp_bind]
    iapply (wp_part7 c i a (V80 i x q) (V89 i x q) (V466 i x q) (V475 i x q) (V484 i x q) (V527 i x q) r Y39 Y40 Y41 Y42 Y43 Y44 Y45 Y46)
    isplitl [H39]; · iexact H39
    isplitl [H40]; · iexact H40
    isplitl [H41]; · iexact H41
    isplitl [H42]; · iexact H42
    isplitl [H43]; · iexact H43
    isplitl [H44]; · iexact H44
    isplitl [H45]; · iexact H45
    isplitl [H46]; · iexact H46
    iintro %r %Y39 %Y40 %Y41 %Y42 %Y43 %Y44 %Y45 ⟨%hr, H39, H40, H41, H42, H43, H44, H45, H46⟩
    obtain ⟨hr, h39, h40, h41, h42, h43, h44, h45⟩ := hr
    clear h39
    clear h40
    clear h41
    clear h42
    clear h43
    clear h44
    clear h45
    clear hr
    beta_reduce
    rw [wp_bind]
    iapply (wp_store c a.m46 _ _ _ _ _ _ Y46)
    isplitl [H46]; · iexact H46
    iintro %Y46 ⟨%h46, H46⟩
    clear h46
    beta_reduce
    rw [wp_bind]
    iapply (wp_load c a.m47 _ _ Y47)
    isplitl [H47]; · iexact H47
    iintro %v ⟨%hv, H47⟩
    subst hv
    beta_reduce
    rw [wp_bind]
    iapply (wp_store c a.m47 _ _ _ _ _ _ Y47)
    isplitl [H47]; · iexact H47
    iintro %Y47 ⟨%h47, H47⟩
    clear h47
    beta_reduce
    rw [wp_bind]
    iapply (wp_load c a.m48 _ _ Y48)
    isplitl [H48]; · iexact H48
    iintro %v ⟨%hv, H48⟩
    subst hv
    beta_reduce
    rw [wp_bind]
    iapply (wp_store c a.m48 _ _ _ _ _ _ Y48)
    isplitl [H48]; · iexact H48
    iintro %Y48 ⟨%h48, H48⟩
    clear h48
    beta_reduce
    rw [wp_bind]
    iapply (wp_load c a.m49 _ _ Y49)
    isplitl [H49]; · iexact H49
    iintro %v ⟨%hv, H49⟩
    subst hv
    beta_reduce
    rw [wp_bind]
    iapply (wp_store c a.m49 _ _ _ _ _ _ Y49)
    isplitl [H49]; · iexact H49
    iintro %Y49 ⟨%h49, H49⟩
    clear h49
    beta_reduce
    sl_step
    iapply Hk
    isplitr
    · ipureintro; rfl
    dsimp only [next]
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    isplitl [H35]; · iexact H35
    isplitl [H38]; · iexists _; iexact H38
    isplitl [H39]; · iexists _; iexact H39
    isplitl [H40]; · iexists _; iexact H40
    isplitl [H41]; · iexists _; iexact H41
    isplitl [H42]; · iexists _; iexact H42
    isplitl [H43]; · iexists _; iexact H43
    isplitl [H44]; · iexists _; iexact H44
    isplitl [H45]; · iexists _; iexact H45
    isplitl [H46]; · iexists _; iexact H46
    isplitl [H47]; · iexists _; iexact H47
    isplitl [H48]; · iexists _; iexact H48
    isplitl [H49]; · iexists _; iexact H49
    isplitl [H50]; · iexists _; iexact H50
    isplitl [H51]; · iexact H51
    isplitl [H52]; · iexact H52
    isplitl [H53]; · iexact H53
    isplitl [H54]; · iexact H54
    isplitl [H55]; · iexact H55
    isplitl [H56]; · iexact H56
    isplitl [H57]; · iexact H57
    isplitl [H58]; · iexact H58
    isplitl [H59]; · iexact H59
    iexists _; iexact H60
  · rw [dif_neg hc2]
    sl_step
    iapply Hk
    isplitr
    · ipureintro; rfl
    dsimp only [next]
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    isplitl [H35]; · iexact H35
    isplitl [H38]; · iexists _; iexact H38
    isplitl [H39]; · iexists _; iexact H39
    isplitl [H40]; · iexists _; iexact H40
    isplitl [H41]; · iexists _; iexact H41
    isplitl [H42]; · iexists _; iexact H42
    isplitl [H43]; · iexists _; iexact H43
    isplitl [H44]; · iexists _; iexact H44
    isplitl [H45]; · iexists _; iexact H45
    isplitl [H46]; · iexists _; iexact H46
    isplitl [H47]; · iexists _; iexact H47
    isplitl [H48]; · iexists _; iexact H48
    isplitl [H49]; · iexists _; iexact H49
    isplitl [H50]; · iexists _; iexact H50
    isplitl [H51]; · iexact H51
    isplitl [H52]; · iexact H52
    isplitl [H53]; · iexact H53
    isplitl [H54]; · iexact H54
    isplitl [H55]; · iexact H55
    isplitl [H56]; · iexact H56
    isplitl [H57]; · iexact H57
    isplitl [H58]; · iexact H58
    isplitl [H59]; · iexact H59
    iexists _; iexact H60

end Cert.KernelIdeal.Named

end
-- ==== Proof.RunBody.lean ====
/- The run of the whole kernel body at any grid point. -/
module

public import proofs.«01_k».proof.Proof.RunMain
public import Idealize.ShloMosaic.Lib.VecWindow

@[expose] public section

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2000000 in
/-- The body: `q` is the scratch it works on. -/
theorem wp_body (c : Dev nD) (i : grid0.Coords) (a : Bufs) (x : Ins F) (p q : Carry F) (hq : start i x p = q) (y34 : Vec F S1x2x50x32 .f32) (y35 : Vec F S2x50x32 .f32) (y36 : Vec F S2x51x1024 .f32) (y37 : Vec F S2x51x256 .bf16) (y38 : Vec F S2x51x256 .bf16) (y39 : Vec F S2x2048 .f32) (y40 : Vec F S2x50x2048 .bf16) (y41 : Vec F S2x51x1024 .fp8e4m3) (y42 : Vec F S2x51x1 .f32) (y43 : Vec F S2x51x2048 .fp8e4m3) (y44 : Vec F S2x51x1 .f32) (y45 : Vec F S2x51x1024 .fp8e4m3) (y46 : Vec F S2x51x1 .f32) (y47 : Vec F S2x51x4096 .fp8e4m3) (y48 : Vec F S2x51x1 .f32) (y49 : Vec F S1x2x51x2048 .bf16) (d : Vec F S112x2048 .f32)
    (E : Set ℕ) (K : PUnit → sProp 𝕄) :
    iprop(owns (c : Thread nD τ) a.m1 fullShare x.x0 ∗ owns (c : Thread nD τ) a.m2 fullShare x.x1 ∗ owns (c : Thread nD τ) a.m3 fullShare x.x2 ∗ owns (c : Thread nD τ) a.m4 fullShare x.x3 ∗ owns (c : Thread nD τ) a.m5 fullShare x.x4 ∗ owns (c : Thread nD τ) a.m6 fullShare x.x5 ∗ owns (c : Thread nD τ) a.m7 fullShare x.x6 ∗ owns (c : Thread nD τ) a.m8 fullShare x.x7 ∗ owns (c : Thread nD τ) a.m9 fullShare x.x8 ∗ owns (c : Thread nD τ) a.m10 fullShare x.x9 ∗ owns (c : Thread nD τ) a.m11 fullShare x.x10 ∗ owns (c : Thread nD τ) a.m12 fullShare x.x11 ∗ owns (c : Thread nD τ) a.m13 fullShare x.x12 ∗ owns (c : Thread nD τ) a.m14 fullShare x.x13 ∗ owns (c : Thread nD τ) a.m15 fullShare x.x14 ∗ owns (c : Thread nD τ) a.m16 fullShare x.x15 ∗ owns (c : Thread nD τ) a.m17 fullShare x.x16 ∗ owns (c : Thread nD τ) a.m18 fullShare x.x17 ∗ owns (c : Thread nD τ) a.m19 fullShare x.x18 ∗ owns (c : Thread nD τ) a.m20 fullShare x.x19 ∗ owns (c : Thread nD τ) a.m21 fullShare x.x20 ∗ owns (c : Thread nD τ) a.m22 fullShare x.x21 ∗ owns (c : Thread nD τ) a.m23 fullShare x.x22 ∗ owns (c : Thread nD τ) a.m24 fullShare x.x23 ∗ owns (c : Thread nD τ) a.m25 fullShare x.x24 ∗ owns (c : Thread nD τ) a.m26 fullShare x.x25 ∗ owns (c : Thread nD τ) a.m27 fullShare x.x26 ∗ owns (c : Thread nD τ) a.m28 fullShare x.x27 ∗ owns (c : Thread nD τ) a.m29 fullShare x.x28 ∗ owns (c : Thread nD τ) a.m30 fullShare x.x29 ∗ owns (c : Thread nD τ) a.m31 fullShare x.x30 ∗ owns (c : Thread nD τ) a.m32 fullShare x.x31 ∗ owns (c : Thread nD τ) a.m33 fullShare x.x32 ∗ owns (c : Thread nD τ) a.m34 fullShare x.x33 ∗ owns (c : Thread nD τ) a.m35 fullShare y34 ∗ owns (c : Thread nD τ) a.m36 fullShare y35 ∗ owns (c : Thread nD τ) a.m37 fullShare y36 ∗ owns (c : Thread nD τ) a.m38 fullShare y37 ∗ owns (c : Thread nD τ) a.m39 fullShare y38 ∗ owns (c : Thread nD τ) a.m40 fullShare y39 ∗ owns (c : Thread nD τ) a.m41 fullShare y40 ∗ owns (c : Thread nD τ) a.m42 fullShare y41 ∗ owns (c : Thread nD τ) a.m43 fullShare y42 ∗ owns (c : Thread nD τ) a.m44 fullShare y43 ∗ owns (c : Thread nD τ) a.m45 fullShare y44 ∗ owns (c : Thread nD τ) a.m46 fullShare y45 ∗ owns (c : Thread nD τ) a.m47 fullShare y46 ∗ owns (c : Thread nD τ) a.m48 fullShare y47 ∗ owns (c : Thread nD τ) a.m49 fullShare y48 ∗ owns (c : Thread nD τ) a.m50 fullShare y49 ∗ owns (c : Thread nD τ) a.m51 fullShare p.s0 ∗ owns (c : Thread nD τ) a.m52 fullShare p.s1 ∗ owns (c : Thread nD τ) a.m53 fullShare p.s2 ∗ owns (c : Thread nD τ) a.m54 fullShare p.s3 ∗ owns (c : Thread nD τ) a.m55 fullShare p.s4 ∗ owns (c : Thread nD τ) a.m56 fullShare p.s5 ∗ owns (c : Thread nD τ) a.m57 fullShare p.s6 ∗ owns (c : Thread nD τ) a.m58 fullShare p.s7 ∗ owns (c : Thread nD τ) a.m59 fullShare p.s8 ∗ owns (c : Thread nD τ) a.m60 fullShare d ∗
      (iprop(owns (c : Thread nD τ) a.m1 fullShare x.x0 ∗ owns (c : Thread nD τ) a.m2 fullShare x.x1 ∗ owns (c : Thread nD τ) a.m3 fullShare x.x2 ∗ owns (c : Thread nD τ) a.m4 fullShare x.x3 ∗ owns (c : Thread nD τ) a.m5 fullShare x.x4 ∗ owns (c : Thread nD τ) a.m6 fullShare x.x5 ∗ owns (c : Thread nD τ) a.m7 fullShare x.x6 ∗ owns (c : Thread nD τ) a.m8 fullShare x.x7 ∗ owns (c : Thread nD τ) a.m9 fullShare x.x8 ∗ owns (c : Thread nD τ) a.m10 fullShare x.x9 ∗ owns (c : Thread nD τ) a.m11 fullShare x.x10 ∗ owns (c : Thread nD τ) a.m12 fullShare x.x11 ∗ owns (c : Thread nD τ) a.m13 fullShare x.x12 ∗ owns (c : Thread nD τ) a.m14 fullShare x.x13 ∗ owns (c : Thread nD τ) a.m15 fullShare x.x14 ∗ owns (c : Thread nD τ) a.m16 fullShare x.x15 ∗ owns (c : Thread nD τ) a.m17 fullShare x.x16 ∗ owns (c : Thread nD τ) a.m18 fullShare x.x17 ∗ owns (c : Thread nD τ) a.m19 fullShare x.x18 ∗ owns (c : Thread nD τ) a.m20 fullShare x.x19 ∗ owns (c : Thread nD τ) a.m21 fullShare x.x20 ∗ owns (c : Thread nD τ) a.m22 fullShare x.x21 ∗ owns (c : Thread nD τ) a.m23 fullShare x.x22 ∗ owns (c : Thread nD τ) a.m24 fullShare x.x23 ∗ owns (c : Thread nD τ) a.m25 fullShare x.x24 ∗ owns (c : Thread nD τ) a.m26 fullShare x.x25 ∗ owns (c : Thread nD τ) a.m27 fullShare x.x26 ∗ owns (c : Thread nD τ) a.m28 fullShare x.x27 ∗ owns (c : Thread nD τ) a.m29 fullShare x.x28 ∗ owns (c : Thread nD τ) a.m30 fullShare x.x29 ∗ owns (c : Thread nD τ) a.m31 fullShare x.x30 ∗ owns (c : Thread nD τ) a.m32 fullShare x.x31 ∗ owns (c : Thread nD τ) a.m33 fullShare x.x32 ∗ owns (c : Thread nD τ) a.m34 fullShare x.x33 ∗ owns (c : Thread nD τ) a.m35 fullShare (O34 i x q y34) ∗ owns (c : Thread nD τ) a.m36 fullShare (O35 i x q y35) ∗ owns (c : Thread nD τ) a.m37 fullShare (O36 i x q y36) ∗ (∃ d, owns (c : Thread nD τ) a.m38 fullShare d) ∗ (∃ d, owns (c : Thread nD τ) a.m39 fullShare d) ∗ (∃ d, owns (c : Thread nD τ) a.m40 fullShare d) ∗ (∃ d, owns (c : Thread nD τ) a.m41 fullShare d) ∗ (∃ d, owns (c : Thread nD τ) a.m42 fullShare d) ∗ (∃ d, owns (c : Thread nD τ) a.m43 fullShare d) ∗ (∃ d, owns (c : Thread nD τ) a.m44 fullShare d) ∗ (∃ d, owns (c : Thread nD τ) a.m45 fullShare d) ∗ (∃ d, owns (c : Thread nD τ) a.m46 fullShare d) ∗ (∃ d, owns (c : Thread nD τ) a.m47 fullShare d) ∗ (∃ d, owns (c : Thread nD τ) a.m48 fullShare d) ∗ (∃ d, owns (c : Thread nD τ) a.m49 fullShare d) ∗ (∃ d, owns (c : Thread nD τ) a.m50 fullShare d) ∗ owns (c : Thread nD τ) a.m51 fullShare (next i x q).s0 ∗ owns (c : Thread nD τ) a.m52 fullShare (next i x q).s1 ∗ owns (c : Thread nD τ) a.m53 fullShare (next i x q).s2 ∗ owns (c : Thread nD τ) a.m54 fullShare (next i x q).s3 ∗ owns (c : Thread nD τ) a.m55 fullShare (next i x q).s4 ∗ owns (c : Thread nD τ) a.m56 fullShare (next i x q).s5 ∗ owns (c : Thread nD τ) a.m57 fullShare (next i x q).s6 ∗ owns (c : Thread nD τ) a.m58 fullShare (next i x q).s7 ∗ owns (c : Thread nD τ) a.m59 fullShare (next i x q).s8 ∗ (∃ d, owns (c : Thread nD τ) a.m60 fullShare d)) -∗ K ⟨⟩))
    ⊢ wp frame (wpE (defs₀ (F := F)) Variants.none c none) E (cc0_euler10 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60) K := by
  rw [cc0_euler10_eq_skeleton]
  unfold cc0_euler10_skel
  iintro ⟨H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, Hk⟩
  rw [wp_bind]
  iapply (wp_part23 c i a x p q hq y34 y37 y38 y39 y40 y41 y42 y43 y44 y45 y46 y47 y48 y49 d)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  isplitl [H57]; · iexact H57
  isplitl [H58]; · iexact H58
  isplitl [H59]; · iexact H59
  isplitl [H60]; · iexact H60
  dsimp only [next]
  iintro %r ⟨%hr, H1, H2, H3, H4, H5, H6, H7, H8, H9, H10, H11, H12, H13, H14, H15, H16, H17, H18, H19, H20, H21, H22, H23, H24, H25, H26, H27, H28, H29, H30, H31, H32, H33, H34, H35, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, H51, H52, H53, H54, H55, H56, H57, H58, H59, ⟨%d60, H60⟩⟩
  subst hr
  dsimp only
  by_cases hc3 : cond0_2 i
  · rw [dif_pos hc3, show O35 i x q y35 = F35 i x q y35 from if_pos hc3, show O36 i x q y36 = F36 i x q y36 from if_pos hc3]
    rw [wp_bind]
    iapply (wp_load c a.m37 _ _ y36)
    isplitl [H37]; · iexact H37
    iintro %v ⟨%hv, H37⟩
    subst hv
    beta_reduce
    rw [wp_bind]
    iapply (wp_store c a.m37 _ _ _ _ _ _ y36)
    isplitl [H37]; · iexact H37
    iintro %Y37 ⟨%h37, H37⟩
    obtain rfl : Y37 = (VecWindow.put y36 ![0, 0, 0] S1x51x1024.size (k0_pay1 (V589 i x q))) := h37
    beta_reduce
    rw [wp_bind]
    iapply (wp_load c a.m51 _ _ (S0 i x q))
    isplitl [H51]; · iexact H51
    iintro %v ⟨%hv, H51⟩
    subst hv
    beta_reduce
    rw [wp_bind]
    iapply (wp_load c a.m36 _ _ y35)
    isplitl [H36]; · iexact H36
    iintro %v ⟨%hv, H36⟩
    subst hv
    beta_reduce
    rw [wp_bind]
    iapply (wp_store c a.m36 _ _ _ _ _ _ y35)
    isplitl [H36]; · iexact H36
    iintro %Y36 ⟨%h36, H36⟩
    obtain rfl : Y36 = (VecWindow.put y35 ![0, 0, 0] S1x50x32.size (k0_pay2 (View.ld (S0 i x q) (Rect.unit (s := S112x32) ![1, 0] S50x32.size inb_S112x32_S50x32_1_0)))) := h36
    beta_reduce
    rw [wp_bind]
    iapply (wp_load c a.m37 _ _ (VecWindow.put y36 ![0, 0, 0] S1x51x1024.size (k0_pay1 (V589 i x q))))
    isplitl [H37]; · iexact H37
    iintro %v ⟨%hv, H37⟩
    subst hv
    beta_reduce
    rw [wp_bind]
    iapply (wp_store c a.m37 _ _ _ _ _ _ (VecWindow.put y36 ![0, 0, 0] S1x51x1024.size (k0_pay1 (V589 i x q))))
    isplitl [H37]; · iexact H37
    iintro %Y37 ⟨%h37, H37⟩
    obtain rfl : Y37 = (F36 i x q y36) := h37
    beta_reduce
    rw [wp_bind]
    iapply (wp_load c a.m51 _ _ (S0 i x q))
    isplitl [H51]; · iexact H51
    iintro %v ⟨%hv, H51⟩
    subst hv
    beta_reduce
    rw [wp_bind]
    iapply (wp_load c a.m36 _ _ (VecWindow.put y35 ![0, 0, 0] S1x50x32.size (k0_pay2 (View.ld (S0 i x q) (Rect.unit (s := S112x32) ![1, 0] S50x32.size inb_S112x32_S50x32_1_0)))))
    isplitl [H36]; · iexact H36
    iintro %v ⟨%hv, H36⟩
    subst hv
    beta_reduce
    rw [wp_bind]
    iapply (wp_store c a.m36 _ _ _ _ _ _ (VecWindow.put y35 ![0, 0, 0] S1x50x32.size (k0_pay2 (View.ld (S0 i x q) (Rect.unit (s := S112x32) ![1, 0] S50x32.size inb_S112x32_S50x32_1_0)))))
    isplitl [H36]; · iexact H36
    iintro %Y36 ⟨%h36, H36⟩
    obtain rfl : Y36 = (F35 i x q y35) := h36
    beta_reduce
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    isplitl [H35]; · iexact H35
    isplitl [H36]; · iexact H36
    isplitl [H37]; · iexact H37
    isplitl [H38]; · iexists _; iexact H38
    isplitl [H39]; · iexists _; iexact H39
    isplitl [H40]; · iexists _; iexact H40
    isplitl [H41]; · iexists _; iexact H41
    isplitl [H42]; · iexists _; iexact H42
    isplitl [H43]; · iexists _; iexact H43
    isplitl [H44]; · iexists _; iexact H44
    isplitl [H45]; · iexists _; iexact H45
    isplitl [H46]; · iexists _; iexact H46
    isplitl [H47]; · iexists _; iexact H47
    isplitl [H48]; · iexists _; iexact H48
    isplitl [H49]; · iexists _; iexact H49
    isplitl [H50]; · iexists _; iexact H50
    isplitl [H51]; · iexact H51
    isplitl [H52]; · iexact H52
    isplitl [H53]; · iexact H53
    isplitl [H54]; · iexact H54
    isplitl [H55]; · iexact H55
    isplitl [H56]; · iexact H56
    isplitl [H57]; · iexact H57
    isplitl [H58]; · iexact H58
    isplitl [H59]; · iexact H59
    iexists _; iexact H60
  · rw [dif_neg hc3, show O35 i x q y35 = y35 from if_neg hc3, show O36 i x q y36 = y36 from if_neg hc3]
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    isplitl [H35]; · iexact H35
    isplitl [H36]; · iexact H36
    isplitl [H37]; · iexact H37
    isplitl [H38]; · iexists _; iexact H38
    isplitl [H39]; · iexists _; iexact H39
    isplitl [H40]; · iexists _; iexact H40
    isplitl [H41]; · iexists _; iexact H41
    isplitl [H42]; · iexists _; iexact H42
    isplitl [H43]; · iexists _; iexact H43
    isplitl [H44]; · iexists _; iexact H44
    isplitl [H45]; · iexists _; iexact H45
    isplitl [H46]; · iexists _; iexact H46
    isplitl [H47]; · iexists _; iexact H47
    isplitl [H48]; · iexists _; iexact H48
    isplitl [H49]; · iexists _; iexact H49
    isplitl [H50]; · iexists _; iexact H50
    isplitl [H51]; · iexact H51
    isplitl [H52]; · iexact H52
    isplitl [H53]; · iexact H53
    isplitl [H54]; · iexact H54
    isplitl [H55]; · iexact H55
    isplitl [H56]; · iexact H56
    isplitl [H57]; · iexact H57
    isplitl [H58]; · iexact H58
    isplitl [H59]; · iexact H59
    iexists _; iexact H60

end Cert.KernelIdeal.Named

end
-- ==== Proof.Named.lean ====
/- The frame of the kernel with its first three outputs NAMED: what each holds after every grid point (`outsAt`), the pipeline's proof
   data over it, the body obligation, and the run of @main. -/
module

public import proofs.«01_k».proof.Proof.Tables
public import proofs.«01_k».proof.Proof.RunBody

@[expose] public section

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a grid point leaves: the three named outputs' blocks and the carried scratch. -/
structure Left (F : FTy → Type) extends Carry F where
  o34 : Vec F S1x2x50x32 .f32
  o35 : Vec F S2x50x32 .f32
  o36 : Vec F S2x51x1024 .f32

/-- The scratch the body works on at point `t`, when `p` was there before. -/
def startAt (c : Dev nD) (t : Fin cfg0.N) (p : Carry F) : Carry F := start (grid0.coords t) (insAt m c t) p

/-- What point `t` leaves, when the body works on the scratch `q`. -/
def leftAt (c : Dev nD) (t : Fin cfg0.N) (q : Carry F) : Left F where
  toCarry := next (grid0.coords t) (insAt m c t) q
  o34 := O34 (grid0.coords t) (insAt m c t) q fun _ => Scalar.ofBits .f32 0
  o35 := F35 (grid0.coords t) (insAt m c t) q fun _ => Scalar.ofBits .f32 0
  o36 := F36 (grid0.coords t) (insAt m c t) q fun _ => Scalar.ofBits .f32 0

/-- What the outputs and the scratch hold after the point at position `n`. -/
def outsAt (c : Dev nD) : (n : ℕ) → n < cfg0.N → Left F
  | 0, hn => leftAt m c ⟨0, hn⟩ (init (insAt m c ⟨0, hn⟩))
  | n + 1, hn => leftAt m c ⟨n + 1, hn⟩ (outsAt c n (Nat.lt_of_succ_lt hn)).toCarry

theorem outsAt_zero (c : Dev nD) (t : Fin cfg0.N) (h : t.val = 0) :
    outsAt m c t.val t.isLt = leftAt m c t (init (insAt m c t)) := by
  obtain ⟨n, hn⟩ := t; cases h; rfl

theorem outsAt_pos (c : Dev nD) (t : Fin cfg0.N) (h : t.val ≠ 0) :
    outsAt m c t.val t.isLt = leftAt m c t (outsAt m c (t.val - 1) (by omega)).toCarry := by
  obtain ⟨n, hn⟩ := t
  cases n with
  | zero => exact absurd rfl h
  | succ n => rfl

/-- The region's invariant with the carried scratch at `p`. -/
def Held (c : Dev nD) (p : Carry F) : sProp 𝕄 :=
  iprop(iprop(owns (c : Thread nD τ) scM0_0 fullShare p.s0 ∗ owns (c : Thread nD τ) scM0_1 fullShare p.s1 ∗ owns (c : Thread nD τ) scM0_2 fullShare p.s2 ∗ owns (c : Thread nD τ) scM0_3 fullShare p.s3 ∗ owns (c : Thread nD τ) scM0_4 fullShare p.s4 ∗ owns (c : Thread nD τ) scM0_5 fullShare p.s5 ∗ owns (c : Thread nD τ) scM0_6 fullShare p.s6 ∗ owns (c : Thread nD τ) scM0_7 fullShare p.s7 ∗ owns (c : Thread nD τ) scM0_8 fullShare p.s8 ∗ (∃ d, owns (c : Thread nD τ) scM0_9 fullShare d)) ∗ ∃ st, prngReg c st)

/-- The invariant before position `n`: at the start anything, afterwards the scratch as the point before left it. -/
def PhiS (c : Dev nD) : (n : ℕ) → n ≤ cfg0.N → sProp 𝕄
  | 0, _ => Pipeline.ΦA spec0 c
  | n + 1, hn => Held c (outsAt m c n hn).toCarry

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = Held c (outsAt m c (n - 1) (by omega)).toCarry := by
  cases n with
  | zero => exact absurd rfl hz
  | succ n => rfl

/-- The outputs of which nothing is named. -/
def forgets0 : Fin 50 → Bool := fun w => decide (37 ≤ w.val)

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => (outsAt m c t.val t.isLt).o34
    | ⟨35, _⟩ => (outsAt m c t.val t.isLt).o35
    | ⟨36, _⟩ => (outsAt m c t.val t.isLt).o36
    | ⟨37, h⟩ => Pipeline.Dat.unnamed (cfg := cfg0) ⟨37, h⟩ t
    | ⟨38, h⟩ => Pipeline.Dat.unnamed (cfg := cfg0) ⟨38, h⟩ t
    | ⟨39, h⟩ => Pipeline.Dat.unnamed (cfg := cfg0) ⟨39, h⟩ t
    | ⟨40, h⟩ => Pipeline.Dat.unnamed (cfg := cfg0) ⟨40, h⟩ t
    | ⟨41, h⟩ => Pipeline.Dat.unnamed (cfg := cfg0) ⟨41, h⟩ t
    | ⟨42, h⟩ => Pipeline.Dat.unnamed (cfg := cfg0) ⟨42, h⟩ t
    | ⟨43, h⟩ => Pipeline.Dat.unnamed (cfg := cfg0) ⟨43, h⟩ t
    | ⟨44, h⟩ => Pipeline.Dat.unnamed (cfg := cfg0) ⟨44, h⟩ t
    | ⟨45, h⟩ => Pipeline.Dat.unnamed (cfg := cfg0) ⟨45, h⟩ t
    | ⟨46, h⟩ => Pipeline.Dat.unnamed (cfg := cfg0) ⟨46, h⟩ t
    | ⟨47, h⟩ => Pipeline.Dat.unnamed (cfg := cfg0) ⟨47, h⟩ t
    | ⟨48, h⟩ => Pipeline.Dat.unnamed (cfg := cfg0) ⟨48, h⟩ t
    | ⟨49, h⟩ => Pipeline.Dat.unnamed (cfg := cfg0) ⟨49, h⟩ t
    | ⟨_ + 50, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = iblk m c 31 t := by dsimp only [dats]
theorem after0_32 (c : Dev nD) (t : Fin cfg0.N) : (dats m 0 c).after 32 t = iblk m c 32 t := by dsimp only [dats]
theorem after0_33 (c : Dev nD) (t : Fin cfg0.N) : (dats m 0 c).after 33 t = iblk m c 33 t := by dsimp only [dats]
theorem after0_34 (c : Dev nD) (t : Fin cfg0.N) : (dats m 0 c).after 34 t = (outsAt m c t.val t.isLt).o34 := by dsimp only [dats]
theorem after0_35 (c : Dev nD) (t : Fin cfg0.N) : (dats m 0 c).after 35 t = (outsAt m c t.val t.isLt).o35 := by dsimp only [dats]
theorem after0_36 (c : Dev nD) (t : Fin cfg0.N) : (dats m 0 c).after 36 t = (outsAt m c t.val t.isLt).o36 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d
theorem before0_29 (c : Dev nD) (t : Fin cfg0.N) (d) : (dats m 0 c).before 29 t d = iblk m c 29 t :=
  before0_29_of m (dats m 0 c) (A_eq m c 29) (after0_29 m c) t d
theorem before0_30 (c : Dev nD) (t : Fin cfg0.N) (d) : (dats m 0 c).before 30 t d = iblk m c 30 t :=
  before0_30_of m (dats m 0 c) (A_eq m c 30) (after0_30 m c) t d
theorem before0_31 (c : Dev nD) (t : Fin cfg0.N) (d) : (dats m 0 c).before 31 t d = iblk m c 31 t :=
  before0_31_of m (dats m 0 c) (A_eq m c 31) (after0_31 m c) t d
theorem before0_32 (c : Dev nD) (t : Fin cfg0.N) (d) : (dats m 0 c).before 32 t d = iblk m c 32 t :=
  before0_32_of m (dats m 0 c) (A_eq m c 32) (after0_32 m c) t d
theorem before0_33 (c : Dev nD) (t : Fin cfg0.N) (d) : (dats m 0 c).before 33 t d = iblk m c 33 t :=
  before0_33_of m (dats m 0 c) (A_eq m c 33) (after0_33 m c) t d

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
theorem leaves0_6 (c : Dev nD) (t : Fin cfg0.N) : (dats m 0 c).leavesExact 6 t = owns (c : Thread nD τ) (ms0_6 t) fullShare (iblk m c 6 t) := by
  unfold Dat.leavesExact; rw [liveAt0_6 t, after0_6]
theorem leaves0_7 (c : Dev nD) (t : Fin cfg0.N) : (dats m 0 c).leavesExact 7 t = owns (c : Thread nD τ) (ms0_7 t) fullShare (iblk m c 7 t) := by
  unfold Dat.leavesExact; rw [liveAt0_7 t, after0_7]
theorem leaves0_8 (c : Dev nD) (t : Fin cfg0.N) : (dats m 0 c).leavesExact 8 t = owns (c : Thread nD τ) (ms0_8 t) fullShare (iblk m c 8 t) := by
  unfold Dat.leavesExact; rw [liveAt0_8 t, after0_8]
theorem leaves0_9 (c : Dev nD) (t : Fin cfg0.N) : (dats m 0 c).leavesExact 9 t = owns (c : Thread nD τ) (ms0_9 t) fullShare (iblk m c 9 t) := by
  unfold Dat.leavesExact; rw [liveAt0_9 t, after0_9]
theorem leaves0_10 (c : Dev nD) (t : Fin cfg0.N) : (dats m 0 c).leavesExact 10 t = owns (c : Thread nD τ) (ms0_10 t) fullShare (iblk m c 10 t) := by
  unfold Dat.leavesExact; rw [liveAt0_10 t, after0_10]
theorem leaves0_11 (c : Dev nD) (t : Fin cfg0.N) : (dats m 0 c).leavesExact 11 t = owns (c : Thread nD τ) (ms0_11 t) fullShare (iblk m c 11 t) := by
  unfold Dat.leavesExact; rw [liveAt0_11 t, after0_11]
theorem leaves0_12 (c : Dev nD) (t : Fin cfg0.N) : (dats m 0 c).leavesExact 12 t = owns (c : Thread nD τ) (ms0_12 t) fullShare (iblk m c 12 t) := by
  unfold Dat.leavesExact; rw [liveAt0_12 t, after0_12]
theorem leaves0_13 (c : Dev nD) (t : Fin cfg0.N) : (dats m 0 c).leavesExact 13 t = owns (c : Thread nD τ) (ms0_13 t) fullShare (iblk m c 13 t) := by
  unfold Dat.leavesExact; rw [liveAt0_13 t, after0_13]
theorem leaves0_14 (c : Dev nD) (t : Fin cfg0.N) : (dats m 0 c).leavesExact 14 t = owns (c : Thread nD τ) (ms0_14 t) fullShare (iblk m c 14 t) := by
  unfold Dat.leavesExact; rw [liveAt0_14 t, after0_14]
theorem leaves0_15 (c : Dev nD) (t : Fin cfg0.N) : (dats m 0 c).leavesExact 15 t = owns (c : Thread nD τ) (ms0_15 t) fullShare (iblk m c 15 t) := by
  unfold Dat.leavesExact; rw [liveAt0_15 t, after0_15]
theorem leaves0_16 (c : Dev nD) (t : Fin cfg0.N) : (dats m 0 c).leavesExact 16 t = owns (c : Thread nD τ) (ms0_16 t) fullShare (iblk m c 16 t) := by
  unfold Dat.leavesExact; rw [liveAt0_16 t, after0_16]
theorem leaves0_17 (c : Dev nD) (t : Fin cfg0.N) : (dats m 0 c).leavesExact 17 t = owns (c : Thread nD τ) (ms0_17 t) fullShare (iblk m c 17 t) := by
  unfold Dat.leavesExact; rw [liveAt0_17 t, after0_17]
theorem leaves0_18 (c : Dev nD) (t : Fin cfg0.N) : (dats m 0 c).leavesExact 18 t = owns (c : Thread nD τ) (ms0_18 t) fullShare (iblk m c 18 t) := by
  unfold Dat.leavesExact; rw [liveAt0_18 t, after0_18]
theorem leaves0_19 (c : Dev nD) (t : Fin cfg0.N) : (dats m 0 c).leavesExact 19 t = owns (c : Thread nD τ) (ms0_19 t) fullShare (iblk m c 19 t) := by
  unfold Dat.leavesExact; rw [liveAt0_19 t, after0_19]
theorem leaves0_20 (c : Dev nD) (t : Fin cfg0.N) : (dats m 0 c).leavesExact 20 t = owns (c : Thread nD τ) (ms0_20 t) fullShare (iblk m c 20 t) := by
  unfold Dat.leavesExact; rw [liveAt0_20 t, after0_20]
theorem leaves0_21 (c : Dev nD) (t : Fin cfg0.N) : (dats m 0 c).leavesExact 21 t = owns (c : Thread nD τ) (ms0_21 t) fullShare (iblk m c 21 t) := by
  unfold Dat.leavesExact; rw [liveAt0_21 t, after0_21]
theorem leaves0_22 (c : Dev nD) (t : Fin cfg0.N) : (dats m 0 c).leavesExact 22 t = owns (c : Thread nD τ) (ms0_22 t) fullShare (iblk m c 22 t) := by
  unfold Dat.leavesExact; rw [liveAt0_22 t, after0_22]
theorem leaves0_23 (c : Dev nD) (t : Fin cfg0.N) : (dats m 0 c).leavesExact 23 t = owns (c : Thread nD τ) (ms0_23 t) fullShare (iblk m c 23 t) := by
  unfold Dat.leavesExact; rw [liveAt0_23 t, after0_23]
theorem leaves0_24 (c : Dev nD) (t : Fin cfg0.N) : (dats m 0 c).leavesExact 24 t = owns (c : Thread nD τ) (ms0_24 t) fullShare (iblk m c 24 t) := by
  unfold Dat.leavesExact; rw [liveAt0_24 t, after0_24]
theorem leaves0_25 (c : Dev nD) (t : Fin cfg0.N) : (dats m 0 c).leavesExact 25 t = owns (c : Thread nD τ) (ms0_25 t) fullShare (iblk m c 25 t) := by
  unfold Dat.leavesExact; rw [liveAt0_25 t, after0_25]
theorem leaves0_26 (c : Dev nD) (t : Fin cfg0.N) : (dats m 0 c).leavesExact 26 t = owns (c : Thread nD τ) (ms0_26 t) fullShare (iblk m c 26 t) := by
  unfold Dat.leavesExact; rw [liveAt0_26 t, after0_26]
theorem leaves0_27 (c : Dev nD) (t : Fin cfg0.N) : (dats m 0 c).leavesExact 27 t = owns (c : Thread nD τ) (ms0_27 t) fullShare (iblk m c 27 t) := by
  unfold Dat.leavesExact; rw [liveAt0_27 t, after0_27]
theorem leaves0_28 (c : Dev nD) (t : Fin cfg0.N) : (dats m 0 c).leavesExact 28 t = owns (c : Thread nD τ) (ms0_28 t) fullShare (iblk m c 28 t) := by
  unfold Dat.leavesExact; rw [liveAt0_28 t, after0_28]
theorem leaves0_29 (c : Dev nD) (t : Fin cfg0.N) : (dats m 0 c).leavesExact 29 t = owns (c : Thread nD τ) (ms0_29 t) fullShare (iblk m c 29 t) := by
  unfold Dat.leavesExact; rw [liveAt0_29 t, after0_29]
theorem leaves0_30 (c : Dev nD) (t : Fin cfg0.N) : (dats m 0 c).leavesExact 30 t = owns (c : Thread nD τ) (ms0_30 t) fullShare (iblk m c 30 t) := by
  unfold Dat.leavesExact; rw [liveAt0_30 t, after0_30]
theorem leaves0_31 (c : Dev nD) (t : Fin cfg0.N) : (dats m 0 c).leavesExact 31 t = owns (c : Thread nD τ) (ms0_31 t) fullShare (iblk m c 31 t) := by
  unfold Dat.leavesExact; rw [liveAt0_31 t, after0_31]
theorem leaves0_32 (c : Dev nD) (t : Fin cfg0.N) : (dats m 0 c).leavesExact 32 t = owns (c : Thread nD τ) (ms0_32 t) fullShare (iblk m c 32 t) := by
  unfold Dat.leavesExact; rw [liveAt0_32 t, after0_32]
theorem leaves0_33 (c : Dev nD) (t : Fin cfg0.N) : (dats m 0 c).leavesExact 33 t = owns (c : Thread nD τ) (ms0_33 t) fullShare (iblk m c 33 t) := by
  unfold Dat.leavesExact; rw [liveAt0_33 t, after0_33]
theorem leaves0_34 (c : Dev nD) (t : Fin cfg0.N) : (dats m 0 c).leavesExact 34 t = owns (c : Thread nD τ) (ms0_34 t) fullShare (outsAt m c t.val t.isLt).o34 := by
  unfold Dat.leavesExact; rw [liveAt0_34 t, after0_34]

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d))
    ∗ (∃ d, owns (c : Thread nD τ) (ms0_35 t) fullShare ((dats m 0 c).before 35 t d))
    ∗ (∃ d, owns (c : Thread nD τ) (ms0_36 t) fullShare ((dats m 0 c).before 36 t d))
    ∗ (∃ d, owns (c : Thread nD τ) (ms0_37 t) fullShare d)
    ∗ (∃ d, owns (c : Thread nD τ) (ms0_38 t) fullShare d)
    ∗ (∃ d, owns (c : Thread nD τ) (ms0_39 t) fullShare d)
    ∗ (∃ d, owns (c : Thread nD τ) (ms0_40 t) fullShare d)
    ∗ (∃ d, owns (c : Thread nD τ) (ms0_41 t) fullShare d)
    ∗ (∃ d, owns (c : Thread nD τ) (ms0_42 t) fullShare d)
    ∗ (∃ d, owns (c : Thread nD τ) (ms0_43 t) fullShare d)
    ∗ (∃ d, owns (c : Thread nD τ) (ms0_44 t) fullShare d)
    ∗ (∃ d, owns (c : Thread nD τ) (ms0_45 t) fullShare d)
    ∗ (∃ d, owns (c : Thread nD τ) (ms0_46 t) fullShare d)
    ∗ (∃ d, owns (c : Thread nD τ) (ms0_47 t) fullShare d)
    ∗ (∃ d, owns (c : Thread nD τ) (ms0_48 t) fullShare d)
    ∗ (∃ d, owns (c : Thread nD τ) (ms0_49 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t
    ∗ (dats m 0 c).leavesExact 27 t
    ∗ (dats m 0 c).leavesExact 28 t
    ∗ (dats m 0 c).leavesExact 29 t
    ∗ (dats m 0 c).leavesExact 30 t
    ∗ (dats m 0 c).leavesExact 31 t
    ∗ (dats m 0 c).leavesExact 32 t
    ∗ (dats m 0 c).leavesExact 33 t
    ∗ (dats m 0 c).leavesExact 34 t
    ∗ (dats m 0 c).leavesExact 35 t
    ∗ (dats m 0 c).leavesExact 36 t
    ∗ (∃ d, owns (c : Thread nD τ) (ms0_37 t) fullShare d)
    ∗ (∃ d, owns (c : Thread nD τ) (ms0_38 t) fullShare d)
    ∗ (∃ d, owns (c : Thread nD τ) (ms0_39 t) fullShare d)
    ∗ (∃ d, owns (c : Thread nD τ) (ms0_40 t) fullShare d)
    ∗ (∃ d, owns (c : Thread nD τ) (ms0_41 t) fullShare d)
    ∗ (∃ d, owns (c : Thread nD τ) (ms0_42 t) fullShare d)
    ∗ (∃ d, owns (c : Thread nD τ) (ms0_43 t) fullShare d)
    ∗ (∃ d, owns (c : Thread nD τ) (ms0_44 t) fullShare d)
    ∗ (∃ d, owns (c : Thread nD τ) (ms0_45 t) fullShare d)
    ∗ (∃ d, owns (c : Thread nD τ) (ms0_46 t) fullShare d)
    ∗ (∃ d, owns (c : Thread nD τ) (ms0_47 t) fullShare d)
    ∗ (∃ d, owns (c : Thread nD τ) (ms0_48 t) fullShare d)
    ∗ (∃ d, owns (c : Thread nD τ) (ms0_49 t) fullShare d))

/-- What the body is called with at point `t`, beside the invariant. -/
def bodyRest (c : Dev nD) (t : Fin cfg0.N) : sProp 𝕄 :=
  iprop((dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d))
    ∗ (∃ d, owns (c : Thread nD τ) (ms0_35 t) fullShare ((dats m 0 c).before 35 t d))
    ∗ (∃ d, owns (c : Thread nD τ) (ms0_36 t) fullShare ((dats m 0 c).before 36 t d))
    ∗ (∃ d, owns (c : Thread nD τ) (ms0_37 t) fullShare d)
    ∗ (∃ d, owns (c : Thread nD τ) (ms0_38 t) fullShare d)
    ∗ (∃ d, owns (c : Thread nD τ) (ms0_39 t) fullShare d)
    ∗ (∃ d, owns (c : Thread nD τ) (ms0_40 t) fullShare d)
    ∗ (∃ d, owns (c : Thread nD τ) (ms0_41 t) fullShare d)
    ∗ (∃ d, owns (c : Thread nD τ) (ms0_42 t) fullShare d)
    ∗ (∃ d, owns (c : Thread nD τ) (ms0_43 t) fullShare d)
    ∗ (∃ d, owns (c : Thread nD τ) (ms0_44 t) fullShare d)
    ∗ (∃ d, owns (c : Thread nD τ) (ms0_45 t) fullShare d)
    ∗ (∃ d, owns (c : Thread nD τ) (ms0_46 t) fullShare d)
    ∗ (∃ d, owns (c : Thread nD τ) (ms0_47 t) fullShare d)
    ∗ (∃ d, owns (c : Thread nD τ) (ms0_48 t) fullShare d)
    ∗ (∃ d, owns (c : Thread nD τ) (ms0_49 t) fullShare d))

set_option maxHeartbeats 4000000 in
/-- The body's triple at point `t`, from scratch contents `p` that start the body at `q`. -/
theorem sound_of (c : Dev nD) (t : Fin cfg0.N) (p q : Carry F) (hq : start (grid0.coords t) (insAt m c t) p = q)
    (ho : outsAt m c t.val t.isLt = leftAt m c t q)
    (h35 : ∀ y, owns (c : Thread nD τ) (ms0_35 t) fullShare (O35 (grid0.coords t) (insAt m c t) q ((dats m 0 c).before 35 t y)) ⊢ (dats m 0 c).leavesExact 35 t)
    (h36 : ∀ y, owns (c : Thread nD τ) (ms0_36 t) fullShare (O36 (grid0.coords t) (insAt m c t) q ((dats m 0 c).before 36 t y)) ⊢ (dats m 0 c).leavesExact 36 t) :
    iprop(Held c p ∗ bodyRest m c t) ⊢ wp frame (wpE (defs₀ (F := F)) Variants.none c none) Set.univ (bodyAt0 t) (fun _ => bodyPost m c t) := by
  unfold bodyRest bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33, leaves0_0, leaves0_1, leaves0_2, leaves0_3, leaves0_4, leaves0_5, leaves0_6, leaves0_7, leaves0_8, leaves0_9, leaves0_10, leaves0_11, leaves0_12, leaves0_13, leaves0_14, leaves0_15, leaves0_16, leaves0_17, leaves0_18, leaves0_19, leaves0_20, leaves0_21, leaves0_22, leaves0_23, leaves0_24, leaves0_25, leaves0_26, leaves0_27, leaves0_28, leaves0_29, leaves0_30, leaves0_31, leaves0_32, leaves0_33, leaves0_34]
  rw [show (dats m 0 c).owesAt () t.succ = (dats m 0 c).owesAt () t.castSucc from rfl]
  rw [show (dats m 0 c).Φ t.succ = Held c (outsAt m c t.val t.isLt).toCarry from rfl, ho]
  unfold Held leftAt; dsimp only
  iintro ⟨⟨⟨HS0, HS1, HS2, HS3, HS4, HS5, HS6, HS7, HS8, ⟨%d, HS9⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩⟩
  iapply (wp_body c (grid0.coords t) (bufsAt t) (insAt m c t) p q hq ((dats m 0 c).before 34 t d34) ((dats m 0 c).before 35 t d35) ((dats m 0 c).before 36 t d36) d37 d38 d39 d40 d41 d42 d43 d44 d45 d46 d47 d48 d49 d)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, HS0, HS1, HS2, HS3, HS4, HS5, HS6, HS7, HS8, HS9⟩
  isplitl [HS0 HS1 HS2 HS3 HS4 HS5 HS6 HS7 HS8 HS9 Hg]
  · isplitl [HS0 HS1 HS2 HS3 HS4 HS5 HS6 HS7 HS8 HS9]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iexact HS9
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · rw [O34_indep (grid0.coords t) (insAt m c t) q ((dats m 0 c).before 34 t d34) (fun _ => Scalar.ofBits .f32 0)]; iexact H34
  isplitl [H35]; · iapply (h35 d35); iexact H35
  isplitl [H36]; · iapply (h36 d36); iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  iexact H49

theorem idle_35 (c : Dev nD) (t : Fin cfg0.N) (q : Carry F) (h9 : t.val ≠ 9) (y) :
    owns (c : Thread nD τ) (ms0_35 t) fullShare (O35 (grid0.coords t) (insAt m c t) q ((dats m 0 c).before 35 t y)) ⊢ (dats m 0 c).leavesExact 35 t := by
  have hN : t.val < 10 := lt_of_lt_of_eq t.isLt (show cfg0.N = 10 from N_0)
  have e : (dats m 0 c).leavesExact 35 t = iprop(∃ d, owns (c : Thread nD τ) (ms0_35 t) fullShare ((dats m 0 c).before 35 t d)) := by
    by_cases h : t.val = 0
    · exact Dat.leavesExact_idle (dats m 0 c) 35 t (idleAt0_35_A t ((hcond0_0 t).mpr (by omega)) ((hcond0_1 t).mpr (by omega)) (fun h' => by have := (hcond0_2 t).mp h'; omega)) (noFlush0_35_A t ((hcond0_0 t).mpr (by omega)) ((hcond0_1 t).mpr (by omega)) (fun h' => by have := (hcond0_2 t).mp h'; omega))
    · exact Dat.leavesExact_idle (dats m 0 c) 35 t (idleAt0_35_B t (fun h' => by have := (hcond0_0 t).mp h'; have := t.isLt; have : cfg0.N = 10 := N_0; omega) (fun h' => by have := (hcond0_1 t).mp h'; have := t.isLt; have : cfg0.N = 10 := N_0; omega) (fun h' => by have := (hcond0_2 t).mp h'; omega)) (noFlush0_35_B t (fun h' => by have := (hcond0_0 t).mp h'; have := t.isLt; have : cfg0.N = 10 := N_0; omega) (fun h' => by have := (hcond0_1 t).mp h'; have := t.isLt; have : cfg0.N = 10 := N_0; omega) (fun h' => by have := (hcond0_2 t).mp h'; omega))
  rw [e, show O35 (grid0.coords t) (insAt m c t) q ((dats m 0 c).before 35 t y) = (dats m 0 c).before 35 t y from
    if_neg fun h' => h9 (by have := (hcond0_2 t).mp h'; omega)]
  iintro H; iexists _; iexact H

theorem last_35 (c : Dev nD) (t : Fin cfg0.N) (q : Carry F) (h : t.val = 9) (ho : outsAt m c t.val t.isLt = leftAt m c t q) (y) :
    owns (c : Thread nD τ) (ms0_35 t) fullShare (O35 (grid0.coords t) (insAt m c t) q ((dats m 0 c).before 35 t y)) ⊢ (dats m 0 c).leavesExact 35 t := by
  rw [show (dats m 0 c).leavesExact 35 t = owns (c : Thread nD τ) (ms0_35 t) fullShare ((dats m 0 c).after 35 t) from by
    unfold Dat.leavesExact; rw [liveAt0_35_C t (fun h' => by have := (hcond0_0 t).mp h'; omega) (fun h' => by have := (hcond0_1 t).mp h'; omega) ((hcond0_2 t).mpr (by omega))], after0_35, ho,
    show O35 (grid0.coords t) (insAt m c t) q ((dats m 0 c).before 35 t y) = F35 (grid0.coords t) (insAt m c t) q ((dats m 0 c).before 35 t y) from
      if_pos ((hcond0_2 t).mpr (by omega)), F35_indep _ _ _ _ (fun _ => Scalar.ofBits .f32 0)]
  exact Idealize.SL.BI.Entails.refl _

theorem idle_36 (c : Dev nD) (t : Fin cfg0.N) (q : Carry F) (h9 : t.val ≠ 9) (y) :
    owns (c : Thread nD τ) (ms0_36 t) fullShare (O36 (grid0.coords t) (insAt m c t) q ((dats m 0 c).before 36 t y)) ⊢ (dats m 0 c).leavesExact 36 t := by
  have hN : t.val < 10 := lt_of_lt_of_eq t.isLt (show cfg0.N = 10 from N_0)
  have e : (dats m 0 c).leavesExact 36 t = iprop(∃ d, owns (c : Thread nD τ) (ms0_36 t) fullShare ((dats m 0 c).before 36 t d)) := by
    by_cases h : t.val = 0
    · exact Dat.leavesExact_idle (dats m 0 c) 36 t (idleAt0_36_A t ((hcond0_0 t).mpr (by omega)) ((hcond0_1 t).mpr (by omega)) (fun h' => by have := (hcond0_2 t).mp h'; omega)) (noFlush0_36_A t ((hcond0_0 t).mpr (by omega)) ((hcond0_1 t).mpr (by omega)) (fun h' => by have := (hcond0_2 t).mp h'; omega))
    · exact Dat.leavesExact_idle (dats m 0 c) 36 t (idleAt0_36_B t (fun h' => by have := (hcond0_0 t).mp h'; have := t.isLt; have : cfg0.N = 10 := N_0; omega) (fun h' => by have := (hcond0_1 t).mp h'; have := t.isLt; have : cfg0.N = 10 := N_0; omega) (fun h' => by have := (hcond0_2 t).mp h'; omega)) (noFlush0_36_B t (fun h' => by have := (hcond0_0 t).mp h'; have := t.isLt; have : cfg0.N = 10 := N_0; omega) (fun h' => by have := (hcond0_1 t).mp h'; have := t.isLt; have : cfg0.N = 10 := N_0; omega) (fun h' => by have := (hcond0_2 t).mp h'; omega))
  rw [e, show O36 (grid0.coords t) (insAt m c t) q ((dats m 0 c).before 36 t y) = (dats m 0 c).before 36 t y from
    if_neg fun h' => h9 (by have := (hcond0_2 t).mp h'; omega)]
  iintro H; iexists _; iexact H

theorem last_36 (c : Dev nD) (t : Fin cfg0.N) (q : Carry F) (h : t.val = 9) (ho : outsAt m c t.val t.isLt = leftAt m c t q) (y) :
    owns (c : Thread nD τ) (ms0_36 t) fullShare (O36 (grid0.coords t) (insAt m c t) q ((dats m 0 c).before 36 t y)) ⊢ (dats m 0 c).leavesExact 36 t := by
  rw [show (dats m 0 c).leavesExact 36 t = owns (c : Thread nD τ) (ms0_36 t) fullShare ((dats m 0 c).after 36 t) from by
    unfold Dat.leavesExact; rw [liveAt0_36_C t (fun h' => by have := (hcond0_0 t).mp h'; omega) (fun h' => by have := (hcond0_1 t).mp h'; omega) ((hcond0_2 t).mpr (by omega))], after0_36, ho,
    show O36 (grid0.coords t) (insAt m c t) q ((dats m 0 c).before 36 t y) = F36 (grid0.coords t) (insAt m c t) q ((dats m 0 c).before 36 t y) from
      if_pos ((hcond0_2 t).mpr (by omega)), F36_indep _ _ _ _ (fun _ => Scalar.ofBits .f32 0)]
  exact Idealize.SL.BI.Entails.refl _

/-- The body obligation's triple at every point. -/
theorem sound_body (c : Dev nD) (t : Fin cfg0.N) :
    bodyPre m c t ⊢ wp frame (wpE (defs₀ (F := F)) Variants.none c none) Set.univ (bodyAt0 t) (fun _ => bodyPost m c t) := by
  have hN : t.val < 10 := lt_of_lt_of_eq t.isLt (show cfg0.N = 10 from N_0)
  rw [show bodyPre m c t = iprop((dats m 0 c).Φ t.castSucc ∗ bodyRest m c t) from rfl]
  by_cases h : t.val = 0
  · rw [PhiS_castSucc m c t, PhiS_zero m c _ _ h, PhiA0_eq]
    iintro ⟨⟨⟨⟨%p0, HS0⟩, ⟨%p1, HS1⟩, ⟨%p2, HS2⟩, ⟨%p3, HS3⟩, ⟨%p4, HS4⟩, ⟨%p5, HS5⟩, ⟨%p6, HS6⟩, ⟨%p7, HS7⟩, ⟨%p8, HS8⟩, HS9⟩, Hg⟩, HR⟩
    iapply (sound_of m c t ⟨p0, p1, p2, p3, p4, p5, p6, p7, p8⟩ (init (insAt m c t)) (if_pos ((hcond0_0 t).mpr (by omega))) (outsAt_zero m c t h)
      (idle_35 m c t _ (by omega)) (idle_36 m c t _ (by omega)))
    unfold Held; dsimp only
    isplitr [HR]
    · isplitr [Hg]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        iexact HS9
      iexact Hg
    iexact HR
  · rw [PhiS_castSucc m c t, PhiS_pos m c _ _ h]
    have ho := outsAt_pos m c t h
    have hq : start (grid0.coords t) (insAt m c t) (outsAt m c (t.val - 1) (by omega)).toCarry = (outsAt m c (t.val - 1) (by omega)).toCarry :=
      if_neg fun h' => h (by have := (hcond0_0 t).mp h'; omega)
    by_cases h9 : t.val = 9
    · exact sound_of m c t _ _ hq ho (last_35 m c t _ h9 ho) (last_36 m c t _ h9 ho)
    · exact sound_of m c t _ _ hq ho (idle_35 m c t _ h9) (idle_36 m c t _ h9)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  unfold Held
  iintro ⟨⟨HS0, HS1, HS2, HS3, HS4, HS5, HS6, HS7, HS8, HS9⟩, Hg⟩
  isplitl [HS0 HS1 HS2 HS3 HS4 HS5 HS6 HS7 HS8 HS9]
  · isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    isplitl [HS5]
    · iexists _; iexact HS5
    isplitl [HS6]
    · iexists _; iexact HS6
    isplitl [HS7]
    · iexists _; iexact HS7
    isplitl [HS8]
    · iexists _; iexact HS8
    iexact HS9
  iexact Hg

/-- The same after the last point. -/
theorem hout (c : Dev nD) : (dats m 0 c).Φ (Fin.last cfg0.N) ⊢ Pipeline.ΦA spec0 c :=
  Phi_out m c _ (by rw [Fin.val_last]; have : cfg0.N = 10 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 37, 38, 39, 40, 41, 42, 43, 44, 45, 46, 47, 48, 49) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

end Cert.KernelIdeal.Named

end
-- ==== Proof.Framed.lean ====
/- The frame: every argument array ends unchanged and every counter at zero. -/
module

public import proofs.«01_k».proof.Proof.Named

public import Idealize.ShloMosaic.Lib.Claim

@[expose] public section

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3000000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)) :=
  (θ_run defs _ _).mono (fun _ h c => ⟨(Pipeline.RDat.FramePost.arr_in h c 1 rfl).trans ((hA c 1).trans (V_main_arg0 m c)),
      (Pipeline.RDat.FramePost.arr_in h c 2 rfl).trans ((hA c 2).trans (V_main_arg1 m c)),
      ((h c).2 main_arg2 (Pipeline.mem_restRefs_of main_arg2 (by decide) (by decide))).trans (V_main_arg2 m c),
      (Pipeline.RDat.FramePost.arr_in h c 33 rfl).trans ((hA c 33).trans (V_main_arg3 m c)),
      ((h c).2 main_arg4 (Pipeline.mem_restRefs_of main_arg4 (by decide) (by decide))).trans (V_main_arg4 m c),
      (Pipeline.RDat.FramePost.arr_in h c 5 rfl).trans ((hA c 5).trans (V_main_arg5 m c)),
      ((h c).2 main_arg6 (Pipeline.mem_restRefs_of main_arg6 (by decide) (by decide))).trans (V_main_arg6 m c),
      (Pipeline.RDat.FramePost.arr_in h c 7 rfl).trans ((hA c 7).trans (V_main_arg7 m c)),
      ((h c).2 main_arg8 (Pipeline.mem_restRefs_of main_arg8 (by decide) (by decide))).trans (V_main_arg8 m c),
      (Pipeline.RDat.FramePost.arr_in h c 9 rfl).trans ((hA c 9).trans (V_main_arg9 m c)),
      (Pipeline.RDat.FramePost.arr_in h c 10 rfl).trans ((hA c 10).trans (V_main_arg10 m c)),
      ((h c).2 main_arg11 (Pipeline.mem_restRefs_of main_arg11 (by decide) (by decide))).trans (V_main_arg11 m c),
      (Pipeline.RDat.FramePost.arr_in h c 12 rfl).trans ((hA c 12).trans (V_main_arg12 m c)),
      ((h c).2 main_arg13 (Pipeline.mem_restRefs_of main_arg13 (by decide) (by decide))).trans (V_main_arg13 m c),
      (Pipeline.RDat.FramePost.arr_in h c 14 rfl).trans ((hA c 14).trans (V_main_arg14 m c)),
      (Pipeline.RDat.FramePost.arr_in h c 15 rfl).trans ((hA c 15).trans (V_main_arg15 m c)),
      ((h c).2 main_arg16 (Pipeline.mem_restRefs_of main_arg16 (by decide) (by decide))).trans (V_main_arg16 m c),
      (Pipeline.RDat.FramePost.arr_in h c 17 rfl).trans ((hA c 17).trans (V_main_arg17 m c)),
      ((h c).2 main_arg18 (Pipeline.mem_restRefs_of main_arg18 (by decide) (by decide))).trans (V_main_arg18 m c),
      (Pipeline.RDat.FramePost.arr_in h c 19 rfl).trans ((hA c 19).trans (V_main_arg19 m c)),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      (Pipeline.RDat.FramePost.arr_in h c 23 rfl).trans ((hA c 23).trans (V_main_arg23 m c)),
      ((h c).2 main_arg24 (Pipeline.mem_restRefs_of main_arg24 (by decide) (by decide))).trans (V_main_arg24 m c),
      (Pipeline.RDat.FramePost.arr_in h c 25 rfl).trans ((hA c 25).trans (V_main_arg25 m c)),
      ((h c).2 main_arg26 (Pipeline.mem_restRefs_of main_arg26 (by decide) (by decide))).trans (V_main_arg26 m c),
      ((h c).2 main_arg27 (Pipeline.mem_restRefs_of main_arg27 (by decide) (by decide))).trans (V_main_arg27 m c),
      ((h c).2 main_arg28 (Pipeline.mem_restRefs_of main_arg28 (by decide) (by decide))).trans (V_main_arg28 m c),
      ((h c).2 main_arg29 (Pipeline.mem_restRefs_of main_arg29 (by decide) (by decide))).trans (V_main_arg29 m c),
      ((h c).2 main_arg30 (Pipeline.mem_restRefs_of main_arg30 (by decide) (by decide))).trans (V_main_arg30 m c),
      (Pipeline.RDat.FramePost.arr_in h c 0 rfl).trans ((hA c 0).trans (V_main_arg31 m c)),
      (Pipeline.RDat.FramePost.arr_in h c 31 rfl).trans ((hA c 31).trans (V_main_arg32 m c)),
      (Pipeline.RDat.FramePost.arr_in h c 32 rfl).trans ((hA c 32).trans (V_main_arg33 m c))⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)) :=
  frame_of m ρ (fun c => (dats m 0 c).toRForget forgets0) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33))
      ∧ r.2.sem = fun _ => 0) :=
  θ_run_and (unchanged m ρ) ((θ_run defs _ _).mono (fun _ h => h.2) (run_main_quiescent m ρ))

end Cert.KernelIdeal.Named

end
-- ==== Proof.BitsBufs.lean ====
/- The operands of the kernel body as three records: the buffers it is called on (`Bufs`), the contents of its inputs (`Ins`), and what it
   carries from one grid point to the next in its scratch (`Carry`); the three conditions of the body; and the body over named payloads. -/
module

public import proofs.«01_k».proof.Proof.Gen.Kernel.Frame
public import proofs.«01_k».proof.Proof.Gen.Kernel.Skeleton

@[expose] public section

set_option maxRecDepth 16384

noncomputable section

namespace Cert.Kernel.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The buffers the body is called on: 34 inputs, 16 outputs, 10 scratch, each a whole buffer. -/
structure Bufs where
  m1 : Memref sig .tc .smem S2 .i32
  w1 : m1.IsWhole
  m2 : Memref sig .tc .vmem S2x50x32 .f32
  w2 : m2.IsWhole
  m3 : Memref sig .tc .vmem S2x32 .f32
  w3 : m3.IsWhole
  m4 : Memref sig .tc .vmem S20x1 .f32
  w4 : m4.IsWhole
  m5 : Memref sig .tc .vmem S1x512 .f32
  w5 : m5.IsWhole
  m6 : Memref sig .tc .vmem S32x1024 .f32
  w6 : m6.IsWhole
  m7 : Memref sig .tc .vmem S1x1024 .f32
  w7 : m7.IsWhole
  m8 : Memref sig .tc .vmem S32x1024 .f32
  w8 : m8.IsWhole
  m9 : Memref sig .tc .vmem S1x1024 .f32
  w9 : m9.IsWhole
  m10 : Memref sig .tc .vmem S1024x1024 .bf16
  w10 : m10.IsWhole
  m11 : Memref sig .tc .vmem S1024x1024 .bf16
  w11 : m11.IsWhole
  m12 : Memref sig .tc .vmem S1x1024 .f32
  w12 : m12.IsWhole
  m13 : Memref sig .tc .vmem S1024x1024 .bf16
  w13 : m13.IsWhole
  m14 : Memref sig .tc .vmem S1x1024 .f32
  w14 : m14.IsWhole
  m15 : Memref sig .tc .vmem S1x1024 .f32
  w15 : m15.IsWhole
  m16 : Memref sig .tc .vmem S1x1024 .f32
  w16 : m16.IsWhole
  m17 : Memref sig .tc .vmem S1024x2560 .fp8e4m3
  w17 : m17.IsWhole
  m18 : Memref sig .tc .vmem S1x2560 .f32
  w18 : m18.IsWhole
  m19 : Memref sig .tc .vmem S2048x1024 .fp8e4m3
  w19 : m19.IsWhole
  m20 : Memref sig .tc .vmem S1x1024 .f32
  w20 : m20.IsWhole
  m21 : Memref sig .tc .vmem S2x1024x4096 .fp8e4m3
  w21 : m21.IsWhole
  m22 : Memref sig .tc .vmem S2x4096 .f32
  w22 : m22.IsWhole
  m23 : Memref sig .tc .vmem S4096x1024 .fp8e4m3
  w23 : m23.IsWhole
  m24 : Memref sig .tc .vmem S1x1024 .f32
  w24 : m24.IsWhole
  m25 : Memref sig .tc .vmem S1x1024 .f32
  w25 : m25.IsWhole
  m26 : Memref sig .tc .vmem S1024x32 .f32
  w26 : m26.IsWhole
  m27 : Memref sig .tc .vmem S1x32 .f32
  w27 : m27.IsWhole
  m28 : Memref sig .tc .vmem S2x896x256 .i8
  w28 : m28.IsWhole
  m29 : Memref sig .tc .vmem S2x896x256 .i8
  w29 : m29.IsWhole
  m30 : Memref sig .tc .vmem S2x896 .f32
  w30 : m30.IsWhole
  m31 : Memref sig .tc .vmem S2x896 .f32
  w31 : m31.IsWhole
  m32 : Memref sig .tc .vmem S2x51x128 .f32
  w32 : m32.IsWhole
  m33 : Memref sig .tc .vmem S2x51x128 .f32
  w33 : m33.IsWhole
  m34 : Memref sig .tc .smem S2 .f32
  w34 : m34.IsWhole
  m35 : Memref sig .tc .vmem S1x2x50x32 .f32
  w35 : m35.IsWhole
  m36 : Memref sig .tc .vmem S2x50x32 .f32
  w36 : m36.IsWhole
  m37 : Memref sig .tc .vmem S2x51x1024 .f32
  w37 : m37.IsWhole
  m38 : Memref sig .tc .vmem S2x51x256 .bf16
  w38 : m38.IsWhole
  m39 : Memref sig .tc .vmem S2x51x256 .bf16
  w39 : m39.IsWhole
  m40 : Memref sig .tc .vmem S2x2048 .f32
  w40 : m40.IsWhole
  m41 : Memref sig .tc .vmem S2x50x2048 .bf16
  w41 : m41.IsWhole
  m42 : Memref sig .tc .vmem S2x51x1024 .fp8e4m3
  w42 : m42.IsWhole
  m43 : Memref sig .tc .vmem S2x51x1 .f32
  w43 : m43.IsWhole
  m44 : Memref sig .tc .vmem S2x51x2048 .fp8e4m3
  w44 : m44.IsWhole
  m45 : Memref sig .tc .vmem S2x51x1 .f32
  w45 : m45.IsWhole
  m46 : Memref sig .tc .vmem S2x51x1024 .fp8e4m3
  w46 : m46.IsWhole
  m47 : Memref sig .tc .vmem S2x51x1 .f32
  w47 : m47.IsWhole
  m48 : Memref sig .tc .vmem S2x51x4096 .fp8e4m3
  w48 : m48.IsWhole
  m49 : Memref sig .tc .vmem S2x51x1 .f32
  w49 : m49.IsWhole
  m50 : Memref sig .tc .vmem S1x2x51x2048 .bf16
  w50 : m50.IsWhole
  m51 : Memref sig .tc .vmem S112x32 .f32
  w51 : m51.IsWhole
  m52 : Memref sig .tc .vmem S2x1024 .f32
  w52 : m52.IsWhole
  m53 : Memref sig .tc .vmem S20x1024 .f32
  w53 : m53.IsWhole
  m54 : Memref sig .tc .vmem S112x128 .f32
  w54 : m54.IsWhole
  m55 : Memref sig .tc .vmem S112x128 .f32
  w55 : m55.IsWhole
  m56 : Memref sig .tc .vmem S2x1024x256 .bf16
  w56 : m56.IsWhole
  m57 : Memref sig .tc .vmem S2x1024x256 .bf16
  w57 : m57.IsWhole
  m58 : Memref sig .tc .vmem S2x1024 .f32
  w58 : m58.IsWhole
  m59 : Memref sig .tc .vmem S2x1024 .f32
  w59 : m59.IsWhole
  m60 : Memref sig .tc .vmem S112x2048 .f32
  w60 : m60.IsWhole

/-- The contents of the 34 inputs. -/
structure Ins (F : FTy → Type) where
  x0 : Vec F S2 .i32
  x1 : Vec F S2x50x32 .f32
  x2 : Vec F S2x32 .f32
  x3 : Vec F S20x1 .f32
  x4 : Vec F S1x512 .f32
  x5 : Vec F S32x1024 .f32
  x6 : Vec F S1x1024 .f32
  x7 : Vec F S32x1024 .f32
  x8 : Vec F S1x1024 .f32
  x9 : Vec F S1024x1024 .bf16
  x10 : Vec F S1024x1024 .bf16
  x11 : Vec F S1x1024 .f32
  x12 : Vec F S1024x1024 .bf16
  x13 : Vec F S1x1024 .f32
  x14 : Vec F S1x1024 .f32
  x15 : Vec F S1x1024 .f32
  x16 : Vec F S1024x2560 .fp8e4m3
  x17 : Vec F S1x2560 .f32
  x18 : Vec F S2048x1024 .fp8e4m3
  x19 : Vec F S1x1024 .f32
  x20 : Vec F S2x1024x4096 .fp8e4m3
  x21 : Vec F S2x4096 .f32
  x22 : Vec F S4096x1024 .fp8e4m3
  x23 : Vec F S1x1024 .f32
  x24 : Vec F S1x1024 .f32
  x25 : Vec F S1024x32 .f32
  x26 : Vec F S1x32 .f32
  x27 : Vec F S2x896x256 .i8
  x28 : Vec F S2x896x256 .i8
  x29 : Vec F S2x896 .f32
  x30 : Vec F S2x896 .f32
  x31 : Vec F S2x51x128 .f32
  x32 : Vec F S2x51x128 .f32
  x33 : Vec F S2 .f32

/-- What the scratch holds between two grid points: the padded state, the state embedding, the time table, cosine and sine, the keys, the
    values, and the scales of both. (The tenth scratch buffer is not carried.) -/
structure Carry (F : FTy → Type) where
  s0 : Vec F S112x32 .f32
  s1 : Vec F S2x1024 .f32
  s2 : Vec F S20x1024 .f32
  s3 : Vec F S112x128 .f32
  s4 : Vec F S112x128 .f32
  s5 : Vec F S2x1024x256 .bf16
  s6 : Vec F S2x1024x256 .bf16
  s7 : Vec F S2x1024 .f32
  s8 : Vec F S2x1024 .f32

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [cond0_0, e0]
    word_cmp
   : ∀ t : Fin grid0.N, cond0_0 (grid0.coords t) ↔ t.val % 10 = 0)

/-- The condition of the body's `scf.if` 1 (`k0_h2`), from the grid coordinates (the skeleton's scalar
    chain substituted). -/
abbrev cond0_1 (i : grid0.Coords) : Prop := k0_cond2 i = 1#1
/-- It holds at the first point only — by arithmetic of the point. -/
theorem hcond0_1 : ∀ t : Fin cfg0.N, cond0_1 (grid0.coords t) ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [cond0_1, k0_cond2, e0]
    word_cmp
   : ∀ t : Fin grid0.N, cond0_1 (grid0.coords t) ↔ t.val % 10 = 0)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 10 = 9 :=
  (fun t => by
    have ht : t.val < 10 := Nat.lt_of_lt_of_eq t.isLt N_0
    have e0 : (grid0.coords t 0).val = t.val / 1 % 10 := Pipeline.Grid.coords_val t 0 (by decide) rfl
    simp only [cond0_2, k0_cond3, e0]
    word_cmp
   : ∀ t : Fin grid0.N, cond0_2 (grid0.coords t) ↔ t.val % 10 = 9)

/-- The body on a record of buffers. -/
def body (i : grid0.Coords) (a : Bufs) :=
  cc0_euler10 (F := F) i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60

/-- The body is one over its named payloads: this settles, once, the rewriting of every part by its skeleton. -/
theorem body_skeleton (i : grid0.Coords) (a : Bufs) : ∃ p, body (F := F) i a = p := by
  unfold body
  simp only [cc0_euler10_eq_skeleton]; unfold cc0_euler10_skel
  simp only [k0_part23_eq_skeleton, k0_part8_eq_skeleton, k0_part1_eq_skeleton, k0_part2_eq_skeleton, k0_part3_eq_skeleton, k0_part4_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part5_eq_skeleton, k0_part6_eq_skeleton, k0_part7_eq_skeleton]
  exact ⟨_, rfl⟩

end Cert.Kernel.Named

end
-- ==== Proof.BitsTables.lean ====
/- The staging buffers and scratch the body is called on at a grid point, and where the outputs are idle. -/
module

public import proofs.«01_k».proof.Proof.BitsBufs

@[expose] public section

set_option maxRecDepth 16384

noncomputable section

namespace Cert.Kernel.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## Where the windows are idle (the printed configuration's table `Cfg.idle`) -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
theorem liveAt0_14 : ∀ t : Fin cfg0.N, cfg0.idle 14 (grid0.coords t) = false := fun _ => rfl
theorem liveAt0_15 : ∀ t : Fin cfg0.N, cfg0.idle 15 (grid0.coords t) = false := fun _ => rfl
theorem liveAt0_16 : ∀ t : Fin cfg0.N, cfg0.idle 16 (grid0.coords t) = false := fun _ => rfl
theorem liveAt0_17 : ∀ t : Fin cfg0.N, cfg0.idle 17 (grid0.coords t) = false := fun _ => rfl
theorem liveAt0_18 : ∀ t : Fin cfg0.N, cfg0.idle 18 (grid0.coords t) = false := fun _ => rfl
theorem liveAt0_19 : ∀ t : Fin cfg0.N, cfg0.idle 19 (grid0.coords t) = false := fun _ => rfl
theorem liveAt0_20 : ∀ t : Fin cfg0.N, cfg0.idle 20 (grid0.coords t) = false := fun _ => rfl
theorem liveAt0_21 : ∀ t : Fin cfg0.N, cfg0.idle 21 (grid0.coords t) = false := fun _ => rfl
theorem liveAt0_22 : ∀ t : Fin cfg0.N, cfg0.idle 22 (grid0.coords t) = false := fun _ => rfl
theorem liveAt0_23 : ∀ t : Fin cfg0.N, cfg0.idle 23 (grid0.coords t) = false := fun _ => rfl
theorem liveAt0_24 : ∀ t : Fin cfg0.N, cfg0.idle 24 (grid0.coords t) = false := fun _ => rfl
theorem liveAt0_25 : ∀ t : Fin cfg0.N, cfg0.idle 25 (grid0.coords t) = false := fun _ => rfl
theorem liveAt0_26 : ∀ t : Fin cfg0.N, cfg0.idle 26 (grid0.coords t) = false := fun _ => rfl
theorem liveAt0_27 : ∀ t : Fin cfg0.N, cfg0.idle 27 (grid0.coords t) = false := fun _ => rfl
theorem liveAt0_28 : ∀ t : Fin cfg0.N, cfg0.idle 28 (grid0.coords t) = false := fun _ => rfl
theorem liveAt0_29 : ∀ t : Fin cfg0.N, cfg0.idle 29 (grid0.coords t) = false := fun _ => rfl
theorem liveAt0_30 : ∀ t : Fin cfg0.N, cfg0.idle 30 (grid0.coords t) = false := fun _ => rfl
theorem liveAt0_31 : ∀ t : Fin cfg0.N, cfg0.idle 31 (grid0.coords t) = false := fun _ => rfl
theorem liveAt0_32 : ∀ t : Fin cfg0.N, cfg0.idle 32 (grid0.coords t) = false := fun _ => rfl
theorem liveAt0_33 : ∀ t : Fin cfg0.N, cfg0.idle 33 (grid0.coords t) = false := fun _ => rfl
/-- Window 34 is never idle (an output stored at every point, under no condition). -/
theorem liveAt0_34 : ∀ t : Fin cfg0.N, cfg0.idle 34 (grid0.coords t) = false := fun _ => rfl
theorem idleAt0_35_A : ∀ t : Fin cfg0.N, cond0_0 (grid0.coords t) → cond0_1 (grid0.coords t) → ¬cond0_2 (grid0.coords t) → cfg0.idle 35 (grid0.coords t) = true := by decide +kernel
theorem noFlush0_35_A : ∀ t : Fin cfg0.N, cond0_0 (grid0.coords t) → cond0_1 (grid0.coords t) → ¬cond0_2 (grid0.coords t) → (cfg0.win 35).flush t = false := by decide +kernel
theorem idleAt0_35_B : ∀ t : Fin cfg0.N, ¬cond0_0 (grid0.coords t) → ¬cond0_1 (grid0.coords t) → ¬cond0_2 (grid0.coords t) → cfg0.idle 35 (grid0.coords t) = true := by decide +kernel
theorem noFlush0_35_B : ∀ t : Fin cfg0.N, ¬cond0_0 (grid0.coords t) → ¬cond0_1 (grid0.coords t) → ¬cond0_2 (grid0.coords t) → (cfg0.win 35).flush t = false := by decide +kernel
theorem liveAt0_35_C : ∀ t : Fin cfg0.N, ¬cond0_0 (grid0.coords t) → ¬cond0_1 (grid0.coords t) → cond0_2 (grid0.coords t) → cfg0.idle 35 (grid0.coords t) = false := by decide +kernel
theorem idleAt0_36_A : ∀ t : Fin cfg0.N, cond0_0 (grid0.coords t) → cond0_1 (grid0.coords t) → ¬cond0_2 (grid0.coords t) → cfg0.idle 36 (grid0.coords t) = true := by decide +kernel
theorem noFlush0_36_A : ∀ t : Fin cfg0.N, cond0_0 (grid0.coords t) → cond0_1 (grid0.coords t) → ¬cond0_2 (grid0.coords t) → (cfg0.win 36).flush t = false := by decide +kernel
theorem idleAt0_36_B : ∀ t : Fin cfg0.N, ¬cond0_0 (grid0.coords t) → ¬cond0_1 (grid0.coords t) → ¬cond0_2 (grid0.coords t) → cfg0.idle 36 (grid0.coords t) = true := by decide +kernel
theorem noFlush0_36_B : ∀ t : Fin cfg0.N, ¬cond0_0 (grid0.coords t) → ¬cond0_1 (grid0.coords t) → ¬cond0_2 (grid0.coords t) → (cfg0.win 36).flush t = false := by decide +kernel
theorem liveAt0_36_C : ∀ t : Fin cfg0.N, ¬cond0_0 (grid0.coords t) → ¬cond0_1 (grid0.coords t) → cond0_2 (grid0.coords t) → cfg0.idle 36 (grid0.coords t) = false := by decide +kernel

/-! ## The kernel body on any staging memrefs: a subtype the run finds -/

abbrev VO0_34 : View sig .tc .vmem S1x2x50x32 .f32 := (Memref.whole cc0_stg34_0 : Memref sig .tc .vmem S1x2x50x32 .f32).view
abbrev VO0_35 : View sig .tc .vmem S2x50x32 .f32 := (Memref.whole cc0_stg35_0 : Memref sig .tc .vmem S2x50x32 .f32).view
abbrev VO0_36 : View sig .tc .vmem S2x51x1024 .f32 := (Memref.whole cc0_stg36_0 : Memref sig .tc .vmem S2x51x1024 .f32).view
/-- Each window's current staging memref at point `t`, spelled as the pipeline passes it (`bodyAt0`), and its wholeness. -/
abbrev ms0_0 (t : Fin cfg0.N) : Memref sig .tc .smem S2 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x50x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S20x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S32x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1024x1024 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1024 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x1024 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1024x2560 .fp8e4m3 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x2560 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S2048x1024 .fp8e4m3 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x1024 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S2x1024x4096 .fp8e4m3 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S2x4096 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S4096x1024 .fp8e4m3 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S1x1024 .f32 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S1x1024 .f32 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .vmem S1024x32 .f32 := win0_25.stage (cfg0.slots t 25)
abbrev hs0_25 (t : Fin cfg0.N) : (ms0_25 t).IsWhole := hstage0_25 ((cfg0.slots t 25).cast nbuf0_25)
abbrev ms0_26 (t : Fin cfg0.N) : Memref sig .tc .vmem S1x32 .f32 := win0_26.stage (cfg0.slots t 26)
abbrev hs0_26 (t : Fin cfg0.N) : (ms0_26 t).IsWhole := hstage0_26 ((cfg0.slots t 26).cast nbuf0_26)
abbrev ms0_27 (t : Fin cfg0.N) : Memref sig .tc .vmem S2x896x256 .i8 := win0_27.stage (cfg0.slots t 27)
abbrev hs0_27 (t : Fin cfg0.N) : (ms0_27 t).IsWhole := hstage0_27 ((cfg0.slots t 27).cast nbuf0_27)
abbrev ms0_28 (t : Fin cfg0.N) : Memref sig .tc .vmem S2x896x256 .i8 := win0_28.stage (cfg0.slots t 28)
abbrev hs0_28 (t : Fin cfg0.N) : (ms0_28 t).IsWhole := hstage0_28 ((cfg0.slots t 28).cast nbuf0_28)
abbrev ms0_29 (t : Fin cfg0.N) : Memref sig .tc .vmem S2x896 .f32 := win0_29.stage (cfg0.slots t 29)
abbrev hs0_29 (t : Fin cfg0.N) : (ms0_29 t).IsWhole := hstage0_29 ((cfg0.slots t 29).cast nbuf0_29)
abbrev ms0_30 (t : Fin cfg0.N) : Memref sig .tc .vmem S2x896 .f32 := win0_30.stage (cfg0.slots t 30)
abbrev hs0_30 (t : Fin cfg0.N) : (ms0_30 t).IsWhole := hstage0_30 ((cfg0.slots t 30).cast nbuf0_30)
abbrev ms0_31 (t : Fin cfg0.N) : Memref sig .tc .vmem S2x51x128 .f32 := win0_31.stage (cfg0.slots t 31)
abbrev hs0_31 (t : Fin cfg0.N) : (ms0_31 t).IsWhole := hstage0_31 ((cfg0.slots t 31).cast nbuf0_31)
abbrev ms0_32 (t : Fin cfg0.N) : Memref sig .tc .vmem S2x51x128 .f32 := win0_32.stage (cfg0.slots t 32)
abbrev hs0_32 (t : Fin cfg0.N) : (ms0_32 t).IsWhole := hstage0_32 ((cfg0.slots t 32).cast nbuf0_32)
abbrev ms0_33 (t : Fin cfg0.N) : Memref sig .tc .smem S2 .f32 := win0_33.stage (cfg0.slots t 33)
abbrev hs0_33 (t : Fin cfg0.N) : (ms0_33 t).IsWhole := hstage0_33 ((cfg0.slots t 33).cast nbuf0_33)
abbrev ms0_34 (t : Fin cfg0.N) : Memref sig .tc .vmem S1x2x50x32 .f32 := win0_34.stage (cfg0.slots t 34)
abbrev hs0_34 (t : Fin cfg0.N) : (ms0_34 t).IsWhole := hstage0_34 ((cfg0.slots t 34).cast nbuf0_34)
abbrev ms0_35 (t : Fin cfg0.N) : Memref sig .tc .vmem S2x50x32 .f32 := win0_35.stage (cfg0.slots t 35)
abbrev hs0_35 (t : Fin cfg0.N) : (ms0_35 t).IsWhole := hstage0_35 ((cfg0.slots t 35).cast nbuf0_35)
abbrev ms0_36 (t : Fin cfg0.N) : Memref sig .tc .vmem S2x51x1024 .f32 := win0_36.stage (cfg0.slots t 36)
abbrev hs0_36 (t : Fin cfg0.N) : (ms0_36 t).IsWhole := hstage0_36 ((cfg0.slots t 36).cast nbuf0_36)
abbrev ms0_37 (t : Fin cfg0.N) : Memref sig .tc .vmem S2x51x256 .bf16 := win0_37.stage (cfg0.slots t 37)
abbrev hs0_37 (t : Fin cfg0.N) : (ms0_37 t).IsWhole := hstage0_37 ((cfg0.slots t 37).cast nbuf0_37)
abbrev ms0_38 (t : Fin cfg0.N) : Memref sig .tc .vmem S2x51x256 .bf16 := win0_38.stage (cfg0.slots t 38)
abbrev hs0_38 (t : Fin cfg0.N) : (ms0_38 t).IsWhole := hstage0_38 ((cfg0.slots t 38).cast nbuf0_38)
abbrev ms0_39 (t : Fin cfg0.N) : Memref sig .tc .vmem S2x2048 .f32 := win0_39.stage (cfg0.slots t 39)
abbrev hs0_39 (t : Fin cfg0.N) : (ms0_39 t).IsWhole := hstage0_39 ((cfg0.slots t 39).cast nbuf0_39)
abbrev ms0_40 (t : Fin cfg0.N) : Memref sig .tc .vmem S2x50x2048 .bf16 := win0_40.stage (cfg0.slots t 40)
abbrev hs0_40 (t : Fin cfg0.N) : (ms0_40 t).IsWhole := hstage0_40 ((cfg0.slots t 40).cast nbuf0_40)
abbrev ms0_41 (t : Fin cfg0.N) : Memref sig .tc .vmem S2x51x1024 .fp8e4m3 := win0_41.stage (cfg0.slots t 41)
abbrev hs0_41 (t : Fin cfg0.N) : (ms0_41 t).IsWhole := hstage0_41 ((cfg0.slots t 41).cast nbuf0_41)
abbrev ms0_42 (t : Fin cfg0.N) : Memref sig .tc .vmem S2x51x1 .f32 := win0_42.stage (cfg0.slots t 42)
abbrev hs0_42 (t : Fin cfg0.N) : (ms0_42 t).IsWhole := hstage0_42 ((cfg0.slots t 42).cast nbuf0_42)
abbrev ms0_43 (t : Fin cfg0.N) : Memref sig .tc .vmem S2x51x2048 .fp8e4m3 := win0_43.stage (cfg0.slots t 43)
abbrev hs0_43 (t : Fin cfg0.N) : (ms0_43 t).IsWhole := hstage0_43 ((cfg0.slots t 43).cast nbuf0_43)
abbrev ms0_44 (t : Fin cfg0.N) : Memref sig .tc .vmem S2x51x1 .f32 := win0_44.stage (cfg0.slots t 44)
abbrev hs0_44 (t : Fin cfg0.N) : (ms0_44 t).IsWhole := hstage0_44 ((cfg0.slots t 44).cast nbuf0_44)
abbrev ms0_45 (t : Fin cfg0.N) : Memref sig .tc .vmem S2x51x1024 .fp8e4m3 := win0_45.stage (cfg0.slots t 45)
abbrev hs0_45 (t : Fin cfg0.N) : (ms0_45 t).IsWhole := hstage0_45 ((cfg0.slots t 45).cast nbuf0_45)
abbrev ms0_46 (t : Fin cfg0.N) : Memref sig .tc .vmem S2x51x1 .f32 := win0_46.stage (cfg0.slots t 46)
abbrev hs0_46 (t : Fin cfg0.N) : (ms0_46 t).IsWhole := hstage0_46 ((cfg0.slots t 46).cast nbuf0_46)
abbrev ms0_47 (t : Fin cfg0.N) : Memref sig .tc .vmem S2x51x4096 .fp8e4m3 := win0_47.stage (cfg0.slots t 47)
abbrev hs0_47 (t : Fin cfg0.N) : (ms0_47 t).IsWhole := hstage0_47 ((cfg0.slots t 47).cast nbuf0_47)
abbrev ms0_48 (t : Fin cfg0.N) : Memref sig .tc .vmem S2x51x1 .f32 := win0_48.stage (cfg0.slots t 48)
abbrev hs0_48 (t : Fin cfg0.N) : (ms0_48 t).IsWhole := hstage0_48 ((cfg0.slots t 48).cast nbuf0_48)
abbrev ms0_49 (t : Fin cfg0.N) : Memref sig .tc .vmem S1x2x51x2048 .bf16 := win0_49.stage (cfg0.slots t 49)
abbrev hs0_49 (t : Fin cfg0.N) : (ms0_49 t).IsWhole := hstage0_49 ((cfg0.slots t 49).cast nbuf0_49)
/-- The scratch operands: whole scoped buffers of the kernel's own, passed beside the windows. -/
abbrev scM0_0 : Memref sig .tc .vmem S112x32 .f32 := Memref.whole cc0_scratch0
abbrev scM0_1 : Memref sig .tc .vmem S2x1024 .f32 := Memref.whole cc0_scratch1
abbrev scM0_2 : Memref sig .tc .vmem S20x1024 .f32 := Memref.whole cc0_scratch2
abbrev scM0_3 : Memref sig .tc .vmem S112x128 .f32 := Memref.whole cc0_scratch3
abbrev scM0_4 : Memref sig .tc .vmem S112x128 .f32 := Memref.whole cc0_scratch4
abbrev scM0_5 : Memref sig .tc .vmem S2x1024x256 .bf16 := Memref.whole cc0_scratch5
abbrev scM0_6 : Memref sig .tc .vmem S2x1024x256 .bf16 := Memref.whole cc0_scratch6
abbrev scM0_7 : Memref sig .tc .vmem S2x1024 .f32 := Memref.whole cc0_scratch7
abbrev scM0_8 : Memref sig .tc .vmem S2x1024 .f32 := Memref.whole cc0_scratch8
abbrev scM0_9 : Memref sig .tc .vmem S112x2048 .f32 := Memref.whole cc0_scratch9
abbrev VS0_0 : View sig .tc .vmem S112x32 .f32 := scM0_0.view
abbrev VS0_1 : View sig .tc .vmem S2x1024 .f32 := scM0_1.view
abbrev VS0_2 : View sig .tc .vmem S20x1024 .f32 := scM0_2.view
abbrev VS0_3 : View sig .tc .vmem S112x128 .f32 := scM0_3.view
abbrev VS0_4 : View sig .tc .vmem S112x128 .f32 := scM0_4.view
abbrev VS0_5 : View sig .tc .vmem S2x1024x256 .bf16 := scM0_5.view
abbrev VS0_6 : View sig .tc .vmem S2x1024x256 .bf16 := scM0_6.view
abbrev VS0_7 : View sig .tc .vmem S2x1024 .f32 := scM0_7.view
abbrev VS0_8 : View sig .tc .vmem S2x1024 .f32 := scM0_8.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := by
  unfold Pipeline.ΦA; rw [scopedRest0_eq]; simp only [scM0_0, scM0_1, scM0_2, scM0_3, scM0_4, scM0_5, scM0_6, scM0_7, scM0_8, scM0_9, owns_whole]; try rfl

/-- The buffers at point `t`. -/
abbrev bufsAt (t : Fin cfg0.N) : Bufs where
  m1 := ms0_0 t
  w1 := hs0_0 t
  m2 := ms0_1 t
  w2 := hs0_1 t
  m3 := ms0_2 t
  w3 := hs0_2 t
  m4 := ms0_3 t
  w4 := hs0_3 t
  m5 := ms0_4 t
  w5 := hs0_4 t
  m6 := ms0_5 t
  w6 := hs0_5 t
  m7 := ms0_6 t
  w7 := hs0_6 t
  m8 := ms0_7 t
  w8 := hs0_7 t
  m9 := ms0_8 t
  w9 := hs0_8 t
  m10 := ms0_9 t
  w10 := hs0_9 t
  m11 := ms0_10 t
  w11 := hs0_10 t
  m12 := ms0_11 t
  w12 := hs0_11 t
  m13 := ms0_12 t
  w13 := hs0_12 t
  m14 := ms0_13 t
  w14 := hs0_13 t
  m15 := ms0_14 t
  w15 := hs0_14 t
  m16 := ms0_15 t
  w16 := hs0_15 t
  m17 := ms0_16 t
  w17 := hs0_16 t
  m18 := ms0_17 t
  w18 := hs0_17 t
  m19 := ms0_18 t
  w19 := hs0_18 t
  m20 := ms0_19 t
  w20 := hs0_19 t
  m21 := ms0_20 t
  w21 := hs0_20 t
  m22 := ms0_21 t
  w22 := hs0_21 t
  m23 := ms0_22 t
  w23 := hs0_22 t
  m24 := ms0_23 t
  w24 := hs0_23 t
  m25 := ms0_24 t
  w25 := hs0_24 t
  m26 := ms0_25 t
  w26 := hs0_25 t
  m27 := ms0_26 t
  w27 := hs0_26 t
  m28 := ms0_27 t
  w28 := hs0_27 t
  m29 := ms0_28 t
  w29 := hs0_28 t
  m30 := ms0_29 t
  w30 := hs0_29 t
  m31 := ms0_30 t
  w31 := hs0_30 t
  m32 := ms0_31 t
  w32 := hs0_31 t
  m33 := ms0_32 t
  w33 := hs0_32 t
  m34 := ms0_33 t
  w34 := hs0_33 t
  m35 := ms0_34 t
  w35 := hs0_34 t
  m36 := ms0_35 t
  w36 := hs0_35 t
  m37 := ms0_36 t
  w37 := hs0_36 t
  m38 := ms0_37 t
  w38 := hs0_37 t
  m39 := ms0_38 t
  w39 := hs0_38 t
  m40 := ms0_39 t
  w40 := hs0_39 t
  m41 := ms0_40 t
  w41 := hs0_40 t
  m42 := ms0_41 t
  w42 := hs0_41 t
  m43 := ms0_42 t
  w43 := hs0_42 t
  m44 := ms0_43 t
  w44 := hs0_43 t
  m45 := ms0_44 t
  w45 := hs0_44 t
  m46 := ms0_45 t
  w46 := hs0_45 t
  m47 := ms0_46 t
  w47 := hs0_46 t
  m48 := ms0_47 t
  w48 := hs0_47 t
  m49 := ms0_48 t
  w49 := hs0_48 t
  m50 := ms0_49 t
  w50 := hs0_49 t
  m51 := scM0_0
  w51 := Memref.isWhole_whole _
  m52 := scM0_1
  w52 := Memref.isWhole_whole _
  m53 := scM0_2
  w53 := Memref.isWhole_whole _
  m54 := scM0_3
  w54 := Memref.isWhole_whole _
  m55 := scM0_4
  w55 := Memref.isWhole_whole _
  m56 := scM0_5
  w56 := Memref.isWhole_whole _
  m57 := scM0_6
  w57 := Memref.isWhole_whole _
  m58 := scM0_7
  w58 := Memref.isWhole_whole _
  m59 := scM0_8
  w59 := Memref.isWhole_whole _
  m60 := scM0_9
  w60 := Memref.isWhole_whole _

variable (m : (ℓ : Loc nD τ sig) → Buf (Elt F) ℓ)

/-- The inputs' contents at point `t`. -/
abbrev insAt (c : Dev nD) (t : Fin cfg0.N) : Ins F where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t
  x14 := iblk m c 14 t
  x15 := iblk m c 15 t
  x16 := iblk m c 16 t
  x17 := iblk m c 17 t
  x18 := iblk m c 18 t
  x19 := iblk m c 19 t
  x20 := iblk m c 20 t
  x21 := iblk m c 21 t
  x22 := iblk m c 22 t
  x23 := iblk m c 23 t
  x24 := iblk m c 24 t
  x25 := iblk m c 25 t
  x26 := iblk m c 26 t
  x27 := iblk m c 27 t
  x28 := iblk m c 28 t
  x29 := iblk m c 29 t
  x30 := iblk m c 30 t
  x31 := iblk m c 31 t
  x32 := iblk m c 32 t
  x33 := iblk m c 33 t

end Cert.Kernel.Named

end
-- ==== Proof.BitsPartsInit.lean ====
/- The parts of the body that run at the first grid point only and fill the scratch. -/
module

public import proofs.«01_k».proof.Proof.BitsBufs
public import Idealize.ShloMosaic.Lib.VecWindow

@[expose] public section

set_option maxRecDepth 16384

noncomputable section

namespace Cert.Kernel.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- Part 1 of the body: what it returns and what it leaves in the buffers it stores to. -/
theorem wp_part1 (c : Dev nD) (i : grid0.Coords) (a : Bufs)  (X51 : Vec F S112x32 .f32) (X54 : Vec F S112x128 .f32) (X55 : Vec F S112x128 .f32) (X56 : Vec F S2x1024x256 .bf16) (X57 : Vec F S2x1024x256 .bf16) (X58 : Vec F S2x1024 .f32) (X59 : Vec F S2x1024 .f32)
    (E : Set ℕ) (K : (PUnit) → sProp 𝕄) :
    iprop(owns (c : Thread nD τ) a.m51 fullShare X51 ∗ owns (c : Thread nD τ) a.m54 fullShare X54 ∗ owns (c : Thread nD τ) a.m55 fullShare X55 ∗ owns (c : Thread nD τ) a.m56 fullShare X56 ∗ owns (c : Thread nD τ) a.m57 fullShare X57 ∗ owns (c : Thread nD τ) a.m58 fullShare X58 ∗ owns (c : Thread nD τ) a.m59 fullShare X59 ∗
      (∀ (r : (PUnit)) (Y51 : Vec F S112x32 .f32) (Y54 : Vec F S112x128 .f32) (Y55 : Vec F S112x128 .f32) (Y56 : Vec F S2x1024x256 .bf16) (Y57 : Vec F S2x1024x256 .bf16) (Y58 : Vec F S2x1024 .f32) (Y59 : Vec F S2x1024 .f32), iprop(⌜r = PUnit.unit ∧ Y51 = (k0_pay5 (F := F)) ∧ Y54 = (k0_pay6 (F := F)) ∧ Y55 = (k0_pay7 (F := F)) ∧ Y56 = (k0_pay8 (F := F)) ∧ Y57 = (k0_pay9 (F := F)) ∧ Y58 = (k0_pay10 (F := F)) ∧ Y59 = (k0_pay11 (F := F))⌝ ∗ owns (c : Thread nD τ) a.m51 fullShare Y51 ∗ owns (c : Thread nD τ) a.m54 fullShare Y54 ∗ owns (c : Thread nD τ) a.m55 fullShare Y55 ∗ owns (c : Thread nD τ) a.m56 fullShare Y56 ∗ owns (c : Thread nD τ) a.m57 fullShare Y57 ∗ owns (c : Thread nD τ) a.m58 fullShare Y58 ∗ owns (c : Thread nD τ) a.m59 fullShare Y59) -∗ K r))
    ⊢ wp frame (wpE (defs₀ (F := F)) Variants.none c none) E (k0_part1 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 ) K := by
  rw [k0_part1_eq_skeleton]
  unfold k0_part1_skel owns
  iintro ⟨⟨%f51, %h51, H51⟩, ⟨%f54, %h54, H54⟩, ⟨%f55, %h55, H55⟩, ⟨%f56, %h56, H56⟩, ⟨%f57, %h57, H57⟩, ⟨%f58, %h58, H58⟩, ⟨%f59, %h59, H59⟩, Hk⟩
  subst h51 h54 h55 h56 h57 h58 h59
  sl_exec
  sl_step
  iapply Hk
  isplitr
  · ipureintro
    exact ⟨rfl, rfl, rfl, rfl, rfl, rfl, rfl, rfl⟩
  isplitl [H51]
  · iexists _; isplitr; swap; · iexact H51
    ipureintro; exact View.read_writes_full _ _ _ _ _
  isplitl [H54]
  · iexists _; isplitr; swap; · iexact H54
    ipureintro; exact View.read_writes_full _ _ _ _ _
  isplitl [H55]
  · iexists _; isplitr; swap; · iexact H55
    ipureintro; exact View.read_writes_full _ _ _ _ _
  isplitl [H56]
  · iexists _; isplitr; swap; · iexact H56
    ipureintro; exact View.read_writes_full _ _ _ _ _
  isplitl [H57]
  · iexists _; isplitr; swap; · iexact H57
    ipureintro; exact View.read_writes_full _ _ _ _ _
  isplitl [H58]
  · iexists _; isplitr; swap; · iexact H58
    ipureintro; exact View.read_writes_full _ _ _ _ _
  iexists _; isplitr; swap; · iexact H59
  ipureintro; exact View.read_writes_full _ _ _ _ _

/-- Part 2 of the body: what it returns and what it leaves in the buffers it stores to. -/
theorem wp_part2 (c : Dev nD) (i : grid0.Coords) (a : Bufs)  (X2 : Vec F S2x50x32 .f32) (X28 : Vec F S2x896x256 .i8) (X29 : Vec F S2x896x256 .i8) (X32 : Vec F S2x51x128 .f32) (X33 : Vec F S2x51x128 .f32) (X51 : Vec F S112x32 .f32) (X54 : Vec F S112x128 .f32) (X55 : Vec F S112x128 .f32) (X56 : Vec F S2x1024x256 .bf16) (X57 : Vec F S2x1024x256 .bf16)
    (E : Set ℕ) (K : (PUnit) → sProp 𝕄) :
    iprop(owns (c : Thread nD τ) a.m2 fullShare X2 ∗ owns (c : Thread nD τ) a.m28 fullShare X28 ∗ owns (c : Thread nD τ) a.m29 fullShare X29 ∗ owns (c : Thread nD τ) a.m32 fullShare X32 ∗ owns (c : Thread nD τ) a.m33 fullShare X33 ∗ owns (c : Thread nD τ) a.m51 fullShare X51 ∗ owns (c : Thread nD τ) a.m54 fullShare X54 ∗ owns (c : Thread nD τ) a.m55 fullShare X55 ∗ owns (c : Thread nD τ) a.m56 fullShare X56 ∗ owns (c : Thread nD τ) a.m57 fullShare X57 ∗
      (∀ (r : (PUnit)) (Y51 : Vec F S112x32 .f32) (Y54 : Vec F S112x128 .f32) (Y55 : Vec F S112x128 .f32) (Y56 : Vec F S2x1024x256 .bf16) (Y57 : Vec F S2x1024x256 .bf16), iprop(⌜r = PUnit.unit ∧ Y51 = (VecWindow.put X51 ![1, 0] S50x32.size (k0_pay12 (View.ld X2 (Rect.unit (s := S2x50x32) ![0, 0, 0] S1x50x32.size inb_S2x50x32_S1x50x32_0_0_0)))) ∧ Y54 = (VecWindow.put X54 ![0, 0] S51x128.size (k0_pay13 (View.ld X32 (Rect.unit (s := S2x51x128) ![0, 0, 0] S1x51x128.size inb_S2x51x128_S1x51x128_0_0_0)))) ∧ Y55 = (VecWindow.put X55 ![0, 0] S51x128.size (k0_pay14 (View.ld X33 (Rect.unit (s := S2x51x128) ![0, 0, 0] S1x51x128.size inb_S2x51x128_S1x51x128_0_0_0)))) ∧ Y56 = (VecWindow.put X56 ![0, 0, 0] S1x896x256.size (k0_pay15 (View.ld X28 (Rect.unit (s := S2x896x256) ![0, 0, 0] S1x896x256.size inb_S2x896x256_S1x896x256_0_0_0)))) ∧ Y57 = (VecWindow.put X57 ![0, 0, 0] S1x896x256.size (k0_pay16 (View.ld X29 (Rect.unit (s := S2x896x256) ![0, 0, 0] S1x896x256.size inb_S2x896x256_S1x896x256_0_0_0))))⌝ ∗ owns (c : Thread nD τ) a.m2 fullShare X2 ∗ owns (c : Thread nD τ) a.m28 fullShare X28 ∗ owns (c : Thread nD τ) a.m29 fullShare X29 ∗ owns (c : Thread nD τ) a.m32 fullShare X32 ∗ owns (c : Thread nD τ) a.m33 fullShare X33 ∗ owns (c : Thread nD τ) a.m51 fullShare Y51 ∗ owns (c : Thread nD τ) a.m54 fullShare Y54 ∗ owns (c : Thread nD τ) a.m55 fullShare Y55 ∗ owns (c : Thread nD τ) a.m56 fullShare Y56 ∗ owns (c : Thread nD τ) a.m57 fullShare Y57) -∗ K r))
    ⊢ wp frame (wpE (defs₀ (F := F)) Variants.none c none) E (k0_part2 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 ) K := by
  rw [k0_part2_eq_skeleton]
  unfold k0_part2_skel owns
  iintro ⟨⟨%f2, %h2, H2⟩, ⟨%f28, %h28, H28⟩, ⟨%f29, %h29, H29⟩, ⟨%f32, %h32, H32⟩, ⟨%f33, %h33, H33⟩, ⟨%f51, %h51, H51⟩, ⟨%f54, %h54, H54⟩, ⟨%f55, %h55, H55⟩, ⟨%f56, %h56, H56⟩, ⟨%f57, %h57, H57⟩, Hk⟩
  subst h2 h28 h29 h32 h33 h51 h54 h55 h56 h57
  sl_exec
  sl_step
  iapply Hk
  isplitr
  · ipureintro
    exact ⟨rfl, rfl, rfl, rfl, rfl, rfl⟩
  isplitl [H2]
  · iexists _; isplitr; swap; · iexact H2
    ipureintro; rfl
  isplitl [H28]
  · iexists _; isplitr; swap; · iexact H28
    ipureintro; rfl
  isplitl [H29]
  · iexists _; isplitr; swap; · iexact H29
    ipureintro; rfl
  isplitl [H32]
  · iexists _; isplitr; swap; · iexact H32
    ipureintro; rfl
  isplitl [H33]
  · iexists _; isplitr; swap; · iexact H33
    ipureintro; rfl
  isplitl [H51]
  · iexists _; isplitr; swap; · iexact H51
    ipureintro; exact View.read_writes_cons_put _ _ _ _ [] rfl
  isplitl [H54]
  · iexists _; isplitr; swap; · iexact H54
    ipureintro; exact View.read_writes_cons_put _ _ _ _ [] rfl
  isplitl [H55]
  · iexists _; isplitr; swap; · iexact H55
    ipureintro; exact View.read_writes_cons_put _ _ _ _ [] rfl
  isplitl [H56]
  · iexists _; isplitr; swap; · iexact H56
    ipureintro; exact View.read_writes_cons_put _ _ _ _ [] rfl
  iexists _; isplitr; swap; · iexact H57
  ipureintro; exact View.read_writes_cons_put _ _ _ _ [] rfl

/-- Part 3 of the body: what it returns and what it leaves in the buffers it stores to. -/
theorem wp_part3 (c : Dev nD) (i : grid0.Coords) (a : Bufs)  (X2 : Vec F S2x50x32 .f32) (X28 : Vec F S2x896x256 .i8) (X30 : Vec F S2x896 .f32) (X31 : Vec F S2x896 .f32) (X32 : Vec F S2x51x128 .f32) (X33 : Vec F S2x51x128 .f32) (X51 : Vec F S112x32 .f32) (X54 : Vec F S112x128 .f32) (X55 : Vec F S112x128 .f32) (X58 : Vec F S2x1024 .f32) (X59 : Vec F S2x1024 .f32)
    (E : Set ℕ) (K : (IVec S896x256 8) → sProp 𝕄) :
    iprop(owns (c : Thread nD τ) a.m2 fullShare X2 ∗ owns (c : Thread nD τ) a.m28 fullShare X28 ∗ owns (c : Thread nD τ) a.m30 fullShare X30 ∗ owns (c : Thread nD τ) a.m31 fullShare X31 ∗ owns (c : Thread nD τ) a.m32 fullShare X32 ∗ owns (c : Thread nD τ) a.m33 fullShare X33 ∗ owns (c : Thread nD τ) a.m51 fullShare X51 ∗ owns (c : Thread nD τ) a.m54 fullShare X54 ∗ owns (c : Thread nD τ) a.m55 fullShare X55 ∗ owns (c : Thread nD τ) a.m58 fullShare X58 ∗ owns (c : Thread nD τ) a.m59 fullShare X59 ∗
      (∀ (r : (IVec S896x256 8)) (Y51 : Vec F S112x32 .f32) (Y54 : Vec F S112x128 .f32) (Y55 : Vec F S112x128 .f32) (Y58 : Vec F S2x1024 .f32) (Y59 : Vec F S2x1024 .f32), iprop(⌜r = (k0_pay22 (View.ld X28 (Rect.unit (s := S2x896x256) ![1, 0, 0] S1x896x256.size inb_S2x896x256_S1x896x256_1_0_0))) ∧ Y51 = (VecWindow.put X51 ![57, 0] S50x32.size (k0_pay19 (View.ld X2 (Rect.unit (s := S2x50x32) ![1, 0, 0] S1x50x32.size inb_S2x50x32_S1x50x32_1_0_0)))) ∧ Y54 = (VecWindow.put X54 ![56, 0] S51x128.size (k0_pay20 (View.ld X32 (Rect.unit (s := S2x51x128) ![1, 0, 0] S1x51x128.size inb_S2x51x128_S1x51x128_1_0_0)))) ∧ Y55 = (VecWindow.put X55 ![56, 0] S51x128.size (k0_pay21 (View.ld X33 (Rect.unit (s := S2x51x128) ![1, 0, 0] S1x51x128.size inb_S2x51x128_S1x51x128_1_0_0)))) ∧ Y58 = (VecWindow.put X58 ![0, 0] S1x896.size (k0_pay17 (View.ld X30 (Rect.unit (s := S2x896) ![0, 0] S1x896.size inb_S2x896_S1x896_0_0)))) ∧ Y59 = (VecWindow.put X59 ![0, 0] S1x896.size (k0_pay18 (View.ld X31 (Rect.unit (s := S2x896) ![0, 0] S1x896.size inb_S2x896_S1x896_0_0))))⌝ ∗ owns (c : Thread nD τ) a.m2 fullShare X2 ∗ owns (c : Thread nD τ) a.m28 fullShare X28 ∗ owns (c : Thread nD τ) a.m30 fullShare X30 ∗ owns (c : Thread nD τ) a.m31 fullShare X31 ∗ owns (c : Thread nD τ) a.m32 fullShare X32 ∗ owns (c : Thread nD τ) a.m33 fullShare X33 ∗ owns (c : Thread nD τ) a.m51 fullShare Y51 ∗ owns (c : Thread nD τ) a.m54 fullShare Y54 ∗ owns (c : Thread nD τ) a.m55 fullShare Y55 ∗ owns (c : Thread nD τ) a.m58 fullShare Y58 ∗ owns (c : Thread nD τ) a.m59 fullShare Y59) -∗ K r))
    ⊢ wp frame (wpE (defs₀ (F := F)) Variants.none c none) E (k0_part3 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 ) K := by
  rw [k0_part3_eq_skeleton]
  unfold k0_part3_skel owns
  iintro ⟨⟨%f2, %h2, H2⟩, ⟨%f28, %h28, H28⟩, ⟨%f30, %h30, H30⟩, ⟨%f31, %h31, H31⟩, ⟨%f32, %h32, H32⟩, ⟨%f33, %h33, H33⟩, ⟨%f51, %h51, H51⟩, ⟨%f54, %h54, H54⟩, ⟨%f55, %h55, H55⟩, ⟨%f58, %h58, H58⟩, ⟨%f59, %h59, H59⟩, Hk⟩
  subst h2 h28 h30 h31 h32 h33 h51 h54 h55 h58 h59
  sl_exec
  sl_step
  iapply Hk
  isplitr
  · ipureintro
    exact ⟨rfl, rfl, rfl, rfl, rfl, rfl⟩
  isplitl [H2]
  · iexists _; isplitr; swap; · iexact H2
    ipureintro; rfl
  isplitl [H28]
  · iexists _; isplitr; swap; · iexact H28
    ipureintro; rfl
  isplitl [H30]
  · iexists _; isplitr; swap; · iexact H30
    ipureintro; rfl
  isplitl [H31]
  · iexists _; isplitr; swap; · iexact H31
    ipureintro; rfl
  isplitl [H32]
  · iexists _; isplitr; swap; · iexact H32
    ipureintro; rfl
  isplitl [H33]
  · iexists _; isplitr; swap; · iexact H33
    ipureintro; rfl
  isplitl [H51]
  · iexists _; isplitr; swap; · iexact H51
    ipureintro; exact View.read_writes_cons_put _ _ _ _ [] rfl
  isplitl [H54]
  · iexists _; isplitr; swap; · iexact H54
    ipureintro; exact View.read_writes_cons_put _ _ _ _ [] rfl
  isplitl [H55]
  · iexists _; isplitr; swap; · iexact H55
    ipureintro; exact View.read_writes_cons_put _ _ _ _ [] rfl
  isplitl [H58]
  · iexists _; isplitr; swap; · iexact H58
    ipureintro; exact View.read_writes_cons_put _ _ _ _ [] rfl
  iexists _; isplitr; swap; · iexact H59
  ipureintro; exact View.read_writes_cons_put _ _ _ _ [] rfl

/-- Part 4 of the body: what it returns and what it leaves in the buffers it stores to. -/
theorem wp_part4 (c : Dev nD) (i : grid0.Coords) (a : Bufs) (v739 : IVec S896x256 8) (X3 : Vec F S2x32 .f32) (X6 : Vec F S32x1024 .f32) (X7 : Vec F S1x1024 .f32) (X29 : Vec F S2x896x256 .i8) (X30 : Vec F S2x896 .f32) (X31 : Vec F S2x896 .f32) (X56 : Vec F S2x1024x256 .bf16) (X57 : Vec F S2x1024x256 .bf16) (X58 : Vec F S2x1024 .f32) (X59 : Vec F S2x1024 .f32)
    (E : Set ℕ) (K : (FVec F S2x1024 .f32) → sProp 𝕄) :
    iprop(owns (c : Thread nD τ) a.m3 fullShare X3 ∗ owns (c : Thread nD τ) a.m6 fullShare X6 ∗ owns (c : Thread nD τ) a.m7 fullShare X7 ∗ owns (c : Thread nD τ) a.m29 fullShare X29 ∗ owns (c : Thread nD τ) a.m30 fullShare X30 ∗ owns (c : Thread nD τ) a.m31 fullShare X31 ∗ owns (c : Thread nD τ) a.m56 fullShare X56 ∗ owns (c : Thread nD τ) a.m57 fullShare X57 ∗ owns (c : Thread nD τ) a.m58 fullShare X58 ∗ owns (c : Thread nD τ) a.m59 fullShare X59 ∗
      (∀ (r : (FVec F S2x1024 .f32)) (Y56 : Vec F S2x1024x256 .bf16) (Y57 : Vec F S2x1024x256 .bf16) (Y58 : Vec F S2x1024 .f32) (Y59 : Vec F S2x1024 .f32), iprop(⌜r = (k0_pay27 (View.ld X3 (Rect.unit (s := S2x32) ![0, 0] S2x32.size inb_S2x32_S2x32_0_0)) (View.ld X6 (Rect.unit (s := S32x1024) ![0, 0] S32x1024.size inb_S32x1024_S32x1024_0_0)) (View.ld X7 (Rect.unit (s := S1x1024) ![0, 0] S1x1024.size inb_S1x1024_S1x1024_0_0))) ∧ Y56 = (VecWindow.put X56 ![1, 0, 0] S1x896x256.size (k0_pay23 (F := F) v739)) ∧ Y57 = (VecWindow.put X57 ![1, 0, 0] S1x896x256.size (k0_pay24 (View.ld X29 (Rect.unit (s := S2x896x256) ![1, 0, 0] S1x896x256.size inb_S2x896x256_S1x896x256_1_0_0)))) ∧ Y58 = (VecWindow.put X58 ![1, 0] S1x896.size (k0_pay25 (View.ld X30 (Rect.unit (s := S2x896) ![1, 0] S1x896.size inb_S2x896_S1x896_1_0)))) ∧ Y59 = (VecWindow.put X59 ![1, 0] S1x896.size (k0_pay26 (View.ld X31 (Rect.unit (s := S2x896) ![1, 0] S1x896.size inb_S2x896_S1x896_1_0))))⌝ ∗ owns (c : Thread nD τ) a.m3 fullShare X3 ∗ owns (c : Thread nD τ) a.m6 fullShare X6 ∗ owns (c : Thread nD τ) a.m7 fullShare X7 ∗ owns (c : Thread nD τ) a.m29 fullShare X29 ∗ owns (c : Thread nD τ) a.m30 fullShare X30 ∗ owns (c : Thread nD τ) a.m31 fullShare X31 ∗ owns (c : Thread nD τ) a.m56 fullShare Y56 ∗ owns (c : Thread nD τ) a.m57 fullShare Y57 ∗ owns (c : Thread nD τ) a.m58 fullShare Y58 ∗ owns (c : Thread nD τ) a.m59 fullShare Y59) -∗ K r))
    ⊢ wp frame (wpE (defs₀ (F := F)) Variants.none c none) E (k0_part4 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 v739) K := by
  rw [k0_part4_eq_skeleton]
  unfold k0_part4_skel owns
  iintro ⟨⟨%f3, %h3, H3⟩, ⟨%f6, %h6, H6⟩, ⟨%f7, %h7, H7⟩, ⟨%f29, %h29, H29⟩, ⟨%f30, %h30, H30⟩, ⟨%f31, %h31, H31⟩, ⟨%f56, %h56, H56⟩, ⟨%f57, %h57, H57⟩, ⟨%f58, %h58, H58⟩, ⟨%f59, %h59, H59⟩, Hk⟩
  subst h3 h6 h7 h29 h30 h31 h56 h57 h58 h59
  sl_exec
  sl_step
  iapply Hk
  isplitr
  · ipureintro
    exact ⟨rfl, rfl, rfl, rfl, rfl⟩
  isplitl [H3]
  · iexists _; isplitr; swap; · iexact H3
    ipureintro; rfl
  isplitl [H6]
  · iexists _; isplitr; swap; · iexact H6
    ipureintro; rfl
  isplitl [H7]
  · iexists _; isplitr; swap; · iexact H7
    ipureintro; rfl
  isplitl [H29]
  · iexists _; isplitr; swap; · iexact H29
    ipureintro; rfl
  isplitl [H30]
  · iexists _; isplitr; swap; · iexact H30
    ipureintro; rfl
  isplitl [H31]
  · iexists _; isplitr; swap; · iexact H31
    ipureintro; rfl
  isplitl [H56]
  · iexists _; isplitr; swap; · iexact H56
    ipureintro; exact View.read_writes_cons_put _ _ _ _ [] rfl
  isplitl [H57]
  · iexists _; isplitr; swap; · iexact H57
    ipureintro; exact View.read_writes_cons_put _ _ _ _ [] rfl
  isplitl [H58]
  · iexists _; isplitr; swap; · iexact H58
    ipureintro; exact View.read_writes_cons_put _ _ _ _ [] rfl
  iexists _; isplitr; swap; · iexact H59
  ipureintro; exact View.read_writes_cons_put _ _ _ _ [] rfl

end Cert.Kernel.Named

end
-- ==== Proof.BitsPartsA.lean ====
/- The parts of the body up to the attention of the first sequence. -/
module

public import proofs.«01_k».proof.Proof.BitsBufs
public import Idealize.ShloMosaic.Lib.VecWindow

@[expose] public section

set_option maxRecDepth 16384

noncomputable section

namespace Cert.Kernel.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- Part 9 of the body: what it returns and what it leaves in the buffers it stores to. -/
theorem wp_part9 (c : Dev nD) (i : grid0.Coords) (a : Bufs) (v3 : IVec S56x1 32) (v33 : FVec F S112x1024 .f32) (v34 : Vec F S1x1024 .f32) (X15 : Vec F S1x1024 .f32) (X52 : Vec F S2x1024 .f32)
    (E : Set ℕ) (K : (Σ' (v56 : FVec F S112x1024 .f32) (v71 : FVec F S112x1024 .f32) (v76 : IVec S112x1 1) (v78 : FVec F S112x1 .f32), F .f32) → sProp 𝕄) :
    iprop(owns (c : Thread nD τ) a.m15 fullShare X15 ∗ owns (c : Thread nD τ) a.m52 fullShare X52 ∗
      (∀ (r : (Σ' (v56 : FVec F S112x1024 .f32) (v71 : FVec F S112x1024 .f32) (v76 : IVec S112x1 1) (v78 : FVec F S112x1 .f32), F .f32)), iprop(⌜r = ⟨k0_pay53 v3 v33 v34 (View.ld X52 (Rect.unit (s := S2x1024) ![0, 0] S1x1024.size inb_S2x1024_S1x1024_0_0)) (View.ld X52 (Rect.unit (s := S2x1024) ![1, 0] S1x1024.size inb_S2x1024_S1x1024_1_0)), k0_pay54 v3 v33 v34 (View.ld X52 (Rect.unit (s := S2x1024) ![0, 0] S1x1024.size inb_S2x1024_S1x1024_0_0)) (View.ld X52 (Rect.unit (s := S2x1024) ![1, 0] S1x1024.size inb_S2x1024_S1x1024_1_0)) (View.ld X15 (Rect.unit (s := S1x1024) ![0, 0] S1x1024.size inb_S1x1024_S1x1024_0_0)), k0_pay56 v3 v33 v34 (View.ld X52 (Rect.unit (s := S2x1024) ![0, 0] S1x1024.size inb_S2x1024_S1x1024_0_0)) (View.ld X52 (Rect.unit (s := S2x1024) ![1, 0] S1x1024.size inb_S2x1024_S1x1024_1_0)) (View.ld X15 (Rect.unit (s := S1x1024) ![0, 0] S1x1024.size inb_S1x1024_S1x1024_0_0)), k0_pay57 v3 v33 v34 (View.ld X52 (Rect.unit (s := S2x1024) ![0, 0] S1x1024.size inb_S2x1024_S1x1024_0_0)) (View.ld X52 (Rect.unit (s := S2x1024) ![1, 0] S1x1024.size inb_S2x1024_S1x1024_1_0)) (View.ld X15 (Rect.unit (s := S1x1024) ![0, 0] S1x1024.size inb_S1x1024_S1x1024_0_0)), (Scalar.ofBits .f32 0x3F800000#32)⟩⌝ ∗ owns (c : Thread nD τ) a.m15 fullShare X15 ∗ owns (c : Thread nD τ) a.m52 fullShare X52) -∗ K r))
    ⊢ wp frame (wpE (defs₀ (F := F)) Variants.none c none) E (k0_part9 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 v3 v33 v34) K := by
  rw [k0_part9_eq_skeleton]
  unfold k0_part9_skel owns
  iintro ⟨⟨%f15, %h15, H15⟩, ⟨%f52, %h52, H52⟩, Hk⟩
  subst h15 h52
  sl_exec
  sl_step
  iapply Hk
  isplitr
  · ipureintro
    rfl
  isplitl [H15]
  · iexists _; isplitr; swap; · iexact H15
    ipureintro; rfl
  iexists _; isplitr; swap; · iexact H52
  ipureintro; rfl

/-- Part 10 of the body: what it returns and what it leaves in the buffers it stores to. -/
theorem wp_part10 (c : Dev nD) (i : grid0.Coords) (a : Bufs) (v71 : FVec F S112x1024 .f32) (v76 : IVec S112x1 1) (v78 : FVec F S112x1 .f32) (cst_32 : F .f32) (X17 : Vec F S1024x2560 .fp8e4m3) (X18 : Vec F S1x2560 .f32) (X54 : Vec F S112x128 .f32) (X55 : Vec F S112x128 .f32)
    (E : Set ℕ) (K : (Σ' (v80 : FVec F S112x1 .f32) (v89 : FVec F S128x1024 .fp8e4m3) (v98 : FVec F S112x2560 .f32) (v99 : Vec F S112x128 .f32) (v100 : Vec F S112x128 .f32) (v110 : FVec F S112x256 .f32) (v111 : FVec F S112x256 .f32) (v121 : FVec F S112x256 .f32) (v123 : FVec F S112x128 .f32) (v124 : FVec F S112x128 .f32) (v125 : FVec F S112x128 .f32), FVec F S112x128 .f32) → sProp 𝕄) :
    iprop(owns (c : Thread nD τ) a.m17 fullShare X17 ∗ owns (c : Thread nD τ) a.m18 fullShare X18 ∗ owns (c : Thread nD τ) a.m54 fullShare X54 ∗ owns (c : Thread nD τ) a.m55 fullShare X55 ∗
      (∀ (r : (Σ' (v80 : FVec F S112x1 .f32) (v89 : FVec F S128x1024 .fp8e4m3) (v98 : FVec F S112x2560 .f32) (v99 : Vec F S112x128 .f32) (v100 : Vec F S112x128 .f32) (v110 : FVec F S112x256 .f32) (v111 : FVec F S112x256 .f32) (v121 : FVec F S112x256 .f32) (v123 : FVec F S112x128 .f32) (v124 : FVec F S112x128 .f32) (v125 : FVec F S112x128 .f32), FVec F S112x128 .f32)), iprop(⌜r = ⟨k0_pay58 v76 v78 cst_32, k0_pay59 v71 v76 v78 cst_32, k0_pay60 v71 v76 v78 cst_32 (View.ld X17 (Rect.unit (s := S1024x2560) ![0, 0] S1024x2560.size inb_S1024x2560_S1024x2560_0_0)) (View.ld X18 (Rect.unit (s := S1x2560) ![0, 0] S1x2560.size inb_S1x2560_S1x2560_0_0)), (View.ld X54 (Rect.unit (s := S112x128) ![0, 0] S112x128.size inb_S112x128_S112x128_0_0)), (View.ld X55 (Rect.unit (s := S112x128) ![0, 0] S112x128.size inb_S112x128_S112x128_0_0)), k0_pay61 v71 v76 v78 cst_32 (View.ld X17 (Rect.unit (s := S1024x2560) ![0, 0] S1024x2560.size inb_S1024x2560_S1024x2560_0_0)) (View.ld X18 (Rect.unit (s := S1x2560) ![0, 0] S1x2560.size inb_S1x2560_S1x2560_0_0)) (View.ld X54 (Rect.unit (s := S112x128) ![0, 0] S112x128.size inb_S112x128_S112x128_0_0)) (View.ld X55 (Rect.unit (s := S112x128) ![0, 0] S112x128.size inb_S112x128_S112x128_0_0)), k0_pay62 v71 v76 v78 cst_32 (View.ld X17 (Rect.unit (s := S1024x2560) ![0, 0] S1024x2560.size inb_S1024x2560_S1024x2560_0_0)) (View.ld X18 (Rect.unit (s := S1x2560) ![0, 0] S1x2560.size inb_S1x2560_S1x2560_0_0)), k0_pay63 v71 v76 v78 cst_32 (View.ld X17 (Rect.unit (s := S1024x2560) ![0, 0] S1024x2560.size inb_S1024x2560_S1024x2560_0_0)) (View.ld X18 (Rect.unit (s := S1x2560) ![0, 0] S1x2560.size inb_S1x2560_S1x2560_0_0)) (View.ld X54 (Rect.unit (s := S112x128) ![0, 0] S112x128.size inb_S112x128_S112x128_0_0)) (View.ld X55 (Rect.unit (s := S112x128) ![0, 0] S112x128.size inb_S112x128_S112x128_0_0)), k0_pay65 v71 v76 v78 cst_32 (View.ld X17 (Rect.unit (s := S1024x2560) ![0, 0] S1024x2560.size inb_S1024x2560_S1024x2560_0_0)) (View.ld X18 (Rect.unit (s := S1x2560) ![0, 0] S1x2560.size inb_S1x2560_S1x2560_0_0)), k0_pay66 v71 v76 v78 cst_32 (View.ld X17 (Rect.unit (s := S1024x2560) ![0, 0] S1024x2560.size inb_S1024x2560_S1024x2560_0_0)) (View.ld X18 (Rect.unit (s := S1x2560) ![0, 0] S1x2560.size inb_S1x2560_S1x2560_0_0)), k0_pay67 v71 v76 v78 cst_32 (View.ld X17 (Rect.unit (s := S1024x2560) ![0, 0] S1024x2560.size inb_S1024x2560_S1024x2560_0_0)) (View.ld X18 (Rect.unit (s := S1x2560) ![0, 0] S1x2560.size inb_S1x2560_S1x2560_0_0)) (View.ld X54 (Rect.unit (s := S112x128) ![0, 0] S112x128.size inb_S112x128_S112x128_0_0)), k0_pay68 v71 v76 v78 cst_32 (View.ld X17 (Rect.unit (s := S1024x2560) ![0, 0] S1024x2560.size inb_S1024x2560_S1024x2560_0_0)) (View.ld X18 (Rect.unit (s := S1x2560) ![0, 0] S1x2560.size inb_S1x2560_S1x2560_0_0)) (View.ld X55 (Rect.unit (s := S112x128) ![0, 0] S112x128.size inb_S112x128_S112x128_0_0))⟩⌝ ∗ owns (c : Thread nD τ) a.m17 fullShare X17 ∗ owns (c : Thread nD τ) a.m18 fullShare X18 ∗ owns (c : Thread nD τ) a.m54 fullShare X54 ∗ owns (c : Thread nD τ) a.m55 fullShare X55) -∗ K r))
    ⊢ wp frame (wpE (defs₀ (F := F)) Variants.none c none) E (k0_part10 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 v71 v76 v78 cst_32) K := by
  rw [k0_part10_eq_skeleton]
  unfold k0_part10_skel owns
  iintro ⟨⟨%f17, %h17, H17⟩, ⟨%f18, %h18, H18⟩, ⟨%f54, %h54, H54⟩, ⟨%f55, %h55, H55⟩, Hk⟩
  subst h17 h18 h54 h55
  sl_exec
  sl_step
  iapply Hk
  isplitr
  · ipureintro
    rfl
  isplitl [H17]
  · iexists _; isplitr; swap; · iexact H17
    ipureintro; rfl
  isplitl [H18]
  · iexists _; isplitr; swap; · iexact H18
    ipureintro; rfl
  isplitl [H54]
  · iexists _; isplitr; swap; · iexact H54
    ipureintro; rfl
  iexists _; isplitr; swap; · iexact H55
  ipureintro; rfl

/-- Part 11 of the body: what it returns and what it leaves in the buffers it stores to. -/
theorem wp_part11 (c : Dev nD) (i : grid0.Coords) (a : Bufs) (v98 : FVec F S112x2560 .f32) (v99 : Vec F S112x128 .f32) (v100 : Vec F S112x128 .f32) (v123 : FVec F S112x128 .f32) (v124 : FVec F S112x128 .f32) (v125 : FVec F S112x128 .f32) (v126 : FVec F S112x128 .f32)
    (E : Set ℕ) (K : (Σ' (v131 : FVec F S112x256 .f32) (v141 : FVec F S112x256 .f32) (v151 : FVec F S112x256 .f32) (v161 : FVec F S112x256 .f32) (v171 : FVec F S112x256 .f32) (v181 : FVec F S112x256 .f32) (v183 : FVec F S112x128 .f32) (v184 : FVec F S112x128 .f32) (v185 : FVec F S112x128 .f32), FVec F S112x128 .f32) → sProp 𝕄) :
    iprop(
      (∀ (r : (Σ' (v131 : FVec F S112x256 .f32) (v141 : FVec F S112x256 .f32) (v151 : FVec F S112x256 .f32) (v161 : FVec F S112x256 .f32) (v171 : FVec F S112x256 .f32) (v181 : FVec F S112x256 .f32) (v183 : FVec F S112x128 .f32) (v184 : FVec F S112x128 .f32) (v185 : FVec F S112x128 .f32), FVec F S112x128 .f32)), iprop(⌜r = ⟨k0_pay69 v99 v100 v123 v124 v125 v126, k0_pay70 v98 v99 v100, k0_pay71 v98 v99 v100, k0_pay72 v98 v99 v100, k0_pay73 v98 v99 v100, k0_pay74 v98 v99 v100, k0_pay76 v98, k0_pay77 v98, k0_pay78 v98 v99, k0_pay79 v98 v100⟩⌝) -∗ K r))
    ⊢ wp frame (wpE (defs₀ (F := F)) Variants.none c none) E (k0_part11 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 v98 v99 v100 v123 v124 v125 v126) K := by
  rw [k0_part11_eq_skeleton]
  unfold k0_part11_skel
  iintro Hk
  sl_exec
  sl_step
  iapply Hk
  ipureintro
  rfl

/-- Part 12 of the body: what it returns and what it leaves in the buffers it stores to. -/
theorem wp_part12 (c : Dev nD) (i : grid0.Coords) (a : Bufs) (v99 : Vec F S112x128 .f32) (v100 : Vec F S112x128 .f32) (v110 : FVec F S112x256 .f32) (v111 : FVec F S112x256 .f32) (v183 : FVec F S112x128 .f32) (v184 : FVec F S112x128 .f32) (v185 : FVec F S112x128 .f32) (v186 : FVec F S112x128 .f32) (X1 : Vec F S2 .i32) (X56 : Vec F S2x1024x256 .bf16) (X57 : Vec F S2x1024x256 .bf16)
    (E : Set ℕ) (K : (Σ' (v191 : FVec F S112x256 .f32) (v192 : IVec S1x1024 32) (v211 : IVec S224x1 1) (v224 : IVec S1x1024 1) (v226 : IVec S1x1024 1), IVec S1x1024 1) → sProp 𝕄) :
    iprop(owns (c : Thread nD τ) a.m1 fullShare X1 ∗ owns (c : Thread nD τ) a.m56 fullShare X56 ∗ owns (c : Thread nD τ) a.m57 fullShare X57 ∗
      (∀ (r : (Σ' (v191 : FVec F S112x256 .f32) (v192 : IVec S1x1024 32) (v211 : IVec S224x1 1) (v224 : IVec S1x1024 1) (v226 : IVec S1x1024 1), IVec S1x1024 1)) (Y56 : Vec F S2x1024x256 .bf16) (Y57 : Vec F S2x1024x256 .bf16), iprop(⌜r = ⟨k0_pay80 v99 v100 v183 v184 v185 v186, (iota .tc S1x1024 32 [1] iota_S1x1024_d1_w32), k0_pay81, k0_pay84 (View.ld X1 (Rect.unit (s := S2) ![0] S1.size inb_S2_S1_0) (Shape.Idx.first (numel1_S1.symm ▸ Nat.one_pos))), k0_pay85, k0_pay86⟩ ∧ Y56 = (VecWindow.put X56 ![0, 896, 0] S1x56x256.size (k0_pay82 v110)) ∧ Y57 = (VecWindow.put X57 ![0, 896, 0] S1x56x256.size (k0_pay83 v111))⌝ ∗ owns (c : Thread nD τ) a.m1 fullShare X1 ∗ owns (c : Thread nD τ) a.m56 fullShare Y56 ∗ owns (c : Thread nD τ) a.m57 fullShare Y57) -∗ K r))
    ⊢ wp frame (wpE (defs₀ (F := F)) Variants.none c none) E (k0_part12 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 v99 v100 v110 v111 v183 v184 v185 v186) K := by
  rw [k0_part12_eq_skeleton]
  unfold k0_part12_skel owns
  iintro ⟨⟨%f1, %h1, H1⟩, ⟨%f56, %h56, H56⟩, ⟨%f57, %h57, H57⟩, Hk⟩
  subst h1 h56 h57
  sl_exec
  sl_step
  iapply Hk
  isplitr
  · ipureintro
    exact ⟨rfl, rfl, rfl⟩
  isplitl [H1]
  · iexists _; isplitr; swap; · iexact H1
    ipureintro; rfl
  isplitl [H56]
  · iexists _; isplitr; swap; · iexact H56
    ipureintro; exact View.read_writes_cons_put _ _ _ _ [] rfl
  iexists _; isplitr; swap; · iexact H57
  ipureintro; exact View.read_writes_cons_put _ _ _ _ [] rfl

/-- Part 13 of the body: what it returns and what it leaves in the buffers it stores to. -/
theorem wp_part13 (c : Dev nD) (i : grid0.Coords) (a : Bufs) (v121 : FVec F S112x256 .f32) (v131 : FVec F S112x256 .f32) (v141 : FVec F S112x256 .f32) (v151 : FVec F S112x256 .f32) (v192 : IVec S1x1024 32) (v211 : IVec S224x1 1) (v224 : IVec S1x1024 1) (v226 : IVec S1x1024 1) (v228 : IVec S1x1024 1) (X1 : Vec F S2 .i32) (X56 : Vec F S2x1024x256 .bf16) (X57 : Vec F S2x1024x256 .bf16) (X58 : Vec F S2x1024 .f32) (X59 : Vec F S2x1024 .f32)
    (E : Set ℕ) (K : (Σ' (v244 : IVec S224x1024 1) (v266 : FVec F S224x1 .f32) (v270 : FVec F S224x1024 .bf16), Vec F S1x1024x256 .bf16) → sProp 𝕄) :
    iprop(owns (c : Thread nD τ) a.m1 fullShare X1 ∗ owns (c : Thread nD τ) a.m56 fullShare X56 ∗ owns (c : Thread nD τ) a.m57 fullShare X57 ∗ owns (c : Thread nD τ) a.m58 fullShare X58 ∗ owns (c : Thread nD τ) a.m59 fullShare X59 ∗
      (∀ (r : (Σ' (v244 : IVec S224x1024 1) (v266 : FVec F S224x1 .f32) (v270 : FVec F S224x1024 .bf16), Vec F S1x1024x256 .bf16)), iprop(⌜r = ⟨k0_pay87 v192 v211 v224 v226 v228 (View.ld X1 (Rect.unit (s := S2) ![0] S1.size inb_S2_S1_0) (Shape.Idx.first (numel1_S1.symm ▸ Nat.one_pos))), k0_pay89 v121 v131 v141 v151 v192 v211 v224 v226 v228 (View.ld X1 (Rect.unit (s := S2) ![0] S1.size inb_S2_S1_0) (Shape.Idx.first (numel1_S1.symm ▸ Nat.one_pos))) (View.ld X56 (Rect.unit (s := S2x1024x256) ![0, 0, 0] S1x1024x256.size inb_S2x1024x256_S1x1024x256_0_0_0)) (View.ld X58 (Rect.unit (s := S2x1024) ![0, 0] S1x1024.size inb_S2x1024_S1x1024_0_0)), k0_pay90 v121 v131 v141 v151 v192 v211 v224 v226 v228 (View.ld X1 (Rect.unit (s := S2) ![0] S1.size inb_S2_S1_0) (Shape.Idx.first (numel1_S1.symm ▸ Nat.one_pos))) (View.ld X56 (Rect.unit (s := S2x1024x256) ![0, 0, 0] S1x1024x256.size inb_S2x1024x256_S1x1024x256_0_0_0)) (View.ld X58 (Rect.unit (s := S2x1024) ![0, 0] S1x1024.size inb_S2x1024_S1x1024_0_0)) (View.ld X59 (Rect.unit (s := S2x1024) ![0, 0] S1x1024.size inb_S2x1024_S1x1024_0_0)), (View.ld X57 (Rect.unit (s := S2x1024x256) ![0, 0, 0] S1x1024x256.size inb_S2x1024x256_S1x1024x256_0_0_0))⟩⌝ ∗ owns (c : Thread nD τ) a.m1 fullShare X1 ∗ owns (c : Thread nD τ) a.m56 fullShare X56 ∗ owns (c : Thread nD τ) a.m57 fullShare X57 ∗ owns (c : Thread nD τ) a.m58 fullShare X58 ∗ owns (c : Thread nD τ) a.m59 fullShare X59) -∗ K r))
    ⊢ wp frame (wpE (defs₀ (F := F)) Variants.none c none) E (k0_part13 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 v121 v131 v141 v151 v192 v211 v224 v226 v228) K := by
  rw [k0_part13_eq_skeleton]
  unfold k0_part13_skel owns
  iintro ⟨⟨%f1, %h1, H1⟩, ⟨%f56, %h56, H56⟩, ⟨%f57, %h57, H57⟩, ⟨%f58, %h58, H58⟩, ⟨%f59, %h59, H59⟩, Hk⟩
  subst h1 h56 h57 h58 h59
  sl_exec
  sl_step
  iapply Hk
  isplitr
  · ipureintro
    rfl
  isplitl [H1]
  · iexists _; isplitr; swap; · iexact H1
    ipureintro; rfl
  isplitl [H56]
  · iexists _; isplitr; swap; · iexact H56
    ipureintro; rfl
  isplitl [H57]
  · iexists _; isplitr; swap; · iexact H57
    ipureintro; rfl
  isplitl [H58]
  · iexists _; isplitr; swap; · iexact H58
    ipureintro; rfl
  iexists _; isplitr; swap; · iexact H59
  ipureintro; rfl

/-- Part 14 of the body: what it returns and what it leaves in the buffers it stores to. -/
theorem wp_part14 (c : Dev nD) (i : grid0.Coords) (a : Bufs) (v161 : FVec F S112x256 .f32) (v171 : FVec F S112x256 .f32) (v181 : FVec F S112x256 .f32) (v191 : FVec F S112x256 .f32) (v244 : IVec S224x1024 1) (v266 : FVec F S224x1 .f32) (v270 : FVec F S224x1024 .bf16) (v271 : Vec F S1x1024x256 .bf16) (X56 : Vec F S2x1024x256 .bf16) (X58 : Vec F S2x1024 .f32) (X60 : Vec F S112x2048 .f32)
    (E : Set ℕ) (K : (FVec F S224x1024 .f32) → sProp 𝕄) :
    iprop(owns (c : Thread nD τ) a.m56 fullShare X56 ∗ owns (c : Thread nD τ) a.m58 fullShare X58 ∗ owns (c : Thread nD τ) a.m60 fullShare X60 ∗
      (∀ (r : (FVec F S224x1024 .f32)) (Y60 : Vec F S112x2048 .f32), iprop(⌜r = (k0_pay96 v161 v171 v181 v191 v244 (View.ld X56 (Rect.unit (s := S2x1024x256) ![0, 0, 0] S1x1024x256.size inb_S2x1024x256_S1x1024x256_0_0_0)) (View.ld X58 (Rect.unit (s := S2x1024) ![0, 0] S1x1024.size inb_S2x1024_S1x1024_0_0))) ∧ Y60 = (VecWindow.put (VecWindow.put (VecWindow.put (VecWindow.put X60 ![0, 0] S56x256.size (k0_pay92 v266 v270 v271)) ![0, 256] S56x256.size (k0_pay93 v266 v270 v271)) ![0, 512] S56x256.size (k0_pay94 v266 v270 v271)) ![0, 768] S56x256.size (k0_pay95 v266 v270 v271))⌝ ∗ owns (c : Thread nD τ) a.m56 fullShare X56 ∗ owns (c : Thread nD τ) a.m58 fullShare X58 ∗ owns (c : Thread nD τ) a.m60 fullShare Y60) -∗ K r))
    ⊢ wp frame (wpE (defs₀ (F := F)) Variants.none c none) E (k0_part14 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 v161 v171 v181 v191 v244 v266 v270 v271) K := by
  rw [k0_part14_eq_skeleton]
  unfold k0_part14_skel owns
  iintro ⟨⟨%f56, %h56, H56⟩, ⟨%f58, %h58, H58⟩, ⟨%f60, %h60, H60⟩, Hk⟩
  subst h56 h58 h60
  sl_exec
  sl_step
  iapply Hk
  isplitr
  · ipureintro
    exact ⟨rfl, rfl⟩
  isplitl [H56]
  · iexists _; isplitr; swap; · iexact H56
    ipureintro; rfl
  isplitl [H58]
  · iexists _; isplitr; swap; · iexact H58
    ipureintro; rfl
  iexists _; isplitr; swap; · iexact H60
  ipureintro; (iterate 4 rw [View.read_writes_cons_put (h := rfl)]); rfl

end Cert.Kernel.Named

end
-- ==== Proof.BitsPartsB.lean ====
/- The parts of the body with the attention of both sequences and the output projection. -/
module

public import proofs.«01_k».proof.Proof.BitsBufs
public import Idealize.ShloMosaic.Lib.VecWindow

@[expose] public section

set_option maxRecDepth 16384

noncomputable section

namespace Cert.Kernel.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- Part 15 of the body: what it returns and what it leaves in the buffers it stores to. -/
theorem wp_part15 (c : Dev nD) (i : grid0.Coords) (a : Bufs) (v110 : FVec F S112x256 .f32) (v111 : FVec F S112x256 .f32) (v310 : FVec F S224x1024 .f32) (X56 : Vec F S2x1024x256 .bf16) (X57 : Vec F S2x1024x256 .bf16) (X59 : Vec F S2x1024 .f32) (X60 : Vec F S112x2048 .f32)
    (E : Set ℕ) (K : (FVec F S56x256 .bf16) → sProp 𝕄) :
    iprop(owns (c : Thread nD τ) a.m56 fullShare X56 ∗ owns (c : Thread nD τ) a.m57 fullShare X57 ∗ owns (c : Thread nD τ) a.m59 fullShare X59 ∗ owns (c : Thread nD τ) a.m60 fullShare X60 ∗
      (∀ (r : (FVec F S56x256 .bf16)) (Y56 : Vec F S2x1024x256 .bf16) (Y60 : Vec F S112x2048 .f32), iprop(⌜r = (k0_pay103 v111) ∧ Y56 = (VecWindow.put X56 ![1, 896, 0] S1x56x256.size (k0_pay102 v110)) ∧ Y60 = (VecWindow.put (VecWindow.put (VecWindow.put (VecWindow.put X60 ![0, 1024] S56x256.size (k0_pay98 v310 (View.ld X59 (Rect.unit (s := S2x1024) ![0, 0] S1x1024.size inb_S2x1024_S1x1024_0_0)) (View.ld X57 (Rect.unit (s := S2x1024x256) ![0, 0, 0] S1x1024x256.size inb_S2x1024x256_S1x1024x256_0_0_0)))) ![0, 1280] S56x256.size (k0_pay99 v310 (View.ld X59 (Rect.unit (s := S2x1024) ![0, 0] S1x1024.size inb_S2x1024_S1x1024_0_0)) (View.ld X57 (Rect.unit (s := S2x1024x256) ![0, 0, 0] S1x1024x256.size inb_S2x1024x256_S1x1024x256_0_0_0)))) ![0, 1536] S56x256.size (k0_pay100 v310 (View.ld X59 (Rect.unit (s := S2x1024) ![0, 0] S1x1024.size inb_S2x1024_S1x1024_0_0)) (View.ld X57 (Rect.unit (s := S2x1024x256) ![0, 0, 0] S1x1024x256.size inb_S2x1024x256_S1x1024x256_0_0_0)))) ![0, 1792] S56x256.size (k0_pay101 v310 (View.ld X59 (Rect.unit (s := S2x1024) ![0, 0] S1x1024.size inb_S2x1024_S1x1024_0_0)) (View.ld X57 (Rect.unit (s := S2x1024x256) ![0, 0, 0] S1x1024x256.size inb_S2x1024x256_S1x1024x256_0_0_0))))⌝ ∗ owns (c : Thread nD τ) a.m56 fullShare Y56 ∗ owns (c : Thread nD τ) a.m57 fullShare X57 ∗ owns (c : Thread nD τ) a.m59 fullShare X59 ∗ owns (c : Thread nD τ) a.m60 fullShare Y60) -∗ K r))
    ⊢ wp frame (wpE (defs₀ (F := F)) Variants.none c none) E (k0_part15 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 v110 v111 v310) K := by
  rw [k0_part15_eq_skeleton]
  unfold k0_part15_skel owns
  iintro ⟨⟨%f56, %h56, H56⟩, ⟨%f57, %h57, H57⟩, ⟨%f59, %h59, H59⟩, ⟨%f60, %h60, H60⟩, Hk⟩
  subst h56 h57 h59 h60
  sl_exec
  sl_step
  iapply Hk
  isplitr
  · ipureintro
    exact ⟨rfl, rfl, rfl⟩
  isplitl [H56]
  · iexists _; isplitr; swap; · iexact H56
    ipureintro; exact View.read_writes_cons_put _ _ _ _ [] rfl
  isplitl [H57]
  · iexists _; isplitr; swap; · iexact H57
    ipureintro; rfl
  isplitl [H59]
  · iexists _; isplitr; swap; · iexact H59
    ipureintro; rfl
  iexists _; isplitr; swap; · iexact H60
  ipureintro; (iterate 4 rw [View.read_writes_cons_put (h := rfl)]); rfl

/-- Part 16 of the body: what it returns and what it leaves in the buffers it stores to. -/
theorem wp_part16 (c : Dev nD) (i : grid0.Coords) (a : Bufs) (v121 : FVec F S112x256 .f32) (v131 : FVec F S112x256 .f32) (v141 : FVec F S112x256 .f32) (v151 : FVec F S112x256 .f32) (v192 : IVec S1x1024 32) (v211 : IVec S224x1 1) (v345 : FVec F S56x256 .bf16) (X1 : Vec F S2 .i32) (X56 : Vec F S2x1024x256 .bf16) (X57 : Vec F S2x1024x256 .bf16) (X58 : Vec F S2x1024 .f32)
    (E : Set ℕ) (K : (Σ' (v371 : IVec S224x1024 1) (v385 : FVec F S224x1024 .f32), FVec F S224x1024 .f32) → sProp 𝕄) :
    iprop(owns (c : Thread nD τ) a.m1 fullShare X1 ∗ owns (c : Thread nD τ) a.m56 fullShare X56 ∗ owns (c : Thread nD τ) a.m57 fullShare X57 ∗ owns (c : Thread nD τ) a.m58 fullShare X58 ∗
      (∀ (r : (Σ' (v371 : IVec S224x1024 1) (v385 : FVec F S224x1024 .f32), FVec F S224x1024 .f32)) (Y57 : Vec F S2x1024x256 .bf16), iprop(⌜r = ⟨k0_pay105 v192 v211 (View.ld X1 (Rect.unit (s := S2) ![1] S1.size inb_S2_S1_1) (Shape.Idx.first (numel1_S1.symm ▸ Nat.one_pos))) (View.ld X1 (Rect.unit (s := S2) ![1] S1.size inb_S2_S1_1) (Shape.Idx.first (numel1_S1.symm ▸ Nat.one_pos))), k0_pay106 v121 v131 v141 v151 v192 v211 (View.ld X1 (Rect.unit (s := S2) ![1] S1.size inb_S2_S1_1) (Shape.Idx.first (numel1_S1.symm ▸ Nat.one_pos))) (View.ld X1 (Rect.unit (s := S2) ![1] S1.size inb_S2_S1_1) (Shape.Idx.first (numel1_S1.symm ▸ Nat.one_pos))) (View.ld X56 (Rect.unit (s := S2x1024x256) ![1, 0, 0] S1x1024x256.size inb_S2x1024x256_S1x1024x256_1_0_0)) (View.ld X58 (Rect.unit (s := S2x1024) ![1, 0] S1x1024.size inb_S2x1024_S1x1024_1_0)), k0_pay107 v121 v131 v141 v151 v192 v211 (View.ld X1 (Rect.unit (s := S2) ![1] S1.size inb_S2_S1_1) (Shape.Idx.first (numel1_S1.symm ▸ Nat.one_pos))) (View.ld X1 (Rect.unit (s := S2) ![1] S1.size inb_S2_S1_1) (Shape.Idx.first (numel1_S1.symm ▸ Nat.one_pos))) (View.ld X56 (Rect.unit (s := S2x1024x256) ![1, 0, 0] S1x1024x256.size inb_S2x1024x256_S1x1024x256_1_0_0)) (View.ld X58 (Rect.unit (s := S2x1024) ![1, 0] S1x1024.size inb_S2x1024_S1x1024_1_0))⟩ ∧ Y57 = (VecWindow.put X57 ![1, 896, 0] S1x56x256.size (k0_pay104 v345))⌝ ∗ owns (c : Thread nD τ) a.m1 fullShare X1 ∗ owns (c : Thread nD τ) a.m56 fullShare X56 ∗ owns (c : Thread nD τ) a.m57 fullShare Y57 ∗ owns (c : Thread nD τ) a.m58 fullShare X58) -∗ K r))
    ⊢ wp frame (wpE (defs₀ (F := F)) Variants.none c none) E (k0_part16 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 v121 v131 v141 v151 v192 v211 v345) K := by
  rw [k0_part16_eq_skeleton]
  unfold k0_part16_skel owns
  iintro ⟨⟨%f1, %h1, H1⟩, ⟨%f56, %h56, H56⟩, ⟨%f57, %h57, H57⟩, ⟨%f58, %h58, H58⟩, Hk⟩
  subst h1 h56 h57 h58
  sl_exec
  sl_step
  iapply Hk
  isplitr
  · ipureintro
    exact ⟨rfl, rfl⟩
  isplitl [H1]
  · iexists _; isplitr; swap; · iexact H1
    ipureintro; rfl
  isplitl [H56]
  · iexists _; isplitr; swap; · iexact H56
    ipureintro; rfl
  isplitl [H57]
  · iexists _; isplitr; swap; · iexact H57
    ipureintro; exact View.read_writes_cons_put _ _ _ _ [] rfl
  iexists _; isplitr; swap; · iexact H58
  ipureintro; rfl

/-- Part 17 of the body: what it returns and what it leaves in the buffers it stores to. -/
theorem wp_part17 (c : Dev nD) (i : grid0.Coords) (a : Bufs) (v161 : FVec F S112x256 .f32) (v171 : FVec F S112x256 .f32) (v181 : FVec F S112x256 .f32) (v191 : FVec F S112x256 .f32) (v385 : FVec F S224x1024 .f32) (v389 : FVec F S224x1024 .f32) (X56 : Vec F S2x1024x256 .bf16) (X57 : Vec F S2x1024x256 .bf16) (X59 : Vec F S2x1024 .f32) (X60 : Vec F S112x2048 .f32)
    (E : Set ℕ) (K : (Σ' (v424 : FVec F S224x256 .bf16) (v426 : FVec F S1024x256 .bf16), FVec F S224x1024 .f32) → sProp 𝕄) :
    iprop(owns (c : Thread nD τ) a.m56 fullShare X56 ∗ owns (c : Thread nD τ) a.m57 fullShare X57 ∗ owns (c : Thread nD τ) a.m59 fullShare X59 ∗ owns (c : Thread nD τ) a.m60 fullShare X60 ∗
      (∀ (r : (Σ' (v424 : FVec F S224x256 .bf16) (v426 : FVec F S1024x256 .bf16), FVec F S224x1024 .f32)) (Y60 : Vec F S112x2048 .f32), iprop(⌜r = ⟨k0_pay113 v161 v171 v181 v191, k0_pay114 (View.ld X56 (Rect.unit (s := S2x1024x256) ![1, 0, 0] S1x1024x256.size inb_S2x1024x256_S1x1024x256_1_0_0)), (constant S224x1024 .f32 0x00000000#32)⟩ ∧ Y60 = (VecWindow.put (VecWindow.put (VecWindow.put (VecWindow.put X60 ![56, 0] S56x256.size (k0_pay109 v385 v389 (View.ld X59 (Rect.unit (s := S2x1024) ![1, 0] S1x1024.size inb_S2x1024_S1x1024_1_0)) (View.ld X57 (Rect.unit (s := S2x1024x256) ![1, 0, 0] S1x1024x256.size inb_S2x1024x256_S1x1024x256_1_0_0)))) ![56, 256] S56x256.size (k0_pay110 v385 v389 (View.ld X59 (Rect.unit (s := S2x1024) ![1, 0] S1x1024.size inb_S2x1024_S1x1024_1_0)) (View.ld X57 (Rect.unit (s := S2x1024x256) ![1, 0, 0] S1x1024x256.size inb_S2x1024x256_S1x1024x256_1_0_0)))) ![56, 512] S56x256.size (k0_pay111 v385 v389 (View.ld X59 (Rect.unit (s := S2x1024) ![1, 0] S1x1024.size inb_S2x1024_S1x1024_1_0)) (View.ld X57 (Rect.unit (s := S2x1024x256) ![1, 0, 0] S1x1024x256.size inb_S2x1024x256_S1x1024x256_1_0_0)))) ![56, 768] S56x256.size (k0_pay112 v385 v389 (View.ld X59 (Rect.unit (s := S2x1024) ![1, 0] S1x1024.size inb_S2x1024_S1x1024_1_0)) (View.ld X57 (Rect.unit (s := S2x1024x256) ![1, 0, 0] S1x1024x256.size inb_S2x1024x256_S1x1024x256_1_0_0))))⌝ ∗ owns (c : Thread nD τ) a.m56 fullShare X56 ∗ owns (c : Thread nD τ) a.m57 fullShare X57 ∗ owns (c : Thread nD τ) a.m59 fullShare X59 ∗ owns (c : Thread nD τ) a.m60 fullShare Y60) -∗ K r))
    ⊢ wp frame (wpE (defs₀ (F := F)) Variants.none c none) E (k0_part17 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 v161 v171 v181 v191 v385 v389) K := by
  rw [k0_part17_eq_skeleton]
  unfold k0_part17_skel owns
  iintro ⟨⟨%f56, %h56, H56⟩, ⟨%f57, %h57, H57⟩, ⟨%f59, %h59, H59⟩, ⟨%f60, %h60, H60⟩, Hk⟩
  subst h56 h57 h59 h60
  sl_exec
  sl_step
  iapply Hk
  isplitr
  · ipureintro
    exact ⟨rfl, rfl⟩
  isplitl [H56]
  · iexists _; isplitr; swap; · iexact H56
    ipureintro; rfl
  isplitl [H57]
  · iexists _; isplitr; swap; · iexact H57
    ipureintro; rfl
  isplitl [H59]
  · iexists _; isplitr; swap; · iexact H59
    ipureintro; rfl
  iexists _; isplitr; swap; · iexact H60
  ipureintro; (iterate 4 rw [View.read_writes_cons_put (h := rfl)]); rfl

/-- Part 18 of the body: what it returns and what it leaves in the buffers it stores to. -/
theorem wp_part18 (c : Dev nD) (i : grid0.Coords) (a : Bufs) (v371 : IVec S224x1024 1) (v424 : FVec F S224x256 .bf16) (v426 : FVec F S1024x256 .bf16) (cst_136 : FVec F S224x1024 .f32) (X57 : Vec F S2x1024x256 .bf16) (X58 : Vec F S2x1024 .f32) (X59 : Vec F S2x1024 .f32) (X60 : Vec F S112x2048 .f32)
    (E : Set ℕ) (K : (FVec F S56x256 .f32) → sProp 𝕄) :
    iprop(owns (c : Thread nD τ) a.m57 fullShare X57 ∗ owns (c : Thread nD τ) a.m58 fullShare X58 ∗ owns (c : Thread nD τ) a.m59 fullShare X59 ∗ owns (c : Thread nD τ) a.m60 fullShare X60 ∗
      (∀ (r : (FVec F S56x256 .f32)) (Y60 : Vec F S112x2048 .f32), iprop(⌜r = (k0_pay119 v371 v424 v426 cst_136 (View.ld X58 (Rect.unit (s := S2x1024) ![1, 0] S1x1024.size inb_S2x1024_S1x1024_1_0)) (View.ld X59 (Rect.unit (s := S2x1024) ![1, 0] S1x1024.size inb_S2x1024_S1x1024_1_0)) (View.ld X57 (Rect.unit (s := S2x1024x256) ![1, 0, 0] S1x1024x256.size inb_S2x1024x256_S1x1024x256_1_0_0))) ∧ Y60 = (VecWindow.put (VecWindow.put (VecWindow.put X60 ![56, 1024] S56x256.size (k0_pay116 v371 v424 v426 cst_136 (View.ld X58 (Rect.unit (s := S2x1024) ![1, 0] S1x1024.size inb_S2x1024_S1x1024_1_0)) (View.ld X59 (Rect.unit (s := S2x1024) ![1, 0] S1x1024.size inb_S2x1024_S1x1024_1_0)) (View.ld X57 (Rect.unit (s := S2x1024x256) ![1, 0, 0] S1x1024x256.size inb_S2x1024x256_S1x1024x256_1_0_0)))) ![56, 1280] S56x256.size (k0_pay117 v371 v424 v426 cst_136 (View.ld X58 (Rect.unit (s := S2x1024) ![1, 0] S1x1024.size inb_S2x1024_S1x1024_1_0)) (View.ld X59 (Rect.unit (s := S2x1024) ![1, 0] S1x1024.size inb_S2x1024_S1x1024_1_0)) (View.ld X57 (Rect.unit (s := S2x1024x256) ![1, 0, 0] S1x1024x256.size inb_S2x1024x256_S1x1024x256_1_0_0)))) ![56, 1536] S56x256.size (k0_pay118 v371 v424 v426 cst_136 (View.ld X58 (Rect.unit (s := S2x1024) ![1, 0] S1x1024.size inb_S2x1024_S1x1024_1_0)) (View.ld X59 (Rect.unit (s := S2x1024) ![1, 0] S1x1024.size inb_S2x1024_S1x1024_1_0)) (View.ld X57 (Rect.unit (s := S2x1024x256) ![1, 0, 0] S1x1024x256.size inb_S2x1024x256_S1x1024x256_1_0_0))))⌝ ∗ owns (c : Thread nD τ) a.m57 fullShare X57 ∗ owns (c : Thread nD τ) a.m58 fullShare X58 ∗ owns (c : Thread nD τ) a.m59 fullShare X59 ∗ owns (c : Thread nD τ) a.m60 fullShare Y60) -∗ K r))
    ⊢ wp frame (wpE (defs₀ (F := F)) Variants.none c none) E (k0_part18 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 v371 v424 v426 cst_136) K := by
  rw [k0_part18_eq_skeleton]
  unfold k0_part18_skel owns
  iintro ⟨⟨%f57, %h57, H57⟩, ⟨%f58, %h58, H58⟩, ⟨%f59, %h59, H59⟩, ⟨%f60, %h60, H60⟩, Hk⟩
  subst h57 h58 h59 h60
  sl_exec
  sl_step
  iapply Hk
  isplitr
  · ipureintro
    exact ⟨rfl, rfl⟩
  isplitl [H57]
  · iexists _; isplitr; swap; · iexact H57
    ipureintro; rfl
  isplitl [H58]
  · iexists _; isplitr; swap; · iexact H58
    ipureintro; rfl
  isplitl [H59]
  · iexists _; isplitr; swap; · iexact H59
    ipureintro; rfl
  iexists _; isplitr; swap; · iexact H60
  ipureintro; (iterate 3 rw [View.read_writes_cons_put (h := rfl)]); rfl

/-- Part 19 of the body: what it returns and what it leaves in the buffers it stores to. -/
theorem wp_part19 (c : Dev nD) (i : grid0.Coords) (a : Bufs) (v56 : FVec F S112x1024 .f32) (v462 : FVec F S56x256 .f32) (X16 : Vec F S1x1024 .f32) (X19 : Vec F S2048x1024 .fp8e4m3) (X20 : Vec F S1x1024 .f32) (X60 : Vec F S112x2048 .f32)
    (E : Set ℕ) (K : (Σ' (v466 : Vec F S112x2048 .f32) (v475 : FVec F S112x1 .f32) (v484 : FVec F S128x2048 .fp8e4m3) (v494 : FVec F S112x1024 .f32) (v495 : Vec F S1x1024 .f32), FVec F S112x1024 .f32) → sProp 𝕄) :
    iprop(owns (c : Thread nD τ) a.m16 fullShare X16 ∗ owns (c : Thread nD τ) a.m19 fullShare X19 ∗ owns (c : Thread nD τ) a.m20 fullShare X20 ∗ owns (c : Thread nD τ) a.m60 fullShare X60 ∗
      (∀ (r : (Σ' (v466 : Vec F S112x2048 .f32) (v475 : FVec F S112x1 .f32) (v484 : FVec F S128x2048 .fp8e4m3) (v494 : FVec F S112x1024 .f32) (v495 : Vec F S1x1024 .f32), FVec F S112x1024 .f32)) (Y60 : Vec F S112x2048 .f32), iprop(⌜r = ⟨(View.ld (VecWindow.put X60 ![56, 1792] S56x256.size (k0_pay120 v462)) (Rect.unit (s := S112x2048) ![0, 0] S112x2048.size inb_S112x2048_S112x2048_0_0)), k0_pay121 (View.ld (VecWindow.put X60 ![56, 1792] S56x256.size (k0_pay120 v462)) (Rect.unit (s := S112x2048) ![0, 0] S112x2048.size inb_S112x2048_S112x2048_0_0)), k0_pay122 (View.ld (VecWindow.put X60 ![56, 1792] S56x256.size (k0_pay120 v462)) (Rect.unit (s := S112x2048) ![0, 0] S112x2048.size inb_S112x2048_S112x2048_0_0)), k0_pay123 v56 (View.ld (VecWindow.put X60 ![56, 1792] S56x256.size (k0_pay120 v462)) (Rect.unit (s := S112x2048) ![0, 0] S112x2048.size inb_S112x2048_S112x2048_0_0)) (View.ld X19 (Rect.unit (s := S2048x1024) ![0, 0] S2048x1024.size inb_S2048x1024_S2048x1024_0_0)) (View.ld X20 (Rect.unit (s := S1x1024) ![0, 0] S1x1024.size inb_S1x1024_S1x1024_0_0)), (View.ld X16 (Rect.unit (s := S1x1024) ![0, 0] S1x1024.size inb_S1x1024_S1x1024_0_0)), k0_pay124 v56 (View.ld (VecWindow.put X60 ![56, 1792] S56x256.size (k0_pay120 v462)) (Rect.unit (s := S112x2048) ![0, 0] S112x2048.size inb_S112x2048_S112x2048_0_0)) (View.ld X19 (Rect.unit (s := S2048x1024) ![0, 0] S2048x1024.size inb_S2048x1024_S2048x1024_0_0)) (View.ld X20 (Rect.unit (s := S1x1024) ![0, 0] S1x1024.size inb_S1x1024_S1x1024_0_0))⟩ ∧ Y60 = (VecWindow.put X60 ![56, 1792] S56x256.size (k0_pay120 v462))⌝ ∗ owns (c : Thread nD τ) a.m16 fullShare X16 ∗ owns (c : Thread nD τ) a.m19 fullShare X19 ∗ owns (c : Thread nD τ) a.m20 fullShare X20 ∗ owns (c : Thread nD τ) a.m60 fullShare Y60) -∗ K r))
    ⊢ wp frame (wpE (defs₀ (F := F)) Variants.none c none) E (k0_part19 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 v56 v462) K := by
  rw [k0_part19_eq_skeleton]
  unfold k0_part19_skel owns
  iintro ⟨⟨%f16, %h16, H16⟩, ⟨%f19, %h19, H19⟩, ⟨%f20, %h20, H20⟩, ⟨%f60, %h60, H60⟩, Hk⟩
  subst h16 h19 h20 h60
  sl_exec
  sl_step
  iapply Hk
  isplitr
  · ipureintro
    have e : a.m60.view.read (Elt F) (a.m60.view.writes (Elt F) f60 [⟨Rect.unit (s := S112x2048) ![56, 1792] S56x256.size inb_S112x2048_S56x256_56_1792, k0_pay120 v462⟩]) =
        VecWindow.put (a.m60.view.read (Elt F) f60) ![56, 1792] S56x256.size (k0_pay120 v462) := View.read_writes_cons_put _ _ _ _ [] rfl
    exact ⟨by rw [← e]; rfl, rfl⟩
  isplitl [H16]
  · iexists _; isplitr; swap; · iexact H16
    ipureintro; rfl
  isplitl [H19]
  · iexists _; isplitr; swap; · iexact H19
    ipureintro; rfl
  isplitl [H20]
  · iexists _; isplitr; swap; · iexact H20
    ipureintro; rfl
  iexists _; isplitr; swap; · iexact H60
  ipureintro; exact View.read_writes_cons_put _ _ _ _ [] rfl

end Cert.Kernel.Named

end
-- ==== Proof.BitsPartsC.lean ====
/- The parts of the body with the gated feed-forward layer and the velocities. -/
module

public import proofs.«01_k».proof.Proof.BitsBufs
public import Idealize.ShloMosaic.Lib.VecWindow

@[expose] public section

set_option maxRecDepth 16384

noncomputable section

namespace Cert.Kernel.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- Part 20 of the body: what it returns and what it leaves in the buffers it stores to. -/
theorem wp_part20 (c : Dev nD) (i : grid0.Coords) (a : Bufs) (v494 : FVec F S112x1024 .f32) (v495 : Vec F S1x1024 .f32) (v504 : FVec F S112x1024 .f32) (X21 : Vec F S2x1024x4096 .fp8e4m3) (X22 : Vec F S2x4096 .f32)
    (E : Set ℕ) (K : (Σ' (v518 : FVec F S112x1 .f32) (v527 : FVec F S128x1024 .fp8e4m3) (v537 : FVec F S112x4096 .f32) (v543 : FVec F S112x4096 .f32), Vec F S1x4096 .f32) → sProp 𝕄) :
    iprop(owns (c : Thread nD τ) a.m21 fullShare X21 ∗ owns (c : Thread nD τ) a.m22 fullShare X22 ∗
      (∀ (r : (Σ' (v518 : FVec F S112x1 .f32) (v527 : FVec F S128x1024 .fp8e4m3) (v537 : FVec F S112x4096 .f32) (v543 : FVec F S112x4096 .f32), Vec F S1x4096 .f32)), iprop(⌜r = ⟨k0_pay126 v494 v495 v504, k0_pay127 v494 v495 v504, k0_pay128 v494 v495 v504 (View.ld X21 (Rect.unit (s := S2x1024x4096) ![0, 0, 0] S1x1024x4096.size inb_S2x1024x4096_S1x1024x4096_0_0_0)) (View.ld X22 (Rect.unit (s := S2x4096) ![0, 0] S1x4096.size inb_S2x4096_S1x4096_0_0)), k0_pay129 v494 v495 v504 (View.ld X21 (Rect.unit (s := S2x1024x4096) ![1, 0, 0] S1x1024x4096.size inb_S2x1024x4096_S1x1024x4096_1_0_0)), (View.ld X22 (Rect.unit (s := S2x4096) ![1, 0] S1x4096.size inb_S2x4096_S1x4096_1_0))⟩⌝ ∗ owns (c : Thread nD τ) a.m21 fullShare X21 ∗ owns (c : Thread nD τ) a.m22 fullShare X22) -∗ K r))
    ⊢ wp frame (wpE (defs₀ (F := F)) Variants.none c none) E (k0_part20 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 v494 v495 v504) K := by
  rw [k0_part20_eq_skeleton]
  unfold k0_part20_skel owns
  iintro ⟨⟨%f21, %h21, H21⟩, ⟨%f22, %h22, H22⟩, Hk⟩
  subst h21 h22
  sl_exec
  sl_step
  iapply Hk
  isplitr
  · ipureintro
    rfl
  isplitl [H21]
  · iexists _; isplitr; swap; · iexact H21
    ipureintro; rfl
  iexists _; isplitr; swap; · iexact H22
  ipureintro; rfl

/-- Part 21 of the body: what it returns and what it leaves in the buffers it stores to. -/
theorem wp_part21 (c : Dev nD) (i : grid0.Coords) (a : Bufs) (v537 : FVec F S112x4096 .f32) (v543 : FVec F S112x4096 .f32) (v544 : Vec F S1x4096 .f32) (X23 : Vec F S4096x1024 .fp8e4m3) (X24 : Vec F S1x1024 .f32)
    (E : Set ℕ) (K : (Σ' (v570 : FVec F S112x1 .f32) (v579 : FVec F S128x4096 .fp8e4m3), FVec F S112x1024 .f32) → sProp 𝕄) :
    iprop(owns (c : Thread nD τ) a.m23 fullShare X23 ∗ owns (c : Thread nD τ) a.m24 fullShare X24 ∗
      (∀ (r : (Σ' (v570 : FVec F S112x1 .f32) (v579 : FVec F S128x4096 .fp8e4m3), FVec F S112x1024 .f32)), iprop(⌜r = ⟨k0_pay131 v537 v543 v544, k0_pay132 v537 v543 v544, k0_pay133 v537 v543 v544 (View.ld X23 (Rect.unit (s := S4096x1024) ![0, 0] S4096x1024.size inb_S4096x1024_S4096x1024_0_0)) (View.ld X24 (Rect.unit (s := S1x1024) ![0, 0] S1x1024.size inb_S1x1024_S1x1024_0_0))⟩⌝ ∗ owns (c : Thread nD τ) a.m23 fullShare X23 ∗ owns (c : Thread nD τ) a.m24 fullShare X24) -∗ K r))
    ⊢ wp frame (wpE (defs₀ (F := F)) Variants.none c none) E (k0_part21 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 v537 v543 v544) K := by
  rw [k0_part21_eq_skeleton]
  unfold k0_part21_skel owns
  iintro ⟨⟨%f23, %h23, H23⟩, ⟨%f24, %h24, H24⟩, Hk⟩
  subst h23 h24
  sl_exec
  sl_step
  iapply Hk
  isplitr
  · ipureintro
    rfl
  isplitl [H23]
  · iexists _; isplitr; swap; · iexact H23
    ipureintro; rfl
  iexists _; isplitr; swap; · iexact H24
  ipureintro; rfl

/-- Part 22 of the body: what it returns and what it leaves in the buffers it stores to. -/
theorem wp_part22 (c : Dev nD) (i : grid0.Coords) (a : Bufs) (v4 : Vec F S112x32 .f32) (v494 : FVec F S112x1024 .f32) (v588 : FVec F S112x1024 .f32) (X25 : Vec F S1x1024 .f32) (X26 : Vec F S1024x32 .f32) (X27 : Vec F S1x32 .f32) (X34 : Vec F S2 .f32) (X35 : Vec F S1x2x50x32 .f32) (X51 : Vec F S112x32 .f32)
    (E : Set ℕ) (K : (Σ' (v589 : FVec F S112x1024 .f32) (v625 : FVec F S56x32 .f32), FVec F S50x32 .f32) → sProp 𝕄) :
    iprop(owns (c : Thread nD τ) a.m25 fullShare X25 ∗ owns (c : Thread nD τ) a.m26 fullShare X26 ∗ owns (c : Thread nD τ) a.m27 fullShare X27 ∗ owns (c : Thread nD τ) a.m34 fullShare X34 ∗ owns (c : Thread nD τ) a.m35 fullShare X35 ∗ owns (c : Thread nD τ) a.m51 fullShare X51 ∗
      (∀ (r : (Σ' (v589 : FVec F S112x1024 .f32) (v625 : FVec F S56x32 .f32), FVec F S50x32 .f32)) (Y35 : Vec F S1x2x50x32 .f32) (Y51 : Vec F S112x32 .f32), iprop(⌜r = ⟨k0_pay134 v494 v588, k0_pay139 v494 v588 (View.ld X25 (Rect.unit (s := S1x1024) ![0, 0] S1x1024.size inb_S1x1024_S1x1024_0_0)) (View.ld X26 (Rect.unit (s := S1024x32) ![0, 0] S1024x32.size inb_S1024x32_S1024x32_0_0)) (View.ld X27 (Rect.unit (s := S1x32) ![0, 0] S1x32.size inb_S1x32_S1x32_0_0)), k0_pay140 v494 v588 (View.ld X25 (Rect.unit (s := S1x1024) ![0, 0] S1x1024.size inb_S1x1024_S1x1024_0_0)) (View.ld X26 (Rect.unit (s := S1024x32) ![0, 0] S1024x32.size inb_S1024x32_S1024x32_0_0)) (View.ld X27 (Rect.unit (s := S1x32) ![0, 0] S1x32.size inb_S1x32_S1x32_0_0))⟩ ∧ Y35 = (VecWindow.put X35 ![0, 0, 0, 0] S1x1x50x32.size (k0_pay137 v494 v588 (View.ld X25 (Rect.unit (s := S1x1024) ![0, 0] S1x1024.size inb_S1x1024_S1x1024_0_0)) (View.ld X26 (Rect.unit (s := S1024x32) ![0, 0] S1024x32.size inb_S1024x32_S1024x32_0_0)) (View.ld X27 (Rect.unit (s := S1x32) ![0, 0] S1x32.size inb_S1x32_S1x32_0_0)))) ∧ Y51 = (VecWindow.put X51 ![0, 0] S56x32.size (k0_pay138 v4 v494 v588 (View.ld X25 (Rect.unit (s := S1x1024) ![0, 0] S1x1024.size inb_S1x1024_S1x1024_0_0)) (View.ld X26 (Rect.unit (s := S1024x32) ![0, 0] S1024x32.size inb_S1024x32_S1024x32_0_0)) (View.ld X27 (Rect.unit (s := S1x32) ![0, 0] S1x32.size inb_S1x32_S1x32_0_0)) (View.ld X34 (Rect.unit (s := S2) ![0] S1.size inb_S2_S1_0) (Shape.Idx.first (numel1_S1.symm ▸ Nat.one_pos)))))⌝ ∗ owns (c : Thread nD τ) a.m25 fullShare X25 ∗ owns (c : Thread nD τ) a.m26 fullShare X26 ∗ owns (c : Thread nD τ) a.m27 fullShare X27 ∗ owns (c : Thread nD τ) a.m34 fullShare X34 ∗ owns (c : Thread nD τ) a.m35 fullShare Y35 ∗ owns (c : Thread nD τ) a.m51 fullShare Y51) -∗ K r))
    ⊢ wp frame (wpE (defs₀ (F := F)) Variants.none c none) E (k0_part22 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 v4 v494 v588) K := by
  rw [k0_part22_eq_skeleton]
  unfold k0_part22_skel owns
  iintro ⟨⟨%f25, %h25, H25⟩, ⟨%f26, %h26, H26⟩, ⟨%f27, %h27, H27⟩, ⟨%f34, %h34, H34⟩, ⟨%f35, %h35, H35⟩, ⟨%f51, %h51, H51⟩, Hk⟩
  subst h25 h26 h27 h34 h35 h51
  sl_exec
  sl_step
  iapply Hk
  isplitr
  · ipureintro
    exact ⟨rfl, rfl, rfl⟩
  isplitl [H25]
  · iexists _; isplitr; swap; · iexact H25
    ipureintro; rfl
  isplitl [H26]
  · iexists _; isplitr; swap; · iexact H26
    ipureintro; rfl
  isplitl [H27]
  · iexists _; isplitr; swap; · iexact H27
    ipureintro; rfl
  isplitl [H34]
  · iexists _; isplitr; swap; · iexact H34
    ipureintro; rfl
  isplitl [H35]
  · iexists _; isplitr; swap; · iexact H35
    ipureintro; exact View.read_writes_cons_put _ _ _ _ [] rfl
  iexists _; isplitr; swap; · iexact H51
  ipureintro; exact View.read_writes_cons_put _ _ _ _ [] rfl

end Cert.Kernel.Named

end
-- ==== Proof.BitsPartsOut.lean ====
/- The parts of the body that store the intermediate arrays of the first step. -/
module

public import proofs.«01_k».proof.Proof.BitsBufs
public import Idealize.ShloMosaic.Lib.VecWindow

@[expose] public section

set_option maxRecDepth 16384

noncomputable section

namespace Cert.Kernel.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- Part 5 of the body: what it returns and what it leaves in the buffers it stores to. -/
theorem wp_part5 (c : Dev nD) (i : grid0.Coords) (a : Bufs) (v80 : FVec F S112x1 .f32) (v89 : FVec F S128x1024 .fp8e4m3) (v110 : FVec F S112x256 .f32) (v111 : FVec F S112x256 .f32) (v466 : Vec F S112x2048 .f32) (v484 : FVec F S128x2048 .fp8e4m3) (X38 : Vec F S2x51x256 .bf16) (X39 : Vec F S2x51x256 .bf16) (X40 : Vec F S2x2048 .f32) (X41 : Vec F S2x50x2048 .bf16) (X42 : Vec F S2x51x1024 .fp8e4m3) (X43 : Vec F S2x51x1 .f32) (X44 : Vec F S2x51x2048 .fp8e4m3)
    (E : Set ℕ) (K : (PUnit) → sProp 𝕄) :
    iprop(owns (c : Thread nD τ) a.m38 fullShare X38 ∗ owns (c : Thread nD τ) a.m39 fullShare X39 ∗ owns (c : Thread nD τ) a.m40 fullShare X40 ∗ owns (c : Thread nD τ) a.m41 fullShare X41 ∗ owns (c : Thread nD τ) a.m42 fullShare X42 ∗ owns (c : Thread nD τ) a.m43 fullShare X43 ∗ owns (c : Thread nD τ) a.m44 fullShare X44 ∗
      (∀ (r : (PUnit)) (Y38 : Vec F S2x51x256 .bf16) (Y39 : Vec F S2x51x256 .bf16) (Y40 : Vec F S2x2048 .f32) (Y41 : Vec F S2x50x2048 .bf16) (Y42 : Vec F S2x51x1024 .fp8e4m3) (Y43 : Vec F S2x51x1 .f32) (Y44 : Vec F S2x51x2048 .fp8e4m3), iprop(⌜r = PUnit.unit ∧ Y38 = (VecWindow.put X38 ![0, 0, 0] S1x51x256.size (k0_pay28 v110)) ∧ Y39 = (VecWindow.put X39 ![0, 0, 0] S1x51x256.size (k0_pay29 v111)) ∧ Y40 = (VecWindow.put X40 ![0, 0] S1x2048.size (k0_pay30 v466)) ∧ Y41 = (VecWindow.put X41 ![0, 0, 0] S1x50x2048.size (k0_pay31 v466)) ∧ Y42 = (VecWindow.put X42 ![0, 0, 0] S1x51x1024.size (k0_pay32 v89)) ∧ Y43 = (VecWindow.put X43 ![0, 0, 0] S1x51x1.size (k0_pay33 v80)) ∧ Y44 = (VecWindow.put X44 ![0, 0, 0] S1x51x2048.size (k0_pay34 v484))⌝ ∗ owns (c : Thread nD τ) a.m38 fullShare Y38 ∗ owns (c : Thread nD τ) a.m39 fullShare Y39 ∗ owns (c : Thread nD τ) a.m40 fullShare Y40 ∗ owns (c : Thread nD τ) a.m41 fullShare Y41 ∗ owns (c : Thread nD τ) a.m42 fullShare Y42 ∗ owns (c : Thread nD τ) a.m43 fullShare Y43 ∗ owns (c : Thread nD τ) a.m44 fullShare Y44) -∗ K r))
    ⊢ wp frame (wpE (defs₀ (F := F)) Variants.none c none) E (k0_part5 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 v80 v89 v110 v111 v466 v484) K := by
  rw [k0_part5_eq_skeleton]
  unfold k0_part5_skel owns
  iintro ⟨⟨%f38, %h38, H38⟩, ⟨%f39, %h39, H39⟩, ⟨%f40, %h40, H40⟩, ⟨%f41, %h41, H41⟩, ⟨%f42, %h42, H42⟩, ⟨%f43, %h43, H43⟩, ⟨%f44, %h44, H44⟩, Hk⟩
  subst h38 h39 h40 h41 h42 h43 h44
  sl_exec
  sl_step
  iapply Hk
  isplitr
  · ipureintro
    exact ⟨rfl, rfl, rfl, rfl, rfl, rfl, rfl, rfl⟩
  isplitl [H38]
  · iexists _; isplitr; swap; · iexact H38
    ipureintro; exact View.read_writes_cons_put _ _ _ _ [] rfl
  isplitl [H39]
  · iexists _; isplitr; swap; · iexact H39
    ipureintro; exact View.read_writes_cons_put _ _ _ _ [] rfl
  isplitl [H40]
  · iexists _; isplitr; swap; · iexact H40
    ipureintro; exact View.read_writes_cons_put _ _ _ _ [] rfl
  isplitl [H41]
  · iexists _; isplitr; swap; · iexact H41
    ipureintro; exact View.read_writes_cons_put _ _ _ _ [] rfl
  isplitl [H42]
  · iexists _; isplitr; swap; · iexact H42
    ipureintro; exact View.read_writes_cons_put _ _ _ _ [] rfl
  isplitl [H43]
  · iexists _; isplitr; swap; · iexact H43
    ipureintro; exact View.read_writes_cons_put _ _ _ _ [] rfl
  iexists _; isplitr; swap; · iexact H44
  ipureintro; exact View.read_writes_cons_put _ _ _ _ [] rfl

/-- Part 6 of the body: what it returns and what it leaves in the buffers it stores to. -/
theorem wp_part6 (c : Dev nD) (i : grid0.Coords) (a : Bufs) (v110 : FVec F S112x256 .f32) (v111 : FVec F S112x256 .f32) (v475 : FVec F S112x1 .f32) (v518 : FVec F S112x1 .f32) (v527 : FVec F S128x1024 .fp8e4m3) (v570 : FVec F S112x1 .f32) (v579 : FVec F S128x4096 .fp8e4m3) (X38 : Vec F S2x51x256 .bf16) (X39 : Vec F S2x51x256 .bf16) (X45 : Vec F S2x51x1 .f32) (X46 : Vec F S2x51x1024 .fp8e4m3) (X47 : Vec F S2x51x1 .f32) (X48 : Vec F S2x51x4096 .fp8e4m3) (X49 : Vec F S2x51x1 .f32)
    (E : Set ℕ) (K : (FVec F S51x256 .bf16) → sProp 𝕄) :
    iprop(owns (c : Thread nD τ) a.m38 fullShare X38 ∗ owns (c : Thread nD τ) a.m39 fullShare X39 ∗ owns (c : Thread nD τ) a.m45 fullShare X45 ∗ owns (c : Thread nD τ) a.m46 fullShare X46 ∗ owns (c : Thread nD τ) a.m47 fullShare X47 ∗ owns (c : Thread nD τ) a.m48 fullShare X48 ∗ owns (c : Thread nD τ) a.m49 fullShare X49 ∗
      (∀ (r : (FVec F S51x256 .bf16)) (Y38 : Vec F S2x51x256 .bf16) (Y45 : Vec F S2x51x1 .f32) (Y46 : Vec F S2x51x1024 .fp8e4m3) (Y47 : Vec F S2x51x1 .f32) (Y48 : Vec F S2x51x4096 .fp8e4m3) (Y49 : Vec F S2x51x1 .f32), iprop(⌜r = (k0_pay41 v111) ∧ Y38 = (VecWindow.put X38 ![1, 0, 0] S1x51x256.size (k0_pay40 v110)) ∧ Y45 = (VecWindow.put X45 ![0, 0, 0] S1x51x1.size (k0_pay35 v475)) ∧ Y46 = (VecWindow.put X46 ![0, 0, 0] S1x51x1024.size (k0_pay36 v527)) ∧ Y47 = (VecWindow.put X47 ![0, 0, 0] S1x51x1.size (k0_pay37 v518)) ∧ Y48 = (VecWindow.put X48 ![0, 0, 0] S1x51x4096.size (k0_pay38 v579)) ∧ Y49 = (VecWindow.put X49 ![0, 0, 0] S1x51x1.size (k0_pay39 v570))⌝ ∗ owns (c : Thread nD τ) a.m38 fullShare Y38 ∗ owns (c : Thread nD τ) a.m39 fullShare X39 ∗ owns (c : Thread nD τ) a.m45 fullShare Y45 ∗ owns (c : Thread nD τ) a.m46 fullShare Y46 ∗ owns (c : Thread nD τ) a.m47 fullShare Y47 ∗ owns (c : Thread nD τ) a.m48 fullShare Y48 ∗ owns (c : Thread nD τ) a.m49 fullShare Y49) -∗ K r))
    ⊢ wp frame (wpE (defs₀ (F := F)) Variants.none c none) E (k0_part6 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 v110 v111 v475 v518 v527 v570 v579) K := by
  rw [k0_part6_eq_skeleton]
  unfold k0_part6_skel owns
  iintro ⟨⟨%f38, %h38, H38⟩, ⟨%f39, %h39, H39⟩, ⟨%f45, %h45, H45⟩, ⟨%f46, %h46, H46⟩, ⟨%f47, %h47, H47⟩, ⟨%f48, %h48, H48⟩, ⟨%f49, %h49, H49⟩, Hk⟩
  subst h38 h39 h45 h46 h47 h48 h49
  sl_exec
  sl_step
  iapply Hk
  isplitr
  · ipureintro
    exact ⟨rfl, rfl, rfl, rfl, rfl, rfl, rfl⟩
  isplitl [H38]
  · iexists _; isplitr; swap; · iexact H38
    ipureintro; exact View.read_writes_cons_put _ _ _ _ [] rfl
  isplitl [H39]
  · iexists _; isplitr; swap; · iexact H39
    ipureintro; rfl
  isplitl [H45]
  · iexists _; isplitr; swap; · iexact H45
    ipureintro; exact View.read_writes_cons_put _ _ _ _ [] rfl
  isplitl [H46]
  · iexists _; isplitr; swap; · iexact H46
    ipureintro; exact View.read_writes_cons_put _ _ _ _ [] rfl
  isplitl [H47]
  · iexists _; isplitr; swap; · iexact H47
    ipureintro; exact View.read_writes_cons_put _ _ _ _ [] rfl
  isplitl [H48]
  · iexists _; isplitr; swap; · iexact H48
    ipureintro; exact View.read_writes_cons_put _ _ _ _ [] rfl
  iexists _; isplitr; swap; · iexact H49
  ipureintro; exact View.read_writes_cons_put _ _ _ _ [] rfl

/-- Part 7 of the body: what it returns and what it leaves in the buffers it stores to. -/
theorem wp_part7 (c : Dev nD) (i : grid0.Coords) (a : Bufs) (v80 : FVec F S112x1 .f32) (v89 : FVec F S128x1024 .fp8e4m3) (v466 : Vec F S112x2048 .f32) (v475 : FVec F S112x1 .f32) (v484 : FVec F S128x2048 .fp8e4m3) (v527 : FVec F S128x1024 .fp8e4m3) (v717 : FVec F S51x256 .bf16) (X39 : Vec F S2x51x256 .bf16) (X40 : Vec F S2x2048 .f32) (X41 : Vec F S2x50x2048 .bf16) (X42 : Vec F S2x51x1024 .fp8e4m3) (X43 : Vec F S2x51x1 .f32) (X44 : Vec F S2x51x2048 .fp8e4m3) (X45 : Vec F S2x51x1 .f32) (X46 : Vec F S2x51x1024 .fp8e4m3)
    (E : Set ℕ) (K : (FVec F S51x1024 .fp8e4m3) → sProp 𝕄) :
    iprop(owns (c : Thread nD τ) a.m39 fullShare X39 ∗ owns (c : Thread nD τ) a.m40 fullShare X40 ∗ owns (c : Thread nD τ) a.m41 fullShare X41 ∗ owns (c : Thread nD τ) a.m42 fullShare X42 ∗ owns (c : Thread nD τ) a.m43 fullShare X43 ∗ owns (c : Thread nD τ) a.m44 fullShare X44 ∗ owns (c : Thread nD τ) a.m45 fullShare X45 ∗ owns (c : Thread nD τ) a.m46 fullShare X46 ∗
      (∀ (r : (FVec F S51x1024 .fp8e4m3)) (Y39 : Vec F S2x51x256 .bf16) (Y40 : Vec F S2x2048 .f32) (Y41 : Vec F S2x50x2048 .bf16) (Y42 : Vec F S2x51x1024 .fp8e4m3) (Y43 : Vec F S2x51x1 .f32) (Y44 : Vec F S2x51x2048 .fp8e4m3) (Y45 : Vec F S2x51x1 .f32), iprop(⌜r = (k0_pay49 v527) ∧ Y39 = (VecWindow.put X39 ![1, 0, 0] S1x51x256.size (k0_pay42 v717)) ∧ Y40 = (VecWindow.put X40 ![1, 0] S1x2048.size (k0_pay43 v466)) ∧ Y41 = (VecWindow.put X41 ![1, 0, 0] S1x50x2048.size (k0_pay44 v466)) ∧ Y42 = (VecWindow.put X42 ![1, 0, 0] S1x51x1024.size (k0_pay45 v89)) ∧ Y43 = (VecWindow.put X43 ![1, 0, 0] S1x51x1.size (k0_pay46 v80)) ∧ Y44 = (VecWindow.put X44 ![1, 0, 0] S1x51x2048.size (k0_pay47 v484)) ∧ Y45 = (VecWindow.put X45 ![1, 0, 0] S1x51x1.size (k0_pay48 v475))⌝ ∗ owns (c : Thread nD τ) a.m39 fullShare Y39 ∗ owns (c : Thread nD τ) a.m40 fullShare Y40 ∗ owns (c : Thread nD τ) a.m41 fullShare Y41 ∗ owns (c : Thread nD τ) a.m42 fullShare Y42 ∗ owns (c : Thread nD τ) a.m43 fullShare Y43 ∗ owns (c : Thread nD τ) a.m44 fullShare Y44 ∗ owns (c : Thread nD τ) a.m45 fullShare Y45 ∗ owns (c : Thread nD τ) a.m46 fullShare X46) -∗ K r))
    ⊢ wp frame (wpE (defs₀ (F := F)) Variants.none c none) E (k0_part7 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 v80 v89 v466 v475 v484 v527 v717) K := by
  rw [k0_part7_eq_skeleton]
  unfold k0_part7_skel owns
  iintro ⟨⟨%f39, %h39, H39⟩, ⟨%f40, %h40, H40⟩, ⟨%f41, %h41, H41⟩, ⟨%f42, %h42, H42⟩, ⟨%f43, %h43, H43⟩, ⟨%f44, %h44, H44⟩, ⟨%f45, %h45, H45⟩, ⟨%f46, %h46, H46⟩, Hk⟩
  subst h39 h40 h41 h42 h43 h44 h45 h46
  sl_exec
  sl_step
  iapply Hk
  isplitr
  · ipureintro
    exact ⟨rfl, rfl, rfl, rfl, rfl, rfl, rfl, rfl⟩
  isplitl [H39]
  · iexists _; isplitr; swap; · iexact H39
    ipureintro; exact View.read_writes_cons_put _ _ _ _ [] rfl
  isplitl [H40]
  · iexists _; isplitr; swap; · iexact H40
    ipureintro; exact View.read_writes_cons_put _ _ _ _ [] rfl
  isplitl [H41]
  · iexists _; isplitr; swap; · iexact H41
    ipureintro; exact View.read_writes_cons_put _ _ _ _ [] rfl
  isplitl [H42]
  · iexists _; isplitr; swap; · iexact H42
    ipureintro; exact View.read_writes_cons_put _ _ _ _ [] rfl
  isplitl [H43]
  · iexists _; isplitr; swap; · iexact H43
    ipureintro; exact View.read_writes_cons_put _ _ _ _ [] rfl
  isplitl [H44]
  · iexists _; isplitr; swap; · iexact H44
    ipureintro; exact View.read_writes_cons_put _ _ _ _ [] rfl
  isplitl [H45]
  · iexists _; isplitr; swap; · iexact H45
    ipureintro; exact View.read_writes_cons_put _ _ _ _ [] rfl
  iexists _; isplitr; swap; · iexact H46
  ipureintro; rfl

end Cert.Kernel.Named

end
-- ==== Proof.BitsVals.lean ====
/- The values the kernel body computes at one grid point, each named: from the inputs `x` and the carried scratch `p`. -/
module

public import proofs.«01_k».proof.Proof.BitsBufs
public import Idealize.ShloMosaic.Lib.VecWindow

@[expose] public section

set_option maxRecDepth 16384

noncomputable section

namespace Cert.Kernel.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- Two contents with the same window written over them agree at an element if they agree there whenever it lies outside the window. -/
theorem put_congr {S : Shape} {α : Type} (X X' : S.Idx → α) (off size : Fin S.rank → ℕ) (w : ((a : Fin S.rank) → Fin (size a)) → α) (y : S.Idx)
    (h : (¬ ∀ a, off a ≤ (y a).val ∧ (y a).val < off a + size a) → X y = X' y) :
    VecWindow.put X off size w y = VecWindow.put X' off size w y := by
  unfold VecWindow.put
  split_ifs with hy
  · rfl
  · exact h hy

/-- An element in a window's rows but outside the window, and not left of it, lies right of it. -/
theorem miss {y : S112x2048.Idx} {r c : ℕ} (n : ¬ ∀ a, ((![r, c] : Fin 2 → ℕ) a) ≤ (y a).val ∧ (y a).val < (![r, c] : Fin 2 → ℕ) a + S56x256.size a)
    (hr : r ≤ (y 0).val ∧ (y 0).val < r + 56) (hc : c ≤ (y 1).val) : c + 256 ≤ (y 1).val := by
  by_contra hk
  refine n fun a => ?_
  fin_cases a
  · exact hr
  · exact ⟨hc, Nat.lt_of_not_le hk⟩

def B51_1 (x : Ins F) : Vec F S112x32 .f32 := (k0_pay5 (F := F))
def B54_1 (x : Ins F) : Vec F S112x128 .f32 := (k0_pay6 (F := F))
def B55_1 (x : Ins F) : Vec F S112x128 .f32 := (k0_pay7 (F := F))
def B56_1 (x : Ins F) : Vec F S2x1024x256 .bf16 := (k0_pay8 (F := F))
def B57_1 (x : Ins F) : Vec F S2x1024x256 .bf16 := (k0_pay9 (F := F))
def B58_1 (x : Ins F) : Vec F S2x1024 .f32 := (k0_pay10 (F := F))
def B59_1 (x : Ins F) : Vec F S2x1024 .f32 := (k0_pay11 (F := F))
def B51_2 (x : Ins F) : Vec F S112x32 .f32 := (VecWindow.put (B51_1 x) ![1, 0] S50x32.size (k0_pay12 (View.ld x.x1 (Rect.unit (s := S2x50x32) ![0, 0, 0] S1x50x32.size inb_S2x50x32_S1x50x32_0_0_0))))
def B54_2 (x : Ins F) : Vec F S112x128 .f32 := (VecWindow.put (B54_1 x) ![0, 0] S51x128.size (k0_pay13 (View.ld x.x31 (Rect.unit (s := S2x51x128) ![0, 0, 0] S1x51x128.size inb_S2x51x128_S1x51x128_0_0_0))))
def B55_2 (x : Ins F) : Vec F S112x128 .f32 := (VecWindow.put (B55_1 x) ![0, 0] S51x128.size (k0_pay14 (View.ld x.x32 (Rect.unit (s := S2x51x128) ![0, 0, 0] S1x51x128.size inb_S2x51x128_S1x51x128_0_0_0))))
def B56_2 (x : Ins F) : Vec F S2x1024x256 .bf16 := (VecWindow.put (B56_1 x) ![0, 0, 0] S1x896x256.size (k0_pay15 (View.ld x.x27 (Rect.unit (s := S2x896x256) ![0, 0, 0] S1x896x256.size inb_S2x896x256_S1x896x256_0_0_0))))
def B57_2 (x : Ins F) : Vec F S2x1024x256 .bf16 := (VecWindow.put (B57_1 x) ![0, 0, 0] S1x896x256.size (k0_pay16 (View.ld x.x28 (Rect.unit (s := S2x896x256) ![0, 0, 0] S1x896x256.size inb_S2x896x256_S1x896x256_0_0_0))))
def B51_3 (x : Ins F) : Vec F S112x32 .f32 := (VecWindow.put (B51_2 x) ![57, 0] S50x32.size (k0_pay19 (View.ld x.x1 (Rect.unit (s := S2x50x32) ![1, 0, 0] S1x50x32.size inb_S2x50x32_S1x50x32_1_0_0))))
def B54_3 (x : Ins F) : Vec F S112x128 .f32 := (VecWindow.put (B54_2 x) ![56, 0] S51x128.size (k0_pay20 (View.ld x.x31 (Rect.unit (s := S2x51x128) ![1, 0, 0] S1x51x128.size inb_S2x51x128_S1x51x128_1_0_0))))
def B55_3 (x : Ins F) : Vec F S112x128 .f32 := (VecWindow.put (B55_2 x) ![56, 0] S51x128.size (k0_pay21 (View.ld x.x32 (Rect.unit (s := S2x51x128) ![1, 0, 0] S1x51x128.size inb_S2x51x128_S1x51x128_1_0_0))))
def B58_3 (x : Ins F) : Vec F S2x1024 .f32 := (VecWindow.put (B58_1 x) ![0, 0] S1x896.size (k0_pay17 (View.ld x.x29 (Rect.unit (s := S2x896) ![0, 0] S1x896.size inb_S2x896_S1x896_0_0))))
def B59_3 (x : Ins F) : Vec F S2x1024 .f32 := (VecWindow.put (B59_1 x) ![0, 0] S1x896.size (k0_pay18 (View.ld x.x30 (Rect.unit (s := S2x896) ![0, 0] S1x896.size inb_S2x896_S1x896_0_0))))
def W739 (x : Ins F) : IVec S896x256 8 := (k0_pay22 (View.ld x.x27 (Rect.unit (s := S2x896x256) ![1, 0, 0] S1x896x256.size inb_S2x896x256_S1x896x256_1_0_0)))
def B56_4 (x : Ins F) : Vec F S2x1024x256 .bf16 := (VecWindow.put (B56_2 x) ![1, 0, 0] S1x896x256.size (k0_pay23 (F := F) (W739 x)))
def B57_4 (x : Ins F) : Vec F S2x1024x256 .bf16 := (VecWindow.put (B57_2 x) ![1, 0, 0] S1x896x256.size (k0_pay24 (View.ld x.x28 (Rect.unit (s := S2x896x256) ![1, 0, 0] S1x896x256.size inb_S2x896x256_S1x896x256_1_0_0))))
def B58_4 (x : Ins F) : Vec F S2x1024 .f32 := (VecWindow.put (B58_3 x) ![1, 0] S1x896.size (k0_pay25 (View.ld x.x29 (Rect.unit (s := S2x896) ![1, 0] S1x896.size inb_S2x896_S1x896_1_0))))
def B59_4 (x : Ins F) : Vec F S2x1024 .f32 := (VecWindow.put (B59_3 x) ![1, 0] S1x896.size (k0_pay26 (View.ld x.x30 (Rect.unit (s := S2x896) ![1, 0] S1x896.size inb_S2x896_S1x896_1_0))))
def W770 (x : Ins F) : FVec F S2x1024 .f32 := (k0_pay27 (View.ld x.x2 (Rect.unit (s := S2x32) ![0, 0] S2x32.size inb_S2x32_S2x32_0_0)) (View.ld x.x5 (Rect.unit (s := S32x1024) ![0, 0] S32x1024.size inb_S32x1024_S32x1024_0_0)) (View.ld x.x6 (Rect.unit (s := S1x1024) ![0, 0] S1x1024.size inb_S1x1024_S1x1024_0_0)))
def B52_8 (x : Ins F) : Vec F S2x1024 .f32 := (k0_pay50 (W770 x))
def B53_8 (x : Ins F) : Vec F S20x1024 .f32 := (k0_pay51 (View.ld x.x3 (Rect.unit (s := S20x1) ![0, 0] S20x1.size inb_S20x1_S20x1_0_0)) (View.ld x.x4 (Rect.unit (s := S1x512) ![0, 0] S1x512.size inb_S1x512_S1x512_0_0)) (View.ld x.x10 (Rect.unit (s := S1024x1024) ![0, 0] S1024x1024.size inb_S1024x1024_S1024x1024_0_0)) (View.ld x.x11 (Rect.unit (s := S1x1024) ![0, 0] S1x1024.size inb_S1x1024_S1x1024_0_0)))

/-- The scratch as the first grid point fills it. -/
def init (x : Ins F) : Carry F where
  s0 := B51_3 x
  s1 := B52_8 x
  s2 := B53_8 x
  s3 := B54_3 x
  s4 := B55_3 x
  s5 := B56_4 x
  s6 := B57_4 x
  s7 := B58_4 x
  s8 := B59_4 x

/-- The scratch the body works on: at the first grid point the filled one, later what the point before left. -/
def start (i : grid0.Coords) (x : Ins F) (p : Carry F) : Carry F := if cond0_0 i then init x else p

def V3 (i : grid0.Coords) (x : Ins F) (p : Carry F) : IVec S56x1 32 := (iota .tc S56x1 32 [0] iota_S56x1_d0_w32)
def V4 (i : grid0.Coords) (x : Ins F) (p : Carry F) : Vec F S112x32 .f32 := (View.ld p.s0 (Rect.unit (s := S112x32) ![0, 0] S112x32.size inb_S112x32_S112x32_0_0))
def V33 (i : grid0.Coords) (x : Ins F) (p : Carry F) : FVec F S112x1024 .f32 := k0_pay52 (View.ld p.s0 (Rect.unit (s := S112x32) ![0, 0] S112x32.size inb_S112x32_S112x32_0_0)) (View.ld x.x7 (Rect.unit (s := S32x1024) ![0, 0] S32x1024.size inb_S32x1024_S32x1024_0_0)) (View.ld x.x8 (Rect.unit (s := S1x1024) ![0, 0] S1x1024.size inb_S1x1024_S1x1024_0_0)) (View.ld x.x9 (Rect.unit (s := S1024x1024) ![0, 0] S1024x1024.size inb_S1024x1024_S1024x1024_0_0)) (View.ld p.s2 (Rect.unit (s := S20x1024) (k0_off1 i 0#32) S1x1024.size (k0_off1_inb i 0))) (View.ld p.s2 (Rect.unit (s := S20x1024) (k0_off1 i 1#32) S1x1024.size (k0_off1_inb i 1))) (View.ld x.x12 (Rect.unit (s := S1024x1024) ![0, 0] S1024x1024.size inb_S1024x1024_S1024x1024_0_0))
def V34 (i : grid0.Coords) (x : Ins F) (p : Carry F) : Vec F S1x1024 .f32 := (View.ld x.x13 (Rect.unit (s := S1x1024) ![0, 0] S1x1024.size inb_S1x1024_S1x1024_0_0))
def V56 (i : grid0.Coords) (x : Ins F) (p : Carry F) : FVec F S112x1024 .f32 := k0_pay53 (V3 i x p) (V33 i x p) (V34 i x p) (View.ld p.s1 (Rect.unit (s := S2x1024) ![0, 0] S1x1024.size inb_S2x1024_S1x1024_0_0)) (View.ld p.s1 (Rect.unit (s := S2x1024) ![1, 0] S1x1024.size inb_S2x1024_S1x1024_1_0))
def V71 (i : grid0.Coords) (x : Ins F) (p : Carry F) : FVec F S112x1024 .f32 := k0_pay54 (V3 i x p) (V33 i x p) (V34 i x p) (View.ld p.s1 (Rect.unit (s := S2x1024) ![0, 0] S1x1024.size inb_S2x1024_S1x1024_0_0)) (View.ld p.s1 (Rect.unit (s := S2x1024) ![1, 0] S1x1024.size inb_S2x1024_S1x1024_1_0)) (View.ld x.x14 (Rect.unit (s := S1x1024) ![0, 0] S1x1024.size inb_S1x1024_S1x1024_0_0))
def V76 (i : grid0.Coords) (x : Ins F) (p : Carry F) : IVec S112x1 1 := k0_pay56 (V3 i x p) (V33 i x p) (V34 i x p) (View.ld p.s1 (Rect.unit (s := S2x1024) ![0, 0] S1x1024.size inb_S2x1024_S1x1024_0_0)) (View.ld p.s1 (Rect.unit (s := S2x1024) ![1, 0] S1x1024.size inb_S2x1024_S1x1024_1_0)) (View.ld x.x14 (Rect.unit (s := S1x1024) ![0, 0] S1x1024.size inb_S1x1024_S1x1024_0_0))
def V78 (i : grid0.Coords) (x : Ins F) (p : Carry F) : FVec F S112x1 .f32 := k0_pay57 (V3 i x p) (V33 i x p) (V34 i x p) (View.ld p.s1 (Rect.unit (s := S2x1024) ![0, 0] S1x1024.size inb_S2x1024_S1x1024_0_0)) (View.ld p.s1 (Rect.unit (s := S2x1024) ![1, 0] S1x1024.size inb_S2x1024_S1x1024_1_0)) (View.ld x.x14 (Rect.unit (s := S1x1024) ![0, 0] S1x1024.size inb_S1x1024_S1x1024_0_0))
def Vcst32 (i : grid0.Coords) (x : Ins F) (p : Carry F) : F .f32 := (Scalar.ofBits .f32 0x3F800000#32)
def V80 (i : grid0.Coords) (x : Ins F) (p : Carry F) : FVec F S112x1 .f32 := k0_pay58 (V76 i x p) (V78 i x p) (Vcst32 i x p)
def V89 (i : grid0.Coords) (x : Ins F) (p : Carry F) : FVec F S128x1024 .fp8e4m3 := k0_pay59 (V71 i x p) (V76 i x p) (V78 i x p) (Vcst32 i x p)
def V98 (i : grid0.Coords) (x : Ins F) (p : Carry F) : FVec F S112x2560 .f32 := k0_pay60 (V71 i x p) (V76 i x p) (V78 i x p) (Vcst32 i x p) (View.ld x.x16 (Rect.unit (s := S1024x2560) ![0, 0] S1024x2560.size inb_S1024x2560_S1024x2560_0_0)) (View.ld x.x17 (Rect.unit (s := S1x2560) ![0, 0] S1x2560.size inb_S1x2560_S1x2560_0_0))
def V99 (i : grid0.Coords) (x : Ins F) (p : Carry F) : Vec F S112x128 .f32 := (View.ld p.s3 (Rect.unit (s := S112x128) ![0, 0] S112x128.size inb_S112x128_S112x128_0_0))
def V100 (i : grid0.Coords) (x : Ins F) (p : Carry F) : Vec F S112x128 .f32 := (View.ld p.s4 (Rect.unit (s := S112x128) ![0, 0] S112x128.size inb_S112x128_S112x128_0_0))
def V110 (i : grid0.Coords) (x : Ins F) (p : Carry F) : FVec F S112x256 .f32 := k0_pay61 (V71 i x p) (V76 i x p) (V78 i x p) (Vcst32 i x p) (View.ld x.x16 (Rect.unit (s := S1024x2560) ![0, 0] S1024x2560.size inb_S1024x2560_S1024x2560_0_0)) (View.ld x.x17 (Rect.unit (s := S1x2560) ![0, 0] S1x2560.size inb_S1x2560_S1x2560_0_0)) (View.ld p.s3 (Rect.unit (s := S112x128) ![0, 0] S112x128.size inb_S112x128_S112x128_0_0)) (View.ld p.s4 (Rect.unit (s := S112x128) ![0, 0] S112x128.size inb_S112x128_S112x128_0_0))
def V111 (i : grid0.Coords) (x : Ins F) (p : Carry F) : FVec F S112x256 .f32 := k0_pay62 (V71 i x p) (V76 i x p) (V78 i x p) (Vcst32 i x p) (View.ld x.x16 (Rect.unit (s := S1024x2560) ![0, 0] S1024x2560.size inb_S1024x2560_S1024x2560_0_0)) (View.ld x.x17 (Rect.unit (s := S1x2560) ![0, 0] S1x2560.size inb_S1x2560_S1x2560_0_0))
def V121 (i : grid0.Coords) (x : Ins F) (p : Carry F) : FVec F S112x256 .f32 := k0_pay63 (V71 i x p) (V76 i x p) (V78 i x p) (Vcst32 i x p) (View.ld x.x16 (Rect.unit (s := S1024x2560) ![0, 0] S1024x2560.size inb_S1024x2560_S1024x2560_0_0)) (View.ld x.x17 (Rect.unit (s := S1x2560) ![0, 0] S1x2560.size inb_S1x2560_S1x2560_0_0)) (View.ld p.s3 (Rect.unit (s := S112x128) ![0, 0] S112x128.size inb_S112x128_S112x128_0_0)) (View.ld p.s4 (Rect.unit (s := S112x128) ![0, 0] S112x128.size inb_S112x128_S112x128_0_0))
def V123 (i : grid0.Coords) (x : Ins F) (p : Carry F) : FVec F S112x128 .f32 := k0_pay65 (V71 i x p) (V76 i x p) (V78 i x p) (Vcst32 i x p) (View.ld x.x16 (Rect.unit (s := S1024x2560) ![0, 0] S1024x2560.size inb_S1024x2560_S1024x2560_0_0)) (View.ld x.x17 (Rect.unit (s := S1x2560) ![0, 0] S1x2560.size inb_S1x2560_S1x2560_0_0))
def V124 (i : grid0.Coords) (x : Ins F) (p : Carry F) : FVec F S112x128 .f32 := k0_pay66 (V71 i x p) (V76 i x p) (V78 i x p) (Vcst32 i x p) (View.ld x.x16 (Rect.unit (s := S1024x2560) ![0, 0] S1024x2560.size inb_S1024x2560_S1024x2560_0_0)) (View.ld x.x17 (Rect.unit (s := S1x2560) ![0, 0] S1x2560.size inb_S1x2560_S1x2560_0_0))
def V125 (i : grid0.Coords) (x : Ins F) (p : Carry F) : FVec F S112x128 .f32 := k0_pay67 (V71 i x p) (V76 i x p) (V78 i x p) (Vcst32 i x p) (View.ld x.x16 (Rect.unit (s := S1024x2560) ![0, 0] S1024x2560.size inb_S1024x2560_S1024x2560_0_0)) (View.ld x.x17 (Rect.unit (s := S1x2560) ![0, 0] S1x2560.size inb_S1x2560_S1x2560_0_0)) (View.ld p.s3 (Rect.unit (s := S112x128) ![0, 0] S112x128.size inb_S112x128_S112x128_0_0))
def V126 (i : grid0.Coords) (x : Ins F) (p : Carry F) : FVec F S112x128 .f32 := k0_pay68 (V71 i x p) (V76 i x p) (V78 i x p) (Vcst32 i x p) (View.ld x.x16 (Rect.unit (s := S1024x2560) ![0, 0] S1024x2560.size inb_S1024x2560_S1024x2560_0_0)) (View.ld x.x17 (Rect.unit (s := S1x2560) ![0, 0] S1x2560.size inb_S1x2560_S1x2560_0_0)) (View.ld p.s4 (Rect.unit (s := S112x128) ![0, 0] S112x128.size inb_S112x128_S112x128_0_0))
def V131 (i : grid0.Coords) (x : Ins F) (p : Carry F) : FVec F S112x256 .f32 := k0_pay69 (V99 i x p) (V100 i x p) (V123 i x p) (V124 i x p) (V125 i x p) (V126 i x p)
def V141 (i : grid0.Coords) (x : Ins F) (p : Carry F) : FVec F S112x256 .f32 := k0_pay70 (V98 i x p) (V99 i x p) (V100 i x p)
def V151 (i : grid0.Coords) (x : Ins F) (p : Carry F) : FVec F S112x256 .f32 := k0_pay71 (V98 i x p) (V99 i x p) (V100 i x p)
def V161 (i : grid0.Coords) (x : Ins F) (p : Carry F) : FVec F S112x256 .f32 := k0_pay72 (V98 i x p) (V99 i x p) (V100 i x p)
def V171 (i : grid0.Coords) (x : Ins F) (p : Carry F) : FVec F S112x256 .f32 := k0_pay73 (V98 i x p) (V99 i x p) (V100 i x p)
def V181 (i : grid0.Coords) (x : Ins F) (p : Carry F) : FVec F S112x256 .f32 := k0_pay74 (V98 i x p) (V99 i x p) (V100 i x p)
def V183 (i : grid0.Coords) (x : Ins F) (p : Carry F) : FVec F S112x128 .f32 := k0_pay76 (V98 i x p)
def V184 (i : grid0.Coords) (x : Ins F) (p : Carry F) : FVec F S112x128 .f32 := k0_pay77 (V98 i x p)
def V185 (i : grid0.Coords) (x : Ins F) (p : Carry F) : FVec F S112x128 .f32 := k0_pay78 (V98 i x p) (V99 i x p)
def V186 (i : grid0.Coords) (x : Ins F) (p : Carry F) : FVec F S112x128 .f32 := k0_pay79 (V98 i x p) (V100 i x p)
def S5_12 (i : grid0.Coords) (x : Ins F) (p : Carry F) : Vec F S2x1024x256 .bf16 := (VecWindow.put p.s5 ![0, 896, 0] S1x56x256.size (k0_pay82 (V110 i x p)))
def S6_12 (i : grid0.Coords) (x : Ins F) (p : Carry F) : Vec F S2x1024x256 .bf16 := (VecWindow.put p.s6 ![0, 896, 0] S1x56x256.size (k0_pay83 (V111 i x p)))
def V191 (i : grid0.Coords) (x : Ins F) (p : Carry F) : FVec F S112x256 .f32 := k0_pay80 (V99 i x p) (V100 i x p) (V183 i x p) (V184 i x p) (V185 i x p) (V186 i x p)
def V192 (i : grid0.Coords) (x : Ins F) (p : Carry F) : IVec S1x1024 32 := (iota .tc S1x1024 32 [1] iota_S1x1024_d1_w32)
def V211 (i : grid0.Coords) (x : Ins F) (p : Carry F) : IVec S224x1 1 := k0_pay81
def V224 (i : grid0.Coords) (x : Ins F) (p : Carry F) : IVec S1x1024 1 := k0_pay84 (View.ld x.x0 (Rect.unit (s := S2) ![0] S1.size inb_S2_S1_0) (Shape.Idx.first (numel1_S1.symm ▸ Nat.one_pos)))
def V226 (i : grid0.Coords) (x : Ins F) (p : Carry F) : IVec S1x1024 1 := k0_pay85
def V228 (i : grid0.Coords) (x : Ins F) (p : Carry F) : IVec S1x1024 1 := k0_pay86
def V244 (i : grid0.Coords) (x : Ins F) (p : Carry F) : IVec S224x1024 1 := k0_pay87 (V192 i x p) (V211 i x p) (V224 i x p) (V226 i x p) (V228 i x p) (View.ld x.x0 (Rect.unit (s := S2) ![0] S1.size inb_S2_S1_0) (Shape.Idx.first (numel1_S1.symm ▸ Nat.one_pos)))
def V266 (i : grid0.Coords) (x : Ins F) (p : Carry F) : FVec F S224x1 .f32 := k0_pay89 (V121 i x p) (V131 i x p) (V141 i x p) (V151 i x p) (V192 i x p) (V211 i x p) (V224 i x p) (V226 i x p) (V228 i x p) (View.ld x.x0 (Rect.unit (s := S2) ![0] S1.size inb_S2_S1_0) (Shape.Idx.first (numel1_S1.symm ▸ Nat.one_pos))) (View.ld (S5_12 i x p) (Rect.unit (s := S2x1024x256) ![0, 0, 0] S1x1024x256.size inb_S2x1024x256_S1x1024x256_0_0_0)) (View.ld p.s7 (Rect.unit (s := S2x1024) ![0, 0] S1x1024.size inb_S2x1024_S1x1024_0_0))
def V270 (i : grid0.Coords) (x : Ins F) (p : Carry F) : FVec F S224x1024 .bf16 := k0_pay90 (V121 i x p) (V131 i x p) (V141 i x p) (V151 i x p) (V192 i x p) (V211 i x p) (V224 i x p) (V226 i x p) (V228 i x p) (View.ld x.x0 (Rect.unit (s := S2) ![0] S1.size inb_S2_S1_0) (Shape.Idx.first (numel1_S1.symm ▸ Nat.one_pos))) (View.ld (S5_12 i x p) (Rect.unit (s := S2x1024x256) ![0, 0, 0] S1x1024x256.size inb_S2x1024x256_S1x1024x256_0_0_0)) (View.ld p.s7 (Rect.unit (s := S2x1024) ![0, 0] S1x1024.size inb_S2x1024_S1x1024_0_0)) (View.ld p.s8 (Rect.unit (s := S2x1024) ![0, 0] S1x1024.size inb_S2x1024_S1x1024_0_0))
def V271 (i : grid0.Coords) (x : Ins F) (p : Carry F) : Vec F S1x1024x256 .bf16 := (View.ld (S6_12 i x p) (Rect.unit (s := S2x1024x256) ![0, 0, 0] S1x1024x256.size inb_S2x1024x256_S1x1024x256_0_0_0))
def T_14 (i : grid0.Coords) (x : Ins F) (p : Carry F) (d : Vec F S112x2048 .f32) : Vec F S112x2048 .f32 := (VecWindow.put (VecWindow.put (VecWindow.put (VecWindow.put d ![0, 0] S56x256.size (k0_pay92 (V266 i x p) (V270 i x p) (V271 i x p))) ![0, 256] S56x256.size (k0_pay93 (V266 i x p) (V270 i x p) (V271 i x p))) ![0, 512] S56x256.size (k0_pay94 (V266 i x p) (V270 i x p) (V271 i x p))) ![0, 768] S56x256.size (k0_pay95 (V266 i x p) (V270 i x p) (V271 i x p)))
def V310 (i : grid0.Coords) (x : Ins F) (p : Carry F) : FVec F S224x1024 .f32 := (k0_pay96 (V161 i x p) (V171 i x p) (V181 i x p) (V191 i x p) (V244 i x p) (View.ld (S5_12 i x p) (Rect.unit (s := S2x1024x256) ![0, 0, 0] S1x1024x256.size inb_S2x1024x256_S1x1024x256_0_0_0)) (View.ld p.s7 (Rect.unit (s := S2x1024) ![0, 0] S1x1024.size inb_S2x1024_S1x1024_0_0)))
def S5_15 (i : grid0.Coords) (x : Ins F) (p : Carry F) : Vec F S2x1024x256 .bf16 := (VecWindow.put (S5_12 i x p) ![1, 896, 0] S1x56x256.size (k0_pay102 (V110 i x p)))
def T_15 (i : grid0.Coords) (x : Ins F) (p : Carry F) (d : Vec F S112x2048 .f32) : Vec F S112x2048 .f32 := (VecWindow.put (VecWindow.put (VecWindow.put (VecWindow.put (T_14 i x p d) ![0, 1024] S56x256.size (k0_pay98 (V310 i x p) (View.ld p.s8 (Rect.unit (s := S2x1024) ![0, 0] S1x1024.size inb_S2x1024_S1x1024_0_0)) (View.ld (S6_12 i x p) (Rect.unit (s := S2x1024x256) ![0, 0, 0] S1x1024x256.size inb_S2x1024x256_S1x1024x256_0_0_0)))) ![0, 1280] S56x256.size (k0_pay99 (V310 i x p) (View.ld p.s8 (Rect.unit (s := S2x1024) ![0, 0] S1x1024.size inb_S2x1024_S1x1024_0_0)) (View.ld (S6_12 i x p) (Rect.unit (s := S2x1024x256) ![0, 0, 0] S1x1024x256.size inb_S2x1024x256_S1x1024x256_0_0_0)))) ![0, 1536] S56x256.size (k0_pay100 (V310 i x p) (View.ld p.s8 (Rect.unit (s := S2x1024) ![0, 0] S1x1024.size inb_S2x1024_S1x1024_0_0)) (View.ld (S6_12 i x p) (Rect.unit (s := S2x1024x256) ![0, 0, 0] S1x1024x256.size inb_S2x1024x256_S1x1024x256_0_0_0)))) ![0, 1792] S56x256.size (k0_pay101 (V310 i x p) (View.ld p.s8 (Rect.unit (s := S2x1024) ![0, 0] S1x1024.size inb_S2x1024_S1x1024_0_0)) (View.ld (S6_12 i x p) (Rect.unit (s := S2x1024x256) ![0, 0, 0] S1x1024x256.size inb_S2x1024x256_S1x1024x256_0_0_0))))
def V345 (i : grid0.Coords) (x : Ins F) (p : Carry F) : FVec F S56x256 .bf16 := (k0_pay103 (V111 i x p))
def S6_16 (i : grid0.Coords) (x : Ins F) (p : Carry F) : Vec F S2x1024x256 .bf16 := (VecWindow.put (S6_12 i x p) ![1, 896, 0] S1x56x256.size (k0_pay104 (V345 i x p)))
def V371 (i : grid0.Coords) (x : Ins F) (p : Carry F) : IVec S224x1024 1 := k0_pay105 (V192 i x p) (V211 i x p) (View.ld x.x0 (Rect.unit (s := S2) ![1] S1.size inb_S2_S1_1) (Shape.Idx.first (numel1_S1.symm ▸ Nat.one_pos))) (View.ld x.x0 (Rect.unit (s := S2) ![1] S1.size inb_S2_S1_1) (Shape.Idx.first (numel1_S1.symm ▸ Nat.one_pos)))
def V385 (i : grid0.Coords) (x : Ins F) (p : Carry F) : FVec F S224x1024 .f32 := k0_pay106 (V121 i x p) (V131 i x p) (V141 i x p) (V151 i x p) (V192 i x p) (V211 i x p) (View.ld x.x0 (Rect.unit (s := S2) ![1] S1.size inb_S2_S1_1) (Shape.Idx.first (numel1_S1.symm ▸ Nat.one_pos))) (View.ld x.x0 (Rect.unit (s := S2) ![1] S1.size inb_S2_S1_1) (Shape.Idx.first (numel1_S1.symm ▸ Nat.one_pos))) (View.ld (S5_15 i x p) (Rect.unit (s := S2x1024x256) ![1, 0, 0] S1x1024x256.size inb_S2x1024x256_S1x1024x256_1_0_0)) (View.ld p.s7 (Rect.unit (s := S2x1024) ![1, 0] S1x1024.size inb_S2x1024_S1x1024_1_0))
def V389 (i : grid0.Coords) (x : Ins F) (p : Carry F) : FVec F S224x1024 .f32 := k0_pay107 (V121 i x p) (V131 i x p) (V141 i x p) (V151 i x p) (V192 i x p) (V211 i x p) (View.ld x.x0 (Rect.unit (s := S2) ![1] S1.size inb_S2_S1_1) (Shape.Idx.first (numel1_S1.symm ▸ Nat.one_pos))) (View.ld x.x0 (Rect.unit (s := S2) ![1] S1.size inb_S2_S1_1) (Shape.Idx.first (numel1_S1.symm ▸ Nat.one_pos))) (View.ld (S5_15 i x p) (Rect.unit (s := S2x1024x256) ![1, 0, 0] S1x1024x256.size inb_S2x1024x256_S1x1024x256_1_0_0)) (View.ld p.s7 (Rect.unit (s := S2x1024) ![1, 0] S1x1024.size inb_S2x1024_S1x1024_1_0))
def T_17 (i : grid0.Coords) (x : Ins F) (p : Carry F) (d : Vec F S112x2048 .f32) : Vec F S112x2048 .f32 := (VecWindow.put (VecWindow.put (VecWindow.put (VecWindow.put (T_15 i x p d) ![56, 0] S56x256.size (k0_pay109 (V385 i x p) (V389 i x p) (View.ld p.s8 (Rect.unit (s := S2x1024) ![1, 0] S1x1024.size inb_S2x1024_S1x1024_1_0)) (View.ld (S6_16 i x p) (Rect.unit (s := S2x1024x256) ![1, 0, 0] S1x1024x256.size inb_S2x1024x256_S1x1024x256_1_0_0)))) ![56, 256] S56x256.size (k0_pay110 (V385 i x p) (V389 i x p) (View.ld p.s8 (Rect.unit (s := S2x1024) ![1, 0] S1x1024.size inb_S2x1024_S1x1024_1_0)) (View.ld (S6_16 i x p) (Rect.unit (s := S2x1024x256) ![1, 0, 0] S1x1024x256.size inb_S2x1024x256_S1x1024x256_1_0_0)))) ![56, 512] S56x256.size (k0_pay111 (V385 i x p) (V389 i x p) (View.ld p.s8 (Rect.unit (s := S2x1024) ![1, 0] S1x1024.size inb_S2x1024_S1x1024_1_0)) (View.ld (S6_16 i x p) (Rect.unit (s := S2x1024x256) ![1, 0, 0] S1x1024x256.size inb_S2x1024x256_S1x1024x256_1_0_0)))) ![56, 768] S56x256.size (k0_pay112 (V385 i x p) (V389 i x p) (View.ld p.s8 (Rect.unit (s := S2x1024) ![1, 0] S1x1024.size inb_S2x1024_S1x1024_1_0)) (View.ld (S6_16 i x p) (Rect.unit (s := S2x1024x256) ![1, 0, 0] S1x1024x256.size inb_S2x1024x256_S1x1024x256_1_0_0))))
def V424 (i : grid0.Coords) (x : Ins F) (p : Carry F) : FVec F S224x256 .bf16 := k0_pay113 (V161 i x p) (V171 i x p) (V181 i x p) (V191 i x p)
def V426 (i : grid0.Coords) (x : Ins F) (p : Carry F) : FVec F S1024x256 .bf16 := k0_pay114 (View.ld (S5_15 i x p) (Rect.unit (s := S2x1024x256) ![1, 0, 0] S1x1024x256.size inb_S2x1024x256_S1x1024x256_1_0_0))
def Vcst136 (i : grid0.Coords) (x : Ins F) (p : Carry F) : FVec F S224x1024 .f32 := (constant S224x1024 .f32 0x00000000#32)
def T_18 (i : grid0.Coords) (x : Ins F) (p : Carry F) (d : Vec F S112x2048 .f32) : Vec F S112x2048 .f32 := (VecWindow.put (VecWindow.put (VecWindow.put (T_17 i x p d) ![56, 1024] S56x256.size (k0_pay116 (V371 i x p) (V424 i x p) (V426 i x p) (Vcst136 i x p) (View.ld p.s7 (Rect.unit (s := S2x1024) ![1, 0] S1x1024.size inb_S2x1024_S1x1024_1_0)) (View.ld p.s8 (Rect.unit (s := S2x1024) ![1, 0] S1x1024.size inb_S2x1024_S1x1024_1_0)) (View.ld (S6_16 i x p) (Rect.unit (s := S2x1024x256) ![1, 0, 0] S1x1024x256.size inb_S2x1024x256_S1x1024x256_1_0_0)))) ![56, 1280] S56x256.size (k0_pay117 (V371 i x p) (V424 i x p) (V426 i x p) (Vcst136 i x p) (View.ld p.s7 (Rect.unit (s := S2x1024) ![1, 0] S1x1024.size inb_S2x1024_S1x1024_1_0)) (View.ld p.s8 (Rect.unit (s := S2x1024) ![1, 0] S1x1024.size inb_S2x1024_S1x1024_1_0)) (View.ld (S6_16 i x p) (Rect.unit (s := S2x1024x256) ![1, 0, 0] S1x1024x256.size inb_S2x1024x256_S1x1024x256_1_0_0)))) ![56, 1536] S56x256.size (k0_pay118 (V371 i x p) (V424 i x p) (V426 i x p) (Vcst136 i x p) (View.ld p.s7 (Rect.unit (s := S2x1024) ![1, 0] S1x1024.size inb_S2x1024_S1x1024_1_0)) (View.ld p.s8 (Rect.unit (s := S2x1024) ![1, 0] S1x1024.size inb_S2x1024_S1x1024_1_0)) (View.ld (S6_16 i x p) (Rect.unit (s := S2x1024x256) ![1, 0, 0] S1x1024x256.size inb_S2x1024x256_S1x1024x256_1_0_0))))
def V462 (i : grid0.Coords) (x : Ins F) (p : Carry F) : FVec F S56x256 .f32 := (k0_pay119 (V371 i x p) (V424 i x p) (V426 i x p) (Vcst136 i x p) (View.ld p.s7 (Rect.unit (s := S2x1024) ![1, 0] S1x1024.size inb_S2x1024_S1x1024_1_0)) (View.ld p.s8 (Rect.unit (s := S2x1024) ![1, 0] S1x1024.size inb_S2x1024_S1x1024_1_0)) (View.ld (S6_16 i x p) (Rect.unit (s := S2x1024x256) ![1, 0, 0] S1x1024x256.size inb_S2x1024x256_S1x1024x256_1_0_0)))
def T_19 (i : grid0.Coords) (x : Ins F) (p : Carry F) (d : Vec F S112x2048 .f32) : Vec F S112x2048 .f32 := (VecWindow.put (T_18 i x p d) ![56, 1792] S56x256.size (k0_pay120 (V462 i x p)))
/-- The attention rows do not depend on what the buffer held: every element is stored. -/
theorem T_19_indep (i : grid0.Coords) (x : Ins F) (p : Carry F) (d d' : Vec F S112x2048 .f32) : T_19 i x p d = T_19 i x p d' := by
  funext y
  have h0 : (y 0).val < 112 := (y 0).isLt
  have h1 : (y 1).val < 2048 := (y 1).isLt
  unfold T_19 T_18 T_17 T_15 T_14
  refine put_congr _ _ _ _ _ _ fun n56_1792 => ?_
  refine put_congr _ _ _ _ _ _ fun n56_1536 => ?_
  refine put_congr _ _ _ _ _ _ fun n56_1280 => ?_
  refine put_congr _ _ _ _ _ _ fun n56_1024 => ?_
  refine put_congr _ _ _ _ _ _ fun n56_768 => ?_
  refine put_congr _ _ _ _ _ _ fun n56_512 => ?_
  refine put_congr _ _ _ _ _ _ fun n56_256 => ?_
  refine put_congr _ _ _ _ _ _ fun n56_0 => ?_
  refine put_congr _ _ _ _ _ _ fun n0_1792 => ?_
  refine put_congr _ _ _ _ _ _ fun n0_1536 => ?_
  refine put_congr _ _ _ _ _ _ fun n0_1280 => ?_
  refine put_congr _ _ _ _ _ _ fun n0_1024 => ?_
  refine put_congr _ _ _ _ _ _ fun n0_768 => ?_
  refine put_congr _ _ _ _ _ _ fun n0_512 => ?_
  refine put_congr _ _ _ _ _ _ fun n0_256 => ?_
  refine put_congr _ _ _ _ _ _ fun n0_0 => ?_
  exfalso
  by_cases hr : (y 0).val < 56
  · have k0 := miss n0_0 ⟨Nat.zero_le _, hr⟩ (Nat.zero_le _)
    have k1 := miss n0_256 ⟨Nat.zero_le _, hr⟩ k0
    have k2 := miss n0_512 ⟨Nat.zero_le _, hr⟩ k1
    have k3 := miss n0_768 ⟨Nat.zero_le _, hr⟩ k2
    have k4 := miss n0_1024 ⟨Nat.zero_le _, hr⟩ k3
    have k5 := miss n0_1280 ⟨Nat.zero_le _, hr⟩ k4
    have k6 := miss n0_1536 ⟨Nat.zero_le _, hr⟩ k5
    have k7 := miss n0_1792 ⟨Nat.zero_le _, hr⟩ k6
    omega
  · have k0 := miss n56_0 ⟨by omega, by omega⟩ (Nat.zero_le _)
    have k1 := miss n56_256 ⟨by omega, by omega⟩ k0
    have k2 := miss n56_512 ⟨by omega, by omega⟩ k1
    have k3 := miss n56_768 ⟨by omega, by omega⟩ k2
    have k4 := miss n56_1024 ⟨by omega, by omega⟩ k3
    have k5 := miss n56_1280 ⟨by omega, by omega⟩ k4
    have k6 := miss n56_1536 ⟨by omega, by omega⟩ k5
    have k7 := miss n56_1792 ⟨by omega, by omega⟩ k6
    omega

def V466 (i : grid0.Coords) (x : Ins F) (p : Carry F) : Vec F S112x2048 .f32 := View.ld (T_19 i x p fun _ => Scalar.ofBits .f32 0x00000000#32) (Rect.unit (s := S112x2048) ![0, 0] S112x2048.size inb_S112x2048_S112x2048_0_0)
theorem V466_raw (i : grid0.Coords) (x : Ins F) (p : Carry F) (d : Vec F S112x2048 .f32) : (View.ld (VecWindow.put (T_18 i x p d) ![56, 1792] S56x256.size (k0_pay120 (V462 i x p))) (Rect.unit (s := S112x2048) ![0, 0] S112x2048.size inb_S112x2048_S112x2048_0_0)) = V466 i x p :=
  congrArg (fun t => View.ld t (Rect.unit (s := S112x2048) ![0, 0] S112x2048.size inb_S112x2048_S112x2048_0_0)) (T_19_indep i x p d _)

def V475 (i : grid0.Coords) (x : Ins F) (p : Carry F) : FVec F S112x1 .f32 := k0_pay121 (V466 i x p)
def V484 (i : grid0.Coords) (x : Ins F) (p : Carry F) : FVec F S128x2048 .fp8e4m3 := k0_pay122 (V466 i x p)
def V494 (i : grid0.Coords) (x : Ins F) (p : Carry F) : FVec F S112x1024 .f32 := k0_pay123 (V56 i x p) (V466 i x p) (View.ld x.x18 (Rect.unit (s := S2048x1024) ![0, 0] S2048x1024.size inb_S2048x1024_S2048x1024_0_0)) (View.ld x.x19 (Rect.unit (s := S1x1024) ![0, 0] S1x1024.size inb_S1x1024_S1x1024_0_0))
def V495 (i : grid0.Coords) (x : Ins F) (p : Carry F) : Vec F S1x1024 .f32 := (View.ld x.x15 (Rect.unit (s := S1x1024) ![0, 0] S1x1024.size inb_S1x1024_S1x1024_0_0))
def V504 (i : grid0.Coords) (x : Ins F) (p : Carry F) : FVec F S112x1024 .f32 := k0_pay124 (V56 i x p) (V466 i x p) (View.ld x.x18 (Rect.unit (s := S2048x1024) ![0, 0] S2048x1024.size inb_S2048x1024_S2048x1024_0_0)) (View.ld x.x19 (Rect.unit (s := S1x1024) ![0, 0] S1x1024.size inb_S1x1024_S1x1024_0_0))
def V518 (i : grid0.Coords) (x : Ins F) (p : Carry F) : FVec F S112x1 .f32 := k0_pay126 (V494 i x p) (V495 i x p) (V504 i x p)
def V527 (i : grid0.Coords) (x : Ins F) (p : Carry F) : FVec F S128x1024 .fp8e4m3 := k0_pay127 (V494 i x p) (V495 i x p) (V504 i x p)
def V537 (i : grid0.Coords) (x : Ins F) (p : Carry F) : FVec F S112x4096 .f32 := k0_pay128 (V494 i x p) (V495 i x p) (V504 i x p) (View.ld x.x20 (Rect.unit (s := S2x1024x4096) ![0, 0, 0] S1x1024x4096.size inb_S2x1024x4096_S1x1024x4096_0_0_0)) (View.ld x.x21 (Rect.unit (s := S2x4096) ![0, 0] S1x4096.size inb_S2x4096_S1x4096_0_0))
def V543 (i : grid0.Coords) (x : Ins F) (p : Carry F) : FVec F S112x4096 .f32 := k0_pay129 (V494 i x p) (V495 i x p) (V504 i x p) (View.ld x.x20 (Rect.unit (s := S2x1024x4096) ![1, 0, 0] S1x1024x4096.size inb_S2x1024x4096_S1x1024x4096_1_0_0))
def V544 (i : grid0.Coords) (x : Ins F) (p : Carry F) : Vec F S1x4096 .f32 := (View.ld x.x21 (Rect.unit (s := S2x4096) ![1, 0] S1x4096.size inb_S2x4096_S1x4096_1_0))
def V570 (i : grid0.Coords) (x : Ins F) (p : Carry F) : FVec F S112x1 .f32 := k0_pay131 (V537 i x p) (V543 i x p) (V544 i x p)
def V579 (i : grid0.Coords) (x : Ins F) (p : Carry F) : FVec F S128x4096 .fp8e4m3 := k0_pay132 (V537 i x p) (V543 i x p) (V544 i x p)
def V588 (i : grid0.Coords) (x : Ins F) (p : Carry F) : FVec F S112x1024 .f32 := k0_pay133 (V537 i x p) (V543 i x p) (V544 i x p) (View.ld x.x22 (Rect.unit (s := S4096x1024) ![0, 0] S4096x1024.size inb_S4096x1024_S4096x1024_0_0)) (View.ld x.x23 (Rect.unit (s := S1x1024) ![0, 0] S1x1024.size inb_S1x1024_S1x1024_0_0))
def O34_22 (i : grid0.Coords) (x : Ins F) (p : Carry F) (y34 : Vec F S1x2x50x32 .f32) : Vec F S1x2x50x32 .f32 := (VecWindow.put y34 ![0, 0, 0, 0] S1x1x50x32.size (k0_pay137 (V494 i x p) (V588 i x p) (View.ld x.x24 (Rect.unit (s := S1x1024) ![0, 0] S1x1024.size inb_S1x1024_S1x1024_0_0)) (View.ld x.x25 (Rect.unit (s := S1024x32) ![0, 0] S1024x32.size inb_S1024x32_S1024x32_0_0)) (View.ld x.x26 (Rect.unit (s := S1x32) ![0, 0] S1x32.size inb_S1x32_S1x32_0_0))))
def S0_22 (i : grid0.Coords) (x : Ins F) (p : Carry F) : Vec F S112x32 .f32 := (VecWindow.put p.s0 ![0, 0] S56x32.size (k0_pay138 (V4 i x p) (V494 i x p) (V588 i x p) (View.ld x.x24 (Rect.unit (s := S1x1024) ![0, 0] S1x1024.size inb_S1x1024_S1x1024_0_0)) (View.ld x.x25 (Rect.unit (s := S1024x32) ![0, 0] S1024x32.size inb_S1024x32_S1024x32_0_0)) (View.ld x.x26 (Rect.unit (s := S1x32) ![0, 0] S1x32.size inb_S1x32_S1x32_0_0)) (View.ld x.x33 (Rect.unit (s := S2) ![0] S1.size inb_S2_S1_0) (Shape.Idx.first (numel1_S1.symm ▸ Nat.one_pos)))))
def V589 (i : grid0.Coords) (x : Ins F) (p : Carry F) : FVec F S112x1024 .f32 := k0_pay134 (V494 i x p) (V588 i x p)
def V625 (i : grid0.Coords) (x : Ins F) (p : Carry F) : FVec F S56x32 .f32 := k0_pay139 (V494 i x p) (V588 i x p) (View.ld x.x24 (Rect.unit (s := S1x1024) ![0, 0] S1x1024.size inb_S1x1024_S1x1024_0_0)) (View.ld x.x25 (Rect.unit (s := S1024x32) ![0, 0] S1024x32.size inb_S1024x32_S1024x32_0_0)) (View.ld x.x26 (Rect.unit (s := S1x32) ![0, 0] S1x32.size inb_S1x32_S1x32_0_0))
def V626 (i : grid0.Coords) (x : Ins F) (p : Carry F) : FVec F S50x32 .f32 := k0_pay140 (V494 i x p) (V588 i x p) (View.ld x.x24 (Rect.unit (s := S1x1024) ![0, 0] S1x1024.size inb_S1x1024_S1x1024_0_0)) (View.ld x.x25 (Rect.unit (s := S1024x32) ![0, 0] S1024x32.size inb_S1024x32_S1024x32_0_0)) (View.ld x.x26 (Rect.unit (s := S1x32) ![0, 0] S1x32.size inb_S1x32_S1x32_0_0))
def O34 (i : grid0.Coords) (x : Ins F) (p : Carry F) (y34 : Vec F S1x2x50x32 .f32) : Vec F S1x2x50x32 .f32 := (VecWindow.put (O34_22 i x p y34) ![0, 1, 0, 0] S1x1x50x32.size (k0_pay141 (V626 i x p)))
def S0 (i : grid0.Coords) (x : Ins F) (p : Carry F) : Vec F S112x32 .f32 := (VecWindow.put (S0_22 i x p) ![56, 0] S56x32.size (k0_pay142 (V4 i x p) (V625 i x p) (View.ld x.x33 (Rect.unit (s := S2) ![1] S1.size inb_S2_S1_1) (Shape.Idx.first (numel1_S1.symm ▸ Nat.one_pos)))))
def F35 (i : grid0.Coords) (x : Ins F) (p : Carry F) (y35 : Vec F S2x50x32 .f32) : Vec F S2x50x32 .f32 := (VecWindow.put (VecWindow.put y35 ![0, 0, 0] S1x50x32.size (k0_pay2 (View.ld (S0 i x p) (Rect.unit (s := S112x32) ![1, 0] S50x32.size inb_S112x32_S50x32_1_0)))) ![1, 0, 0] S1x50x32.size (k0_pay4 (View.ld (S0 i x p) (Rect.unit (s := S112x32) ![57, 0] S50x32.size inb_S112x32_S50x32_57_0))))
def F36 (i : grid0.Coords) (x : Ins F) (p : Carry F) (y36 : Vec F S2x51x1024 .f32) : Vec F S2x51x1024 .f32 := (VecWindow.put (VecWindow.put y36 ![0, 0, 0] S1x51x1024.size (k0_pay1 (V589 i x p))) ![1, 0, 0] S1x51x1024.size (k0_pay3 (V589 i x p)))

/-- What the second and third output hold after the point: they are stored at the last point only. -/
def O35 (i : grid0.Coords) (x : Ins F) (p : Carry F) (y35 : Vec F S2x50x32 .f32) : Vec F S2x50x32 .f32 := if cond0_2 i then F35 i x p y35 else y35
def O36 (i : grid0.Coords) (x : Ins F) (p : Carry F) (y36 : Vec F S2x51x1024 .f32) : Vec F S2x51x1024 .f32 := if cond0_2 i then F36 i x p y36 else y36

/-- It does not depend on what the buffer held: every element is stored. -/
theorem O34_indep (i : grid0.Coords) (x : Ins F) (p : Carry F) (d d' : Vec F S1x2x50x32 .f32) : O34 i x p d = O34 i x p d' := by
  funext y
  have h0 : (y 0).val < 1 := (y 0).isLt
  have h1 : (y 1).val < 2 := (y 1).isLt
  have h2 : (y 2).val < 50 := (y 2).isLt
  have h3 : (y 3).val < 32 := (y 3).isLt
  unfold O34 O34_22
  refine put_congr _ _ _ _ _ _ fun n1 => put_congr _ _ _ _ _ _ fun n0 => ?_
  exfalso
  by_cases hy : (y 1).val < 1
  · refine n0 fun a => ?_
    fin_cases a
    · exact ⟨Nat.zero_le _, h0.trans_le (Nat.le_add_left _ _)⟩
    · exact ⟨Nat.zero_le _, hy⟩
    · exact ⟨Nat.zero_le _, h2.trans_le (Nat.le_add_left _ _)⟩
    · exact ⟨Nat.zero_le _, h3.trans_le (Nat.le_add_left _ _)⟩
  · refine n1 fun a => ?_
    fin_cases a
    · exact ⟨Nat.zero_le _, h0.trans_le (Nat.le_add_left _ _)⟩
    · exact ⟨Nat.le_of_not_lt hy, h1⟩
    · exact ⟨Nat.zero_le _, h2.trans_le (Nat.le_add_left _ _)⟩
    · exact ⟨Nat.zero_le _, h3.trans_le (Nat.le_add_left _ _)⟩

/-- It does not depend on what the buffer held: every element is stored. -/
theorem F35_indep (i : grid0.Coords) (x : Ins F) (p : Carry F) (d d' : Vec F S2x50x32 .f32) : F35 i x p d = F35 i x p d' := by
  funext y
  have h0 : (y 0).val < 2 := (y 0).isLt
  have h1 : (y 1).val < 50 := (y 1).isLt
  have h2 : (y 2).val < 32 := (y 2).isLt
  unfold F35
  refine put_congr _ _ _ _ _ _ fun n1 => put_congr _ _ _ _ _ _ fun n0 => ?_
  exfalso
  by_cases hy : (y 0).val < 1
  · refine n0 fun a => ?_
    fin_cases a
    · exact ⟨Nat.zero_le _, hy⟩
    · exact ⟨Nat.zero_le _, h1.trans_le (Nat.le_add_left _ _)⟩
    · exact ⟨Nat.zero_le _, h2.trans_le (Nat.le_add_left _ _)⟩
  · refine n1 fun a => ?_
    fin_cases a
    · exact ⟨Nat.le_of_not_lt hy, h0⟩
    · exact ⟨Nat.zero_le _, h1.trans_le (Nat.le_add_left _ _)⟩
    · exact ⟨Nat.zero_le _, h2.trans_le (Nat.le_add_left _ _)⟩

/-- It does not depend on what the buffer held: every element is stored. -/
theorem F36_indep (i : grid0.Coords) (x : Ins F) (p : Carry F) (d d' : Vec F S2x51x1024 .f32) : F36 i x p d = F36 i x p d' := by
  funext y
  have h0 : (y 0).val < 2 := (y 0).isLt
  have h1 : (y 1).val < 51 := (y 1).isLt
  have h2 : (y 2).val < 1024 := (y 2).isLt
  unfold F36
  refine put_congr _ _ _ _ _ _ fun n1 => put_congr _ _ _ _ _ _ fun n0 => ?_
  exfalso
  by_cases hy : (y 0).val < 1
  · refine n0 fun a => ?_
    fin_cases a
    · exact ⟨Nat.zero_le _, hy⟩
    · exact ⟨Nat.zero_le _, h1.trans_le (Nat.le_add_left _ _)⟩
    · exact ⟨Nat.zero_le _, h2.trans_le (Nat.le_add_left _ _)⟩
  · refine n1 fun a => ?_
    fin_cases a
    · exact ⟨Nat.le_of_not_lt hy, h0⟩
    · exact ⟨Nat.zero_le _, h1.trans_le (Nat.le_add_left _ _)⟩
    · exact ⟨Nat.zero_le _, h2.trans_le (Nat.le_add_left _ _)⟩

/-- What the point leaves in the scratch. -/
def next (i : grid0.Coords) (x : Ins F) (p : Carry F) : Carry F where
  s0 := S0 i x p
  s1 := p.s1
  s2 := p.s2
  s3 := p.s3
  s4 := p.s4
  s5 := S5_15 i x p
  s6 := S6_16 i x p
  s7 := p.s7
  s8 := p.s8

end Cert.Kernel.Named

end
-- ==== Proof.BitsOps.lean ====
/- One load and one store of the body, over contents. -/
module

public import proofs.«01_k».proof.Proof.BitsBufs
public import Idealize.ShloMosaic.Lib.VecWindow

@[expose] public section

set_option maxRecDepth 16384

noncomputable section

namespace Cert.Kernel.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- A load of a window returns the contents there and leaves the buffer. -/
theorem wp_load (c : Dev nD) {s : Shape} {e : EltTy} (m : Memref sig .tc .vmem s e) (r : Rect s) (h) (X : Vec F s e) (E : Set ℕ) (K : _ → sProp 𝕄) :
    iprop(owns (c : Thread nD τ) m fullShare X ∗ (∀ v, iprop(⌜v = View.ld X r⌝ ∗ owns (c : Thread nD τ) m fullShare X) -∗ K v))
    ⊢ wp frame (wpE (defs₀ (F := F)) Variants.none c none) E (Prog.lift (.load m r.toLoadRect h)) K := by
  unfold owns
  iintro ⟨⟨%f, %h, H⟩, Hk⟩
  subst h
  sl_exec
  sl_step
  iapply Hk
  isplitr
  · ipureintro; rfl
  iexists _; isplitr; swap; · iexact H
  ipureintro; rfl

/-- A load of one word of scalar memory. -/
theorem wp_smem (c : Dev nD) {s : Shape} {e : EltTy} (m : Memref sig .tc .smem s e) (r : Rect s) (h : r.shape.numel = 1) (h') (X : Vec F s e) (E : Set ℕ) (K : _ → sProp 𝕄) :
    iprop(owns (c : Thread nD τ) m fullShare X ∗ (∀ v, iprop(⌜v = View.ld X r (Shape.Idx.first (h.symm ▸ Nat.one_pos))⌝ ∗ owns (c : Thread nD τ) m fullShare X) -∗ K v))
    ⊢ wp frame (wpE (defs₀ (F := F)) Variants.none c none) E (smemLoad m r h h') K := by
  unfold owns
  iintro ⟨⟨%f, %h, H⟩, Hk⟩
  subst h
  sl_exec
  sl_step
  iapply Hk
  isplitr
  · ipureintro; rfl
  iexists _; isplitr; swap; · iexact H
  ipureintro; rfl

/-- A store writes its payload over the window. -/
theorem wp_store (c : Dev nD) {s : Shape} {e : EltTy} (m : Memref sig .tc .vmem s e) (off size : Fin s.rank → ℕ) (inb : ∀ a, off a + size a ≤ s.size a)
    (w : (Rect.unit off size inb).shape.Idx → Elt F e) (h1 h2) (X : Vec F s e) (E : Set ℕ) (K : PUnit → sProp 𝕄) :
    iprop(owns (c : Thread nD τ) m fullShare X ∗ (∀ Y, iprop(⌜Y = VecWindow.put X off size w⌝ ∗ owns (c : Thread nD τ) m fullShare Y) -∗ K ⟨⟩))
    ⊢ wp frame (wpE (defs₀ (F := F)) Variants.none c none) E (Prog.lift (.store m (Rect.unit off size inb) w Finset.univ h1 h2)) K := by
  unfold owns
  iintro ⟨⟨%f, %h, H⟩, Hk⟩
  subst h
  sl_exec
  sl_step
  iapply Hk
  isplitr
  · ipureintro; rfl
  iexists _; isplitr; swap; · iexact H
  ipureintro; exact View.read_writes_cons_put _ _ _ _ [] rfl

/-- A store of the whole buffer leaves its payload. -/
theorem wp_store_full (c : Dev nD) {s : Shape} {e : EltTy} (m : Memref sig .tc .vmem s e) (off : Fin s.rank → ℕ) (inb : ∀ a, off a + s.size a ≤ s.size a)
    (w : (Rect.unit off s.size inb).shape.Idx → Elt F e) (h1 h2) (X : Vec F s e) (E : Set ℕ) (K : PUnit → sProp 𝕄) :
    iprop(owns (c : Thread nD τ) m fullShare X ∗ (owns (c : Thread nD τ) m fullShare (w : Vec F s e) -∗ K ⟨⟩))
    ⊢ wp frame (wpE (defs₀ (F := F)) Variants.none c none) E (Prog.lift (.store m (Rect.unit off s.size inb) w Finset.univ h1 h2)) K := by
  unfold owns
  iintro ⟨⟨%f, %h, H⟩, Hk⟩
  subst h
  sl_exec
  sl_step
  iapply Hk
  iexists _; isplitr; swap; · iexact H
  ipureintro; exact View.read_writes_full _ _ _ _ _

end Cert.Kernel.Named

end
-- ==== Proof.BitsRunInit.lean ====
/- The start of the kernel body: the filling of the scratch at the first grid point, and the first loads. -/
module

public import proofs.«01_k».proof.Proof.BitsPartsInit
public import proofs.«01_k».proof.Proof.BitsPartsA
public import proofs.«01_k».proof.Proof.BitsPartsB
public import proofs.«01_k».proof.Proof.BitsPartsC
public import proofs.«01_k».proof.Proof.BitsPartsOut
public import proofs.«01_k».proof.Proof.BitsVals
public import proofs.«01_k».proof.Proof.BitsOps
public import Idealize.ShloMosaic.Lib.VecWindow

@[expose] public section

set_option maxRecDepth 16384

noncomputable section

namespace Cert.Kernel.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The filling of the scratch at the first grid point, before the rest `k` of the body. -/
def initProg (i : grid0.Coords) (a : Bufs) (k : PUnit.{1} → Prog (TpuEff nD τ sig (Elt F) Λ₀ .tc) (Σ' (arg0 : BitVec 32) (v3 : IVec S56x1 32) (v4 : Vec F S112x32 .f32) (v33 : FVec F S112x1024 .f32), Vec F S1x1024 .f32)) : Prog (TpuEff nD τ sig (Elt F) Λ₀ .tc) (Σ' (arg0 : BitVec 32) (v3 : IVec S56x1 32) (v4 : Vec F S112x32 .f32) (v33 : FVec F S112x1024 .f32), Vec F S1x1024 .f32) :=
  if k0_h1 : Scalar.cmpi .ne (Scalar.extui (Scalar.cmpi .eq (BitVec.ofNat 32 (i 0).val) 0#32)) 0#32 = 1#1 then do
    k0_part1 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60
    k0_part2 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60
    let v739 : IVec S896x256 8 ← k0_part3 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60
    let v770 : FVec F S2x1024 .f32 ← k0_part4 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 v739
    let v771 : Vec F S2x1024 .f32 ← Prog.lift (.load a.m52 (Rect.unit (s := S2x1024) ![0, 0] S2x1024.size inb_S2x1024_S2x1024_0_0).toLoadRect (View.loadsAt_vmem h_S2x1024))
    Prog.lift (.store a.m52 (Rect.unit (s := S2x1024) ![0, 0] S2x1024.size inb_S2x1024_S2x1024_0_0) (k0_pay50 v770) Finset.univ (View.stores_vmem_bits_univ h_S2x1024 rfl) (.inl rfl))
    let v774 : Vec F S20x1 .f32 ← Prog.lift (.load a.m4 (Rect.unit (s := S20x1) ![0, 0] S20x1.size inb_S20x1_S20x1_0_0).toLoadRect (View.loadsAt_vmem h_S20x1))
    let v776 : Vec F S1x512 .f32 ← Prog.lift (.load a.m5 (Rect.unit (s := S1x512) ![0, 0] S1x512.size inb_S1x512_S1x512_0_0).toLoadRect (View.loadsAt_vmem h_S1x512))
    let v785 : Vec F S1024x1024 .bf16 ← Prog.lift (.load a.m11 (Rect.unit (s := S1024x1024) ![0, 0] S1024x1024.size inb_S1024x1024_S1024x1024_0_0).toLoadRect (View.loadsAt_vmem h_S1024x1024))
    let v787 : Vec F S1x1024 .f32 ← Prog.lift (.load a.m12 (Rect.unit (s := S1x1024) ![0, 0] S1x1024.size inb_S1x1024_S1x1024_0_0).toLoadRect (View.loadsAt_vmem h_S1x1024))
    let v791 : Vec F S20x1024 .f32 ← Prog.lift (.load a.m53 (Rect.unit (s := S20x1024) ![0, 0] S20x1024.size inb_S20x1024_S20x1024_0_0).toLoadRect (View.loadsAt_vmem h_S20x1024))
    Prog.lift (.store a.m53 (Rect.unit (s := S20x1024) ![0, 0] S20x1024.size inb_S20x1024_S20x1024_0_0) (k0_pay51 v774 v776 v785 v787) Finset.univ (View.stores_vmem_bits_univ h_S20x1024 rfl) (.inl rfl))
    k ⟨⟩
  else k ⟨⟩

/-- The loads after it. -/
def loadProg (i : grid0.Coords) (a : Bufs) : Prog (TpuEff nD τ sig (Elt F) Λ₀ .tc) (Σ' (arg0 : BitVec 32) (v3 : IVec S56x1 32) (v4 : Vec F S112x32 .f32) (v33 : FVec F S112x1024 .f32), Vec F S1x1024 .f32) := do
  have v3 : IVec S56x1 32 := iota .tc S56x1 32 [0] iota_S56x1_d0_w32
  let v4 : Vec F S112x32 .f32 ← Prog.lift (.load a.m51 (Rect.unit (s := S112x32) ![0, 0] S112x32.size inb_S112x32_S112x32_0_0).toLoadRect (View.loadsAt_vmem h_S112x32))
  let v5 : Vec F S32x1024 .f32 ← Prog.lift (.load a.m8 (Rect.unit (s := S32x1024) ![0, 0] S32x1024.size inb_S32x1024_S32x1024_0_0).toLoadRect (View.loadsAt_vmem h_S32x1024))
  let v7 : Vec F S1x1024 .f32 ← Prog.lift (.load a.m9 (Rect.unit (s := S1x1024) ![0, 0] S1x1024.size inb_S1x1024_S1x1024_0_0).toLoadRect (View.loadsAt_vmem h_S1x1024))
  let v12 : Vec F S1024x1024 .bf16 ← Prog.lift (.load a.m10 (Rect.unit (s := S1024x1024) ![0, 0] S1024x1024.size inb_S1024x1024_S1024x1024_0_0).toLoadRect (View.loadsAt_vmem h_S1024x1024))
  let v18 : Vec F S1x1024 .f32 ← Prog.lift (.load a.m53 (Rect.unit (s := S20x1024) (k0_off1 i 0#32) S1x1024.size (k0_off1_inb i 0)).toLoadRect (View.loadsAt_vmem h_S1x1024))
  let v25 : Vec F S1x1024 .f32 ← Prog.lift (.load a.m53 (Rect.unit (s := S20x1024) (k0_off1 i 1#32) S1x1024.size (k0_off1_inb i 1)).toLoadRect (View.loadsAt_vmem h_S1x1024))
  let v32 : Vec F S1024x1024 .bf16 ← Prog.lift (.load a.m13 (Rect.unit (s := S1024x1024) ![0, 0] S1024x1024.size inb_S1024x1024_S1024x1024_0_0).toLoadRect (View.loadsAt_vmem h_S1024x1024))
  let v34 : Vec F S1x1024 .f32 ← Prog.lift (.load a.m14 (Rect.unit (s := S1x1024) ![0, 0] S1x1024.size inb_S1x1024_S1x1024_0_0).toLoadRect (View.loadsAt_vmem h_S1x1024))
  pure ⟨BitVec.ofNat 32 (i 0).val, v3, v4, k0_pay52 v4 v5 v7 v12 v18 v25 v32, v34⟩

theorem part8_eq (i : grid0.Coords) (a : Bufs) : k0_part8 (F := F) i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60 = initProg i a fun _ => loadProg i a := by
  rw [k0_part8_eq_skeleton]; rfl

set_option maxHeartbeats 1000000 in
/-- After it the scratch is `start`. -/
theorem wp_init (c : Dev nD) (i : grid0.Coords) (a : Bufs) (x : Ins F) (p : Carry F) (k : PUnit.{1} → Prog (TpuEff nD τ sig (Elt F) Λ₀ .tc) (Σ' (arg0 : BitVec 32) (v3 : IVec S56x1 32) (v4 : Vec F S112x32 .f32) (v33 : FVec F S112x1024 .f32), Vec F S1x1024 .f32)) (E : Set ℕ) (K : (Σ' (arg0 : BitVec 32) (v3 : IVec S56x1 32) (v4 : Vec F S112x32 .f32) (v33 : FVec F S112x1024 .f32), Vec F S1x1024 .f32) → sProp 𝕄) :
    iprop(owns (c : Thread nD τ) a.m2 fullShare x.x1 ∗ owns (c : Thread nD τ) a.m3 fullShare x.x2 ∗ owns (c : Thread nD τ) a.m4 fullShare x.x3 ∗ owns (c : Thread nD τ) a.m5 fullShare x.x4 ∗ owns (c : Thread nD τ) a.m6 fullShare x.x5 ∗ owns (c : Thread nD τ) a.m7 fullShare x.x6 ∗ owns (c : Thread nD τ) a.m11 fullShare x.x10 ∗ owns (c : Thread nD τ) a.m12 fullShare x.x11 ∗ owns (c : Thread nD τ) a.m28 fullShare x.x27 ∗ owns (c : Thread nD τ) a.m29 fullShare x.x28 ∗ owns (c : Thread nD τ) a.m30 fullShare x.x29 ∗ owns (c : Thread nD τ) a.m31 fullShare x.x30 ∗ owns (c : Thread nD τ) a.m32 fullShare x.x31 ∗ owns (c : Thread nD τ) a.m33 fullShare x.x32 ∗ owns (c : Thread nD τ) a.m51 fullShare p.s0 ∗ owns (c : Thread nD τ) a.m52 fullShare p.s1 ∗ owns (c : Thread nD τ) a.m53 fullShare p.s2 ∗ owns (c : Thread nD τ) a.m54 fullShare p.s3 ∗ owns (c : Thread nD τ) a.m55 fullShare p.s4 ∗ owns (c : Thread nD τ) a.m56 fullShare p.s5 ∗ owns (c : Thread nD τ) a.m57 fullShare p.s6 ∗ owns (c : Thread nD τ) a.m58 fullShare p.s7 ∗ owns (c : Thread nD τ) a.m59 fullShare p.s8 ∗
      (iprop(owns (c : Thread nD τ) a.m2 fullShare x.x1 ∗ owns (c : Thread nD τ) a.m3 fullShare x.x2 ∗ owns (c : Thread nD τ) a.m4 fullShare x.x3 ∗ owns (c : Thread nD τ) a.m5 fullShare x.x4 ∗ owns (c : Thread nD τ) a.m6 fullShare x.x5 ∗ owns (c : Thread nD τ) a.m7 fullShare x.x6 ∗ owns (c : Thread nD τ) a.m11 fullShare x.x10 ∗ owns (c : Thread nD τ) a.m12 fullShare x.x11 ∗ owns (c : Thread nD τ) a.m28 fullShare x.x27 ∗ owns (c : Thread nD τ) a.m29 fullShare x.x28 ∗ owns (c : Thread nD τ) a.m30 fullShare x.x29 ∗ owns (c : Thread nD τ) a.m31 fullShare x.x30 ∗ owns (c : Thread nD τ) a.m32 fullShare x.x31 ∗ owns (c : Thread nD τ) a.m33 fullShare x.x32 ∗ owns (c : Thread nD τ) a.m51 fullShare (start i x p).s0 ∗ owns (c : Thread nD τ) a.m52 fullShare (start i x p).s1 ∗ owns (c : Thread nD τ) a.m53 fullShare (start i x p).s2 ∗ owns (c : Thread nD τ) a.m54 fullShare (start i x p).s3 ∗ owns (c : Thread nD τ) a.m55 fullShare (start i x p).s4 ∗ owns (c : Thread nD τ) a.m56 fullShare (start i x p).s5 ∗ owns (c : Thread nD τ) a.m57 fullShare (start i x p).s6 ∗ owns (c : Thread nD τ) a.m58 fullShare (start i x p).s7 ∗ owns (c : Thread nD τ) a.m59 fullShare (start i x p).s8) -∗ wp frame (wpE (defs₀ (F := F)) Variants.none c none) E (k ⟨⟩) K))
    ⊢ wp frame (wpE (defs₀ (F := F)) Variants.none c none) E (initProg i a k) K := by
  unfold initProg
  by_cases hc : cond0_0 i
  · rw [dif_pos hc, show start i x p = init x from if_pos hc]
    iintro ⟨H2, H3, H4, H5, H6, H7, H11, H12, H28, H29, H30, H31, H32, H33, H51, H52, H53, H54, H55, H56, H57, H58, H59, Hk⟩
    rw [wp_bind]
    iapply (wp_part1 c i a p.s0 p.s3 p.s4 p.s5 p.s6 p.s7 p.s8)
    isplitl [H51]; · iexact H51
    isplitl [H54]; · iexact H54
    isplitl [H55]; · iexact H55
    isplitl [H56]; · iexact H56
    isplitl [H57]; · iexact H57
    isplitl [H58]; · iexact H58
    isplitl [H59]; · iexact H59
    iintro %r %Y51 %Y54 %Y55 %Y56 %Y57 %Y58 %Y59 ⟨%hr, H51, H54, H55, H56, H57, H58, H59⟩
    obtain ⟨hr, h51, h54, h55, h56, h57, h58, h59⟩ := hr
    obtain rfl : Y51 = (B51_1 x) := h51
    obtain rfl : Y54 = (B54_1 x) := h54
    obtain rfl : Y55 = (B55_1 x) := h55
    obtain rfl : Y56 = (B56_1 x) := h56
    obtain rfl : Y57 = (B57_1 x) := h57
    obtain rfl : Y58 = (B58_1 x) := h58
    obtain rfl : Y59 = (B59_1 x) := h59
    cases r
    beta_reduce
    rw [wp_bind]
    iapply (wp_part2 c i a x.x1 x.x27 x.x28 x.x31 x.x32 (B51_1 x) (B54_1 x) (B55_1 x) (B56_1 x) (B57_1 x))
    isplitl [H2]; · iexact H2
    isplitl [H28]; · iexact H28
    isplitl [H29]; · iexact H29
    isplitl [H32]; · iexact H32
    isplitl [H33]; · iexact H33
    isplitl [H51]; · iexact H51
    isplitl [H54]; · iexact H54
    isplitl [H55]; · iexact H55
    isplitl [H56]; · iexact H56
    isplitl [H57]; · iexact H57
    iintro %r %Y51 %Y54 %Y55 %Y56 %Y57 ⟨%hr, H2, H28, H29, H32, H33, H51, H54, H55, H56, H57⟩
    obtain ⟨hr, h51, h54, h55, h56, h57⟩ := hr
    obtain rfl : Y51 = (B51_2 x) := h51
    obtain rfl : Y54 = (B54_2 x) := h54
    obtain rfl : Y55 = (B55_2 x) := h55
    obtain rfl : Y56 = (B56_2 x) := h56
    obtain rfl : Y57 = (B57_2 x) := h57
    cases r
    beta_reduce
    rw [wp_bind]
    iapply (wp_part3 c i a x.x1 x.x27 x.x29 x.x30 x.x31 x.x32 (B51_2 x) (B54_2 x) (B55_2 x) (B58_1 x) (B59_1 x))
    isplitl [H2]; · iexact H2
    isplitl [H28]; · iexact H28
    isplitl [H30]; · iexact H30
    isplitl [H31]; · iexact H31
    isplitl [H32]; · iexact H32
    isplitl [H33]; · iexact H33
    isplitl [H51]; · iexact H51
    isplitl [H54]; · iexact H54
    isplitl [H55]; · iexact H55
    isplitl [H58]; · iexact H58
    isplitl [H59]; · iexact H59
    iintro %r %Y51 %Y54 %Y55 %Y58 %Y59 ⟨%hr, H2, H28, H30, H31, H32, H33, H51, H54, H55, H58, H59⟩
    obtain ⟨hr, h51, h54, h55, h58, h59⟩ := hr
    obtain rfl : Y51 = (B51_3 x) := h51
    obtain rfl : Y54 = (B54_3 x) := h54
    obtain rfl : Y55 = (B55_3 x) := h55
    obtain rfl : Y58 = (B58_3 x) := h58
    obtain rfl : Y59 = (B59_3 x) := h59
    obtain rfl : r = (W739 x) := hr
    beta_reduce
    rw [wp_bind]
    iapply (wp_part4 c i a (W739 x) x.x2 x.x5 x.x6 x.x28 x.x29 x.x30 (B56_2 x) (B57_2 x) (B58_3 x) (B59_3 x))
    isplitl [H3]; · iexact H3
    isplitl [H6]; · iexact H6
    isplitl [H7]; · iexact H7
    isplitl [H29]; · iexact H29
    isplitl [H30]; · iexact H30
    isplitl [H31]; · iexact H31
    isplitl [H56]; · iexact H56
    isplitl [H57]; · iexact H57
    isplitl [H58]; · iexact H58
    isplitl [H59]; · iexact H59
    iintro %r %Y56 %Y57 %Y58 %Y59 ⟨%hr, H3, H6, H7, H29, H30, H31, H56, H57, H58, H59⟩
    obtain ⟨hr, h56, h57, h58, h59⟩ := hr
    obtain rfl : Y56 = (B56_4 x) := h56
    obtain rfl : Y57 = (B57_4 x) := h57
    obtain rfl : Y58 = (B58_4 x) := h58
    obtain rfl : Y59 = (B59_4 x) := h59
    obtain rfl : r = (W770 x) := hr
    beta_reduce
    rw [wp_bind]
    iapply (wp_load c a.m52 _ _ p.s1)
    isplitl [H52]; · iexact H52
    iintro %v ⟨%hv, H52⟩
    subst hv
    beta_reduce
    rw [wp_bind]
    iapply (wp_store_full c a.m52 _ _ _ _ _ p.s1)
    isplitl [H52]; · iexact H52
    iintro H52
    beta_reduce
    rw [wp_bind]
    iapply (wp_load c a.m4 _ _ x.x3)
    isplitl [H4]; · iexact H4
    iintro %v ⟨%hv, H4⟩
    subst hv
    beta_reduce
    rw [wp_bind]
    iapply (wp_load c a.m5 _ _ x.x4)
    isplitl [H5]; · iexact H5
    iintro %v ⟨%hv, H5⟩
    subst hv
    beta_reduce
    rw [wp_bind]
    iapply (wp_load c a.m11 _ _ x.x10)
    isplitl [H11]; · iexact H11
    iintro %v ⟨%hv, H11⟩
    subst hv
    beta_reduce
    rw [wp_bind]
    iapply (wp_load c a.m12 _ _ x.x11)
    isplitl [H12]; · iexact H12
    iintro %v ⟨%hv, H12⟩
    subst hv
    beta_reduce
    rw [wp_bind]
    iapply (wp_load c a.m53 _ _ p.s2)
    isplitl [H53]; · iexact H53
    iintro %v ⟨%hv, H53⟩
    subst hv
    beta_reduce
    rw [wp_bind]
    iapply (wp_store_full c a.m53 _ _ _ _ _ p.s2)
    isplitl [H53]; · iexact H53
    iintro H53
    beta_reduce
    iapply Hk
    dsimp only [init]
    isplitl [H2]; · iexact H2
    isplitl [H3]; · iexact H3
    isplitl [H4]; · iexact H4
    isplitl [H5]; · iexact H5
    isplitl [H6]; · iexact H6
    isplitl [H7]; · iexact H7
    isplitl [H11]; · iexact H11
    isplitl [H12]; · iexact H12
    isplitl [H28]; · iexact H28
    isplitl [H29]; · iexact H29
    isplitl [H30]; · iexact H30
    isplitl [H31]; · iexact H31
    isplitl [H32]; · iexact H32
    isplitl [H33]; · iexact H33
    isplitl [H51]; · iexact H51
    isplitl [H52]; · iexact H52
    isplitl [H53]; · iexact H53
    isplitl [H54]; · iexact H54
    isplitl [H55]; · iexact H55
    isplitl [H56]; · iexact H56
    isplitl [H57]; · iexact H57
    isplitl [H58]; · iexact H58
    iexact H59
  · rw [dif_neg hc, show start i x p = p from if_neg hc]
    iintro ⟨H2, H3, H4, H5, H6, H7, H11, H12, H28, H29, H30, H31, H32, H33, H51, H52, H53, H54, H55, H56, H57, H58, H59, Hk⟩
    iapply Hk
    isplitl [H2]; · iexact H2
    isplitl [H3]; · iexact H3
    isplitl [H4]; · iexact H4
    isplitl [H5]; · iexact H5
    isplitl [H6]; · iexact H6
    isplitl [H7]; · iexact H7
    isplitl [H11]; · iexact H11
    isplitl [H12]; · iexact H12
    isplitl [H28]; · iexact H28
    isplitl [H29]; · iexact H29
    isplitl [H30]; · iexact H30
    isplitl [H31]; · iexact H31
    isplitl [H32]; · iexact H32
    isplitl [H33]; · iexact H33
    isplitl [H51]; · iexact H51
    isplitl [H52]; · iexact H52
    isplitl [H53]; · iexact H53
    isplitl [H54]; · iexact H54
    isplitl [H55]; · iexact H55
    isplitl [H56]; · iexact H56
    isplitl [H57]; · iexact H57
    isplitl [H58]; · iexact H58
    iexact H59

/-- The loads after the filling. -/
theorem wp_loads (c : Dev nD) (i : grid0.Coords) (a : Bufs) (x : Ins F) (p : Carry F) (E : Set ℕ) (K : (Σ' (arg0 : BitVec 32) (v3 : IVec S56x1 32) (v4 : Vec F S112x32 .f32) (v33 : FVec F S112x1024 .f32), Vec F S1x1024 .f32) → sProp 𝕄) :
    iprop(owns (c : Thread nD τ) a.m8 fullShare x.x7 ∗ owns (c : Thread nD τ) a.m9 fullShare x.x8 ∗ owns (c : Thread nD τ) a.m10 fullShare x.x9 ∗ owns (c : Thread nD τ) a.m13 fullShare x.x12 ∗ owns (c : Thread nD τ) a.m14 fullShare x.x13 ∗ owns (c : Thread nD τ) a.m51 fullShare p.s0 ∗ owns (c : Thread nD τ) a.m53 fullShare p.s2 ∗
      (∀ r : (Σ' (arg0 : BitVec 32) (v3 : IVec S56x1 32) (v4 : Vec F S112x32 .f32) (v33 : FVec F S112x1024 .f32), Vec F S1x1024 .f32), iprop(⌜r = ⟨BitVec.ofNat 32 (i 0).val, V3 i x p, V4 i x p, V33 i x p, V34 i x p⟩⌝ ∗ owns (c : Thread nD τ) a.m8 fullShare x.x7 ∗ owns (c : Thread nD τ) a.m9 fullShare x.x8 ∗ owns (c : Thread nD τ) a.m10 fullShare x.x9 ∗ owns (c : Thread nD τ) a.m13 fullShare x.x12 ∗ owns (c : Thread nD τ) a.m14 fullShare x.x13 ∗ owns (c : Thread nD τ) a.m51 fullShare p.s0 ∗ owns (c : Thread nD τ) a.m53 fullShare p.s2) -∗ K r))
    ⊢ wp frame (wpE (defs₀ (F := F)) Variants.none c none) E (loadProg i a) K := by
  unfold loadProg owns
  iintro ⟨⟨%f8, %h8, H8⟩, ⟨%f9, %h9, H9⟩, ⟨%f10, %h10, H10⟩, ⟨%f13, %h13, H13⟩, ⟨%f14, %h14, H14⟩, ⟨%f51, %h51, H51⟩, ⟨%f53, %h53, H53⟩, Hk⟩
  sl_exec
  sl_step
  iapply Hk
  isplitr
  · ipureintro
    unfold V3 V4 V33 V34
    rw [← h8, ← h9, ← h10, ← h13, ← h14, ← h51, ← h53]; rfl
  isplitl [H8]
  · iexists _; isplitr; swap; · iexact H8
    ipureintro; exact h8
  isplitl [H9]
  · iexists _; isplitr; swap; · iexact H9
    ipureintro; exact h9
  isplitl [H10]
  · iexists _; isplitr; swap; · iexact H10
    ipureintro; exact h10
  isplitl [H13]
  · iexists _; isplitr; swap; · iexact H13
    ipureintro; exact h13
  isplitl [H14]
  · iexists _; isplitr; swap; · iexact H14
    ipureintro; exact h14
  isplitl [H51]
  · iexists _; isplitr; swap; · iexact H51
    ipureintro; exact h51
  iexists _; isplitr; swap; · iexact H53
  ipureintro; exact h53

end Cert.Kernel.Named

end
-- ==== Proof.BitsRunMain.lean ====
/- The run of the kernel body at any grid point: from whole buffers it terminates, leaves the inputs, and leaves in the first three outputs
   and in the scratch the values named in `Vals`. -/
module

public import proofs.«01_k».proof.Proof.BitsRunInit
public import Idealize.ShloMosaic.Lib.VecWindow

@[expose] public section

set_option maxRecDepth 16384

noncomputable section

namespace Cert.Kernel.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 2000000 in
/-- The body without its last conditional. -/
theorem wp_part23 (c : Dev nD) (i : grid0.Coords) (a : Bufs) (x : Ins F) (p q : Carry F) (hq : start i x p = q) (y34 : Vec F S1x2x50x32 .f32) (y37 : Vec F S2x51x256 .bf16) (y38 : Vec F S2x51x256 .bf16) (y39 : Vec F S2x2048 .f32) (y40 : Vec F S2x50x2048 .bf16) (y41 : Vec F S2x51x1024 .fp8e4m3) (y42 : Vec F S2x51x1 .f32) (y43 : Vec F S2x51x2048 .fp8e4m3) (y44 : Vec F S2x51x1 .f32) (y45 : Vec F S2x51x1024 .fp8e4m3) (y46 : Vec F S2x51x1 .f32) (y47 : Vec F S2x51x4096 .fp8e4m3) (y48 : Vec F S2x51x1 .f32) (y49 : Vec F S1x2x51x2048 .bf16) (d : Vec F S112x2048 .f32)
    (E : Set ℕ) (K : (Σ' (arg0 : BitVec 32) (v589 : FVec F S112x1024 .f32), BitVec 32) → sProp 𝕄) :
    iprop(owns (c : Thread nD τ) a.m1 fullShare x.x0 ∗ owns (c : Thread nD τ) a.m2 fullShare x.x1 ∗ owns (c : Thread nD τ) a.m3 fullShare x.x2 ∗ owns (c : Thread nD τ) a.m4 fullShare x.x3 ∗ owns (c : Thread nD τ) a.m5 fullShare x.x4 ∗ owns (c : Thread nD τ) a.m6 fullShare x.x5 ∗ owns (c : Thread nD τ) a.m7 fullShare x.x6 ∗ owns (c : Thread nD τ) a.m8 fullShare x.x7 ∗ owns (c : Thread nD τ) a.m9 fullShare x.x8 ∗ owns (c : Thread nD τ) a.m10 fullShare x.x9 ∗ owns (c : Thread nD τ) a.m11 fullShare x.x10 ∗ owns (c : Thread nD τ) a.m12 fullShare x.x11 ∗ owns (c : Thread nD τ) a.m13 fullShare x.x12 ∗ owns (c : Thread nD τ) a.m14 fullShare x.x13 ∗ owns (c : Thread nD τ) a.m15 fullShare x.x14 ∗ owns (c : Thread nD τ) a.m16 fullShare x.x15 ∗ owns (c : Thread nD τ) a.m17 fullShare x.x16 ∗ owns (c : Thread nD τ) a.m18 fullShare x.x17 ∗ owns (c : Thread nD τ) a.m19 fullShare x.x18 ∗ owns (c : Thread nD τ) a.m20 fullShare x.x19 ∗ owns (c : Thread nD τ) a.m21 fullShare x.x20 ∗ owns (c : Thread nD τ) a.m22 fullShare x.x21 ∗ owns (c : Thread nD τ) a.m23 fullShare x.x22 ∗ owns (c : Thread nD τ) a.m24 fullShare x.x23 ∗ owns (c : Thread nD τ) a.m25 fullShare x.x24 ∗ owns (c : Thread nD τ) a.m26 fullShare x.x25 ∗ owns (c : Thread nD τ) a.m27 fullShare x.x26 ∗ owns (c : Thread nD τ) a.m28 fullShare x.x27 ∗ owns (c : Thread nD τ) a.m29 fullShare x.x28 ∗ owns (c : Thread nD τ) a.m30 fullShare x.x29 ∗ owns (c : Thread nD τ) a.m31 fullShare x.x30 ∗ owns (c : Thread nD τ) a.m32 fullShare x.x31 ∗ owns (c : Thread nD τ) a.m33 fullShare x.x32 ∗ owns (c : Thread nD τ) a.m34 fullShare x.x33 ∗ owns (c : Thread nD τ) a.m35 fullShare y34 ∗ owns (c : Thread nD τ) a.m38 fullShare y37 ∗ owns (c : Thread nD τ) a.m39 fullShare y38 ∗ owns (c : Thread nD τ) a.m40 fullShare y39 ∗ owns (c : Thread nD τ) a.m41 fullShare y40 ∗ owns (c : Thread nD τ) a.m42 fullShare y41 ∗ owns (c : Thread nD τ) a.m43 fullShare y42 ∗ owns (c : Thread nD τ) a.m44 fullShare y43 ∗ owns (c : Thread nD τ) a.m45 fullShare y44 ∗ owns (c : Thread nD τ) a.m46 fullShare y45 ∗ owns (c : Thread nD τ) a.m47 fullShare y46 ∗ owns (c : Thread nD τ) a.m48 fullShare y47 ∗ owns (c : Thread nD τ) a.m49 fullShare y48 ∗ owns (c : Thread nD τ) a.m50 fullShare y49 ∗ owns (c : Thread nD τ) a.m51 fullShare p.s0 ∗ owns (c : Thread nD τ) a.m52 fullShare p.s1 ∗ owns (c : Thread nD τ) a.m53 fullShare p.s2 ∗ owns (c : Thread nD τ) a.m54 fullShare p.s3 ∗ owns (c : Thread nD τ) a.m55 fullShare p.s4 ∗ owns (c : Thread nD τ) a.m56 fullShare p.s5 ∗ owns (c : Thread nD τ) a.m57 fullShare p.s6 ∗ owns (c : Thread nD τ) a.m58 fullShare p.s7 ∗ owns (c : Thread nD τ) a.m59 fullShare p.s8 ∗ owns (c : Thread nD τ) a.m60 fullShare d ∗
      (∀ r : (Σ' (arg0 : BitVec 32) (v589 : FVec F S112x1024 .f32), BitVec 32), iprop(⌜r = ⟨BitVec.ofNat 32 (i 0).val, V589 i x q, 9#32⟩⌝ ∗ owns (c : Thread nD τ) a.m1 fullShare x.x0 ∗ owns (c : Thread nD τ) a.m2 fullShare x.x1 ∗ owns (c : Thread nD τ) a.m3 fullShare x.x2 ∗ owns (c : Thread nD τ) a.m4 fullShare x.x3 ∗ owns (c : Thread nD τ) a.m5 fullShare x.x4 ∗ owns (c : Thread nD τ) a.m6 fullShare x.x5 ∗ owns (c : Thread nD τ) a.m7 fullShare x.x6 ∗ owns (c : Thread nD τ) a.m8 fullShare x.x7 ∗ owns (c : Thread nD τ) a.m9 fullShare x.x8 ∗ owns (c : Thread nD τ) a.m10 fullShare x.x9 ∗ owns (c : Thread nD τ) a.m11 fullShare x.x10 ∗ owns (c : Thread nD τ) a.m12 fullShare x.x11 ∗ owns (c : Thread nD τ) a.m13 fullShare x.x12 ∗ owns (c : Thread nD τ) a.m14 fullShare x.x13 ∗ owns (c : Thread nD τ) a.m15 fullShare x.x14 ∗ owns (c : Thread nD τ) a.m16 fullShare x.x15 ∗ owns (c : Thread nD τ) a.m17 fullShare x.x16 ∗ owns (c : Thread nD τ) a.m18 fullShare x.x17 ∗ owns (c : Thread nD τ) a.m19 fullShare x.x18 ∗ owns (c : Thread nD τ) a.m20 fullShare x.x19 ∗ owns (c : Thread nD τ) a.m21 fullShare x.x20 ∗ owns (c : Thread nD τ) a.m22 fullShare x.x21 ∗ owns (c : Thread nD τ) a.m23 fullShare x.x22 ∗ owns (c : Thread nD τ) a.m24 fullShare x.x23 ∗ owns (c : Thread nD τ) a.m25 fullShare x.x24 ∗ owns (c : Thread nD τ) a.m26 fullShare x.x25 ∗ owns (c : Thread nD τ) a.m27 fullShare x.x26 ∗ owns (c : Thread nD τ) a.m28 fullShare x.x27 ∗ owns (c : Thread nD τ) a.m29 fullShare x.x28 ∗ owns (c : Thread nD τ) a.m30 fullShare x.x29 ∗ owns (c : Thread nD τ) a.m31 fullShare x.x30 ∗ owns (c : Thread nD τ) a.m32 fullShare x.x31 ∗ owns (c : Thread nD τ) a.m33 fullShare x.x32 ∗ owns (c : Thread nD τ) a.m34 fullShare x.x33 ∗ owns (c : Thread nD τ) a.m35 fullShare (O34 i x q y34) ∗ (∃ d, owns (c : Thread nD τ) a.m38 fullShare d) ∗ (∃ d, owns (c : Thread nD τ) a.m39 fullShare d) ∗ (∃ d, owns (c : Thread nD τ) a.m40 fullShare d) ∗ (∃ d, owns (c : Thread nD τ) a.m41 fullShare d) ∗ (∃ d, owns (c : Thread nD τ) a.m42 fullShare d) ∗ (∃ d, owns (c : Thread nD τ) a.m43 fullShare d) ∗ (∃ d, owns (c : Thread nD τ) a.m44 fullShare d) ∗ (∃ d, owns (c : Thread nD τ) a.m45 fullShare d) ∗ (∃ d, owns (c : Thread nD τ) a.m46 fullShare d) ∗ (∃ d, owns (c : Thread nD τ) a.m47 fullShare d) ∗ (∃ d, owns (c : Thread nD τ) a.m48 fullShare d) ∗ (∃ d, owns (c : Thread nD τ) a.m49 fullShare d) ∗ (∃ d, owns (c : Thread nD τ) a.m50 fullShare d) ∗ owns (c : Thread nD τ) a.m51 fullShare (next i x q).s0 ∗ owns (c : Thread nD τ) a.m52 fullShare (next i x q).s1 ∗ owns (c : Thread nD τ) a.m53 fullShare (next i x q).s2 ∗ owns (c : Thread nD τ) a.m54 fullShare (next i x q).s3 ∗ owns (c : Thread nD τ) a.m55 fullShare (next i x q).s4 ∗ owns (c : Thread nD τ) a.m56 fullShare (next i x q).s5 ∗ owns (c : Thread nD τ) a.m57 fullShare (next i x q).s6 ∗ owns (c : Thread nD τ) a.m58 fullShare (next i x q).s7 ∗ owns (c : Thread nD τ) a.m59 fullShare (next i x q).s8 ∗ (∃ d, owns (c : Thread nD τ) a.m60 fullShare d)) -∗ K r))
    ⊢ wp frame (wpE (defs₀ (F := F)) Variants.none c none) E (k0_part23 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60) K := by
  rw [k0_part23_eq_skeleton]
  unfold k0_part23_skel
  have W := fun k K => wp_init c i a x p k E K
  rw [hq] at W
  iintro ⟨H1, H2, H3, H4, H5, H6, H7, H8, H9, H10, H11, H12, H13, H14, H15, H16, H17, H18, H19, H20, H21, H22, H23, H24, H25, H26, H27, H28, H29, H30, H31, H32, H33, H34, H35, H38, H39, H40, H41, H42, H43, H44, H45, H46, H47, H48, H49, H50, H51, H52, H53, H54, H55, H56, H57, H58, H59, H60, Hk⟩
  rw [wp_bind, part8_eq]
  iapply W
  isplitl [H2]; · iexact H2
  isplitl [H3]; · iexact H3
  isplitl [H4]; · iexact H4
  isplitl [H5]; · iexact H5
  isplitl [H6]; · iexact H6
  isplitl [H7]; · iexact H7
  isplitl [H11]; · iexact H11
  isplitl [H12]; · iexact H12
  isplitl [H28]; · iexact H28
  isplitl [H29]; · iexact H29
  isplitl [H30]; · iexact H30
  isplitl [H31]; · iexact H31
  isplitl [H32]; · iexact H32
  isplitl [H33]; · iexact H33
  isplitl [H51]; · iexact H51
  isplitl [H52]; · iexact H52
  isplitl [H53]; · iexact H53
  isplitl [H54]; · iexact H54
  isplitl [H55]; · iexact H55
  isplitl [H56]; · iexact H56
  isplitl [H57]; · iexact H57
  isplitl [H58]; · iexact H58
  isplitl [H59]; · iexact H59
  iintro ⟨H2, H3, H4, H5, H6, H7, H11, H12, H28, H29, H30, H31, H32, H33, H51, H52, H53, H54, H55, H56, H57, H58, H59⟩
  beta_reduce
  iapply (wp_loads c i a x q)
  isplitl [H8]; · iexact H8
  isplitl [H9]; · iexact H9
  isplitl [H10]; · iexact H10
  isplitl [H13]; · iexact H13
  isplitl [H14]; · iexact H14
  isplitl [H51]; · iexact H51
  isplitl [H53]; · iexact H53
  iintro %r ⟨%hr, H8, H9, H10, H13, H14, H51, H53⟩
  subst hr
  dsimp only
  rw [wp_bind]
  iapply (wp_part9 c i a (V3 i x q) (V33 i x q) (V34 i x q) x.x14 q.s1)
  isplitl [H15]; · iexact H15
  isplitl [H52]; · iexact H52
  iintro %r ⟨%hr, H15, H52⟩
  obtain rfl : r = ⟨(V56 i x q), (V71 i x q), (V76 i x q), (V78 i x q), (Vcst32 i x q)⟩ := hr
  dsimp only
  rw [wp_bind]
  iapply (wp_part10 c i a (V71 i x q) (V76 i x q) (V78 i x q) (Vcst32 i x q) x.x16 x.x17 q.s3 q.s4)
  isplitl [H17]; · iexact H17
  isplitl [H18]; · iexact H18
  isplitl [H54]; · iexact H54
  isplitl [H55]; · iexact H55
  iintro %r ⟨%hr, H17, H18, H54, H55⟩
  obtain rfl : r = ⟨(V80 i x q), (V89 i x q), (V98 i x q), (V99 i x q), (V100 i x q), (V110 i x q), (V111 i x q), (V121 i x q), (V123 i x q), (V124 i x q), (V125 i x q), (V126 i x q)⟩ := hr
  dsimp only
  rw [wp_bind]
  iapply (wp_part11 c i a (V98 i x q) (V99 i x q) (V100 i x q) (V123 i x q) (V124 i x q) (V125 i x q) (V126 i x q))
  iintro %r %hr
  obtain rfl : r = ⟨(V131 i x q), (V141 i x q), (V151 i x q), (V161 i x q), (V171 i x q), (V181 i x q), (V183 i x q), (V184 i x q), (V185 i x q), (V186 i x q)⟩ := hr
  dsimp only
  rw [wp_bind]
  iapply (wp_part12 c i a (V99 i x q) (V100 i x q) (V110 i x q) (V111 i x q) (V183 i x q) (V184 i x q) (V185 i x q) (V186 i x q) x.x0 q.s5 q.s6)
  isplitl [H1]; · iexact H1
  isplitl [H56]; · iexact H56
  isplitl [H57]; · iexact H57
  iintro %r %Y56 %Y57 ⟨%hr, H1, H56, H57⟩
  obtain ⟨hr, h56, h57⟩ := hr
  obtain rfl : Y56 = (S5_12 i x q) := h56
  obtain rfl : Y57 = (S6_12 i x q) := h57
  obtain rfl : r = ⟨(V191 i x q), (V192 i x q), (V211 i x q), (V224 i x q), (V226 i x q), (V228 i x q)⟩ := hr
  dsimp only
  rw [wp_bind]
  iapply (wp_part13 c i a (V121 i x q) (V131 i x q) (V141 i x q) (V151 i x q) (V192 i x q) (V211 i x q) (V224 i x q) (V226 i x q) (V228 i x q) x.x0 (S5_12 i x q) (S6_12 i x q) q.s7 q.s8)
  isplitl [H1]; · iexact H1
  isplitl [H56]; · iexact H56
  isplitl [H57]; · iexact H57
  isplitl [H58]; · iexact H58
  isplitl [H59]; · iexact H59
  iintro %r ⟨%hr, H1, H56, H57, H58, H59⟩
  obtain rfl : r = ⟨(V244 i x q), (V266 i x q), (V270 i x q), (V271 i x q)⟩ := hr
  dsimp only
  rw [wp_bind]
  iapply (wp_part14 c i a (V161 i x q) (V171 i x q) (V181 i x q) (V191 i x q) (V244 i x q) (V266 i x q) (V270 i x q) (V271 i x q) (S5_12 i x q) q.s7 d)
  isplitl [H56]; · iexact H56
  isplitl [H58]; · iexact H58
  isplitl [H60]; · iexact H60
  iintro %r %Y60 ⟨%hr, H56, H58, H60⟩
  obtain ⟨hr, h60⟩ := hr
  obtain rfl : Y60 = (T_14 i x q d) := h60
  obtain rfl : r = (V310 i x q) := hr
  beta_reduce
  rw [wp_bind]
  iapply (wp_part15 c i a (V110 i x q) (V111 i x q) (V310 i x q) (S5_12 i x q) (S6_12 i x q) q.s8 (T_14 i x q d))
  isplitl [H56]; · iexact H56
  isplitl [H57]; · iexact H57
  isplitl [H59]; · iexact H59
  isplitl [H60]; · iexact H60
  iintro %r %Y56 %Y60 ⟨%hr, H56, H57, H59, H60⟩
  obtain ⟨hr, h56, h60⟩ := hr
  obtain rfl : Y56 = (S5_15 i x q) := h56
  obtain rfl : Y60 = (T_15 i x q d) := h60
  obtain rfl : r = (V345 i x q) := hr
  beta_reduce
  rw [wp_bind]
  iapply (wp_part16 c i a (V121 i x q) (V131 i x q) (V141 i x q) (V151 i x q) (V192 i x q) (V211 i x q) (V345 i x q) x.x0 (S5_15 i x q) (S6_12 i x q) q.s7)
  isplitl [H1]; · iexact H1
  isplitl [H56]; · iexact H56
  isplitl [H57]; · iexact H57
  isplitl [H58]; · iexact H58
  iintro %r %Y57 ⟨%hr, H1, H56, H57, H58⟩
  obtain ⟨hr, h57⟩ := hr
  obtain rfl : Y57 = (S6_16 i x q) := h57
  obtain rfl : r = ⟨(V371 i x q), (V385 i x q), (V389 i x q)⟩ := hr
  dsimp only
  rw [wp_bind]
  iapply (wp_part17 c i a (V161 i x q) (V171 i x q) (V181 i x q) (V191 i x q) (V385 i x q) (V389 i x q) (S5_15 i x q) (S6_16 i x q) q.s8 (T_15 i x q d))
  isplitl [H56]; · iexact H56
  isplitl [H57]; · iexact H57
  isplitl [H59]; · iexact H59
  isplitl [H60]; · iexact H60
  iintro %r %Y60 ⟨%hr, H56, H57, H59, H60⟩
  obtain ⟨hr, h60⟩ := hr
  obtain rfl : Y60 = (T_17 i x q d) := h60
  obtain rfl : r = ⟨(V424 i x q), (V426 i x q), (Vcst136 i x q)⟩ := hr
  dsimp only
  rw [wp_bind]
  iapply (wp_part18 c i a (V371 i x q) (V424 i x q) (V426 i x q) (Vcst136 i x q) (S6_16 i x q) q.s7 q.s8 (T_17 i x q d))
  isplitl [H57]; · iexact H57
  isplitl [H58]; · iexact H58
  isplitl [H59]; · iexact H59
  isplitl [H60]; · iexact H60
  iintro %r %Y60 ⟨%hr, H57, H58, H59, H60⟩
  obtain ⟨hr, h60⟩ := hr
  obtain rfl : Y60 = (T_18 i x q d) := h60
  obtain rfl : r = (V462 i x q) := hr
  beta_reduce
  rw [wp_bind]
  iapply (wp_part19 c i a (V56 i x q) (V462 i x q) x.x15 x.x18 x.x19 (T_18 i x q d))
  isplitl [H16]; · iexact H16
  isplitl [H19]; · iexact H19
  isplitl [H20]; · iexact H20
  isplitl [H60]; · iexact H60
  iintro %r %Y60 ⟨%hr, H16, H19, H20, H60⟩
  obtain ⟨hr, h60⟩ := hr
  obtain rfl : Y60 = (T_19 i x q d) := h60
  rw [V466_raw i x q d] at hr
  obtain rfl : r = ⟨(V466 i x q), (V475 i x q), (V484 i x q), (V494 i x q), (V495 i x q), (V504 i x q)⟩ := hr
  dsimp only
  rw [wp_bind]
  iapply (wp_part20 c i a (V494 i x q) (V495 i x q) (V504 i x q) x.x20 x.x21)
  isplitl [H21]; · iexact H21
  isplitl [H22]; · iexact H22
  iintro %r ⟨%hr, H21, H22⟩
  obtain rfl : r = ⟨(V518 i x q), (V527 i x q), (V537 i x q), (V543 i x q), (V544 i x q)⟩ := hr
  dsimp only
  rw [wp_bind]
  iapply (wp_part21 c i a (V537 i x q) (V543 i x q) (V544 i x q) x.x22 x.x23)
  isplitl [H23]; · iexact H23
  isplitl [H24]; · iexact H24
  iintro %r ⟨%hr, H23, H24⟩
  obtain rfl : r = ⟨(V570 i x q), (V579 i x q), (V588 i x q)⟩ := hr
  dsimp only
  rw [wp_bind]
  iapply (wp_part22 c i a (V4 i x q) (V494 i x q) (V588 i x q) x.x24 x.x25 x.x26 x.x33 y34 q.s0)
  isplitl [H25]; · iexact H25
  isplitl [H26]; · iexact H26
  isplitl [H27]; · iexact H27
  isplitl [H34]; · iexact H34
  isplitl [H35]; · iexact H35
  isplitl [H51]; · iexact H51
  iintro %r %Y35 %Y51 ⟨%hr, H25, H26, H27, H34, H35, H51⟩
  obtain ⟨hr, h35, h51⟩ := hr
  obtain rfl : Y35 = (O34_22 i x q y34) := h35
  obtain rfl : Y51 = (S0_22 i x q) := h51
  obtain rfl : r = ⟨(V589 i x q), (V625 i x q), (V626 i x q)⟩ := hr
  dsimp only
  rw [wp_bind]
  iapply (wp_load c a.m35 _ _ (O34_22 i x q y34))
  isplitl [H35]; · iexact H35
  iintro %v ⟨%hv, H35⟩
  subst hv
  beta_reduce
  rw [wp_bind]
  iapply (wp_store c a.m35 _ _ _ _ _ _ (O34_22 i x q y34))
  isplitl [H35]; · iexact H35
  iintro %Y35 ⟨%h35, H35⟩
  obtain rfl : Y35 = (O34 i x q y34) := h35
  beta_reduce
  rw [wp_bind]
  iapply (wp_smem c a.m34 _ _ _ x.x33)
  isplitl [H34]; · iexact H34
  iintro %v ⟨%hv, H34⟩
  subst hv
  beta_reduce
  rw [wp_bind]
  iapply (wp_load c a.m51 _ _ (S0_22 i x q))
  isplitl [H51]; · iexact H51
  iintro %v ⟨%hv, H51⟩
  subst hv
  beta_reduce
  rw [wp_bind]
  iapply (wp_store c a.m51 _ _ _ _ _ _ (S0_22 i x q))
  isplitl [H51]; · iexact H51
  iintro %Y51 ⟨%h51, H51⟩
  obtain rfl : Y51 = (S0 i x q) := h51
  beta_reduce
  rw [wp_bind]
  iapply (wp_load c a.m50 _ _ y49)
  isplitl [H50]; · iexact H50
  iintro %v ⟨%hv, H50⟩
  subst hv
  beta_reduce
  rw [wp_bind]
  iapply (wp_store c a.m50 _ _ _ _ _ _ y49)
  isplitl [H50]; · iexact H50
  iintro %Y50 ⟨%h50, H50⟩
  clear h50
  beta_reduce
  rw [wp_bind]
  iapply (wp_load c a.m50 _ _ Y50)
  isplitl [H50]; · iexact H50
  iintro %v ⟨%hv, H50⟩
  subst hv
  beta_reduce
  rw [wp_bind]
  iapply (wp_store c a.m50 _ _ _ _ _ _ Y50)
  isplitl [H50]; · iexact H50
  iintro %Y50 ⟨%h50, H50⟩
  clear h50
  beta_reduce
  by_cases hc2 : k0_cond2 i = 1#1
  · rw [dif_pos hc2]
    rw [wp_bind]
    iapply (wp_part5 c i a (V80 i x q) (V89 i x q) (V110 i x q) (V111 i x q) (V466 i x q) (V484 i x q) y37 y38 y39 y40 y41 y42 y43)
    isplitl [H38]; · iexact H38
    isplitl [H39]; · iexact H39
    isplitl [H40]; · iexact H40
    isplitl [H41]; · iexact H41
    isplitl [H42]; · iexact H42
    isplitl [H43]; · iexact H43
    isplitl [H44]; · iexact H44
    iintro %r %Y38 %Y39 %Y40 %Y41 %Y42 %Y43 %Y44 ⟨%hr, H38, H39, H40, H41, H42, H43, H44⟩
    obtain ⟨hr, h38, h39, h40, h41, h42, h43, h44⟩ := hr
    clear h38
    clear h39
    clear h40
    clear h41
    clear h42
    clear h43
    clear h44
    cases r
    beta_reduce
    rw [wp_bind]
    iapply (wp_part6 c i a (V110 i x q) (V111 i x q) (V475 i x q) (V518 i x q) (V527 i x q) (V570 i x q) (V579 i x q) Y38 Y39 y44 y45 y46 y47 y48)
    isplitl [H38]; · iexact H38
    isplitl [H39]; · iexact H39
    isplitl [H45]; · iexact H45
    isplitl [H46]; · iexact H46
    isplitl [H47]; · iexact H47
    isplitl [H48]; · iexact H48
    isplitl [H49]; · iexact H49
    iintro %r %Y38 %Y45 %Y46 %Y47 %Y48 %Y49 ⟨%hr, H38, H39, H45, H46, H47, H48, H49⟩
    obtain ⟨hr, h38, h45, h46, h47, h48, h49⟩ := hr
    clear h38
    clear h45
    clear h46
    clear h47
    clear h48
    clear h49
    clear hr
    beta_reduce
    rw [wp_bind]
    iapply (wp_part7 c i a (V80 i x q) (V89 i x q) (V466 i x q) (V475 i x q) (V484 i x q) (V527 i x q) r Y39 Y40 Y41 Y42 Y43 Y44 Y45 Y46)
    isplitl [H39]; · iexact H39
    isplitl [H40]; · iexact H40
    isplitl [H41]; · iexact H41
    isplitl [H42]; · iexact H42
    isplitl [H43]; · iexact H43
    isplitl [H44]; · iexact H44
    isplitl [H45]; · iexact H45
    isplitl [H46]; · iexact H46
    iintro %r %Y39 %Y40 %Y41 %Y42 %Y43 %Y44 %Y45 ⟨%hr, H39, H40, H41, H42, H43, H44, H45, H46⟩
    obtain ⟨hr, h39, h40, h41, h42, h43, h44, h45⟩ := hr
    clear h39
    clear h40
    clear h41
    clear h42
    clear h43
    clear h44
    clear h45
    clear hr
    beta_reduce
    rw [wp_bind]
    iapply (wp_store c a.m46 _ _ _ _ _ _ Y46)
    isplitl [H46]; · iexact H46
    iintro %Y46 ⟨%h46, H46⟩
    clear h46
    beta_reduce
    rw [wp_bind]
    iapply (wp_load c a.m47 _ _ Y47)
    isplitl [H47]; · iexact H47
    iintro %v ⟨%hv, H47⟩
    subst hv
    beta_reduce
    rw [wp_bind]
    iapply (wp_store c a.m47 _ _ _ _ _ _ Y47)
    isplitl [H47]; · iexact H47
    iintro %Y47 ⟨%h47, H47⟩
    clear h47
    beta_reduce
    rw [wp_bind]
    iapply (wp_load c a.m48 _ _ Y48)
    isplitl [H48]; · iexact H48
    iintro %v ⟨%hv, H48⟩
    subst hv
    beta_reduce
    rw [wp_bind]
    iapply (wp_store c a.m48 _ _ _ _ _ _ Y48)
    isplitl [H48]; · iexact H48
    iintro %Y48 ⟨%h48, H48⟩
    clear h48
    beta_reduce
    rw [wp_bind]
    iapply (wp_load c a.m49 _ _ Y49)
    isplitl [H49]; · iexact H49
    iintro %v ⟨%hv, H49⟩
    subst hv
    beta_reduce
    rw [wp_bind]
    iapply (wp_store c a.m49 _ _ _ _ _ _ Y49)
    isplitl [H49]; · iexact H49
    iintro %Y49 ⟨%h49, H49⟩
    clear h49
    beta_reduce
    sl_step
    iapply Hk
    isplitr
    · ipureintro; rfl
    dsimp only [next]
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    isplitl [H35]; · iexact H35
    isplitl [H38]; · iexists _; iexact H38
    isplitl [H39]; · iexists _; iexact H39
    isplitl [H40]; · iexists _; iexact H40
    isplitl [H41]; · iexists _; iexact H41
    isplitl [H42]; · iexists _; iexact H42
    isplitl [H43]; · iexists _; iexact H43
    isplitl [H44]; · iexists _; iexact H44
    isplitl [H45]; · iexists _; iexact H45
    isplitl [H46]; · iexists _; iexact H46
    isplitl [H47]; · iexists _; iexact H47
    isplitl [H48]; · iexists _; iexact H48
    isplitl [H49]; · iexists _; iexact H49
    isplitl [H50]; · iexists _; iexact H50
    isplitl [H51]; · iexact H51
    isplitl [H52]; · iexact H52
    isplitl [H53]; · iexact H53
    isplitl [H54]; · iexact H54
    isplitl [H55]; · iexact H55
    isplitl [H56]; · iexact H56
    isplitl [H57]; · iexact H57
    isplitl [H58]; · iexact H58
    isplitl [H59]; · iexact H59
    iexists _; iexact H60
  · rw [dif_neg hc2]
    sl_step
    iapply Hk
    isplitr
    · ipureintro; rfl
    dsimp only [next]
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    isplitl [H35]; · iexact H35
    isplitl [H38]; · iexists _; iexact H38
    isplitl [H39]; · iexists _; iexact H39
    isplitl [H40]; · iexists _; iexact H40
    isplitl [H41]; · iexists _; iexact H41
    isplitl [H42]; · iexists _; iexact H42
    isplitl [H43]; · iexists _; iexact H43
    isplitl [H44]; · iexists _; iexact H44
    isplitl [H45]; · iexists _; iexact H45
    isplitl [H46]; · iexists _; iexact H46
    isplitl [H47]; · iexists _; iexact H47
    isplitl [H48]; · iexists _; iexact H48
    isplitl [H49]; · iexists _; iexact H49
    isplitl [H50]; · iexists _; iexact H50
    isplitl [H51]; · iexact H51
    isplitl [H52]; · iexact H52
    isplitl [H53]; · iexact H53
    isplitl [H54]; · iexact H54
    isplitl [H55]; · iexact H55
    isplitl [H56]; · iexact H56
    isplitl [H57]; · iexact H57
    isplitl [H58]; · iexact H58
    isplitl [H59]; · iexact H59
    iexists _; iexact H60

end Cert.Kernel.Named

end
-- ==== Proof.BitsRunBody.lean ====
/- The run of the whole kernel body at any grid point. -/
module

public import proofs.«01_k».proof.Proof.BitsRunMain
public import Idealize.ShloMosaic.Lib.VecWindow

@[expose] public section

set_option maxRecDepth 16384

noncomputable section

namespace Cert.Kernel.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 2000000 in
/-- The body: `q` is the scratch it works on. -/
theorem wp_body (c : Dev nD) (i : grid0.Coords) (a : Bufs) (x : Ins F) (p q : Carry F) (hq : start i x p = q) (y34 : Vec F S1x2x50x32 .f32) (y35 : Vec F S2x50x32 .f32) (y36 : Vec F S2x51x1024 .f32) (y37 : Vec F S2x51x256 .bf16) (y38 : Vec F S2x51x256 .bf16) (y39 : Vec F S2x2048 .f32) (y40 : Vec F S2x50x2048 .bf16) (y41 : Vec F S2x51x1024 .fp8e4m3) (y42 : Vec F S2x51x1 .f32) (y43 : Vec F S2x51x2048 .fp8e4m3) (y44 : Vec F S2x51x1 .f32) (y45 : Vec F S2x51x1024 .fp8e4m3) (y46 : Vec F S2x51x1 .f32) (y47 : Vec F S2x51x4096 .fp8e4m3) (y48 : Vec F S2x51x1 .f32) (y49 : Vec F S1x2x51x2048 .bf16) (d : Vec F S112x2048 .f32)
    (E : Set ℕ) (K : PUnit → sProp 𝕄) :
    iprop(owns (c : Thread nD τ) a.m1 fullShare x.x0 ∗ owns (c : Thread nD τ) a.m2 fullShare x.x1 ∗ owns (c : Thread nD τ) a.m3 fullShare x.x2 ∗ owns (c : Thread nD τ) a.m4 fullShare x.x3 ∗ owns (c : Thread nD τ) a.m5 fullShare x.x4 ∗ owns (c : Thread nD τ) a.m6 fullShare x.x5 ∗ owns (c : Thread nD τ) a.m7 fullShare x.x6 ∗ owns (c : Thread nD τ) a.m8 fullShare x.x7 ∗ owns (c : Thread nD τ) a.m9 fullShare x.x8 ∗ owns (c : Thread nD τ) a.m10 fullShare x.x9 ∗ owns (c : Thread nD τ) a.m11 fullShare x.x10 ∗ owns (c : Thread nD τ) a.m12 fullShare x.x11 ∗ owns (c : Thread nD τ) a.m13 fullShare x.x12 ∗ owns (c : Thread nD τ) a.m14 fullShare x.x13 ∗ owns (c : Thread nD τ) a.m15 fullShare x.x14 ∗ owns (c : Thread nD τ) a.m16 fullShare x.x15 ∗ owns (c : Thread nD τ) a.m17 fullShare x.x16 ∗ owns (c : Thread nD τ) a.m18 fullShare x.x17 ∗ owns (c : Thread nD τ) a.m19 fullShare x.x18 ∗ owns (c : Thread nD τ) a.m20 fullShare x.x19 ∗ owns (c : Thread nD τ) a.m21 fullShare x.x20 ∗ owns (c : Thread nD τ) a.m22 fullShare x.x21 ∗ owns (c : Thread nD τ) a.m23 fullShare x.x22 ∗ owns (c : Thread nD τ) a.m24 fullShare x.x23 ∗ owns (c : Thread nD τ) a.m25 fullShare x.x24 ∗ owns (c : Thread nD τ) a.m26 fullShare x.x25 ∗ owns (c : Thread nD τ) a.m27 fullShare x.x26 ∗ owns (c : Thread nD τ) a.m28 fullShare x.x27 ∗ owns (c : Thread nD τ) a.m29 fullShare x.x28 ∗ owns (c : Thread nD τ) a.m30 fullShare x.x29 ∗ owns (c : Thread nD τ) a.m31 fullShare x.x30 ∗ owns (c : Thread nD τ) a.m32 fullShare x.x31 ∗ owns (c : Thread nD τ) a.m33 fullShare x.x32 ∗ owns (c : Thread nD τ) a.m34 fullShare x.x33 ∗ owns (c : Thread nD τ) a.m35 fullShare y34 ∗ owns (c : Thread nD τ) a.m36 fullShare y35 ∗ owns (c : Thread nD τ) a.m37 fullShare y36 ∗ owns (c : Thread nD τ) a.m38 fullShare y37 ∗ owns (c : Thread nD τ) a.m39 fullShare y38 ∗ owns (c : Thread nD τ) a.m40 fullShare y39 ∗ owns (c : Thread nD τ) a.m41 fullShare y40 ∗ owns (c : Thread nD τ) a.m42 fullShare y41 ∗ owns (c : Thread nD τ) a.m43 fullShare y42 ∗ owns (c : Thread nD τ) a.m44 fullShare y43 ∗ owns (c : Thread nD τ) a.m45 fullShare y44 ∗ owns (c : Thread nD τ) a.m46 fullShare y45 ∗ owns (c : Thread nD τ) a.m47 fullShare y46 ∗ owns (c : Thread nD τ) a.m48 fullShare y47 ∗ owns (c : Thread nD τ) a.m49 fullShare y48 ∗ owns (c : Thread nD τ) a.m50 fullShare y49 ∗ owns (c : Thread nD τ) a.m51 fullShare p.s0 ∗ owns (c : Thread nD τ) a.m52 fullShare p.s1 ∗ owns (c : Thread nD τ) a.m53 fullShare p.s2 ∗ owns (c : Thread nD τ) a.m54 fullShare p.s3 ∗ owns (c : Thread nD τ) a.m55 fullShare p.s4 ∗ owns (c : Thread nD τ) a.m56 fullShare p.s5 ∗ owns (c : Thread nD τ) a.m57 fullShare p.s6 ∗ owns (c : Thread nD τ) a.m58 fullShare p.s7 ∗ owns (c : Thread nD τ) a.m59 fullShare p.s8 ∗ owns (c : Thread nD τ) a.m60 fullShare d ∗
      (iprop(owns (c : Thread nD τ) a.m1 fullShare x.x0 ∗ owns (c : Thread nD τ) a.m2 fullShare x.x1 ∗ owns (c : Thread nD τ) a.m3 fullShare x.x2 ∗ owns (c : Thread nD τ) a.m4 fullShare x.x3 ∗ owns (c : Thread nD τ) a.m5 fullShare x.x4 ∗ owns (c : Thread nD τ) a.m6 fullShare x.x5 ∗ owns (c : Thread nD τ) a.m7 fullShare x.x6 ∗ owns (c : Thread nD τ) a.m8 fullShare x.x7 ∗ owns (c : Thread nD τ) a.m9 fullShare x.x8 ∗ owns (c : Thread nD τ) a.m10 fullShare x.x9 ∗ owns (c : Thread nD τ) a.m11 fullShare x.x10 ∗ owns (c : Thread nD τ) a.m12 fullShare x.x11 ∗ owns (c : Thread nD τ) a.m13 fullShare x.x12 ∗ owns (c : Thread nD τ) a.m14 fullShare x.x13 ∗ owns (c : Thread nD τ) a.m15 fullShare x.x14 ∗ owns (c : Thread nD τ) a.m16 fullShare x.x15 ∗ owns (c : Thread nD τ) a.m17 fullShare x.x16 ∗ owns (c : Thread nD τ) a.m18 fullShare x.x17 ∗ owns (c : Thread nD τ) a.m19 fullShare x.x18 ∗ owns (c : Thread nD τ) a.m20 fullShare x.x19 ∗ owns (c : Thread nD τ) a.m21 fullShare x.x20 ∗ owns (c : Thread nD τ) a.m22 fullShare x.x21 ∗ owns (c : Thread nD τ) a.m23 fullShare x.x22 ∗ owns (c : Thread nD τ) a.m24 fullShare x.x23 ∗ owns (c : Thread nD τ) a.m25 fullShare x.x24 ∗ owns (c : Thread nD τ) a.m26 fullShare x.x25 ∗ owns (c : Thread nD τ) a.m27 fullShare x.x26 ∗ owns (c : Thread nD τ) a.m28 fullShare x.x27 ∗ owns (c : Thread nD τ) a.m29 fullShare x.x28 ∗ owns (c : Thread nD τ) a.m30 fullShare x.x29 ∗ owns (c : Thread nD τ) a.m31 fullShare x.x30 ∗ owns (c : Thread nD τ) a.m32 fullShare x.x31 ∗ owns (c : Thread nD τ) a.m33 fullShare x.x32 ∗ owns (c : Thread nD τ) a.m34 fullShare x.x33 ∗ owns (c : Thread nD τ) a.m35 fullShare (O34 i x q y34) ∗ owns (c : Thread nD τ) a.m36 fullShare (O35 i x q y35) ∗ owns (c : Thread nD τ) a.m37 fullShare (O36 i x q y36) ∗ (∃ d, owns (c : Thread nD τ) a.m38 fullShare d) ∗ (∃ d, owns (c : Thread nD τ) a.m39 fullShare d) ∗ (∃ d, owns (c : Thread nD τ) a.m40 fullShare d) ∗ (∃ d, owns (c : Thread nD τ) a.m41 fullShare d) ∗ (∃ d, owns (c : Thread nD τ) a.m42 fullShare d) ∗ (∃ d, owns (c : Thread nD τ) a.m43 fullShare d) ∗ (∃ d, owns (c : Thread nD τ) a.m44 fullShare d) ∗ (∃ d, owns (c : Thread nD τ) a.m45 fullShare d) ∗ (∃ d, owns (c : Thread nD τ) a.m46 fullShare d) ∗ (∃ d, owns (c : Thread nD τ) a.m47 fullShare d) ∗ (∃ d, owns (c : Thread nD τ) a.m48 fullShare d) ∗ (∃ d, owns (c : Thread nD τ) a.m49 fullShare d) ∗ (∃ d, owns (c : Thread nD τ) a.m50 fullShare d) ∗ owns (c : Thread nD τ) a.m51 fullShare (next i x q).s0 ∗ owns (c : Thread nD τ) a.m52 fullShare (next i x q).s1 ∗ owns (c : Thread nD τ) a.m53 fullShare (next i x q).s2 ∗ owns (c : Thread nD τ) a.m54 fullShare (next i x q).s3 ∗ owns (c : Thread nD τ) a.m55 fullShare (next i x q).s4 ∗ owns (c : Thread nD τ) a.m56 fullShare (next i x q).s5 ∗ owns (c : Thread nD τ) a.m57 fullShare (next i x q).s6 ∗ owns (c : Thread nD τ) a.m58 fullShare (next i x q).s7 ∗ owns (c : Thread nD τ) a.m59 fullShare (next i x q).s8 ∗ (∃ d, owns (c : Thread nD τ) a.m60 fullShare d)) -∗ K ⟨⟩))
    ⊢ wp frame (wpE (defs₀ (F := F)) Variants.none c none) E (cc0_euler10 i a.m1 a.w1 a.m2 a.w2 a.m3 a.w3 a.m4 a.w4 a.m5 a.w5 a.m6 a.w6 a.m7 a.w7 a.m8 a.w8 a.m9 a.w9 a.m10 a.w10 a.m11 a.w11 a.m12 a.w12 a.m13 a.w13 a.m14 a.w14 a.m15 a.w15 a.m16 a.w16 a.m17 a.w17 a.m18 a.w18 a.m19 a.w19 a.m20 a.w20 a.m21 a.w21 a.m22 a.w22 a.m23 a.w23 a.m24 a.w24 a.m25 a.w25 a.m26 a.w26 a.m27 a.w27 a.m28 a.w28 a.m29 a.w29 a.m30 a.w30 a.m31 a.w31 a.m32 a.w32 a.m33 a.w33 a.m34 a.w34 a.m35 a.w35 a.m36 a.w36 a.m37 a.w37 a.m38 a.w38 a.m39 a.w39 a.m40 a.w40 a.m41 a.w41 a.m42 a.w42 a.m43 a.w43 a.m44 a.w44 a.m45 a.w45 a.m46 a.w46 a.m47 a.w47 a.m48 a.w48 a.m49 a.w49 a.m50 a.w50 a.m51 a.w51 a.m52 a.w52 a.m53 a.w53 a.m54 a.w54 a.m55 a.w55 a.m56 a.w56 a.m57 a.w57 a.m58 a.w58 a.m59 a.w59 a.m60 a.w60) K := by
  rw [cc0_euler10_eq_skeleton]
  unfold cc0_euler10_skel
  iintro ⟨H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, Hk⟩
  rw [wp_bind]
  iapply (wp_part23 c i a x p q hq y34 y37 y38 y39 y40 y41 y42 y43 y44 y45 y46 y47 y48 y49 d)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  isplitl [H57]; · iexact H57
  isplitl [H58]; · iexact H58
  isplitl [H59]; · iexact H59
  isplitl [H60]; · iexact H60
  dsimp only [next]
  iintro %r ⟨%hr, H1, H2, H3, H4, H5, H6, H7, H8, H9, H10, H11, H12, H13, H14, H15, H16, H17, H18, H19, H20, H21, H22, H23, H24, H25, H26, H27, H28, H29, H30, H31, H32, H33, H34, H35, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, H51, H52, H53, H54, H55, H56, H57, H58, H59, ⟨%d60, H60⟩⟩
  subst hr
  dsimp only
  by_cases hc3 : cond0_2 i
  · rw [dif_pos hc3, show O35 i x q y35 = F35 i x q y35 from if_pos hc3, show O36 i x q y36 = F36 i x q y36 from if_pos hc3]
    rw [wp_bind]
    iapply (wp_load c a.m37 _ _ y36)
    isplitl [H37]; · iexact H37
    iintro %v ⟨%hv, H37⟩
    subst hv
    beta_reduce
    rw [wp_bind]
    iapply (wp_store c a.m37 _ _ _ _ _ _ y36)
    isplitl [H37]; · iexact H37
    iintro %Y37 ⟨%h37, H37⟩
    obtain rfl : Y37 = (VecWindow.put y36 ![0, 0, 0] S1x51x1024.size (k0_pay1 (V589 i x q))) := h37
    beta_reduce
    rw [wp_bind]
    iapply (wp_load c a.m51 _ _ (S0 i x q))
    isplitl [H51]; · iexact H51
    iintro %v ⟨%hv, H51⟩
    subst hv
    beta_reduce
    rw [wp_bind]
    iapply (wp_load c a.m36 _ _ y35)
    isplitl [H36]; · iexact H36
    iintro %v ⟨%hv, H36⟩
    subst hv
    beta_reduce
    rw [wp_bind]
    iapply (wp_store c a.m36 _ _ _ _ _ _ y35)
    isplitl [H36]; · iexact H36
    iintro %Y36 ⟨%h36, H36⟩
    obtain rfl : Y36 = (VecWindow.put y35 ![0, 0, 0] S1x50x32.size (k0_pay2 (View.ld (S0 i x q) (Rect.unit (s := S112x32) ![1, 0] S50x32.size inb_S112x32_S50x32_1_0)))) := h36
    beta_reduce
    rw [wp_bind]
    iapply (wp_load c a.m37 _ _ (VecWindow.put y36 ![0, 0, 0] S1x51x1024.size (k0_pay1 (V589 i x q))))
    isplitl [H37]; · iexact H37
    iintro %v ⟨%hv, H37⟩
    subst hv
    beta_reduce
    rw [wp_bind]
    iapply (wp_store c a.m37 _ _ _ _ _ _ (VecWindow.put y36 ![0, 0, 0] S1x51x1024.size (k0_pay1 (V589 i x q))))
    isplitl [H37]; · iexact H37
    iintro %Y37 ⟨%h37, H37⟩
    obtain rfl : Y37 = (F36 i x q y36) := h37
    beta_reduce
    rw [wp_bind]
    iapply (wp_load c a.m51 _ _ (S0 i x q))
    isplitl [H51]; · iexact H51
    iintro %v ⟨%hv, H51⟩
    subst hv
    beta_reduce
    rw [wp_bind]
    iapply (wp_load c a.m36 _ _ (VecWindow.put y35 ![0, 0, 0] S1x50x32.size (k0_pay2 (View.ld (S0 i x q) (Rect.unit (s := S112x32) ![1, 0] S50x32.size inb_S112x32_S50x32_1_0)))))
    isplitl [H36]; · iexact H36
    iintro %v ⟨%hv, H36⟩
    subst hv
    beta_reduce
    rw [wp_bind]
    iapply (wp_store c a.m36 _ _ _ _ _ _ (VecWindow.put y35 ![0, 0, 0] S1x50x32.size (k0_pay2 (View.ld (S0 i x q) (Rect.unit (s := S112x32) ![1, 0] S50x32.size inb_S112x32_S50x32_1_0)))))
    isplitl [H36]; · iexact H36
    iintro %Y36 ⟨%h36, H36⟩
    obtain rfl : Y36 = (F35 i x q y35) := h36
    beta_reduce
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    isplitl [H35]; · iexact H35
    isplitl [H36]; · iexact H36
    isplitl [H37]; · iexact H37
    isplitl [H38]; · iexists _; iexact H38
    isplitl [H39]; · iexists _; iexact H39
    isplitl [H40]; · iexists _; iexact H40
    isplitl [H41]; · iexists _; iexact H41
    isplitl [H42]; · iexists _; iexact H42
    isplitl [H43]; · iexists _; iexact H43
    isplitl [H44]; · iexists _; iexact H44
    isplitl [H45]; · iexists _; iexact H45
    isplitl [H46]; · iexists _; iexact H46
    isplitl [H47]; · iexists _; iexact H47
    isplitl [H48]; · iexists _; iexact H48
    isplitl [H49]; · iexists _; iexact H49
    isplitl [H50]; · iexists _; iexact H50
    isplitl [H51]; · iexact H51
    isplitl [H52]; · iexact H52
    isplitl [H53]; · iexact H53
    isplitl [H54]; · iexact H54
    isplitl [H55]; · iexact H55
    isplitl [H56]; · iexact H56
    isplitl [H57]; · iexact H57
    isplitl [H58]; · iexact H58
    isplitl [H59]; · iexact H59
    iexists _; iexact H60
  · rw [dif_neg hc3, show O35 i x q y35 = y35 from if_neg hc3, show O36 i x q y36 = y36 from if_neg hc3]
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    isplitl [H35]; · iexact H35
    isplitl [H36]; · iexact H36
    isplitl [H37]; · iexact H37
    isplitl [H38]; · iexists _; iexact H38
    isplitl [H39]; · iexists _; iexact H39
    isplitl [H40]; · iexists _; iexact H40
    isplitl [H41]; · iexists _; iexact H41
    isplitl [H42]; · iexists _; iexact H42
    isplitl [H43]; · iexists _; iexact H43
    isplitl [H44]; · iexists _; iexact H44
    isplitl [H45]; · iexists _; iexact H45
    isplitl [H46]; · iexists _; iexact H46
    isplitl [H47]; · iexists _; iexact H47
    isplitl [H48]; · iexists _; iexact H48
    isplitl [H49]; · iexists _; iexact H49
    isplitl [H50]; · iexists _; iexact H50
    isplitl [H51]; · iexact H51
    isplitl [H52]; · iexact H52
    isplitl [H53]; · iexact H53
    isplitl [H54]; · iexact H54
    isplitl [H55]; · iexact H55
    isplitl [H56]; · iexact H56
    isplitl [H57]; · iexact H57
    isplitl [H58]; · iexact H58
    isplitl [H59]; · iexact H59
    iexists _; iexact H60

end Cert.Kernel.Named

end
-- ==== Proof.BitsNamed.lean ====
/- The frame of the kernel with its first three outputs NAMED: what each holds after every grid point (`outsAt`), the pipeline's proof
   data over it, the body obligation, and the run of @main. -/
module

public import proofs.«01_k».proof.Proof.BitsTables
public import proofs.«01_k».proof.Proof.BitsRunBody

@[expose] public section

set_option maxRecDepth 16384

noncomputable section

namespace Cert.Kernel.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a grid point leaves: the three named outputs' blocks and the carried scratch. -/
structure Left (F : FTy → Type) extends Carry F where
  o34 : Vec F S1x2x50x32 .f32
  o35 : Vec F S2x50x32 .f32
  o36 : Vec F S2x51x1024 .f32

/-- The scratch the body works on at point `t`, when `p` was there before. -/
def startAt (c : Dev nD) (t : Fin cfg0.N) (p : Carry F) : Carry F := start (grid0.coords t) (insAt m c t) p

/-- What point `t` leaves, when the body works on the scratch `q`. -/
def leftAt (c : Dev nD) (t : Fin cfg0.N) (q : Carry F) : Left F where
  toCarry := next (grid0.coords t) (insAt m c t) q
  o34 := O34 (grid0.coords t) (insAt m c t) q fun _ => Scalar.ofBits .f32 0
  o35 := F35 (grid0.coords t) (insAt m c t) q fun _ => Scalar.ofBits .f32 0
  o36 := F36 (grid0.coords t) (insAt m c t) q fun _ => Scalar.ofBits .f32 0

/-- What the outputs and the scratch hold after the point at position `n`. -/
def outsAt (c : Dev nD) : (n : ℕ) → n < cfg0.N → Left F
  | 0, hn => leftAt m c ⟨0, hn⟩ (init (insAt m c ⟨0, hn⟩))
  | n + 1, hn => leftAt m c ⟨n + 1, hn⟩ (outsAt c n (Nat.lt_of_succ_lt hn)).toCarry

theorem outsAt_zero (c : Dev nD) (t : Fin cfg0.N) (h : t.val = 0) :
    outsAt m c t.val t.isLt = leftAt m c t (init (insAt m c t)) := by
  obtain ⟨n, hn⟩ := t; cases h; rfl

theorem outsAt_pos (c : Dev nD) (t : Fin cfg0.N) (h : t.val ≠ 0) :
    outsAt m c t.val t.isLt = leftAt m c t (outsAt m c (t.val - 1) (by omega)).toCarry := by
  obtain ⟨n, hn⟩ := t
  cases n with
  | zero => exact absurd rfl h
  | succ n => rfl

/-- The region's invariant with the carried scratch at `p`. -/
def Held (c : Dev nD) (p : Carry F) : sProp 𝕄 :=
  iprop(iprop(owns (c : Thread nD τ) scM0_0 fullShare p.s0 ∗ owns (c : Thread nD τ) scM0_1 fullShare p.s1 ∗ owns (c : Thread nD τ) scM0_2 fullShare p.s2 ∗ owns (c : Thread nD τ) scM0_3 fullShare p.s3 ∗ owns (c : Thread nD τ) scM0_4 fullShare p.s4 ∗ owns (c : Thread nD τ) scM0_5 fullShare p.s5 ∗ owns (c : Thread nD τ) scM0_6 fullShare p.s6 ∗ owns (c : Thread nD τ) scM0_7 fullShare p.s7 ∗ owns (c : Thread nD τ) scM0_8 fullShare p.s8 ∗ (∃ d, owns (c : Thread nD τ) scM0_9 fullShare d)) ∗ ∃ st, prngReg c st)

/-- The invariant before position `n`: at the start anything, afterwards the scratch as the point before left it. -/
def PhiS (c : Dev nD) : (n : ℕ) → n ≤ cfg0.N → sProp 𝕄
  | 0, _ => Pipeline.ΦA spec0 c
  | n + 1, hn => Held c (outsAt m c n hn).toCarry

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = Held c (outsAt m c (n - 1) (by omega)).toCarry := by
  cases n with
  | zero => exact absurd rfl hz
  | succ n => rfl

/-- The outputs of which nothing is named. -/
def forgets0 : Fin 50 → Bool := fun w => decide (37 ≤ w.val)

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => (outsAt m c t.val t.isLt).o34
    | ⟨35, _⟩ => (outsAt m c t.val t.isLt).o35
    | ⟨36, _⟩ => (outsAt m c t.val t.isLt).o36
    | ⟨37, h⟩ => Pipeline.Dat.unnamed (cfg := cfg0) ⟨37, h⟩ t
    | ⟨38, h⟩ => Pipeline.Dat.unnamed (cfg := cfg0) ⟨38, h⟩ t
    | ⟨39, h⟩ => Pipeline.Dat.unnamed (cfg := cfg0) ⟨39, h⟩ t
    | ⟨40, h⟩ => Pipeline.Dat.unnamed (cfg := cfg0) ⟨40, h⟩ t
    | ⟨41, h⟩ => Pipeline.Dat.unnamed (cfg := cfg0) ⟨41, h⟩ t
    | ⟨42, h⟩ => Pipeline.Dat.unnamed (cfg := cfg0) ⟨42, h⟩ t
    | ⟨43, h⟩ => Pipeline.Dat.unnamed (cfg := cfg0) ⟨43, h⟩ t
    | ⟨44, h⟩ => Pipeline.Dat.unnamed (cfg := cfg0) ⟨44, h⟩ t
    | ⟨45, h⟩ => Pipeline.Dat.unnamed (cfg := cfg0) ⟨45, h⟩ t
    | ⟨46, h⟩ => Pipeline.Dat.unnamed (cfg := cfg0) ⟨46, h⟩ t
    | ⟨47, h⟩ => Pipeline.Dat.unnamed (cfg := cfg0) ⟨47, h⟩ t
    | ⟨48, h⟩ => Pipeline.Dat.unnamed (cfg := cfg0) ⟨48, h⟩ t
    | ⟨49, h⟩ => Pipeline.Dat.unnamed (cfg := cfg0) ⟨49, h⟩ t
    | ⟨_ + 50, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = iblk m c 31 t := by dsimp only [dats]
theorem after0_32 (c : Dev nD) (t : Fin cfg0.N) : (dats m 0 c).after 32 t = iblk m c 32 t := by dsimp only [dats]
theorem after0_33 (c : Dev nD) (t : Fin cfg0.N) : (dats m 0 c).after 33 t = iblk m c 33 t := by dsimp only [dats]
theorem after0_34 (c : Dev nD) (t : Fin cfg0.N) : (dats m 0 c).after 34 t = (outsAt m c t.val t.isLt).o34 := by dsimp only [dats]
theorem after0_35 (c : Dev nD) (t : Fin cfg0.N) : (dats m 0 c).after 35 t = (outsAt m c t.val t.isLt).o35 := by dsimp only [dats]
theorem after0_36 (c : Dev nD) (t : Fin cfg0.N) : (dats m 0 c).after 36 t = (outsAt m c t.val t.isLt).o36 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d
theorem before0_29 (c : Dev nD) (t : Fin cfg0.N) (d) : (dats m 0 c).before 29 t d = iblk m c 29 t :=
  before0_29_of m (dats m 0 c) (A_eq m c 29) (after0_29 m c) t d
theorem before0_30 (c : Dev nD) (t : Fin cfg0.N) (d) : (dats m 0 c).before 30 t d = iblk m c 30 t :=
  before0_30_of m (dats m 0 c) (A_eq m c 30) (after0_30 m c) t d
theorem before0_31 (c : Dev nD) (t : Fin cfg0.N) (d) : (dats m 0 c).before 31 t d = iblk m c 31 t :=
  before0_31_of m (dats m 0 c) (A_eq m c 31) (after0_31 m c) t d
theorem before0_32 (c : Dev nD) (t : Fin cfg0.N) (d) : (dats m 0 c).before 32 t d = iblk m c 32 t :=
  before0_32_of m (dats m 0 c) (A_eq m c 32) (after0_32 m c) t d
theorem before0_33 (c : Dev nD) (t : Fin cfg0.N) (d) : (dats m 0 c).before 33 t d = iblk m c 33 t :=
  before0_33_of m (dats m 0 c) (A_eq m c 33) (after0_33 m c) t d

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
theorem leaves0_6 (c : Dev nD) (t : Fin cfg0.N) : (dats m 0 c).leavesExact 6 t = owns (c : Thread nD τ) (ms0_6 t) fullShare (iblk m c 6 t) := by
  unfold Dat.leavesExact; rw [liveAt0_6 t, after0_6]
theorem leaves0_7 (c : Dev nD) (t : Fin cfg0.N) : (dats m 0 c).leavesExact 7 t = owns (c : Thread nD τ) (ms0_7 t) fullShare (iblk m c 7 t) := by
  unfold Dat.leavesExact; rw [liveAt0_7 t, after0_7]
theorem leaves0_8 (c : Dev nD) (t : Fin cfg0.N) : (dats m 0 c).leavesExact 8 t = owns (c : Thread nD τ) (ms0_8 t) fullShare (iblk m c 8 t) := by
  unfold Dat.leavesExact; rw [liveAt0_8 t, after0_8]
theorem leaves0_9 (c : Dev nD) (t : Fin cfg0.N) : (dats m 0 c).leavesExact 9 t = owns (c : Thread nD τ) (ms0_9 t) fullShare (iblk m c 9 t) := by
  unfold Dat.leavesExact; rw [liveAt0_9 t, after0_9]
theorem leaves0_10 (c : Dev nD) (t : Fin cfg0.N) : (dats m 0 c).leavesExact 10 t = owns (c : Thread nD τ) (ms0_10 t) fullShare (iblk m c 10 t) := by
  unfold Dat.leavesExact; rw [liveAt0_10 t, after0_10]
theorem leaves0_11 (c : Dev nD) (t : Fin cfg0.N) : (dats m 0 c).leavesExact 11 t = owns (c : Thread nD τ) (ms0_11 t) fullShare (iblk m c 11 t) := by
  unfold Dat.leavesExact; rw [liveAt0_11 t, after0_11]
theorem leaves0_12 (c : Dev nD) (t : Fin cfg0.N) : (dats m 0 c).leavesExact 12 t = owns (c : Thread nD τ) (ms0_12 t) fullShare (iblk m c 12 t) := by
  unfold Dat.leavesExact; rw [liveAt0_12 t, after0_12]
theorem leaves0_13 (c : Dev nD) (t : Fin cfg0.N) : (dats m 0 c).leavesExact 13 t = owns (c : Thread nD τ) (ms0_13 t) fullShare (iblk m c 13 t) := by
  unfold Dat.leavesExact; rw [liveAt0_13 t, after0_13]
theorem leaves0_14 (c : Dev nD) (t : Fin cfg0.N) : (dats m 0 c).leavesExact 14 t = owns (c : Thread nD τ) (ms0_14 t) fullShare (iblk m c 14 t) := by
  unfold Dat.leavesExact; rw [liveAt0_14 t, after0_14]
theorem leaves0_15 (c : Dev nD) (t : Fin cfg0.N) : (dats m 0 c).leavesExact 15 t = owns (c : Thread nD τ) (ms0_15 t) fullShare (iblk m c 15 t) := by
  unfold Dat.leavesExact; rw [liveAt0_15 t, after0_15]
theorem leaves0_16 (c : Dev nD) (t : Fin cfg0.N) : (dats m 0 c).leavesExact 16 t = owns (c : Thread nD τ) (ms0_16 t) fullShare (iblk m c 16 t) := by
  unfold Dat.leavesExact; rw [liveAt0_16 t, after0_16]
theorem leaves0_17 (c : Dev nD) (t : Fin cfg0.N) : (dats m 0 c).leavesExact 17 t = owns (c : Thread nD τ) (ms0_17 t) fullShare (iblk m c 17 t) := by
  unfold Dat.leavesExact; rw [liveAt0_17 t, after0_17]
theorem leaves0_18 (c : Dev nD) (t : Fin cfg0.N) : (dats m 0 c).leavesExact 18 t = owns (c : Thread nD τ) (ms0_18 t) fullShare (iblk m c 18 t) := by
  unfold Dat.leavesExact; rw [liveAt0_18 t, after0_18]
theorem leaves0_19 (c : Dev nD) (t : Fin cfg0.N) : (dats m 0 c).leavesExact 19 t = owns (c : Thread nD τ) (ms0_19 t) fullShare (iblk m c 19 t) := by
  unfold Dat.leavesExact; rw [liveAt0_19 t, after0_19]
theorem leaves0_20 (c : Dev nD) (t : Fin cfg0.N) : (dats m 0 c).leavesExact 20 t = owns (c : Thread nD τ) (ms0_20 t) fullShare (iblk m c 20 t) := by
  unfold Dat.leavesExact; rw [liveAt0_20 t, after0_20]
theorem leaves0_21 (c : Dev nD) (t : Fin cfg0.N) : (dats m 0 c).leavesExact 21 t = owns (c : Thread nD τ) (ms0_21 t) fullShare (iblk m c 21 t) := by
  unfold Dat.leavesExact; rw [liveAt0_21 t, after0_21]
theorem leaves0_22 (c : Dev nD) (t : Fin cfg0.N) : (dats m 0 c).leavesExact 22 t = owns (c : Thread nD τ) (ms0_22 t) fullShare (iblk m c 22 t) := by
  unfold Dat.leavesExact; rw [liveAt0_22 t, after0_22]
theorem leaves0_23 (c : Dev nD) (t : Fin cfg0.N) : (dats m 0 c).leavesExact 23 t = owns (c : Thread nD τ) (ms0_23 t) fullShare (iblk m c 23 t) := by
  unfold Dat.leavesExact; rw [liveAt0_23 t, after0_23]
theorem leaves0_24 (c : Dev nD) (t : Fin cfg0.N) : (dats m 0 c).leavesExact 24 t = owns (c : Thread nD τ) (ms0_24 t) fullShare (iblk m c 24 t) := by
  unfold Dat.leavesExact; rw [liveAt0_24 t, after0_24]
theorem leaves0_25 (c : Dev nD) (t : Fin cfg0.N) : (dats m 0 c).leavesExact 25 t = owns (c : Thread nD τ) (ms0_25 t) fullShare (iblk m c 25 t) := by
  unfold Dat.leavesExact; rw [liveAt0_25 t, after0_25]
theorem leaves0_26 (c : Dev nD) (t : Fin cfg0.N) : (dats m 0 c).leavesExact 26 t = owns (c : Thread nD τ) (ms0_26 t) fullShare (iblk m c 26 t) := by
  unfold Dat.leavesExact; rw [liveAt0_26 t, after0_26]
theorem leaves0_27 (c : Dev nD) (t : Fin cfg0.N) : (dats m 0 c).leavesExact 27 t = owns (c : Thread nD τ) (ms0_27 t) fullShare (iblk m c 27 t) := by
  unfold Dat.leavesExact; rw [liveAt0_27 t, after0_27]
theorem leaves0_28 (c : Dev nD) (t : Fin cfg0.N) : (dats m 0 c).leavesExact 28 t = owns (c : Thread nD τ) (ms0_28 t) fullShare (iblk m c 28 t) := by
  unfold Dat.leavesExact; rw [liveAt0_28 t, after0_28]
theorem leaves0_29 (c : Dev nD) (t : Fin cfg0.N) : (dats m 0 c).leavesExact 29 t = owns (c : Thread nD τ) (ms0_29 t) fullShare (iblk m c 29 t) := by
  unfold Dat.leavesExact; rw [liveAt0_29 t, after0_29]
theorem leaves0_30 (c : Dev nD) (t : Fin cfg0.N) : (dats m 0 c).leavesExact 30 t = owns (c : Thread nD τ) (ms0_30 t) fullShare (iblk m c 30 t) := by
  unfold Dat.leavesExact; rw [liveAt0_30 t, after0_30]
theorem leaves0_31 (c : Dev nD) (t : Fin cfg0.N) : (dats m 0 c).leavesExact 31 t = owns (c : Thread nD τ) (ms0_31 t) fullShare (iblk m c 31 t) := by
  unfold Dat.leavesExact; rw [liveAt0_31 t, after0_31]
theorem leaves0_32 (c : Dev nD) (t : Fin cfg0.N) : (dats m 0 c).leavesExact 32 t = owns (c : Thread nD τ) (ms0_32 t) fullShare (iblk m c 32 t) := by
  unfold Dat.leavesExact; rw [liveAt0_32 t, after0_32]
theorem leaves0_33 (c : Dev nD) (t : Fin cfg0.N) : (dats m 0 c).leavesExact 33 t = owns (c : Thread nD τ) (ms0_33 t) fullShare (iblk m c 33 t) := by
  unfold Dat.leavesExact; rw [liveAt0_33 t, after0_33]
theorem leaves0_34 (c : Dev nD) (t : Fin cfg0.N) : (dats m 0 c).leavesExact 34 t = owns (c : Thread nD τ) (ms0_34 t) fullShare (outsAt m c t.val t.isLt).o34 := by
  unfold Dat.leavesExact; rw [liveAt0_34 t, after0_34]

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d))
    ∗ (∃ d, owns (c : Thread nD τ) (ms0_35 t) fullShare ((dats m 0 c).before 35 t d))
    ∗ (∃ d, owns (c : Thread nD τ) (ms0_36 t) fullShare ((dats m 0 c).before 36 t d))
    ∗ (∃ d, owns (c : Thread nD τ) (ms0_37 t) fullShare d)
    ∗ (∃ d, owns (c : Thread nD τ) (ms0_38 t) fullShare d)
    ∗ (∃ d, owns (c : Thread nD τ) (ms0_39 t) fullShare d)
    ∗ (∃ d, owns (c : Thread nD τ) (ms0_40 t) fullShare d)
    ∗ (∃ d, owns (c : Thread nD τ) (ms0_41 t) fullShare d)
    ∗ (∃ d, owns (c : Thread nD τ) (ms0_42 t) fullShare d)
    ∗ (∃ d, owns (c : Thread nD τ) (ms0_43 t) fullShare d)
    ∗ (∃ d, owns (c : Thread nD τ) (ms0_44 t) fullShare d)
    ∗ (∃ d, owns (c : Thread nD τ) (ms0_45 t) fullShare d)
    ∗ (∃ d, owns (c : Thread nD τ) (ms0_46 t) fullShare d)
    ∗ (∃ d, owns (c : Thread nD τ) (ms0_47 t) fullShare d)
    ∗ (∃ d, owns (c : Thread nD τ) (ms0_48 t) fullShare d)
    ∗ (∃ d, owns (c : Thread nD τ) (ms0_49 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t
    ∗ (dats m 0 c).leavesExact 27 t
    ∗ (dats m 0 c).leavesExact 28 t
    ∗ (dats m 0 c).leavesExact 29 t
    ∗ (dats m 0 c).leavesExact 30 t
    ∗ (dats m 0 c).leavesExact 31 t
    ∗ (dats m 0 c).leavesExact 32 t
    ∗ (dats m 0 c).leavesExact 33 t
    ∗ (dats m 0 c).leavesExact 34 t
    ∗ (dats m 0 c).leavesExact 35 t
    ∗ (dats m 0 c).leavesExact 36 t
    ∗ (∃ d, owns (c : Thread nD τ) (ms0_37 t) fullShare d)
    ∗ (∃ d, owns (c : Thread nD τ) (ms0_38 t) fullShare d)
    ∗ (∃ d, owns (c : Thread nD τ) (ms0_39 t) fullShare d)
    ∗ (∃ d, owns (c : Thread nD τ) (ms0_40 t) fullShare d)
    ∗ (∃ d, owns (c : Thread nD τ) (ms0_41 t) fullShare d)
    ∗ (∃ d, owns (c : Thread nD τ) (ms0_42 t) fullShare d)
    ∗ (∃ d, owns (c : Thread nD τ) (ms0_43 t) fullShare d)
    ∗ (∃ d, owns (c : Thread nD τ) (ms0_44 t) fullShare d)
    ∗ (∃ d, owns (c : Thread nD τ) (ms0_45 t) fullShare d)
    ∗ (∃ d, owns (c : Thread nD τ) (ms0_46 t) fullShare d)
    ∗ (∃ d, owns (c : Thread nD τ) (ms0_47 t) fullShare d)
    ∗ (∃ d, owns (c : Thread nD τ) (ms0_48 t) fullShare d)
    ∗ (∃ d, owns (c : Thread nD τ) (ms0_49 t) fullShare d))

/-- What the body is called with at point `t`, beside the invariant. -/
def bodyRest (c : Dev nD) (t : Fin cfg0.N) : sProp 𝕄 :=
  iprop((dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d))
    ∗ (∃ d, owns (c : Thread nD τ) (ms0_35 t) fullShare ((dats m 0 c).before 35 t d))
    ∗ (∃ d, owns (c : Thread nD τ) (ms0_36 t) fullShare ((dats m 0 c).before 36 t d))
    ∗ (∃ d, owns (c : Thread nD τ) (ms0_37 t) fullShare d)
    ∗ (∃ d, owns (c : Thread nD τ) (ms0_38 t) fullShare d)
    ∗ (∃ d, owns (c : Thread nD τ) (ms0_39 t) fullShare d)
    ∗ (∃ d, owns (c : Thread nD τ) (ms0_40 t) fullShare d)
    ∗ (∃ d, owns (c : Thread nD τ) (ms0_41 t) fullShare d)
    ∗ (∃ d, owns (c : Thread nD τ) (ms0_42 t) fullShare d)
    ∗ (∃ d, owns (c : Thread nD τ) (ms0_43 t) fullShare d)
    ∗ (∃ d, owns (c : Thread nD τ) (ms0_44 t) fullShare d)
    ∗ (∃ d, owns (c : Thread nD τ) (ms0_45 t) fullShare d)
    ∗ (∃ d, owns (c : Thread nD τ) (ms0_46 t) fullShare d)
    ∗ (∃ d, owns (c : Thread nD τ) (ms0_47 t) fullShare d)
    ∗ (∃ d, owns (c : Thread nD τ) (ms0_48 t) fullShare d)
    ∗ (∃ d, owns (c : Thread nD τ) (ms0_49 t) fullShare d))

set_option maxHeartbeats 4000000 in
/-- The body's triple at point `t`, from scratch contents `p` that start the body at `q`. -/
theorem sound_of (c : Dev nD) (t : Fin cfg0.N) (p q : Carry F) (hq : start (grid0.coords t) (insAt m c t) p = q)
    (ho : outsAt m c t.val t.isLt = leftAt m c t q)
    (h35 : ∀ y, owns (c : Thread nD τ) (ms0_35 t) fullShare (O35 (grid0.coords t) (insAt m c t) q ((dats m 0 c).before 35 t y)) ⊢ (dats m 0 c).leavesExact 35 t)
    (h36 : ∀ y, owns (c : Thread nD τ) (ms0_36 t) fullShare (O36 (grid0.coords t) (insAt m c t) q ((dats m 0 c).before 36 t y)) ⊢ (dats m 0 c).leavesExact 36 t) :
    iprop(Held c p ∗ bodyRest m c t) ⊢ wp frame (wpE (defs₀ (F := F)) Variants.none c none) Set.univ (bodyAt0 t) (fun _ => bodyPost m c t) := by
  unfold bodyRest bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33, leaves0_0, leaves0_1, leaves0_2, leaves0_3, leaves0_4, leaves0_5, leaves0_6, leaves0_7, leaves0_8, leaves0_9, leaves0_10, leaves0_11, leaves0_12, leaves0_13, leaves0_14, leaves0_15, leaves0_16, leaves0_17, leaves0_18, leaves0_19, leaves0_20, leaves0_21, leaves0_22, leaves0_23, leaves0_24, leaves0_25, leaves0_26, leaves0_27, leaves0_28, leaves0_29, leaves0_30, leaves0_31, leaves0_32, leaves0_33, leaves0_34]
  rw [show (dats m 0 c).owesAt () t.succ = (dats m 0 c).owesAt () t.castSucc from rfl]
  rw [show (dats m 0 c).Φ t.succ = Held c (outsAt m c t.val t.isLt).toCarry from rfl, ho]
  unfold Held leftAt; dsimp only
  iintro ⟨⟨⟨HS0, HS1, HS2, HS3, HS4, HS5, HS6, HS7, HS8, ⟨%d, HS9⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩⟩
  iapply (wp_body c (grid0.coords t) (bufsAt t) (insAt m c t) p q hq ((dats m 0 c).before 34 t d34) ((dats m 0 c).before 35 t d35) ((dats m 0 c).before 36 t d36) d37 d38 d39 d40 d41 d42 d43 d44 d45 d46 d47 d48 d49 d)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, HS0, HS1, HS2, HS3, HS4, HS5, HS6, HS7, HS8, HS9⟩
  isplitl [HS0 HS1 HS2 HS3 HS4 HS5 HS6 HS7 HS8 HS9 Hg]
  · isplitl [HS0 HS1 HS2 HS3 HS4 HS5 HS6 HS7 HS8 HS9]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iexact HS9
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · rw [O34_indep (grid0.coords t) (insAt m c t) q ((dats m 0 c).before 34 t d34) (fun _ => Scalar.ofBits .f32 0)]; iexact H34
  isplitl [H35]; · iapply (h35 d35); iexact H35
  isplitl [H36]; · iapply (h36 d36); iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  iexact H49

theorem idle_35 (c : Dev nD) (t : Fin cfg0.N) (q : Carry F) (h9 : t.val ≠ 9) (y) :
    owns (c : Thread nD τ) (ms0_35 t) fullShare (O35 (grid0.coords t) (insAt m c t) q ((dats m 0 c).before 35 t y)) ⊢ (dats m 0 c).leavesExact 35 t := by
  have hN : t.val < 10 := lt_of_lt_of_eq t.isLt (show cfg0.N = 10 from N_0)
  have e : (dats m 0 c).leavesExact 35 t = iprop(∃ d, owns (c : Thread nD τ) (ms0_35 t) fullShare ((dats m 0 c).before 35 t d)) := by
    by_cases h : t.val = 0
    · exact Dat.leavesExact_idle (dats m 0 c) 35 t (idleAt0_35_A t ((hcond0_0 t).mpr (by omega)) ((hcond0_1 t).mpr (by omega)) (fun h' => by have := (hcond0_2 t).mp h'; omega)) (noFlush0_35_A t ((hcond0_0 t).mpr (by omega)) ((hcond0_1 t).mpr (by omega)) (fun h' => by have := (hcond0_2 t).mp h'; omega))
    · exact Dat.leavesExact_idle (dats m 0 c) 35 t (idleAt0_35_B t (fun h' => by have := (hcond0_0 t).mp h'; have := t.isLt; have : cfg0.N = 10 := N_0; omega) (fun h' => by have := (hcond0_1 t).mp h'; have := t.isLt; have : cfg0.N = 10 := N_0; omega) (fun h' => by have := (hcond0_2 t).mp h'; omega)) (noFlush0_35_B t (fun h' => by have := (hcond0_0 t).mp h'; have := t.isLt; have : cfg0.N = 10 := N_0; omega) (fun h' => by have := (hcond0_1 t).mp h'; have := t.isLt; have : cfg0.N = 10 := N_0; omega) (fun h' => by have := (hcond0_2 t).mp h'; omega))
  rw [e, show O35 (grid0.coords t) (insAt m c t) q ((dats m 0 c).before 35 t y) = (dats m 0 c).before 35 t y from
    if_neg fun h' => h9 (by have := (hcond0_2 t).mp h'; omega)]
  iintro H; iexists _; iexact H

theorem last_35 (c : Dev nD) (t : Fin cfg0.N) (q : Carry F) (h : t.val = 9) (ho : outsAt m c t.val t.isLt = leftAt m c t q) (y) :
    owns (c : Thread nD τ) (ms0_35 t) fullShare (O35 (grid0.coords t) (insAt m c t) q ((dats m 0 c).before 35 t y)) ⊢ (dats m 0 c).leavesExact 35 t := by
  rw [show (dats m 0 c).leavesExact 35 t = owns (c : Thread nD τ) (ms0_35 t) fullShare ((dats m 0 c).after 35 t) from by
    unfold Dat.leavesExact; rw [liveAt0_35_C t (fun h' => by have := (hcond0_0 t).mp h'; omega) (fun h' => by have := (hcond0_1 t).mp h'; omega) ((hcond0_2 t).mpr (by omega))], after0_35, ho,
    show O35 (grid0.coords t) (insAt m c t) q ((dats m 0 c).before 35 t y) = F35 (grid0.coords t) (insAt m c t) q ((dats m 0 c).before 35 t y) from
      if_pos ((hcond0_2 t).mpr (by omega)), F35_indep _ _ _ _ (fun _ => Scalar.ofBits .f32 0)]
  exact Idealize.SL.BI.Entails.refl _

theorem idle_36 (c : Dev nD) (t : Fin cfg0.N) (q : Carry F) (h9 : t.val ≠ 9) (y) :
    owns (c : Thread nD τ) (ms0_36 t) fullShare (O36 (grid0.coords t) (insAt m c t) q ((dats m 0 c).before 36 t y)) ⊢ (dats m 0 c).leavesExact 36 t := by
  have hN : t.val < 10 := lt_of_lt_of_eq t.isLt (show cfg0.N = 10 from N_0)
  have e : (dats m 0 c).leavesExact 36 t = iprop(∃ d, owns (c : Thread nD τ) (ms0_36 t) fullShare ((dats m 0 c).before 36 t d)) := by
    by_cases h : t.val = 0
    · exact Dat.leavesExact_idle (dats m 0 c) 36 t (idleAt0_36_A t ((hcond0_0 t).mpr (by omega)) ((hcond0_1 t).mpr (by omega)) (fun h' => by have := (hcond0_2 t).mp h'; omega)) (noFlush0_36_A t ((hcond0_0 t).mpr (by omega)) ((hcond0_1 t).mpr (by omega)) (fun h' => by have := (hcond0_2 t).mp h'; omega))
    · exact Dat.leavesExact_idle (dats m 0 c) 36 t (idleAt0_36_B t (fun h' => by have := (hcond0_0 t).mp h'; have := t.isLt; have : cfg0.N = 10 := N_0; omega) (fun h' => by have := (hcond0_1 t).mp h'; have := t.isLt; have : cfg0.N = 10 := N_0; omega) (fun h' => by have := (hcond0_2 t).mp h'; omega)) (noFlush0_36_B t (fun h' => by have := (hcond0_0 t).mp h'; have := t.isLt; have : cfg0.N = 10 := N_0; omega) (fun h' => by have := (hcond0_1 t).mp h'; have := t.isLt; have : cfg0.N = 10 := N_0; omega) (fun h' => by have := (hcond0_2 t).mp h'; omega))
  rw [e, show O36 (grid0.coords t) (insAt m c t) q ((dats m 0 c).before 36 t y) = (dats m 0 c).before 36 t y from
    if_neg fun h' => h9 (by have := (hcond0_2 t).mp h'; omega)]
  iintro H; iexists _; iexact H

theorem last_36 (c : Dev nD) (t : Fin cfg0.N) (q : Carry F) (h : t.val = 9) (ho : outsAt m c t.val t.isLt = leftAt m c t q) (y) :
    owns (c : Thread nD τ) (ms0_36 t) fullShare (O36 (grid0.coords t) (insAt m c t) q ((dats m 0 c).before 36 t y)) ⊢ (dats m 0 c).leavesExact 36 t := by
  rw [show (dats m 0 c).leavesExact 36 t = owns (c : Thread nD τ) (ms0_36 t) fullShare ((dats m 0 c).after 36 t) from by
    unfold Dat.leavesExact; rw [liveAt0_36_C t (fun h' => by have := (hcond0_0 t).mp h'; omega) (fun h' => by have := (hcond0_1 t).mp h'; omega) ((hcond0_2 t).mpr (by omega))], after0_36, ho,
    show O36 (grid0.coords t) (insAt m c t) q ((dats m 0 c).before 36 t y) = F36 (grid0.coords t) (insAt m c t) q ((dats m 0 c).before 36 t y) from
      if_pos ((hcond0_2 t).mpr (by omega)), F36_indep _ _ _ _ (fun _ => Scalar.ofBits .f32 0)]
  exact Idealize.SL.BI.Entails.refl _

/-- The body obligation's triple at every point. -/
theorem sound_body (c : Dev nD) (t : Fin cfg0.N) :
    bodyPre m c t ⊢ wp frame (wpE (defs₀ (F := F)) Variants.none c none) Set.univ (bodyAt0 t) (fun _ => bodyPost m c t) := by
  have hN : t.val < 10 := lt_of_lt_of_eq t.isLt (show cfg0.N = 10 from N_0)
  rw [show bodyPre m c t = iprop((dats m 0 c).Φ t.castSucc ∗ bodyRest m c t) from rfl]
  by_cases h : t.val = 0
  · rw [PhiS_castSucc m c t, PhiS_zero m c _ _ h, PhiA0_eq]
    iintro ⟨⟨⟨⟨%p0, HS0⟩, ⟨%p1, HS1⟩, ⟨%p2, HS2⟩, ⟨%p3, HS3⟩, ⟨%p4, HS4⟩, ⟨%p5, HS5⟩, ⟨%p6, HS6⟩, ⟨%p7, HS7⟩, ⟨%p8, HS8⟩, HS9⟩, Hg⟩, HR⟩
    iapply (sound_of m c t ⟨p0, p1, p2, p3, p4, p5, p6, p7, p8⟩ (init (insAt m c t)) (if_pos ((hcond0_0 t).mpr (by omega))) (outsAt_zero m c t h)
      (idle_35 m c t _ (by omega)) (idle_36 m c t _ (by omega)))
    unfold Held; dsimp only
    isplitr [HR]
    · isplitr [Hg]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        iexact HS9
      iexact Hg
    iexact HR
  · rw [PhiS_castSucc m c t, PhiS_pos m c _ _ h]
    have ho := outsAt_pos m c t h
    have hq : start (grid0.coords t) (insAt m c t) (outsAt m c (t.val - 1) (by omega)).toCarry = (outsAt m c (t.val - 1) (by omega)).toCarry :=
      if_neg fun h' => h (by have := (hcond0_0 t).mp h'; omega)
    by_cases h9 : t.val = 9
    · exact sound_of m c t _ _ hq ho (last_35 m c t _ h9 ho) (last_36 m c t _ h9 ho)
    · exact sound_of m c t _ _ hq ho (idle_35 m c t _ h9) (idle_36 m c t _ h9)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  unfold Held
  iintro ⟨⟨HS0, HS1, HS2, HS3, HS4, HS5, HS6, HS7, HS8, HS9⟩, Hg⟩
  isplitl [HS0 HS1 HS2 HS3 HS4 HS5 HS6 HS7 HS8 HS9]
  · isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    isplitl [HS5]
    · iexists _; iexact HS5
    isplitl [HS6]
    · iexists _; iexact HS6
    isplitl [HS7]
    · iexists _; iexact HS7
    isplitl [HS8]
    · iexists _; iexact HS8
    iexact HS9
  iexact Hg

/-- The same after the last point. -/
theorem hout (c : Dev nD) : (dats m 0 c).Φ (Fin.last cfg0.N) ⊢ Pipeline.ΦA spec0 c :=
  Phi_out m c _ (by rw [Fin.val_last]; have : cfg0.N = 10 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 37, 38, 39, 40, 41, 42, 43, 44, 45, 46, 47, 48, 49) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

end Cert.Kernel.Named

end
-- ==== Proof.BitsFramed.lean ====
/- The frame: every argument array ends unchanged and every counter at zero. -/
module

public import proofs.«01_k».proof.Proof.BitsNamed

public import Idealize.ShloMosaic.Lib.Claim

@[expose] public section

set_option maxRecDepth 16384

noncomputable section

namespace Cert.Kernel.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3000000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)) :=
  (θ_run defs _ _).mono (fun _ h c => ⟨(Pipeline.RDat.FramePost.arr_in h c 1 rfl).trans ((hA c 1).trans (V_main_arg0 m c)),
      (Pipeline.RDat.FramePost.arr_in h c 2 rfl).trans ((hA c 2).trans (V_main_arg1 m c)),
      ((h c).2 main_arg2 (Pipeline.mem_restRefs_of main_arg2 (by decide) (by decide))).trans (V_main_arg2 m c),
      (Pipeline.RDat.FramePost.arr_in h c 33 rfl).trans ((hA c 33).trans (V_main_arg3 m c)),
      ((h c).2 main_arg4 (Pipeline.mem_restRefs_of main_arg4 (by decide) (by decide))).trans (V_main_arg4 m c),
      (Pipeline.RDat.FramePost.arr_in h c 5 rfl).trans ((hA c 5).trans (V_main_arg5 m c)),
      ((h c).2 main_arg6 (Pipeline.mem_restRefs_of main_arg6 (by decide) (by decide))).trans (V_main_arg6 m c),
      (Pipeline.RDat.FramePost.arr_in h c 7 rfl).trans ((hA c 7).trans (V_main_arg7 m c)),
      ((h c).2 main_arg8 (Pipeline.mem_restRefs_of main_arg8 (by decide) (by decide))).trans (V_main_arg8 m c),
      (Pipeline.RDat.FramePost.arr_in h c 9 rfl).trans ((hA c 9).trans (V_main_arg9 m c)),
      (Pipeline.RDat.FramePost.arr_in h c 10 rfl).trans ((hA c 10).trans (V_main_arg10 m c)),
      ((h c).2 main_arg11 (Pipeline.mem_restRefs_of main_arg11 (by decide) (by decide))).trans (V_main_arg11 m c),
      (Pipeline.RDat.FramePost.arr_in h c 12 rfl).trans ((hA c 12).trans (V_main_arg12 m c)),
      ((h c).2 main_arg13 (Pipeline.mem_restRefs_of main_arg13 (by decide) (by decide))).trans (V_main_arg13 m c),
      (Pipeline.RDat.FramePost.arr_in h c 14 rfl).trans ((hA c 14).trans (V_main_arg14 m c)),
      (Pipeline.RDat.FramePost.arr_in h c 15 rfl).trans ((hA c 15).trans (V_main_arg15 m c)),
      ((h c).2 main_arg16 (Pipeline.mem_restRefs_of main_arg16 (by decide) (by decide))).trans (V_main_arg16 m c),
      (Pipeline.RDat.FramePost.arr_in h c 17 rfl).trans ((hA c 17).trans (V_main_arg17 m c)),
      ((h c).2 main_arg18 (Pipeline.mem_restRefs_of main_arg18 (by decide) (by decide))).trans (V_main_arg18 m c),
      (Pipeline.RDat.FramePost.arr_in h c 19 rfl).trans ((hA c 19).trans (V_main_arg19 m c)),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      (Pipeline.RDat.FramePost.arr_in h c 23 rfl).trans ((hA c 23).trans (V_main_arg23 m c)),
      ((h c).2 main_arg24 (Pipeline.mem_restRefs_of main_arg24 (by decide) (by decide))).trans (V_main_arg24 m c),
      (Pipeline.RDat.FramePost.arr_in h c 25 rfl).trans ((hA c 25).trans (V_main_arg25 m c)),
      ((h c).2 main_arg26 (Pipeline.mem_restRefs_of main_arg26 (by decide) (by decide))).trans (V_main_arg26 m c),
      ((h c).2 main_arg27 (Pipeline.mem_restRefs_of main_arg27 (by decide) (by decide))).trans (V_main_arg27 m c),
      ((h c).2 main_arg28 (Pipeline.mem_restRefs_of main_arg28 (by decide) (by decide))).trans (V_main_arg28 m c),
      ((h c).2 main_arg29 (Pipeline.mem_restRefs_of main_arg29 (by decide) (by decide))).trans (V_main_arg29 m c),
      ((h c).2 main_arg30 (Pipeline.mem_restRefs_of main_arg30 (by decide) (by decide))).trans (V_main_arg30 m c),
      (Pipeline.RDat.FramePost.arr_in h c 0 rfl).trans ((hA c 0).trans (V_main_arg31 m c)),
      (Pipeline.RDat.FramePost.arr_in h c 31 rfl).trans ((hA c 31).trans (V_main_arg32 m c)),
      (Pipeline.RDat.FramePost.arr_in h c 32 rfl).trans ((hA c 32).trans (V_main_arg33 m c))⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33))
      ∧ r.2.sem = fun _ => 0) :=
  θ_run_and (unchanged m ρ) ((θ_run defs _ _).mono (fun _ h => h.2) (run_main_quiescent m ρ))

end Cert.Kernel.Named

end
-- ==== Proof.RefRun.lean ====
/- The run of the reference's body: its triple, whose witness is the pieces each output ends with. -/
module

public import proofs.«01_k».proof.Proof.Gen.ReferenceIdeal.Frame.Runs

@[expose] public section

-- membership in a rectangle of production extents (`View.cover_of_tiled`): the elaborator's structural look
-- recurses once per coordinate of the long axes
set_option maxRecDepth 16384

noncomputable section

namespace Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 0 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (arg0 : Memref sig .tc .vmem S2x50x32 .f32) (harg0 : arg0.IsWhole) (arg1 : Memref sig .tc .vmem S2x1x32 .f32) (harg1 : arg1.IsWhole) (arg2 : Memref sig .tc .vmem S2x1x1 .f32) (harg2 : arg2.IsWhole) (arg3 : Memref sig .tc .vmem S2x1x1 .f32) (harg3 : arg3.IsWhole) (arg4 : Memref sig .tc .vmem S1x512 .f32) (harg4 : arg4.IsWhole) (arg5 : Memref sig .tc .vmem S32x1024 .f32) (harg5 : arg5.IsWhole) (arg6 : Memref sig .tc .vmem S1x1024 .f32) (harg6 : arg6.IsWhole) (arg7 : Memref sig .tc .vmem S32x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024x2560 .fp8e4m3) (harg16 : arg16.IsWhole) (arg17 : Memref sig .tc .vmem S1x2560 .f32) (harg17 : arg17.IsWhole) (arg18 : Memref sig .tc .vmem S1x2048x1024 .fp8e4m3) (harg18 : arg18.IsWhole) (arg19 : Memref sig .tc .vmem S1x1024 .f32) (harg19 : arg19.IsWhole) (arg20 : Memref sig .tc .vmem S1x2x1024x4096 .fp8e4m3) (harg20 : arg20.IsWhole) (arg21 : Memref sig .tc .vmem S1x2x4096 .f32) (harg21 : arg21.IsWhole) (arg22 : Memref sig .tc .vmem S1x4096x1024 .fp8e4m3) (harg22 : arg22.IsWhole) (arg23 : Memref sig .tc .vmem S1x1024 .f32) (harg23 : arg23.IsWhole) (arg24 : Memref sig .tc .vmem S1x1024 .f32) (harg24 : arg24.IsWhole) (arg25 : Memref sig .tc .vmem S1024x32 .f32) (harg25 : arg25.IsWhole) (arg26 : Memref sig .tc .vmem S1x32 .f32) (harg26 : arg26.IsWhole) (arg27 : Memref sig .tc .vmem S1x2x896x256 .i8) (harg27 : arg27.IsWhole) (arg28 : Memref sig .tc .vmem S1x2x896x256 .i8) (harg28 : arg28.IsWhole) (arg29 : Memref sig .tc .vmem S2x1x896 .f32) (harg29 : arg29.IsWhole) (arg30 : Memref sig .tc .vmem S2x1x896 .f32) (harg30 : arg30.IsWhole) (arg31 : Memref sig .tc .vmem S2x1x1 .i32) (harg31 : arg31.IsWhole) (arg32 : Memref sig .tc .vmem S2x51x128 .f32) (harg32 : arg32.IsWhole) (arg33 : Memref sig .tc .vmem S2x51x128 .f32) (harg33 : arg33.IsWhole) (arg34 : Memref sig .tc .vmem S10x2x50x32 .f32) (harg34 : arg34.IsWhole) (arg35 : Memref sig .tc .vmem S2x50x32 .f32) (harg35 : arg35.IsWhole) (arg36 : Memref sig .tc .vmem S2x51x1024 .f32) (harg36 : arg36.IsWhole)
    (x0 : Vec F S2x50x32 .f32) (x1 : Vec F S2x1x32 .f32) (x2 : Vec F S2x1x1 .f32) (x3 : Vec F S2x1x1 .f32) (x4 : Vec F S1x512 .f32) (x5 : Vec F S32x1024 .f32) (x6 : Vec F S1x1024 .f32) (x7 : Vec F S32x1024 .f32) (x8 : Vec F S1x1024 .f32) (x9 : Vec F S1024x1024 .bf16) (x10 : Vec F S1024x1024 .bf16) (x11 : Vec F S1x1024 .f32) (x12 : Vec F S1024x1024 .bf16) (x13 : Vec F S1x1024 .f32) (x14 : Vec F S1x1024 .f32) (x15 : Vec F S1x1024 .f32) (x16 : Vec F S1x1024x2560 .fp8e4m3) (x17 : Vec F S1x2560 .f32) (x18 : Vec F S1x2048x1024 .fp8e4m3) (x19 : Vec F S1x1024 .f32) (x20 : Vec F S1x2x1024x4096 .fp8e4m3) (x21 : Vec F S1x2x4096 .f32) (x22 : Vec F S1x4096x1024 .fp8e4m3) (x23 : Vec F S1x1024 .f32) (x24 : Vec F S1x1024 .f32) (x25 : Vec F S1024x32 .f32) (x26 : Vec F S1x32 .f32) (x27 : Vec F S1x2x896x256 .i8) (x28 : Vec F S1x2x896x256 .i8) (x29 : Vec F S2x1x896 .f32) (x30 : Vec F S2x1x896 .f32) (x31 : Vec F S2x1x1 .i32) (x32 : Vec F S2x51x128 .f32) (x33 : Vec F S2x51x128 .f32) :
    Σ' (L34 : List (View.Piece (Elt F) S10x2x50x32 .f32)), Σ' (L35 : List (View.Piece (Elt F) S2x50x32 .f32)), { L36 : List (View.Piece (Elt F) S2x51x1024 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ (∃ d, owns (c : Thread nD τ) arg34 fullShare d) ∗ (∃ d, owns (c : Thread nD τ) arg35 fullShare d) ∗ (∃ d, owns (c : Thread nD τ) arg36 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ (∃ f, arg34.view.loc (c : Thread nD τ) ↦[arg34.view.set]{fullShare} arg34.view.writes (Elt F) f L34) ∗ (∃ f, arg35.view.loc (c : Thread nD τ) ↦[arg35.view.set]{fullShare} arg35.view.writes (Elt F) f L35) ∗ (∃ f, arg36.view.loc (c : Thread nD τ) ↦[arg36.view.set]{fullShare} arg36.view.writes (Elt F) f L36)) -∗ K ⟨⟩))
          ⊢ wp frame (wpE (defs₀ (F := F)) Variants.none c none) E (cc0_euler_reference arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K } := by
  refine ⟨?_, ?_, ?_, fun E K => ?run⟩
  case run =>
    simp only [cc0_euler_reference_eq_skeleton]; unfold cc0_euler_reference_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%d34, %f34, -, H34⟩, ⟨%d35, %f35, -, H35⟩, ⟨%d36, %f36, -, H36⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23; obtain rfl := harg24.eq_unread hf24; obtain rfl := harg25.eq_unread hf25; obtain rfl := harg26.eq_unread hf26; obtain rfl := harg27.eq_unread hf27; obtain rfl := harg28.eq_unread hf28; obtain rfl := harg29.eq_unread hf29; obtain rfl := harg30.eq_unread hf30; obtain rfl := harg31.eq_unread hf31; obtain rfl := harg32.eq_unread hf32; obtain rfl := harg33.eq_unread hf33
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    isplitl [H20]
    · iexists _; isplitr; · ipureintro; exact harg20.read_unread _
      iexact H20
    isplitl [H21]
    · iexists _; isplitr; · ipureintro; exact harg21.read_unread _
      iexact H21
    isplitl [H22]
    · iexists _; isplitr; · ipureintro; exact harg22.read_unread _
      iexact H22
    isplitl [H23]
    · iexists _; isplitr; · ipureintro; exact harg23.read_unread _
      iexact H23
    isplitl [H24]
    · iexists _; isplitr; · ipureintro; exact harg24.read_unread _
      iexact H24
    isplitl [H25]
    · iexists _; isplitr; · ipureintro; exact harg25.read_unread _
      iexact H25
    isplitl [H26]
    · iexists _; isplitr; · ipureintro; exact harg26.read_unread _
      iexact H26
    isplitl [H27]
    · iexists _; isplitr; · ipureintro; exact harg27.read_unread _
      iexact H27
    isplitl [H28]
    · iexists _; isplitr; · ipureintro; exact harg28.read_unread _
      iexact H28
    isplitl [H29]
    · iexists _; isplitr; · ipureintro; exact harg29.read_unread _
      iexact H29
    isplitl [H30]
    · iexists _; isplitr; · ipureintro; exact harg30.read_unread _
      iexact H30
    isplitl [H31]
    · iexists _; isplitr; · ipureintro; exact harg31.read_unread _
      iexact H31
    isplitl [H32]
    · iexists _; isplitr; · ipureintro; exact harg32.read_unread _
      iexact H32
    isplitl [H33]
    · iexists _; isplitr; · ipureintro; exact harg33.read_unread _
      iexact H33
    isplitl [H34]; · iexists _; iexact H34
    isplitl [H35]; · iexists _; iexact H35
    iexists _; iexact H36

end Cert.ReferenceIdeal.Gen

end
-- ==== Proof.RefFrame.lean ====
/- The frame of the reference: what its outputs hold, the proof data of its run, and that the run leaves the arguments as they were. -/
module

public import proofs.«01_k».proof.Proof.RefRun
public import Idealize.ShloMosaic.Lib.Claim

@[expose] public section

-- membership in a rectangle of production extents (`View.cover_of_tiled`): the elaborator's structural look
-- recurses once per coordinate of the long axes
set_option maxRecDepth 16384

noncomputable section

namespace Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 34 tile its block (10 stores of `S1x2x50x32`, checked by the kernel's evaluation: Lib/Ring.lean `Piece.tiledL`, linear in the pieces, through a loop's `@[irreducible]` trip theorem too), so they cover it. -/
theorem cover0_A_34 (c : Dev nD) (arg0 : Memref sig .tc .vmem S2x50x32 .f32) (harg0 : arg0.IsWhole) (arg1 : Memref sig .tc .vmem S2x1x32 .f32) (harg1 : arg1.IsWhole) (arg2 : Memref sig .tc .vmem S2x1x1 .f32) (harg2 : arg2.IsWhole) (arg3 : Memref sig .tc .vmem S2x1x1 .f32) (harg3 : arg3.IsWhole) (arg4 : Memref sig .tc .vmem S1x512 .f32) (harg4 : arg4.IsWhole) (arg5 : Memref sig .tc .vmem S32x1024 .f32) (harg5 : arg5.IsWhole) (arg6 : Memref sig .tc .vmem S1x1024 .f32) (harg6 : arg6.IsWhole) (arg7 : Memref sig .tc .vmem S32x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024x2560 .fp8e4m3) (harg16 : arg16.IsWhole) (arg17 : Memref sig .tc .vmem S1x2560 .f32) (harg17 : arg17.IsWhole) (arg18 : Memref sig .tc .vmem S1x2048x1024 .fp8e4m3) (harg18 : arg18.IsWhole) (arg19 : Memref sig .tc .vmem S1x1024 .f32) (harg19 : arg19.IsWhole) (arg20 : Memref sig .tc .vmem S1x2x1024x4096 .fp8e4m3) (harg20 : arg20.IsWhole) (arg21 : Memref sig .tc .vmem S1x2x4096 .f32) (harg21 : arg21.IsWhole) (arg22 : Memref sig .tc .vmem S1x4096x1024 .fp8e4m3) (harg22 : arg22.IsWhole) (arg23 : Memref sig .tc .vmem S1x1024 .f32) (harg23 : arg23.IsWhole) (arg24 : Memref sig .tc .vmem S1x1024 .f32) (harg24 : arg24.IsWhole) (arg25 : Memref sig .tc .vmem S1024x32 .f32) (harg25 : arg25.IsWhole) (arg26 : Memref sig .tc .vmem S1x32 .f32) (harg26 : arg26.IsWhole) (arg27 : Memref sig .tc .vmem S1x2x896x256 .i8) (harg27 : arg27.IsWhole) (arg28 : Memref sig .tc .vmem S1x2x896x256 .i8) (harg28 : arg28.IsWhole) (arg29 : Memref sig .tc .vmem S2x1x896 .f32) (harg29 : arg29.IsWhole) (arg30 : Memref sig .tc .vmem S2x1x896 .f32) (harg30 : arg30.IsWhole) (arg31 : Memref sig .tc .vmem S2x1x1 .i32) (harg31 : arg31.IsWhole) (arg32 : Memref sig .tc .vmem S2x51x128 .f32) (harg32 : arg32.IsWhole) (arg33 : Memref sig .tc .vmem S2x51x128 .f32) (harg33 : arg33.IsWhole) (arg34 : Memref sig .tc .vmem S10x2x50x32 .f32) (harg34 : arg34.IsWhole) (arg35 : Memref sig .tc .vmem S2x50x32 .f32) (harg35 : arg35.IsWhole) (arg36 : Memref sig .tc .vmem S2x51x1024 .f32) (harg36 : arg36.IsWhole)
    (x0 : Vec F S2x50x32 .f32) (x1 : Vec F S2x1x32 .f32) (x2 : Vec F S2x1x1 .f32) (x3 : Vec F S2x1x1 .f32) (x4 : Vec F S1x512 .f32) (x5 : Vec F S32x1024 .f32) (x6 : Vec F S1x1024 .f32) (x7 : Vec F S32x1024 .f32) (x8 : Vec F S1x1024 .f32) (x9 : Vec F S1024x1024 .bf16) (x10 : Vec F S1024x1024 .bf16) (x11 : Vec F S1x1024 .f32) (x12 : Vec F S1024x1024 .bf16) (x13 : Vec F S1x1024 .f32) (x14 : Vec F S1x1024 .f32) (x15 : Vec F S1x1024 .f32) (x16 : Vec F S1x1024x2560 .fp8e4m3) (x17 : Vec F S1x2560 .f32) (x18 : Vec F S1x2048x1024 .fp8e4m3) (x19 : Vec F S1x1024 .f32) (x20 : Vec F S1x2x1024x4096 .fp8e4m3) (x21 : Vec F S1x2x4096 .f32) (x22 : Vec F S1x4096x1024 .fp8e4m3) (x23 : Vec F S1x1024 .f32) (x24 : Vec F S1x1024 .f32) (x25 : Vec F S1024x32 .f32) (x26 : Vec F S1x32 .f32) (x27 : Vec F S1x2x896x256 .i8) (x28 : Vec F S1x2x896x256 .i8) (x29 : Vec F S2x1x896 .f32) (x30 : Vec F S2x1x896 .f32) (x31 : Vec F S2x1x1 .i32) (x32 : Vec F S2x51x128 .f32) (x33 : Vec F S2x51x128 .f32) (y : S10x2x50x32.Idx) :
    ∃ pc ∈ (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20 x21 x22 x23 x24 x25 x26 x27 x28 x29 x30 x31 x32 x33).1, y ∈ pc.1.set :=
  View.cover_of_tiledL (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20 x21 x22 x23 x24 x25 x26 x27 x28 x29 x30 x31 x32 x33).1 S1x2x50x32.size (by sl_kernel_rfl) y

/-- What the run leaves in output 34's staging buffer: its pieces read back over junk. -/
def out0_A_34 (c : Dev nD) (arg0 : Memref sig .tc .vmem S2x50x32 .f32) (harg0 : arg0.IsWhole) (arg1 : Memref sig .tc .vmem S2x1x32 .f32) (harg1 : arg1.IsWhole) (arg2 : Memref sig .tc .vmem S2x1x1 .f32) (harg2 : arg2.IsWhole) (arg3 : Memref sig .tc .vmem S2x1x1 .f32) (harg3 : arg3.IsWhole) (arg4 : Memref sig .tc .vmem S1x512 .f32) (harg4 : arg4.IsWhole) (arg5 : Memref sig .tc .vmem S32x1024 .f32) (harg5 : arg5.IsWhole) (arg6 : Memref sig .tc .vmem S1x1024 .f32) (harg6 : arg6.IsWhole) (arg7 : Memref sig .tc .vmem S32x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024x2560 .fp8e4m3) (harg16 : arg16.IsWhole) (arg17 : Memref sig .tc .vmem S1x2560 .f32) (harg17 : arg17.IsWhole) (arg18 : Memref sig .tc .vmem S1x2048x1024 .fp8e4m3) (harg18 : arg18.IsWhole) (arg19 : Memref sig .tc .vmem S1x1024 .f32) (harg19 : arg19.IsWhole) (arg20 : Memref sig .tc .vmem S1x2x1024x4096 .fp8e4m3) (harg20 : arg20.IsWhole) (arg21 : Memref sig .tc .vmem S1x2x4096 .f32) (harg21 : arg21.IsWhole) (arg22 : Memref sig .tc .vmem S1x4096x1024 .fp8e4m3) (harg22 : arg22.IsWhole) (arg23 : Memref sig .tc .vmem S1x1024 .f32) (harg23 : arg23.IsWhole) (arg24 : Memref sig .tc .vmem S1x1024 .f32) (harg24 : arg24.IsWhole) (arg25 : Memref sig .tc .vmem S1024x32 .f32) (harg25 : arg25.IsWhole) (arg26 : Memref sig .tc .vmem S1x32 .f32) (harg26 : arg26.IsWhole) (arg27 : Memref sig .tc .vmem S1x2x896x256 .i8) (harg27 : arg27.IsWhole) (arg28 : Memref sig .tc .vmem S1x2x896x256 .i8) (harg28 : arg28.IsWhole) (arg29 : Memref sig .tc .vmem S2x1x896 .f32) (harg29 : arg29.IsWhole) (arg30 : Memref sig .tc .vmem S2x1x896 .f32) (harg30 : arg30.IsWhole) (arg31 : Memref sig .tc .vmem S2x1x1 .i32) (harg31 : arg31.IsWhole) (arg32 : Memref sig .tc .vmem S2x51x128 .f32) (harg32 : arg32.IsWhole) (arg33 : Memref sig .tc .vmem S2x51x128 .f32) (harg33 : arg33.IsWhole) (arg34 : Memref sig .tc .vmem S10x2x50x32 .f32) (harg34 : arg34.IsWhole) (arg35 : Memref sig .tc .vmem S2x50x32 .f32) (harg35 : arg35.IsWhole) (arg36 : Memref sig .tc .vmem S2x51x1024 .f32) (harg36 : arg36.IsWhole)
    (x0 : Vec F S2x50x32 .f32) (x1 : Vec F S2x1x32 .f32) (x2 : Vec F S2x1x1 .f32) (x3 : Vec F S2x1x1 .f32) (x4 : Vec F S1x512 .f32) (x5 : Vec F S32x1024 .f32) (x6 : Vec F S1x1024 .f32) (x7 : Vec F S32x1024 .f32) (x8 : Vec F S1x1024 .f32) (x9 : Vec F S1024x1024 .bf16) (x10 : Vec F S1024x1024 .bf16) (x11 : Vec F S1x1024 .f32) (x12 : Vec F S1024x1024 .bf16) (x13 : Vec F S1x1024 .f32) (x14 : Vec F S1x1024 .f32) (x15 : Vec F S1x1024 .f32) (x16 : Vec F S1x1024x2560 .fp8e4m3) (x17 : Vec F S1x2560 .f32) (x18 : Vec F S1x2048x1024 .fp8e4m3) (x19 : Vec F S1x1024 .f32) (x20 : Vec F S1x2x1024x4096 .fp8e4m3) (x21 : Vec F S1x2x4096 .f32) (x22 : Vec F S1x4096x1024 .fp8e4m3) (x23 : Vec F S1x1024 .f32) (x24 : Vec F S1x1024 .f32) (x25 : Vec F S1024x32 .f32) (x26 : Vec F S1x32 .f32) (x27 : Vec F S1x2x896x256 .i8) (x28 : Vec F S1x2x896x256 .i8) (x29 : Vec F S2x1x896 .f32) (x30 : Vec F S2x1x896 .f32) (x31 : Vec F S2x1x1 .i32) (x32 : Vec F S2x51x128 .f32) (x33 : Vec F S2x51x128 .f32) : Vec F S10x2x50x32 .f32 :=
  VO0_34.read (Elt F) (VO0_34.writes (Elt F) VO0_34.junk (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20 x21 x22 x23 x24 x25 x26 x27 x28 x29 x30 x31 x32 x33).1)

/-- The run's pieces for output 35 tile its block (1 store of `S2x50x32`, checked by the kernel's evaluation: Lib/Ring.lean `Piece.tiledL`, linear in the pieces, through a loop's `@[irreducible]` trip theorem too), so they cover it. -/
theorem cover0_A_35 (c : Dev nD) (arg0 : Memref sig .tc .vmem S2x50x32 .f32) (harg0 : arg0.IsWhole) (arg1 : Memref sig .tc .vmem S2x1x32 .f32) (harg1 : arg1.IsWhole) (arg2 : Memref sig .tc .vmem S2x1x1 .f32) (harg2 : arg2.IsWhole) (arg3 : Memref sig .tc .vmem S2x1x1 .f32) (harg3 : arg3.IsWhole) (arg4 : Memref sig .tc .vmem S1x512 .f32) (harg4 : arg4.IsWhole) (arg5 : Memref sig .tc .vmem S32x1024 .f32) (harg5 : arg5.IsWhole) (arg6 : Memref sig .tc .vmem S1x1024 .f32) (harg6 : arg6.IsWhole) (arg7 : Memref sig .tc .vmem S32x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024x2560 .fp8e4m3) (harg16 : arg16.IsWhole) (arg17 : Memref sig .tc .vmem S1x2560 .f32) (harg17 : arg17.IsWhole) (arg18 : Memref sig .tc .vmem S1x2048x1024 .fp8e4m3) (harg18 : arg18.IsWhole) (arg19 : Memref sig .tc .vmem S1x1024 .f32) (harg19 : arg19.IsWhole) (arg20 : Memref sig .tc .vmem S1x2x1024x4096 .fp8e4m3) (harg20 : arg20.IsWhole) (arg21 : Memref sig .tc .vmem S1x2x4096 .f32) (harg21 : arg21.IsWhole) (arg22 : Memref sig .tc .vmem S1x4096x1024 .fp8e4m3) (harg22 : arg22.IsWhole) (arg23 : Memref sig .tc .vmem S1x1024 .f32) (harg23 : arg23.IsWhole) (arg24 : Memref sig .tc .vmem S1x1024 .f32) (harg24 : arg24.IsWhole) (arg25 : Memref sig .tc .vmem S1024x32 .f32) (harg25 : arg25.IsWhole) (arg26 : Memref sig .tc .vmem S1x32 .f32) (harg26 : arg26.IsWhole) (arg27 : Memref sig .tc .vmem S1x2x896x256 .i8) (harg27 : arg27.IsWhole) (arg28 : Memref sig .tc .vmem S1x2x896x256 .i8) (harg28 : arg28.IsWhole) (arg29 : Memref sig .tc .vmem S2x1x896 .f32) (harg29 : arg29.IsWhole) (arg30 : Memref sig .tc .vmem S2x1x896 .f32) (harg30 : arg30.IsWhole) (arg31 : Memref sig .tc .vmem S2x1x1 .i32) (harg31 : arg31.IsWhole) (arg32 : Memref sig .tc .vmem S2x51x128 .f32) (harg32 : arg32.IsWhole) (arg33 : Memref sig .tc .vmem S2x51x128 .f32) (harg33 : arg33.IsWhole) (arg34 : Memref sig .tc .vmem S10x2x50x32 .f32) (harg34 : arg34.IsWhole) (arg35 : Memref sig .tc .vmem S2x50x32 .f32) (harg35 : arg35.IsWhole) (arg36 : Memref sig .tc .vmem S2x51x1024 .f32) (harg36 : arg36.IsWhole)
    (x0 : Vec F S2x50x32 .f32) (x1 : Vec F S2x1x32 .f32) (x2 : Vec F S2x1x1 .f32) (x3 : Vec F S2x1x1 .f32) (x4 : Vec F S1x512 .f32) (x5 : Vec F S32x1024 .f32) (x6 : Vec F S1x1024 .f32) (x7 : Vec F S32x1024 .f32) (x8 : Vec F S1x1024 .f32) (x9 : Vec F S1024x1024 .bf16) (x10 : Vec F S1024x1024 .bf16) (x11 : Vec F S1x1024 .f32) (x12 : Vec F S1024x1024 .bf16) (x13 : Vec F S1x1024 .f32) (x14 : Vec F S1x1024 .f32) (x15 : Vec F S1x1024 .f32) (x16 : Vec F S1x1024x2560 .fp8e4m3) (x17 : Vec F S1x2560 .f32) (x18 : Vec F S1x2048x1024 .fp8e4m3) (x19 : Vec F S1x1024 .f32) (x20 : Vec F S1x2x1024x4096 .fp8e4m3) (x21 : Vec F S1x2x4096 .f32) (x22 : Vec F S1x4096x1024 .fp8e4m3) (x23 : Vec F S1x1024 .f32) (x24 : Vec F S1x1024 .f32) (x25 : Vec F S1024x32 .f32) (x26 : Vec F S1x32 .f32) (x27 : Vec F S1x2x896x256 .i8) (x28 : Vec F S1x2x896x256 .i8) (x29 : Vec F S2x1x896 .f32) (x30 : Vec F S2x1x896 .f32) (x31 : Vec F S2x1x1 .i32) (x32 : Vec F S2x51x128 .f32) (x33 : Vec F S2x51x128 .f32) (y : S2x50x32.Idx) :
    ∃ pc ∈ (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20 x21 x22 x23 x24 x25 x26 x27 x28 x29 x30 x31 x32 x33).2.1, y ∈ pc.1.set :=
  View.cover_of_tiledL (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20 x21 x22 x23 x24 x25 x26 x27 x28 x29 x30 x31 x32 x33).2.1 S2x50x32.size (by sl_kernel_rfl) y

/-- What the run leaves in output 35's staging buffer: its pieces read back over junk. -/
def out0_A_35 (c : Dev nD) (arg0 : Memref sig .tc .vmem S2x50x32 .f32) (harg0 : arg0.IsWhole) (arg1 : Memref sig .tc .vmem S2x1x32 .f32) (harg1 : arg1.IsWhole) (arg2 : Memref sig .tc .vmem S2x1x1 .f32) (harg2 : arg2.IsWhole) (arg3 : Memref sig .tc .vmem S2x1x1 .f32) (harg3 : arg3.IsWhole) (arg4 : Memref sig .tc .vmem S1x512 .f32) (harg4 : arg4.IsWhole) (arg5 : Memref sig .tc .vmem S32x1024 .f32) (harg5 : arg5.IsWhole) (arg6 : Memref sig .tc .vmem S1x1024 .f32) (harg6 : arg6.IsWhole) (arg7 : Memref sig .tc .vmem S32x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024x2560 .fp8e4m3) (harg16 : arg16.IsWhole) (arg17 : Memref sig .tc .vmem S1x2560 .f32) (harg17 : arg17.IsWhole) (arg18 : Memref sig .tc .vmem S1x2048x1024 .fp8e4m3) (harg18 : arg18.IsWhole) (arg19 : Memref sig .tc .vmem S1x1024 .f32) (harg19 : arg19.IsWhole) (arg20 : Memref sig .tc .vmem S1x2x1024x4096 .fp8e4m3) (harg20 : arg20.IsWhole) (arg21 : Memref sig .tc .vmem S1x2x4096 .f32) (harg21 : arg21.IsWhole) (arg22 : Memref sig .tc .vmem S1x4096x1024 .fp8e4m3) (harg22 : arg22.IsWhole) (arg23 : Memref sig .tc .vmem S1x1024 .f32) (harg23 : arg23.IsWhole) (arg24 : Memref sig .tc .vmem S1x1024 .f32) (harg24 : arg24.IsWhole) (arg25 : Memref sig .tc .vmem S1024x32 .f32) (harg25 : arg25.IsWhole) (arg26 : Memref sig .tc .vmem S1x32 .f32) (harg26 : arg26.IsWhole) (arg27 : Memref sig .tc .vmem S1x2x896x256 .i8) (harg27 : arg27.IsWhole) (arg28 : Memref sig .tc .vmem S1x2x896x256 .i8) (harg28 : arg28.IsWhole) (arg29 : Memref sig .tc .vmem S2x1x896 .f32) (harg29 : arg29.IsWhole) (arg30 : Memref sig .tc .vmem S2x1x896 .f32) (harg30 : arg30.IsWhole) (arg31 : Memref sig .tc .vmem S2x1x1 .i32) (harg31 : arg31.IsWhole) (arg32 : Memref sig .tc .vmem S2x51x128 .f32) (harg32 : arg32.IsWhole) (arg33 : Memref sig .tc .vmem S2x51x128 .f32) (harg33 : arg33.IsWhole) (arg34 : Memref sig .tc .vmem S10x2x50x32 .f32) (harg34 : arg34.IsWhole) (arg35 : Memref sig .tc .vmem S2x50x32 .f32) (harg35 : arg35.IsWhole) (arg36 : Memref sig .tc .vmem S2x51x1024 .f32) (harg36 : arg36.IsWhole)
    (x0 : Vec F S2x50x32 .f32) (x1 : Vec F S2x1x32 .f32) (x2 : Vec F S2x1x1 .f32) (x3 : Vec F S2x1x1 .f32) (x4 : Vec F S1x512 .f32) (x5 : Vec F S32x1024 .f32) (x6 : Vec F S1x1024 .f32) (x7 : Vec F S32x1024 .f32) (x8 : Vec F S1x1024 .f32) (x9 : Vec F S1024x1024 .bf16) (x10 : Vec F S1024x1024 .bf16) (x11 : Vec F S1x1024 .f32) (x12 : Vec F S1024x1024 .bf16) (x13 : Vec F S1x1024 .f32) (x14 : Vec F S1x1024 .f32) (x15 : Vec F S1x1024 .f32) (x16 : Vec F S1x1024x2560 .fp8e4m3) (x17 : Vec F S1x2560 .f32) (x18 : Vec F S1x2048x1024 .fp8e4m3) (x19 : Vec F S1x1024 .f32) (x20 : Vec F S1x2x1024x4096 .fp8e4m3) (x21 : Vec F S1x2x4096 .f32) (x22 : Vec F S1x4096x1024 .fp8e4m3) (x23 : Vec F S1x1024 .f32) (x24 : Vec F S1x1024 .f32) (x25 : Vec F S1024x32 .f32) (x26 : Vec F S1x32 .f32) (x27 : Vec F S1x2x896x256 .i8) (x28 : Vec F S1x2x896x256 .i8) (x29 : Vec F S2x1x896 .f32) (x30 : Vec F S2x1x896 .f32) (x31 : Vec F S2x1x1 .i32) (x32 : Vec F S2x51x128 .f32) (x33 : Vec F S2x51x128 .f32) : Vec F S2x50x32 .f32 :=
  VO0_35.read (Elt F) (VO0_35.writes (Elt F) VO0_35.junk (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20 x21 x22 x23 x24 x25 x26 x27 x28 x29 x30 x31 x32 x33).2.1)

/-- The run's pieces for output 36 tile its block (1 store of `S2x51x1024`, checked by the kernel's evaluation: Lib/Ring.lean `Piece.tiledL`, linear in the pieces, through a loop's `@[irreducible]` trip theorem too), so they cover it. -/
theorem cover0_A_36 (c : Dev nD) (arg0 : Memref sig .tc .vmem S2x50x32 .f32) (harg0 : arg0.IsWhole) (arg1 : Memref sig .tc .vmem S2x1x32 .f32) (harg1 : arg1.IsWhole) (arg2 : Memref sig .tc .vmem S2x1x1 .f32) (harg2 : arg2.IsWhole) (arg3 : Memref sig .tc .vmem S2x1x1 .f32) (harg3 : arg3.IsWhole) (arg4 : Memref sig .tc .vmem S1x512 .f32) (harg4 : arg4.IsWhole) (arg5 : Memref sig .tc .vmem S32x1024 .f32) (harg5 : arg5.IsWhole) (arg6 : Memref sig .tc .vmem S1x1024 .f32) (harg6 : arg6.IsWhole) (arg7 : Memref sig .tc .vmem S32x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024x2560 .fp8e4m3) (harg16 : arg16.IsWhole) (arg17 : Memref sig .tc .vmem S1x2560 .f32) (harg17 : arg17.IsWhole) (arg18 : Memref sig .tc .vmem S1x2048x1024 .fp8e4m3) (harg18 : arg18.IsWhole) (arg19 : Memref sig .tc .vmem S1x1024 .f32) (harg19 : arg19.IsWhole) (arg20 : Memref sig .tc .vmem S1x2x1024x4096 .fp8e4m3) (harg20 : arg20.IsWhole) (arg21 : Memref sig .tc .vmem S1x2x4096 .f32) (harg21 : arg21.IsWhole) (arg22 : Memref sig .tc .vmem S1x4096x1024 .fp8e4m3) (harg22 : arg22.IsWhole) (arg23 : Memref sig .tc .vmem S1x1024 .f32) (harg23 : arg23.IsWhole) (arg24 : Memref sig .tc .vmem S1x1024 .f32) (harg24 : arg24.IsWhole) (arg25 : Memref sig .tc .vmem S1024x32 .f32) (harg25 : arg25.IsWhole) (arg26 : Memref sig .tc .vmem S1x32 .f32) (harg26 : arg26.IsWhole) (arg27 : Memref sig .tc .vmem S1x2x896x256 .i8) (harg27 : arg27.IsWhole) (arg28 : Memref sig .tc .vmem S1x2x896x256 .i8) (harg28 : arg28.IsWhole) (arg29 : Memref sig .tc .vmem S2x1x896 .f32) (harg29 : arg29.IsWhole) (arg30 : Memref sig .tc .vmem S2x1x896 .f32) (harg30 : arg30.IsWhole) (arg31 : Memref sig .tc .vmem S2x1x1 .i32) (harg31 : arg31.IsWhole) (arg32 : Memref sig .tc .vmem S2x51x128 .f32) (harg32 : arg32.IsWhole) (arg33 : Memref sig .tc .vmem S2x51x128 .f32) (harg33 : arg33.IsWhole) (arg34 : Memref sig .tc .vmem S10x2x50x32 .f32) (harg34 : arg34.IsWhole) (arg35 : Memref sig .tc .vmem S2x50x32 .f32) (harg35 : arg35.IsWhole) (arg36 : Memref sig .tc .vmem S2x51x1024 .f32) (harg36 : arg36.IsWhole)
    (x0 : Vec F S2x50x32 .f32) (x1 : Vec F S2x1x32 .f32) (x2 : Vec F S2x1x1 .f32) (x3 : Vec F S2x1x1 .f32) (x4 : Vec F S1x512 .f32) (x5 : Vec F S32x1024 .f32) (x6 : Vec F S1x1024 .f32) (x7 : Vec F S32x1024 .f32) (x8 : Vec F S1x1024 .f32) (x9 : Vec F S1024x1024 .bf16) (x10 : Vec F S1024x1024 .bf16) (x11 : Vec F S1x1024 .f32) (x12 : Vec F S1024x1024 .bf16) (x13 : Vec F S1x1024 .f32) (x14 : Vec F S1x1024 .f32) (x15 : Vec F S1x1024 .f32) (x16 : Vec F S1x1024x2560 .fp8e4m3) (x17 : Vec F S1x2560 .f32) (x18 : Vec F S1x2048x1024 .fp8e4m3) (x19 : Vec F S1x1024 .f32) (x20 : Vec F S1x2x1024x4096 .fp8e4m3) (x21 : Vec F S1x2x4096 .f32) (x22 : Vec F S1x4096x1024 .fp8e4m3) (x23 : Vec F S1x1024 .f32) (x24 : Vec F S1x1024 .f32) (x25 : Vec F S1024x32 .f32) (x26 : Vec F S1x32 .f32) (x27 : Vec F S1x2x896x256 .i8) (x28 : Vec F S1x2x896x256 .i8) (x29 : Vec F S2x1x896 .f32) (x30 : Vec F S2x1x896 .f32) (x31 : Vec F S2x1x1 .i32) (x32 : Vec F S2x51x128 .f32) (x33 : Vec F S2x51x128 .f32) (y : S2x51x1024.Idx) :
    ∃ pc ∈ (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20 x21 x22 x23 x24 x25 x26 x27 x28 x29 x30 x31 x32 x33).2.2.1, y ∈ pc.1.set :=
  View.cover_of_tiledL (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20 x21 x22 x23 x24 x25 x26 x27 x28 x29 x30 x31 x32 x33).2.2.1 S2x51x1024.size (by sl_kernel_rfl) y

/-- What the run leaves in output 36's staging buffer: its pieces read back over junk. -/
def out0_A_36 (c : Dev nD) (arg0 : Memref sig .tc .vmem S2x50x32 .f32) (harg0 : arg0.IsWhole) (arg1 : Memref sig .tc .vmem S2x1x32 .f32) (harg1 : arg1.IsWhole) (arg2 : Memref sig .tc .vmem S2x1x1 .f32) (harg2 : arg2.IsWhole) (arg3 : Memref sig .tc .vmem S2x1x1 .f32) (harg3 : arg3.IsWhole) (arg4 : Memref sig .tc .vmem S1x512 .f32) (harg4 : arg4.IsWhole) (arg5 : Memref sig .tc .vmem S32x1024 .f32) (harg5 : arg5.IsWhole) (arg6 : Memref sig .tc .vmem S1x1024 .f32) (harg6 : arg6.IsWhole) (arg7 : Memref sig .tc .vmem S32x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024x2560 .fp8e4m3) (harg16 : arg16.IsWhole) (arg17 : Memref sig .tc .vmem S1x2560 .f32) (harg17 : arg17.IsWhole) (arg18 : Memref sig .tc .vmem S1x2048x1024 .fp8e4m3) (harg18 : arg18.IsWhole) (arg19 : Memref sig .tc .vmem S1x1024 .f32) (harg19 : arg19.IsWhole) (arg20 : Memref sig .tc .vmem S1x2x1024x4096 .fp8e4m3) (harg20 : arg20.IsWhole) (arg21 : Memref sig .tc .vmem S1x2x4096 .f32) (harg21 : arg21.IsWhole) (arg22 : Memref sig .tc .vmem S1x4096x1024 .fp8e4m3) (harg22 : arg22.IsWhole) (arg23 : Memref sig .tc .vmem S1x1024 .f32) (harg23 : arg23.IsWhole) (arg24 : Memref sig .tc .vmem S1x1024 .f32) (harg24 : arg24.IsWhole) (arg25 : Memref sig .tc .vmem S1024x32 .f32) (harg25 : arg25.IsWhole) (arg26 : Memref sig .tc .vmem S1x32 .f32) (harg26 : arg26.IsWhole) (arg27 : Memref sig .tc .vmem S1x2x896x256 .i8) (harg27 : arg27.IsWhole) (arg28 : Memref sig .tc .vmem S1x2x896x256 .i8) (harg28 : arg28.IsWhole) (arg29 : Memref sig .tc .vmem S2x1x896 .f32) (harg29 : arg29.IsWhole) (arg30 : Memref sig .tc .vmem S2x1x896 .f32) (harg30 : arg30.IsWhole) (arg31 : Memref sig .tc .vmem S2x1x1 .i32) (harg31 : arg31.IsWhole) (arg32 : Memref sig .tc .vmem S2x51x128 .f32) (harg32 : arg32.IsWhole) (arg33 : Memref sig .tc .vmem S2x51x128 .f32) (harg33 : arg33.IsWhole) (arg34 : Memref sig .tc .vmem S10x2x50x32 .f32) (harg34 : arg34.IsWhole) (arg35 : Memref sig .tc .vmem S2x50x32 .f32) (harg35 : arg35.IsWhole) (arg36 : Memref sig .tc .vmem S2x51x1024 .f32) (harg36 : arg36.IsWhole)
    (x0 : Vec F S2x50x32 .f32) (x1 : Vec F S2x1x32 .f32) (x2 : Vec F S2x1x1 .f32) (x3 : Vec F S2x1x1 .f32) (x4 : Vec F S1x512 .f32) (x5 : Vec F S32x1024 .f32) (x6 : Vec F S1x1024 .f32) (x7 : Vec F S32x1024 .f32) (x8 : Vec F S1x1024 .f32) (x9 : Vec F S1024x1024 .bf16) (x10 : Vec F S1024x1024 .bf16) (x11 : Vec F S1x1024 .f32) (x12 : Vec F S1024x1024 .bf16) (x13 : Vec F S1x1024 .f32) (x14 : Vec F S1x1024 .f32) (x15 : Vec F S1x1024 .f32) (x16 : Vec F S1x1024x2560 .fp8e4m3) (x17 : Vec F S1x2560 .f32) (x18 : Vec F S1x2048x1024 .fp8e4m3) (x19 : Vec F S1x1024 .f32) (x20 : Vec F S1x2x1024x4096 .fp8e4m3) (x21 : Vec F S1x2x4096 .f32) (x22 : Vec F S1x4096x1024 .fp8e4m3) (x23 : Vec F S1x1024 .f32) (x24 : Vec F S1x1024 .f32) (x25 : Vec F S1024x32 .f32) (x26 : Vec F S1x32 .f32) (x27 : Vec F S1x2x896x256 .i8) (x28 : Vec F S1x2x896x256 .i8) (x29 : Vec F S2x1x896 .f32) (x30 : Vec F S2x1x896 .f32) (x31 : Vec F S2x1x1 .i32) (x32 : Vec F S2x51x128 .f32) (x33 : Vec F S2x51x128 .f32) : Vec F S2x51x1024 .f32 :=
  VO0_36.read (Elt F) (VO0_36.writes (Elt F) VO0_36.junk (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20 x21 x22 x23 x24 x25 x26 x27 x28 x29 x30 x31 x32 x33).2.2.1)

/-! ## What the outputs hold after each point -/

/-- What the outputs' staging buffers hold after the body at point `t` (as a tuple, in window order): the run's contents at
    the point's memrefs and input blocks. -/
def outsAt0 (c : Dev nD) (t : Fin cfg0.N) : Vec F S10x2x50x32 .f32 × Vec F S2x50x32 .f32 × Vec F S2x51x1024 .f32 :=
  (out0_A_34 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t), out0_A_35 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t), out0_A_36 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => (outsAt0 m c t).1
    | ⟨35, _⟩ => (outsAt0 m c t).2.1
    | ⟨36, _⟩ => (outsAt0 m c t).2.2
    | ⟨_ + 37, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = iblk m c 31 t := by dsimp only [dats]
theorem after0_32 (c : Dev nD) (t : Fin cfg0.N) : (dats m 0 c).after 32 t = iblk m c 32 t := by dsimp only [dats]
theorem after0_33 (c : Dev nD) (t : Fin cfg0.N) : (dats m 0 c).after 33 t = iblk m c 33 t := by dsimp only [dats]
theorem after0_34 (c : Dev nD) (t : Fin cfg0.N) : (dats m 0 c).after 34 t = (outsAt0 m c t).1 := by dsimp only [dats]
theorem after0_35 (c : Dev nD) (t : Fin cfg0.N) : (dats m 0 c).after 35 t = (outsAt0 m c t).2.1 := by dsimp only [dats]
theorem after0_36 (c : Dev nD) (t : Fin cfg0.N) : (dats m 0 c).after 36 t = (outsAt0 m c t).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d
theorem before0_29 (c : Dev nD) (t : Fin cfg0.N) (d) : (dats m 0 c).before 29 t d = iblk m c 29 t :=
  before0_29_of m (dats m 0 c) (A_eq m c 29) (after0_29 m c) t d
theorem before0_30 (c : Dev nD) (t : Fin cfg0.N) (d) : (dats m 0 c).before 30 t d = iblk m c 30 t :=
  before0_30_of m (dats m 0 c) (A_eq m c 30) (after0_30 m c) t d
theorem before0_31 (c : Dev nD) (t : Fin cfg0.N) (d) : (dats m 0 c).before 31 t d = iblk m c 31 t :=
  before0_31_of m (dats m 0 c) (A_eq m c 31) (after0_31 m c) t d
theorem before0_32 (c : Dev nD) (t : Fin cfg0.N) (d) : (dats m 0 c).before 32 t d = iblk m c 32 t :=
  before0_32_of m (dats m 0 c) (A_eq m c 32) (after0_32 m c) t d
theorem before0_33 (c : Dev nD) (t : Fin cfg0.N) (d) : (dats m 0 c).before 33 t d = iblk m c 33 t :=
  before0_33_of m (dats m 0 c) (A_eq m c 33) (after0_33 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d))
    ∗ (∃ d, owns (c : Thread nD τ) (ms0_35 t) fullShare ((dats m 0 c).before 35 t d))
    ∗ (∃ d, owns (c : Thread nD τ) (ms0_36 t) fullShare ((dats m 0 c).before 36 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t)
    ∗ owns (c : Thread nD τ) (ms0_33 t) fullShare ((dats m 0 c).after 33 t)
    ∗ owns (c : Thread nD τ) (ms0_34 t) fullShare ((dats m 0 c).after 34 t)
    ∗ owns (c : Thread nD τ) (ms0_35 t) fullShare ((dats m 0 c).after 35 t)
    ∗ owns (c : Thread nD τ) (ms0_36 t) fullShare ((dats m 0 c).after 36 t))

set_option maxHeartbeats 3600000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36]
  unfold outsAt0
  unfold out0_A_34 out0_A_35 out0_A_36; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩⟩
  iapply ((kernelRun0_A c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexists _; iexact H34
  isplitl [H35]; · iexists _; iexact H35
  isplitl [H36]; · iexists _; iexact H36
  iintro ⟨H0, H1, H2, H3, H4, H5, H6, H7, H8, H9, H10, H11, H12, H13, H14, H15, H16, H17, H18, H19, H20, H21, H22, H23, H24, H25, H26, H27, H28, H29, H30, H31, H32, H33, ⟨%e34, H34⟩, ⟨%e35, H35⟩, ⟨%e36, H36⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]
  · unfold owns; iexists _; isplitr
    swap; · iexact H34
    ipureintro; exact View.read_writes_of_cover _ _ _ _ _ (cover0_A_34 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H35]
  · unfold owns; iexists _; isplitr
    swap; · iexact H35
    ipureintro; exact View.read_writes_of_cover _ _ _ _ _ (cover0_A_35 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H36
  ipureintro; exact View.read_writes_of_cover _ _ _ _ _ (cover0_A_36 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)) :=
  frame_of m ρ (dats m) (A_eq m) (run_main m ρ)

/-- THE FRAME: `Cert.quiescent_ReferenceIdeal`'s statement (Defs.lean) at any `F` — Proof.lean cites it at `Bits`:
    `theorem Cert.Proof.claim : Cert.Claim := ⟨Cert.ReferenceIdeal.Gen.facts, fun m ρ _ => Cert.ReferenceIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33))
      ∧ r.2.sem = fun _ => 0) :=
  θ_run_and (unchanged m ρ) ((θ_run defs _ _).mono (fun _ h => h.2) (run_main_quiescent m ρ))

end Cert.ReferenceIdeal.Gen

end
-- ==== Proof.Model.lean ====
/- One Euler step of the action decoder over the extended reals, token by token: the vocabulary in which the kernel and the reference are both read. -/
module

public import Idealize.ShloMosaic.Lib.Pointwise

@[expose] public section

set_option maxRecDepth 16384

noncomputable section

namespace Cert.Model

open Idealize.ShloMosaic

/-- A row of `n` extended reals. -/
abbrev Row (n : ℕ) := Fin n → EReal

/-- A row times a matrix. -/
def lin {K N : ℕ} (v : Row K) (W : Fin K → Row N) : Row N := fun j => ∑ k, v k * W k j

/-- A row times a matrix, plus a bias. -/
def affine {K N : ℕ} (v : Row K) (W : Fin K → Row N) (b : Row N) : Row N := fun j => lin v W j + b j

/-- The root mean square normalisation of a row of the model's width, with gain `1 + w`. -/
def rms (v w : Row 1024) : Row 1024 := fun j =>
  Ideal.div (v j) (Ideal.sqrt (Ideal.div (∑ x, v x * v x) (Ideal.ofBits FTy.f32 0x44800000#32) + Ideal.ofBits FTy.f32 0x358637BD#32)) * (1 + w j)

/-- The largest magnitude in a row. -/
def amax {n : ℕ} (v : Row n) : EReal :=
  Finset.fold max (Ideal.ofBits FTy.f32 0xFF800000#32) (fun x => (FloatOps.absf (F := Ideal) (φ := .f32) (v x) : EReal)) Finset.univ

/-- The quantiser's scale of a row: the largest magnitude over 448, or 1 for a row of zeros. -/
def scale {n : ℕ} (v : Row n) : EReal :=
  Scalar.select (BitVec.ofBool (decide (amax v = 0))) (1 : EReal) (Ideal.div (amax v) (Ideal.ofBits FTy.f32 0x43E00000#32))

/-- The quantiser's codes of a row: the row over its scale, clipped to ±448. -/
def codes {n : ℕ} (v : Row n) : Row n := fun j =>
  min (Ideal.ofBits FTy.f32 0x43E00000#32) (max (Ideal.ofBits FTy.f32 0xC3E00000#32) (Ideal.div (v j) (scale v)))

/-- A quantised row times a quantised matrix, scaled back by the row's scale and the column's. -/
def qlin {K N : ℕ} (v : Row K) (W : Fin K → Row N) (sw : Row N) : Row N := fun j => lin (codes v) W j * scale v * sw j

/-- The rotary embedding of a head. -/
def rot (v : Row 256) (c s : Row 128) : Row 256 := fun j =>
  if h : j.val < 128 then v ⟨j.val, j.isLt⟩ * c ⟨j.val, h⟩ - v ⟨128 + j.val, by omega⟩ * s ⟨j.val, h⟩
  else v ⟨128 + (j.val - 128), by omega⟩ * c ⟨j.val - 128, by omega⟩ + v ⟨j.val - 128, by omega⟩ * s ⟨j.val - 128, by omega⟩

/-- `z` times its sigmoid. -/
def silu (z : EReal) : EReal := z * Ideal.logistic z

/-- The gated activation: the tanh form of gelu of `g`, times `u`. -/
def geglu (g u : EReal) : EReal :=
  g * (Ideal.ofBits FTy.f32 0x3F000000#32 * (1 + Ideal.tanh (Ideal.ofBits FTy.f32 0x3F4C422A#32 * (g + Ideal.ofBits FTy.f32 0x3D372713#32 * (g * (g * g)))))) * u

/-- The arguments that the results depend on, by their coordinates. -/
structure Args where
  x : Fin 2 → Fin 50 → Row 32
  state : Fin 2 → Row 32
  time0 : Fin 2 → EReal
  dt : Fin 2 → EReal
  freq : Row 512
  wState : Fin 32 → Row 1024
  bState : Row 1024
  wAin : Fin 32 → Row 1024
  bAin : Row 1024
  wTinA : Fin 1024 → Row 1024
  wTinT : Fin 1024 → Row 1024
  bTin : Row 1024
  wTout : Fin 1024 → Row 1024
  bTout : Row 1024
  ln1 : Row 1024
  ln2 : Row 1024
  wQkv : Fin 1024 → Row 2560
  sQkv : Row 2560
  wO : Fin 2048 → Row 1024
  sO : Row 1024
  wGate : Fin 1024 → Row 4096
  sGate : Row 4096
  wUp : Fin 1024 → Row 4096
  sUp : Row 4096
  wDown : Fin 4096 → Row 1024
  sDown : Row 1024
  fn : Row 1024
  wOut : Fin 1024 → Row 32
  bOut : Row 32
  kCode : Fin 2 → Fin 896 → Row 256
  vCode : Fin 2 → Fin 896 → Row 256
  kScale : Fin 2 → Row 896
  vScale : Fin 2 → Row 896
  plen : Fin 2 → BitVec 32
  cos : Fin 2 → Fin 51 → Row 128
  sin : Fin 2 → Fin 51 → Row 128

/-- The scores of a query against the cached keys, in base 2 and scaled; `⊥` at slots past the prefix. -/
def sPast (q : Row 256) (k : Fin 896 → Row 256) (ks : Row 896) (n : BitVec 32) : Row 896 := fun t =>
  Scalar.select (IntOp.cmpi .slt (BitVec.ofNat 32 t.val) n)
    ((∑ d, q d * k t d) * ks t * Ideal.ofBits FTy.f32 0x3D800000#32 * Ideal.ofBits FTy.f32 0x3FB8AA3B#32) (Ideal.ofBits FTy.f32 0xFF800000#32)

/-- The scores of a query of token `s` against the new keys; the state token sees itself alone. -/
def sNew (s : Fin 51) (q : Row 256) (k : Fin 51 → Row 256) : Row 51 := fun t =>
  if 0 < s.val ∨ t.val = 0 then (∑ d, q d * k t d) * Ideal.ofBits FTy.f32 0x3D800000#32 * Ideal.ofBits FTy.f32 0x3FB8AA3B#32
  else Ideal.ofBits FTy.f32 0xFF800000#32

/-- Attention of one query over the cached and the new keys. -/
def attend (sp : Row 896) (sn : Row 51) (vs : Row 896) (v : Fin 896 → Row 256) (vn : Fin 51 → Row 256) : Row 256 := fun d =>
  let top : EReal := Ideal.liftRound Int.ceil (max (Finset.fold max (Ideal.ofBits FTy.f32 0xFF800000#32) sp Finset.univ)
    (Finset.fold max (Ideal.ofBits FTy.f32 0xFF800000#32) sn Finset.univ))
  Ideal.div ((∑ t, Ideal.exp2 (sp t - top) * vs t * v t d) + ∑ t, Ideal.exp2 (sn t - top) * vn t d)
    ((∑ t, Ideal.exp2 (sp t - top)) + ∑ t, Ideal.exp2 (sn t - top))

variable (A : Args) (s : Fin 10) (b : Fin 2) (x : Fin 50 → Row 32)

/-- The embedding of the time of step `s`. -/
def timeEmb : Row 1024 := fun j =>
  if h : j.val < 512 then Ideal.sin ((A.time0 b + FloatOps.sitofp (F := Ideal) .f32 (BitVec.ofNat 32 s.val) * A.dt b) * A.freq ⟨j.val, h⟩)
  else Ideal.cos ((A.time0 b + FloatOps.sitofp (F := Ideal) .f32 (BitVec.ofNat 32 s.val) * A.dt b) * A.freq ⟨j.val - 512, by omega⟩)

/-- The state token. -/
def stateTok : Row 1024 := affine (A.state b) A.wState A.bState

/-- The token of an action row `r`. -/
def actTok (r : Row 32) : Row 1024 :=
  affine (fun k => silu (lin (affine r A.wAin A.bAin) A.wTinA k + lin (timeEmb A s b) A.wTinT k + A.bTin k)) A.wTout A.bTout

/-- The tokens that enter the layer. -/
def tok : Fin 51 → Row 1024 := fun t => if h : t.val = 0 then stateTok A b else actTok A s b (x ⟨t.val - 1, by omega⟩)

/-- The projections of a token to queries, key and value. -/
def qkv (h : Row 1024) : Row 2560 := qlin (rms h A.ln1) A.wQkv A.sQkv

/-- The rotated query of head `hd`. -/
def query (c sn : Row 128) (p : Row 2560) (hd : Fin 8) : Row 256 := rot (fun d => p ⟨256 * hd.val + d.val, by omega⟩) c sn

/-- The rotated new key. -/
def newKey (c sn : Row 128) (p : Row 2560) : Row 256 := rot (fun d => p ⟨2048 + d.val, by omega⟩) c sn

/-- The new value. -/
def newVal (p : Row 2560) : Row 256 := fun d => p ⟨2304 + d.val, by omega⟩

/-- One head's attention at token `t`, the tokens being `h`. -/
def headAt (h : Fin 51 → Row 1024) (t : Fin 51) (hd : Fin 8) : Row 256 :=
  let q := query (A.cos b t) (A.sin b t) (qkv A (h t)) hd
  attend (sPast q (A.kCode b) (A.kScale b) (A.plen b)) (sNew t q fun u => newKey (A.cos b u) (A.sin b u) (qkv A (h u)))
    (A.vScale b) (A.vCode b) fun u => newVal (qkv A (h u))

/-- The heads of token `t` side by side. -/
def heads (h : Fin 51 → Row 1024) (t : Fin 51) : Row 2048 := fun j =>
  headAt A b h t ⟨j.val / 256, by omega⟩ ⟨j.val % 256, by omega⟩

/-- A token after the attention. -/
def mid (h : Row 1024) (o : Row 2048) : Row 1024 := fun j => h j + qlin o A.wO A.sO j

/-- A token after the gated layer. -/
def ffn (h : Row 1024) : Row 1024 := fun j =>
  h j + qlin (fun k => geglu (qlin (rms h A.ln2) A.wGate A.sGate k) (qlin (rms h A.ln2) A.wUp A.sUp k)) A.wDown A.sDown j

/-- The tokens that leave the layer. -/
def out : Fin 51 → Row 1024 := fun t => ffn A (mid A (tok A s b x t) (heads A b (tok A s b x) t))

/-- The velocity of an action token. -/
def vel (h : Row 1024) : Row 32 := affine (rms h A.fn) A.wOut A.bOut

/-- The velocities of step `s`. -/
def velAt : Fin 50 → Row 32 := fun i => vel A (out A s b x ⟨i.val + 1, by omega⟩)

/-- The actions after step `s`. -/
def next : Fin 50 → Row 32 := fun i j => x i j + A.dt b * velAt A s b x i j

/-- The actions before step `s`. -/
def act : ℕ → Fin 50 → Row 32
  | 0 => A.x b
  | n + 1 => if h : n < 10 then next A ⟨n, h⟩ b (act n) else act n

end Cert.Model
-- ==== Proof.Attn.lean ====
/- Attention over one row of 1024 scores, of which those past the keys are `⊥`, is attention over the cached and the new keys. -/
module

public import proofs.«01_k».proof.Proof.Model

@[expose] public section

set_option maxRecDepth 16384

noncomputable section

namespace Cert.Model

open Idealize.ShloMosaic

theorem negInf : Ideal.ofBits FTy.f32 0xFF800000#32 = ⊥ := by
  simp [Ideal.ofBits, Ideal.ieee]

/-- A sum over 1024 keys, cut at the cached keys, the new keys and the padding. -/
theorem sum_keys (f : Fin 1024 → EReal) :
    ∑ t, f t = (∑ t : Fin 896, f ⟨t.val, by omega⟩) + ((∑ u : Fin 51, f ⟨896 + u.val, by omega⟩) + ∑ w : Fin 77, f ⟨947 + w.val, by omega⟩) := by
  have h1 := Fin.sum_univ_add (a := 896) (b := 128) (fun t => f t)
  have h2 := Fin.sum_univ_add (a := 51) (b := 77) (fun t : Fin 128 => f ⟨896 + t.val, by omega⟩)
  refine h1.trans (congrArg₂ (· + ·) rfl (h2.trans (congrArg₂ (· + ·) rfl ?_)))
  refine Finset.sum_congr rfl fun w _ => congrArg f (Fin.ext ?_)
  show 896 + (51 + w.val) = 947 + w.val
  omega

theorem fold_max_sup {n : ℕ} (f : Fin n → EReal) : Finset.fold max ⊥ f Finset.univ = Finset.univ.sup f := rfl

/-- The largest of 1024 scores is that of the cached and the new ones, the padding's being `⊥`. -/
theorem max_keys (f : Fin 1024 → EReal) (h : ∀ w : Fin 77, f ⟨947 + w.val, by omega⟩ = ⊥) :
    Finset.fold max ⊥ f Finset.univ
      = max (Finset.fold max ⊥ (fun t : Fin 896 => f ⟨t.val, by omega⟩) Finset.univ)
          (Finset.fold max ⊥ (fun u : Fin 51 => f ⟨896 + u.val, by omega⟩) Finset.univ) := by
  rw [fold_max_sup, fold_max_sup, fold_max_sup]
  refine le_antisymm (Finset.sup_le fun t _ => ?_) (max_le (Finset.sup_le fun t _ => ?_) (Finset.sup_le fun t _ => ?_))
  · rcases lt_or_ge t.val 896 with h1 | h1
    · exact le_max_of_le_left (Finset.le_sup (f := fun t : Fin 896 => f ⟨t.val, by omega⟩) (Finset.mem_univ ⟨t.val, h1⟩))
    · rcases lt_or_ge t.val 947 with h2 | h2
      · refine le_max_of_le_right (le_trans (le_of_eq ?_)
          (Finset.le_sup (f := fun u : Fin 51 => f ⟨896 + u.val, by omega⟩) (Finset.mem_univ ⟨t.val - 896, by omega⟩)))
        exact congrArg f (Fin.ext (by show t.val = 896 + (t.val - 896); omega))
      · have := h ⟨t.val - 947, by omega⟩
        rw [show (⟨947 + (t.val - 947), by omega⟩ : Fin 1024) = t from Fin.ext (by show 947 + (t.val - 947) = t.val; omega)] at this
        rw [this]; exact bot_le
  · exact Finset.le_sup (f := f) (Finset.mem_univ _)
  · exact Finset.le_sup (f := f) (Finset.mem_univ _)

/-- Attention over one row of 1024 scores. -/
def attendKeys (sc vc : Row 1024) (V : Fin 1024 → Row 256) : Row 256 := fun d =>
  let top : EReal := Ideal.liftRound Int.ceil (Finset.fold max (Ideal.ofBits FTy.f32 0xFF800000#32) sc Finset.univ)
  Ideal.div (∑ t, Ideal.exp2 (sc t - top) * vc t * V t d) (∑ t, Ideal.exp2 (sc t - top))

theorem attendKeys_eq {sc vc : Row 1024} {V : Fin 1024 → Row 256} {sp : Row 896} {sn : Row 51} {vs : Row 896} {v : Fin 896 → Row 256}
    {vn : Fin 51 → Row 256}
    (h1 : ∀ t : Fin 896, sc ⟨t.val, by omega⟩ = sp t) (h2 : ∀ u : Fin 51, sc ⟨896 + u.val, by omega⟩ = sn u)
    (h3 : ∀ w : Fin 77, sc ⟨947 + w.val, by omega⟩ = ⊥)
    (h4 : ∀ t : Fin 896, vc ⟨t.val, by omega⟩ = vs t) (h5 : ∀ u : Fin 51, vc ⟨896 + u.val, by omega⟩ = 1)
    (h6 : ∀ (t : Fin 896) d, V ⟨t.val, by omega⟩ d = v t d) (h7 : ∀ (u : Fin 51) d, V ⟨896 + u.val, by omega⟩ d = vn u d) :
    attendKeys sc vc V = attend sp sn vs v vn := by
  funext d
  unfold attendKeys attend
  simp only [negInf]
  rw [max_keys sc h3, sum_keys, sum_keys]
  simp only [h1, h2, h3, h4, h5, h6, h7, mul_one]
  have hb : ∀ m : EReal, Ideal.exp2 (⊥ - m) = 0 := fun m => by rw [EReal.bot_sub]; rfl
  simp only [hb, zero_mul, Finset.sum_const_zero, add_zero]

end Cert.Model
-- ==== Proof.KRows.lean ====
/- The kernel's payloads on the rows of its stacked tokens: each reads one row of its operands and is a function of the model there. -/
module

public import proofs.«01_k».proof.Proof.Gen.KernelIdeal.Skeleton
public import proofs.«01_k».proof.Proof.Attn

@[expose] public section

set_option maxRecDepth 16384

noncomputable section

namespace Cert.KernelIdeal.Rows

open Idealize.ShloMosaic Idealize.ShloMosaic.TcCoe Idealize.SL.Sem
open Cert.KernelIdeal Cert.KernelIdeal.Gen Cert.Model

/-- Row `r` of a matrix. -/
abbrev row {m n : ℕ} (v : (⟨2, ![m, n]⟩ : Shape).Idx → EReal) (r : Fin m) : Row n := fun j => v (ix2 r j)

/-- The rows of a matrix. -/
abbrev mat {m n : ℕ} (v : (⟨2, ![m, n]⟩ : Shape).Idx → EReal) : Fin m → Row n := fun k j => v (ix2 k j)

theorem pay52_row (v4 v5 v7 v12 v18 v25 v32) (r : Fin 112) (j : Fin 1024) :
    k0_pay52 (F := Ideal) v4 v5 v7 v12 v18 v25 v32 (ix2 r j)
      = lin (fun k => silu (lin (affine (row v4 r) (mat v5) (row v7 0)) (mat v12) k + (if r.val < 56 then row v18 0 k else row v25 0 k))) (mat v32) j := by
  pointwise [k0_pay52, lin, affine, silu]
  refine Finset.sum_congr rfl fun x _ => ?_
  by_cases h : r.val < 56
  · simp only [h, dif_pos, if_true]
  · have e : (⟨56 + (r.val - 56), by omega⟩ : Fin 112) = r := Fin.ext (by show 56 + (r.val - 56) = r.val; omega)
    simp only [h, dif_neg, if_false, e, not_false_iff]

theorem pay53_row (v3 v33 v34 v40 v49) (r : Fin 112) (j : Fin 1024) :
    k0_pay53 (F := Ideal) v3 v33 v34 v40 v49 (ix2 r j)
      = Scalar.select (IntOp.cmpi .eq (v3 (ix2 ⟨r.val % 56, by omega⟩ 0)) 0#32) (if r.val < 56 then row v40 0 j else row v49 0 j)
          (row v33 r j + row v34 0 j) := by
  pointwise [k0_pay53]
  by_cases h : r.val < 56
  · have e : (⟨r.val % 56, by omega⟩ : Fin 56) = ⟨r.val, h⟩ := Fin.ext (Nat.mod_eq_of_lt h)
    simp only [h, dif_pos, if_true, e]
  · have e : (⟨r.val % 56, by omega⟩ : Fin 56) = ⟨r.val - 56, by omega⟩ := Fin.ext (by show r.val % 56 = r.val - 56; omega)
    have e' : (⟨56 + (r.val - 56), by omega⟩ : Fin 112) = r := Fin.ext (by show 56 + (r.val - 56) = r.val; omega)
    simp only [h, dif_neg, if_false, not_false_iff, e, e']

theorem pay54_row (v3 v33 v34 v40 v49 v57) (r : Fin 112) (j : Fin 1024) :
    k0_pay54 (F := Ideal) v3 v33 v34 v40 v49 v57 (ix2 r j) = rms (row (k0_pay53 v3 v33 v34 v40 v49) r) (row v57 0) j := by
  pointwise [k0_pay54, rms]

theorem pay58_row (v3 v33 v34 v40 v49 v57) (r : Fin 112) (j : Fin 1) :
    k0_pay58 (F := Ideal) (k0_pay56 v3 v33 v34 v40 v49 v57) (k0_pay57 v3 v33 v34 v40 v49 v57) (Scalar.ofBits .f32 0x3F800000#32) (ix2 r j)
      = scale (row (k0_pay54 v3 v33 v34 v40 v49 v57) r) := by
  pointwise [k0_pay58, k0_pay57, k0_pay56, k0_pay55, scale, amax]

theorem pay59_row (v71 v76 v78 c) (r : Fin 112) (j : Fin 1024) (h : k0_pay58 (F := Ideal) v76 v78 c (ix2 r 0) = scale (row v71 r)) :
    k0_pay59 (F := Ideal) v71 v76 v78 c (ix2 ⟨r.val, by omega⟩ j) = codes (row v71 r) j := by
  pointwise [k0_pay59, codes, h]

theorem pay60_row (v71 v76 v78 c v90 v96) (r : Fin 112) (j : Fin 2560) (h : k0_pay58 (F := Ideal) v76 v78 c (ix2 r 0) = scale (row v71 r)) :
    k0_pay60 (F := Ideal) v71 v76 v78 c v90 v96 (ix2 r j) = qlin (row v71 r) (mat v90) (row v96 0) j := by
  pointwise [k0_pay60, qlin, lin, h, pay59_row _ _ _ _ _ _ h]

theorem pay61_row (v71 v76 v78 c v90 v96 v99 v100) (r : Fin 112) (j : Fin 256) :
    k0_pay61 (F := Ideal) v71 v76 v78 c v90 v96 v99 v100 (ix2 r j)
      = newKey (row v99 r) (row v100 r) (row (k0_pay60 v71 v76 v78 c v90 v96) r) j := by
  pointwise [k0_pay61, newKey, rot]

theorem pay62_row (v71 v76 v78 c v90 v96) (r : Fin 112) (j : Fin 256) :
    k0_pay62 (F := Ideal) v71 v76 v78 c v90 v96 (ix2 r j) = newVal (row (k0_pay60 v71 v76 v78 c v90 v96) r) j := by
  pointwise [k0_pay62, newVal]

theorem pay63_row (v71 v76 v78 c v90 v96 v99 v100) (r : Fin 112) (j : Fin 256) :
    k0_pay63 (F := Ideal) v71 v76 v78 c v90 v96 v99 v100 (ix2 r j)
      = query (row v99 r) (row v100 r) (row (k0_pay60 v71 v76 v78 c v90 v96) r) 0 j := by
  pointwise [k0_pay63, query, rot]

theorem pay69_row (v71 v76 v78 c v90 v96 v99 v100) (r : Fin 112) (j : Fin 256) :
    k0_pay69 (F := Ideal) v99 v100 (k0_pay65 v71 v76 v78 c v90 v96) (k0_pay66 v71 v76 v78 c v90 v96) (k0_pay67 v71 v76 v78 c v90 v96 v99)
        (k0_pay68 v71 v76 v78 c v90 v96 v100) (ix2 r j)
      = query (row v99 r) (row v100 r) (row (k0_pay60 v71 v76 v78 c v90 v96) r) 1 j := by
  pointwise [k0_pay69, k0_pay68, k0_pay67, k0_pay66, k0_pay65, k0_pay64, query, rot]

theorem pay70_row (v98 v99 v100) (r : Fin 112) (j : Fin 256) :
    k0_pay70 (F := Ideal) v98 v99 v100 (ix2 r j) = query (row v99 r) (row v100 r) (row v98 r) 2 j := by
  pointwise [k0_pay70, query, rot]

theorem pay71_row (v98 v99 v100) (r : Fin 112) (j : Fin 256) :
    k0_pay71 (F := Ideal) v98 v99 v100 (ix2 r j) = query (row v99 r) (row v100 r) (row v98 r) 3 j := by
  pointwise [k0_pay71, query, rot]

theorem pay72_row (v98 v99 v100) (r : Fin 112) (j : Fin 256) :
    k0_pay72 (F := Ideal) v98 v99 v100 (ix2 r j) = query (row v99 r) (row v100 r) (row v98 r) 4 j := by
  pointwise [k0_pay72, query, rot]

theorem pay73_row (v98 v99 v100) (r : Fin 112) (j : Fin 256) :
    k0_pay73 (F := Ideal) v98 v99 v100 (ix2 r j) = query (row v99 r) (row v100 r) (row v98 r) 5 j := by
  pointwise [k0_pay73, query, rot]

theorem pay74_row (v98 v99 v100) (r : Fin 112) (j : Fin 256) :
    k0_pay74 (F := Ideal) v98 v99 v100 (ix2 r j) = query (row v99 r) (row v100 r) (row v98 r) 6 j := by
  pointwise [k0_pay74, query, rot]

theorem pay80_row (v98 v99 v100) (r : Fin 112) (j : Fin 256) :
    k0_pay80 (F := Ideal) v99 v100 (k0_pay76 v98) (k0_pay77 v98) (k0_pay78 v98 v99) (k0_pay79 v98 v100) (ix2 r j)
      = query (row v99 r) (row v100 r) (row v98 r) 7 j := by
  pointwise [k0_pay80, k0_pay79, k0_pay78, k0_pay77, k0_pay76, k0_pay75, query, rot]

theorem pay121_row (v466) (r : Fin 112) (j : Fin 1) : k0_pay121 (F := Ideal) v466 (ix2 r j) = scale (row v466 r) := by
  pointwise [k0_pay121, scale, amax]

theorem pay122_row (v466) (r : Fin 112) (j : Fin 2048) : k0_pay122 (F := Ideal) v466 (ix2 ⟨r.val, by omega⟩ j) = codes (row v466 r) j := by
  pointwise [k0_pay122, codes, pay121_row]

theorem pay123_row (v56 v466 v485 v491) (r : Fin 112) (j : Fin 1024) :
    k0_pay123 (F := Ideal) v56 v466 v485 v491 (ix2 r j) = row v56 r j + qlin (row v466 r) (mat v485) (row v491 0) j := by
  pointwise [k0_pay123, qlin, lin, pay121_row, pay122_row]

theorem pay125_row (v56 v466 v485 v491 v495) (r : Fin 112) (j : Fin 1024) :
    k0_pay125 (F := Ideal) (k0_pay123 v56 v466 v485 v491) v495 (k0_pay124 v56 v466 v485 v491) (ix2 r j)
      = rms (row (k0_pay123 v56 v466 v485 v491) r) (row v495 0) j := by
  pointwise [k0_pay125, k0_pay124, rms]

theorem pay126_row (v494 v495 v504) (r : Fin 112) (j : Fin 1) :
    k0_pay126 (F := Ideal) v494 v495 v504 (ix2 r j) = scale (row (k0_pay125 v494 v495 v504) r) := by
  pointwise [k0_pay126, scale, amax]

theorem pay127_row (v494 v495 v504) (r : Fin 112) (j : Fin 1024) :
    k0_pay127 (F := Ideal) v494 v495 v504 (ix2 ⟨r.val, by omega⟩ j) = codes (row (k0_pay125 v494 v495 v504) r) j := by
  pointwise [k0_pay127, codes, pay126_row]

theorem pay128_row (v494 v495 v504 v528 v534) (r : Fin 112) (j : Fin 4096) :
    k0_pay128 (F := Ideal) v494 v495 v504 v528 v534 (ix2 r j)
      = qlin (row (k0_pay125 v494 v495 v504) r) (fun k j => v528 (ix3 0 k j)) (row v534 0) j := by
  pointwise [k0_pay128, qlin, lin, pay126_row, pay127_row]

theorem pay130_row (v494 v495 v504 v537 v538 v544) (r : Fin 112) (j : Fin 4096) :
    k0_pay130 (F := Ideal) v537 (k0_pay129 v494 v495 v504 v538) v544 (ix2 r j)
      = geglu (row v537 r j) (qlin (row (k0_pay125 v494 v495 v504) r) (fun k j => v538 (ix3 0 k j)) (row v544 0) j) := by
  pointwise [k0_pay130, k0_pay129, qlin, lin, geglu, pay126_row, pay127_row]

theorem pay131_row (v537 v543 v544) (r : Fin 112) (j : Fin 1) :
    k0_pay131 (F := Ideal) v537 v543 v544 (ix2 r j) = scale (row (k0_pay130 v537 v543 v544) r) := by
  pointwise [k0_pay131, scale, amax]

theorem pay132_row (v537 v543 v544) (r : Fin 112) (j : Fin 4096) :
    k0_pay132 (F := Ideal) v537 v543 v544 (ix2 ⟨r.val, by omega⟩ j) = codes (row (k0_pay130 v537 v543 v544) r) j := by
  pointwise [k0_pay132, codes, pay131_row]

theorem pay133_row (v537 v543 v544 v580 v586) (r : Fin 112) (j : Fin 1024) :
    k0_pay133 (F := Ideal) v537 v543 v544 v580 v586 (ix2 r j)
      = qlin (row (k0_pay130 v537 v543 v544) r) (mat v580) (row v586 0) j := by
  pointwise [k0_pay133, qlin, lin, pay131_row, pay132_row]

theorem pay134_row (v494 v588) (r : Fin 112) (j : Fin 1024) :
    k0_pay134 (F := Ideal) v494 v588 (ix2 r j) = row v494 r j + row v588 r j := by
  pointwise [k0_pay134]

theorem pay135_row (v494 v588 v590 v606 v608) (r : Fin 112) (j : Fin 32) :
    k0_pay135 (F := Ideal) v494 v588 v590 v606 v608 (ix2 r j)
      = affine (rms (row (k0_pay134 v494 v588) r) (row v590 0)) (mat v606) (row v608 0) j := by
  pointwise [k0_pay135, affine, lin, rms]

end Cert.KernelIdeal.Rows
-- ==== Proof.KWin.lean ====
/- Windows put over a buffer and loads of a part of one, read at one index. -/
module

public import proofs.«01_k».proof.Proof.Vals
public import Idealize.ShloMosaic.Lib.Pipeline.ValueKit
public import proofs.«01_k».proof.Proof.KRows

@[expose] public section

set_option maxRecDepth 16384

noncomputable section

namespace Cert.KernelIdeal.Rows

open Idealize.ShloMosaic Idealize.ShloMosaic.TcCoe Idealize.SL.Sem

theorem put2_in {α : Type} {M N m n r0 c0 : ℕ} (X : (⟨2, ![M, N]⟩ : Shape).Idx → α) (w : (⟨2, ![m, n]⟩ : Shape).Idx → α)
    (r : Fin M) (c : Fin N) (r' : Fin m) (c' : Fin n) (hr : r.val = r0 + r'.val) (hc : c.val = c0 + c'.val) :
    VecWindow.put (s := ⟨2, ![M, N]⟩) X ![r0, c0] ![m, n] w (ix2 r c) = w (ix2 r' c') := by
  unfold VecWindow.put
  have h : ∀ a, (![r0, c0] : Fin 2 → ℕ) a ≤ (ix2 r c a).val ∧ (ix2 r c a).val < (![r0, c0] : Fin 2 → ℕ) a + (![m, n] : Fin 2 → ℕ) a := by
    intro a; fin_cases a
    · show r0 ≤ r.val ∧ r.val < r0 + m; omega
    · show c0 ≤ c.val ∧ c.val < c0 + n; omega
  rw [dif_pos h]
  refine congrArg w (funext fun a => Fin.ext ?_)
  fin_cases a
  · show r.val - r0 = r'.val; omega
  · show c.val - c0 = c'.val; omega

theorem put2_off {α : Type} {M N m n r0 c0 : ℕ} (X : (⟨2, ![M, N]⟩ : Shape).Idx → α) (w : (⟨2, ![m, n]⟩ : Shape).Idx → α)
    (r : Fin M) (c : Fin N) (h : r.val < r0 ∨ r0 + m ≤ r.val ∨ c.val < c0 ∨ c0 + n ≤ c.val) :
    VecWindow.put (s := ⟨2, ![M, N]⟩) X ![r0, c0] ![m, n] w (ix2 r c) = X (ix2 r c) := by
  unfold VecWindow.put
  refine dif_neg fun k => ?_
  have k0 : r0 ≤ r.val ∧ r.val < r0 + m := k 0
  have k1 : c0 ≤ c.val ∧ c.val < c0 + n := k 1
  omega

theorem put3_in {α : Type} {M N O m n o r0 c0 d0 : ℕ} (X : (⟨3, ![M, N, O]⟩ : Shape).Idx → α) (w : (⟨3, ![m, n, o]⟩ : Shape).Idx → α)
    (r : Fin M) (c : Fin N) (d : Fin O) (r' : Fin m) (c' : Fin n) (d' : Fin o) (hr : r.val = r0 + r'.val) (hc : c.val = c0 + c'.val) (hd : d.val = d0 + d'.val) :
    VecWindow.put (s := ⟨3, ![M, N, O]⟩) X ![r0, c0, d0] ![m, n, o] w (ix3 r c d) = w (ix3 r' c' d') := by
  unfold VecWindow.put
  have h : ∀ a, (![r0, c0, d0] : Fin 3 → ℕ) a ≤ (ix3 r c d a).val ∧ (ix3 r c d a).val < (![r0, c0, d0] : Fin 3 → ℕ) a + (![m, n, o] : Fin 3 → ℕ) a := by
    intro a; fin_cases a
    · show r0 ≤ r.val ∧ r.val < r0 + m; omega
    · show c0 ≤ c.val ∧ c.val < c0 + n; omega
    · show d0 ≤ d.val ∧ d.val < d0 + o; omega
  rw [dif_pos h]
  refine congrArg w (funext fun a => Fin.ext ?_)
  fin_cases a
  · show r.val - r0 = r'.val; omega
  · show c.val - c0 = c'.val; omega
  · show d.val - d0 = d'.val; omega

theorem put3_off {α : Type} {M N O m n o r0 c0 d0 : ℕ} (X : (⟨3, ![M, N, O]⟩ : Shape).Idx → α) (w : (⟨3, ![m, n, o]⟩ : Shape).Idx → α)
    (r : Fin M) (c : Fin N) (d : Fin O) (h : r.val < r0 ∨ r0 + m ≤ r.val ∨ c.val < c0 ∨ c0 + n ≤ c.val) :
    VecWindow.put (s := ⟨3, ![M, N, O]⟩) X ![r0, c0, d0] ![m, n, o] w (ix3 r c d) = X (ix3 r c d) := by
  unfold VecWindow.put
  refine dif_neg fun k => ?_
  have k0 : r0 ≤ r.val ∧ r.val < r0 + m := k 0
  have k1 : c0 ≤ c.val ∧ c.val < c0 + n := k 1
  omega

theorem put4_in {α : Type} {L M N O l m n o b0 r0 c0 d0 : ℕ} (X : (⟨4, ![L, M, N, O]⟩ : Shape).Idx → α) (w : (⟨4, ![l, m, n, o]⟩ : Shape).Idx → α)
    (b : Fin L) (r : Fin M) (c : Fin N) (d : Fin O) (b' : Fin l) (r' : Fin m) (c' : Fin n) (d' : Fin o) (hb : b.val = b0 + b'.val)
    (hr : r.val = r0 + r'.val) (hc : c.val = c0 + c'.val) (hd : d.val = d0 + d'.val) :
    VecWindow.put (s := ⟨4, ![L, M, N, O]⟩) X ![b0, r0, c0, d0] ![l, m, n, o] w (ix4 b r c d) = w (ix4 b' r' c' d') := by
  unfold VecWindow.put
  have h : ∀ a, (![b0, r0, c0, d0] : Fin 4 → ℕ) a ≤ (ix4 b r c d a).val ∧ (ix4 b r c d a).val < (![b0, r0, c0, d0] : Fin 4 → ℕ) a + (![l, m, n, o] : Fin 4 → ℕ) a := by
    intro a; fin_cases a
    · show b0 ≤ b.val ∧ b.val < b0 + l; omega
    · show r0 ≤ r.val ∧ r.val < r0 + m; omega
    · show c0 ≤ c.val ∧ c.val < c0 + n; omega
    · show d0 ≤ d.val ∧ d.val < d0 + o; omega
  rw [dif_pos h]
  refine congrArg w (funext fun a => Fin.ext ?_)
  fin_cases a
  · show b.val - b0 = b'.val; omega
  · show r.val - r0 = r'.val; omega
  · show c.val - c0 = c'.val; omega
  · show d.val - d0 = d'.val; omega

theorem put4_off {α : Type} {L M N O l m n o b0 r0 c0 d0 : ℕ} (X : (⟨4, ![L, M, N, O]⟩ : Shape).Idx → α) (w : (⟨4, ![l, m, n, o]⟩ : Shape).Idx → α)
    (b : Fin L) (r : Fin M) (c : Fin N) (d : Fin O) (h : r.val < r0 ∨ r0 + m ≤ r.val) :
    VecWindow.put (s := ⟨4, ![L, M, N, O]⟩) X ![b0, r0, c0, d0] ![l, m, n, o] w (ix4 b r c d) = X (ix4 b r c d) := by
  unfold VecWindow.put
  refine dif_neg fun k => ?_
  have k1 : r0 ≤ r.val ∧ r.val < r0 + m := k 1
  omega

/-- Four windows side by side, read inside one of them. -/
theorem quad_in {α : Type} {M N m n r0 c0 : ℕ} (X : (⟨2, ![M, N]⟩ : Shape).Idx → α) (w : Fin 4 → (⟨2, ![m, n]⟩ : Shape).Idx → α) (C : Fin 4 → ℕ)
    (hC : ∀ i, C i = c0 + n * i.val) (i : Fin 4) (r : Fin M) (c : Fin N) (r' : Fin m) (c' : Fin n) (hr : r.val = r0 + r'.val)
    (hc : c.val = c0 + n * i.val + c'.val) :
    VecWindow.put (s := ⟨2, ![M, N]⟩) (VecWindow.put (s := ⟨2, ![M, N]⟩) (VecWindow.put (s := ⟨2, ![M, N]⟩) (VecWindow.put (s := ⟨2, ![M, N]⟩) X
      ![r0, C 0] ![m, n] (w 0)) ![r0, C 1] ![m, n] (w 1)) ![r0, C 2] ![m, n] (w 2)) ![r0, C 3] ![m, n] (w 3) (ix2 r c) = w i (ix2 r' c') := by
  have h0 : C 0 = c0 + n * 0 := hC 0
  have h1 : C 1 = c0 + n * 1 := hC 1
  have h2 : C 2 = c0 + n * 2 := hC 2
  have h3 : C 3 = c0 + n * 3 := hC 3
  have hlt := c'.isLt
  match i, hc with
  | ⟨0, _⟩, hc =>
    have hc' : c.val = c0 + n * 0 + c'.val := hc
    exact (put2_off _ _ r c (by omega)).trans ((put2_off _ _ r c (by omega)).trans ((put2_off _ _ r c (by omega)).trans (put2_in _ _ _ _ _ _ hr (by omega))))
  | ⟨1, _⟩, hc =>
    have hc' : c.val = c0 + n * 1 + c'.val := hc
    exact (put2_off _ _ r c (by omega)).trans ((put2_off _ _ r c (by omega)).trans (put2_in _ _ _ _ _ _ hr (by omega)))
  | ⟨2, _⟩, hc =>
    have hc' : c.val = c0 + n * 2 + c'.val := hc
    exact (put2_off _ _ r c (by omega)).trans (put2_in _ _ _ _ _ _ hr (by omega))
  | ⟨3, _⟩, hc =>
    have hc' : c.val = c0 + n * 3 + c'.val := hc
    exact put2_in _ _ _ _ _ _ hr (by omega)

/-- Four windows side by side, read outside of them. -/
theorem quad_off {α : Type} {M N m n r0 c0 : ℕ} (X : (⟨2, ![M, N]⟩ : Shape).Idx → α) (w : Fin 4 → (⟨2, ![m, n]⟩ : Shape).Idx → α) (C : Fin 4 → ℕ)
    (hC : ∀ i, C i = c0 + n * i.val) (r : Fin M) (c : Fin N) (h : r.val < r0 ∨ r0 + m ≤ r.val ∨ c.val < c0 ∨ c0 + n * 4 ≤ c.val) :
    VecWindow.put (s := ⟨2, ![M, N]⟩) (VecWindow.put (s := ⟨2, ![M, N]⟩) (VecWindow.put (s := ⟨2, ![M, N]⟩) (VecWindow.put (s := ⟨2, ![M, N]⟩) X
      ![r0, C 0] ![m, n] (w 0)) ![r0, C 1] ![m, n] (w 1)) ![r0, C 2] ![m, n] (w 2)) ![r0, C 3] ![m, n] (w 3) (ix2 r c) = X (ix2 r c) := by
  have h0 : C 0 = c0 + n * 0 := hC 0
  have h1 : C 1 = c0 + n * 1 := hC 1
  have h2 : C 2 = c0 + n * 2 := hC 2
  have h3 : C 3 = c0 + n * 3 := hC 3
  exact (put2_off _ _ r c (by omega)).trans ((put2_off _ _ r c (by omega)).trans ((put2_off _ _ r c (by omega)).trans (put2_off _ _ r c (by omega))))

/-- A load of rows of a matrix, read at one index. -/
theorem ld2 {Val : EltTy → Type} {e : EltTy} {M N m n : ℕ} (X : (⟨2, ![M, N]⟩ : Shape).Idx → Val e) (off : Fin 2 → ℕ) (inb) (r' : Fin m) (c' : Fin n)
    (r : Fin M) (c : Fin N) (hr : r.val = off 0 + r'.val) (hc : c.val = off 1 + c'.val) :
    (View.ld (S := ⟨2, ![M, N]⟩) X (Rect.unit off ![m, n] inb) : (⟨2, ![m, n]⟩ : Shape).Idx → Val e) (ix2 r' c') = X (ix2 r c) :=
  View.ld_unit_apply_of (S := ⟨2, ![M, N]⟩) X off ![m, n] inb (ix2 r' c') (ix2 r c) fun a => by
    fin_cases a
    · exact hr
    · exact hc

/-- A load of a part of a stack of matrices, read at one index. -/
theorem ld3 {Val : EltTy → Type} {e : EltTy} {M N O m n o : ℕ} (X : (⟨3, ![M, N, O]⟩ : Shape).Idx → Val e) (off : Fin 3 → ℕ) (inb)
    (r' : Fin m) (c' : Fin n) (d' : Fin o) (r : Fin M) (c : Fin N) (d : Fin O) (hr : r.val = off 0 + r'.val) (hc : c.val = off 1 + c'.val)
    (hd : d.val = off 2 + d'.val) :
    (View.ld (S := ⟨3, ![M, N, O]⟩) X (Rect.unit off ![m, n, o] inb) : (⟨3, ![m, n, o]⟩ : Shape).Idx → Val e) (ix3 r' c' d') = X (ix3 r c d) :=
  View.ld_unit_apply_of (S := ⟨3, ![M, N, O]⟩) X off ![m, n, o] inb (ix3 r' c' d') (ix3 r c d) fun a => by
    fin_cases a
    · exact hr
    · exact hc
    · exact hd

/-- A load of one element of a vector. -/
theorem ld1 {Val : EltTy → Type} {e : EltTy} {M : ℕ} (X : (⟨1, ![M]⟩ : Shape).Idx → Val e) (off : Fin 1 → ℕ) (inb) (z : (⟨1, ![1]⟩ : Shape).Idx)
    (r : Fin M) (hr : r.val = off 0) :
    View.ld (S := ⟨1, ![M]⟩) X (Rect.unit off ![1] inb) z = X (ix1 r) :=
  View.ld_unit_apply_of (S := ⟨1, ![M]⟩) X off ![1] inb z (ix1 r) fun a => by
    fin_cases a
    have : (z 0).val = 0 := Nat.lt_one_iff.mp (z 0).isLt
    show r.val = off 0 + (z 0).val
    omega

end Cert.KernelIdeal.Rows

end
-- ==== Proof.KStep1.lean ====
/- What the inputs and the carried scratch hold in the model's terms, and the first half of a step: tokens, projections, rotated keys and queries. -/
module

public import proofs.«01_k».proof.Proof.Vals
public import proofs.«01_k».proof.Proof.KRows
public import proofs.«01_k».proof.Proof.KWin

@[expose] public section

set_option maxRecDepth 16384

noncomputable section

namespace Cert.KernelIdeal.Named

open Idealize.ShloMosaic Idealize.ShloMosaic.TcCoe Idealize.SL.Sem
open Cert.KernelIdeal Cert.KernelIdeal.Gen Cert.KernelIdeal.Rows Cert.Model

/-- The inputs of the kernel body hold the arguments `A`. -/
structure Reads (x : Ins Ideal) (A : Args) : Prop where
  plen : ∀ b : Fin 2, x.x0 (ix1 b) = A.plen b
  xs : ∀ (b : Fin 2) (t : Fin 50) (j : Fin 32), x.x1 (ix3 b t j) = A.x b t j
  state : ∀ b : Fin 2, row x.x2 b = A.state b
  times : ∀ (k : Fin 10) (b : Fin 2), x.x3 (ix2 ⟨2 * k.val + b.val, by omega⟩ 0)
    = A.time0 b + FloatOps.sitofp (F := Ideal) .f32 (BitVec.ofNat 32 k.val) * A.dt b
  freq : row x.x4 0 = A.freq
  wState : mat x.x5 = A.wState
  bState : row x.x6 0 = A.bState
  wAin : mat x.x7 = A.wAin
  bAin : row x.x8 0 = A.bAin
  wTinA : mat x.x9 = A.wTinA
  wTinT : mat x.x10 = A.wTinT
  bTin : row x.x11 0 = A.bTin
  wTout : mat x.x12 = A.wTout
  bTout : row x.x13 0 = A.bTout
  ln1 : row x.x14 0 = A.ln1
  ln2 : row x.x15 0 = A.ln2
  wQkv : mat x.x16 = A.wQkv
  sQkv : row x.x17 0 = A.sQkv
  wO : mat x.x18 = A.wO
  sO : row x.x19 0 = A.sO
  wGate : (fun k j => x.x20 (ix3 0 k j)) = A.wGate
  wUp : (fun k j => x.x20 (ix3 1 k j)) = A.wUp
  sGate : row x.x21 0 = A.sGate
  sUp : row x.x21 1 = A.sUp
  wDown : mat x.x22 = A.wDown
  sDown : row x.x23 0 = A.sDown
  fn : row x.x24 0 = A.fn
  wOut : mat x.x25 = A.wOut
  bOut : row x.x26 0 = A.bOut
  kCode : ∀ (b : Fin 2) (t : Fin 896) (d : Fin 256), FloatOps.sitofp (F := Ideal) .f32 (x.x27 (ix3 b t d)) = A.kCode b t d
  vCode : ∀ (b : Fin 2) (t : Fin 896) (d : Fin 256), FloatOps.sitofp (F := Ideal) .f32 (x.x28 (ix3 b t d)) = A.vCode b t d
  kScale : ∀ (b : Fin 2) (t : Fin 896), x.x29 (ix2 b t) = A.kScale b t
  vScale : ∀ (b : Fin 2) (t : Fin 896), x.x30 (ix2 b t) = A.vScale b t
  cos : ∀ (b : Fin 2) (t : Fin 51) (j : Fin 128), x.x31 (ix3 b t j) = A.cos b t j
  sin : ∀ (b : Fin 2) (t : Fin 51) (j : Fin 128), x.x32 (ix3 b t j) = A.sin b t j
  dt : ∀ b : Fin 2, x.x33 (ix1 b) = A.dt b

/-- The scratch before step `n`. -/
structure Inv (A : Args) (n : ℕ) (p : Carry Ideal) : Prop where
  s0 : ∀ (b : Fin 2) (t : Fin 50) (j : Fin 32), p.s0 (ix2 ⟨56 * b.val + 1 + t.val, by omega⟩ j) = act A b n t j
  s1 : ∀ (b : Fin 2) (j : Fin 1024), p.s1 (ix2 b j) = stateTok A b j
  s2 : ∀ (k : Fin 10) (b : Fin 2) (j : Fin 1024), p.s2 (ix2 ⟨2 * k.val + b.val, by omega⟩ j) = lin (timeEmb A k b) A.wTinT j + A.bTin j
  s3 : ∀ (b : Fin 2) (t : Fin 51) (j : Fin 128), p.s3 (ix2 ⟨56 * b.val + t.val, by omega⟩ j) = A.cos b t j
  s4 : ∀ (b : Fin 2) (t : Fin 51) (j : Fin 128), p.s4 (ix2 ⟨56 * b.val + t.val, by omega⟩ j) = A.sin b t j
  s5 : ∀ (b : Fin 2) (t : Fin 896) (d : Fin 256), p.s5 (ix3 b ⟨t.val, by omega⟩ d) = A.kCode b t d
  s6 : ∀ (b : Fin 2) (t : Fin 896) (d : Fin 256), p.s6 (ix3 b ⟨t.val, by omega⟩ d) = A.vCode b t d
  s7 : ∀ (b : Fin 2) (t : Fin 896), p.s7 (ix2 b ⟨t.val, by omega⟩) = A.kScale b t * Ideal.ofBits FTy.f32 0x3DB8AA3B#32
  s7' : ∀ (b : Fin 2) (u : Fin 51), p.s7 (ix2 b ⟨896 + u.val, by omega⟩) = Ideal.ofBits FTy.f32 0x3DB8AA3B#32
  s8 : ∀ (b : Fin 2) (t : Fin 896), p.s8 (ix2 b ⟨t.val, by omega⟩) = A.vScale b t
  s8' : ∀ (b : Fin 2) (u : Fin 51), p.s8 (ix2 b ⟨896 + u.val, by omega⟩) = 1

variable {A : Args} {x : Ins Ideal} {p : Carry Ideal} {i : grid0.Coords} {n : ℕ}

/-- The row of a stacked matrix that holds token `t` of sequence `b`. -/
abbrev at' (b : Fin 2) (t : Fin 51) : Fin 112 := ⟨56 * b.val + t.val, by omega⟩

theorem time_row (hp : Inv A n p) (k : Fin 10) (hi : (i 0).val = k.val) (b : Fin 2) (inb) (j : Fin 1024) :
    (View.ld (Val := Elt Ideal) p.s2 (Rect.unit (s := S20x1024) (k0_off1 i (BitVec.ofNat 32 b.val)) S1x1024.size inb) : S1x1024.Idx → EReal) (ix2 0 j)
      = lin (timeEmb A k b) A.wTinT j + A.bTin j := by
  refine (ld2 (Val := Elt Ideal) (M := 20) (N := 1024) (m := 1) (n := 1024) p.s2 _ _ 0 j ⟨2 * k.val + b.val, by omega⟩ j ?_ ?_).trans (hp.s2 k b j)
  · rw [k0_off1_eq]; show 2 * k.val + b.val = 2 * (i 0).val + b.val + 0; omega
  · rw [k0_off1_eq]; show j.val = 0 + j.val; omega

/-- A row of the first payload: the token of an action row, short of its bias. -/
theorem V33_row (hx : Reads x A) (hp : Inv A n p) (k : Fin 10) (hi : (i 0).val = k.val) (b : Fin 2) (t : Fin 50) :
    (fun j => row (V33 i x p) ⟨56 * b.val + 1 + t.val, by omega⟩ j + row (V34 i x p) 0 j) = actTok A k b (act A b n t) := by
  funext j
  have e0 := time_row (i := i) hp k hi 0 (k0_off1_inb i 0)
  have e1 := time_row (i := i) hp k hi 1 (k0_off1_inb i 1)
  unfold V33 V34 actTok affine
  simp only [row]
  rw [pay52_row]
  simp (disch := decide) only [View.ld_unit_lit]
  rw [show mat x.x7 = A.wAin from hx.wAin, show row x.x8 0 = A.bAin from hx.bAin, show mat x.x9 = A.wTinA from hx.wTinA, show mat x.x12 = A.wTout from hx.wTout,
    show row p.s0 ⟨56 * b.val + 1 + t.val, by omega⟩ = act A b n t from funext fun j => hp.s0 b t j]
  refine congrArg₂ (· + ·) ?_ ((congrFun (View.ld_unit_lit (Val := Elt Ideal) (S := S1x1024) inb_S1x1024_S1x1024_0_0 x.x13 (by decide)) (ix2 0 j)).trans (congrFun hx.bTout j))
  refine congrFun (congrArg (fun v => lin v A.wTout) (funext fun k' => ?_)) j
  refine congrArg silu (Eq.trans (congrArg (lin (affine (act A b n t) A.wAin A.bAin) A.wTinA k' + ·) ?_) (add_assoc _ _ _).symm)
  by_cases hb : 56 * b.val + 1 + t.val < 56
  · have : b = 0 := Fin.ext (by show b.val = 0; omega)
    subst this
    rw [if_pos hb]; exact e0 k'
  · have : b = 1 := Fin.ext (by show b.val = 1; omega)
    subst this
    rw [if_neg hb]; exact e1 k'

/-- The tokens that enter the layer. -/
theorem V56_row (hx : Reads x A) (hp : Inv A n p) (k : Fin 10) (hi : (i 0).val = k.val) (b : Fin 2) (t : Fin 51) :
    row (V56 i x p) (at' b t) = tok A k b (act A b n) t := by
  funext j
  unfold V56
  simp only [row]
  rw [pay53_row]
  have hv : V3 i x p (ix2 ⟨(56 * b.val + t.val) % 56, by omega⟩ 0) = BitVec.ofNat 32 t.val := by
    unfold V3
    pointwise
    congr 1; omega
  rw [hv]
  have hs : ∀ (r : Fin 2) (off : Fin 2 → ℕ) (inb) (h0 : off 0 = r.val) (h1 : off 1 = 0),
      (View.ld (Val := Elt Ideal) p.s1 (Rect.unit (s := S2x1024) off S1x1024.size inb) : S1x1024.Idx → EReal) (ix2 0 j) = stateTok A r j := fun r off inb h0 h1 =>
    (ld2 (Val := Elt Ideal) (M := 2) (N := 1024) (m := 1) (n := 1024) p.s1 off inb 0 j r j (by rw [h0]; rfl) (by rw [h1, Nat.zero_add])).trans (hp.s1 r j)
  have e0 := hs 0 ![0, 0] inb_S2x1024_S1x1024_0_0 rfl rfl
  have e1 := hs 1 ![1, 0] inb_S2x1024_S1x1024_1_0 rfl rfl
  unfold tok
  by_cases ht : t.val = 0
  · rw [dif_pos ht, ht]
    refine (if_pos (by decide)).trans ?_
    by_cases hb : 56 * b.val + t.val < 56
    · have : b = 0 := Fin.ext (by show b.val = 0; omega)
      subst this
      rw [if_pos (by omega)]; exact e0
    · have : b = 1 := Fin.ext (by show b.val = 1; omega)
      subst this
      rw [if_neg (by omega)]; exact e1
  · rw [dif_neg ht]
    have hne : IntOp.cmpi .eq (BitVec.ofNat 32 t.val) 0#32 = 0#1 := by
      have ht' := t.isLt
      have : BitVec.ofNat 32 t.val ≠ 0#32 := fun h => ht (by
        have := congrArg BitVec.toNat h
        rw [BitVec.toNat_ofNat, Nat.mod_eq_of_lt (by omega)] at this
        exact this)
      show BitVec.ofBool (BitVec.ofNat 32 t.val == 0#32) = 0#1
      rw [beq_eq_false_iff_ne.mpr this]; rfl
    rw [hne]
    refine (if_neg (by decide)).trans ?_
    have := congrFun (V33_row (i := i) hx hp k hi b ⟨t.val - 1, by omega⟩) j
    refine Eq.trans ?_ this
    have er : (⟨56 * b.val + t.val, by omega⟩ : Fin 112) = ⟨56 * b.val + 1 + (t.val - 1), by omega⟩ := Fin.ext (show 56 * b.val + t.val = 56 * b.val + 1 + (t.val - 1) by omega)
    exact congrArg (fun r => row (V33 i x p) r j + row (V34 i x p) 0 j) er

/-- A row of the projections to queries, key and value. -/
theorem V98_row (hx : Reads x A) (r : Fin 112) : row (V98 i x p) r = qkv A (row (V56 i x p) r) := by
  funext j
  unfold V98
  simp only [row]
  rw [pay60_row _ _ _ _ _ _ _ _ (by unfold V76 V78 V71 Vcst32; exact pay58_row _ _ _ _ _ _ r 0)]
  simp (disch := decide) only [View.ld_unit_lit]
  rw [show mat x.x16 = A.wQkv from hx.wQkv, show row x.x17 0 = A.sQkv from hx.sQkv]
  unfold qkv
  refine congrFun (congrArg (fun v => qlin v A.wQkv A.sQkv) (funext fun c => ?_)) j
  unfold V71
  simp only [row]
  rw [pay54_row]
  simp (disch := decide) only [View.ld_unit_lit]
  rw [show row x.x14 0 = A.ln1 from hx.ln1]
  unfold V56
  simp (disch := decide) only [View.ld_unit_lit]

section keys

variable (hx : Reads x A) (hp : Inv A n p) (k : Fin 10) (hi : (i 0).val = k.val) (b : Fin 2) (t : Fin 51)

include hp in
theorem V99_row : row (V99 i x p) (at' b t) = A.cos b t := by
  funext j
  unfold V99
  simp (disch := decide) only [View.ld_unit_lit]
  exact hp.s3 b t j

include hp in
theorem V100_row : row (V100 i x p) (at' b t) = A.sin b t := by
  funext j
  unfold V100
  simp (disch := decide) only [View.ld_unit_lit]
  exact hp.s4 b t j

include hx hp hi in
theorem V98_tok : row (V98 i x p) (at' b t) = qkv A (tok A k b (act A b n) t) := by
  rw [V98_row hx, V56_row hx hp k hi]

include hx hp hi in
/-- The new keys. -/
theorem V110_row : row (V110 i x p) (at' b t) = newKey (A.cos b t) (A.sin b t) (qkv A (tok A k b (act A b n) t)) := by
  rw [← V98_tok (i := i) hx hp k hi, ← V99_row (i := i) (x := x) hp, ← V100_row (i := i) (x := x) hp]
  funext j
  unfold V110 V98 V99 V100
  exact pay61_row _ _ _ _ _ _ _ _ _ _

include hx hp hi in
/-- The new values. -/
theorem V111_row : row (V111 i x p) (at' b t) = newVal (qkv A (tok A k b (act A b n) t)) := by
  rw [← V98_tok (i := i) hx hp k hi]
  funext j
  unfold V111 V98
  exact pay62_row _ _ _ _ _ _ _ _

/-- The queries of the first four heads and of the last four. -/
def Qs (i : grid0.Coords) (x : Ins Ideal) (p : Carry Ideal) (g : Fin 2) (hd : Fin 4) : FVec Ideal S112x256 .f32 :=
  (![![V121 i x p, V131 i x p, V141 i x p, V151 i x p], ![V161 i x p, V171 i x p, V181 i x p, V191 i x p]] : Fin 2 → Fin 4 → FVec Ideal S112x256 .f32) g hd

include hx hp hi in
theorem Qs_row (g : Fin 2) (hd : Fin 4) :
    row (Qs i x p g hd) (at' b t) = query (A.cos b t) (A.sin b t) (qkv A (tok A k b (act A b n) t)) ⟨4 * g.val + hd.val, by omega⟩ := by
  rw [← V98_tok (i := i) hx hp k hi, ← V99_row (i := i) (x := x) hp, ← V100_row (i := i) (x := x) hp]
  funext j
  unfold Qs
  fin_cases g <;> fin_cases hd
  · show row (V121 i x p) _ j = _
    unfold V121 V98 V99 V100; exact pay63_row _ _ _ _ _ _ _ _ _ _
  · show row (V131 i x p) _ j = _
    unfold V131 V123 V124 V125 V126 V98 V99 V100; exact pay69_row _ _ _ _ _ _ _ _ _ _
  · exact pay70_row _ _ _ _ _
  · exact pay71_row _ _ _ _ _
  · exact pay72_row _ _ _ _ _
  · exact pay73_row _ _ _ _ _
  · exact pay74_row _ _ _ _ _
  · show row (V191 i x p) _ j = _
    unfold V191 V183 V184 V185 V186; exact pay80_row _ _ _ _ _

end keys

end Cert.KernelIdeal.Named

end
-- ==== Proof.KInsA.lean ====
/- What the kernel's body finds in its inputs at a grid point: the whole arrays, as the region is entered. -/
module

public import proofs.«01_k».proof.Proof.Named
public import proofs.«01_k».proof.Proof.KStep1
public import Idealize.ShloMosaic.Lib.Pipeline.ValueKit
public import Idealize.ShloMosaic.Lib.Claim

@[expose] public section

set_option maxRecDepth 16384

noncomputable section

namespace Cert.KernelIdeal.Named

open Idealize.ShloMosaic Idealize.ShloMosaic.TcCoe Idealize.SL.Sem
open Cert.KernelIdeal Cert.KernelIdeal.Gen Cert.Model

variable (m : (ℓ : Loc nD τ sig) → Buf (Elt Ideal) ℓ)

theorem idx_in0 : ∀ t : Fin cfg0.N, win0_0.index t = ![0] :=
  (by decide +kernel : ∀ t : Fin grid0.N, _)

theorem in0 (c : Dev nD) (t : Fin cfg0.N) : (insAt m c t).x0 = V m c main_arg31 := by
  funext y
  refine congrArg (V m c main_arg31) (funext fun a => Fin.ext ((Idealize.ShloMosaic.ValueKit.view_emb_slice_whole_unit_val main_arg31 _ _ _ y a).trans ?_))
  show win0_0.index t a * win0_0.block.size a + (y a).val = _
  rw [idx_in0 t]
  fin_cases a <;> exact (congrArg (· + _) (Nat.zero_mul _)).trans (Nat.zero_add _)

theorem idx_in1 : ∀ t : Fin cfg0.N, win0_1.index t = ![0, 0, 0] :=
  (by decide +kernel : ∀ t : Fin grid0.N, _)

theorem in1 (c : Dev nD) (t : Fin cfg0.N) : (insAt m c t).x1 = V m c main_arg0 := by
  funext y
  refine congrArg (V m c main_arg0) (funext fun a => Fin.ext ((Idealize.ShloMosaic.ValueKit.view_emb_slice_whole_unit_val main_arg0 _ _ _ y a).trans ?_))
  show win0_1.index t a * win0_1.block.size a + (y a).val = _
  rw [idx_in1 t]
  fin_cases a <;> exact (congrArg (· + _) (Nat.zero_mul _)).trans (Nat.zero_add _)

theorem idx_in2 : ∀ t : Fin cfg0.N, win0_2.index t = ![0, 0] :=
  (by decide +kernel : ∀ t : Fin grid0.N, _)

theorem in2 (c : Dev nD) (t : Fin cfg0.N) : (insAt m c t).x2 = V m c main_arg1 := by
  funext y
  refine congrArg (V m c main_arg1) (funext fun a => Fin.ext ((Idealize.ShloMosaic.ValueKit.view_emb_slice_whole_unit_val main_arg1 _ _ _ y a).trans ?_))
  show win0_2.index t a * win0_2.block.size a + (y a).val = _
  rw [idx_in2 t]
  fin_cases a <;> exact (congrArg (· + _) (Nat.zero_mul _)).trans (Nat.zero_add _)

theorem idx_in3 : ∀ t : Fin cfg0.N, win0_3.index t = ![0, 0] :=
  (by decide +kernel : ∀ t : Fin grid0.N, _)

theorem in3 (c : Dev nD) (t : Fin cfg0.N) : (insAt m c t).x3 = V m c main_v9 := by
  funext y
  refine congrArg (V m c main_v9) (funext fun a => Fin.ext ((Idealize.ShloMosaic.ValueKit.view_emb_slice_whole_unit_val main_v9 _ _ _ y a).trans ?_))
  show win0_3.index t a * win0_3.block.size a + (y a).val = _
  rw [idx_in3 t]
  fin_cases a <;> exact (congrArg (· + _) (Nat.zero_mul _)).trans (Nat.zero_add _)

theorem idx_in4 : ∀ t : Fin cfg0.N, win0_4.index t = ![0, 0] :=
  (by decide +kernel : ∀ t : Fin grid0.N, _)

theorem in4 (c : Dev nD) (t : Fin cfg0.N) : (insAt m c t).x4 = V m c main_v10 := by
  funext y
  refine congrArg (V m c main_v10) (funext fun a => Fin.ext ((Idealize.ShloMosaic.ValueKit.view_emb_slice_whole_unit_val main_v10 _ _ _ y a).trans ?_))
  show win0_4.index t a * win0_4.block.size a + (y a).val = _
  rw [idx_in4 t]
  fin_cases a <;> exact (congrArg (· + _) (Nat.zero_mul _)).trans (Nat.zero_add _)

theorem idx_in5 : ∀ t : Fin cfg0.N, win0_5.index t = ![0, 0] :=
  (by decide +kernel : ∀ t : Fin grid0.N, _)

theorem in5 (c : Dev nD) (t : Fin cfg0.N) : (insAt m c t).x5 = V m c main_arg5 := by
  funext y
  refine congrArg (V m c main_arg5) (funext fun a => Fin.ext ((Idealize.ShloMosaic.ValueKit.view_emb_slice_whole_unit_val main_arg5 _ _ _ y a).trans ?_))
  show win0_5.index t a * win0_5.block.size a + (y a).val = _
  rw [idx_in5 t]
  fin_cases a <;> exact (congrArg (· + _) (Nat.zero_mul _)).trans (Nat.zero_add _)

theorem idx_in6 : ∀ t : Fin cfg0.N, win0_6.index t = ![0, 0] :=
  (by decide +kernel : ∀ t : Fin grid0.N, _)

theorem in6 (c : Dev nD) (t : Fin cfg0.N) : (insAt m c t).x6 = V m c main_v11 := by
  funext y
  refine congrArg (V m c main_v11) (funext fun a => Fin.ext ((Idealize.ShloMosaic.ValueKit.view_emb_slice_whole_unit_val main_v11 _ _ _ y a).trans ?_))
  show win0_6.index t a * win0_6.block.size a + (y a).val = _
  rw [idx_in6 t]
  fin_cases a <;> exact (congrArg (· + _) (Nat.zero_mul _)).trans (Nat.zero_add _)

theorem idx_in7 : ∀ t : Fin cfg0.N, win0_7.index t = ![0, 0] :=
  (by decide +kernel : ∀ t : Fin grid0.N, _)

theorem in7 (c : Dev nD) (t : Fin cfg0.N) : (insAt m c t).x7 = V m c main_arg7 := by
  funext y
  refine congrArg (V m c main_arg7) (funext fun a => Fin.ext ((Idealize.ShloMosaic.ValueKit.view_emb_slice_whole_unit_val main_arg7 _ _ _ y a).trans ?_))
  show win0_7.index t a * win0_7.block.size a + (y a).val = _
  rw [idx_in7 t]
  fin_cases a <;> exact (congrArg (· + _) (Nat.zero_mul _)).trans (Nat.zero_add _)

theorem idx_in8 : ∀ t : Fin cfg0.N, win0_8.index t = ![0, 0] :=
  (by decide +kernel : ∀ t : Fin grid0.N, _)

theorem in8 (c : Dev nD) (t : Fin cfg0.N) : (insAt m c t).x8 = V m c main_v12 := by
  funext y
  refine congrArg (V m c main_v12) (funext fun a => Fin.ext ((Idealize.ShloMosaic.ValueKit.view_emb_slice_whole_unit_val main_v12 _ _ _ y a).trans ?_))
  show win0_8.index t a * win0_8.block.size a + (y a).val = _
  rw [idx_in8 t]
  fin_cases a <;> exact (congrArg (· + _) (Nat.zero_mul _)).trans (Nat.zero_add _)

end Cert.KernelIdeal.Named

end
-- ==== Proof.KInsB.lean ====
/- What the kernel's body finds in its inputs at a grid point: the whole arrays, as the region is entered. -/
module

public import proofs.«01_k».proof.Proof.Named
public import proofs.«01_k».proof.Proof.KStep1
public import Idealize.ShloMosaic.Lib.Pipeline.ValueKit
public import Idealize.ShloMosaic.Lib.Claim

@[expose] public section

set_option maxRecDepth 16384

noncomputable section

namespace Cert.KernelIdeal.Named

open Idealize.ShloMosaic Idealize.ShloMosaic.TcCoe Idealize.SL.Sem
open Cert.KernelIdeal Cert.KernelIdeal.Gen Cert.Model

variable (m : (ℓ : Loc nD τ sig) → Buf (Elt Ideal) ℓ)

theorem idx_in9 : ∀ t : Fin cfg0.N, win0_9.index t = ![0, 0] :=
  (by decide +kernel : ∀ t : Fin grid0.N, _)

theorem in9 (c : Dev nD) (t : Fin cfg0.N) : (insAt m c t).x9 = V m c main_arg9 := by
  funext y
  refine congrArg (V m c main_arg9) (funext fun a => Fin.ext ((Idealize.ShloMosaic.ValueKit.view_emb_slice_whole_unit_val main_arg9 _ _ _ y a).trans ?_))
  show win0_9.index t a * win0_9.block.size a + (y a).val = _
  rw [idx_in9 t]
  fin_cases a <;> exact (congrArg (· + _) (Nat.zero_mul _)).trans (Nat.zero_add _)

theorem idx_in10 : ∀ t : Fin cfg0.N, win0_10.index t = ![0, 0] :=
  (by decide +kernel : ∀ t : Fin grid0.N, _)

theorem in10 (c : Dev nD) (t : Fin cfg0.N) : (insAt m c t).x10 = V m c main_arg10 := by
  funext y
  refine congrArg (V m c main_arg10) (funext fun a => Fin.ext ((Idealize.ShloMosaic.ValueKit.view_emb_slice_whole_unit_val main_arg10 _ _ _ y a).trans ?_))
  show win0_10.index t a * win0_10.block.size a + (y a).val = _
  rw [idx_in10 t]
  fin_cases a <;> exact (congrArg (· + _) (Nat.zero_mul _)).trans (Nat.zero_add _)

theorem idx_in11 : ∀ t : Fin cfg0.N, win0_11.index t = ![0, 0] :=
  (by decide +kernel : ∀ t : Fin grid0.N, _)

theorem in11 (c : Dev nD) (t : Fin cfg0.N) : (insAt m c t).x11 = V m c main_v13 := by
  funext y
  refine congrArg (V m c main_v13) (funext fun a => Fin.ext ((Idealize.ShloMosaic.ValueKit.view_emb_slice_whole_unit_val main_v13 _ _ _ y a).trans ?_))
  show win0_11.index t a * win0_11.block.size a + (y a).val = _
  rw [idx_in11 t]
  fin_cases a <;> exact (congrArg (· + _) (Nat.zero_mul _)).trans (Nat.zero_add _)

theorem idx_in12 : ∀ t : Fin cfg0.N, win0_12.index t = ![0, 0] :=
  (by decide +kernel : ∀ t : Fin grid0.N, _)

theorem in12 (c : Dev nD) (t : Fin cfg0.N) : (insAt m c t).x12 = V m c main_arg12 := by
  funext y
  refine congrArg (V m c main_arg12) (funext fun a => Fin.ext ((Idealize.ShloMosaic.ValueKit.view_emb_slice_whole_unit_val main_arg12 _ _ _ y a).trans ?_))
  show win0_12.index t a * win0_12.block.size a + (y a).val = _
  rw [idx_in12 t]
  fin_cases a <;> exact (congrArg (· + _) (Nat.zero_mul _)).trans (Nat.zero_add _)

theorem idx_in13 : ∀ t : Fin cfg0.N, win0_13.index t = ![0, 0] :=
  (by decide +kernel : ∀ t : Fin grid0.N, _)

theorem in13 (c : Dev nD) (t : Fin cfg0.N) : (insAt m c t).x13 = V m c main_v14 := by
  funext y
  refine congrArg (V m c main_v14) (funext fun a => Fin.ext ((Idealize.ShloMosaic.ValueKit.view_emb_slice_whole_unit_val main_v14 _ _ _ y a).trans ?_))
  show win0_13.index t a * win0_13.block.size a + (y a).val = _
  rw [idx_in13 t]
  fin_cases a <;> exact (congrArg (· + _) (Nat.zero_mul _)).trans (Nat.zero_add _)

theorem idx_in14 : ∀ t : Fin cfg0.N, win0_14.index t = ![0, 0] :=
  (by decide +kernel : ∀ t : Fin grid0.N, _)

theorem in14 (c : Dev nD) (t : Fin cfg0.N) : (insAt m c t).x14 = V m c main_arg14 := by
  funext y
  refine congrArg (V m c main_arg14) (funext fun a => Fin.ext ((Idealize.ShloMosaic.ValueKit.view_emb_slice_whole_unit_val main_arg14 _ _ _ y a).trans ?_))
  show win0_14.index t a * win0_14.block.size a + (y a).val = _
  rw [idx_in14 t]
  fin_cases a <;> exact (congrArg (· + _) (Nat.zero_mul _)).trans (Nat.zero_add _)

theorem idx_in15 : ∀ t : Fin cfg0.N, win0_15.index t = ![0, 0] :=
  (by decide +kernel : ∀ t : Fin grid0.N, _)

theorem in15 (c : Dev nD) (t : Fin cfg0.N) : (insAt m c t).x15 = V m c main_arg15 := by
  funext y
  refine congrArg (V m c main_arg15) (funext fun a => Fin.ext ((Idealize.ShloMosaic.ValueKit.view_emb_slice_whole_unit_val main_arg15 _ _ _ y a).trans ?_))
  show win0_15.index t a * win0_15.block.size a + (y a).val = _
  rw [idx_in15 t]
  fin_cases a <;> exact (congrArg (· + _) (Nat.zero_mul _)).trans (Nat.zero_add _)

theorem idx_in16 : ∀ t : Fin cfg0.N, win0_16.index t = ![0, 0] :=
  (by decide +kernel : ∀ t : Fin grid0.N, _)

theorem in16 (c : Dev nD) (t : Fin cfg0.N) : (insAt m c t).x16 = V m c main_v15 := by
  funext y
  refine congrArg (V m c main_v15) (funext fun a => Fin.ext ((Idealize.ShloMosaic.ValueKit.view_emb_slice_whole_unit_val main_v15 _ _ _ y a).trans ?_))
  show win0_16.index t a * win0_16.block.size a + (y a).val = _
  rw [idx_in16 t]
  fin_cases a <;> exact (congrArg (· + _) (Nat.zero_mul _)).trans (Nat.zero_add _)

end Cert.KernelIdeal.Named

end
-- ==== Proof.KInsC.lean ====
/- What the kernel's body finds in its inputs at a grid point: the whole arrays, as the region is entered. -/
module

public import proofs.«01_k».proof.Proof.Named
public import proofs.«01_k».proof.Proof.KStep1
public import Idealize.ShloMosaic.Lib.Pipeline.ValueKit
public import Idealize.ShloMosaic.Lib.Claim

@[expose] public section

set_option maxRecDepth 16384

noncomputable section

namespace Cert.KernelIdeal.Named

open Idealize.ShloMosaic Idealize.ShloMosaic.TcCoe Idealize.SL.Sem
open Cert.KernelIdeal Cert.KernelIdeal.Gen Cert.Model

variable (m : (ℓ : Loc nD τ sig) → Buf (Elt Ideal) ℓ)

theorem idx_in17 : ∀ t : Fin cfg0.N, win0_17.index t = ![0, 0] :=
  (by decide +kernel : ∀ t : Fin grid0.N, _)

theorem in17 (c : Dev nD) (t : Fin cfg0.N) : (insAt m c t).x17 = V m c main_arg17 := by
  funext y
  refine congrArg (V m c main_arg17) (funext fun a => Fin.ext ((Idealize.ShloMosaic.ValueKit.view_emb_slice_whole_unit_val main_arg17 _ _ _ y a).trans ?_))
  show win0_17.index t a * win0_17.block.size a + (y a).val = _
  rw [idx_in17 t]
  fin_cases a <;> exact (congrArg (· + _) (Nat.zero_mul _)).trans (Nat.zero_add _)

theorem idx_in18 : ∀ t : Fin cfg0.N, win0_18.index t = ![0, 0] :=
  (by decide +kernel : ∀ t : Fin grid0.N, _)

theorem in18 (c : Dev nD) (t : Fin cfg0.N) : (insAt m c t).x18 = V m c main_v16 := by
  funext y
  refine congrArg (V m c main_v16) (funext fun a => Fin.ext ((Idealize.ShloMosaic.ValueKit.view_emb_slice_whole_unit_val main_v16 _ _ _ y a).trans ?_))
  show win0_18.index t a * win0_18.block.size a + (y a).val = _
  rw [idx_in18 t]
  fin_cases a <;> exact (congrArg (· + _) (Nat.zero_mul _)).trans (Nat.zero_add _)

theorem idx_in19 : ∀ t : Fin cfg0.N, win0_19.index t = ![0, 0] :=
  (by decide +kernel : ∀ t : Fin grid0.N, _)

theorem in19 (c : Dev nD) (t : Fin cfg0.N) : (insAt m c t).x19 = V m c main_arg19 := by
  funext y
  refine congrArg (V m c main_arg19) (funext fun a => Fin.ext ((Idealize.ShloMosaic.ValueKit.view_emb_slice_whole_unit_val main_arg19 _ _ _ y a).trans ?_))
  show win0_19.index t a * win0_19.block.size a + (y a).val = _
  rw [idx_in19 t]
  fin_cases a <;> exact (congrArg (· + _) (Nat.zero_mul _)).trans (Nat.zero_add _)

theorem idx_in20 : ∀ t : Fin cfg0.N, win0_20.index t = ![0, 0, 0] :=
  (by decide +kernel : ∀ t : Fin grid0.N, _)

theorem in20 (c : Dev nD) (t : Fin cfg0.N) : (insAt m c t).x20 = V m c main_v17 := by
  funext y
  refine congrArg (V m c main_v17) (funext fun a => Fin.ext ((Idealize.ShloMosaic.ValueKit.view_emb_slice_whole_unit_val main_v17 _ _ _ y a).trans ?_))
  show win0_20.index t a * win0_20.block.size a + (y a).val = _
  rw [idx_in20 t]
  fin_cases a <;> exact (congrArg (· + _) (Nat.zero_mul _)).trans (Nat.zero_add _)

theorem idx_in21 : ∀ t : Fin cfg0.N, win0_21.index t = ![0, 0] :=
  (by decide +kernel : ∀ t : Fin grid0.N, _)

theorem in21 (c : Dev nD) (t : Fin cfg0.N) : (insAt m c t).x21 = V m c main_v18 := by
  funext y
  refine congrArg (V m c main_v18) (funext fun a => Fin.ext ((Idealize.ShloMosaic.ValueKit.view_emb_slice_whole_unit_val main_v18 _ _ _ y a).trans ?_))
  show win0_21.index t a * win0_21.block.size a + (y a).val = _
  rw [idx_in21 t]
  fin_cases a <;> exact (congrArg (· + _) (Nat.zero_mul _)).trans (Nat.zero_add _)

theorem idx_in22 : ∀ t : Fin cfg0.N, win0_22.index t = ![0, 0] :=
  (by decide +kernel : ∀ t : Fin grid0.N, _)

theorem in22 (c : Dev nD) (t : Fin cfg0.N) : (insAt m c t).x22 = V m c main_v19 := by
  funext y
  refine congrArg (V m c main_v19) (funext fun a => Fin.ext ((Idealize.ShloMosaic.ValueKit.view_emb_slice_whole_unit_val main_v19 _ _ _ y a).trans ?_))
  show win0_22.index t a * win0_22.block.size a + (y a).val = _
  rw [idx_in22 t]
  fin_cases a <;> exact (congrArg (· + _) (Nat.zero_mul _)).trans (Nat.zero_add _)

theorem idx_in23 : ∀ t : Fin cfg0.N, win0_23.index t = ![0, 0] :=
  (by decide +kernel : ∀ t : Fin grid0.N, _)

theorem in23 (c : Dev nD) (t : Fin cfg0.N) : (insAt m c t).x23 = V m c main_arg23 := by
  funext y
  refine congrArg (V m c main_arg23) (funext fun a => Fin.ext ((Idealize.ShloMosaic.ValueKit.view_emb_slice_whole_unit_val main_arg23 _ _ _ y a).trans ?_))
  show win0_23.index t a * win0_23.block.size a + (y a).val = _
  rw [idx_in23 t]
  fin_cases a <;> exact (congrArg (· + _) (Nat.zero_mul _)).trans (Nat.zero_add _)

theorem idx_in24 : ∀ t : Fin cfg0.N, win0_24.index t = ![0, 0] :=
  (by decide +kernel : ∀ t : Fin grid0.N, _)

theorem in24 (c : Dev nD) (t : Fin cfg0.N) : (insAt m c t).x24 = V m c main_v20 := by
  funext y
  refine congrArg (V m c main_v20) (funext fun a => Fin.ext ((Idealize.ShloMosaic.ValueKit.view_emb_slice_whole_unit_val main_v20 _ _ _ y a).trans ?_))
  show win0_24.index t a * win0_24.block.size a + (y a).val = _
  rw [idx_in24 t]
  fin_cases a <;> exact (congrArg (· + _) (Nat.zero_mul _)).trans (Nat.zero_add _)

end Cert.KernelIdeal.Named

end
-- ==== Proof.KInsD.lean ====
/- What the kernel's body finds in its inputs at a grid point: the whole arrays, as the region is entered. -/
module

public import proofs.«01_k».proof.Proof.Named
public import proofs.«01_k».proof.Proof.KStep1
public import Idealize.ShloMosaic.Lib.Pipeline.ValueKit
public import Idealize.ShloMosaic.Lib.Claim

@[expose] public section

set_option maxRecDepth 16384

noncomputable section

namespace Cert.KernelIdeal.Named

open Idealize.ShloMosaic Idealize.ShloMosaic.TcCoe Idealize.SL.Sem
open Cert.KernelIdeal Cert.KernelIdeal.Gen Cert.Model

variable (m : (ℓ : Loc nD τ sig) → Buf (Elt Ideal) ℓ)

theorem idx_in25 : ∀ t : Fin cfg0.N, win0_25.index t = ![0, 0] :=
  (by decide +kernel : ∀ t : Fin grid0.N, _)

theorem in25 (c : Dev nD) (t : Fin cfg0.N) : (insAt m c t).x25 = V m c main_arg25 := by
  funext y
  refine congrArg (V m c main_arg25) (funext fun a => Fin.ext ((Idealize.ShloMosaic.ValueKit.view_emb_slice_whole_unit_val main_arg25 _ _ _ y a).trans ?_))
  show win0_25.index t a * win0_25.block.size a + (y a).val = _
  rw [idx_in25 t]
  fin_cases a <;> exact (congrArg (· + _) (Nat.zero_mul _)).trans (Nat.zero_add _)

theorem idx_in26 : ∀ t : Fin cfg0.N, win0_26.index t = ![0, 0] :=
  (by decide +kernel : ∀ t : Fin grid0.N, _)

theorem in26 (c : Dev nD) (t : Fin cfg0.N) : (insAt m c t).x26 = V m c main_v21 := by
  funext y
  refine congrArg (V m c main_v21) (funext fun a => Fin.ext ((Idealize.ShloMosaic.ValueKit.view_emb_slice_whole_unit_val main_v21 _ _ _ y a).trans ?_))
  show win0_26.index t a * win0_26.block.size a + (y a).val = _
  rw [idx_in26 t]
  fin_cases a <;> exact (congrArg (· + _) (Nat.zero_mul _)).trans (Nat.zero_add _)

theorem idx_in27 : ∀ t : Fin cfg0.N, win0_27.index t = ![0, 0, 0] :=
  (by decide +kernel : ∀ t : Fin grid0.N, _)

theorem in27 (c : Dev nD) (t : Fin cfg0.N) : (insAt m c t).x27 = V m c main_v22 := by
  funext y
  refine congrArg (V m c main_v22) (funext fun a => Fin.ext ((Idealize.ShloMosaic.ValueKit.view_emb_slice_whole_unit_val main_v22 _ _ _ y a).trans ?_))
  show win0_27.index t a * win0_27.block.size a + (y a).val = _
  rw [idx_in27 t]
  fin_cases a <;> exact (congrArg (· + _) (Nat.zero_mul _)).trans (Nat.zero_add _)

theorem idx_in28 : ∀ t : Fin cfg0.N, win0_28.index t = ![0, 0, 0] :=
  (by decide +kernel : ∀ t : Fin grid0.N, _)

theorem in28 (c : Dev nD) (t : Fin cfg0.N) : (insAt m c t).x28 = V m c main_v23 := by
  funext y
  refine congrArg (V m c main_v23) (funext fun a => Fin.ext ((Idealize.ShloMosaic.ValueKit.view_emb_slice_whole_unit_val main_v23 _ _ _ y a).trans ?_))
  show win0_28.index t a * win0_28.block.size a + (y a).val = _
  rw [idx_in28 t]
  fin_cases a <;> exact (congrArg (· + _) (Nat.zero_mul _)).trans (Nat.zero_add _)

theorem idx_in29 : ∀ t : Fin cfg0.N, win0_29.index t = ![0, 0] :=
  (by decide +kernel : ∀ t : Fin grid0.N, _)

theorem in29 (c : Dev nD) (t : Fin cfg0.N) : (insAt m c t).x29 = V m c main_v24 := by
  funext y
  refine congrArg (V m c main_v24) (funext fun a => Fin.ext ((Idealize.ShloMosaic.ValueKit.view_emb_slice_whole_unit_val main_v24 _ _ _ y a).trans ?_))
  show win0_29.index t a * win0_29.block.size a + (y a).val = _
  rw [idx_in29 t]
  fin_cases a <;> exact (congrArg (· + _) (Nat.zero_mul _)).trans (Nat.zero_add _)

theorem idx_in30 : ∀ t : Fin cfg0.N, win0_30.index t = ![0, 0] :=
  (by decide +kernel : ∀ t : Fin grid0.N, _)

theorem in30 (c : Dev nD) (t : Fin cfg0.N) : (insAt m c t).x30 = V m c main_v25 := by
  funext y
  refine congrArg (V m c main_v25) (funext fun a => Fin.ext ((Idealize.ShloMosaic.ValueKit.view_emb_slice_whole_unit_val main_v25 _ _ _ y a).trans ?_))
  show win0_30.index t a * win0_30.block.size a + (y a).val = _
  rw [idx_in30 t]
  fin_cases a <;> exact (congrArg (· + _) (Nat.zero_mul _)).trans (Nat.zero_add _)

theorem idx_in31 : ∀ t : Fin cfg0.N, win0_31.index t = ![0, 0, 0] :=
  (by decide +kernel : ∀ t : Fin grid0.N, _)

theorem in31 (c : Dev nD) (t : Fin cfg0.N) : (insAt m c t).x31 = V m c main_arg32 := by
  funext y
  refine congrArg (V m c main_arg32) (funext fun a => Fin.ext ((Idealize.ShloMosaic.ValueKit.view_emb_slice_whole_unit_val main_arg32 _ _ _ y a).trans ?_))
  show win0_31.index t a * win0_31.block.size a + (y a).val = _
  rw [idx_in31 t]
  fin_cases a <;> exact (congrArg (· + _) (Nat.zero_mul _)).trans (Nat.zero_add _)

theorem idx_in32 : ∀ t : Fin cfg0.N, win0_32.index t = ![0, 0, 0] :=
  (by decide +kernel : ∀ t : Fin grid0.N, _)

theorem in32 (c : Dev nD) (t : Fin cfg0.N) : (insAt m c t).x32 = V m c main_arg33 := by
  funext y
  refine congrArg (V m c main_arg33) (funext fun a => Fin.ext ((Idealize.ShloMosaic.ValueKit.view_emb_slice_whole_unit_val main_arg33 _ _ _ y a).trans ?_))
  show win0_32.index t a * win0_32.block.size a + (y a).val = _
  rw [idx_in32 t]
  fin_cases a <;> exact (congrArg (· + _) (Nat.zero_mul _)).trans (Nat.zero_add _)

theorem idx_in33 : ∀ t : Fin cfg0.N, win0_33.index t = ![0] :=
  (by decide +kernel : ∀ t : Fin grid0.N, _)

theorem in33 (c : Dev nD) (t : Fin cfg0.N) : (insAt m c t).x33 = V m c main_arg3 := by
  funext y
  refine congrArg (V m c main_arg3) (funext fun a => Fin.ext ((Idealize.ShloMosaic.ValueKit.view_emb_slice_whole_unit_val main_arg3 _ _ _ y a).trans ?_))
  show win0_33.index t a * win0_33.block.size a + (y a).val = _
  rw [idx_in33 t]
  fin_cases a <;> exact (congrArg (· + _) (Nat.zero_mul _)).trans (Nat.zero_add _)

end Cert.KernelIdeal.Named

end
-- ==== Proof.KArgs.lean ====
/- The model's arguments read off the kernel's argument arrays, and what the body finds of them at every grid point. -/
module

public import proofs.«01_k».proof.Proof.KInsA
public import proofs.«01_k».proof.Proof.KInsB
public import proofs.«01_k».proof.Proof.KInsC
public import proofs.«01_k».proof.Proof.KInsD

@[expose] public section

set_option maxRecDepth 16384

noncomputable section

namespace Cert.KernelIdeal.Named

open Idealize.ShloMosaic Idealize.ShloMosaic.TcCoe Idealize.SL.Sem
open Cert.KernelIdeal Cert.KernelIdeal.Gen Cert.Model Cert.KernelIdeal.Rows

variable (m : (ℓ : Loc nD τ sig) → Buf (Elt Ideal) ℓ)

/-- The model's arguments in the kernel's argument arrays. -/
def args (c : Dev nD) : Args where
  x b t j := m ((c : Thread nD τ).loc main_arg0) (ix3 b t j)
  state b j := m ((c : Thread nD τ).loc main_arg1) (ix2 b j)
  time0 b := m ((c : Thread nD τ).loc main_arg2) (ix1 b)
  dt b := m ((c : Thread nD τ).loc main_arg3) (ix1 b)
  freq j := m ((c : Thread nD τ).loc main_arg4) (ix1 j)
  wState k j := m ((c : Thread nD τ).loc main_arg5) (ix2 k j)
  bState j := m ((c : Thread nD τ).loc main_arg6) (ix1 j)
  wAin k j := m ((c : Thread nD τ).loc main_arg7) (ix2 k j)
  bAin j := m ((c : Thread nD τ).loc main_arg8) (ix1 j)
  wTinA k j := m ((c : Thread nD τ).loc main_arg9) (ix2 k j)
  wTinT k j := m ((c : Thread nD τ).loc main_arg10) (ix2 k j)
  bTin j := m ((c : Thread nD τ).loc main_arg11) (ix1 j)
  wTout k j := m ((c : Thread nD τ).loc main_arg12) (ix2 k j)
  bTout j := m ((c : Thread nD τ).loc main_arg13) (ix1 j)
  ln1 j := m ((c : Thread nD τ).loc main_arg14) (ix2 0 j)
  ln2 j := m ((c : Thread nD τ).loc main_arg15) (ix2 0 j)
  wQkv k j := m ((c : Thread nD τ).loc main_arg16) (ix3 0 k j)
  sQkv j := m ((c : Thread nD τ).loc main_arg17) (ix2 0 j)
  wO k j := m ((c : Thread nD τ).loc main_arg18) (ix3 0 k j)
  sO j := m ((c : Thread nD τ).loc main_arg19) (ix2 0 j)
  wGate k j := m ((c : Thread nD τ).loc main_arg20) (ix4 0 0 k j)
  sGate j := m ((c : Thread nD τ).loc main_arg21) (ix3 0 0 j)
  wUp k j := m ((c : Thread nD τ).loc main_arg20) (ix4 0 1 k j)
  sUp j := m ((c : Thread nD τ).loc main_arg21) (ix3 0 1 j)
  wDown k j := m ((c : Thread nD τ).loc main_arg22) (ix3 0 k j)
  sDown j := m ((c : Thread nD τ).loc main_arg23) (ix2 0 j)
  fn j := m ((c : Thread nD τ).loc main_arg24) (ix1 j)
  wOut k j := m ((c : Thread nD τ).loc main_arg25) (ix2 k j)
  bOut j := m ((c : Thread nD τ).loc main_arg26) (ix1 j)
  kCode b t d := FloatOps.sitofp (F := Ideal) .f32 (m ((c : Thread nD τ).loc main_arg27) (ix4 0 b t d))
  vCode b t d := FloatOps.sitofp (F := Ideal) .f32 (m ((c : Thread nD τ).loc main_arg28) (ix4 0 b t d))
  kScale b t := m ((c : Thread nD τ).loc main_arg29) (ix3 0 b t)
  vScale b t := m ((c : Thread nD τ).loc main_arg30) (ix3 0 b t)
  plen b := m ((c : Thread nD τ).loc main_arg31) (ix1 b)
  cos b t j := m ((c : Thread nD τ).loc main_arg32) (ix3 b t j)
  sin b t j := m ((c : Thread nD τ).loc main_arg33) (ix3 b t j)

set_option maxHeartbeats 0 in
/-- The body's inputs at every grid point hold the model's arguments. -/
theorem reads (c : Dev nD) (t : Fin cfg0.N) : Reads (insAt m c t) (args m c) where
  plen b := by rw [in0]; entry_read; rfl
  xs b t' j := by rw [in1]; entry_read; rfl
  state b := by funext j; show (insAt m c t).x2 _ = _; rw [in2]; entry_read; rfl
  times k b := by rw [in3]; entry_read; pointwise; rfl
  freq := by funext j; show (insAt m c t).x4 _ = _; rw [in4]; entry_read; pointwise; rfl
  wState := by funext k j; show (insAt m c t).x5 _ = _; rw [in5]; entry_read; rfl
  bState := by funext j; show (insAt m c t).x6 _ = _; rw [in6]; entry_read; pointwise; rfl
  wAin := by funext k j; show (insAt m c t).x7 _ = _; rw [in7]; entry_read; rfl
  bAin := by funext j; show (insAt m c t).x8 _ = _; rw [in8]; entry_read; pointwise; rfl
  wTinA := by funext k j; show (insAt m c t).x9 _ = _; rw [in9]; entry_read; rfl
  wTinT := by funext k j; show (insAt m c t).x10 _ = _; rw [in10]; entry_read; rfl
  bTin := by funext j; show (insAt m c t).x11 _ = _; rw [in11]; entry_read; pointwise; rfl
  wTout := by funext k j; show (insAt m c t).x12 _ = _; rw [in12]; entry_read; rfl
  bTout := by funext j; show (insAt m c t).x13 _ = _; rw [in13]; entry_read; pointwise; rfl
  ln1 := by funext j; show (insAt m c t).x14 _ = _; rw [in14]; entry_read; rfl
  ln2 := by funext j; show (insAt m c t).x15 _ = _; rw [in15]; entry_read; rfl
  wQkv := by funext k j; show (insAt m c t).x16 _ = _; rw [in16]; entry_read; pointwise; rfl
  sQkv := by funext j; show (insAt m c t).x17 _ = _; rw [in17]; entry_read; rfl
  wO := by funext k j; show (insAt m c t).x18 _ = _; rw [in18]; entry_read; pointwise; rfl
  sO := by funext j; show (insAt m c t).x19 _ = _; rw [in19]; entry_read; rfl
  wGate := by funext k j; show (insAt m c t).x20 _ = _; rw [in20]; entry_read; pointwise; rfl
  wUp := by funext k j; show (insAt m c t).x20 _ = _; rw [in20]; entry_read; pointwise; rfl
  sGate := by funext j; show (insAt m c t).x21 _ = _; rw [in21]; entry_read; pointwise; rfl
  sUp := by funext j; show (insAt m c t).x21 _ = _; rw [in21]; entry_read; pointwise; rfl
  wDown := by funext k j; show (insAt m c t).x22 _ = _; rw [in22]; entry_read; pointwise; rfl
  sDown := by funext j; show (insAt m c t).x23 _ = _; rw [in23]; entry_read; rfl
  fn := by funext j; show (insAt m c t).x24 _ = _; rw [in24]; entry_read; pointwise; rfl
  wOut := by funext k j; show (insAt m c t).x25 _ = _; rw [in25]; entry_read; rfl
  bOut := by funext j; show (insAt m c t).x26 _ = _; rw [in26]; entry_read; pointwise; rfl
  kCode b t' d := by rw [in27]; entry_read; refine congrArg _ ?_; pointwise
  vCode b t' d := by rw [in28]; entry_read; refine congrArg _ ?_; pointwise
  kScale b t' := by rw [in29]; entry_read; pointwise; rfl
  vScale b t' := by rw [in30]; entry_read; pointwise; rfl
  cos b t' j := by rw [in31]; entry_read; rfl
  sin b t' j := by rw [in32]; entry_read; rfl
  dt b := by rw [in33]; entry_read; rfl

end Cert.KernelIdeal.Named

end
-- ==== Proof.KInit.lean ====
/- The scratch as the first grid point fills it, in the model's terms. -/
module

public import proofs.«01_k».proof.Proof.KStep1

@[expose] public section

set_option maxRecDepth 16384

noncomputable section

namespace Cert.KernelIdeal.Named

open Idealize.ShloMosaic Idealize.ShloMosaic.TcCoe Idealize.SL.Sem
open Cert.KernelIdeal Cert.KernelIdeal.Gen Cert.KernelIdeal.Rows Cert.Model

theorem pay12_apply (v) (t : Fin 50) (j : Fin 32) : k0_pay12 (F := Ideal) v (ix2 t j) = v (ix3 0 t j) := by
  pointwise [k0_pay12]

theorem pay19_apply (v) (t : Fin 50) (j : Fin 32) : k0_pay19 (F := Ideal) v (ix2 t j) = v (ix3 0 t j) := by
  pointwise [k0_pay19]

theorem pay13_apply (v) (t : Fin 51) (j : Fin 128) : k0_pay13 (F := Ideal) v (ix2 t j) = v (ix3 0 t j) := by
  pointwise [k0_pay13]

theorem pay14_apply (v) (t : Fin 51) (j : Fin 128) : k0_pay14 (F := Ideal) v (ix2 t j) = v (ix3 0 t j) := by
  pointwise [k0_pay14]

theorem pay20_apply (v) (t : Fin 51) (j : Fin 128) : k0_pay20 (F := Ideal) v (ix2 t j) = v (ix3 0 t j) := by
  pointwise [k0_pay20]

theorem pay21_apply (v) (t : Fin 51) (j : Fin 128) : k0_pay21 (F := Ideal) v (ix2 t j) = v (ix3 0 t j) := by
  pointwise [k0_pay21]

theorem pay15_apply (v) (t : Fin 896) (d : Fin 256) : k0_pay15 (F := Ideal) v (ix3 0 t d) = FloatOps.sitofp (F := Ideal) .f32 (v (ix3 0 t d)) := by
  pointwise [k0_pay15]

theorem pay16_apply (v) (t : Fin 896) (d : Fin 256) : k0_pay16 (F := Ideal) v (ix3 0 t d) = FloatOps.sitofp (F := Ideal) .f32 (v (ix3 0 t d)) := by
  pointwise [k0_pay16]

theorem pay23_apply (v) (t : Fin 896) (d : Fin 256) :
    k0_pay23 (F := Ideal) (k0_pay22 (F := Ideal) v) (ix3 0 t d) = FloatOps.sitofp (F := Ideal) .f32 (v (ix3 0 t d)) := by
  pointwise [k0_pay23, k0_pay22]

theorem pay24_apply (v) (t : Fin 896) (d : Fin 256) : k0_pay24 (F := Ideal) v (ix3 0 t d) = FloatOps.sitofp (F := Ideal) .f32 (v (ix3 0 t d)) := by
  pointwise [k0_pay24]

theorem pay17_apply (v) (t : Fin 896) : k0_pay17 (F := Ideal) v (ix2 0 t) = v (ix2 0 t) * Ideal.ofBits FTy.f32 0x3DB8AA3B#32 := by
  pointwise [k0_pay17]

theorem pay25_apply (v) (t : Fin 896) : k0_pay25 (F := Ideal) v (ix2 0 t) = v (ix2 0 t) * Ideal.ofBits FTy.f32 0x3DB8AA3B#32 := by
  pointwise [k0_pay25]

theorem pay18_apply (v) (t : Fin 896) : k0_pay18 (F := Ideal) v (ix2 0 t) = v (ix2 0 t) := by
  pointwise [k0_pay18]

theorem pay26_apply (v) (t : Fin 896) : k0_pay26 (F := Ideal) v (ix2 0 t) = v (ix2 0 t) := by
  pointwise [k0_pay26]

theorem pay10_apply (b : Fin 2) (t : Fin 1024) : k0_pay10 (F := Ideal) (ix2 b t) = Ideal.ofBits FTy.f32 0x3DB8AA3B#32 := by
  pointwise [k0_pay10]

theorem pay11_apply (b : Fin 2) (t : Fin 1024) : k0_pay11 (F := Ideal) (ix2 b t) = 1 := by
  pointwise [k0_pay11]

theorem pay50_row (a w c) (b : Fin 2) (j : Fin 1024) :
    k0_pay50 (F := Ideal) (k0_pay27 a w c) (ix2 b j) = affine (row a b) (mat w) (row c 0) j := by
  pointwise [k0_pay50, k0_pay27, affine, lin]

/-- The sines and cosines of a time at the frequencies. -/
def wave (t : EReal) (f : Row 512) : Row 1024 := fun j =>
  if h : j.val < 512 then Ideal.sin (t * f ⟨j.val, h⟩) else Ideal.cos (t * f ⟨j.val - 512, by omega⟩)

theorem pay51_row (a f w c) (r : Fin 20) (j : Fin 1024) :
    k0_pay51 (F := Ideal) a f w c (ix2 r j) = lin (wave (a (ix2 r 0)) (row f 0)) (mat w) j + row c 0 j := by
  pointwise [k0_pay51, lin, wave]

variable {A : Args} {x : Ins Ideal} (hx : Reads x A)

include hx in
theorem init_s0 (b : Fin 2) (t : Fin 50) (j : Fin 32) : (init x).s0 (ix2 ⟨56 * b.val + 1 + t.val, by omega⟩ j) = A.x b t j := by
  rcases (show b = 0 ∨ b = 1 by fin_cases b; exact .inl rfl; exact .inr rfl) with rfl | rfl
  · refine (put2_off (M := 112) (N := 32) (m := 50) (n := 32) (B51_2 x) _ _ j (.inl (by have := t.isLt; show 56 * 0 + 1 + t.val < 57; omega))).trans ?_
    refine (put2_in (M := 112) (N := 32) (m := 50) (n := 32) (B51_1 x) _ _ j t j (by show 56 * 0 + 1 + t.val = 1 + t.val; omega) (Nat.zero_add _).symm).trans ?_
    exact (pay12_apply _ t j).trans ((ld3 (Val := Elt Ideal) (M := 2) (N := 50) (O := 32) (m := 1) (n := 50) (o := 32) x.x1 ![0, 0, 0] _ 0 t j 0 t j rfl (Nat.zero_add _).symm (Nat.zero_add _).symm).trans (hx.xs 0 t j))
  · refine (put2_in (M := 112) (N := 32) (m := 50) (n := 32) (B51_2 x) _ _ j t j rfl (Nat.zero_add _).symm).trans ?_
    exact (pay19_apply _ t j).trans ((ld3 (Val := Elt Ideal) (M := 2) (N := 50) (O := 32) (m := 1) (n := 50) (o := 32) x.x1 ![1, 0, 0] _ 0 t j 1 t j rfl (Nat.zero_add _).symm (Nat.zero_add _).symm).trans (hx.xs 1 t j))

include hx in
theorem init_s3 (b : Fin 2) (t : Fin 51) (j : Fin 128) : (init x).s3 (ix2 ⟨56 * b.val + t.val, by omega⟩ j) = A.cos b t j := by
  rcases (show b = 0 ∨ b = 1 by fin_cases b; exact .inl rfl; exact .inr rfl) with rfl | rfl
  · refine (put2_off (M := 112) (N := 128) (m := 51) (n := 128) (B54_2 x) _ _ j (.inl (by have := t.isLt; show 56 * 0 + t.val < 56; omega))).trans ?_
    refine (put2_in (M := 112) (N := 128) (m := 51) (n := 128) (B54_1 x) _ _ j t j rfl (Nat.zero_add _).symm).trans ?_
    exact (pay13_apply _ t j).trans ((ld3 (Val := Elt Ideal) (M := 2) (N := 51) (O := 128) (m := 1) (n := 51) (o := 128) x.x31 ![0, 0, 0] _ 0 t j 0 t j rfl (Nat.zero_add _).symm (Nat.zero_add _).symm).trans (hx.cos 0 t j))
  · refine (put2_in (M := 112) (N := 128) (m := 51) (n := 128) (B54_2 x) _ _ j t j rfl (Nat.zero_add _).symm).trans ?_
    exact (pay20_apply _ t j).trans ((ld3 (Val := Elt Ideal) (M := 2) (N := 51) (O := 128) (m := 1) (n := 51) (o := 128) x.x31 ![1, 0, 0] _ 0 t j 1 t j rfl (Nat.zero_add _).symm (Nat.zero_add _).symm).trans (hx.cos 1 t j))

include hx in
theorem init_s4 (b : Fin 2) (t : Fin 51) (j : Fin 128) : (init x).s4 (ix2 ⟨56 * b.val + t.val, by omega⟩ j) = A.sin b t j := by
  rcases (show b = 0 ∨ b = 1 by fin_cases b; exact .inl rfl; exact .inr rfl) with rfl | rfl
  · refine (put2_off (M := 112) (N := 128) (m := 51) (n := 128) (B55_2 x) _ _ j (.inl (by have := t.isLt; show 56 * 0 + t.val < 56; omega))).trans ?_
    refine (put2_in (M := 112) (N := 128) (m := 51) (n := 128) (B55_1 x) _ _ j t j rfl (Nat.zero_add _).symm).trans ?_
    exact (pay14_apply _ t j).trans ((ld3 (Val := Elt Ideal) (M := 2) (N := 51) (O := 128) (m := 1) (n := 51) (o := 128) x.x32 ![0, 0, 0] _ 0 t j 0 t j rfl (Nat.zero_add _).symm (Nat.zero_add _).symm).trans (hx.sin 0 t j))
  · refine (put2_in (M := 112) (N := 128) (m := 51) (n := 128) (B55_2 x) _ _ j t j rfl (Nat.zero_add _).symm).trans ?_
    exact (pay21_apply _ t j).trans ((ld3 (Val := Elt Ideal) (M := 2) (N := 51) (O := 128) (m := 1) (n := 51) (o := 128) x.x32 ![1, 0, 0] _ 0 t j 1 t j rfl (Nat.zero_add _).symm (Nat.zero_add _).symm).trans (hx.sin 1 t j))

include hx in
theorem init_s5 (b : Fin 2) (t : Fin 896) (d : Fin 256) : (init x).s5 (ix3 b ⟨t.val, by omega⟩ d) = A.kCode b t d := by
  rw [← hx.kCode b t d]
  rcases (show b = 0 ∨ b = 1 by fin_cases b; exact .inl rfl; exact .inr rfl) with rfl | rfl
  · show B56_4 x (ix3 0 _ d) = _
    unfold B56_4
    refine (put3_off (M := 2) (N := 1024) (O := 256) (m := 1) (n := 896) (o := 256) (B56_2 x) _ 0 _ d (.inl Nat.zero_lt_one)).trans ?_
    refine (put3_in (M := 2) (N := 1024) (O := 256) (m := 1) (n := 896) (o := 256) (B56_1 x) _ 0 _ d 0 t d rfl (Nat.zero_add _).symm (Nat.zero_add _).symm).trans ?_
    exact (pay15_apply _ t d).trans (congrArg _ (ld3 (Val := Elt Ideal) (M := 2) (N := 896) (O := 256) (m := 1) (n := 896) (o := 256) x.x27 ![0, 0, 0] _ 0 t d 0 t d rfl (Nat.zero_add _).symm (Nat.zero_add _).symm))
  · refine (put3_in (M := 2) (N := 1024) (O := 256) (m := 1) (n := 896) (o := 256) (B56_2 x) _ 1 _ d 0 t d rfl (Nat.zero_add _).symm (Nat.zero_add _).symm).trans ?_
    exact (pay23_apply _ t d).trans (congrArg _ (ld3 (Val := Elt Ideal) (M := 2) (N := 896) (O := 256) (m := 1) (n := 896) (o := 256) x.x27 ![1, 0, 0] _ 0 t d 1 t d rfl (Nat.zero_add _).symm (Nat.zero_add _).symm))

include hx in
theorem init_s6 (b : Fin 2) (t : Fin 896) (d : Fin 256) : (init x).s6 (ix3 b ⟨t.val, by omega⟩ d) = A.vCode b t d := by
  rw [← hx.vCode b t d]
  rcases (show b = 0 ∨ b = 1 by fin_cases b; exact .inl rfl; exact .inr rfl) with rfl | rfl
  · show B57_4 x (ix3 0 _ d) = _
    unfold B57_4
    refine (put3_off (M := 2) (N := 1024) (O := 256) (m := 1) (n := 896) (o := 256) (B57_2 x) _ 0 _ d (.inl Nat.zero_lt_one)).trans ?_
    refine (put3_in (M := 2) (N := 1024) (O := 256) (m := 1) (n := 896) (o := 256) (B57_1 x) _ 0 _ d 0 t d rfl (Nat.zero_add _).symm (Nat.zero_add _).symm).trans ?_
    exact (pay16_apply _ t d).trans (congrArg _ (ld3 (Val := Elt Ideal) (M := 2) (N := 896) (O := 256) (m := 1) (n := 896) (o := 256) x.x28 ![0, 0, 0] _ 0 t d 0 t d rfl (Nat.zero_add _).symm (Nat.zero_add _).symm))
  · refine (put3_in (M := 2) (N := 1024) (O := 256) (m := 1) (n := 896) (o := 256) (B57_2 x) _ 1 _ d 0 t d rfl (Nat.zero_add _).symm (Nat.zero_add _).symm).trans ?_
    exact (pay24_apply _ t d).trans (congrArg _ (ld3 (Val := Elt Ideal) (M := 2) (N := 896) (O := 256) (m := 1) (n := 896) (o := 256) x.x28 ![1, 0, 0] _ 0 t d 1 t d rfl (Nat.zero_add _).symm (Nat.zero_add _).symm))

include hx in
theorem init_s7 (b : Fin 2) (t : Fin 896) : (init x).s7 (ix2 b ⟨t.val, by omega⟩) = A.kScale b t * Ideal.ofBits FTy.f32 0x3DB8AA3B#32 := by
  rw [← hx.kScale b t]
  rcases (show b = 0 ∨ b = 1 by fin_cases b; exact .inl rfl; exact .inr rfl) with rfl | rfl
  · show B58_4 x (ix2 0 _) = _
    unfold B58_4
    refine (put2_off (M := 2) (N := 1024) (m := 1) (n := 896) (B58_3 x) _ 0 _ (.inl Nat.zero_lt_one)).trans ?_
    refine (put2_in (M := 2) (N := 1024) (m := 1) (n := 896) (B58_1 x) _ 0 _ 0 t rfl (Nat.zero_add _).symm).trans ?_
    exact (pay17_apply _ t).trans (congrArg (· * _) (ld2 (Val := Elt Ideal) (M := 2) (N := 896) (m := 1) (n := 896) x.x29 ![0, 0] _ 0 t 0 t rfl (Nat.zero_add _).symm))
  · refine (put2_in (M := 2) (N := 1024) (m := 1) (n := 896) (B58_3 x) _ 1 _ 0 t rfl (Nat.zero_add _).symm).trans ?_
    exact (pay25_apply _ t).trans (congrArg (· * _) (ld2 (Val := Elt Ideal) (M := 2) (N := 896) (m := 1) (n := 896) x.x29 ![1, 0] _ 0 t 1 t rfl (Nat.zero_add _).symm))

include hx in
theorem init_s8 (b : Fin 2) (t : Fin 896) : (init x).s8 (ix2 b ⟨t.val, by omega⟩) = A.vScale b t := by
  rw [← hx.vScale b t]
  rcases (show b = 0 ∨ b = 1 by fin_cases b; exact .inl rfl; exact .inr rfl) with rfl | rfl
  · show B59_4 x (ix2 0 _) = _
    unfold B59_4
    refine (put2_off (M := 2) (N := 1024) (m := 1) (n := 896) (B59_3 x) _ 0 _ (.inl Nat.zero_lt_one)).trans ?_
    refine (put2_in (M := 2) (N := 1024) (m := 1) (n := 896) (B59_1 x) _ 0 _ 0 t rfl (Nat.zero_add _).symm).trans ?_
    exact (pay18_apply _ t).trans (ld2 (Val := Elt Ideal) (M := 2) (N := 896) (m := 1) (n := 896) x.x30 ![0, 0] _ 0 t 0 t rfl (Nat.zero_add _).symm)
  · refine (put2_in (M := 2) (N := 1024) (m := 1) (n := 896) (B59_3 x) _ 1 _ 0 t rfl (Nat.zero_add _).symm).trans ?_
    exact (pay26_apply _ t).trans (ld2 (Val := Elt Ideal) (M := 2) (N := 896) (m := 1) (n := 896) x.x30 ![1, 0] _ 0 t 1 t rfl (Nat.zero_add _).symm)

/-- The slots of the new tokens keep what the scales' buffers are filled with. -/
theorem init_s7' (b : Fin 2) (u : Fin 51) : (init x).s7 (ix2 b ⟨896 + u.val, by omega⟩) = Ideal.ofBits FTy.f32 0x3DB8AA3B#32 :=
  (put2_off (M := 2) (N := 1024) (m := 1) (n := 896) (B58_3 x) _ b ⟨896 + u.val, by omega⟩ (.inr (.inr (.inr (Nat.le_add_right _ _))))).trans
    ((put2_off (M := 2) (N := 1024) (m := 1) (n := 896) (B58_1 x) _ b ⟨896 + u.val, by omega⟩ (.inr (.inr (.inr (Nat.le_add_right _ _))))).trans (pay10_apply b _))

theorem init_s8' (b : Fin 2) (u : Fin 51) : (init x).s8 (ix2 b ⟨896 + u.val, by omega⟩) = 1 :=
  (put2_off (M := 2) (N := 1024) (m := 1) (n := 896) (B59_3 x) _ b ⟨896 + u.val, by omega⟩ (.inr (.inr (.inr (Nat.le_add_right _ _))))).trans
    ((put2_off (M := 2) (N := 1024) (m := 1) (n := 896) (B59_1 x) _ b ⟨896 + u.val, by omega⟩ (.inr (.inr (.inr (Nat.le_add_right _ _))))).trans (pay11_apply b _))

include hx in
theorem init_s1 (b : Fin 2) (j : Fin 1024) : (init x).s1 (ix2 b j) = stateTok A b j := by
  show B52_8 x (ix2 b j) = _
  unfold B52_8 W770
  rw [pay50_row]
  simp (disch := decide) only [View.ld_unit_lit]
  rw [show mat x.x5 = A.wState from hx.wState, show row x.x2 b = A.state b from hx.state b, show row x.x6 0 = A.bState from hx.bState]
  rfl

include hx in
theorem init_s2 (k : Fin 10) (b : Fin 2) (j : Fin 1024) : (init x).s2 (ix2 ⟨2 * k.val + b.val, by omega⟩ j) = lin (timeEmb A k b) A.wTinT j + A.bTin j := by
  show B53_8 x (ix2 _ j) = _
  unfold B53_8
  rw [pay51_row]
  simp (disch := decide) only [View.ld_unit_lit]
  rw [show mat x.x10 = A.wTinT from hx.wTinT, show row x.x4 0 = A.freq from hx.freq, show row x.x11 0 = A.bTin from hx.bTin]
  exact congrArg (fun z => lin (wave z A.freq) A.wTinT j + A.bTin j)
    ((congrFun (View.ld_unit_lit (Val := Elt Ideal) (S := S20x1) inb_S20x1_S20x1_0_0 x.x3 (by decide)) _).trans (hx.times k b))

/-- The scratch before the first step. -/
theorem inv_init (hx : Reads x A) : Inv A 0 (init x) where
  s0 := init_s0 hx
  s1 := init_s1 hx
  s2 := init_s2 hx
  s3 := init_s3 hx
  s4 := init_s4 hx
  s5 := init_s5 hx
  s6 := init_s6 hx
  s7 := init_s7 hx
  s7' := init_s7'
  s8 := init_s8 hx
  s8' := init_s8'

end Cert.KernelIdeal.Named

end
-- ==== Proof.KStack.lean ====
/- The kernel's attention payloads: each of the four stacked heads' rows attends over its 1024 key slots. -/
module

public import proofs.«01_k».proof.Proof.Gen.KernelIdeal.Skeleton
public import proofs.«01_k».proof.Proof.Attn

@[expose] public section

set_option maxRecDepth 16384

noncomputable section

namespace Cert.KernelIdeal.Rows

open Idealize.ShloMosaic Idealize.ShloMosaic.TcCoe Idealize.SL.Sem
open Cert.KernelIdeal Cert.KernelIdeal.Gen Cert.Model

/-- The first sequence's rows of four heads, one head below the other. -/
def stack0 (a b c e : FVec Ideal S112x256 .f32) : FVec Ideal S224x256 .f32 :=
  concatenate S224x256 0 [⟨S56x256, extractStridedSlice S56x256 ![0, 0] a slices_S112x256_o0_0_S56x256⟩,
    ⟨S56x256, extractStridedSlice S56x256 ![0, 0] b slices_S112x256_o0_0_S56x256⟩,
    ⟨S56x256, extractStridedSlice S56x256 ![0, 0] c slices_S112x256_o0_0_S56x256⟩,
    ⟨S56x256, extractStridedSlice S56x256 ![0, 0] e slices_S112x256_o0_0_S56x256⟩] concatenates_S56x256_S56x256_S56x256_S56x256_S224x256_d0

/-- The second sequence's rows of four heads, one head below the other. -/
def stack1 (a b c e : FVec Ideal S112x256 .f32) : FVec Ideal S224x256 .f32 :=
  concatenate S224x256 0 [⟨S56x256, extractStridedSlice S56x256 ![56, 0] a slices_S112x256_o56_0_S56x256⟩,
    ⟨S56x256, extractStridedSlice S56x256 ![56, 0] b slices_S112x256_o56_0_S56x256⟩,
    ⟨S56x256, extractStridedSlice S56x256 ![56, 0] c slices_S112x256_o56_0_S56x256⟩,
    ⟨S56x256, extractStridedSlice S56x256 ![56, 0] e slices_S112x256_o56_0_S56x256⟩] concatenates_S56x256_S56x256_S56x256_S56x256_S224x256_d0

theorem stack0_apply (q : Fin 4 → FVec Ideal S112x256 .f32) (i : Fin 4) (s : Fin 56) (d : Fin 256) :
    stack0 (q 0) (q 1) (q 2) (q 3) (ix2 ⟨56 * i.val + s.val, by omega⟩ d) = q i (ix2 ⟨s.val, by omega⟩ d) := by
  pointwise [stack0]
  fin_vals i with hi
  · obtain rfl : i = 0 := Fin.ext hi
    simp
  · obtain rfl : i = 1 := Fin.ext hi
    simp
  · obtain rfl : i = 2 := Fin.ext hi
    simp [show 56 * 2 + s.val - 56 - 56 = s.val by omega, show ¬ (56 * 2 + s.val - 56 < 56) by omega, show ¬ (112 + s.val < 56) by omega]
  · obtain rfl : i = 3 := Fin.ext hi
    simp [show 56 * 3 + s.val - 56 - 56 - 56 = s.val by omega, show ¬ (56 * 3 + s.val - 56 < 56) by omega, show ¬ (168 + s.val < 56) by omega, show ¬ (56 * 3 + s.val - 56 - 56 < 56) by omega]

theorem stack1_apply (q : Fin 4 → FVec Ideal S112x256 .f32) (i : Fin 4) (s : Fin 56) (d : Fin 256) :
    stack1 (q 0) (q 1) (q 2) (q 3) (ix2 ⟨56 * i.val + s.val, by omega⟩ d) = q i (ix2 ⟨56 + s.val, by omega⟩ d) := by
  pointwise [stack1]
  fin_vals i with hi
  · obtain rfl : i = 0 := Fin.ext hi
    simp
  · obtain rfl : i = 1 := Fin.ext hi
    simp
  · obtain rfl : i = 2 := Fin.ext hi
    simp [show 56 * 2 + s.val - 56 - 56 = s.val by omega, show ¬ (56 * 2 + s.val - 56 < 56) by omega, show ¬ (112 + s.val < 56) by omega]
  · obtain rfl : i = 3 := Fin.ext hi
    simp [show 56 * 3 + s.val - 56 - 56 - 56 = s.val by omega, show ¬ (56 * 3 + s.val - 56 < 56) by omega, show ¬ (168 + s.val < 56) by omega, show ¬ (56 * 3 + s.val - 56 - 56 < 56) by omega]

end Cert.KernelIdeal.Rows
-- ==== Proof.KAttn.lean ====
/- The kernel's attention payloads: each of the four stacked heads' rows attends over its 1024 key slots. -/
module

public import proofs.«01_k».proof.Proof.Gen.KernelIdeal.Skeleton
public import proofs.«01_k».proof.Proof.Attn
public import proofs.«01_k».proof.Proof.KStack

@[expose] public section

set_option maxRecDepth 16384

noncomputable section

namespace Cert.KernelIdeal.Rows

open Idealize.ShloMosaic Idealize.ShloMosaic.TcCoe Idealize.SL.Sem
open Cert.KernelIdeal Cert.KernelIdeal.Gen Cert.Model

/-- The scores of row `r` of the stacked queries against the 1024 key slots. -/
def scores (mask : IVec S224x1024 1) (Q : FVec Ideal S224x256 .f32) (K : Fin 1024 → Row 256) (kc : Row 1024) (r : Fin 224) : Row 1024 := fun t =>
  Scalar.select (mask (ix2 r t)) ((∑ d, Q (ix2 r d) * K t d) * kc t) (Ideal.ofBits FTy.f32 0xFF800000#32)

theorem pay91_row (v121 v131 v141 v151 v192 v211 v224 v226 v228 v231 v251 v254 v267 v271) (r : Fin 224) (d : Fin 256) :
    k0_pay91 (F := Ideal) (k0_pay89 v121 v131 v141 v151 v192 v211 v224 v226 v228 v231 v251 v254)
        (k0_pay90 v121 v131 v141 v151 v192 v211 v224 v226 v228 v231 v251 v254 v267) v271 (ix2 r d)
      = attendKeys (scores (k0_pay87 v192 v211 v224 v226 v228 v231) (stack0 v121 v131 v141 v151) (fun t d => v251 (ix3 0 t d)) (fun t => v254 (ix2 0 t)) r)
          (fun t => v267 (ix2 0 t)) (fun t d => v271 (ix3 0 t d)) d := by
  pointwise [k0_pay91, k0_pay90, k0_pay89, k0_pay88, attendKeys, scores, stack0]
  all_goals rfl

theorem pay97_row (v161 v171 v181 v191 v244 v298 v301 v314 v318) (r : Fin 224) (d : Fin 256) :
    k0_pay97 (F := Ideal) (k0_pay96 v161 v171 v181 v191 v244 v298 v301) v314 v318 (ix2 r d)
      = attendKeys (scores v244 (stack0 v161 v171 v181 v191) (fun t d => v298 (ix3 0 t d)) (fun t => v301 (ix2 0 t)) r)
          (fun t => v314 (ix2 0 t)) (fun t d => v318 (ix3 0 t d)) d := by
  pointwise [k0_pay97, k0_pay96, attendKeys, scores, stack0]
  all_goals rfl

theorem pay108_row (v121 v131 v141 v151 v192 v211 v349 v358 v378 v381 v394 v398) (r : Fin 224) (d : Fin 256) :
    k0_pay108 (F := Ideal) (k0_pay106 v121 v131 v141 v151 v192 v211 v349 v358 v378 v381)
        (k0_pay107 v121 v131 v141 v151 v192 v211 v349 v358 v378 v381) v394 v398 (ix2 r d)
      = attendKeys (scores (k0_pay105 v192 v211 v349 v358) (stack1 v121 v131 v141 v151) (fun t d => v378 (ix3 0 t d)) (fun t => v381 (ix2 0 t)) r)
          (fun t => v394 (ix2 0 t)) (fun t d => v398 (ix3 0 t d)) d := by
  pointwise [k0_pay108, k0_pay107, k0_pay106, attendKeys, scores, stack1]
  all_goals rfl

theorem pay115_row (v371 v161 v171 v181 v191 v425 v428 v441 v445) (r : Fin 224) (d : Fin 256) :
    k0_pay115 (F := Ideal) v371 (k0_pay113 v161 v171 v181 v191) (k0_pay114 v425) (constant S224x1024 .f32 0x00000000#32) v428 v441 v445 (ix2 r d)
      = attendKeys (scores v371 (stack1 v161 v171 v181 v191) (fun t d => v425 (ix3 0 t d)) (fun t => v428 (ix2 0 t)) r)
          (fun t => v441 (ix2 0 t)) (fun t d => v445 (ix3 0 t d)) d := by
  pointwise [k0_pay115, k0_pay114, k0_pay113, attendKeys, scores, stack1]
  all_goals rfl

end Cert.KernelIdeal.Rows
-- ==== Proof.KMask.lean ====
/- The kernel's attention payloads: each of the four stacked heads' rows attends over its 1024 key slots. -/
module

public import proofs.«01_k».proof.Proof.Gen.KernelIdeal.Skeleton
public import proofs.«01_k».proof.Proof.Attn

@[expose] public section

set_option maxRecDepth 16384

noncomputable section

namespace Cert.KernelIdeal.Rows

open Idealize.ShloMosaic Idealize.ShloMosaic.TcCoe Idealize.SL.Sem
open Cert.KernelIdeal Cert.KernelIdeal.Gen Cert.Model

/-- The mask of a key slot: `st` says whether the row is the state token's, `n` is the prefix's length. -/
def keyMask (st : BitVec 1) (n : BitVec 32) (t : BitVec 32) : BitVec 1 :=
  IntOp.ori (IntOp.andi (IntOp.ori (IntOp.cmpi .slt t n) (IntOp.andi (IntOp.cmpi .sge t 896#32) (IntOp.cmpi .slt t 947#32))) (IntOp.xori st 1#1))
    (IntOp.andi (IntOp.ori (IntOp.cmpi .slt t n) (IntOp.cmpi .eq t 896#32)) st)

theorem pay81_apply (r : Fin 224) : k0_pay81 (ix2 r 0) = BitVec.ofBool (decide (r.val % 56 = 0)) := by
  pointwise [k0_pay81]
  revert r
  decide +kernel

theorem pay87_apply (n : BitVec 32) (r : Fin 224) (t : Fin 1024) :
    k0_pay87 (F := Ideal) (iota .tc S1x1024 32 [1] iota_S1x1024_d1_w32) k0_pay81 (k0_pay84 (F := Ideal) n) k0_pay85 k0_pay86 n (ix2 r t)
      = keyMask (BitVec.ofBool (decide (r.val % 56 = 0))) n (BitVec.ofNat 32 t.val) := by
  pointwise [k0_pay87, k0_pay84, k0_pay85, k0_pay86, pay81_apply, keyMask]

theorem pay105_apply (n : BitVec 32) (r : Fin 224) (t : Fin 1024) :
    k0_pay105 (F := Ideal) (iota .tc S1x1024 32 [1] iota_S1x1024_d1_w32) k0_pay81 n n (ix2 r t)
      = keyMask (BitVec.ofBool (decide (r.val % 56 = 0))) n (BitVec.ofNat 32 t.val) := by
  pointwise [k0_pay105, pay81_apply, keyMask]

theorem toInt_ofNat_small (k : ℕ) (h : k < 1024) : (BitVec.ofNat 32 k).toInt = k := by
  have e : (BitVec.ofNat 32 k).toNat = k := by rw [BitVec.toNat_ofNat]; omega
  rw [BitVec.toInt_eq_toNat_of_lt (by omega), e]

/-- A slot of the prefix is seen by every row while it is below the prefix's length. -/
theorem keyMask_prefix (st : BitVec 1) (n : BitVec 32) (t : ℕ) (h : t < 896) :
    keyMask st n (BitVec.ofNat 32 t) = 1 ↔ (t : ℤ) < n.toInt := by
  have h1 : (896#32).sle (BitVec.ofNat 32 t) = false := by
    rw [BitVec.sle_eq_decide, toInt_ofNat_small t (by omega)]; simp; omega
  have h2 : (BitVec.ofNat 32 t == 896#32) = false := by
    rw [beq_eq_false_iff_ne]; intro e; have := congrArg BitVec.toInt e; rw [toInt_ofNat_small t (by omega)] at this; simp at this; omega
  have h3 : (BitVec.ofNat 32 t).slt n = decide ((t : ℤ) < n.toInt) := by
    rw [BitVec.slt_eq_decide, toInt_ofNat_small t (by omega)]
  simp only [keyMask, IntOp.cmpi, h1, h2, h3, IntOp.ori, IntOp.andi, IntOp.xori]
  generalize (BitVec.ofNat 32 t).slt 947#32 = b'
  by_cases hb : (t : ℤ) < n.toInt <;> simp only [hb, decide_true, decide_false, iff_true, iff_false] <;> revert st b' <;> decide

/-- A slot of a new key is seen by every action row, the first by the state's row too, and no other. -/
theorem keyMask_new (st : BitVec 1) (n : BitVec 32) (hn : n.toInt ≤ 896) (u : ℕ) (h : u < 51) :
    keyMask st n (BitVec.ofNat 32 (896 + u)) = 1 ↔ (st = 0 ∨ u = 0) := by
  have h1 : (896#32).sle (BitVec.ofNat 32 (896 + u)) = true := by
    rw [BitVec.sle_eq_decide, toInt_ofNat_small (896 + u) (by omega)]; simp
  have h4 : (BitVec.ofNat 32 (896 + u)).slt 947#32 = true := by
    rw [BitVec.slt_eq_decide, toInt_ofNat_small (896 + u) (by omega)]; simp; omega
  have h2 : (BitVec.ofNat 32 (896 + u) == 896#32) = decide (u = 0) := by
    rcases Nat.eq_zero_or_pos u with rfl | hu
    · rfl
    · rw [decide_eq_false (by omega), beq_eq_false_iff_ne]; intro e; have := congrArg BitVec.toInt e; rw [toInt_ofNat_small _ (by omega)] at this; simp at this; omega
  have h3 : (BitVec.ofNat 32 (896 + u)).slt n = false := by
    rw [BitVec.slt_eq_decide, toInt_ofNat_small (896 + u) (by omega)]; simp; omega
  simp only [keyMask, IntOp.cmpi, h1, h2, h3, h4, IntOp.ori, IntOp.andi, IntOp.xori]
  by_cases h0 : u = 0 <;> simp only [h0, decide_true, decide_false, or_true, or_false] <;> revert st <;> decide

/-- The slots past the new keys are seen by no row. -/
theorem keyMask_pad (st : BitVec 1) (n : BitVec 32) (hn : n.toInt ≤ 896) (w : ℕ) (h : w < 77) :
    keyMask st n (BitVec.ofNat 32 (947 + w)) ≠ 1 := by
  have h1 : (896#32).sle (BitVec.ofNat 32 (947 + w)) = true := by
    rw [BitVec.sle_eq_decide, toInt_ofNat_small (947 + w) (by omega)]; simp; omega
  have h4 : (BitVec.ofNat 32 (947 + w)).slt 947#32 = false := by
    rw [BitVec.slt_eq_decide, toInt_ofNat_small (947 + w) (by omega)]; simp
  have h2 : (BitVec.ofNat 32 (947 + w) == 896#32) = false := by
    rw [beq_eq_false_iff_ne]; intro e; have := congrArg BitVec.toInt e; rw [toInt_ofNat_small _ (by omega)] at this; simp at this; omega
  have h3 : (BitVec.ofNat 32 (947 + w)).slt n = false := by
    rw [BitVec.slt_eq_decide, toInt_ofNat_small (947 + w) (by omega)]; simp; omega
  simp only [keyMask, IntOp.cmpi, h1, h2, h3, h4, IntOp.ori, IntOp.andi, IntOp.xori]
  revert st; decide

end Cert.KernelIdeal.Rows
-- ==== Proof.KStep2.lean ====
/- The attention of a step: each head's rows over the kernel's key slots are the model's heads. -/
module

public import proofs.«01_k».proof.Proof.KStep1
public import proofs.«01_k».proof.Proof.KAttn
public import proofs.«01_k».proof.Proof.KMask

@[expose] public section

set_option maxRecDepth 16384

noncomputable section

namespace Cert.KernelIdeal.Named

open Idealize.ShloMosaic Idealize.ShloMosaic.TcCoe Idealize.SL.Sem
open Cert.KernelIdeal Cert.KernelIdeal.Gen Cert.KernelIdeal.Rows Cert.Model

/-- The scale of the scores and the change to base 2 in one factor. -/
theorem scale_log2e : Ideal.ofBits FTy.f32 0x3D800000#32 * Ideal.ofBits FTy.f32 0x3FB8AA3B#32 = Ideal.ofBits FTy.f32 0x3DB8AA3B#32 := by
  have a : Ideal.ofBits FTy.f32 0x3D800000#32 = (((1 : ℝ) / 16 : ℝ) : EReal) := by simp [Ideal.ofBits, Ideal.ieee]; norm_num; exact (EReal.coe_mul _ _).symm.trans (congrArg _ (by norm_num))
  have b : Ideal.ofBits FTy.f32 0x3FB8AA3B#32 = (((12102203 : ℝ) / 8388608 : ℝ) : EReal) := by simp [Ideal.ofBits, Ideal.ieee]; norm_num; exact (EReal.coe_mul _ _).symm.trans (congrArg _ (by norm_num))
  have c : Ideal.ofBits FTy.f32 0x3DB8AA3B#32 = (((12102203 : ℝ) / 134217728 : ℝ) : EReal) := by simp [Ideal.ofBits, Ideal.ieee]; norm_num; exact (EReal.coe_mul _ _).symm.trans (congrArg _ (by norm_num))
  rw [a, b, c, ← EReal.coe_mul]
  congr 1
  norm_num

/-- The key slots of sequence `b` hold its cached and its new keys and values, with their scales. -/
structure Slots (A : Args) (b : Fin 2) (h : Fin 51 → Row 1024) (K : Fin 1024 → Row 256) (kc vc : Row 1024) (V : Fin 1024 → Row 256) : Prop where
  fk : ∀ (t : Fin 896) d, K ⟨t.val, by omega⟩ d = A.kCode b t d
  fk' : ∀ (u : Fin 51) d, K ⟨896 + u.val, by omega⟩ d = newKey (A.cos b u) (A.sin b u) (qkv A (h u)) d
  fkc : ∀ t : Fin 896, kc ⟨t.val, by omega⟩ = A.kScale b t * Ideal.ofBits FTy.f32 0x3DB8AA3B#32
  fkc' : ∀ u : Fin 51, kc ⟨896 + u.val, by omega⟩ = Ideal.ofBits FTy.f32 0x3DB8AA3B#32
  fvc : ∀ t : Fin 896, vc ⟨t.val, by omega⟩ = A.vScale b t
  fvc' : ∀ u : Fin 51, vc ⟨896 + u.val, by omega⟩ = 1
  fv : ∀ (t : Fin 896) d, V ⟨t.val, by omega⟩ d = A.vCode b t d
  fv' : ∀ (u : Fin 51) d, V ⟨896 + u.val, by omega⟩ d = newVal (qkv A (h u)) d

theorem select_iff {c c' : BitVec 1} (a e : EReal) (h : c = 1 ↔ c' = 1) : Scalar.select c a e = Scalar.select c' a e := by
  unfold Scalar.select
  by_cases hc : c = 1
  · rw [if_pos hc, if_pos (h.mp hc)]
  · rw [if_neg hc, if_neg fun k => hc (h.mpr k)]

/-- A row of the stacked queries attends as the model's head does. -/
theorem attend_row {A : Args} {b : Fin 2} {h : Fin 51 → Row 1024} {K : Fin 1024 → Row 256} {kc vc : Row 1024} {V : Fin 1024 → Row 256}
    (hs : Slots A b h K kc vc V) (hn : (A.plen b).toInt ≤ 896) (s : Fin 51) (hd : Fin 8) (r : Fin 224) (hr : r.val % 56 = s.val)
    (mask : IVec S224x1024 1) (Q : FVec Ideal S224x256 .f32)
    (hm : ∀ t : Fin 1024, mask (ix2 r t) = keyMask (BitVec.ofBool (decide (r.val % 56 = 0))) (A.plen b) (BitVec.ofNat 32 t.val))
    (hQ : ∀ d, Q (ix2 r d) = query (A.cos b s) (A.sin b s) (qkv A (h s)) hd d) :
    attendKeys (scores mask Q K kc r) vc V = headAt A b h s hd := by
  unfold headAt
  refine attendKeys_eq (fun t => ?_) (fun u => ?_) (fun w => ?_) hs.fvc hs.fvc' hs.fv hs.fv'
  · unfold scores sPast
    simp only [hm, hQ, hs.fk, hs.fkc]
    rw [← scale_log2e, ← mul_assoc (A.kScale b t), ← mul_assoc, ← mul_assoc]
    refine select_iff _ _ ((keyMask_prefix _ _ _ t.isLt).trans ?_)
    show _ ↔ BitVec.ofBool ((BitVec.ofNat 32 t.val).slt (A.plen b)) = 1
    rw [BitVec.slt_eq_decide, toInt_ofNat_small _ (by omega)]
    by_cases h' : (t.val : ℤ) < (A.plen b).toInt <;> simp [h']
  · unfold scores sNew
    simp only [hm, hQ, hs.fk', hs.fkc']
    rw [← scale_log2e, ← mul_assoc]
    have e := keyMask_new (BitVec.ofBool (decide (r.val % 56 = 0))) (A.plen b) hn u.val u.isLt
    have e' : (BitVec.ofBool (decide (r.val % 56 = 0)) = 0 ∨ u.val = 0) ↔ (0 < s.val ∨ u.val = 0) := by
      refine or_congr ?_ Iff.rfl
      rw [hr]
      rcases Nat.eq_zero_or_pos s.val with h0 | h0
      · simp [h0]
      · have : s.val ≠ 0 := by omega
        simp [this, h0]
    unfold Scalar.select
    exact if_congr (e.trans e') rfl rfl
  · unfold scores
    simp only [hm]
    exact (if_neg (keyMask_pad _ _ hn w.val w.isLt)).trans negInf

variable {A : Args} {x : Ins Ideal} {p : Carry Ideal} {i : grid0.Coords} {n : ℕ}

theorem pay82_apply (v) (u : Fin 56) (d : Fin 256) : k0_pay82 (F := Ideal) v (ix3 0 u d) = v (ix2 ⟨u.val, by omega⟩ d) := by
  pointwise [k0_pay82]

theorem pay83_apply (v) (u : Fin 56) (d : Fin 256) : k0_pay83 (F := Ideal) v (ix3 0 u d) = v (ix2 ⟨u.val, by omega⟩ d) := by
  pointwise [k0_pay83]

theorem pay102_apply (v) (u : Fin 56) (d : Fin 256) : k0_pay102 (F := Ideal) v (ix3 0 u d) = v (ix2 ⟨56 + u.val, by omega⟩ d) := by
  pointwise [k0_pay102]

theorem pay104_apply (v) (u : Fin 56) (d : Fin 256) : k0_pay104 (F := Ideal) (k0_pay103 v) (ix3 0 u d) = v (ix2 ⟨56 + u.val, by omega⟩ d) := by
  pointwise [k0_pay104, k0_pay103]

section keys

theorem S5_12_old (hp : Inv A n p) (b : Fin 2) (t : Fin 896) (d : Fin 256) : S5_12 i x p (ix3 b ⟨t.val, by omega⟩ d) = A.kCode b t d :=
  (put3_off (M := 2) (N := 1024) (O := 256) (m := 1) (n := 56) (o := 256) p.s5 _ b ⟨t.val, by omega⟩ d (by have := t.isLt; simp only []; omega)).trans (hp.s5 b t d)

theorem S6_12_old (hp : Inv A n p) (b : Fin 2) (t : Fin 896) (d : Fin 256) : S6_12 i x p (ix3 b ⟨t.val, by omega⟩ d) = A.vCode b t d :=
  (put3_off (M := 2) (N := 1024) (O := 256) (m := 1) (n := 56) (o := 256) p.s6 _ b ⟨t.val, by omega⟩ d (by have := t.isLt; simp only []; omega)).trans (hp.s6 b t d)

theorem S5_15_old (hp : Inv A n p) (b : Fin 2) (t : Fin 896) (d : Fin 256) : S5_15 i x p (ix3 b ⟨t.val, by omega⟩ d) = A.kCode b t d :=
  (put3_off (M := 2) (N := 1024) (O := 256) (m := 1) (n := 56) (o := 256) (S5_12 i x p) _ b ⟨t.val, by omega⟩ d (by have := t.isLt; simp only []; omega)).trans (S5_12_old hp b t d)

theorem S6_16_old (hp : Inv A n p) (b : Fin 2) (t : Fin 896) (d : Fin 256) : S6_16 i x p (ix3 b ⟨t.val, by omega⟩ d) = A.vCode b t d :=
  (put3_off (M := 2) (N := 1024) (O := 256) (m := 1) (n := 56) (o := 256) (S6_12 i x p) _ b ⟨t.val, by omega⟩ d (by have := t.isLt; simp only []; omega)).trans (S6_12_old hp b t d)

variable (hx : Reads x A) (hp : Inv A n p) (k : Fin 10) (hi : (i 0).val = k.val)

include hx hp hi in
theorem S5_12_new (u : Fin 51) (d : Fin 256) :
    S5_12 i x p (ix3 0 ⟨896 + u.val, by omega⟩ d) = newKey (A.cos 0 u) (A.sin 0 u) (qkv A (tok A k 0 (act A 0 n) u)) d := by
  refine (put3_in (M := 2) (N := 1024) (O := 256) (m := 1) (n := 56) (o := 256) p.s5 _ 0 ⟨896 + u.val, by omega⟩ d 0 ⟨u.val, by omega⟩ d rfl rfl (Nat.zero_add _).symm).trans ?_
  refine (pay82_apply _ _ _).trans (Eq.trans (congrArg (fun r => V110 i x p (ix2 r d)) (Fin.ext ?_)) (congrFun (V110_row hx hp k hi 0 u) d))
  show u.val = 56 * 0 + u.val; omega

include hx hp hi in
theorem S6_12_new (u : Fin 51) (d : Fin 256) :
    S6_12 i x p (ix3 0 ⟨896 + u.val, by omega⟩ d) = newVal (qkv A (tok A k 0 (act A 0 n) u)) d := by
  refine (put3_in (M := 2) (N := 1024) (O := 256) (m := 1) (n := 56) (o := 256) p.s6 _ 0 ⟨896 + u.val, by omega⟩ d 0 ⟨u.val, by omega⟩ d rfl rfl (Nat.zero_add _).symm).trans ?_
  refine (pay83_apply _ _ _).trans (Eq.trans (congrArg (fun r => V111 i x p (ix2 r d)) (Fin.ext ?_)) (congrFun (V111_row hx hp k hi 0 u) d))
  show u.val = 56 * 0 + u.val; omega

include hx hp hi in
theorem S5_15_new (u : Fin 51) (d : Fin 256) :
    S5_15 i x p (ix3 1 ⟨896 + u.val, by omega⟩ d) = newKey (A.cos 1 u) (A.sin 1 u) (qkv A (tok A k 1 (act A 1 n) u)) d := by
  refine (put3_in (M := 2) (N := 1024) (O := 256) (m := 1) (n := 56) (o := 256) (S5_12 i x p) _ 1 ⟨896 + u.val, by omega⟩ d 0 ⟨u.val, by omega⟩ d rfl rfl (Nat.zero_add _).symm).trans ?_
  exact (pay102_apply _ _ _).trans (congrFun (V110_row hx hp k hi 1 u) d)

include hx hp hi in
theorem S6_16_new (u : Fin 51) (d : Fin 256) :
    S6_16 i x p (ix3 1 ⟨896 + u.val, by omega⟩ d) = newVal (qkv A (tok A k 1 (act A 1 n) u)) d := by
  refine (put3_in (M := 2) (N := 1024) (O := 256) (m := 1) (n := 56) (o := 256) (S6_12 i x p) _ 1 ⟨896 + u.val, by omega⟩ d 0 ⟨u.val, by omega⟩ d rfl rfl (Nat.zero_add _).symm).trans ?_
  exact (pay104_apply _ _ _).trans (congrFun (V111_row hx hp k hi 1 u) d)

/-- A row of the scales' buffers, as the body loads it. -/
theorem ld_row (X : Vec Ideal S2x1024 .f32) (b : Fin 2) (off : Fin 2 → ℕ) (inb) (h0 : off 0 = b.val) (h1 : off 1 = 0) (t : Fin 1024) :
    (View.ld (Val := Elt Ideal) (S := S2x1024) X (Rect.unit (s := S2x1024) off S1x1024.size inb) : S1x1024.Idx → EReal) (ix2 0 t) = X (ix2 b t) :=
  ld2 (Val := Elt Ideal) (M := 2) (N := 1024) (m := 1) (n := 1024) X off inb 0 t b t (by rw [h0]; rfl) (by rw [h1, Nat.zero_add])

/-- One sequence of the keys' and values' buffers, as the body loads it. -/
theorem ld_slots (X : Vec Ideal S2x1024x256 .bf16) (b : Fin 2) (off : Fin 3 → ℕ) (inb) (h0 : off 0 = b.val) (h1 : off 1 = 0) (h2 : off 2 = 0) (t : Fin 1024) (d : Fin 256) :
    (View.ld (Val := Elt Ideal) (S := S2x1024x256) X (Rect.unit (s := S2x1024x256) off S1x1024x256.size inb) : S1x1024x256.Idx → EReal) (ix3 0 t d) = X (ix3 b t d) :=
  ld3 (Val := Elt Ideal) (M := 2) (N := 1024) (O := 256) (m := 1) (n := 1024) (o := 256) X off inb 0 t d b t d (by rw [h0]; rfl) (by rw [h1, Nat.zero_add]) (by rw [h2, Nat.zero_add])

include hx hp hi in
theorem slots0 : Slots A 0 (tok A k 0 (act A 0 n))
    (fun t d => (View.ld (S5_12 i x p) (Rect.unit (s := S2x1024x256) ![0, 0, 0] S1x1024x256.size inb_S2x1024x256_S1x1024x256_0_0_0) : S1x1024x256.Idx → EReal) (ix3 0 t d))
    (fun t => (View.ld p.s7 (Rect.unit (s := S2x1024) ![0, 0] S1x1024.size inb_S2x1024_S1x1024_0_0) : S1x1024.Idx → EReal) (ix2 0 t))
    (fun t => (View.ld p.s8 (Rect.unit (s := S2x1024) ![0, 0] S1x1024.size inb_S2x1024_S1x1024_0_0) : S1x1024.Idx → EReal) (ix2 0 t))
    (fun t d => (View.ld (S6_12 i x p) (Rect.unit (s := S2x1024x256) ![0, 0, 0] S1x1024x256.size inb_S2x1024x256_S1x1024x256_0_0_0) : S1x1024x256.Idx → EReal) (ix3 0 t d)) where
  fk t d := (ld_slots (S5_12 i x p) 0 _ _ rfl rfl rfl _ d).trans (S5_12_old hp 0 t d)
  fk' u d := (ld_slots (S5_12 i x p) 0 _ _ rfl rfl rfl _ d).trans (S5_12_new hx hp k hi u d)
  fkc t := (ld_row p.s7 0 ![0, 0] inb_S2x1024_S1x1024_0_0 rfl rfl _).trans (hp.s7 0 t)
  fkc' u := (ld_row p.s7 0 ![0, 0] inb_S2x1024_S1x1024_0_0 rfl rfl _).trans (hp.s7' 0 u)
  fvc t := (ld_row p.s8 0 ![0, 0] inb_S2x1024_S1x1024_0_0 rfl rfl _).trans (hp.s8 0 t)
  fvc' u := (ld_row p.s8 0 ![0, 0] inb_S2x1024_S1x1024_0_0 rfl rfl _).trans (hp.s8' 0 u)
  fv t d := (ld_slots (S6_12 i x p) 0 _ _ rfl rfl rfl _ d).trans (S6_12_old hp 0 t d)
  fv' u d := (ld_slots (S6_12 i x p) 0 _ _ rfl rfl rfl _ d).trans (S6_12_new hx hp k hi u d)

include hx hp hi in
theorem slots1 : Slots A 1 (tok A k 1 (act A 1 n))
    (fun t d => (View.ld (S5_15 i x p) (Rect.unit (s := S2x1024x256) ![1, 0, 0] S1x1024x256.size inb_S2x1024x256_S1x1024x256_1_0_0) : S1x1024x256.Idx → EReal) (ix3 0 t d))
    (fun t => (View.ld p.s7 (Rect.unit (s := S2x1024) ![1, 0] S1x1024.size inb_S2x1024_S1x1024_1_0) : S1x1024.Idx → EReal) (ix2 0 t))
    (fun t => (View.ld p.s8 (Rect.unit (s := S2x1024) ![1, 0] S1x1024.size inb_S2x1024_S1x1024_1_0) : S1x1024.Idx → EReal) (ix2 0 t))
    (fun t d => (View.ld (S6_16 i x p) (Rect.unit (s := S2x1024x256) ![1, 0, 0] S1x1024x256.size inb_S2x1024x256_S1x1024x256_1_0_0) : S1x1024x256.Idx → EReal) (ix3 0 t d)) where
  fk t d := (ld_slots (S5_15 i x p) 1 _ _ rfl rfl rfl _ d).trans (S5_15_old hp 1 t d)
  fk' u d := (ld_slots (S5_15 i x p) 1 _ _ rfl rfl rfl _ d).trans (S5_15_new hx hp k hi u d)
  fkc t := (ld_row p.s7 1 ![1, 0] inb_S2x1024_S1x1024_1_0 rfl rfl _).trans (hp.s7 1 t)
  fkc' u := (ld_row p.s7 1 ![1, 0] inb_S2x1024_S1x1024_1_0 rfl rfl _).trans (hp.s7' 1 u)
  fvc t := (ld_row p.s8 1 ![1, 0] inb_S2x1024_S1x1024_1_0 rfl rfl _).trans (hp.s8 1 t)
  fvc' u := (ld_row p.s8 1 ![1, 0] inb_S2x1024_S1x1024_1_0 rfl rfl _).trans (hp.s8' 1 u)
  fv t d := (ld_slots (S6_16 i x p) 1 _ _ rfl rfl rfl _ d).trans (S6_16_old hp 1 t d)
  fv' u d := (ld_slots (S6_16 i x p) 1 _ _ rfl rfl rfl _ d).trans (S6_16_new hx hp k hi u d)

end keys

end Cert.KernelIdeal.Named

end
-- ==== Proof.KStep3.lean ====
/- The attention rows of a step: eight heads of both sequences, side by side, are the model's. -/
module

public import proofs.«01_k».proof.Proof.KStep2
public import proofs.«01_k».proof.Proof.KStack

@[expose] public section

set_option maxRecDepth 16384

noncomputable section

namespace Cert.KernelIdeal.Named

open Idealize.ShloMosaic Idealize.ShloMosaic.TcCoe Idealize.SL.Sem
open Cert.KernelIdeal Cert.KernelIdeal.Gen Cert.KernelIdeal.Rows Cert.Model

/-- The bands of 56 rows that the stacked result of one sequence and one group of heads is cut into. -/
theorem band00 (a b c) (h : Fin 4) (s : Fin 56) (d : Fin 256) :
    (![k0_pay92 a b c, k0_pay93 a b c, k0_pay94 a b c, k0_pay95 a b c] : Fin 4 → FVec Ideal S56x256 .f32) h (ix2 s d)
      = k0_pay91 a b c (ix2 ⟨56 * h.val + s.val, by omega⟩ d) := by
  fin_cases h
  · show k0_pay92 a b c _ = _
    pointwise [k0_pay92]
  · show k0_pay93 a b c _ = _
    pointwise [k0_pay93]
  · show k0_pay94 a b c _ = _
    pointwise [k0_pay94]
  · show k0_pay95 a b c _ = _
    pointwise [k0_pay95]

theorem band01 (a b c) (h : Fin 4) (s : Fin 56) (d : Fin 256) :
    (![k0_pay98 a b c, k0_pay99 a b c, k0_pay100 a b c, k0_pay101 a b c] : Fin 4 → FVec Ideal S56x256 .f32) h (ix2 s d)
      = k0_pay97 a b c (ix2 ⟨56 * h.val + s.val, by omega⟩ d) := by
  fin_cases h
  · show k0_pay98 a b c _ = _
    pointwise [k0_pay98]
  · show k0_pay99 a b c _ = _
    pointwise [k0_pay99]
  · show k0_pay100 a b c _ = _
    pointwise [k0_pay100]
  · show k0_pay101 a b c _ = _
    pointwise [k0_pay101]

theorem band10 (a b c e) (h : Fin 4) (s : Fin 56) (d : Fin 256) :
    (![k0_pay109 a b c e, k0_pay110 a b c e, k0_pay111 a b c e, k0_pay112 a b c e] : Fin 4 → FVec Ideal S56x256 .f32) h (ix2 s d)
      = k0_pay108 a b c e (ix2 ⟨56 * h.val + s.val, by omega⟩ d) := by
  fin_cases h
  · show k0_pay109 a b c e _ = _
    pointwise [k0_pay109]
  · show k0_pay110 a b c e _ = _
    pointwise [k0_pay110]
  · show k0_pay111 a b c e _ = _
    pointwise [k0_pay111]
  · show k0_pay112 a b c e _ = _
    pointwise [k0_pay112]

theorem band11 (m a b z c e f) (h : Fin 4) (s : Fin 56) (d : Fin 256) :
    (![k0_pay116 m a b z c e f, k0_pay117 m a b z c e f, k0_pay118 m a b z c e f, k0_pay120 (k0_pay119 m a b z c e f)] :
        Fin 4 → FVec Ideal S56x256 .f32) h (ix2 s d)
      = k0_pay115 m a b z c e f (ix2 ⟨56 * h.val + s.val, by omega⟩ d) := by
  fin_cases h
  · show k0_pay116 m a b z c e f _ = _
    pointwise [k0_pay116]
  · show k0_pay117 m a b z c e f _ = _
    pointwise [k0_pay117]
  · show k0_pay118 m a b z c e f _ = _
    pointwise [k0_pay118]
  · show k0_pay120 (k0_pay119 m a b z c e f) _ = _
    pointwise [k0_pay120, k0_pay119]

section step

variable {A : Args} {x : Ins Ideal} {p : Carry Ideal} {i : grid0.Coords} {n : ℕ}
variable (hx : Reads x A) (hp : Inv A n p) (k : Fin 10) (hi : (i 0).val = k.val) (hn : ∀ b, (A.plen b).toInt ≤ 896)
variable (s : Fin 51) (h : Fin 4) (d : Fin 256)

include hx in
theorem plen_ld (b : Fin 2) (off : Fin 1 → ℕ) (inb) (z) (h0 : off 0 = b.val) :
    View.ld (Val := Elt Ideal) x.x0 (Rect.unit (s := S2) off S1.size inb) z = A.plen b :=
  (ld1 (Val := Elt Ideal) (M := 2) x.x0 off inb z b h0.symm).trans (hx.plen b)

include hx hp hi in
theorem stackQ0 (g : Fin 2) : stack0 (Qs i x p g 0) (Qs i x p g 1) (Qs i x p g 2) (Qs i x p g 3) (ix2 ⟨56 * h.val + s.val, by omega⟩ d)
    = query (A.cos 0 s) (A.sin 0 s) (qkv A (tok A k 0 (act A 0 n) s)) ⟨4 * g.val + h.val, by omega⟩ d := by
  refine (stack0_apply (Qs i x p g) h ⟨s.val, by omega⟩ d).trans (Eq.trans (congrArg (fun r => Qs i x p g h (ix2 r d)) (Fin.ext ?_)) (congrFun (Qs_row hx hp k hi 0 s g h) d))
  show s.val = 56 * 0 + s.val; omega

include hx hp hi in
theorem stackQ1 (g : Fin 2) : stack1 (Qs i x p g 0) (Qs i x p g 1) (Qs i x p g 2) (Qs i x p g 3) (ix2 ⟨56 * h.val + s.val, by omega⟩ d)
    = query (A.cos 1 s) (A.sin 1 s) (qkv A (tok A k 1 (act A 1 n) s)) ⟨4 * g.val + h.val, by omega⟩ d :=
  (stack1_apply (Qs i x p g) h ⟨s.val, by omega⟩ d).trans (congrFun (Qs_row hx hp k hi 1 s g h) d)

include hx hp hi hn in
theorem att00 : k0_pay91 (V266 i x p) (V270 i x p) (V271 i x p) (ix2 ⟨56 * h.val + s.val, by omega⟩ d)
    = headAt A 0 (tok A k 0 (act A 0 n)) s ⟨4 * (0 : Fin 2).val + h.val, by have := h.isLt; show 4 * 0 + h.val < 8; omega⟩ d := by
  unfold V266 V270 V271
  refine (pay91_row _ _ _ _ _ _ _ _ _ _ _ _ _ _ _ d).trans (congrFun (attend_row (slots0 hx hp k hi) (hn 0) s _ ⟨56 * h.val + s.val, by omega⟩
    (by show (56 * h.val + s.val) % 56 = s.val; omega) _ _ (fun t => ?_) (fun d => stackQ0 hx hp k hi s h d 0)) d)
  unfold V192 V211 V224 V226 V228
  rw [plen_ld hx 0 _ _ _ rfl]
  exact pay87_apply _ _ _

include hx hp hi hn in
theorem att01 : k0_pay97 (V310 i x p) (View.ld p.s8 (Rect.unit (s := S2x1024) ![0, 0] S1x1024.size inb_S2x1024_S1x1024_0_0))
      (View.ld (S6_12 i x p) (Rect.unit (s := S2x1024x256) ![0, 0, 0] S1x1024x256.size inb_S2x1024x256_S1x1024x256_0_0_0)) (ix2 ⟨56 * h.val + s.val, by omega⟩ d)
    = headAt A 0 (tok A k 0 (act A 0 n)) s ⟨4 * (1 : Fin 2).val + h.val, by have := h.isLt; show 4 * 1 + h.val < 8; omega⟩ d := by
  unfold V310
  refine (pay97_row _ _ _ _ _ _ _ _ _ _ d).trans (congrFun (attend_row (slots0 hx hp k hi) (hn 0) s _ ⟨56 * h.val + s.val, by omega⟩
    (by show (56 * h.val + s.val) % 56 = s.val; omega) _ _ (fun t => ?_) (fun d => stackQ0 hx hp k hi s h d 1)) d)
  unfold V244 V192 V211 V224 V226 V228
  rw [plen_ld hx 0 _ _ _ rfl]
  exact pay87_apply _ _ _

include hx hp hi hn in
theorem att10 : k0_pay108 (V385 i x p) (V389 i x p) (View.ld p.s8 (Rect.unit (s := S2x1024) ![1, 0] S1x1024.size inb_S2x1024_S1x1024_1_0))
      (View.ld (S6_16 i x p) (Rect.unit (s := S2x1024x256) ![1, 0, 0] S1x1024x256.size inb_S2x1024x256_S1x1024x256_1_0_0)) (ix2 ⟨56 * h.val + s.val, by omega⟩ d)
    = headAt A 1 (tok A k 1 (act A 1 n)) s ⟨4 * (0 : Fin 2).val + h.val, by have := h.isLt; show 4 * 0 + h.val < 8; omega⟩ d := by
  unfold V385 V389
  refine (pay108_row _ _ _ _ _ _ _ _ _ _ _ _ _ d).trans (congrFun (attend_row (slots1 hx hp k hi) (hn 1) s _ ⟨56 * h.val + s.val, by omega⟩
    (by show (56 * h.val + s.val) % 56 = s.val; omega) _ _ (fun t => ?_) (fun d => stackQ1 hx hp k hi s h d 0)) d)
  unfold V192 V211
  rw [plen_ld hx 1 _ _ _ rfl]
  exact pay105_apply _ _ _

include hx hp hi hn in
theorem att11 : k0_pay115 (V371 i x p) (V424 i x p) (V426 i x p) (Vcst136 i x p)
      (View.ld p.s7 (Rect.unit (s := S2x1024) ![1, 0] S1x1024.size inb_S2x1024_S1x1024_1_0))
      (View.ld p.s8 (Rect.unit (s := S2x1024) ![1, 0] S1x1024.size inb_S2x1024_S1x1024_1_0))
      (View.ld (S6_16 i x p) (Rect.unit (s := S2x1024x256) ![1, 0, 0] S1x1024x256.size inb_S2x1024x256_S1x1024x256_1_0_0)) (ix2 ⟨56 * h.val + s.val, by omega⟩ d)
    = headAt A 1 (tok A k 1 (act A 1 n)) s ⟨4 * (1 : Fin 2).val + h.val, by have := h.isLt; show 4 * 1 + h.val < 8; omega⟩ d := by
  unfold V424 V426 Vcst136
  refine (pay115_row _ _ _ _ _ _ _ _ _ _ d).trans (congrFun (attend_row (slots1 hx hp k hi) (hn 1) s _ ⟨56 * h.val + s.val, by omega⟩
    (by show (56 * h.val + s.val) % 56 = s.val; omega) _ _ (fun t => ?_) (fun d => stackQ1 hx hp k hi s h d 1)) d)
  unfold V371 V192 V211
  rw [plen_ld hx 1 _ _ _ rfl]
  exact pay105_apply _ _ _

end step

end Cert.KernelIdeal.Named

end
-- ==== Proof.KStep4.lean ====
/- The rest of a step: the attention buffer, the residual layers, the velocities and the updated actions. -/
module

public import proofs.«01_k».proof.Proof.KStep3

@[expose] public section

set_option maxRecDepth 16384

noncomputable section

namespace Cert.KernelIdeal.Named

open Idealize.ShloMosaic Idealize.ShloMosaic.TcCoe Idealize.SL.Sem
open Cert.KernelIdeal Cert.KernelIdeal.Gen Cert.KernelIdeal.Rows Cert.Model

section step

variable {A : Args} {x : Ins Ideal} {p : Carry Ideal} {i : grid0.Coords} {n : ℕ}

/-- The four windows written for a group of heads, as columns. -/
def cols0 : Fin 4 → ℕ := ![0, 256, 512, 768]
def cols1 : Fin 4 → ℕ := ![1024, 1280, 1536, 1792]

theorem cols0_eq (i : Fin 4) : cols0 i = 0 + 256 * i.val := by fin_cases i <;> rfl
theorem cols1_eq (i : Fin 4) : cols1 i = 1024 + 256 * i.val := by fin_cases i <;> rfl

theorem T14_in (d0) (r : Fin 112) (c : Fin 2048) (h : Fin 4) (s : Fin 56) (d : Fin 256) (hr : r.val = s.val) (hc : c.val = 256 * h.val + d.val) :
    T_14 i x p d0 (ix2 r c) = k0_pay91 (V266 i x p) (V270 i x p) (V271 i x p) (ix2 ⟨56 * h.val + s.val, by omega⟩ d) :=
  (quad_in (M := 112) (N := 2048) (m := 56) (n := 256) (r0 := 0) (c0 := 0) d0 _ cols0 cols0_eq h r c s d (by omega) (by omega)).trans (band00 _ _ _ h s d)

theorem T15_in (d0) (r : Fin 112) (c : Fin 2048) (h : Fin 4) (s : Fin 56) (d : Fin 256) (hr : r.val = s.val) (hc : c.val = 1024 + 256 * h.val + d.val) :
    T_15 i x p d0 (ix2 r c) = k0_pay97 (V310 i x p) (View.ld p.s8 (Rect.unit (s := S2x1024) ![0, 0] S1x1024.size inb_S2x1024_S1x1024_0_0))
      (View.ld (S6_12 i x p) (Rect.unit (s := S2x1024x256) ![0, 0, 0] S1x1024x256.size inb_S2x1024x256_S1x1024x256_0_0_0)) (ix2 ⟨56 * h.val + s.val, by omega⟩ d) :=
  (quad_in (M := 112) (N := 2048) (m := 56) (n := 256) (r0 := 0) (c0 := 1024) (T_14 i x p d0) _ cols1 cols1_eq h r c s d (by omega) (by omega)).trans (band01 _ _ _ h s d)

theorem T17_in (d0) (r : Fin 112) (c : Fin 2048) (h : Fin 4) (s : Fin 56) (d : Fin 256) (hr : r.val = 56 + s.val) (hc : c.val = 256 * h.val + d.val) :
    T_17 i x p d0 (ix2 r c) = k0_pay108 (V385 i x p) (V389 i x p) (View.ld p.s8 (Rect.unit (s := S2x1024) ![1, 0] S1x1024.size inb_S2x1024_S1x1024_1_0))
      (View.ld (S6_16 i x p) (Rect.unit (s := S2x1024x256) ![1, 0, 0] S1x1024x256.size inb_S2x1024x256_S1x1024x256_1_0_0)) (ix2 ⟨56 * h.val + s.val, by omega⟩ d) :=
  (quad_in (M := 112) (N := 2048) (m := 56) (n := 256) (r0 := 56) (c0 := 0) (T_15 i x p d0) _ cols0 cols0_eq h r c s d (by omega) (by omega)).trans (band10 _ _ _ _ h s d)

/-- The windows of the last group, the fourth being written by the next part of the body. -/
def last (i : grid0.Coords) (x : Ins Ideal) (p : Carry Ideal) : Fin 4 → FVec Ideal S56x256 .f32 :=
  let a := (View.ld p.s7 (Rect.unit (s := S2x1024) ![1, 0] S1x1024.size inb_S2x1024_S1x1024_1_0))
  let b := (View.ld p.s8 (Rect.unit (s := S2x1024) ![1, 0] S1x1024.size inb_S2x1024_S1x1024_1_0))
  let c := (View.ld (S6_16 i x p) (Rect.unit (s := S2x1024x256) ![1, 0, 0] S1x1024x256.size inb_S2x1024x256_S1x1024x256_1_0_0))
  ![k0_pay116 (V371 i x p) (V424 i x p) (V426 i x p) (Vcst136 i x p) a b c, k0_pay117 (V371 i x p) (V424 i x p) (V426 i x p) (Vcst136 i x p) a b c,
    k0_pay118 (V371 i x p) (V424 i x p) (V426 i x p) (Vcst136 i x p) a b c, k0_pay120 (V462 i x p)]

theorem T19_in (d0) (r : Fin 112) (c : Fin 2048) (h : Fin 4) (s : Fin 56) (d : Fin 256) (hr : r.val = 56 + s.val) (hc : c.val = 1024 + 256 * h.val + d.val) :
    T_19 i x p d0 (ix2 r c) = k0_pay115 (V371 i x p) (V424 i x p) (V426 i x p) (Vcst136 i x p)
      (View.ld p.s7 (Rect.unit (s := S2x1024) ![1, 0] S1x1024.size inb_S2x1024_S1x1024_1_0))
      (View.ld p.s8 (Rect.unit (s := S2x1024) ![1, 0] S1x1024.size inb_S2x1024_S1x1024_1_0))
      (View.ld (S6_16 i x p) (Rect.unit (s := S2x1024x256) ![1, 0, 0] S1x1024x256.size inb_S2x1024x256_S1x1024x256_1_0_0)) (ix2 ⟨56 * h.val + s.val, by omega⟩ d) :=
  (quad_in (M := 112) (N := 2048) (m := 56) (n := 256) (r0 := 56) (c0 := 1024) (T_17 i x p d0) (last i x p) cols1 cols1_eq h r c s d (by omega) (by omega)).trans
    (band11 _ _ _ _ _ _ _ h s d)

theorem T19_off (d0) (r : Fin 112) (c : Fin 2048) (h : r.val < 56 ∨ c.val < 1024) : T_19 i x p d0 (ix2 r c) = T_17 i x p d0 (ix2 r c) :=
  quad_off (M := 112) (N := 2048) (m := 56) (n := 256) (r0 := 56) (c0 := 1024) (T_17 i x p d0) (last i x p) cols1 cols1_eq r c (by omega)

theorem T17_off (d0) (r : Fin 112) (c : Fin 2048) (h : r.val < 56) : T_17 i x p d0 (ix2 r c) = T_15 i x p d0 (ix2 r c) :=
  quad_off (M := 112) (N := 2048) (m := 56) (n := 256) (r0 := 56) (c0 := 0) (T_15 i x p d0)
    ![k0_pay109 (V385 i x p) (V389 i x p) (View.ld p.s8 (Rect.unit (s := S2x1024) ![1, 0] S1x1024.size inb_S2x1024_S1x1024_1_0))
      (View.ld (S6_16 i x p) (Rect.unit (s := S2x1024x256) ![1, 0, 0] S1x1024x256.size inb_S2x1024x256_S1x1024x256_1_0_0)),
     k0_pay110 (V385 i x p) (V389 i x p) (View.ld p.s8 (Rect.unit (s := S2x1024) ![1, 0] S1x1024.size inb_S2x1024_S1x1024_1_0))
      (View.ld (S6_16 i x p) (Rect.unit (s := S2x1024x256) ![1, 0, 0] S1x1024x256.size inb_S2x1024x256_S1x1024x256_1_0_0)),
     k0_pay111 (V385 i x p) (V389 i x p) (View.ld p.s8 (Rect.unit (s := S2x1024) ![1, 0] S1x1024.size inb_S2x1024_S1x1024_1_0))
      (View.ld (S6_16 i x p) (Rect.unit (s := S2x1024x256) ![1, 0, 0] S1x1024x256.size inb_S2x1024x256_S1x1024x256_1_0_0)),
     k0_pay112 (V385 i x p) (V389 i x p) (View.ld p.s8 (Rect.unit (s := S2x1024) ![1, 0] S1x1024.size inb_S2x1024_S1x1024_1_0))
      (View.ld (S6_16 i x p) (Rect.unit (s := S2x1024x256) ![1, 0, 0] S1x1024x256.size inb_S2x1024x256_S1x1024x256_1_0_0))] cols0 cols0_eq r c (by omega)

theorem T15_off (d0) (r : Fin 112) (c : Fin 2048) (h : c.val < 1024) : T_15 i x p d0 (ix2 r c) = T_14 i x p d0 (ix2 r c) :=
  quad_off (M := 112) (N := 2048) (m := 56) (n := 256) (r0 := 0) (c0 := 1024) (T_14 i x p d0)
    ![k0_pay98 (V310 i x p) (View.ld p.s8 (Rect.unit (s := S2x1024) ![0, 0] S1x1024.size inb_S2x1024_S1x1024_0_0))
      (View.ld (S6_12 i x p) (Rect.unit (s := S2x1024x256) ![0, 0, 0] S1x1024x256.size inb_S2x1024x256_S1x1024x256_0_0_0)),
     k0_pay99 (V310 i x p) (View.ld p.s8 (Rect.unit (s := S2x1024) ![0, 0] S1x1024.size inb_S2x1024_S1x1024_0_0))
      (View.ld (S6_12 i x p) (Rect.unit (s := S2x1024x256) ![0, 0, 0] S1x1024x256.size inb_S2x1024x256_S1x1024x256_0_0_0)),
     k0_pay100 (V310 i x p) (View.ld p.s8 (Rect.unit (s := S2x1024) ![0, 0] S1x1024.size inb_S2x1024_S1x1024_0_0))
      (View.ld (S6_12 i x p) (Rect.unit (s := S2x1024x256) ![0, 0, 0] S1x1024x256.size inb_S2x1024x256_S1x1024x256_0_0_0)),
     k0_pay101 (V310 i x p) (View.ld p.s8 (Rect.unit (s := S2x1024) ![0, 0] S1x1024.size inb_S2x1024_S1x1024_0_0))
      (View.ld (S6_12 i x p) (Rect.unit (s := S2x1024x256) ![0, 0, 0] S1x1024x256.size inb_S2x1024x256_S1x1024x256_0_0_0))] cols1 cols1_eq r c (by omega)

variable (hx : Reads x A) (hp : Inv A n p) (k : Fin 10) (hi : (i 0).val = k.val) (hn : ∀ b, (A.plen b).toInt ≤ 896)
variable (b : Fin 2) (s : Fin 51)

include hx hp hi hn in
/-- The attention of a token, its heads side by side. -/
theorem V466_row : row (V466 i x p) (at' b s) = heads A b (tok A k b (act A b n)) s := by
  funext j
  unfold V466 heads
  simp (disch := decide) only [View.ld_unit_lit]
  have hj := j.isLt
  rcases (show b = 0 ∨ b = 1 by fin_cases b; exact .inl rfl; exact .inr rfl) with rfl | rfl
  · have hr : (at' 0 s).val = s.val := by show 56 * 0 + s.val = s.val; omega
    rcases lt_or_ge j.val 1024 with hc | hc
    · refine ((T19_off _ _ j (.inl (by omega))).trans ((T17_off _ _ j (by omega)).trans ((T15_off _ _ j hc).trans
        (T14_in _ _ j ⟨j.val / 256, by omega⟩ ⟨s.val, by omega⟩ ⟨j.val % 256, by omega⟩ hr (by show j.val = 256 * (j.val / 256) + j.val % 256; omega))))).trans ?_
      refine (att00 hx hp k hi hn s ⟨j.val / 256, by omega⟩ ⟨j.val % 256, by omega⟩).trans ?_
      exact congrArg (fun h => headAt A 0 (tok A k 0 (act A 0 n)) s h ⟨j.val % 256, by omega⟩) (Fin.ext (by show 4 * 0 + j.val / 256 = j.val / 256; omega))
    · refine ((T19_off _ _ j (.inl (by omega))).trans ((T17_off _ _ j (by omega)).trans
        (T15_in _ _ j ⟨j.val / 256 - 4, by omega⟩ ⟨s.val, by omega⟩ ⟨j.val % 256, by omega⟩ hr (by show j.val = 1024 + 256 * (j.val / 256 - 4) + j.val % 256; omega)))).trans ?_
      refine (att01 hx hp k hi hn s ⟨j.val / 256 - 4, by omega⟩ ⟨j.val % 256, by omega⟩).trans ?_
      exact congrArg (fun h => headAt A 0 (tok A k 0 (act A 0 n)) s h ⟨j.val % 256, by omega⟩) (Fin.ext (by show 4 * 1 + (j.val / 256 - 4) = j.val / 256; omega))
  · have hr : (at' 1 s).val = 56 + s.val := rfl
    rcases lt_or_ge j.val 1024 with hc | hc
    · refine ((T19_off _ _ j (.inr hc)).trans
        (T17_in _ _ j ⟨j.val / 256, by omega⟩ ⟨s.val, by omega⟩ ⟨j.val % 256, by omega⟩ hr (by show j.val = 256 * (j.val / 256) + j.val % 256; omega))).trans ?_
      refine (att10 hx hp k hi hn s ⟨j.val / 256, by omega⟩ ⟨j.val % 256, by omega⟩).trans ?_
      exact congrArg (fun h => headAt A 1 (tok A k 1 (act A 1 n)) s h ⟨j.val % 256, by omega⟩) (Fin.ext (by show 4 * 0 + j.val / 256 = j.val / 256; omega))
    · refine (T19_in _ _ j ⟨j.val / 256 - 4, by omega⟩ ⟨s.val, by omega⟩ ⟨j.val % 256, by omega⟩ hr (by show j.val = 1024 + 256 * (j.val / 256 - 4) + j.val % 256; omega)).trans ?_
      refine (att11 hx hp k hi hn s ⟨j.val / 256 - 4, by omega⟩ ⟨j.val % 256, by omega⟩).trans ?_
      exact congrArg (fun h => headAt A 1 (tok A k 1 (act A 1 n)) s h ⟨j.val % 256, by omega⟩) (Fin.ext (by show 4 * 1 + (j.val / 256 - 4) = j.val / 256; omega))

include hx in
theorem V494_row (r : Fin 112) : row (V494 i x p) r = mid A (row (V56 i x p) r) (row (V466 i x p) r) := by
  funext j
  unfold V494
  simp only [row]
  rw [pay123_row]
  simp (disch := decide) only [View.ld_unit_lit]
  rw [show mat x.x18 = A.wO from hx.wO, show row x.x19 0 = A.sO from hx.sO]
  rfl

include hx in
theorem norm2_row (r : Fin 112) : row (k0_pay125 (V494 i x p) (V495 i x p) (V504 i x p)) r = rms (row (V494 i x p) r) A.ln2 := by
  funext j
  unfold V494 V495 V504
  simp only [row]
  rw [pay125_row]
  simp (disch := decide) only [View.ld_unit_lit]
  rw [show row x.x15 0 = A.ln2 from hx.ln2]

include hx in
theorem gate_row (r : Fin 112) : row (V537 i x p) r = qlin (rms (row (V494 i x p) r) A.ln2) A.wGate A.sGate := by
  funext j
  unfold V537
  simp only [row]
  rw [pay128_row, norm2_row hx]
  refine congrFun (congrArg₂ (qlin _) ?_ ?_) j
  · rw [← hx.wGate]; funext k j
    exact ld3 (Val := Elt Ideal) (M := 2) (N := 1024) (O := 4096) (m := 1) (n := 1024) (o := 4096) x.x20 ![0, 0, 0] _ 0 k j 0 k j rfl (Nat.zero_add _).symm (Nat.zero_add _).symm
  · rw [← hx.sGate]; funext j
    exact ld2 (Val := Elt Ideal) (M := 2) (N := 4096) (m := 1) (n := 4096) x.x21 ![0, 0] _ 0 j 0 j rfl (Nat.zero_add _).symm

include hx in
theorem act_row (r : Fin 112) : row (k0_pay130 (V537 i x p) (V543 i x p) (V544 i x p)) r
    = fun k => geglu (qlin (rms (row (V494 i x p) r) A.ln2) A.wGate A.sGate k) (qlin (rms (row (V494 i x p) r) A.ln2) A.wUp A.sUp k) := by
  funext j
  unfold V543 V544
  simp only [row]
  rw [pay130_row, norm2_row hx, gate_row hx]
  refine congrArg (geglu _) (congrFun (congrArg₂ (qlin _) ?_ ?_) j)
  · rw [← hx.wUp]; funext k j
    exact ld3 (Val := Elt Ideal) (M := 2) (N := 1024) (O := 4096) (m := 1) (n := 1024) (o := 4096) x.x20 ![1, 0, 0] _ 0 k j 1 k j rfl (Nat.zero_add _).symm (Nat.zero_add _).symm
  · rw [← hx.sUp]; funext j
    exact ld2 (Val := Elt Ideal) (M := 2) (N := 4096) (m := 1) (n := 4096) x.x21 ![1, 0] _ 0 j 1 j rfl (Nat.zero_add _).symm

include hx in
theorem V589_row (r : Fin 112) : row (V589 i x p) r = ffn A (row (V494 i x p) r) := by
  funext j
  unfold V589 V588 ffn
  simp only [row]
  rw [pay134_row]
  refine congrArg (_ + ·) ?_
  simp only [row]
  rw [pay133_row, act_row hx]
  simp (disch := decide) only [View.ld_unit_lit]
  rw [show mat x.x22 = A.wDown from hx.wDown, show row x.x23 0 = A.sDown from hx.sDown]

include hx in
theorem vel_row (r : Fin 112) : row (k0_pay135 (V494 i x p) (V588 i x p) (View.ld x.x24 (Rect.unit (s := S1x1024) ![0, 0] S1x1024.size inb_S1x1024_S1x1024_0_0))
    (View.ld x.x25 (Rect.unit (s := S1024x32) ![0, 0] S1024x32.size inb_S1024x32_S1024x32_0_0))
    (View.ld x.x26 (Rect.unit (s := S1x32) ![0, 0] S1x32.size inb_S1x32_S1x32_0_0))) r = vel A (row (V589 i x p) r) := by
  funext j
  simp only [row]
  rw [pay135_row]
  simp (disch := decide) only [View.ld_unit_lit]
  rw [show mat x.x25 = A.wOut from hx.wOut, show row x.x24 0 = A.fn from hx.fn, show row x.x26 0 = A.bOut from hx.bOut]
  rfl

include hx hp hi hn in
theorem out_row : row (V589 i x p) (at' b s) = out A k b (act A b n) s := by
  rw [V589_row hx, V494_row hx, V466_row hx hp k hi hn, V56_row hx hp k hi]
  rfl

end step

end Cert.KernelIdeal.Named

end
-- ==== Proof.KStep5.lean ====
/- What a step stores: the velocities, the updated actions, the final rows, and the scratch it leaves. -/
module

public import proofs.«01_k».proof.Proof.KStep4

@[expose] public section

set_option maxRecDepth 16384

noncomputable section

namespace Cert.KernelIdeal.Named

open Idealize.ShloMosaic Idealize.ShloMosaic.TcCoe Idealize.SL.Sem
open Cert.KernelIdeal Cert.KernelIdeal.Gen Cert.KernelIdeal.Rows Cert.Model

theorem pay137_apply (a b c d e) (t : Fin 50) (j : Fin 32) :
    k0_pay137 (F := Ideal) a b c d e (ix4 0 0 t j) = k0_pay135 a b c d e (ix2 ⟨1 + t.val, by omega⟩ j) := by
  pointwise [k0_pay137, k0_pay136]

theorem pay141_apply (a b c d e) (t : Fin 50) (j : Fin 32) :
    k0_pay141 (F := Ideal) (k0_pay140 a b c d e) (ix4 0 0 t j) = k0_pay135 a b c d e (ix2 ⟨56 + (1 + t.val), by omega⟩ j) := by
  pointwise [k0_pay141, k0_pay140, k0_pay139]

theorem pay138_apply (v a b c d e z) (s : Fin 56) (j : Fin 32) :
    k0_pay138 (F := Ideal) v a b c d e z (ix2 s j) = v (ix2 ⟨s.val, by omega⟩ j) + z * k0_pay135 a b c d e (ix2 ⟨s.val, by omega⟩ j) := by
  pointwise [k0_pay138, k0_pay136]

theorem pay142_apply (v a b c d e z) (s : Fin 56) (j : Fin 32) :
    k0_pay142 (F := Ideal) v (k0_pay139 a b c d e) z (ix2 s j)
      = v (ix2 ⟨56 + s.val, by omega⟩ j) + z * k0_pay135 a b c d e (ix2 ⟨56 + s.val, by omega⟩ j) := by
  pointwise [k0_pay142, k0_pay139]

theorem pay2_apply (v) (t : Fin 50) (j : Fin 32) : k0_pay2 (F := Ideal) v (ix3 0 t j) = v (ix2 t j) := by
  pointwise [k0_pay2]

theorem pay4_apply (v) (t : Fin 50) (j : Fin 32) : k0_pay4 (F := Ideal) v (ix3 0 t j) = v (ix2 t j) := by
  pointwise [k0_pay4]

theorem pay1_apply (v) (s : Fin 51) (j : Fin 1024) : k0_pay1 (F := Ideal) v (ix3 0 s j) = v (ix2 ⟨s.val, by omega⟩ j) := by
  pointwise [k0_pay1]

theorem pay3_apply (v) (s : Fin 51) (j : Fin 1024) : k0_pay3 (F := Ideal) v (ix3 0 s j) = v (ix2 ⟨56 + s.val, by omega⟩ j) := by
  pointwise [k0_pay3]

theorem two (b : Fin 2) : b = 0 ∨ b = 1 := by
  fin_cases b
  · exact .inl rfl
  · exact .inr rfl

section step

variable {A : Args} {x : Ins Ideal} {p : Carry Ideal} {i : grid0.Coords} {n : ℕ}
variable (hx : Reads x A) (hp : Inv A n p) (k : Fin 10) (hi : (i 0).val = k.val) (hn : ∀ b, (A.plen b).toInt ≤ 896)
variable (b : Fin 2)

include hx hp hi hn in
theorem velRow_eq (t : Fin 50) (j : Fin 32) (r : Fin 112) (hr : r.val = 56 * b.val + (1 + t.val)) :
    k0_pay135 (V494 i x p) (V588 i x p) (View.ld x.x24 (Rect.unit (s := S1x1024) ![0, 0] S1x1024.size inb_S1x1024_S1x1024_0_0))
    (View.ld x.x25 (Rect.unit (s := S1024x32) ![0, 0] S1024x32.size inb_S1024x32_S1024x32_0_0))
    (View.ld x.x26 (Rect.unit (s := S1x32) ![0, 0] S1x32.size inb_S1x32_S1x32_0_0)) (ix2 r j) = velAt A k b (act A b n) t j := by
  obtain rfl : r = at' b ⟨t.val + 1, Nat.succ_lt_succ t.isLt⟩ := Fin.ext (by show r.val = 56 * b.val + (t.val + 1); omega)
  refine (congrFun (vel_row (i := i) (p := p) hx (at' b ⟨t.val + 1, Nat.succ_lt_succ t.isLt⟩)) j).trans ?_
  rw [out_row hx hp k hi hn]
  rfl

include hx hp hi hn in
/-- The velocities the step stores. -/
theorem O34_apply (y) (t : Fin 50) (j : Fin 32) : O34 i x p y (ix4 0 b t j) = velAt A k b (act A b n) t j := by
  rcases two b with rfl | rfl
  · refine (put4_off (L := 1) (M := 2) (N := 50) (O := 32) (l := 1) (m := 1) (n := 50) (o := 32) (O34_22 i x p y) _ 0 0 t j (.inl (by decide))).trans ?_
    refine (put4_in (L := 1) (M := 2) (N := 50) (O := 32) (l := 1) (m := 1) (n := 50) (o := 32) y _ 0 0 t j 0 0 t j rfl rfl (Nat.zero_add _).symm (Nat.zero_add _).symm).trans ?_
    refine (pay137_apply _ _ _ _ _ t j).trans (velRow_eq hx hp k hi hn 0 t j _ ?_)
    show 1 + t.val = 56 * 0 + (1 + t.val); omega
  · refine (put4_in (L := 1) (M := 2) (N := 50) (O := 32) (l := 1) (m := 1) (n := 50) (o := 32) (O34_22 i x p y) _ 0 1 t j 0 0 t j rfl rfl (Nat.zero_add _).symm (Nat.zero_add _).symm).trans ?_
    exact (pay141_apply _ _ _ _ _ t j).trans (velRow_eq hx hp k hi hn 1 t j _ rfl)

include hx in
theorem dt_ld (b : Fin 2) (off : Fin 1 → ℕ) (inb) (z) (h0 : off 0 = b.val) :
    View.ld (Val := Elt Ideal) x.x33 (Rect.unit (s := S2) off S1.size inb) z = A.dt b :=
  (ld1 (Val := Elt Ideal) (M := 2) x.x33 off inb z b h0.symm).trans (hx.dt b)

include hp in
theorem V4_apply (t : Fin 50) (j : Fin 32) (r : Fin 112) (hr : r.val = 56 * b.val + (1 + t.val)) : V4 i x p (ix2 r j) = act A b n t j := by
  refine (congrFun (View.ld_unit_lit (Val := Elt Ideal) (S := S112x32) inb_S112x32_S112x32_0_0 p.s0 (by decide)) (ix2 r j)).trans ?_
  have e : r = ⟨56 * b.val + 1 + t.val, by omega⟩ := Fin.ext (by show r.val = 56 * b.val + 1 + t.val; omega)
  rw [e]
  exact hp.s0 b t j

include hx hp hi hn in
/-- The updated actions. -/
theorem S0_apply (hk : n = k.val) (t : Fin 50) (j : Fin 32) (r : Fin 112) (hr : r.val = 56 * b.val + (1 + t.val)) :
    S0 i x p (ix2 r j) = act A b (n + 1) t j := by
  subst hk
  have ea : act A b (k.val + 1) t j = act A b k.val t j + A.dt b * velAt A k b (act A b k.val) t j :=
    congrFun (congrFun (dif_pos k.isLt : act A b (k.val + 1) = Model.next A k b (act A b k.val)) t) j
  rw [ea]
  rcases two b with rfl | rfl
  · have hr' : r.val = 1 + t.val := by rw [hr]; show 56 * 0 + (1 + t.val) = 1 + t.val; omega
    refine (put2_off (M := 112) (N := 32) (m := 56) (n := 32) (S0_22 i x p) _ r j (.inl (by omega))).trans ?_
    refine (put2_in (M := 112) (N := 32) (m := 56) (n := 32) p.s0 _ r j ⟨1 + t.val, by omega⟩ j (by rw [hr']; exact (Nat.zero_add _).symm) (Nat.zero_add _).symm).trans ?_
    refine (pay138_apply _ _ _ _ _ _ _ _ j).trans (congrArg₂ (· + ·) (V4_apply hp 0 t j _ ?_) (congrArg₂ (· * ·) (dt_ld hx 0 _ _ _ rfl) (velRow_eq hx hp k hi hn 0 t j _ ?_)))
    · show 1 + t.val = 56 * 0 + (1 + t.val); omega
    · show 1 + t.val = 56 * 0 + (1 + t.val); omega
  · refine (put2_in (M := 112) (N := 32) (m := 56) (n := 32) (S0_22 i x p) _ r j ⟨1 + t.val, by omega⟩ j hr (Nat.zero_add _).symm).trans ?_
    exact (pay142_apply _ _ _ _ _ _ _ _ j).trans (congrArg₂ (· + ·) (V4_apply hp 1 t j _ rfl) (congrArg₂ (· * ·) (dt_ld hx 1 _ _ _ rfl) (velRow_eq hx hp k hi hn 1 t j _ rfl)))

include hx hp hi hn in
/-- The scratch after the step. -/
theorem inv_next (hk : n = k.val) : Inv A (n + 1) (next i x p) where
  s0 b t j := S0_apply hx hp k hi hn b hk t j _ (by show 56 * b.val + 1 + t.val = 56 * b.val + (1 + t.val); omega)
  s1 := hp.s1
  s2 := hp.s2
  s3 := hp.s3
  s4 := hp.s4
  s5 b t d := S5_15_old hp b t d
  s6 b t d := S6_16_old hp b t d
  s7 := hp.s7
  s7' := hp.s7'
  s8 := hp.s8
  s8' := hp.s8'

include hx hp hi hn in
theorem F35_apply (hk : n = k.val) (y) (t : Fin 50) (j : Fin 32) : F35 i x p y (ix3 b t j) = act A b (n + 1) t j := by
  rcases two b with rfl | rfl
  · refine (put3_off (M := 2) (N := 50) (O := 32) (m := 1) (n := 50) (o := 32) _ _ 0 t j (.inl (by decide))).trans ?_
    refine (put3_in (M := 2) (N := 50) (O := 32) (m := 1) (n := 50) (o := 32) y _ 0 t j 0 t j rfl (Nat.zero_add _).symm (Nat.zero_add _).symm).trans ?_
    refine (pay2_apply _ t j).trans ?_
    refine (ld2 (Val := Elt Ideal) (M := 112) (N := 32) (m := 50) (n := 32) (S0 i x p) ![1, 0] _ t j ⟨1 + t.val, by omega⟩ j rfl (Nat.zero_add _).symm).trans ?_
    refine S0_apply hx hp k hi hn 0 hk t j _ ?_
    show 1 + t.val = 56 * 0 + (1 + t.val); omega
  · refine (put3_in (M := 2) (N := 50) (O := 32) (m := 1) (n := 50) (o := 32) _ _ 1 t j 0 t j rfl (Nat.zero_add _).symm (Nat.zero_add _).symm).trans ?_
    refine (pay4_apply _ t j).trans ?_
    refine (ld2 (Val := Elt Ideal) (M := 112) (N := 32) (m := 50) (n := 32) (S0 i x p) ![57, 0] _ t j ⟨57 + t.val, by omega⟩ j rfl (Nat.zero_add _).symm).trans ?_
    refine S0_apply hx hp k hi hn 1 hk t j _ ?_
    show 57 + t.val = 56 * 1 + (1 + t.val); omega

include hx hp hi hn in
theorem F36_apply (y) (s : Fin 51) (j : Fin 1024) : F36 i x p y (ix3 b s j) = out A k b (act A b n) s j := by
  rcases two b with rfl | rfl
  · refine (put3_off (M := 2) (N := 51) (O := 1024) (m := 1) (n := 51) (o := 1024) _ _ 0 s j (.inl (by decide))).trans ?_
    refine (put3_in (M := 2) (N := 51) (O := 1024) (m := 1) (n := 51) (o := 1024) y _ 0 s j 0 s j rfl (Nat.zero_add _).symm (Nat.zero_add _).symm).trans ?_
    refine (pay1_apply _ s j).trans (Eq.trans (congrArg (fun r => V589 i x p (ix2 r j)) (Fin.ext ?_)) (congrFun (out_row hx hp k hi hn 0 s) j))
    show s.val = 56 * 0 + s.val; omega
  · refine (put3_in (M := 2) (N := 51) (O := 1024) (m := 1) (n := 51) (o := 1024) _ _ 1 s j 0 s j rfl (Nat.zero_add _).symm (Nat.zero_add _).symm).trans ?_
    exact (pay3_apply _ s j).trans (congrFun (out_row hx hp k hi hn 1 s) j)

end step

end Cert.KernelIdeal.Named

end
-- ==== Proof.Result.lean ====
/- The three results, in the model: the velocities of the ten steps, the actions after them, and the tokens that leave the layer in the last. -/
module

public import proofs.«01_k».proof.Proof.Model

@[expose] public section

set_option maxRecDepth 16384

noncomputable section

namespace Cert.Model

open Idealize.ShloMosaic

/-- The velocities of the ten steps. -/
def vels (A : Args) : (⟨4, ![10, 2, 50, 32]⟩ : Shape).Idx → EReal := fun i =>
  velAt A (show Fin 10 from i 0) (show Fin 2 from i 1) (act A (show Fin 2 from i 1) (show Fin 10 from i 0).val) (show Fin 50 from i 2) (show Fin 32 from i 3)

/-- The actions after the ten steps. -/
def acts (A : Args) : (⟨3, ![2, 50, 32]⟩ : Shape).Idx → EReal := fun i =>
  act A (show Fin 2 from i 0) 10 (show Fin 50 from i 1) (show Fin 32 from i 2)

/-- The tokens that leave the layer in the last step. -/
def outs (A : Args) : (⟨3, ![2, 51, 1024]⟩ : Shape).Idx → EReal := fun i =>
  out A 9 (show Fin 2 from i 0) (act A (show Fin 2 from i 0) 9) (show Fin 51 from i 1) (show Fin 1024 from i 2)

/-- A block's index by its coordinates, its first axis being of size one. -/
theorem eta4 (y : (⟨4, ![1, 2, 50, 32]⟩ : Shape).Idx) : y = ix4 0 (y 1) (y 2) (y 3) := by
  funext a
  fin_cases a
  · exact Subsingleton.elim (α := Fin 1) _ _
  all_goals rfl

theorem eta4' (y : (⟨4, ![10, 2, 50, 32]⟩ : Shape).Idx) : y = ix4 (y 0) (y 1) (y 2) (y 3) := by
  funext a
  fin_cases a <;> rfl

theorem eta3 {a b c : ℕ} (y : (⟨3, ![a, b, c]⟩ : Shape).Idx) : y = ix3 (y 0) (y 1) (y 2) := by
  funext a
  fin_cases a <;> rfl

end Cert.Model

end
-- ==== Proof.KFinal.lean ====
/- What the kernel leaves in its three results: the model's velocities, actions and tokens. -/
module

public import proofs.«01_k».proof.Proof.KArgs
public import proofs.«01_k».proof.Proof.KInit
public import proofs.«01_k».proof.Proof.KStep5
public import proofs.«01_k».proof.Proof.Result

@[expose] public section

set_option maxRecDepth 16384

noncomputable section

namespace Cert.KernelIdeal.Named

open Idealize.ShloMosaic Idealize.ShloMosaic.TcCoe Idealize.SL.Sem
open Cert.KernelIdeal Cert.KernelIdeal.Gen Cert.Model Cert.KernelIdeal.Rows

variable (m : (ℓ : Loc nD τ sig) → Buf (Elt Ideal) ℓ)

theorem coords_val : ∀ t : Fin cfg0.N, (grid0.coords t 0).val = t.val :=
  (by decide +kernel : ∀ t : Fin grid0.N, _)

theorem lt10 (t : Fin cfg0.N) : t.val < 10 := by have := t.isLt; have : cfg0.N = 10 := N_0; omega

variable (c : Dev nD) (hn : ∀ b, ((args m c).plen b).toInt ≤ 896)

include hn in
/-- The scratch after each point. -/
theorem inv_at : ∀ n (h : n < cfg0.N), Inv (args m c) (n + 1) (outsAt m c n h).toCarry
  | 0, h => inv_next (reads m c ⟨0, h⟩) (inv_init (reads m c ⟨0, h⟩)) ⟨0, lt10 ⟨0, h⟩⟩ (coords_val ⟨0, h⟩) hn rfl
  | n + 1, h => inv_next (reads m c ⟨n + 1, h⟩) (inv_at n (Nat.lt_of_succ_lt h)) ⟨n + 1, lt10 ⟨n + 1, h⟩⟩ (coords_val ⟨n + 1, h⟩) hn rfl

include hn in
/-- Each point starts from the scratch of the steps before it. -/
theorem left_at (t : Fin cfg0.N) : ∃ q, outsAt m c t.val t.isLt = leftAt m c t q ∧ Inv (args m c) t.val q := by
  by_cases h : t.val = 0
  · exact ⟨_, outsAt_zero m c t h, by rw [h]; exact inv_init (reads m c t)⟩
  · refine ⟨_, outsAt_pos m c t h, ?_⟩
    have := inv_at m c hn (t.val - 1) (by omega)
    rwa [Nat.sub_add_cancel (Nat.pos_of_ne_zero h)] at this

include hn in
theorem o34_at (t : Fin cfg0.N) (b : Fin 2) (i : Fin 50) (j : Fin 32) :
    (outsAt m c t.val t.isLt).o34 (ix4 0 b i j) = velAt (args m c) ⟨t.val, lt10 t⟩ b (act (args m c) b t.val) i j := by
  obtain ⟨q, e, hq⟩ := left_at m c hn t
  rw [e]
  exact O34_apply (reads m c t) hq ⟨t.val, lt10 t⟩ (coords_val t) hn b _ i j

include hn in
theorem o35_at (t : Fin cfg0.N) (b : Fin 2) (i : Fin 50) (j : Fin 32) :
    (outsAt m c t.val t.isLt).o35 (ix3 b i j) = act (args m c) b (t.val + 1) i j := by
  obtain ⟨q, e, hq⟩ := left_at m c hn t
  rw [e]
  exact F35_apply (reads m c t) hq ⟨t.val, lt10 t⟩ (coords_val t) hn b rfl _ i j

include hn in
theorem o36_at (t : Fin cfg0.N) (b : Fin 2) (i : Fin 51) (j : Fin 1024) :
    (outsAt m c t.val t.isLt).o36 (ix3 b i j) = out (args m c) ⟨t.val, lt10 t⟩ b (act (args m c) b t.val) i j := by
  obtain ⟨q, e, hq⟩ := left_at m c hn t
  rw [e]
  exact F36_apply (reads m c t) hq ⟨t.val, lt10 t⟩ (coords_val t) hn b _ i j

theorem idx_out34 : ∀ t : Fin cfg0.N, win0_34.index t = ![t.val, 0, 0, 0] :=
  (by decide +kernel : ∀ t : Fin grid0.N, _)

/-- The last point. -/
def lastPt : Fin cfg0.N := ⟨9, by rw [show cfg0.N = 10 from N_0]; decide⟩

include hn in
/-- The array of the velocities. -/
theorem arr34 : (dats m 0 c).arrAt 34 cfg0.N = vels (args m c) := by
  refine (dats m 0 c).arrAt_eq_of_covers 34 _ (by decide +kernel) fun t hf y => ?_
  blk_simp
  rw [after0_34]
  have e : ((cfg0.win 34).blk t).view.emb y = ix4 (⟨t.val, lt10 t⟩ : Fin 10) (show Fin 2 from y 1) (show Fin 50 from y 2) (show Fin 32 from y 3) := by
    blk_ext [idx_out34]
  refine Eq.trans ?_ (congrArg (vels (args m c)) e.symm)
  exact (congrArg (outsAt m c t.val t.isLt).o34 (eta4 y)).trans (o34_at m c hn t _ _ _)

include hn in
theorem arr35 : (dats m 0 c).arrAt 35 cfg0.N = acts (args m c) := by
  refine (dats m 0 c).arrAt_eq_of_after_last 35 lastPt (by decide +kernel) _ fun j => ?_
  blk_simp
  rw [after0_35]
  exact (congrArg (outsAt m c lastPt.val lastPt.isLt).o35 (eta3 j)).trans (o35_at m c hn lastPt _ _ _)

include hn in
theorem arr36 : (dats m 0 c).arrAt 36 cfg0.N = outs (args m c) := by
  refine (dats m 0 c).arrAt_eq_of_after_last 36 lastPt (by decide +kernel) _ fun j => ?_
  blk_simp
  rw [after0_36]
  exact (congrArg (outsAt m c lastPt.val lastPt.isLt).o36 (eta3 j)).trans (o36_at m c hn lastPt _ _ _)

end Cert.KernelIdeal.Named

end
-- ==== Proof.KValue.lean ====
/- The kernel's run: its three results are the model's velocities, actions and tokens, and its arguments end unchanged. -/
module

public import proofs.«01_k».proof.Proof.KFinal
public import proofs.«01_k».proof.Proof.Framed

@[expose] public section

set_option maxRecDepth 16384

noncomputable section

namespace Cert.KernelIdeal.Named

open Idealize.ShloMosaic Idealize.ShloMosaic.TcCoe Idealize.SL.Sem
open Cert.KernelIdeal Cert.KernelIdeal.Gen Cert.Model

variable (m : (ℓ : Loc nD τ sig) → Buf (Elt Ideal) ℓ) (ρ : Dev nD → PrngReg)

/-- The kernel's results, of arguments whose prefixes fit. -/
theorem value (hn : ∀ c b, ((args m c).plen b).toInt ≤ 896) :
    θ_run defs (onTc (τ := τ) (main (F := Ideal))) ⟨m, fun _ => 0, ρ⟩ (fun r => ∀ c : Dev nD,
      r.2.mem ((c.tc : Thread nD τ).loc main_v26_0) = vels (args m c)
      ∧ r.2.mem ((c.tc : Thread nD τ).loc main_v26_1) = acts (args m c)
      ∧ r.2.mem ((c.tc : Thread nD τ).loc main_v26_2) = outs (args m c)) :=
  (θ_run defs _ _).mono (fun r h c =>
    ⟨(((dats m 0 c).toRForget_arrAt_iff (fgt := forgets0) (w := 34) rfl _ _).mp ((h c).1 34)).trans (arr34 m c (hn c)),
      (((dats m 0 c).toRForget_arrAt_iff (fgt := forgets0) (w := 35) rfl _ _).mp ((h c).1 35)).trans (arr35 m c (hn c)),
      (((dats m 0 c).toRForget_arrAt_iff (fgt := forgets0) (w := 36) rfl _ _).mp ((h c).1 36)).trans (arr36 m c (hn c))⟩)
    (run_main m ρ)

end Cert.KernelIdeal.Named

end
-- ==== Proof.RChain.lean ====
/- One trip of the reference's loop, as a chain of its payloads over what the trip reads. -/
module

public import proofs.«01_k».proof.Proof.Gen.ReferenceIdeal.Loops

@[expose] public section

set_option maxRecDepth 16384

noncomputable section

namespace Cert.ReferenceIdeal.Rows

open Idealize.ShloMosaic Idealize.ShloMosaic.TcCoe Idealize.SL.Sem
open Cert.ReferenceIdeal Cert.ReferenceIdeal.Gen

/-- What a trip reads, window by window (the two halves of the gate and up weights, and of their scales, apart). -/
structure Ins (F : FTy → Type) where
  y1 : Vec F S2x1x32 .f32
  y2 : Vec F S2x1x1 .f32
  y3 : Vec F S2x1x1 .f32
  y4 : Vec F S1x512 .f32
  y5 : Vec F S32x1024 .f32
  y6 : Vec F S1x1024 .f32
  y7 : Vec F S32x1024 .f32
  y8 : Vec F S1x1024 .f32
  y9 : Vec F S1024x1024 .bf16
  y10 : Vec F S1024x1024 .bf16
  y11 : Vec F S1x1024 .f32
  y12 : Vec F S1024x1024 .bf16
  y13 : Vec F S1x1024 .f32
  y14 : Vec F S1x1024 .f32
  y15 : Vec F S1x1024 .f32
  y16 : Vec F S1x1024x2560 .fp8e4m3
  y17 : Vec F S1x2560 .f32
  y18 : Vec F S1x2048x1024 .fp8e4m3
  y19 : Vec F S1x1024 .f32
  y20 : Vec F S1x1x1024x4096 .fp8e4m3
  y20b : Vec F S1x1x1024x4096 .fp8e4m3
  y21 : Vec F S1x1x4096 .f32
  y21b : Vec F S1x1x4096 .f32
  y22 : Vec F S1x4096x1024 .fp8e4m3
  y23 : Vec F S1x1024 .f32
  y24 : Vec F S1x1024 .f32
  y25 : Vec F S1024x32 .f32
  y26 : Vec F S1x32 .f32
  y27 : Vec F S1x2x896x256 .i8
  y28 : Vec F S1x2x896x256 .i8
  y29 : Vec F S2x1x896 .f32
  y30 : Vec F S2x1x896 .f32
  y31 : Vec F S2x1x1 .i32
  y32 : Vec F S2x51x128 .f32
  y33 : Vec F S2x51x128 .f32

variable {F : FTy → Type} [FloatOps F]

/-- The cached keys' slots. -/
def cols : IVec S1x1x896 32 := iota .tc S1x1x896 32 [2] iota_S1x1x896_d2_w32

/-- The rows of the queries. -/
def keys : IVec S1x408x1 32 := iota .tc S1x408x1 32 [1] iota_S1x408x1_d1_w32

/-- The state token. -/
def w0 (y : Ins F) (k : Fin k0_t1_loop.trips) (x : Vec F S2x50x32 .f32) : FVec F S2x1x1024 .f32 := k0_pay5 y.y1 y.y5 y.y6

/-- The time projection. -/
def w1 (y : Ins F) (k : Fin k0_t1_loop.trips) (x : Vec F S2x50x32 .f32) : FVec F S2x1x1024 .f32 := k0_pay6 0#32 1#32 k y.y2 y.y3 y.y4 y.y10

/-- The action rows, projected. -/
def w2 (y : Ins F) (k : Fin k0_t1_loop.trips) (x : Vec F S2x50x32 .f32) : FVec F S2x50x1024 .f32 := k0_pay7 x y.y7

/-- The tokens that enter the layer. -/
def w3 (y : Ins F) (k : Fin k0_t1_loop.trips) (x : Vec F S2x50x32 .f32) : FVec F S2x51x1024 .f32 := k0_pay8 (w0 y k x) (w1 y k x) (w2 y k x) y.y8 y.y9 y.y11 y.y12 y.y13

/-- The tokens over their root mean square. -/
def w5 (y : Ins F) (k : Fin k0_t1_loop.trips) (x : Vec F S2x50x32 .f32) : FVec F S2x51x1024 .f32 := k0_pay9 (w0 y k x) (w1 y k x) (w2 y k x) y.y8 y.y9 y.y11 y.y12 y.y13

/-- The projections to queries, key and value. -/
def w6 (y : Ins F) (k : Fin k0_t1_loop.trips) (x : Vec F S2x50x32 .f32) : FVec F S2x51x2560 .f32 := k0_pay11 y.y14 (w5 y k x) k0_pay10 y.y16 y.y17

/-- The rotated queries, heads in the rows. -/
def w13 (y : Ins F) (k : Fin k0_t1_loop.trips) (x : Vec F S2x50x32 .f32) : FVec F S2x408x256 .bf16 := k0_pay19 (k0_pay13 y.y32) (k0_pay14 y.y33) (k0_pay15 y.y14 (w5 y k x) k0_pay10 y.y16 y.y17) (k0_pay16 y.y14 (w5 y k x) k0_pay10 y.y16 y.y17) (k0_pay17 y.y14 (w5 y k x) k0_pay10 y.y16 y.y17 y.y32) (k0_pay18 y.y33)

/-- The rotated new keys. -/
def w14 (y : Ins F) (k : Fin k0_t1_loop.trips) (x : Vec F S2x50x32 .f32) : FVec F S2x51x256 .bf16 := k0_pay20 (w6 y k x) y.y32 y.y33

/-- The new values. -/
def w15 (y : Ins F) (k : Fin k0_t1_loop.trips) (x : Vec F S2x50x32 .f32) : FVec F S2x51x256 .bf16 := k0_pay21 (w6 y k x)

/-- The exponentials of the scores of the cached keys. -/
def w21 (y : Ins F) (k : Fin k0_t1_loop.trips) (x : Vec F S2x50x32 .f32) : FVec F S2x408x896 .f32 := k0_pay30 (w13 y k x) (w14 y k x) (k0_pay22 y.y27) (k0_pay24 y.y29) (k0_pay26 y.y31) cols keys

/-- The exponentials of the scores of the new keys. -/
def w22 (y : Ins F) (k : Fin k0_t1_loop.trips) (x : Vec F S2x50x32 .f32) : FVec F S2x408x51 .f32 := k0_pay31 (w13 y k x) (w14 y k x) (k0_pay22 y.y27) (k0_pay24 y.y29) (k0_pay26 y.y31) cols keys

/-- The output projection of the attention. -/
def w23 (y : Ins F) (k : Fin k0_t1_loop.trips) (x : Vec F S2x50x32 .f32) : FVec F S2x51x1024 .f32 := k0_pay32 (w15 y k x) (k0_pay23 y.y28) (k0_pay25 y.y30) (w21 y k x) (w22 y k x) y.y18 y.y19

/-- The tokens after the attention. -/
def w24 (y : Ins F) (k : Fin k0_t1_loop.trips) (x : Vec F S2x50x32 .f32) : FVec F S2x51x1024 .f32 := k0_pay33 (w3 y k x) (w23 y k x)

/-- The scales of the gated layer's input. -/
def w25 (y : Ins F) (k : Fin k0_t1_loop.trips) (x : Vec F S2x50x32 .f32) : FVec F S2x51x1 .f32 := k0_pay35 (w3 y k x) (w23 y k x) y.y15

/-- The codes of the gated layer's input. -/
def w26 (y : Ins F) (k : Fin k0_t1_loop.trips) (x : Vec F S2x50x32 .f32) : FVec F S2x51x1024 .fp8e4m3 := k0_pay36 (w3 y k x) (w23 y k x) y.y15

/-- The gate products. -/
def w28 (y : Ins F) (k : Fin k0_t1_loop.trips) (x : Vec F S2x50x32 .f32) : FVec F S2x51x4096 .f32 := k0_pay38 (w3 y k x) (w23 y k x) y.y15 y.y20

/-- The scales of the gated activations. -/
def w29 (y : Ins F) (k : Fin k0_t1_loop.trips) (x : Vec F S2x50x32 .f32) : FVec F S2x51x1 .f32 := k0_pay40 (w25 y k x) (w26 y k x) (k0_pay37 y.y21) (w28 y k x) y.y20b y.y21b

/-- The gated activations over their scales. -/
def w30 (y : Ins F) (k : Fin k0_t1_loop.trips) (x : Vec F S2x50x32 .f32) : FVec F S2x51x4096 .f32 := k0_pay41 (w25 y k x) (w26 y k x) (k0_pay37 y.y21) (w28 y k x) y.y20b y.y21b

/-- The tokens that leave the layer. -/
def w31 (y : Ins F) (k : Fin k0_t1_loop.trips) (x : Vec F S2x50x32 .f32) : FVec F S2x51x1024 .f32 := k0_pay42 (w24 y k x) (w29 y k x) (w30 y k x) (Scalar.ofBits .f32 0xC3E00000#32) (Scalar.ofBits .f32 0x43E00000#32) y.y22 y.y23

/-- The velocities without their bias. -/
def w32 (y : Ins F) (k : Fin k0_t1_loop.trips) (x : Vec F S2x50x32 .f32) : FVec F S2x50x32 .f32 := k0_pay43 (w24 y k x) (w29 y k x) (w30 y k x) (Scalar.ofBits .f32 0xC3E00000#32) (Scalar.ofBits .f32 0x43E00000#32) y.y22 y.y23 y.y24 y.y25

/-- The bias of the velocities. -/
def w33 (y : Ins F) (k : Fin k0_t1_loop.trips) (x : Vec F S2x50x32 .f32) : FVec F S2x50x32 .f32 := k0_pay44 y.y26

end Cert.ReferenceIdeal.Rows

end
-- ==== Proof.RBase.lean ====
/- The reference's payloads, token by token: each reads one row of its operands and is a function of the model there. -/
module

public import proofs.«01_k».proof.Proof.Gen.ReferenceIdeal.Skeleton
public import proofs.«01_k».proof.Proof.Model

@[expose] public section

set_option maxRecDepth 16384

noncomputable section

namespace Cert.ReferenceIdeal.Rows

open Idealize.ShloMosaic Idealize.ShloMosaic.TcCoe Idealize.SL.Sem
open Cert.ReferenceIdeal Cert.ReferenceIdeal.Gen Cert.Model

/-- Row `s` of batch `b`. -/
abbrev row3 {a m n : ℕ} (v : (⟨3, ![a, m, n]⟩ : Shape).Idx → EReal) (b : Fin a) (s : Fin m) : Row n := fun j => v (ix3 b s j)

/-- Row `r` of a matrix. -/
abbrev row {m n : ℕ} (v : (⟨2, ![m, n]⟩ : Shape).Idx → EReal) (r : Fin m) : Row n := fun j => v (ix2 r j)

/-- The rows of a matrix. -/
abbrev mat {m n : ℕ} (v : (⟨2, ![m, n]⟩ : Shape).Idx → EReal) : Fin m → Row n := fun k j => v (ix2 k j)

/-- The embedding of a time. -/
def emb (t : EReal) (f : Row 512) : Row 1024 := fun j =>
  if h : j.val < 512 then Ideal.sin (t * f ⟨j.val, h⟩) else Ideal.cos (t * f ⟨j.val - 512, by omega⟩)

/-- A row with a gain. -/
def gain (v83 : (⟨3, ![2, 51, 1024]⟩ : Shape).Idx → EReal) (v84 v73 : (⟨2, ![1, 1024]⟩ : Shape).Idx → EReal) (b : Fin 2) (s : Fin 51) : Row 1024 :=
  fun j => v83 (ix3 b s j) * (v84 (ix2 0 j) + v73 (ix2 0 j))

/-- One head's attention from the exponentials of its scores. -/
def mix (v207 : (⟨3, ![2, 408, 896]⟩ : Shape).Idx → EReal) (v210 : (⟨3, ![2, 408, 51]⟩ : Shape).Idx → EReal)
    (v159 : (⟨3, ![2, 1, 896]⟩ : Shape).Idx → EReal) (v155 : (⟨3, ![2, 896, 256]⟩ : Shape).Idx → BitVec 8)
    (v151 : (⟨3, ![2, 51, 256]⟩ : Shape).Idx → EReal) (b : Fin 2) (r : Fin 408) : Row 256 := fun d =>
  Ideal.div ((∑ t, v207 (ix3 b r t) * v159 (ix3 b 0 t) * FloatOps.sitofp (F := Ideal) .f32 (v155 (ix3 b t d))) + ∑ u, v210 (ix3 b r u) * v151 (ix3 b u d))
    ((∑ t, v207 (ix3 b r t)) + ∑ u, v210 (ix3 b r u))

end Cert.ReferenceIdeal.Rows

end
-- ==== Proof.RRowsA.lean ====
/- The reference's payloads, token by token: each reads one row of its operands and is a function of the model there. -/
module

public import proofs.«01_k».proof.Proof.RBase

@[expose] public section

set_option maxRecDepth 16384

noncomputable section

namespace Cert.ReferenceIdeal.Rows

open Idealize.ShloMosaic Idealize.ShloMosaic.TcCoe Idealize.SL.Sem
open Cert.ReferenceIdeal Cert.ReferenceIdeal.Gen Cert.Model

theorem pay5_row (v6 v8 v12) (b : Fin 2) (j : Fin 1024) :
    k0_pay5 (F := Ideal) v6 v8 v12 (ix3 b 0 j) = affine (row3 v6 b 0) (mat v8) (row v12 0) j := by
  pointwise [k0_pay5, affine, lin]

theorem pay6_row (k) (v17 v20 v25 v34) (b : Fin 2) (j : Fin 1024) :
    k0_pay6 (F := Ideal) 0#32 1#32 k v17 v20 v25 v34 (ix3 b 0 j)
      = lin (emb (v17 (ix3 b 0 0) + FloatOps.sitofp (F := Ideal) .f32 (Scf.iv 0#32 1#32 k) * v20 (ix3 b 0 0)) (row v25 0)) (mat v34) j := by
  pointwise [k0_pay6, emb, lin]
  rfl

theorem pay7_row (x v39) (b : Fin 2) (t : Fin 50) (j : Fin 1024) :
    k0_pay7 (F := Ideal) x v39 (ix3 b t j) = lin (row3 x b t) (mat v39) j := by
  pointwise [k0_pay7, lin]

theorem pay8_row (v16 v38 v42 v43 v48 v55 v62 v67) (b : Fin 2) (s : Fin 51) (j : Fin 1024) :
    k0_pay8 (F := Ideal) v16 v38 v42 v43 v48 v55 v62 v67 (ix3 b s j)
      = if h : s.val < 1 then v16 (ix3 b 0 j)
        else affine (fun k => silu (lin (fun i => row3 v42 b ⟨s.val - 1, by omega⟩ i + row v43 0 i) (mat v48) k + v38 (ix3 b 0 k) + row v55 0 k))
          (mat v62) (row v67 0) j := by
  pointwise [k0_pay8, affine, lin, silu]
  have e : (b.val * 50 + (b.val * 50 + (s.val - 1)) % 50) % 50 = s.val - 1 := by have := b.isLt; have := s.isLt; omega
  by_cases h : s.val < 1
  · simp only [h, dif_pos]
    exact congrArg (fun q => v16 (ix3 b q j)) (Subsingleton.elim _ _)
  · simp only [h, dif_neg, not_false_iff, e]

theorem gain_row (v16 v38 v42 v43 v48 v55 v62 v67 v73) (b : Fin 2) (s : Fin 51) :
    gain (k0_pay9 (F := Ideal) v16 v38 v42 v43 v48 v55 v62 v67) (k0_pay10 (F := Ideal)) v73 b s
      = rms (row3 (k0_pay8 (F := Ideal) v16 v38 v42 v43 v48 v55 v62 v67) b s) (row v73 0) := by
  funext j
  pointwise [k0_pay9, k0_pay10, gain, rms]

end Cert.ReferenceIdeal.Rows

end
-- ==== Proof.RRowsB.lean ====
/- The reference's payloads, token by token: each reads one row of its operands and is a function of the model there. -/
module

public import proofs.«01_k».proof.Proof.RBase

@[expose] public section

set_option maxRecDepth 16384

noncomputable section

namespace Cert.ReferenceIdeal.Rows

open Idealize.ShloMosaic Idealize.ShloMosaic.TcCoe Idealize.SL.Sem
open Cert.ReferenceIdeal Cert.ReferenceIdeal.Gen Cert.Model

theorem pay19_row (v73 v83 v84 v105 v107 v118 v120) (b : Fin 2) (r : Fin 408) (d : Fin 256) :
    k0_pay19 (F := Ideal) (k0_pay13 v118) (k0_pay14 v120) (k0_pay15 v73 v83 v84 v105 v107) (k0_pay16 v73 v83 v84 v105 v107)
        (k0_pay17 v73 v83 v84 v105 v107 v118) (k0_pay18 v120) (ix3 b r d)
      = query (row3 v118 b ⟨r.val / 8, by omega⟩) (row3 v120 b ⟨r.val / 8, by omega⟩)
          (row3 (k0_pay11 (F := Ideal) v73 v83 v84 v105 v107) b ⟨r.val / 8, by omega⟩) ⟨r.val % 8, by omega⟩ d := by
  pointwise [k0_pay19, k0_pay18, k0_pay17, k0_pay16, k0_pay15, k0_pay14, k0_pay13, k0_pay12, query, rot]
  simp only [Nat.mul_comm 256]

theorem pay20_row (v115 v138 v139) (b : Fin 2) (s : Fin 51) (d : Fin 256) :
    k0_pay20 (F := Ideal) v115 v138 v139 (ix3 b s d) = newKey (row3 v138 b s) (row3 v139 b s) (row3 v115 b s) d := by
  pointwise [k0_pay20, newKey, rot]

theorem pay21_row (v115) (b : Fin 2) (s : Fin 51) (d : Fin 256) :
    k0_pay21 (F := Ideal) v115 (ix3 b s d) = newVal (row3 v115 b s) d := by
  pointwise [k0_pay21, newVal]

theorem pay27_row (v136 v153 v157 v161 v162) (b : Fin 2) (r : Fin 408) (t : Fin 896) (h : v162 (ix3 0 0 t) = BitVec.ofNat 32 t.val) :
    k0_pay27 (F := Ideal) v136 v153 v157 v161 v162 (ix3 b r t)
      = sPast (row3 v136 b r) (fun t d => FloatOps.sitofp (F := Ideal) .f32 (v153 (ix3 b t d))) (fun t => v157 (ix3 b 0 t)) (v161 (ix3 b 0 0)) t := by
  pointwise [k0_pay27, sPast, h]

theorem state_query : ∀ r : Fin 408, IntOp.cmpi .sgt (IntOp.divsi .vector (BitVec.ofNat 32 r.val) 8#32) 0#32 = BitVec.ofBool (decide (0 < r.val / 8)) := by
  decide +kernel

theorem state_key : ∀ u : Fin 51, IntOp.cmpi .eq (BitVec.ofNat 32 u.val) 0#32 = BitVec.ofBool (decide (u.val = 0)) := by
  decide +kernel

/-- A choice under two tests, either of which suffices. -/
theorem select_or (p q : Bool) (x y : EReal) :
    Scalar.select (IntOp.ori (BitVec.ofBool p) (BitVec.ofBool q)) x y = if p = true ∨ q = true then x else y := by
  cases p <;> cases q <;> simp [Scalar.select, IntOp.ori]

theorem pay28_row (v136 v149 v163) (b : Fin 2) (r : Fin 408) (u : Fin 51) (h : v163 (ix3 0 r 0) = BitVec.ofNat 32 r.val) :
    k0_pay28 (F := Ideal) v136 v149 v163 (ix3 b r u)
      = sNew ⟨r.val / 8, by omega⟩ (row3 v136 b r) (fun u d => v149 (ix3 b u d)) u := by
  pointwise [k0_pay28, sNew, h]
  simp only [state_query, state_key, select_or, decide_eq_true_eq]

end Cert.ReferenceIdeal.Rows

end
-- ==== Proof.RRowsC.lean ====
/- The reference's payloads, token by token: each reads one row of its operands and is a function of the model there. -/
module

public import proofs.«01_k».proof.Proof.RBase

@[expose] public section

set_option maxRecDepth 16384

noncomputable section

namespace Cert.ReferenceIdeal.Rows

open Idealize.ShloMosaic Idealize.ShloMosaic.TcCoe Idealize.SL.Sem
open Cert.ReferenceIdeal Cert.ReferenceIdeal.Gen Cert.Model

theorem mix_row (v136 v149 v151 v153 v155 v157 v159 v161 v162 v163) (b : Fin 2) (r : Fin 408) :
    mix (k0_pay30 (F := Ideal) v136 v149 v153 v157 v161 v162 v163) (k0_pay31 (F := Ideal) v136 v149 v153 v157 v161 v162 v163) v159 v155 v151 b r
      = attend (row3 (k0_pay27 (F := Ideal) v136 v153 v157 v161 v162) b r) (row3 (k0_pay28 (F := Ideal) v136 v149 v163) b r)
          (fun t => v159 (ix3 b 0 t)) (fun t d => FloatOps.sitofp (F := Ideal) .f32 (v155 (ix3 b t d))) (fun u d => v151 (ix3 b u d)) := by
  funext d
  pointwise [mix, attend, k0_pay30, k0_pay31, k0_pay29]
  rfl

theorem pay32_row (v151 v155 v159 v207 v210 v244 v246) (b : Fin 2) (s : Fin 51) (j : Fin 1024) :
    k0_pay32 (F := Ideal) v151 v155 v159 v207 v210 v244 v246 (ix3 b s j)
      = qlin (fun k : Fin 2048 => mix v207 v210 v159 v155 v151 b ⟨8 * s.val + k.val / 256, by omega⟩ ⟨k.val % 256, by omega⟩)
          (fun k j => v244 (ix3 0 k j)) (row v246 0) j := by
  pointwise [k0_pay32, qlin, lin, codes, scale, amax, mix]
  simp only [Nat.mul_comm 8]

end Cert.ReferenceIdeal.Rows

end
-- ==== Proof.RRowsD.lean ====
/- The reference's payloads, token by token: each reads one row of its operands and is a function of the model there. -/
module

public import proofs.«01_k».proof.Proof.RBase

@[expose] public section

set_option maxRecDepth 16384

noncomputable section

namespace Cert.ReferenceIdeal.Rows

open Idealize.ShloMosaic Idealize.ShloMosaic.TcCoe Idealize.SL.Sem
open Cert.ReferenceIdeal Cert.ReferenceIdeal.Gen Cert.Model

theorem pay11_row (v73 v83 v84 v105 v107) (b : Fin 2) (s : Fin 51) (j : Fin 2560) :
    k0_pay11 (F := Ideal) v73 v83 v84 v105 v107 (ix3 b s j)
      = qlin (gain v83 v84 v73 b s) (fun k j => v105 (ix3 0 k j)) (row v107 0) j := by
  pointwise [k0_pay11, qlin, lin, codes, scale, amax, gain]

theorem pay42_row (v255 v280 v287 v291 v294 v300 v302 v342 v344) (b : Fin 2) (s : Fin 51) (j : Fin 1024) :
    k0_pay42 (F := Ideal) v255 (k0_pay40 v280 v287 v291 v294 v300 v302) (k0_pay41 v280 v287 v291 v294 v300 v302)
        (Scalar.ofBits .f32 0xC3E00000#32) (Scalar.ofBits .f32 0x43E00000#32) v342 v344 (ix3 b s j)
      = row3 v255 b s j + qlin (row3 (k0_pay39 (F := Ideal) v280 v287 v291 v294 v300 v302) b s) (fun k j => v342 (ix3 0 k j)) (row v344 0) j := by
  pointwise [k0_pay42, k0_pay41, k0_pay40, qlin, lin, codes, scale, amax]

theorem pay43_row (v255 v334 v336 c d v342 v344 v355 v372) (b : Fin 2) (t : Fin 50) (j : Fin 32) :
    k0_pay43 (F := Ideal) v255 v334 v336 c d v342 v344 v355 v372 (ix3 b t j)
      = lin (rms (row3 (k0_pay42 (F := Ideal) v255 v334 v336 c d v342 v344) b ⟨1 + t.val, by omega⟩) (row v355 0)) (mat v372) j := by
  pointwise [k0_pay43, lin, rms]

theorem pay2_row (v375 v376) (b : Fin 2) (t : Fin 50) (j : Fin 32) :
    k0_pay2 (F := Ideal) v375 (k0_pay44 v376) (ix3 b t j) = row3 v375 b t j + v376 (ix2 0 j) := by
  pointwise [k0_pay2, k0_pay44]

theorem pay3_row (v375 v379) (b : Fin 2) (t : Fin 50) (j : Fin 32) :
    k0_pay3 (F := Ideal) v375 v379 (ix4 0 b t j) = k0_pay2 (F := Ideal) v375 v379 (ix3 b t j) := by
  pointwise [k0_pay3]

theorem pay4_row (x v375 v379 v385) (b : Fin 2) (t : Fin 50) (j : Fin 32) :
    k0_pay4 (F := Ideal) x v375 v379 v385 (ix3 b t j) = row3 x b t j + v385 (ix3 b 0 0) * k0_pay2 (F := Ideal) v375 v379 (ix3 b t j) := by
  pointwise [k0_pay4]

end Cert.ReferenceIdeal.Rows

end
-- ==== Proof.RRowsE.lean ====
/- The reference's payloads, token by token: each reads one row of its operands and is a function of the model there. -/
module

public import proofs.«01_k».proof.Proof.RBase

@[expose] public section

set_option maxRecDepth 16384

noncomputable section

namespace Cert.ReferenceIdeal.Rows

open Idealize.ShloMosaic Idealize.ShloMosaic.TcCoe Idealize.SL.Sem
open Cert.ReferenceIdeal Cert.ReferenceIdeal.Gen Cert.Model

theorem pay33_row (v72 v254) (b : Fin 2) (s : Fin 51) (j : Fin 1024) :
    k0_pay33 (F := Ideal) v72 v254 (ix3 b s j) = row3 v72 b s j + row3 v254 b s j := by
  pointwise [k0_pay33]

theorem pay34_row (v72 v254 v256) (b : Fin 2) (s : Fin 51) (j : Fin 1024) :
    k0_pay34 (F := Ideal) v72 v254 v256 (ix3 b s j) = rms (row3 (k0_pay33 (F := Ideal) v72 v254) b s) (row v256 0) j := by
  pointwise [k0_pay34, rms]

theorem pay35_row (v72 v254 v256) (b : Fin 2) (s : Fin 51) :
    k0_pay35 (F := Ideal) v72 v254 v256 (ix3 b s 0) = scale (row3 (k0_pay34 (F := Ideal) v72 v254 v256) b s) := by
  pointwise [k0_pay35, scale, amax]

theorem pay36_row (v72 v254 v256) (b : Fin 2) (s : Fin 51) (j : Fin 1024) :
    k0_pay36 (F := Ideal) v72 v254 v256 (ix3 b s j) = codes (row3 (k0_pay34 (F := Ideal) v72 v254 v256) b s) j := by
  pointwise [k0_pay36, codes, pay35_row]

theorem pay39_row (v72 v254 v256 v288 v290 v300 v302) (b : Fin 2) (s : Fin 51) (j : Fin 4096) :
    k0_pay39 (F := Ideal) (k0_pay35 v72 v254 v256) (k0_pay36 v72 v254 v256) (k0_pay37 v290) (k0_pay38 v72 v254 v256 v288) v300 v302 (ix3 b s j)
      = geglu (qlin (row3 (k0_pay34 (F := Ideal) v72 v254 v256) b s) (fun k j => v288 (ix4 0 0 k j)) (fun j => v290 (ix3 0 0 j)) j)
          (qlin (row3 (k0_pay34 (F := Ideal) v72 v254 v256) b s) (fun k j => v300 (ix4 0 0 k j)) (fun j => v302 (ix3 0 0 j)) j) := by
  pointwise [k0_pay39, k0_pay37, k0_pay38, geglu, qlin, lin, pay35_row, pay36_row]

end Cert.ReferenceIdeal.Rows

end
-- ==== Proof.RStep.lean ====
/- One trip of the reference's loop is one Euler step of the model. -/
module

public import proofs.«01_k».proof.Proof.RChain
public import proofs.«01_k».proof.Proof.RRowsA
public import proofs.«01_k».proof.Proof.RRowsB
public import proofs.«01_k».proof.Proof.RRowsC
public import proofs.«01_k».proof.Proof.RRowsD
public import proofs.«01_k».proof.Proof.RRowsE

@[expose] public section

set_option maxRecDepth 16384

noncomputable section

namespace Cert.ReferenceIdeal.Rows

open Idealize.ShloMosaic Idealize.ShloMosaic.TcCoe Idealize.SL.Sem
open Cert.ReferenceIdeal Cert.ReferenceIdeal.Gen Cert.Model

/-- What a trip reads holds the model's arguments. -/
structure ReadsR (y : Ins Ideal) (A : Args) : Prop where
  state b : row3 y.y1 b 0 = A.state b
  time0 b : y.y2 (ix3 b 0 0) = A.time0 b
  dt b : y.y3 (ix3 b 0 0) = A.dt b
  freq : row y.y4 0 = A.freq
  wState : mat y.y5 = A.wState
  bState : row y.y6 0 = A.bState
  wAin : mat y.y7 = A.wAin
  bAin : row y.y8 0 = A.bAin
  wTinA : mat y.y9 = A.wTinA
  wTinT : mat y.y10 = A.wTinT
  bTin : row y.y11 0 = A.bTin
  wTout : mat y.y12 = A.wTout
  bTout : row y.y13 0 = A.bTout
  ln1 : row y.y14 0 = A.ln1
  ln2 : row y.y15 0 = A.ln2
  wQkv : (fun k j => y.y16 (ix3 0 k j)) = A.wQkv
  sQkv : row y.y17 0 = A.sQkv
  wO : (fun k j => y.y18 (ix3 0 k j)) = A.wO
  sO : row y.y19 0 = A.sO
  wGate : (fun k j => y.y20 (ix4 0 0 k j)) = A.wGate
  sGate : (fun j => y.y21 (ix3 0 0 j)) = A.sGate
  wUp : (fun k j => y.y20b (ix4 0 0 k j)) = A.wUp
  sUp : (fun j => y.y21b (ix3 0 0 j)) = A.sUp
  wDown : (fun k j => y.y22 (ix3 0 k j)) = A.wDown
  sDown : row y.y23 0 = A.sDown
  fn : row y.y24 0 = A.fn
  wOut : mat y.y25 = A.wOut
  bOut : row y.y26 0 = A.bOut
  kCode b : (fun t d => FloatOps.sitofp (F := Ideal) .f32 (y.y27 (ix4 0 b t d))) = A.kCode b
  vCode b : (fun t d => FloatOps.sitofp (F := Ideal) .f32 (y.y28 (ix4 0 b t d))) = A.vCode b
  kScale b : (fun t => y.y29 (ix3 b 0 t)) = A.kScale b
  vScale b : (fun t => y.y30 (ix3 b 0 t)) = A.vScale b
  plen b : y.y31 (ix3 b 0 0) = A.plen b
  cos b t : row3 y.y32 b t = A.cos b t
  sin b t : row3 y.y33 b t = A.sin b t

theorem pay22_row (v) (b : Fin 2) (t : Fin 896) (d : Fin 256) : k0_pay22 (F := Ideal) v (ix3 b t d) = v (ix4 0 b t d) := by
  pointwise [k0_pay22]

theorem pay23_row (v) (b : Fin 2) (t : Fin 896) (d : Fin 256) : k0_pay23 (F := Ideal) v (ix3 b t d) = v (ix4 0 b t d) := by
  pointwise [k0_pay23]

theorem pay24_row (v) (b : Fin 2) (t : Fin 896) : k0_pay24 (F := Ideal) v (ix3 b 0 t) = v (ix3 b 0 t) := by
  pointwise [k0_pay24]

theorem pay25_row (v) (b : Fin 2) (t : Fin 896) : k0_pay25 (F := Ideal) v (ix3 b 0 t) = v (ix3 b 0 t) := by
  pointwise [k0_pay25]

theorem pay26_row (v) (b : Fin 2) : k0_pay26 (F := Ideal) v (ix3 b 0 0) = v (ix3 b 0 0) := by
  pointwise [k0_pay26]

theorem cols_apply (t : Fin 896) : cols (ix3 0 0 t) = BitVec.ofNat 32 t.val := by
  pointwise [cols]

theorem keys_apply (r : Fin 408) : keys (ix3 0 r 0) = BitVec.ofNat 32 r.val := by
  pointwise [keys]

theorem iv_eq (k : Fin k0_t1_loop.trips) : Scf.iv 0#32 1#32 k = BitVec.ofNat 32 k.val := by
  simp [Scf.iv]

variable {y : Ins Ideal} {A : Args} (hy : ReadsR y A) {k : Fin k0_t1_loop.trips} {s : Fin 10} (hk : k.val = s.val)
  {x : Vec Ideal S2x50x32 .f32} {a : Fin 2 → Fin 50 → Row 32} (hx : ∀ b t, row3 x b t = a b t)

include hy hk in
theorem w1_apply (b : Fin 2) (j : Fin 1024) : w1 y k x (ix3 b 0 j) = lin (timeEmb A s b) A.wTinT j := by
  rw [w1, pay6_row, hy.time0, hy.dt, hy.freq, hy.wTinT, iv_eq, hk]
  rfl

include hy hx in
theorem w2_row (b : Fin 2) (t : Fin 50) : row3 (w2 y k x) b t = lin (a b t) A.wAin := by
  funext j
  rw [show row3 (w2 y k x) b t j = k0_pay7 x y.y7 (ix3 b t j) from rfl, pay7_row, hx, hy.wAin]

include hy hk hx in
/-- The tokens that enter the layer. -/
theorem w3_row (b : Fin 2) (t : Fin 51) : row3 (w3 y k x) b t = tok A s b (a b) t := by
  funext j
  rw [show row3 (w3 y k x) b t j = k0_pay8 (w0 y k x) (w1 y k x) (w2 y k x) y.y8 y.y9 y.y11 y.y12 y.y13 (ix3 b t j) from rfl, pay8_row, tok]
  by_cases h : t.val < 1
  · rw [dif_pos h, dif_pos (by omega), w0, pay5_row, hy.state, hy.wState, hy.bState]
    rfl
  · rw [dif_neg h, dif_neg (by omega)]
    simp only [w1_apply hy hk]
    rw [w2_row hy hx, hy.bAin, hy.wTinA, hy.bTin, hy.wTout, hy.bTout]
    rfl

include hy hk hx in
/-- Their projections to queries, key and value. -/
theorem w6_row (b : Fin 2) (t : Fin 51) : row3 (k0_pay11 y.y14 (w5 y k x) k0_pay10 y.y16 y.y17) b t = qkv A (tok A s b (a b) t) := by
  funext j
  have hg : gain (w5 y k x) (k0_pay10 (F := Ideal)) y.y14 b t = rms (tok A s b (a b) t) A.ln1 := by
    rw [w5, gain_row, hy.ln1]
    exact congrArg (fun v => rms v A.ln1) (w3_row hy hk hx b t)
  rw [show row3 (k0_pay11 y.y14 (w5 y k x) k0_pay10 y.y16 y.y17) b t j = k0_pay11 y.y14 (w5 y k x) k0_pay10 y.y16 y.y17 (ix3 b t j) from rfl,
    pay11_row, hg, hy.wQkv, hy.sQkv]
  rfl

include hy hk hx in
theorem w13_row (b : Fin 2) (r : Fin 408) (t : Fin 51) (hd : Fin 8) (hr : r.val = 8 * t.val + hd.val) :
    row3 (w13 y k x) b r = query (A.cos b t) (A.sin b t) (qkv A (tok A s b (a b) t)) hd := by
  funext d
  have e1 : ∀ h, (⟨r.val / 8, h⟩ : Fin 51) = t := fun h => Fin.ext (by show r.val / 8 = t.val; omega)
  have e2 : ∀ h, (⟨r.val % 8, h⟩ : Fin 8) = hd := fun h => Fin.ext (by show r.val % 8 = hd.val; omega)
  refine (pay19_row y.y14 (w5 y k x) k0_pay10 y.y16 y.y17 y.y32 y.y33 b r d).trans ?_
  simp only [e1, e2]
  rw [w6_row hy hk hx, hy.cos, hy.sin]

include hy hk hx in
theorem w14_row (b : Fin 2) (t : Fin 51) : row3 (w14 y k x) b t = newKey (A.cos b t) (A.sin b t) (qkv A (tok A s b (a b) t)) := by
  funext d
  refine (pay20_row (w6 y k x) y.y32 y.y33 b t d).trans ?_
  rw [w6, w6_row hy hk hx, hy.cos, hy.sin]

include hy hk hx in
theorem w15_row (b : Fin 2) (t : Fin 51) : row3 (w15 y k x) b t = newVal (qkv A (tok A s b (a b) t)) := by
  funext d
  refine (pay21_row (w6 y k x) b t d).trans ?_
  rw [w6, w6_row hy hk hx]

include hy hk hx in
/-- The attention of head `hd` at token `t`. -/
theorem head_row (b : Fin 2) (r : Fin 408) (t : Fin 51) (hd : Fin 8) (hr : r.val = 8 * t.val + hd.val) :
    mix (w21 y k x) (w22 y k x) (k0_pay25 y.y30) (k0_pay23 y.y28) (w15 y k x) b r = headAt A b (tok A s b (a b)) t hd := by
  have e1 : ∀ h, (⟨r.val / 8, h⟩ : Fin 51) = t := fun h => Fin.ext (by show r.val / 8 = t.val; omega)
  have hp : row3 (k0_pay27 (F := Ideal) (w13 y k x) (k0_pay22 y.y27) (k0_pay24 y.y29) (k0_pay26 y.y31) cols) b r
      = sPast (query (A.cos b t) (A.sin b t) (qkv A (tok A s b (a b) t)) hd) (A.kCode b) (A.kScale b) (A.plen b) := by
    funext u
    refine (pay27_row (w13 y k x) (k0_pay22 y.y27) (k0_pay24 y.y29) (k0_pay26 y.y31) cols b r u (cols_apply u)).trans ?_
    simp only [pay22_row, pay24_row, pay26_row]
    rw [w13_row hy hk hx b r t hd hr, hy.kCode, hy.kScale, hy.plen]
  have hn : row3 (k0_pay28 (F := Ideal) (w13 y k x) (w14 y k x) keys) b r
      = sNew t (query (A.cos b t) (A.sin b t) (qkv A (tok A s b (a b) t)) hd) fun u => newKey (A.cos b u) (A.sin b u) (qkv A (tok A s b (a b) u)) := by
    funext u
    refine (pay28_row (w13 y k x) (w14 y k x) keys b r u (keys_apply r)).trans ?_
    rw [w13_row hy hk hx b r t hd hr, e1, show (fun u d => w14 y k x (ix3 b u d)) = fun u => newKey (A.cos b u) (A.sin b u) (qkv A (tok A s b (a b) u)) from
      funext fun u => w14_row hy hk hx b u]
  rw [w21, w22, mix_row, hp, hn]
  simp only [pay25_row, pay23_row]
  rw [hy.vScale, hy.vCode, show (fun u d => w15 y k x (ix3 b u d)) = fun u => newVal (qkv A (tok A s b (a b) u)) from
    funext fun u => w15_row hy hk hx b u]
  rfl

include hy hk hx in
/-- The tokens after the attention. -/
theorem w24_row (b : Fin 2) (t : Fin 51) :
    row3 (k0_pay33 (w3 y k x) (w23 y k x)) b t = mid A (tok A s b (a b) t) (heads A b (tok A s b (a b)) t) := by
  funext j
  have hh : (fun q : Fin 2048 => mix (w21 y k x) (w22 y k x) (k0_pay25 y.y30) (k0_pay23 y.y28) (w15 y k x) b ⟨8 * t.val + q.val / 256, by omega⟩ ⟨q.val % 256, by omega⟩)
      = heads A b (tok A s b (a b)) t :=
    funext fun q => congrFun (head_row hy hk hx b ⟨8 * t.val + q.val / 256, by omega⟩ t ⟨q.val / 256, by omega⟩ rfl) _
  refine (pay33_row (w3 y k x) (w23 y k x) b t j).trans ?_
  rw [w3_row hy hk hx]
  refine congrArg (tok A s b (a b) t j + ·) ?_
  refine (pay32_row (w15 y k x) (k0_pay23 y.y28) (k0_pay25 y.y30) (w21 y k x) (w22 y k x) y.y18 y.y19 b t j).trans ?_
  rw [hh, hy.wO, hy.sO]

include hy hk hx in
/-- The tokens that leave the layer. -/
theorem w31_row (b : Fin 2) (t : Fin 51) : row3 (w31 y k x) b t = out A s b (a b) t := by
  funext j
  have h34 : row3 (k0_pay34 (F := Ideal) (w3 y k x) (w23 y k x) y.y15) b t
      = rms (mid A (tok A s b (a b) t) (heads A b (tok A s b (a b)) t)) A.ln2 := by
    funext i
    refine (pay34_row (w3 y k x) (w23 y k x) y.y15 b t i).trans ?_
    rw [w24_row hy hk hx, hy.ln2]
  have h39 : row3 (k0_pay39 (F := Ideal) (w25 y k x) (w26 y k x) (k0_pay37 y.y21) (w28 y k x) y.y20b y.y21b) b t
      = fun q => geglu (qlin (rms (mid A (tok A s b (a b) t) (heads A b (tok A s b (a b)) t)) A.ln2) A.wGate A.sGate q)
          (qlin (rms (mid A (tok A s b (a b) t) (heads A b (tok A s b (a b)) t)) A.ln2) A.wUp A.sUp q) := by
    funext q
    refine (pay39_row (w3 y k x) (w23 y k x) y.y15 y.y20 y.y21 y.y20b y.y21b b t q).trans ?_
    rw [h34, hy.wGate, hy.sGate, hy.wUp, hy.sUp]
  refine (pay42_row (w24 y k x) (w25 y k x) (w26 y k x) (k0_pay37 y.y21) (w28 y k x) y.y20b y.y21b y.y22 y.y23 b t j).trans ?_
  rw [h39, w24, w24_row hy hk hx, hy.wDown, hy.sDown]
  rfl

include hy hk hx in
/-- The velocities of the trip. -/
theorem vel_row (b : Fin 2) (t : Fin 50) (j : Fin 32) : k0_pay2 (F := Ideal) (w32 y k x) (w33 y k x) (ix3 b t j) = velAt A s b (a b) t j := by
  rw [w33, pay2_row, show row3 (w32 y k x) b t j = w32 y k x (ix3 b t j) from rfl, w32, pay43_row]
  have e : (⟨1 + t.val, by omega⟩ : Fin 51) = ⟨t.val + 1, by omega⟩ := Fin.ext (Nat.add_comm _ _)
  rw [e, show row3 (k0_pay42 (w24 y k x) (w29 y k x) (w30 y k x) (Scalar.ofBits .f32 0xC3E00000#32) (Scalar.ofBits .f32 0x43E00000#32) y.y22 y.y23) b ⟨t.val + 1, by omega⟩
    = out A s b (a b) ⟨t.val + 1, by omega⟩ from w31_row hy hk hx b _, hy.fn, hy.wOut]
  exact congrArg (_ + ·) (congrFun hy.bOut j)

include hy hk hx in
/-- The actions after the trip. -/
theorem next_row (b : Fin 2) (t : Fin 50) (j : Fin 32) : k0_pay4 (F := Ideal) x (w32 y k x) (w33 y k x) y.y3 (ix3 b t j) = next A s b (a b) t j := by
  rw [pay4_row, vel_row hy hk hx, hy.dt, hx]
  rfl

include hy hk hx in
/-- The velocities as the trip stores them. -/
theorem store_row (b : Fin 2) (t : Fin 50) (j : Fin 32) : k0_pay3 (F := Ideal) (w32 y k x) (w33 y k x) (ix4 0 b t j) = velAt A s b (a b) t j := by
  rw [pay3_row, vel_row hy hk hx]

end Cert.ReferenceIdeal.Rows

end
-- ==== Proof.RWhole.lean ====
/- What one trip of the reference's loop reads of its buffers. -/
module

public import proofs.«01_k».proof.Proof.RChain
public import Idealize.ShloMosaic.Lib.WholeRead
public import Idealize.ShloMosaic.Lib.Pipeline.ValueKit.Basic
public import Idealize.ShloMosaic.Lib.Pipeline.Frame

@[expose] public section

set_option maxRecDepth 16384

noncomputable section

namespace Cert.ReferenceIdeal.Rows

open Idealize.ShloMosaic Idealize.ShloMosaic.TcCoe Idealize.SL.Sem
open Cert.ReferenceIdeal Cert.ReferenceIdeal.Gen

variable {F : FTy → Type} [FloatOps F]

/-- What a trip reads of its buffers' contents. -/
def loads (arg1 : Memref sig .tc .vmem S2x1x32 .f32) (arg2 : Memref sig .tc .vmem S2x1x1 .f32) (arg3 : Memref sig .tc .vmem S2x1x1 .f32) (arg4 : Memref sig .tc .vmem S1x512 .f32) (arg5 : Memref sig .tc .vmem S32x1024 .f32) (arg6 : Memref sig .tc .vmem S1x1024 .f32) (arg7 : Memref sig .tc .vmem S32x1024 .f32) (arg8 : Memref sig .tc .vmem S1x1024 .f32) (arg9 : Memref sig .tc .vmem S1024x1024 .bf16) (arg10 : Memref sig .tc .vmem S1024x1024 .bf16) (arg11 : Memref sig .tc .vmem S1x1024 .f32) (arg12 : Memref sig .tc .vmem S1024x1024 .bf16) (arg13 : Memref sig .tc .vmem S1x1024 .f32) (arg14 : Memref sig .tc .vmem S1x1024 .f32) (arg15 : Memref sig .tc .vmem S1x1024 .f32) (arg16 : Memref sig .tc .vmem S1x1024x2560 .fp8e4m3) (arg17 : Memref sig .tc .vmem S1x2560 .f32) (arg18 : Memref sig .tc .vmem S1x2048x1024 .fp8e4m3) (arg19 : Memref sig .tc .vmem S1x1024 .f32) (arg20 : Memref sig .tc .vmem S1x2x1024x4096 .fp8e4m3) (arg21 : Memref sig .tc .vmem S1x2x4096 .f32) (arg22 : Memref sig .tc .vmem S1x4096x1024 .fp8e4m3) (arg23 : Memref sig .tc .vmem S1x1024 .f32) (arg24 : Memref sig .tc .vmem S1x1024 .f32) (arg25 : Memref sig .tc .vmem S1024x32 .f32) (arg26 : Memref sig .tc .vmem S1x32 .f32) (arg27 : Memref sig .tc .vmem S1x2x896x256 .i8) (arg28 : Memref sig .tc .vmem S1x2x896x256 .i8) (arg29 : Memref sig .tc .vmem S2x1x896 .f32) (arg30 : Memref sig .tc .vmem S2x1x896 .f32) (arg31 : Memref sig .tc .vmem S2x1x1 .i32) (arg32 : Memref sig .tc .vmem S2x51x128 .f32) (arg33 : Memref sig .tc .vmem S2x51x128 .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (X_arg25 : BufTy.Contents (Elt F) arg25.view.ty) (X_arg26 : BufTy.Contents (Elt F) arg26.view.ty) (X_arg27 : BufTy.Contents (Elt F) arg27.view.ty) (X_arg28 : BufTy.Contents (Elt F) arg28.view.ty) (X_arg29 : BufTy.Contents (Elt F) arg29.view.ty) (X_arg30 : BufTy.Contents (Elt F) arg30.view.ty) (X_arg31 : BufTy.Contents (Elt F) arg31.view.ty) (X_arg32 : BufTy.Contents (Elt F) arg32.view.ty) (X_arg33 : BufTy.Contents (Elt F) arg33.view.ty) : Ins F where
  y1 := View.readAt (Elt F) arg1.view (Rect.unit (s := S2x1x32) ![0, 0, 0] S2x1x32.size inb_S2x1x32_S2x1x32_0_0_0).toLoadRect X_arg1
  y2 := View.readAt (Elt F) arg2.view (Rect.unit (s := S2x1x1) ![0, 0, 0] S2x1x1.size inb_S2x1x1_S2x1x1_0_0_0).toLoadRect X_arg2
  y3 := View.readAt (Elt F) arg3.view (Rect.unit (s := S2x1x1) ![0, 0, 0] S2x1x1.size inb_S2x1x1_S2x1x1_0_0_0).toLoadRect X_arg3
  y4 := View.readAt (Elt F) arg4.view (Rect.unit (s := S1x512) ![0, 0] S1x512.size inb_S1x512_S1x512_0_0).toLoadRect X_arg4
  y5 := View.readAt (Elt F) arg5.view (Rect.unit (s := S32x1024) ![0, 0] S32x1024.size inb_S32x1024_S32x1024_0_0).toLoadRect X_arg5
  y6 := View.readAt (Elt F) arg6.view (Rect.unit (s := S1x1024) ![0, 0] S1x1024.size inb_S1x1024_S1x1024_0_0).toLoadRect X_arg6
  y7 := View.readAt (Elt F) arg7.view (Rect.unit (s := S32x1024) ![0, 0] S32x1024.size inb_S32x1024_S32x1024_0_0).toLoadRect X_arg7
  y8 := View.readAt (Elt F) arg8.view (Rect.unit (s := S1x1024) ![0, 0] S1x1024.size inb_S1x1024_S1x1024_0_0).toLoadRect X_arg8
  y9 := View.readAt (Elt F) arg9.view (Rect.unit (s := S1024x1024) ![0, 0] S1024x1024.size inb_S1024x1024_S1024x1024_0_0).toLoadRect X_arg9
  y10 := View.readAt (Elt F) arg10.view (Rect.unit (s := S1024x1024) ![0, 0] S1024x1024.size inb_S1024x1024_S1024x1024_0_0).toLoadRect X_arg10
  y11 := View.readAt (Elt F) arg11.view (Rect.unit (s := S1x1024) ![0, 0] S1x1024.size inb_S1x1024_S1x1024_0_0).toLoadRect X_arg11
  y12 := View.readAt (Elt F) arg12.view (Rect.unit (s := S1024x1024) ![0, 0] S1024x1024.size inb_S1024x1024_S1024x1024_0_0).toLoadRect X_arg12
  y13 := View.readAt (Elt F) arg13.view (Rect.unit (s := S1x1024) ![0, 0] S1x1024.size inb_S1x1024_S1x1024_0_0).toLoadRect X_arg13
  y14 := View.readAt (Elt F) arg14.view (Rect.unit (s := S1x1024) ![0, 0] S1x1024.size inb_S1x1024_S1x1024_0_0).toLoadRect X_arg14
  y15 := View.readAt (Elt F) arg15.view (Rect.unit (s := S1x1024) ![0, 0] S1x1024.size inb_S1x1024_S1x1024_0_0).toLoadRect X_arg15
  y16 := View.readAt (Elt F) arg16.view (Rect.unit (s := S1x1024x2560) ![0, 0, 0] S1x1024x2560.size inb_S1x1024x2560_S1x1024x2560_0_0_0).toLoadRect X_arg16
  y17 := View.readAt (Elt F) arg17.view (Rect.unit (s := S1x2560) ![0, 0] S1x2560.size inb_S1x2560_S1x2560_0_0).toLoadRect X_arg17
  y18 := View.readAt (Elt F) arg18.view (Rect.unit (s := S1x2048x1024) ![0, 0, 0] S1x2048x1024.size inb_S1x2048x1024_S1x2048x1024_0_0_0).toLoadRect X_arg18
  y19 := View.readAt (Elt F) arg19.view (Rect.unit (s := S1x1024) ![0, 0] S1x1024.size inb_S1x1024_S1x1024_0_0).toLoadRect X_arg19
  y20 := View.readAt (Elt F) arg20.view (Rect.unit (s := S1x2x1024x4096) ![0, 0, 0, 0] S1x1x1024x4096.size inb_S1x2x1024x4096_S1x1x1024x4096_0_0_0_0).toLoadRect X_arg20
  y20b := View.readAt (Elt F) arg20.view (Rect.unit (s := S1x2x1024x4096) ![0, 1, 0, 0] S1x1x1024x4096.size inb_S1x2x1024x4096_S1x1x1024x4096_0_1_0_0).toLoadRect X_arg20
  y21 := View.readAt (Elt F) arg21.view (Rect.unit (s := S1x2x4096) ![0, 0, 0] S1x1x4096.size inb_S1x2x4096_S1x1x4096_0_0_0).toLoadRect X_arg21
  y21b := View.readAt (Elt F) arg21.view (Rect.unit (s := S1x2x4096) ![0, 1, 0] S1x1x4096.size inb_S1x2x4096_S1x1x4096_0_1_0).toLoadRect X_arg21
  y22 := View.readAt (Elt F) arg22.view (Rect.unit (s := S1x4096x1024) ![0, 0, 0] S1x4096x1024.size inb_S1x4096x1024_S1x4096x1024_0_0_0).toLoadRect X_arg22
  y23 := View.readAt (Elt F) arg23.view (Rect.unit (s := S1x1024) ![0, 0] S1x1024.size inb_S1x1024_S1x1024_0_0).toLoadRect X_arg23
  y24 := View.readAt (Elt F) arg24.view (Rect.unit (s := S1x1024) ![0, 0] S1x1024.size inb_S1x1024_S1x1024_0_0).toLoadRect X_arg24
  y25 := View.readAt (Elt F) arg25.view (Rect.unit (s := S1024x32) ![0, 0] S1024x32.size inb_S1024x32_S1024x32_0_0).toLoadRect X_arg25
  y26 := View.readAt (Elt F) arg26.view (Rect.unit (s := S1x32) ![0, 0] S1x32.size inb_S1x32_S1x32_0_0).toLoadRect X_arg26
  y27 := View.readAt (Elt F) arg27.view (Rect.unit (s := S1x2x896x256) ![0, 0, 0, 0] S1x2x896x256.size inb_S1x2x896x256_S1x2x896x256_0_0_0_0).toLoadRect X_arg27
  y28 := View.readAt (Elt F) arg28.view (Rect.unit (s := S1x2x896x256) ![0, 0, 0, 0] S1x2x896x256.size inb_S1x2x896x256_S1x2x896x256_0_0_0_0).toLoadRect X_arg28
  y29 := View.readAt (Elt F) arg29.view (Rect.unit (s := S2x1x896) ![0, 0, 0] S2x1x896.size inb_S2x1x896_S2x1x896_0_0_0).toLoadRect X_arg29
  y30 := View.readAt (Elt F) arg30.view (Rect.unit (s := S2x1x896) ![0, 0, 0] S2x1x896.size inb_S2x1x896_S2x1x896_0_0_0).toLoadRect X_arg30
  y31 := View.readAt (Elt F) arg31.view (Rect.unit (s := S2x1x1) ![0, 0, 0] S2x1x1.size inb_S2x1x1_S2x1x1_0_0_0).toLoadRect X_arg31
  y32 := View.readAt (Elt F) arg32.view (Rect.unit (s := S2x51x128) ![0, 0, 0] S2x51x128.size inb_S2x51x128_S2x51x128_0_0_0).toLoadRect X_arg32
  y33 := View.readAt (Elt F) arg33.view (Rect.unit (s := S2x51x128) ![0, 0, 0] S2x51x128.size inb_S2x51x128_S2x51x128_0_0_0).toLoadRect X_arg33

/-- The argument blocks as a trip reads them. -/
def whole (x1 : Vec F S2x1x32 .f32) (x2 : Vec F S2x1x1 .f32) (x3 : Vec F S2x1x1 .f32) (x4 : Vec F S1x512 .f32) (x5 : Vec F S32x1024 .f32) (x6 : Vec F S1x1024 .f32) (x7 : Vec F S32x1024 .f32) (x8 : Vec F S1x1024 .f32) (x9 : Vec F S1024x1024 .bf16) (x10 : Vec F S1024x1024 .bf16) (x11 : Vec F S1x1024 .f32) (x12 : Vec F S1024x1024 .bf16) (x13 : Vec F S1x1024 .f32) (x14 : Vec F S1x1024 .f32) (x15 : Vec F S1x1024 .f32) (x16 : Vec F S1x1024x2560 .fp8e4m3) (x17 : Vec F S1x2560 .f32) (x18 : Vec F S1x2048x1024 .fp8e4m3) (x19 : Vec F S1x1024 .f32) (x20 : Vec F S1x2x1024x4096 .fp8e4m3) (x21 : Vec F S1x2x4096 .f32) (x22 : Vec F S1x4096x1024 .fp8e4m3) (x23 : Vec F S1x1024 .f32) (x24 : Vec F S1x1024 .f32) (x25 : Vec F S1024x32 .f32) (x26 : Vec F S1x32 .f32) (x27 : Vec F S1x2x896x256 .i8) (x28 : Vec F S1x2x896x256 .i8) (x29 : Vec F S2x1x896 .f32) (x30 : Vec F S2x1x896 .f32) (x31 : Vec F S2x1x1 .i32) (x32 : Vec F S2x51x128 .f32) (x33 : Vec F S2x51x128 .f32) : Ins F where
  y1 := x1
  y2 := x2
  y3 := x3
  y4 := x4
  y5 := x5
  y6 := x6
  y7 := x7
  y8 := x8
  y9 := x9
  y10 := x10
  y11 := x11
  y12 := x12
  y13 := x13
  y14 := x14
  y15 := x15
  y16 := x16
  y17 := x17
  y18 := x18
  y19 := x19
  y20 := View.ld x20 (Rect.unit (s := S1x2x1024x4096) ![0, 0, 0, 0] S1x1x1024x4096.size inb_S1x2x1024x4096_S1x1x1024x4096_0_0_0_0)
  y20b := View.ld x20 (Rect.unit (s := S1x2x1024x4096) ![0, 1, 0, 0] S1x1x1024x4096.size inb_S1x2x1024x4096_S1x1x1024x4096_0_1_0_0)
  y21 := View.ld x21 (Rect.unit (s := S1x2x4096) ![0, 0, 0] S1x1x4096.size inb_S1x2x4096_S1x1x4096_0_0_0)
  y21b := View.ld x21 (Rect.unit (s := S1x2x4096) ![0, 1, 0] S1x1x4096.size inb_S1x2x4096_S1x1x4096_0_1_0)
  y22 := x22
  y23 := x23
  y24 := x24
  y25 := x25
  y26 := x26
  y27 := x27
  y28 := x28
  y29 := x29
  y30 := x30
  y31 := x31
  y32 := x32
  y33 := x33

/-- A whole buffer read through its whole rectangle holds its contents. -/
theorem read_whole {κ : Kind} {sp : Space} {s : Shape} {e : EltTy} {m : Memref sig κ sp s e} (h : m.IsWhole) (X : s.Idx → Elt F e) {off : Fin s.rank → ℕ}
    (inb : ∀ a, off a + s.size a ≤ s.size a) (h0 : ∀ a, off a = 0) :
    View.readAt (Elt F) m.view (Rect.unit off s.size inb).toLoadRect (h.unread X) = X :=
  funext fun x => (h.readAt_unread X _ x).trans (congrFun (View.ld_unit_lit inb X h0) x)

variable (arg0 : Memref sig .tc .vmem S2x50x32 .f32) (harg0 : arg0.IsWhole) (arg1 : Memref sig .tc .vmem S2x1x32 .f32) (harg1 : arg1.IsWhole) (arg2 : Memref sig .tc .vmem S2x1x1 .f32) (harg2 : arg2.IsWhole) (arg3 : Memref sig .tc .vmem S2x1x1 .f32) (harg3 : arg3.IsWhole) (arg4 : Memref sig .tc .vmem S1x512 .f32) (harg4 : arg4.IsWhole) (arg5 : Memref sig .tc .vmem S32x1024 .f32) (harg5 : arg5.IsWhole) (arg6 : Memref sig .tc .vmem S1x1024 .f32) (harg6 : arg6.IsWhole) (arg7 : Memref sig .tc .vmem S32x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024x2560 .fp8e4m3) (harg16 : arg16.IsWhole) (arg17 : Memref sig .tc .vmem S1x2560 .f32) (harg17 : arg17.IsWhole) (arg18 : Memref sig .tc .vmem S1x2048x1024 .fp8e4m3) (harg18 : arg18.IsWhole) (arg19 : Memref sig .tc .vmem S1x1024 .f32) (harg19 : arg19.IsWhole) (arg20 : Memref sig .tc .vmem S1x2x1024x4096 .fp8e4m3) (harg20 : arg20.IsWhole) (arg21 : Memref sig .tc .vmem S1x2x4096 .f32) (harg21 : arg21.IsWhole) (arg22 : Memref sig .tc .vmem S1x4096x1024 .fp8e4m3) (harg22 : arg22.IsWhole) (arg23 : Memref sig .tc .vmem S1x1024 .f32) (harg23 : arg23.IsWhole) (arg24 : Memref sig .tc .vmem S1x1024 .f32) (harg24 : arg24.IsWhole) (arg25 : Memref sig .tc .vmem S1024x32 .f32) (harg25 : arg25.IsWhole) (arg26 : Memref sig .tc .vmem S1x32 .f32) (harg26 : arg26.IsWhole) (arg27 : Memref sig .tc .vmem S1x2x896x256 .i8) (harg27 : arg27.IsWhole) (arg28 : Memref sig .tc .vmem S1x2x896x256 .i8) (harg28 : arg28.IsWhole) (arg29 : Memref sig .tc .vmem S2x1x896 .f32) (harg29 : arg29.IsWhole) (arg30 : Memref sig .tc .vmem S2x1x896 .f32) (harg30 : arg30.IsWhole) (arg31 : Memref sig .tc .vmem S2x1x1 .i32) (harg31 : arg31.IsWhole) (arg32 : Memref sig .tc .vmem S2x51x128 .f32) (harg32 : arg32.IsWhole) (arg33 : Memref sig .tc .vmem S2x51x128 .f32) (harg33 : arg33.IsWhole) (arg34 : Memref sig .tc .vmem S10x2x50x32 .f32) (harg34 : arg34.IsWhole) (arg35 : Memref sig .tc .vmem S2x50x32 .f32) (harg35 : arg35.IsWhole) (arg36 : Memref sig .tc .vmem S2x51x1024 .f32) (harg36 : arg36.IsWhole)

theorem loads_eq (x1 : Vec F S2x1x32 .f32) (x2 : Vec F S2x1x1 .f32) (x3 : Vec F S2x1x1 .f32) (x4 : Vec F S1x512 .f32) (x5 : Vec F S32x1024 .f32) (x6 : Vec F S1x1024 .f32) (x7 : Vec F S32x1024 .f32) (x8 : Vec F S1x1024 .f32) (x9 : Vec F S1024x1024 .bf16) (x10 : Vec F S1024x1024 .bf16) (x11 : Vec F S1x1024 .f32) (x12 : Vec F S1024x1024 .bf16) (x13 : Vec F S1x1024 .f32) (x14 : Vec F S1x1024 .f32) (x15 : Vec F S1x1024 .f32) (x16 : Vec F S1x1024x2560 .fp8e4m3) (x17 : Vec F S1x2560 .f32) (x18 : Vec F S1x2048x1024 .fp8e4m3) (x19 : Vec F S1x1024 .f32) (x20 : Vec F S1x2x1024x4096 .fp8e4m3) (x21 : Vec F S1x2x4096 .f32) (x22 : Vec F S1x4096x1024 .fp8e4m3) (x23 : Vec F S1x1024 .f32) (x24 : Vec F S1x1024 .f32) (x25 : Vec F S1024x32 .f32) (x26 : Vec F S1x32 .f32) (x27 : Vec F S1x2x896x256 .i8) (x28 : Vec F S1x2x896x256 .i8) (x29 : Vec F S2x1x896 .f32) (x30 : Vec F S2x1x896 .f32) (x31 : Vec F S2x1x1 .i32) (x32 : Vec F S2x51x128 .f32) (x33 : Vec F S2x51x128 .f32) :
    loads arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 (harg1.unread x1) (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22) (harg23.unread x23) (harg24.unread x24) (harg25.unread x25) (harg26.unread x26) (harg27.unread x27) (harg28.unread x28) (harg29.unread x29) (harg30.unread x30) (harg31.unread x31) (harg32.unread x32) (harg33.unread x33)
      = whole (F := F) x1 x2 x3 x4 x5 x6 x7 x8 x9 x10 x11 x12 x13 x14 x15 x16 x17 x18 x19 x20 x21 x22 x23 x24 x25 x26 x27 x28 x29 x30 x31 x32 x33 := by
  unfold loads whole
  congr 1
  · exact read_whole harg1 x1 _ (by decide)
  · exact read_whole harg2 x2 _ (by decide)
  · exact read_whole harg3 x3 _ (by decide)
  · exact read_whole harg4 x4 _ (by decide)
  · exact read_whole harg5 x5 _ (by decide)
  · exact read_whole harg6 x6 _ (by decide)
  · exact read_whole harg7 x7 _ (by decide)
  · exact read_whole harg8 x8 _ (by decide)
  · exact read_whole harg9 x9 _ (by decide)
  · exact read_whole harg10 x10 _ (by decide)
  · exact read_whole harg11 x11 _ (by decide)
  · exact read_whole harg12 x12 _ (by decide)
  · exact read_whole harg13 x13 _ (by decide)
  · exact read_whole harg14 x14 _ (by decide)
  · exact read_whole harg15 x15 _ (by decide)
  · exact read_whole harg16 x16 _ (by decide)
  · exact read_whole harg17 x17 _ (by decide)
  · exact read_whole harg18 x18 _ (by decide)
  · exact read_whole harg19 x19 _ (by decide)
  · exact funext fun y => harg20.readAt_unread x20 _ y
  · exact funext fun y => harg20.readAt_unread x20 _ y
  · exact funext fun y => harg21.readAt_unread x21 _ y
  · exact funext fun y => harg21.readAt_unread x21 _ y
  · exact read_whole harg22 x22 _ (by decide)
  · exact read_whole harg23 x23 _ (by decide)
  · exact read_whole harg24 x24 _ (by decide)
  · exact read_whole harg25 x25 _ (by decide)
  · exact read_whole harg26 x26 _ (by decide)
  · exact read_whole harg27 x27 _ (by decide)
  · exact read_whole harg28 x28 _ (by decide)
  · exact read_whole harg29 x29 _ (by decide)
  · exact read_whole harg30 x30 _ (by decide)
  · exact read_whole harg31 x31 _ (by decide)
  · exact read_whole harg32 x32 _ (by decide)
  · exact read_whole harg33 x33 _ (by decide)

end Cert.ReferenceIdeal.Rows

end
-- ==== Proof.RInsA.lean ====
/- What the reference's body finds in its inputs: the whole arrays, as the region is entered. -/
module

public import proofs.«01_k».proof.Proof.Gen.ReferenceIdeal.Frame.Runs
public import proofs.«01_k».proof.Proof.RBase
public import Idealize.ShloMosaic.Lib.Pipeline.ValueKit
public import Idealize.ShloMosaic.Lib.Claim

@[expose] public section

set_option maxRecDepth 16384

noncomputable section

namespace Cert.ReferenceIdeal.Rows

open Idealize.ShloMosaic Idealize.ShloMosaic.TcCoe Idealize.SL.Sem
open Cert.ReferenceIdeal Cert.ReferenceIdeal.Gen Cert.Model

variable (m : (ℓ : Loc nD τ sig) → Buf (Elt Ideal) ℓ)

theorem idx_in0 : ∀ t : Fin cfg0.N, win0_0.index t = ![0, 0, 0] :=
  (by decide +kernel : ∀ t : Fin grid0.N, _)

theorem in0 (c : Dev nD) (t : Fin cfg0.N) : iblk m c 0 t = V m c main_arg0 := by
  funext y
  refine congrArg (V m c main_arg0) (funext fun a => Fin.ext ((Idealize.ShloMosaic.ValueKit.view_emb_slice_whole_unit_val main_arg0 _ _ _ y a).trans ?_))
  show win0_0.index t a * win0_0.block.size a + (y a).val = _
  rw [idx_in0 t]
  fin_cases a <;> exact (congrArg (· + _) (Nat.zero_mul _)).trans (Nat.zero_add _)

theorem idx_in1 : ∀ t : Fin cfg0.N, win0_1.index t = ![0, 0, 0] :=
  (by decide +kernel : ∀ t : Fin grid0.N, _)

theorem in1 (c : Dev nD) (t : Fin cfg0.N) : iblk m c 1 t = V m c main_v0 := by
  funext y
  refine congrArg (V m c main_v0) (funext fun a => Fin.ext ((Idealize.ShloMosaic.ValueKit.view_emb_slice_whole_unit_val main_v0 _ _ _ y a).trans ?_))
  show win0_1.index t a * win0_1.block.size a + (y a).val = _
  rw [idx_in1 t]
  fin_cases a <;> exact (congrArg (· + _) (Nat.zero_mul _)).trans (Nat.zero_add _)

theorem idx_in2 : ∀ t : Fin cfg0.N, win0_2.index t = ![0, 0, 0] :=
  (by decide +kernel : ∀ t : Fin grid0.N, _)

theorem in2 (c : Dev nD) (t : Fin cfg0.N) : iblk m c 2 t = V m c main_v1 := by
  funext y
  refine congrArg (V m c main_v1) (funext fun a => Fin.ext ((Idealize.ShloMosaic.ValueKit.view_emb_slice_whole_unit_val main_v1 _ _ _ y a).trans ?_))
  show win0_2.index t a * win0_2.block.size a + (y a).val = _
  rw [idx_in2 t]
  fin_cases a <;> exact (congrArg (· + _) (Nat.zero_mul _)).trans (Nat.zero_add _)

theorem idx_in3 : ∀ t : Fin cfg0.N, win0_3.index t = ![0, 0, 0] :=
  (by decide +kernel : ∀ t : Fin grid0.N, _)

theorem in3 (c : Dev nD) (t : Fin cfg0.N) : iblk m c 3 t = V m c main_v2 := by
  funext y
  refine congrArg (V m c main_v2) (funext fun a => Fin.ext ((Idealize.ShloMosaic.ValueKit.view_emb_slice_whole_unit_val main_v2 _ _ _ y a).trans ?_))
  show win0_3.index t a * win0_3.block.size a + (y a).val = _
  rw [idx_in3 t]
  fin_cases a <;> exact (congrArg (· + _) (Nat.zero_mul _)).trans (Nat.zero_add _)

theorem idx_in4 : ∀ t : Fin cfg0.N, win0_4.index t = ![0, 0] :=
  (by decide +kernel : ∀ t : Fin grid0.N, _)

theorem in4 (c : Dev nD) (t : Fin cfg0.N) : iblk m c 4 t = V m c main_v3 := by
  funext y
  refine congrArg (V m c main_v3) (funext fun a => Fin.ext ((Idealize.ShloMosaic.ValueKit.view_emb_slice_whole_unit_val main_v3 _ _ _ y a).trans ?_))
  show win0_4.index t a * win0_4.block.size a + (y a).val = _
  rw [idx_in4 t]
  fin_cases a <;> exact (congrArg (· + _) (Nat.zero_mul _)).trans (Nat.zero_add _)

theorem idx_in5 : ∀ t : Fin cfg0.N, win0_5.index t = ![0, 0] :=
  (by decide +kernel : ∀ t : Fin grid0.N, _)

theorem in5 (c : Dev nD) (t : Fin cfg0.N) : iblk m c 5 t = V m c main_arg5 := by
  funext y
  refine congrArg (V m c main_arg5) (funext fun a => Fin.ext ((Idealize.ShloMosaic.ValueKit.view_emb_slice_whole_unit_val main_arg5 _ _ _ y a).trans ?_))
  show win0_5.index t a * win0_5.block.size a + (y a).val = _
  rw [idx_in5 t]
  fin_cases a <;> exact (congrArg (· + _) (Nat.zero_mul _)).trans (Nat.zero_add _)

theorem idx_in6 : ∀ t : Fin cfg0.N, win0_6.index t = ![0, 0] :=
  (by decide +kernel : ∀ t : Fin grid0.N, _)

theorem in6 (c : Dev nD) (t : Fin cfg0.N) : iblk m c 6 t = V m c main_v4 := by
  funext y
  refine congrArg (V m c main_v4) (funext fun a => Fin.ext ((Idealize.ShloMosaic.ValueKit.view_emb_slice_whole_unit_val main_v4 _ _ _ y a).trans ?_))
  show win0_6.index t a * win0_6.block.size a + (y a).val = _
  rw [idx_in6 t]
  fin_cases a <;> exact (congrArg (· + _) (Nat.zero_mul _)).trans (Nat.zero_add _)

theorem idx_in7 : ∀ t : Fin cfg0.N, win0_7.index t = ![0, 0] :=
  (by decide +kernel : ∀ t : Fin grid0.N, _)

theorem in7 (c : Dev nD) (t : Fin cfg0.N) : iblk m c 7 t = V m c main_arg7 := by
  funext y
  refine congrArg (V m c main_arg7) (funext fun a => Fin.ext ((Idealize.ShloMosaic.ValueKit.view_emb_slice_whole_unit_val main_arg7 _ _ _ y a).trans ?_))
  show win0_7.index t a * win0_7.block.size a + (y a).val = _
  rw [idx_in7 t]
  fin_cases a <;> exact (congrArg (· + _) (Nat.zero_mul _)).trans (Nat.zero_add _)

theorem idx_in8 : ∀ t : Fin cfg0.N, win0_8.index t = ![0, 0] :=
  (by decide +kernel : ∀ t : Fin grid0.N, _)

theorem in8 (c : Dev nD) (t : Fin cfg0.N) : iblk m c 8 t = V m c main_v5 := by
  funext y
  refine congrArg (V m c main_v5) (funext fun a => Fin.ext ((Idealize.ShloMosaic.ValueKit.view_emb_slice_whole_unit_val main_v5 _ _ _ y a).trans ?_))
  show win0_8.index t a * win0_8.block.size a + (y a).val = _
  rw [idx_in8 t]
  fin_cases a <;> exact (congrArg (· + _) (Nat.zero_mul _)).trans (Nat.zero_add _)

theorem idx_in9 : ∀ t : Fin cfg0.N, win0_9.index t = ![0, 0] :=
  (by decide +kernel : ∀ t : Fin grid0.N, _)

theorem in9 (c : Dev nD) (t : Fin cfg0.N) : iblk m c 9 t = V m c main_arg9 := by
  funext y
  refine congrArg (V m c main_arg9) (funext fun a => Fin.ext ((Idealize.ShloMosaic.ValueKit.view_emb_slice_whole_unit_val main_arg9 _ _ _ y a).trans ?_))
  show win0_9.index t a * win0_9.block.size a + (y a).val = _
  rw [idx_in9 t]
  fin_cases a <;> exact (congrArg (· + _) (Nat.zero_mul _)).trans (Nat.zero_add _)

theorem idx_in10 : ∀ t : Fin cfg0.N, win0_10.index t = ![0, 0] :=
  (by decide +kernel : ∀ t : Fin grid0.N, _)

theorem in10 (c : Dev nD) (t : Fin cfg0.N) : iblk m c 10 t = V m c main_arg10 := by
  funext y
  refine congrArg (V m c main_arg10) (funext fun a => Fin.ext ((Idealize.ShloMosaic.ValueKit.view_emb_slice_whole_unit_val main_arg10 _ _ _ y a).trans ?_))
  show win0_10.index t a * win0_10.block.size a + (y a).val = _
  rw [idx_in10 t]
  fin_cases a <;> exact (congrArg (· + _) (Nat.zero_mul _)).trans (Nat.zero_add _)

theorem idx_in11 : ∀ t : Fin cfg0.N, win0_11.index t = ![0, 0] :=
  (by decide +kernel : ∀ t : Fin grid0.N, _)

theorem in11 (c : Dev nD) (t : Fin cfg0.N) : iblk m c 11 t = V m c main_v6 := by
  funext y
  refine congrArg (V m c main_v6) (funext fun a => Fin.ext ((Idealize.ShloMosaic.ValueKit.view_emb_slice_whole_unit_val main_v6 _ _ _ y a).trans ?_))
  show win0_11.index t a * win0_11.block.size a + (y a).val = _
  rw [idx_in11 t]
  fin_cases a <;> exact (congrArg (· + _) (Nat.zero_mul _)).trans (Nat.zero_add _)

theorem idx_in12 : ∀ t : Fin cfg0.N, win0_12.index t = ![0, 0] :=
  (by decide +kernel : ∀ t : Fin grid0.N, _)

theorem in12 (c : Dev nD) (t : Fin cfg0.N) : iblk m c 12 t = V m c main_arg12 := by
  funext y
  refine congrArg (V m c main_arg12) (funext fun a => Fin.ext ((Idealize.ShloMosaic.ValueKit.view_emb_slice_whole_unit_val main_arg12 _ _ _ y a).trans ?_))
  show win0_12.index t a * win0_12.block.size a + (y a).val = _
  rw [idx_in12 t]
  fin_cases a <;> exact (congrArg (· + _) (Nat.zero_mul _)).trans (Nat.zero_add _)

theorem idx_in13 : ∀ t : Fin cfg0.N, win0_13.index t = ![0, 0] :=
  (by decide +kernel : ∀ t : Fin grid0.N, _)

theorem in13 (c : Dev nD) (t : Fin cfg0.N) : iblk m c 13 t = V m c main_v7 := by
  funext y
  refine congrArg (V m c main_v7) (funext fun a => Fin.ext ((Idealize.ShloMosaic.ValueKit.view_emb_slice_whole_unit_val main_v7 _ _ _ y a).trans ?_))
  show win0_13.index t a * win0_13.block.size a + (y a).val = _
  rw [idx_in13 t]
  fin_cases a <;> exact (congrArg (· + _) (Nat.zero_mul _)).trans (Nat.zero_add _)

theorem idx_in14 : ∀ t : Fin cfg0.N, win0_14.index t = ![0, 0] :=
  (by decide +kernel : ∀ t : Fin grid0.N, _)

theorem in14 (c : Dev nD) (t : Fin cfg0.N) : iblk m c 14 t = V m c main_arg14 := by
  funext y
  refine congrArg (V m c main_arg14) (funext fun a => Fin.ext ((Idealize.ShloMosaic.ValueKit.view_emb_slice_whole_unit_val main_arg14 _ _ _ y a).trans ?_))
  show win0_14.index t a * win0_14.block.size a + (y a).val = _
  rw [idx_in14 t]
  fin_cases a <;> exact (congrArg (· + _) (Nat.zero_mul _)).trans (Nat.zero_add _)

theorem idx_in15 : ∀ t : Fin cfg0.N, win0_15.index t = ![0, 0] :=
  (by decide +kernel : ∀ t : Fin grid0.N, _)

theorem in15 (c : Dev nD) (t : Fin cfg0.N) : iblk m c 15 t = V m c main_arg15 := by
  funext y
  refine congrArg (V m c main_arg15) (funext fun a => Fin.ext ((Idealize.ShloMosaic.ValueKit.view_emb_slice_whole_unit_val main_arg15 _ _ _ y a).trans ?_))
  show win0_15.index t a * win0_15.block.size a + (y a).val = _
  rw [idx_in15 t]
  fin_cases a <;> exact (congrArg (· + _) (Nat.zero_mul _)).trans (Nat.zero_add _)

theorem idx_in16 : ∀ t : Fin cfg0.N, win0_16.index t = ![0, 0, 0] :=
  (by decide +kernel : ∀ t : Fin grid0.N, _)

theorem in16 (c : Dev nD) (t : Fin cfg0.N) : iblk m c 16 t = V m c main_arg16 := by
  funext y
  refine congrArg (V m c main_arg16) (funext fun a => Fin.ext ((Idealize.ShloMosaic.ValueKit.view_emb_slice_whole_unit_val main_arg16 _ _ _ y a).trans ?_))
  show win0_16.index t a * win0_16.block.size a + (y a).val = _
  rw [idx_in16 t]
  fin_cases a <;> exact (congrArg (· + _) (Nat.zero_mul _)).trans (Nat.zero_add _)

end Cert.ReferenceIdeal.Rows

end
-- ==== Proof.RInsB.lean ====
/- What the reference's body finds in its inputs: the whole arrays, as the region is entered. -/
module

public import proofs.«01_k».proof.Proof.Gen.ReferenceIdeal.Frame.Runs
public import proofs.«01_k».proof.Proof.RBase
public import Idealize.ShloMosaic.Lib.Pipeline.ValueKit
public import Idealize.ShloMosaic.Lib.Claim

@[expose] public section

set_option maxRecDepth 16384

noncomputable section

namespace Cert.ReferenceIdeal.Rows

open Idealize.ShloMosaic Idealize.ShloMosaic.TcCoe Idealize.SL.Sem
open Cert.ReferenceIdeal Cert.ReferenceIdeal.Gen Cert.Model

variable (m : (ℓ : Loc nD τ sig) → Buf (Elt Ideal) ℓ)

theorem idx_in17 : ∀ t : Fin cfg0.N, win0_17.index t = ![0, 0] :=
  (by decide +kernel : ∀ t : Fin grid0.N, _)

theorem in17 (c : Dev nD) (t : Fin cfg0.N) : iblk m c 17 t = V m c main_arg17 := by
  funext y
  refine congrArg (V m c main_arg17) (funext fun a => Fin.ext ((Idealize.ShloMosaic.ValueKit.view_emb_slice_whole_unit_val main_arg17 _ _ _ y a).trans ?_))
  show win0_17.index t a * win0_17.block.size a + (y a).val = _
  rw [idx_in17 t]
  fin_cases a <;> exact (congrArg (· + _) (Nat.zero_mul _)).trans (Nat.zero_add _)

theorem idx_in18 : ∀ t : Fin cfg0.N, win0_18.index t = ![0, 0, 0] :=
  (by decide +kernel : ∀ t : Fin grid0.N, _)

theorem in18 (c : Dev nD) (t : Fin cfg0.N) : iblk m c 18 t = V m c main_arg18 := by
  funext y
  refine congrArg (V m c main_arg18) (funext fun a => Fin.ext ((Idealize.ShloMosaic.ValueKit.view_emb_slice_whole_unit_val main_arg18 _ _ _ y a).trans ?_))
  show win0_18.index t a * win0_18.block.size a + (y a).val = _
  rw [idx_in18 t]
  fin_cases a <;> exact (congrArg (· + _) (Nat.zero_mul _)).trans (Nat.zero_add _)

theorem idx_in19 : ∀ t : Fin cfg0.N, win0_19.index t = ![0, 0] :=
  (by decide +kernel : ∀ t : Fin grid0.N, _)

theorem in19 (c : Dev nD) (t : Fin cfg0.N) : iblk m c 19 t = V m c main_arg19 := by
  funext y
  refine congrArg (V m c main_arg19) (funext fun a => Fin.ext ((Idealize.ShloMosaic.ValueKit.view_emb_slice_whole_unit_val main_arg19 _ _ _ y a).trans ?_))
  show win0_19.index t a * win0_19.block.size a + (y a).val = _
  rw [idx_in19 t]
  fin_cases a <;> exact (congrArg (· + _) (Nat.zero_mul _)).trans (Nat.zero_add _)

theorem idx_in20 : ∀ t : Fin cfg0.N, win0_20.index t = ![0, 0, 0, 0] :=
  (by decide +kernel : ∀ t : Fin grid0.N, _)

theorem in20 (c : Dev nD) (t : Fin cfg0.N) : iblk m c 20 t = V m c main_arg20 := by
  funext y
  refine congrArg (V m c main_arg20) (funext fun a => Fin.ext ((Idealize.ShloMosaic.ValueKit.view_emb_slice_whole_unit_val main_arg20 _ _ _ y a).trans ?_))
  show win0_20.index t a * win0_20.block.size a + (y a).val = _
  rw [idx_in20 t]
  fin_cases a <;> exact (congrArg (· + _) (Nat.zero_mul _)).trans (Nat.zero_add _)

theorem idx_in21 : ∀ t : Fin cfg0.N, win0_21.index t = ![0, 0, 0] :=
  (by decide +kernel : ∀ t : Fin grid0.N, _)

theorem in21 (c : Dev nD) (t : Fin cfg0.N) : iblk m c 21 t = V m c main_arg21 := by
  funext y
  refine congrArg (V m c main_arg21) (funext fun a => Fin.ext ((Idealize.ShloMosaic.ValueKit.view_emb_slice_whole_unit_val main_arg21 _ _ _ y a).trans ?_))
  show win0_21.index t a * win0_21.block.size a + (y a).val = _
  rw [idx_in21 t]
  fin_cases a <;> exact (congrArg (· + _) (Nat.zero_mul _)).trans (Nat.zero_add _)

theorem idx_in22 : ∀ t : Fin cfg0.N, win0_22.index t = ![0, 0, 0] :=
  (by decide +kernel : ∀ t : Fin grid0.N, _)

theorem in22 (c : Dev nD) (t : Fin cfg0.N) : iblk m c 22 t = V m c main_arg22 := by
  funext y
  refine congrArg (V m c main_arg22) (funext fun a => Fin.ext ((Idealize.ShloMosaic.ValueKit.view_emb_slice_whole_unit_val main_arg22 _ _ _ y a).trans ?_))
  show win0_22.index t a * win0_22.block.size a + (y a).val = _
  rw [idx_in22 t]
  fin_cases a <;> exact (congrArg (· + _) (Nat.zero_mul _)).trans (Nat.zero_add _)

theorem idx_in23 : ∀ t : Fin cfg0.N, win0_23.index t = ![0, 0] :=
  (by decide +kernel : ∀ t : Fin grid0.N, _)

theorem in23 (c : Dev nD) (t : Fin cfg0.N) : iblk m c 23 t = V m c main_arg23 := by
  funext y
  refine congrArg (V m c main_arg23) (funext fun a => Fin.ext ((Idealize.ShloMosaic.ValueKit.view_emb_slice_whole_unit_val main_arg23 _ _ _ y a).trans ?_))
  show win0_23.index t a * win0_23.block.size a + (y a).val = _
  rw [idx_in23 t]
  fin_cases a <;> exact (congrArg (· + _) (Nat.zero_mul _)).trans (Nat.zero_add _)

theorem idx_in24 : ∀ t : Fin cfg0.N, win0_24.index t = ![0, 0] :=
  (by decide +kernel : ∀ t : Fin grid0.N, _)

theorem in24 (c : Dev nD) (t : Fin cfg0.N) : iblk m c 24 t = V m c main_v8 := by
  funext y
  refine congrArg (V m c main_v8) (funext fun a => Fin.ext ((Idealize.ShloMosaic.ValueKit.view_emb_slice_whole_unit_val main_v8 _ _ _ y a).trans ?_))
  show win0_24.index t a * win0_24.block.size a + (y a).val = _
  rw [idx_in24 t]
  fin_cases a <;> exact (congrArg (· + _) (Nat.zero_mul _)).trans (Nat.zero_add _)

theorem idx_in25 : ∀ t : Fin cfg0.N, win0_25.index t = ![0, 0] :=
  (by decide +kernel : ∀ t : Fin grid0.N, _)

theorem in25 (c : Dev nD) (t : Fin cfg0.N) : iblk m c 25 t = V m c main_arg25 := by
  funext y
  refine congrArg (V m c main_arg25) (funext fun a => Fin.ext ((Idealize.ShloMosaic.ValueKit.view_emb_slice_whole_unit_val main_arg25 _ _ _ y a).trans ?_))
  show win0_25.index t a * win0_25.block.size a + (y a).val = _
  rw [idx_in25 t]
  fin_cases a <;> exact (congrArg (· + _) (Nat.zero_mul _)).trans (Nat.zero_add _)

theorem idx_in26 : ∀ t : Fin cfg0.N, win0_26.index t = ![0, 0] :=
  (by decide +kernel : ∀ t : Fin grid0.N, _)

theorem in26 (c : Dev nD) (t : Fin cfg0.N) : iblk m c 26 t = V m c main_v9 := by
  funext y
  refine congrArg (V m c main_v9) (funext fun a => Fin.ext ((Idealize.ShloMosaic.ValueKit.view_emb_slice_whole_unit_val main_v9 _ _ _ y a).trans ?_))
  show win0_26.index t a * win0_26.block.size a + (y a).val = _
  rw [idx_in26 t]
  fin_cases a <;> exact (congrArg (· + _) (Nat.zero_mul _)).trans (Nat.zero_add _)

theorem idx_in27 : ∀ t : Fin cfg0.N, win0_27.index t = ![0, 0, 0, 0] :=
  (by decide +kernel : ∀ t : Fin grid0.N, _)

theorem in27 (c : Dev nD) (t : Fin cfg0.N) : iblk m c 27 t = V m c main_arg27 := by
  funext y
  refine congrArg (V m c main_arg27) (funext fun a => Fin.ext ((Idealize.ShloMosaic.ValueKit.view_emb_slice_whole_unit_val main_arg27 _ _ _ y a).trans ?_))
  show win0_27.index t a * win0_27.block.size a + (y a).val = _
  rw [idx_in27 t]
  fin_cases a <;> exact (congrArg (· + _) (Nat.zero_mul _)).trans (Nat.zero_add _)

theorem idx_in28 : ∀ t : Fin cfg0.N, win0_28.index t = ![0, 0, 0, 0] :=
  (by decide +kernel : ∀ t : Fin grid0.N, _)

theorem in28 (c : Dev nD) (t : Fin cfg0.N) : iblk m c 28 t = V m c main_arg28 := by
  funext y
  refine congrArg (V m c main_arg28) (funext fun a => Fin.ext ((Idealize.ShloMosaic.ValueKit.view_emb_slice_whole_unit_val main_arg28 _ _ _ y a).trans ?_))
  show win0_28.index t a * win0_28.block.size a + (y a).val = _
  rw [idx_in28 t]
  fin_cases a <;> exact (congrArg (· + _) (Nat.zero_mul _)).trans (Nat.zero_add _)

theorem idx_in29 : ∀ t : Fin cfg0.N, win0_29.index t = ![0, 0, 0] :=
  (by decide +kernel : ∀ t : Fin grid0.N, _)

theorem in29 (c : Dev nD) (t : Fin cfg0.N) : iblk m c 29 t = V m c main_v10 := by
  funext y
  refine congrArg (V m c main_v10) (funext fun a => Fin.ext ((Idealize.ShloMosaic.ValueKit.view_emb_slice_whole_unit_val main_v10 _ _ _ y a).trans ?_))
  show win0_29.index t a * win0_29.block.size a + (y a).val = _
  rw [idx_in29 t]
  fin_cases a <;> exact (congrArg (· + _) (Nat.zero_mul _)).trans (Nat.zero_add _)

theorem idx_in30 : ∀ t : Fin cfg0.N, win0_30.index t = ![0, 0, 0] :=
  (by decide +kernel : ∀ t : Fin grid0.N, _)

theorem in30 (c : Dev nD) (t : Fin cfg0.N) : iblk m c 30 t = V m c main_v11 := by
  funext y
  refine congrArg (V m c main_v11) (funext fun a => Fin.ext ((Idealize.ShloMosaic.ValueKit.view_emb_slice_whole_unit_val main_v11 _ _ _ y a).trans ?_))
  show win0_30.index t a * win0_30.block.size a + (y a).val = _
  rw [idx_in30 t]
  fin_cases a <;> exact (congrArg (· + _) (Nat.zero_mul _)).trans (Nat.zero_add _)

theorem idx_in31 : ∀ t : Fin cfg0.N, win0_31.index t = ![0, 0, 0] :=
  (by decide +kernel : ∀ t : Fin grid0.N, _)

theorem in31 (c : Dev nD) (t : Fin cfg0.N) : iblk m c 31 t = V m c main_v12 := by
  funext y
  refine congrArg (V m c main_v12) (funext fun a => Fin.ext ((Idealize.ShloMosaic.ValueKit.view_emb_slice_whole_unit_val main_v12 _ _ _ y a).trans ?_))
  show win0_31.index t a * win0_31.block.size a + (y a).val = _
  rw [idx_in31 t]
  fin_cases a <;> exact (congrArg (· + _) (Nat.zero_mul _)).trans (Nat.zero_add _)

theorem idx_in32 : ∀ t : Fin cfg0.N, win0_32.index t = ![0, 0, 0] :=
  (by decide +kernel : ∀ t : Fin grid0.N, _)

theorem in32 (c : Dev nD) (t : Fin cfg0.N) : iblk m c 32 t = V m c main_arg32 := by
  funext y
  refine congrArg (V m c main_arg32) (funext fun a => Fin.ext ((Idealize.ShloMosaic.ValueKit.view_emb_slice_whole_unit_val main_arg32 _ _ _ y a).trans ?_))
  show win0_32.index t a * win0_32.block.size a + (y a).val = _
  rw [idx_in32 t]
  fin_cases a <;> exact (congrArg (· + _) (Nat.zero_mul _)).trans (Nat.zero_add _)

theorem idx_in33 : ∀ t : Fin cfg0.N, win0_33.index t = ![0, 0, 0] :=
  (by decide +kernel : ∀ t : Fin grid0.N, _)

theorem in33 (c : Dev nD) (t : Fin cfg0.N) : iblk m c 33 t = V m c main_arg33 := by
  funext y
  refine congrArg (V m c main_arg33) (funext fun a => Fin.ext ((Idealize.ShloMosaic.ValueKit.view_emb_slice_whole_unit_val main_arg33 _ _ _ y a).trans ?_))
  show win0_33.index t a * win0_33.block.size a + (y a).val = _
  rw [idx_in33 t]
  fin_cases a <;> exact (congrArg (· + _) (Nat.zero_mul _)).trans (Nat.zero_add _)

end Cert.ReferenceIdeal.Rows

end
-- ==== Proof.RArgs.lean ====
/- The model's arguments read off the reference's argument arrays, and what its body finds of them. -/
module

public import proofs.«01_k».proof.Proof.RefFrame
public import proofs.«01_k».proof.Proof.RStep
public import proofs.«01_k».proof.Proof.RWhole
public import proofs.«01_k».proof.Proof.RInsA
public import proofs.«01_k».proof.Proof.RInsB

@[expose] public section

set_option maxRecDepth 16384

noncomputable section

namespace Cert.ReferenceIdeal.Rows

open Idealize.ShloMosaic Idealize.ShloMosaic.TcCoe Idealize.SL.Sem
open Cert.ReferenceIdeal Cert.ReferenceIdeal.Gen Cert.Model

variable (m : (ℓ : Loc nD τ sig) → Buf (Elt Ideal) ℓ)

/-- The model's arguments in the reference's argument arrays. -/
def args (c : Dev nD) : Args where
  x b t j := m ((c : Thread nD τ).loc main_arg0) (ix3 b t j)
  state b j := m ((c : Thread nD τ).loc main_arg1) (ix2 b j)
  time0 b := m ((c : Thread nD τ).loc main_arg2) (ix1 b)
  dt b := m ((c : Thread nD τ).loc main_arg3) (ix1 b)
  freq j := m ((c : Thread nD τ).loc main_arg4) (ix1 j)
  wState k j := m ((c : Thread nD τ).loc main_arg5) (ix2 k j)
  bState j := m ((c : Thread nD τ).loc main_arg6) (ix1 j)
  wAin k j := m ((c : Thread nD τ).loc main_arg7) (ix2 k j)
  bAin j := m ((c : Thread nD τ).loc main_arg8) (ix1 j)
  wTinA k j := m ((c : Thread nD τ).loc main_arg9) (ix2 k j)
  wTinT k j := m ((c : Thread nD τ).loc main_arg10) (ix2 k j)
  bTin j := m ((c : Thread nD τ).loc main_arg11) (ix1 j)
  wTout k j := m ((c : Thread nD τ).loc main_arg12) (ix2 k j)
  bTout j := m ((c : Thread nD τ).loc main_arg13) (ix1 j)
  ln1 j := m ((c : Thread nD τ).loc main_arg14) (ix2 0 j)
  ln2 j := m ((c : Thread nD τ).loc main_arg15) (ix2 0 j)
  wQkv k j := m ((c : Thread nD τ).loc main_arg16) (ix3 0 k j)
  sQkv j := m ((c : Thread nD τ).loc main_arg17) (ix2 0 j)
  wO k j := m ((c : Thread nD τ).loc main_arg18) (ix3 0 k j)
  sO j := m ((c : Thread nD τ).loc main_arg19) (ix2 0 j)
  wGate k j := m ((c : Thread nD τ).loc main_arg20) (ix4 0 0 k j)
  sGate j := m ((c : Thread nD τ).loc main_arg21) (ix3 0 0 j)
  wUp k j := m ((c : Thread nD τ).loc main_arg20) (ix4 0 1 k j)
  sUp j := m ((c : Thread nD τ).loc main_arg21) (ix3 0 1 j)
  wDown k j := m ((c : Thread nD τ).loc main_arg22) (ix3 0 k j)
  sDown j := m ((c : Thread nD τ).loc main_arg23) (ix2 0 j)
  fn j := m ((c : Thread nD τ).loc main_arg24) (ix1 j)
  wOut k j := m ((c : Thread nD τ).loc main_arg25) (ix2 k j)
  bOut j := m ((c : Thread nD τ).loc main_arg26) (ix1 j)
  kCode b t d := FloatOps.sitofp (F := Ideal) .f32 (m ((c : Thread nD τ).loc main_arg27) (ix4 0 b t d))
  vCode b t d := FloatOps.sitofp (F := Ideal) .f32 (m ((c : Thread nD τ).loc main_arg28) (ix4 0 b t d))
  kScale b t := m ((c : Thread nD τ).loc main_arg29) (ix3 0 b t)
  vScale b t := m ((c : Thread nD τ).loc main_arg30) (ix3 0 b t)
  plen b := m ((c : Thread nD τ).loc main_arg31) (ix1 b)
  cos b t j := m ((c : Thread nD τ).loc main_arg32) (ix3 b t j)
  sin b t j := m ((c : Thread nD τ).loc main_arg33) (ix3 b t j)

theorem ld_up (x : Vec Ideal S1x2x1024x4096 .fp8e4m3) (k : Fin 1024) (j : Fin 4096) :
    View.ld (Val := Elt Ideal) x (Rect.unit (s := S1x2x1024x4096) ![0, 1, 0, 0] S1x1x1024x4096.size inb_S1x2x1024x4096_S1x1x1024x4096_0_1_0_0) (ix4 0 0 k j) = x (ix4 0 1 k j) :=
  View.ld_unit_apply_of (Val := Elt Ideal) x ![0, 1, 0, 0] S1x1x1024x4096.size inb_S1x2x1024x4096_S1x1x1024x4096_0_1_0_0 (ix4 (0 : Fin 1) (0 : Fin 1) k j) (ix4 (0 : Fin 1) (1 : Fin 2) k j)
    (by intro a; fin_cases a <;> first | rfl | exact (Nat.zero_add _).symm)

theorem ld_gate (x : Vec Ideal S1x2x1024x4096 .fp8e4m3) (k : Fin 1024) (j : Fin 4096) :
    View.ld (Val := Elt Ideal) x (Rect.unit (s := S1x2x1024x4096) ![0, 0, 0, 0] S1x1x1024x4096.size inb_S1x2x1024x4096_S1x1x1024x4096_0_0_0_0) (ix4 0 0 k j) = x (ix4 0 0 k j) :=
  View.ld_unit_apply_of (Val := Elt Ideal) x ![0, 0, 0, 0] S1x1x1024x4096.size inb_S1x2x1024x4096_S1x1x1024x4096_0_0_0_0 (ix4 (0 : Fin 1) (0 : Fin 1) k j) (ix4 (0 : Fin 1) (0 : Fin 2) k j)
    (by intro a; fin_cases a <;> first | rfl | exact (Nat.zero_add _).symm)

theorem ld_sUp (x : Vec Ideal S1x2x4096 .f32) (j : Fin 4096) :
    View.ld (Val := Elt Ideal) x (Rect.unit (s := S1x2x4096) ![0, 1, 0] S1x1x4096.size inb_S1x2x4096_S1x1x4096_0_1_0) (ix3 0 0 j) = x (ix3 0 1 j) :=
  View.ld_unit_apply_of (Val := Elt Ideal) x ![0, 1, 0] S1x1x4096.size inb_S1x2x4096_S1x1x4096_0_1_0 (ix3 (0 : Fin 1) (0 : Fin 1) j) (ix3 (0 : Fin 1) (1 : Fin 2) j)
    (by intro a; fin_cases a <;> first | rfl | exact (Nat.zero_add _).symm)

theorem ld_sGate (x : Vec Ideal S1x2x4096 .f32) (j : Fin 4096) :
    View.ld (Val := Elt Ideal) x (Rect.unit (s := S1x2x4096) ![0, 0, 0] S1x1x4096.size inb_S1x2x4096_S1x1x4096_0_0_0) (ix3 0 0 j) = x (ix3 0 0 j) :=
  View.ld_unit_apply_of (Val := Elt Ideal) x ![0, 0, 0] S1x1x4096.size inb_S1x2x4096_S1x1x4096_0_0_0 (ix3 (0 : Fin 1) (0 : Fin 1) j) (ix3 (0 : Fin 1) (0 : Fin 2) j)
    (by intro a; fin_cases a <;> first | rfl | exact (Nat.zero_add _).symm)

/-- What the trips read at the grid point. -/
abbrev insAt (c : Dev nD) (t : Fin cfg0.N) : Ins Ideal := whole (F := Ideal) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t)

theorem x_row (c : Dev nD) (t : Fin cfg0.N) (b : Fin 2) (i : Fin 50) : row3 (a := 2) (m := 50) (n := 32) (iblk m c 0 t) b i = (args m c).x b i := by
  funext j
  show iblk m c 0 t _ = _
  rw [in0]
  entry_read
  rfl

set_option maxHeartbeats 0 in
/-- The body's inputs hold the model's arguments. -/
theorem reads (c : Dev nD) (t : Fin cfg0.N) : ReadsR (insAt m c t) (args m c) where
  state b := by funext j; show iblk m c 1 t _ = _; rw [in1]; entry_read; pointwise; rfl
  time0 b := by show iblk m c 2 t _ = _; rw [in2]; entry_read; pointwise; rfl
  dt b := by show iblk m c 3 t _ = _; rw [in3]; entry_read; pointwise; rfl
  freq := by funext j; show iblk m c 4 t _ = _; rw [in4]; entry_read; pointwise; rfl
  wState := by funext k j; show iblk m c 5 t _ = _; rw [in5]; entry_read; rfl
  bState := by funext j; show iblk m c 6 t _ = _; rw [in6]; entry_read; pointwise; rfl
  wAin := by funext k j; show iblk m c 7 t _ = _; rw [in7]; entry_read; rfl
  bAin := by funext j; show iblk m c 8 t _ = _; rw [in8]; entry_read; pointwise; rfl
  wTinA := by funext k j; show iblk m c 9 t _ = _; rw [in9]; entry_read; rfl
  wTinT := by funext k j; show iblk m c 10 t _ = _; rw [in10]; entry_read; rfl
  bTin := by funext j; show iblk m c 11 t _ = _; rw [in11]; entry_read; pointwise; rfl
  wTout := by funext k j; show iblk m c 12 t _ = _; rw [in12]; entry_read; rfl
  bTout := by funext j; show iblk m c 13 t _ = _; rw [in13]; entry_read; pointwise; rfl
  ln1 := by funext j; show iblk m c 14 t _ = _; rw [in14]; entry_read; rfl
  ln2 := by funext j; show iblk m c 15 t _ = _; rw [in15]; entry_read; rfl
  wQkv := by funext k j; show iblk m c 16 t _ = _; rw [in16]; entry_read; rfl
  sQkv := by funext j; show iblk m c 17 t _ = _; rw [in17]; entry_read; rfl
  wO := by funext k j; show iblk m c 18 t _ = _; rw [in18]; entry_read; rfl
  sO := by funext j; show iblk m c 19 t _ = _; rw [in19]; entry_read; rfl
  wGate := by funext k j; refine (ld_gate (iblk m c 20 t) k j).trans ?_; rw [in20]; entry_read; rfl
  sGate := by funext j; refine (ld_sGate (iblk m c 21 t) j).trans ?_; rw [in21]; entry_read; rfl
  wUp := by funext k j; refine (ld_up (iblk m c 20 t) k j).trans ?_; rw [in20]; entry_read; rfl
  sUp := by funext j; refine (ld_sUp (iblk m c 21 t) j).trans ?_; rw [in21]; entry_read; rfl
  wDown := by funext k j; show iblk m c 22 t _ = _; rw [in22]; entry_read; rfl
  sDown := by funext j; show iblk m c 23 t _ = _; rw [in23]; entry_read; rfl
  fn := by funext j; show iblk m c 24 t _ = _; rw [in24]; entry_read; pointwise; rfl
  wOut := by funext k j; show iblk m c 25 t _ = _; rw [in25]; entry_read; rfl
  bOut := by funext j; show iblk m c 26 t _ = _; rw [in26]; entry_read; pointwise; rfl
  kCode b := by funext t' d; refine congrArg (FloatOps.sitofp (F := Ideal) .f32) ?_; show iblk m c 27 t _ = _; rw [in27]; entry_read; rfl
  vCode b := by funext t' d; refine congrArg (FloatOps.sitofp (F := Ideal) .f32) ?_; show iblk m c 28 t _ = _; rw [in28]; entry_read; rfl
  kScale b := by funext t'; show iblk m c 29 t _ = _; rw [in29]; entry_read; pointwise; rfl
  vScale b := by funext t'; show iblk m c 30 t _ = _; rw [in30]; entry_read; pointwise; rfl
  plen b := by show iblk m c 31 t _ = _; rw [in31]; entry_read; pointwise; rfl
  cos b t' := by funext j; show iblk m c 32 t _ = _; rw [in32]; entry_read; rfl
  sin b t' := by funext j; show iblk m c 33 t _ = _; rw [in33]; entry_read; rfl

end Cert.ReferenceIdeal.Rows

end
-- ==== Proof.RTripR.lean ====
/- What one trip of the reference's loop yields, as the chain of its payloads. -/
module

public import proofs.«01_k».proof.Proof.RWhole
public import Idealize.ShloMosaic.Lib.WholeRead
public import Idealize.ShloMosaic.Lib.Pipeline.ValueKit.Basic
public import Idealize.ShloMosaic.Lib.Pipeline.Frame

@[expose] public section

set_option maxRecDepth 16384

noncomputable section

namespace Cert.ReferenceIdeal.Rows

open Idealize.ShloMosaic Idealize.ShloMosaic.TcCoe Idealize.SL.Sem
open Cert.ReferenceIdeal Cert.ReferenceIdeal.Gen

variable {F : FTy → Type} [FloatOps F]

variable (arg0 : Memref sig .tc .vmem S2x50x32 .f32) (harg0 : arg0.IsWhole) (arg1 : Memref sig .tc .vmem S2x1x32 .f32) (harg1 : arg1.IsWhole) (arg2 : Memref sig .tc .vmem S2x1x1 .f32) (harg2 : arg2.IsWhole) (arg3 : Memref sig .tc .vmem S2x1x1 .f32) (harg3 : arg3.IsWhole) (arg4 : Memref sig .tc .vmem S1x512 .f32) (harg4 : arg4.IsWhole) (arg5 : Memref sig .tc .vmem S32x1024 .f32) (harg5 : arg5.IsWhole) (arg6 : Memref sig .tc .vmem S1x1024 .f32) (harg6 : arg6.IsWhole) (arg7 : Memref sig .tc .vmem S32x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024x2560 .fp8e4m3) (harg16 : arg16.IsWhole) (arg17 : Memref sig .tc .vmem S1x2560 .f32) (harg17 : arg17.IsWhole) (arg18 : Memref sig .tc .vmem S1x2048x1024 .fp8e4m3) (harg18 : arg18.IsWhole) (arg19 : Memref sig .tc .vmem S1x1024 .f32) (harg19 : arg19.IsWhole) (arg20 : Memref sig .tc .vmem S1x2x1024x4096 .fp8e4m3) (harg20 : arg20.IsWhole) (arg21 : Memref sig .tc .vmem S1x2x4096 .f32) (harg21 : arg21.IsWhole) (arg22 : Memref sig .tc .vmem S1x4096x1024 .fp8e4m3) (harg22 : arg22.IsWhole) (arg23 : Memref sig .tc .vmem S1x1024 .f32) (harg23 : arg23.IsWhole) (arg24 : Memref sig .tc .vmem S1x1024 .f32) (harg24 : arg24.IsWhole) (arg25 : Memref sig .tc .vmem S1024x32 .f32) (harg25 : arg25.IsWhole) (arg26 : Memref sig .tc .vmem S1x32 .f32) (harg26 : arg26.IsWhole) (arg27 : Memref sig .tc .vmem S1x2x896x256 .i8) (harg27 : arg27.IsWhole) (arg28 : Memref sig .tc .vmem S1x2x896x256 .i8) (harg28 : arg28.IsWhole) (arg29 : Memref sig .tc .vmem S2x1x896 .f32) (harg29 : arg29.IsWhole) (arg30 : Memref sig .tc .vmem S2x1x896 .f32) (harg30 : arg30.IsWhole) (arg31 : Memref sig .tc .vmem S2x1x1 .i32) (harg31 : arg31.IsWhole) (arg32 : Memref sig .tc .vmem S2x51x128 .f32) (harg32 : arg32.IsWhole) (arg33 : Memref sig .tc .vmem S2x51x128 .f32) (harg33 : arg33.IsWhole) (arg34 : Memref sig .tc .vmem S10x2x50x32 .f32) (harg34 : arg34.IsWhole) (arg35 : Memref sig .tc .vmem S2x50x32 .f32) (harg35 : arg35.IsWhole) (arg36 : Memref sig .tc .vmem S2x51x1024 .f32) (harg36 : arg36.IsWhole)

variable (𝒱 : Variants) (c : Dev nD) (bd : Option 𝒱.V) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (X_arg25 : BufTy.Contents (Elt F) arg25.view.ty) (X_arg26 : BufTy.Contents (Elt F) arg26.view.ty) (X_arg27 : BufTy.Contents (Elt F) arg27.view.ty) (X_arg28 : BufTy.Contents (Elt F) arg28.view.ty) (X_arg29 : BufTy.Contents (Elt F) arg29.view.ty) (X_arg30 : BufTy.Contents (Elt F) arg30.view.ty) (X_arg31 : BufTy.Contents (Elt F) arg31.view.ty) (X_arg32 : BufTy.Contents (Elt F) arg32.view.ty) (X_arg33 : BufTy.Contents (Elt F) arg33.view.ty)
  (k : Fin k0_t1_loop.trips) (acc : Vec F S2x50x32 .f32 × FVec F S2x51x1024 .f32)

set_option maxHeartbeats 0 in
theorem tripR_eq : tripR_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 X_arg1 X_arg2 X_arg3 X_arg4 X_arg5 X_arg6 X_arg7 X_arg8 X_arg9 X_arg10 X_arg11 X_arg12 X_arg13 X_arg14 X_arg15 X_arg16 X_arg17 X_arg18 X_arg19 X_arg20 X_arg21 X_arg22 X_arg23 X_arg24 X_arg25 X_arg26 X_arg27 X_arg28 X_arg29 X_arg30 X_arg31 X_arg32 X_arg33 k acc
    = (k0_pay4 acc.1 (w32 (loads arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 X_arg1 X_arg2 X_arg3 X_arg4 X_arg5 X_arg6 X_arg7 X_arg8 X_arg9 X_arg10 X_arg11 X_arg12 X_arg13 X_arg14 X_arg15 X_arg16 X_arg17 X_arg18 X_arg19 X_arg20 X_arg21 X_arg22 X_arg23 X_arg24 X_arg25 X_arg26 X_arg27 X_arg28 X_arg29 X_arg30 X_arg31 X_arg32 X_arg33) k acc.1) (w33 (loads arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 X_arg1 X_arg2 X_arg3 X_arg4 X_arg5 X_arg6 X_arg7 X_arg8 X_arg9 X_arg10 X_arg11 X_arg12 X_arg13 X_arg14 X_arg15 X_arg16 X_arg17 X_arg18 X_arg19 X_arg20 X_arg21 X_arg22 X_arg23 X_arg24 X_arg25 X_arg26 X_arg27 X_arg28 X_arg29 X_arg30 X_arg31 X_arg32 X_arg33) k acc.1) (loads arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 X_arg1 X_arg2 X_arg3 X_arg4 X_arg5 X_arg6 X_arg7 X_arg8 X_arg9 X_arg10 X_arg11 X_arg12 X_arg13 X_arg14 X_arg15 X_arg16 X_arg17 X_arg18 X_arg19 X_arg20 X_arg21 X_arg22 X_arg23 X_arg24 X_arg25 X_arg26 X_arg27 X_arg28 X_arg29 X_arg30 X_arg31 X_arg32 X_arg33).y3, w31 (loads arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 X_arg1 X_arg2 X_arg3 X_arg4 X_arg5 X_arg6 X_arg7 X_arg8 X_arg9 X_arg10 X_arg11 X_arg12 X_arg13 X_arg14 X_arg15 X_arg16 X_arg17 X_arg18 X_arg19 X_arg20 X_arg21 X_arg22 X_arg23 X_arg24 X_arg25 X_arg26 X_arg27 X_arg28 X_arg29 X_arg30 X_arg31 X_arg32 X_arg33) k acc.1) := by
  unfold tripR_k0_t1 trip_k0_t1
  dsimp only [loads, w0, w1, w2, w3, w5, w6, w13, w14, w15, w21, w22, w23, w24, w25, w26, w28, w29, w30, w31, w32, w33]
  rfl

end Cert.ReferenceIdeal.Rows

end
-- ==== Proof.RTripL.lean ====
/- What one trip of the reference's loop stores, as the chain of its payloads. -/
module

public import proofs.«01_k».proof.Proof.RWhole
public import Idealize.ShloMosaic.Lib.WholeRead
public import Idealize.ShloMosaic.Lib.Pipeline.ValueKit.Basic
public import Idealize.ShloMosaic.Lib.Pipeline.Frame

@[expose] public section

set_option maxRecDepth 16384

noncomputable section

namespace Cert.ReferenceIdeal.Rows

open Idealize.ShloMosaic Idealize.ShloMosaic.TcCoe Idealize.SL.Sem
open Cert.ReferenceIdeal Cert.ReferenceIdeal.Gen

variable {F : FTy → Type} [FloatOps F]

variable (arg0 : Memref sig .tc .vmem S2x50x32 .f32) (harg0 : arg0.IsWhole) (arg1 : Memref sig .tc .vmem S2x1x32 .f32) (harg1 : arg1.IsWhole) (arg2 : Memref sig .tc .vmem S2x1x1 .f32) (harg2 : arg2.IsWhole) (arg3 : Memref sig .tc .vmem S2x1x1 .f32) (harg3 : arg3.IsWhole) (arg4 : Memref sig .tc .vmem S1x512 .f32) (harg4 : arg4.IsWhole) (arg5 : Memref sig .tc .vmem S32x1024 .f32) (harg5 : arg5.IsWhole) (arg6 : Memref sig .tc .vmem S1x1024 .f32) (harg6 : arg6.IsWhole) (arg7 : Memref sig .tc .vmem S32x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024x2560 .fp8e4m3) (harg16 : arg16.IsWhole) (arg17 : Memref sig .tc .vmem S1x2560 .f32) (harg17 : arg17.IsWhole) (arg18 : Memref sig .tc .vmem S1x2048x1024 .fp8e4m3) (harg18 : arg18.IsWhole) (arg19 : Memref sig .tc .vmem S1x1024 .f32) (harg19 : arg19.IsWhole) (arg20 : Memref sig .tc .vmem S1x2x1024x4096 .fp8e4m3) (harg20 : arg20.IsWhole) (arg21 : Memref sig .tc .vmem S1x2x4096 .f32) (harg21 : arg21.IsWhole) (arg22 : Memref sig .tc .vmem S1x4096x1024 .fp8e4m3) (harg22 : arg22.IsWhole) (arg23 : Memref sig .tc .vmem S1x1024 .f32) (harg23 : arg23.IsWhole) (arg24 : Memref sig .tc .vmem S1x1024 .f32) (harg24 : arg24.IsWhole) (arg25 : Memref sig .tc .vmem S1024x32 .f32) (harg25 : arg25.IsWhole) (arg26 : Memref sig .tc .vmem S1x32 .f32) (harg26 : arg26.IsWhole) (arg27 : Memref sig .tc .vmem S1x2x896x256 .i8) (harg27 : arg27.IsWhole) (arg28 : Memref sig .tc .vmem S1x2x896x256 .i8) (harg28 : arg28.IsWhole) (arg29 : Memref sig .tc .vmem S2x1x896 .f32) (harg29 : arg29.IsWhole) (arg30 : Memref sig .tc .vmem S2x1x896 .f32) (harg30 : arg30.IsWhole) (arg31 : Memref sig .tc .vmem S2x1x1 .i32) (harg31 : arg31.IsWhole) (arg32 : Memref sig .tc .vmem S2x51x128 .f32) (harg32 : arg32.IsWhole) (arg33 : Memref sig .tc .vmem S2x51x128 .f32) (harg33 : arg33.IsWhole) (arg34 : Memref sig .tc .vmem S10x2x50x32 .f32) (harg34 : arg34.IsWhole) (arg35 : Memref sig .tc .vmem S2x50x32 .f32) (harg35 : arg35.IsWhole) (arg36 : Memref sig .tc .vmem S2x51x1024 .f32) (harg36 : arg36.IsWhole)

variable (𝒱 : Variants) (c : Dev nD) (bd : Option 𝒱.V) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (X_arg25 : BufTy.Contents (Elt F) arg25.view.ty) (X_arg26 : BufTy.Contents (Elt F) arg26.view.ty) (X_arg27 : BufTy.Contents (Elt F) arg27.view.ty) (X_arg28 : BufTy.Contents (Elt F) arg28.view.ty) (X_arg29 : BufTy.Contents (Elt F) arg29.view.ty) (X_arg30 : BufTy.Contents (Elt F) arg30.view.ty) (X_arg31 : BufTy.Contents (Elt F) arg31.view.ty) (X_arg32 : BufTy.Contents (Elt F) arg32.view.ty) (X_arg33 : BufTy.Contents (Elt F) arg33.view.ty)
  (k : Fin k0_t1_loop.trips) (acc : Vec F S2x50x32 .f32 × FVec F S2x51x1024 .f32)

set_option maxHeartbeats 0 in
theorem tripL_eq : tripL_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 X_arg1 X_arg2 X_arg3 X_arg4 X_arg5 X_arg6 X_arg7 X_arg8 X_arg9 X_arg10 X_arg11 X_arg12 X_arg13 X_arg14 X_arg15 X_arg16 X_arg17 X_arg18 X_arg19 X_arg20 X_arg21 X_arg22 X_arg23 X_arg24 X_arg25 X_arg26 X_arg27 X_arg28 X_arg29 X_arg30 X_arg31 X_arg32 X_arg33 k acc
    = [⟨Rect.unit (k0_off1 k) S1x2x50x32.size (k0_off1_inb k), k0_pay3 (w32 (loads arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 X_arg1 X_arg2 X_arg3 X_arg4 X_arg5 X_arg6 X_arg7 X_arg8 X_arg9 X_arg10 X_arg11 X_arg12 X_arg13 X_arg14 X_arg15 X_arg16 X_arg17 X_arg18 X_arg19 X_arg20 X_arg21 X_arg22 X_arg23 X_arg24 X_arg25 X_arg26 X_arg27 X_arg28 X_arg29 X_arg30 X_arg31 X_arg32 X_arg33) k acc.1) (w33 (loads arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 X_arg1 X_arg2 X_arg3 X_arg4 X_arg5 X_arg6 X_arg7 X_arg8 X_arg9 X_arg10 X_arg11 X_arg12 X_arg13 X_arg14 X_arg15 X_arg16 X_arg17 X_arg18 X_arg19 X_arg20 X_arg21 X_arg22 X_arg23 X_arg24 X_arg25 X_arg26 X_arg27 X_arg28 X_arg29 X_arg30 X_arg31 X_arg32 X_arg33) k acc.1)⟩] := by
  unfold tripL_k0_t1 trip_k0_t1
  dsimp only [loads, w0, w1, w2, w3, w5, w6, w13, w14, w15, w21, w22, w23, w24, w25, w26, w28, w29, w30, w31, w32, w33]
  rfl

end Cert.ReferenceIdeal.Rows

end
-- ==== Proof.RInv.lean ====
/- The reference's loop: after `n` trips it holds the actions and tokens of the model's `n`-th step, and has stored the velocities of the steps before. -/
module

public import proofs.«01_k».proof.Proof.RStep
public import proofs.«01_k».proof.Proof.Result
public import Idealize.ShloMosaic.Lib.Pipeline.ValueKit

@[expose] public section

set_option maxRecDepth 16384

noncomputable section

namespace Cert.ReferenceIdeal.Rows

open Idealize.ShloMosaic Idealize.ShloMosaic.TcCoe Idealize.SL.Sem
open Cert.ReferenceIdeal Cert.ReferenceIdeal.Gen Cert.Model

/-- The loop's state: what it carries, and the pieces it has stored. -/
abbrev St := (Vec Ideal S2x50x32 .f32 × FVec Ideal S2x51x1024 .f32) × List (View.Piece (Elt Ideal) S10x2x50x32 .f32)

/-- The state after `n` trips. -/
structure LoopInv (A : Args) (n : ℕ) (q : St) : Prop where
  act b t : row3 q.1.1 b t = act A b n t
  out (s : Fin 10) (h : s.val + 1 = n) b t : row3 q.1.2 b t = out A s b (Model.act A b s.val) t
  vel (s : Fin 10) (h : s.val < n) b t j : View.canon q.2 (ix4 s b t j) = velAt A s b (Model.act A b s.val) t j

theorem trips_eq : k0_t1_loop.trips = 10 := by decide +kernel

theorem off1_eq : ∀ k : Fin k0_t1_loop.trips, k0_off1 k = ![k.val, 0, 0, 0] := by decide +kernel

/-- The state after one more trip. -/
def step (y : Ins Ideal) (k : Fin k0_t1_loop.trips) (q : St) : St :=
  ((k0_pay4 q.1.1 (w32 y k q.1.1) (w33 y k q.1.1) y.y3, w31 y k q.1.1),
    [⟨Rect.unit (s := S10x2x50x32) (k0_off1 k) S1x2x50x32.size (k0_off1_inb k), k0_pay3 (w32 y k q.1.1) (w33 y k q.1.1)⟩] ++ q.2)

theorem step_inv {y : Ins Ideal} {A : Args} (hy : ReadsR y A) (k : Fin k0_t1_loop.trips) {q : St} (h : LoopInv A k.val q) :
    LoopInv A (k.val + 1) (step y k q) := by
  have hk : k.val < 10 := trips_eq ▸ k.isLt
  refine ⟨fun b t => funext fun j => ?_, fun s hs b t => ?_, fun s hs b t j => ?_⟩
  · refine (next_row hy (s := ⟨k.val, hk⟩) rfl (a := fun b => Model.act A b k.val) h.act b t j).trans ?_
    rw [Model.act, dif_pos hk]
  · obtain rfl : s = ⟨k.val, hk⟩ := Fin.ext (Nat.succ.inj hs)
    exact w31_row hy (s := ⟨k.val, hk⟩) rfl (a := fun b => Model.act A b k.val) h.act b t
  · by_cases e : s.val = k.val
    · obtain rfl : s = ⟨k.val, hk⟩ := Fin.ext e
      have hx : (Rect.unit (s := S10x2x50x32) (k0_off1 k) S1x2x50x32.size (k0_off1_inb k)).emb (ix4 (0 : Fin 1) b t j) = ix4 (⟨k.val, hk⟩ : Fin 10) b t j := by
        funext a
        refine Fin.ext ?_
        rw [Rect.emb_apply]
        refine (congrArg (fun z => z + 1 * (ix4 (0 : Fin 1) b t j a).val) (congrFun (off1_eq k) a)).trans ?_
        fin_cases a
        · exact Nat.add_zero _
        all_goals exact (Nat.zero_add _).trans (Nat.one_mul _)
      rw [← hx]
      refine (View.canon_cons_emb (Rect.unit (s := S10x2x50x32) (k0_off1 k) S1x2x50x32.size (k0_off1_inb k)) (k0_pay3 (w32 y k q.1.1) (w33 y k q.1.1)) q.2 _).trans ?_
      exact store_row hy (s := ⟨k.val, hk⟩) rfl (a := fun b => Model.act A b k.val) h.act b t j
    · refine (View.canon_cons_of_not_mem _ _ fun hm => e ?_).trans (h.vel s (by omega) b t j)
      obtain ⟨x, hx⟩ := (Rect.unit (s := S10x2x50x32) (k0_off1 k) S1x2x50x32.size (k0_off1_inb k)).exists_idx_of_mem hm
      have hx0 : k0_off1 k 0 + 1 * (x 0).val = s.val := congrArg (fun v => (v 0).val) hx
      have hlt : (x 0).val < 1 := (x 0).isLt
      have ho : k0_off1 k 0 = k.val := congrFun (off1_eq k) 0
      omega

end Cert.ReferenceIdeal.Rows

end
-- ==== Proof.RLoop.lean ====
/- The reference's run of its one grid point: what it leaves in the three results' staging buffers. -/
module

public import proofs.«01_k».proof.Proof.RefFrame
public import proofs.«01_k».proof.Proof.RTripR
public import proofs.«01_k».proof.Proof.RTripL
public import proofs.«01_k».proof.Proof.RInv

@[expose] public section

set_option maxRecDepth 16384

noncomputable section

namespace Cert.ReferenceIdeal.Rows

open Idealize.ShloMosaic Idealize.ShloMosaic.TcCoe Idealize.SL.Sem
open Cert.ReferenceIdeal Cert.ReferenceIdeal.Gen Cert.Model

variable (c : Dev nD) (arg0 : Memref sig .tc .vmem S2x50x32 .f32) (harg0 : arg0.IsWhole) (arg1 : Memref sig .tc .vmem S2x1x32 .f32) (harg1 : arg1.IsWhole) (arg2 : Memref sig .tc .vmem S2x1x1 .f32) (harg2 : arg2.IsWhole) (arg3 : Memref sig .tc .vmem S2x1x1 .f32) (harg3 : arg3.IsWhole) (arg4 : Memref sig .tc .vmem S1x512 .f32) (harg4 : arg4.IsWhole) (arg5 : Memref sig .tc .vmem S32x1024 .f32) (harg5 : arg5.IsWhole) (arg6 : Memref sig .tc .vmem S1x1024 .f32) (harg6 : arg6.IsWhole) (arg7 : Memref sig .tc .vmem S32x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024x2560 .fp8e4m3) (harg16 : arg16.IsWhole) (arg17 : Memref sig .tc .vmem S1x2560 .f32) (harg17 : arg17.IsWhole) (arg18 : Memref sig .tc .vmem S1x2048x1024 .fp8e4m3) (harg18 : arg18.IsWhole) (arg19 : Memref sig .tc .vmem S1x1024 .f32) (harg19 : arg19.IsWhole) (arg20 : Memref sig .tc .vmem S1x2x1024x4096 .fp8e4m3) (harg20 : arg20.IsWhole) (arg21 : Memref sig .tc .vmem S1x2x4096 .f32) (harg21 : arg21.IsWhole) (arg22 : Memref sig .tc .vmem S1x4096x1024 .fp8e4m3) (harg22 : arg22.IsWhole) (arg23 : Memref sig .tc .vmem S1x1024 .f32) (harg23 : arg23.IsWhole) (arg24 : Memref sig .tc .vmem S1x1024 .f32) (harg24 : arg24.IsWhole) (arg25 : Memref sig .tc .vmem S1024x32 .f32) (harg25 : arg25.IsWhole) (arg26 : Memref sig .tc .vmem S1x32 .f32) (harg26 : arg26.IsWhole) (arg27 : Memref sig .tc .vmem S1x2x896x256 .i8) (harg27 : arg27.IsWhole) (arg28 : Memref sig .tc .vmem S1x2x896x256 .i8) (harg28 : arg28.IsWhole) (arg29 : Memref sig .tc .vmem S2x1x896 .f32) (harg29 : arg29.IsWhole) (arg30 : Memref sig .tc .vmem S2x1x896 .f32) (harg30 : arg30.IsWhole) (arg31 : Memref sig .tc .vmem S2x1x1 .i32) (harg31 : arg31.IsWhole) (arg32 : Memref sig .tc .vmem S2x51x128 .f32) (harg32 : arg32.IsWhole) (arg33 : Memref sig .tc .vmem S2x51x128 .f32) (harg33 : arg33.IsWhole) (arg34 : Memref sig .tc .vmem S10x2x50x32 .f32) (harg34 : arg34.IsWhole) (arg35 : Memref sig .tc .vmem S2x50x32 .f32) (harg35 : arg35.IsWhole) (arg36 : Memref sig .tc .vmem S2x51x1024 .f32) (harg36 : arg36.IsWhole)
  (x0 : Vec Ideal S2x50x32 .f32) (x1 : Vec Ideal S2x1x32 .f32) (x2 : Vec Ideal S2x1x1 .f32) (x3 : Vec Ideal S2x1x1 .f32) (x4 : Vec Ideal S1x512 .f32) (x5 : Vec Ideal S32x1024 .f32) (x6 : Vec Ideal S1x1024 .f32) (x7 : Vec Ideal S32x1024 .f32) (x8 : Vec Ideal S1x1024 .f32) (x9 : Vec Ideal S1024x1024 .bf16) (x10 : Vec Ideal S1024x1024 .bf16) (x11 : Vec Ideal S1x1024 .f32) (x12 : Vec Ideal S1024x1024 .bf16) (x13 : Vec Ideal S1x1024 .f32) (x14 : Vec Ideal S1x1024 .f32) (x15 : Vec Ideal S1x1024 .f32) (x16 : Vec Ideal S1x1024x2560 .fp8e4m3) (x17 : Vec Ideal S1x2560 .f32) (x18 : Vec Ideal S1x2048x1024 .fp8e4m3) (x19 : Vec Ideal S1x1024 .f32) (x20 : Vec Ideal S1x2x1024x4096 .fp8e4m3) (x21 : Vec Ideal S1x2x4096 .f32) (x22 : Vec Ideal S1x4096x1024 .fp8e4m3) (x23 : Vec Ideal S1x1024 .f32) (x24 : Vec Ideal S1x1024 .f32) (x25 : Vec Ideal S1024x32 .f32) (x26 : Vec Ideal S1x32 .f32) (x27 : Vec Ideal S1x2x896x256 .i8) (x28 : Vec Ideal S1x2x896x256 .i8) (x29 : Vec Ideal S2x1x896 .f32) (x30 : Vec Ideal S2x1x896 .f32) (x31 : Vec Ideal S2x1x1 .i32) (x32 : Vec Ideal S2x51x128 .f32) (x33 : Vec Ideal S2x51x128 .f32)

/-- The loop's state before trip `n`. -/
abbrev loopAt (n : ℕ) : St := st_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 (harg1.unread x1) (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22) (harg23.unread x23) (harg24.unread x24) (harg25.unread x25) (harg26.unread x26) (harg27.unread x27) (harg28.unread x28) (harg29.unread x29) (harg30.unread x30) (harg31.unread x31) (harg32.unread x32) (harg33.unread x33) (x0, k0_pay1) n

set_option maxHeartbeats 0 in
theorem loop_succ (k : Fin k0_t1_loop.trips) :
    loopAt c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20 x21 x22 x23 x24 x25 x26 x27 x28 x29 x30 x31 x32 x33 (k.val + 1) = step (whole (F := Ideal) x1 x2 x3 x4 x5 x6 x7 x8 x9 x10 x11 x12 x13 x14 x15 x16 x17 x18 x19 x20 x21 x22 x23 x24 x25 x26 x27 x28 x29 x30 x31 x32 x33) k (loopAt c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20 x21 x22 x23 x24 x25 x26 x27 x28 x29 x30 x31 x32 x33 k.val) := by
  refine (st_k0_t1_succ (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 (harg1.unread x1) (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) (harg18.unread x18) (harg19.unread x19) (harg20.unread x20) (harg21.unread x21) (harg22.unread x22) (harg23.unread x23) (harg24.unread x24) (harg25.unread x25) (harg26.unread x26) (harg27.unread x27) (harg28.unread x28) (harg29.unread x29) (harg30.unread x30) (harg31.unread x31) (harg32.unread x32) (harg33.unread x33) (x0, k0_pay1) k).trans ?_
  rw [tripR_eq, tripL_eq, loads_eq]
  rfl

theorem loop_inv {A : Args} (hy : ReadsR (whole (F := Ideal) x1 x2 x3 x4 x5 x6 x7 x8 x9 x10 x11 x12 x13 x14 x15 x16 x17 x18 x19 x20 x21 x22 x23 x24 x25 x26 x27 x28 x29 x30 x31 x32 x33) A) (hx : ∀ b t, row3 x0 b t = A.x b t) :
    ∀ n, n ≤ k0_t1_loop.trips → LoopInv A n (loopAt c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20 x21 x22 x23 x24 x25 x26 x27 x28 x29 x30 x31 x32 x33 n)
  | 0, _ => ⟨hx, fun _ h => absurd h (Nat.succ_ne_zero _), fun _ h => absurd h (Nat.not_lt_zero _)⟩
  | n + 1, h => (congrArg (LoopInv A (n + 1)) (loop_succ c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20 x21 x22 x23 x24 x25 x26 x27 x28 x29 x30 x31 x32 x33 ⟨n, h⟩)).mpr
      (step_inv hy ⟨n, h⟩ (loop_inv hy hx n (Nat.le_of_succ_le h)))

set_option maxHeartbeats 0 in
theorem out34_eq : out0_A_34 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20 x21 x22 x23 x24 x25 x26 x27 x28 x29 x30 x31 x32 x33
    = View.canon (loopAt c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20 x21 x22 x23 x24 x25 x26 x27 x28 x29 x30 x31 x32 x33 k0_t1_loop.trips).2 := by
  unfold out0_A_34
  rw [View.read_writes_junk_eq_canon]
  unfold kernelRun0_A
  dsimp only
  rw [read_whole harg0 x0 _ (by decide)]

set_option maxHeartbeats 0 in
theorem out35_eq : out0_A_35 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20 x21 x22 x23 x24 x25 x26 x27 x28 x29 x30 x31 x32 x33
    = (loopAt c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20 x21 x22 x23 x24 x25 x26 x27 x28 x29 x30 x31 x32 x33 k0_t1_loop.trips).1.1 := by
  unfold out0_A_35
  rw [View.read_writes_junk_eq_canon]
  unfold kernelRun0_A
  dsimp only
  rw [read_whole harg0 x0 _ (by decide)]
  exact View.canon_cons_unit_lit _ _ _ (by decide)

set_option maxHeartbeats 0 in
theorem out36_eq : out0_A_36 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20 x21 x22 x23 x24 x25 x26 x27 x28 x29 x30 x31 x32 x33
    = (loopAt c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19 x20 x21 x22 x23 x24 x25 x26 x27 x28 x29 x30 x31 x32 x33 k0_t1_loop.trips).1.2 := by
  unfold out0_A_36
  rw [View.read_writes_junk_eq_canon]
  unfold kernelRun0_A
  dsimp only
  rw [read_whole harg0 x0 _ (by decide)]
  exact View.canon_cons_unit_lit _ _ _ (by decide)

end Cert.ReferenceIdeal.Rows

end
-- ==== Proof.RFinal.lean ====
/- What the reference leaves in its three results: the model's velocities, actions and tokens. -/
module

public import proofs.«01_k».proof.Proof.RArgs
public import proofs.«01_k».proof.Proof.RLoop
public import proofs.«01_k».proof.Proof.Result

@[expose] public section

set_option maxRecDepth 16384

noncomputable section

namespace Cert.ReferenceIdeal.Rows

open Idealize.ShloMosaic Idealize.ShloMosaic.TcCoe Idealize.SL.Sem
open Cert.ReferenceIdeal Cert.ReferenceIdeal.Gen Cert.Model

variable (m : (ℓ : Loc nD τ sig) → Buf (Elt Ideal) ℓ) (ρ : Dev nD → PrngReg)

/-- The loop's state after its last trip. -/
abbrev lastAt (c : Dev nD) (t : Fin cfg0.N) : St := loopAt c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) k0_t1_loop.trips

theorem inv_of_eq {A : Args} {n n' : ℕ} (e : n = n') (q : St) (h : LoopInv A n q) : LoopInv A n' q := e ▸ h

theorem out_of_inv {A : Args} {q : St} (h : LoopInv A 10 q) (s : Fin 10) (hs : s.val = 9) (b : Fin 2) (t : Fin 51) :
    row3 q.1.2 b t = out A s b (act A b 9) t := by
  have e := h.out s (by omega) b t
  rw [hs] at e
  exact e

theorem last_inv (c : Dev nD) (t : Fin cfg0.N) : LoopInv (args m c) 10 (lastAt m c t) :=
  inv_of_eq trips_eq _ (loop_inv c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (reads m c t) (x_row m c t) k0_t1_loop.trips (Nat.le_refl _))

theorem o34_at (c : Dev nD) (t : Fin cfg0.N) (s : Fin 10) (b : Fin 2) (i : Fin 50) (j : Fin 32) :
    (outsAt0 m c t).1 (ix4 s b i j) = velAt (args m c) s b (act (args m c) b s.val) i j := by
  unfold outsAt0
  exact (congrFun (out34_eq c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t)) _).trans ((last_inv m c t).vel s s.isLt b i j)

theorem o35_at (c : Dev nD) (t : Fin cfg0.N) (b : Fin 2) (i : Fin 50) (j : Fin 32) :
    (outsAt0 m c t).2.1 (ix3 b i j) = act (args m c) b 10 i j := by
  unfold outsAt0
  exact (congrFun (out35_eq c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t)) _).trans (congrFun ((last_inv m c t).act b i) j)

theorem o36_at (c : Dev nD) (t : Fin cfg0.N) (b : Fin 2) (i : Fin 51) (j : Fin 1024) :
    (outsAt0 m c t).2.2 (ix3 b i j) = out (args m c) 9 b (act (args m c) b 9) i j := by
  unfold outsAt0
  have h1 := out36_eq c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t)
  have h2 := out_of_inv (last_inv m c t) 9 rfl b i
  have h3 := congrFun h1 (ix3 b i j)
  have h4 := congrFun h2 j
  dsimp only at h3 h4 ⊢
  rw [h3]
  exact h4

/-- The one point. -/
def pt : Fin cfg0.N := ⟨0, by decide +kernel⟩

theorem arr34 (c : Dev nD) : (dats m 0 c).arrAt 34 cfg0.N = vels (args m c) := by
  refine (dats m 0 c).arrAt_eq_of_after_last 34 pt (by decide +kernel) _ fun j => ?_
  blk_simp
  rw [after0_34]
  exact (congrArg (outsAt0 m c pt).1 (eta4' j)).trans (o34_at m c pt _ _ _ _)

theorem arr35 (c : Dev nD) : (dats m 0 c).arrAt 35 cfg0.N = acts (args m c) := by
  refine (dats m 0 c).arrAt_eq_of_after_last 35 pt (by decide +kernel) _ fun j => ?_
  blk_simp
  rw [after0_35]
  exact (congrArg (outsAt0 m c pt).2.1 (eta3 j)).trans (o35_at m c pt _ _ _)

theorem arr36 (c : Dev nD) : (dats m 0 c).arrAt 36 cfg0.N = outs (args m c) := by
  refine (dats m 0 c).arrAt_eq_of_after_last 36 pt (by decide +kernel) _ fun j => ?_
  blk_simp
  rw [after0_36]
  exact (congrArg (outsAt0 m c pt).2.2 (eta3 j)).trans (o36_at m c pt _ _ _)

/-- The reference's results. -/
theorem value : θ_run defs (onTc (τ := τ) (main (F := Ideal))) ⟨m, fun _ => 0, ρ⟩ (fun r => ∀ c : Dev nD,
    r.2.mem ((c.tc : Thread nD τ).loc main_v13_0) = vels (args m c)
    ∧ r.2.mem ((c.tc : Thread nD τ).loc main_v13_1) = acts (args m c)
    ∧ r.2.mem ((c.tc : Thread nD τ).loc main_v13_2) = outs (args m c)) :=
  (θ_run defs _ _).mono (fun r h c => ⟨((h c).1 34).trans (arr34 m c), ((h c).1 35).trans (arr35 m c), ((h c).1 36).trans (arr36 m c)⟩) (run_main m ρ)

end Cert.ReferenceIdeal.Rows

end
-- ==== Proof.Agree.lean ====
/- The kernel and the reference return the same results of the same arguments, when no prefix is longer than the keys kept of it. -/
module

public import proofs.«01_k».proof.Defs
public import proofs.«01_k».proof.Proof.KValue
public import proofs.«01_k».proof.Proof.RFinal

@[expose] public section

set_option maxRecDepth 16384

noncomputable section

namespace Cert.Proof

open Idealize.ShloMosaic Idealize.ShloMosaic.TcCoe Idealize.SL.Sem
open Cert.Model

/-- The one relation of shapes the precondition states. -/
instance pre_facts : Cert.Pre_prefix_fits.Facts where
  bcast_S_S2 := by decide

/-- The precondition bounds each prefix's length. -/
theorem plen_le (m : (ℓ : Loc Cert.KernelIdeal.nD Cert.KernelIdeal.τ Cert.KernelIdeal.sig) → Buf (Elt Ideal) ℓ) (h : Pre_KernelIdeal_prefix_fits m)
    (c : Dev Cert.KernelIdeal.nD) (b : Fin 2) : ((Cert.KernelIdeal.Named.args m c).plen b).toInt ≤ 896 := by
  have e := congrFun (h c) (ix1 b)
  simp only [Cert.Pre_prefix_fits.fn, cmpi, broadcastInDim, constantI] at e
  replace e : IntOp.cmpi .sle ((Cert.KernelIdeal.Named.args m c).plen b) 896#32 = 1#1 := e
  revert e
  generalize (Cert.KernelIdeal.Named.args m c).plen b = p
  intro e
  have e' : p.sle 896#32 = true := by
    by_contra hne
    rw [Bool.not_eq_true] at hne
    simp [IntOp.cmpi, hne] at e
  rw [BitVec.sle_eq_decide, decide_eq_true_eq] at e'
  exact e'

theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)) : Cert.ReferenceIdeal.Rows.args m' c = Cert.KernelIdeal.Named.args m c := by
  obtain ⟨h0, h1, h2, h3, h4, h5, h6, h7, h8, h9, h10, h11, h12, h13, h14, h15, h16, h17, h18, h19, h20, h21, h22, h23, h24, h25, h26, h27, h28, h29, h30, h31, h32, h33⟩ := h
  unfold Cert.ReferenceIdeal.Rows.args Cert.KernelIdeal.Named.args
  simp only [h0, h1, h2, h3, h4, h5, h6, h7, h8, h9, h10, h11, h12, h13, h14, h15, h16, h17, h18, h19, h20, h21, h22, h23, h24, h25, h26, h27, h28, h29, h30, h31, h32, h33]

/-- The kernel's results are the reference's. -/
theorem agree : Cert.algebraic_KernelIdeal_ReferenceIdeal_pre_prefix_fits := by
  intro m g m' g' hp ha
  have ek := fun c => args_eq m m' c (ha c)
  refine ⟨fun c => vels (Cert.KernelIdeal.Named.args m c), fun c => acts (Cert.KernelIdeal.Named.args m c), fun c => outs (Cert.KernelIdeal.Named.args m c), ?_, ?_⟩
  · exact (θ_run _ _ _).mono (fun r h c => ⟨(h.1 c).1, (h.1 c).2.1, (h.1 c).2.2, h.2 c⟩)
      (θ_run_and (Cert.KernelIdeal.Named.value m g (plen_le m hp)) (Cert.KernelIdeal.Named.unchanged m g))
  · exact (θ_run _ _ _).mono (fun r h c => ⟨(h.1 c).1.trans (congrArg vels (ek c)), (h.1 c).2.1.trans (congrArg acts (ek c)),
        (h.1 c).2.2.trans (congrArg outs (ek c)), h.2 c⟩)
      (θ_run_and (Cert.ReferenceIdeal.Rows.value m' g') (Cert.ReferenceIdeal.Gen.unchanged m' g'))

end Cert.Proof

end
-- ==== Proof.lean ====
/- The certificate: the frames of the kernel, of its ideal program and of the reference, that the ideal program is the kernel over the
   extended reals, and that the kernel's results are the reference's. -/
module

public import proofs.«01_k».proof.Defs
public import proofs.«01_k».proof.Proof.Framed
public import proofs.«01_k».proof.Proof.BitsFramed
public import proofs.«01_k».proof.Proof.RefFrame
public import proofs.«01_k».proof.Proof.Agree

public theorem Cert.Proof.claim : Cert.Claim :=
  ⟨Cert.Kernel.Gen.facts, Cert.KernelIdeal.Gen.facts, Cert.ReferenceIdeal.Gen.facts, Cert.Proof.pre_facts,
    fun m ρ _ => Cert.Kernel.Named.frame m ρ, fun m ρ _ => Cert.KernelIdeal.Named.frame m ρ,
    fun m ρ _ => Cert.KernelIdeal.Named.frame m ρ,
    fun m ρ _ => Cert.ReferenceIdeal.Gen.frame m ρ, fun m ρ _ => Cert.ReferenceIdeal.Gen.frame m ρ, trivial,
    Cert.Proof.agree⟩
